-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v50_0)) (v1 : (c : Dev Cert.Kernel2Ideal.nD) → Buf (Elt Ideal) ((c.tc : Thread Cert.Kernel2Ideal.nD Cert.Kernel2Ideal.τ).loc Cert.Kernel2Ideal.main_v50_1)) (v2 : (c : Dev Cert.Kernel2Ideal.nD) → Buf (Elt Ideal) ((c.tc : Thread Cert.Kernel2Ideal.nD Cert.Kernel2Ideal.τ).loc Cert.Kernel2Ideal.main_v50_2)) (v3 : (c : Dev Cert.Kernel2Ideal.nD) → Buf (Elt Ideal) ((c.tc : Thread Cert.Kernel2Ideal.nD Cert.Kernel2Ideal.τ).loc Cert.Kernel2Ideal.main_v50_3)) (v4 : (c : Dev Cert.Kernel2Ideal.nD) → Buf (Elt Ideal) ((c.tc : Thread Cert.Kernel2Ideal.nD Cert.Kernel2Ideal.τ).loc Cert.Kernel2Ideal.main_v50_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v50_0) = v0 c
          ∧ r.2.mem ((c.tc : Thread Cert.Kernel2Ideal.nD Cert.Kernel2Ideal.τ).loc Cert.Kernel2Ideal.main_v50_1) = v1 c
          ∧ r.2.mem ((c.tc : Thread Cert.Kernel2Ideal.nD Cert.Kernel2Ideal.τ).loc Cert.Kernel2Ideal.main_v50_2) = v2 c
          ∧ r.2.mem ((c.tc : Thread Cert.Kernel2Ideal.nD Cert.Kernel2Ideal.τ).loc Cert.Kernel2Ideal.main_v50_3) = v3 c
          ∧ r.2.mem ((c.tc : Thread Cert.Kernel2Ideal.nD Cert.Kernel2Ideal.τ).loc Cert.Kernel2Ideal.main_v50_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v127) = v0 c
          ∧ r.2.mem ((c.tc : Thread Cert.Reference2Ideal.nD Cert.Reference2Ideal.τ).loc Cert.Reference2Ideal.main_v128) = v1 c
          ∧ r.2.mem ((c.tc : Thread Cert.Reference2Ideal.nD Cert.Reference2Ideal.τ).loc Cert.Reference2Ideal.main_v130) = v2 c
          ∧ r.2.mem ((c.tc : Thread Cert.Reference2Ideal.nD Cert.Reference2Ideal.τ).loc Cert.Reference2Ideal.main_v131) = v3 c
          ∧ r.2.mem ((c.tc : Thread Cert.Reference2Ideal.nD Cert.Reference2Ideal.τ).loc Cert.Reference2Ideal.main_v125) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v50_0)) (v1 : (c : Dev Cert.Kernel3Ideal.nD) → Buf (Elt Ideal) ((c.tc : Thread Cert.Kernel3Ideal.nD Cert.Kernel3Ideal.τ).loc Cert.Kernel3Ideal.main_v50_1)) (v2 : (c : Dev Cert.Kernel3Ideal.nD) → Buf (Elt Ideal) ((c.tc : Thread Cert.Kernel3Ideal.nD Cert.Kernel3Ideal.τ).loc Cert.Kernel3Ideal.main_v50_2)) (v3 : (c : Dev Cert.Kernel3Ideal.nD) → Buf (Elt Ideal) ((c.tc : Thread Cert.Kernel3Ideal.nD Cert.Kernel3Ideal.τ).loc Cert.Kernel3Ideal.main_v50_3)) (v4 : (c : Dev Cert.Kernel3Ideal.nD) → Buf (Elt Ideal) ((c.tc : Thread Cert.Kernel3Ideal.nD Cert.Kernel3Ideal.τ).loc Cert.Kernel3Ideal.main_v50_4)) (v5 : (c : Dev Cert.Kernel3Ideal.nD) → Buf (Elt Ideal) ((c.tc : Thread Cert.Kernel3Ideal.nD Cert.Kernel3Ideal.τ).loc Cert.Kernel3Ideal.main_v50_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v50_0) = v0 c
          ∧ r.2.mem ((c.tc : Thread Cert.Kernel3Ideal.nD Cert.Kernel3Ideal.τ).loc Cert.Kernel3Ideal.main_v50_1) = v1 c
          ∧ r.2.mem ((c.tc : Thread Cert.Kernel3Ideal.nD Cert.Kernel3Ideal.τ).loc Cert.Kernel3Ideal.main_v50_2) = v2 c
          ∧ r.2.mem ((c.tc : Thread Cert.Kernel3Ideal.nD Cert.Kernel3Ideal.τ).loc Cert.Kernel3Ideal.main_v50_3) = v3 c
          ∧ r.2.mem ((c.tc : Thread Cert.Kernel3Ideal.nD Cert.Kernel3Ideal.τ).loc Cert.Kernel3Ideal.main_v50_4) = v4 c
          ∧ r.2.mem ((c.tc : Thread Cert.Kernel3Ideal.nD Cert.Kernel3Ideal.τ).loc Cert.Kernel3Ideal.main_v50_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v105) = v0 c
          ∧ r.2.mem ((c.tc : Thread Cert.Reference3Ideal.nD Cert.Reference3Ideal.τ).loc Cert.Reference3Ideal.main_v106) = v1 c
          ∧ r.2.mem ((c.tc : Thread Cert.Reference3Ideal.nD Cert.Reference3Ideal.τ).loc Cert.Reference3Ideal.main_v108) = v2 c
          ∧ r.2.mem ((c.tc : Thread Cert.Reference3Ideal.nD Cert.Reference3Ideal.τ).loc Cert.Reference3Ideal.main_v81) = v3 c
          ∧ r.2.mem ((c.tc : Thread Cert.Reference3Ideal.nD Cert.Reference3Ideal.τ).loc Cert.Reference3Ideal.main_v109) = v4 c
          ∧ r.2.mem ((c.tc : Thread Cert.Reference3Ideal.nD Cert.Reference3Ideal.τ).loc Cert.Reference3Ideal.main_v103) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)) (v2 : (c : Dev Cert.Kernel4Ideal.nD) → Buf (Elt Ideal) ((c.tc : Thread Cert.Kernel4Ideal.nD Cert.Kernel4Ideal.τ).loc Cert.Kernel4Ideal.main_v11_2)) (v3 : (c : Dev Cert.Kernel4Ideal.nD) → Buf (Elt Ideal) ((c.tc : Thread Cert.Kernel4Ideal.nD Cert.Kernel4Ideal.τ).loc Cert.Kernel4Ideal.main_v11_3)) (v4 : (c : Dev Cert.Kernel4Ideal.nD) → Buf (Elt Ideal) ((c.tc : Thread Cert.Kernel4Ideal.nD Cert.Kernel4Ideal.τ).loc Cert.Kernel4Ideal.main_v11_4)) (v5 : (c : Dev Cert.Kernel4Ideal.nD) → Buf (Elt Ideal) ((c.tc : Thread Cert.Kernel4Ideal.nD Cert.Kernel4Ideal.τ).loc Cert.Kernel4Ideal.main_v11_5)) (v6 : (c : Dev Cert.Kernel4Ideal.nD) → Buf (Elt Ideal) ((c.tc : Thread Cert.Kernel4Ideal.nD Cert.Kernel4Ideal.τ).loc Cert.Kernel4Ideal.main_v11_6)) (v7 : (c : Dev Cert.Kernel4Ideal.nD) → Buf (Elt Ideal) ((c.tc : Thread Cert.Kernel4Ideal.nD Cert.Kernel4Ideal.τ).loc Cert.Kernel4Ideal.main_v11_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_v11_2) = v2 c
          ∧ r.2.mem ((c.tc : Thread Cert.Kernel4Ideal.nD Cert.Kernel4Ideal.τ).loc Cert.Kernel4Ideal.main_v11_3) = v3 c
          ∧ r.2.mem ((c.tc : Thread Cert.Kernel4Ideal.nD Cert.Kernel4Ideal.τ).loc Cert.Kernel4Ideal.main_v11_4) = v4 c
          ∧ r.2.mem ((c.tc : Thread Cert.Kernel4Ideal.nD Cert.Kernel4Ideal.τ).loc Cert.Kernel4Ideal.main_v11_5) = v5 c
          ∧ r.2.mem ((c.tc : Thread Cert.Kernel4Ideal.nD Cert.Kernel4Ideal.τ).loc Cert.Kernel4Ideal.main_v11_6) = v6 c
          ∧ r.2.mem ((c.tc : Thread Cert.Kernel4Ideal.nD Cert.Kernel4Ideal.τ).loc Cert.Kernel4Ideal.main_v11_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v96) = v0 c
          ∧ r.2.mem ((c.tc : Thread Cert.Reference4Ideal.nD Cert.Reference4Ideal.τ).loc Cert.Reference4Ideal.main_v98) = v1 c
          ∧ r.2.mem ((c.tc : Thread Cert.Reference4Ideal.nD Cert.Reference4Ideal.τ).loc Cert.Reference4Ideal.main_v100) = v2 c
          ∧ r.2.mem ((c.tc : Thread Cert.Reference4Ideal.nD Cert.Reference4Ideal.τ).loc Cert.Reference4Ideal.main_v102) = v3 c
          ∧ r.2.mem ((c.tc : Thread Cert.Reference4Ideal.nD Cert.Reference4Ideal.τ).loc Cert.Reference4Ideal.main_v94) = v4 c
          ∧ r.2.mem ((c.tc : Thread Cert.Reference4Ideal.nD Cert.Reference4Ideal.τ).loc Cert.Reference4Ideal.main_v103) = v5 c
          ∧ r.2.mem ((c.tc : Thread Cert.Reference4Ideal.nD Cert.Reference4Ideal.τ).loc Cert.Reference4Ideal.main_v104) = v6 c
          ∧ r.2.mem ((c.tc : Thread Cert.Reference4Ideal.nD Cert.Reference4Ideal.τ).loc Cert.Reference4Ideal.main_v105) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v28_0)) (v1 : (c : Dev Cert.Kernel6Ideal.nD) → Buf (Elt Ideal) ((c.tc : Thread Cert.Kernel6Ideal.nD Cert.Kernel6Ideal.τ).loc Cert.Kernel6Ideal.main_v28_1)) (v2 : (c : Dev Cert.Kernel6Ideal.nD) → Buf (Elt Ideal) ((c.tc : Thread Cert.Kernel6Ideal.nD Cert.Kernel6Ideal.τ).loc Cert.Kernel6Ideal.main_v28_2)) (v3 : (c : Dev Cert.Kernel6Ideal.nD) → Buf (Elt Ideal) ((c.tc : Thread Cert.Kernel6Ideal.nD Cert.Kernel6Ideal.τ).loc Cert.Kernel6Ideal.main_v28_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v28_0) = v0 c
          ∧ r.2.mem ((c.tc : Thread Cert.Kernel6Ideal.nD Cert.Kernel6Ideal.τ).loc Cert.Kernel6Ideal.main_v28_1) = v1 c
          ∧ r.2.mem ((c.tc : Thread Cert.Kernel6Ideal.nD Cert.Kernel6Ideal.τ).loc Cert.Kernel6Ideal.main_v28_2) = v2 c
          ∧ r.2.mem ((c.tc : Thread Cert.Kernel6Ideal.nD Cert.Kernel6Ideal.τ).loc Cert.Kernel6Ideal.main_v28_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_v59) = v1 c
          ∧ r.2.mem ((c.tc : Thread Cert.Reference6Ideal.nD Cert.Reference6Ideal.τ).loc Cert.Reference6Ideal.main_v63) = v2 c
          ∧ r.2.mem ((c.tc : Thread Cert.Reference6Ideal.nD Cert.Reference6Ideal.τ).loc Cert.Reference6Ideal.main_v65) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v10_0)) (v1 : (c : Dev Cert.Kernel7Ideal.nD) → Buf (Elt Ideal) ((c.tc : Thread Cert.Kernel7Ideal.nD Cert.Kernel7Ideal.τ).loc Cert.Kernel7Ideal.main_v10_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10_0) = v0 c
          ∧ r.2.mem ((c.tc : Thread Cert.Kernel7Ideal.nD Cert.Kernel7Ideal.τ).loc Cert.Kernel7Ideal.main_v10_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite2.lean ====
abbrev S2x2048x1024 : Shape := ⟨3, ![2, 2048, 1024]⟩
abbrev S2x256x1024 : Shape := ⟨3, ![2, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x256x1024 : S_.BroadcastsInDim S2x256x1024 (![] : Fin 0 → Fin S2x256x1024.rank)
  reducesTo_S2x256x1024_S_d0_1_2 : S2x256x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn_part2 {F : FTy → Type} [FloatOps F] (main_arg7 : FVec F S2x2048x1024 .f32) (main_v33 : IVec S_ 1) : IVec S_ 1 :=
  let main_v34 : FVec F S2x2048x1024 .f32 := Host.absf main_arg7
  let main_cst_12 : FVec F S_ .f32 := constant S_ .f32 0x7F800000#32
  let main_v35 : FVec F S2x2048x1024 .f32 := broadcastInDim S2x2048x1024 ![] bcast_S_S2x2048x1024 main_cst_12
  let main_v36 : IVec S2x2048x1024 1 := cmpf .olt main_v34 main_v35
  let main_c_13 : IVec S_ 1 := constantI S_ 1 1#1
  let main_v37 : IVec S_ 1 := (fun x v => Host.reduce IntOp.andi x v reducesTo_S2x2048x1024_S_d0_1_2 h_S_) main_v36 main_c_13
  let main_v38 : IVec S_ 1 := andi main_v33 main_v37
  main_v38

def fn_part1 {F : FTy → Type} [FloatOps F] (main_arg4 : FVec F S1x1024x1024 .f32) (main_arg5 : FVec F S1x1024x2048 .f32) (main_arg6 : FVec F S1x1024x1024 .f32) (main_arg7 : FVec F S2x2048x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S1x1024x2048 .f32 := Host.absf main_arg5
  let main_cst_8 : FVec F S_ .f32 := constant S_ .f32 0x7F800000#32
  let main_v25 : FVec F S1x1024x2048 .f32 := broadcastInDim S1x1024x2048 ![] bcast_S_S1x1024x2048 main_cst_8
  let main_v26 : IVec S1x1024x2048 1 := cmpf .olt main_v24 main_v25
  let main_c_9 : IVec S_ 1 := constantI S_ 1 1#1
  let main_v27 : IVec S_ 1 := (fun x v => Host.reduce IntOp.andi x v reducesTo_S1x1024x2048_S_d0_1_2 h_S_) main_v26 main_c_9
  let main_v28 : IVec S_ 1 := andi main_v23 main_v27
  let main_v29 : FVec F S1x1024x1024 .f32 := Host.absf main_arg6
  let main_cst_10 : FVec F S_ .f32 := constant S_ .f32 0x7F800000#32
  let main_v30 : FVec F S1x1024x1024 .f32 := broadcastInDim S1x1024x1024 ![] bcast_S_S1x1024x1024 main_cst_10
  let main_v31 : IVec S1x1024x1024 1 := cmpf .olt main_v29 main_v30
  let main_c_11 : IVec S_ 1 := constantI S_ 1 1#1
  let main_v32 : IVec S_ 1 := (fun x v => Host.reduce IntOp.andi x v reducesTo_S1x1024x1024_S_d0_1_2 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S2x256x1024 .f32) (main_arg2 : FVec F S1x1024 .f32) (main_arg3 : FVec F S1x1024 .f32) (main_arg4 : FVec F S1x1024x1024 .f32) (main_arg5 : FVec F S1x1024x2048 .f32) (main_arg6 : FVec F S1x1024x1024 .f32) (main_arg7 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x256x1024 .f32 := Host.absf main_arg1
  let main_cst_0 : FVec F S_ .f32 := constant S_ .f32 0x7F800000#32
  let main_v5 : FVec F S2x256x1024 .f32 := broadcastInDim S2x256x1024 ![] bcast_S_S2x256x1024 main_cst_0
  let main_v6 : IVec S2x256x1024 1 := cmpf .olt main_v4 main_v5
  let main_c_1 : IVec S_ 1 := constantI S_ 1 1#1
  let main_v7 : IVec S_ 1 := (fun x v => Host.reduce IntOp.andi x v reducesTo_S2x256x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== Pre_finite3.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x5632 .f32) (main_arg5 : FVec F S1x2816x1024 .f32) (main_arg6 : FVec F S2x2048x1024 .f32) (main_v13 : IVec S_ 1) (main_v16 : IVec S1x3x5632 1) : IVec S_ 1 :=
  let main_c_5 : IVec S_ 1 := constantI S_ 1 1#1
  let main_v17 : IVec S_ 1 := (fun x v => Host.reduce IntOp.andi x v reducesTo_S1x3x5632_S_d0_1_2 h_S_) main_v16 main_c_5
  let main_v18 : IVec S_ 1 := andi main_v13 main_v17
  let main_v19 : FVec F S1x5632 .f32 := Host.absf main_arg4
  let main_cst_6 : FVec F S_ .f32 := constant S_ .f32 0x7F800000#32
  let main_v20 : FVec F S1x5632 .f32 := broadcastInDim S1x5632 ![] bcast_S_S1x5632 main_cst_6
  let main_v21 : IVec S1x5632 1 := cmpf .olt main_v19 main_v20
  let main_c_7 : IVec S_ 1 := constantI S_ 1 1#1
  let main_v22 : IVec S_ 1 := (fun x v => Host.reduce IntOp.andi x v reducesTo_S1x5632_S_d0_1 h_S_) main_v21 main_c_7
  let main_v23 : IVec S_ 1 := andi main_v18 main_v22
  let main_v24 : FVec F S1x2816x1024 .f32 := Host.absf main_arg5
  let main_cst_8 : FVec F S_ .f32 := constant S_ .f32 0x7F800000#32
  let main_v25 : FVec F S1x2816x1024 .f32 := broadcastInDim S1x2816x1024 ![] bcast_S_S1x2816x1024 main_cst_8
  let main_v26 : IVec S1x2816x1024 1 := cmpf .olt main_v24 main_v25
  let main_c_9 : IVec S_ 1 := constantI S_ 1 1#1
  let main_v27 : IVec S_ 1 := (fun x v => Host.reduce IntOp.andi x v reducesTo_S1x2816x1024_S_d0_1_2 h_S_) main_v26 main_c_9
  let main_v28 : IVec S_ 1 := andi main_v23 main_v27
  let main_v29 : FVec F S2x2048x1024 .f32 := Host.absf main_arg6
  let main_cst_10 : FVec F S_ .f32 := constant S_ .f32 0x7F800000#32
  let main_v30 : FVec F S2x2048x1024 .f32 := broadcastInDim S2x2048x1024 ![] bcast_S_S2x2048x1024 main_cst_10
  let main_v31 : IVec S2x2048x1024 1 := cmpf .olt main_v29 main_v30
  let main_c_11 : IVec S_ 1 := constantI S_ 1 1#1
  let main_v32 : IVec S_ 1 := (fun x v => Host.reduce IntOp.andi x v reducesTo_S2x2048x1024_S_d0_1_2 h_S_) main_v31 main_c_11
  let main_v33 : IVec S_ 1 := andi main_v28 main_v32
  main_v33

def fn {F : FTy → Type} [FloatOps F] (main_arg0 : FVec F S2x2048x1024 .f32) (main_arg1 : FVec F S1x1024 .f32) (main_arg2 : FVec F S1x1024x5632 .f32) (main_arg3 : FVec F S1x3x5632 .f32) (main_arg4 : FVec F S1x5632 .f32) (main_arg5 : FVec F S1x2816x1024 .f32) (main_arg6 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x3x5632 .f32 := Host.absf main_arg3
  let main_cst_4 : FVec F S_ .f32 := constant S_ .f32 0x7F800000#32
  let main_v15 : FVec F S1x3x5632 .f32 := broadcastInDim S1x3x5632 ![] bcast_S_S1x3x5632 main_cst_4
  let main_v16 : IVec S1x3x5632 1 := cmpf .olt main_v14 main_v15
  fn_part1 (F := F) main_arg4 main_arg5 main_arg6 main_v13 main_v16
-- ==== Pre_finite4.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S2x2048x1024 .f32) (main_v33 : IVec S_ 1) : IVec S_ 1 :=
  let main_v34 : FVec F S2x2048x1024 .f32 := Host.absf main_arg7
  let main_cst_12 : FVec F S_ .f32 := constant S_ .f32 0x7F800000#32
  let main_v35 : FVec F S2x2048x1024 .f32 := broadcastInDim S2x2048x1024 ![] bcast_S_S2x2048x1024 main_cst_12
  let main_v36 : IVec S2x2048x1024 1 := cmpf .olt main_v34 main_v35
  let main_c_13 : IVec S_ 1 := constantI S_ 1 1#1
  let main_v37 : IVec S_ 1 := (fun x v => Host.reduce IntOp.andi x v reducesTo_S2x2048x1024_S_d0_1_2 h_S_) main_v36 main_c_13
  let main_v38 : IVec S_ 1 := andi main_v33 main_v37
  main_v38

def fn_part1 {F : FTy → Type} [FloatOps F] (main_arg4 : FVec F S1x5632 .f32) (main_arg5 : FVec F S1x2816x1024 .f32) (main_arg6 : FVec F S1024 .f32) (main_arg7 : FVec F S2x2048x1024 .f32) (main_v13 : IVec S_ 1) (main_v16 : IVec S1x3x5632 1) : IVec S_ 1 :=
  let main_c_5 : IVec S_ 1 := constantI S_ 1 1#1
  let main_v17 : IVec S_ 1 := (fun x v => Host.reduce IntOp.andi x v reducesTo_S1x3x5632_S_d0_1_2 h_S_) main_v16 main_c_5
  let main_v18 : IVec S_ 1 := andi main_v13 main_v17
  let main_v19 : FVec F S1x5632 .f32 := Host.absf main_arg4
  let main_cst_6 : FVec F S_ .f32 := constant S_ .f32 0x7F800000#32
  let main_v20 : FVec F S1x5632 .f32 := broadcastInDim S1x5632 ![] bcast_S_S1x5632 main_cst_6
  let main_v21 : IVec S1x5632 1 := cmpf .olt main_v19 main_v20
  let main_c_7 : IVec S_ 1 := constantI S_ 1 1#1
  let main_v22 : IVec S_ 1 := (fun x v => Host.reduce IntOp.andi x v reducesTo_S1x5632_S_d0_1 h_S_) main_v21 main_c_7
  let main_v23 : IVec S_ 1 := andi main_v18 main_v22
  let main_v24 : FVec F S1x2816x1024 .f32 := Host.absf main_arg5
  let main_cst_8 : FVec F S_ .f32 := constant S_ .f32 0x7F800000#32
  let main_v25 : FVec F S1x2816x1024 .f32 := broadcastInDim S1x2816x1024 ![] bcast_S_S1x2816x1024 main_cst_8
  let main_v26 : IVec S1x2816x1024 1 := cmpf .olt main_v24 main_v25
  let main_c_9 : IVec S_ 1 := constantI S_ 1 1#1
  let main_v27 : IVec S_ 1 := (fun x v => Host.reduce IntOp.andi x v reducesTo_S1x2816x1024_S_d0_1_2 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S1x1024 .f32) (main_arg2 : FVec F S1x1024x5632 .f32) (main_arg3 : FVec F S1x3x5632 .f32) (main_arg4 : FVec F S1x5632 .f32) (main_arg5 : FVec F S1x2816x1024 .f32) (main_arg6 : FVec F S1024 .f32) (main_arg7 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x3x5632 .f32 := Host.absf main_arg3
  let main_cst_4 : FVec F S_ .f32 := constant S_ .f32 0x7F800000#32
  let main_v15 : FVec F S1x3x5632 .f32 := broadcastInDim S1x3x5632 ![] bcast_S_S1x3x5632 main_cst_4
  let main_v16 : IVec S1x3x5632 1 := cmpf .olt main_v14 main_v15
  fn_part1 (F := F) main_arg4 main_arg5 main_arg6 main_arg7 main_v13 main_v16
-- ==== Kernel.lean ====
abbrev S2x256x1024 : Shape := ⟨3, ![2, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S2x256x2048 : Shape := ⟨3, ![2, 256, 2048]⟩
abbrev S1024x1024 : Shape := ⟨2, ![1024, 1024]⟩
abbrev S1024x2048 : Shape := ⟨2, ![1024, 2048]⟩
abbrev S2048x1024 : Shape := ⟨2, ![2048, 1024]⟩
abbrev S8x128x1024 : Shape := ⟨3, ![8, 128, 1024]⟩
abbrev S8x256x1024 : Shape := ⟨3, ![8, 256, 1024]⟩
abbrev S8x512x1024 : Shape := ⟨3, ![8, 512, 1024]⟩
abbrev S512x2048 : Shape := ⟨2, ![512, 2048]⟩
abbrev S512x1024 : Shape := ⟨2, ![512, 1024]⟩
abbrev S256x2048 : Shape := ⟨2, ![256, 2048]⟩
abbrev S256x1024 : Shape := ⟨2, ![256, 1024]⟩
abbrev S_ : Shape := ⟨0, ![]⟩
abbrev S1x256x1024 : Shape := ⟨3, ![1, 256, 1024]⟩
abbrev S256 : Shape := ⟨1, ![256]⟩
abbrev S256x1 : Shape := ⟨2, ![256, 1]⟩
abbrev S1024 : Shape := ⟨1, ![1024]⟩

abbrev nBuf : Space → Nat
  | .hbm => 19
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1x1024x2048, .f32⟩
  | .hbm, ⟨4, _⟩ => ⟨S1x1024x1024, .f32⟩
  | .hbm, ⟨5, _⟩ => ⟨S2x256x2048, .f32⟩
  | .hbm, ⟨6, _⟩ => ⟨S1024x1024, .f32⟩
  | .hbm, ⟨7, _⟩ => ⟨S1024x2048, .f32⟩
  | .hbm, ⟨8, _⟩ => ⟨S2048x1024, .f32⟩
  | .hbm, ⟨9, _⟩ => ⟨S1024x1024, .f32⟩
  | .hbm, ⟨10, _⟩ => ⟨S8x128x1024, .f32⟩
  | .hbm, ⟨11, _⟩ => ⟨S8x256x1024, .f32⟩
  | .hbm, ⟨12, _⟩ => ⟨S8x128x1024, .f32⟩
  | .hbm, ⟨13, _⟩ => ⟨S8x512x1024, .f32⟩
  | .hbm, ⟨14, _⟩ => ⟨S8x512x1024, .bf16⟩
  | .hbm, ⟨15, _⟩ => ⟨S512x2048, .f32⟩
  | .hbm, ⟨16, _⟩ => ⟨S512x1024, .f32⟩
  | .hbm, ⟨17, _⟩ => ⟨S512x2048, .bf16⟩
  | .hbm, ⟨18, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x2048, .bf16⟩
  | .local _ .vmem, ⟨5, _⟩ => ⟨S256x2048, .bf16⟩
  | .local _ .vmem, ⟨6, _⟩ => ⟨S1x1024, .f32⟩
  | .local _ .vmem, ⟨7, _⟩ => ⟨S2048x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S2x256x1024 : Shape := ⟨3, ![2, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S2x256x2048 : Shape := ⟨3, ![2, 256, 2048]⟩
abbrev S512x2048 : Shape := ⟨2, ![512, 2048]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x2048 : Shape := ⟨2, ![1024, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1x1024x2048, .f32⟩
  | .hbm, ⟨4, _⟩ => ⟨S1x1024x1024, .f32⟩
  | .hbm, ⟨5, _⟩ => ⟨S2x256x2048, .f32⟩
  | .hbm, ⟨6, _⟩ => ⟨S512x2048, .f32⟩
  | .hbm, ⟨7, _⟩ => ⟨S512x2048, .bf16⟩
  | .hbm, ⟨8, _⟩ => ⟨S1024, .f32⟩
  | .hbm, ⟨9, _⟩ => ⟨S2x256x1024, .f32⟩
  | .hbm, ⟨10, _⟩ => ⟨S_, .f32⟩
  | .hbm, ⟨11, _⟩ => ⟨S2x256, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S_, .f32⟩
  | .hbm, ⟨17, _⟩ => ⟨S2x256x1, .f32⟩
  | .hbm, ⟨18, _⟩ => ⟨S2x256x1, .f32⟩
  | .hbm, ⟨19, _⟩ => ⟨S2x256x1, .f32⟩
  | .hbm, ⟨20, _⟩ => ⟨S2x256x1024, .f32⟩
  | .hbm, ⟨21, _⟩ => ⟨S2x256x1024, .f32⟩
  | .hbm, ⟨22, _⟩ => ⟨S1x1x1024, .f32⟩
  | .hbm, ⟨23, _⟩ => ⟨S2x256x1024, .f32⟩
  | .hbm, ⟨24, _⟩ => ⟨S2x256x1024, .f32⟩
  | .hbm, ⟨25, _⟩ => ⟨S1024x2048, .f32⟩
  | .hbm, ⟨26, _⟩ => ⟨S2x256x2048, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S1024, .f32⟩
  | .hbm, ⟨31, _⟩ => ⟨S1x1x1024, .f32⟩
  | .hbm, ⟨32, _⟩ => ⟨S_, .f32⟩
  | .hbm, ⟨33, _⟩ => ⟨S1024, .f32⟩
  | .hbm, ⟨34, _⟩ => ⟨S1x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel2.lean ====
abbrev S2x2048x1024 : Shape := ⟨3, ![2, 2048, 1024]⟩
abbrev S2x256x1024 : Shape := ⟨3, ![2, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1024x1024 : Shape := ⟨2, ![1024, 1024]⟩
abbrev S1024x2048 : Shape := ⟨2, ![1024, 2048]⟩
abbrev S2048x1024 : Shape := ⟨2, ![2048, 1024]⟩
abbrev S8x128x1024 : Shape := ⟨3, ![8, 128, 1024]⟩
abbrev S8x256x1024 : Shape := ⟨3, ![8, 256, 1024]⟩
abbrev S8x512x1024 : Shape := ⟨3, ![8, 512, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2048 : Shape := ⟨3, ![2, 256, 2048]⟩
abbrev S2x2048 : Shape := ⟨2, ![2, 2048]⟩
abbrev S2x2048x1 : Shape := ⟨3, ![2, 2048, 1]⟩
abbrev S4096x1024 : Shape := ⟨2, ![4096, 1024]⟩
abbrev S512x2048 : Shape := ⟨2, ![512, 2048]⟩
abbrev S8x128 : Shape := ⟨2, ![8, 128]⟩
abbrev S512x1024 : Shape := ⟨2, ![512, 1024]⟩
abbrev S256x2048 : Shape := ⟨2, ![256, 2048]⟩
abbrev S2 : Shape := ⟨1, ![2]⟩
abbrev S1 : Shape := ⟨1, ![1]⟩
abbrev S128x1024 : Shape := ⟨2, ![128, 1024]⟩
abbrev S1x128x1024 : Shape := ⟨3, ![1, 128, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 71
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024x2048, .f32⟩
  | .hbm, ⟨6, _⟩ => ⟨S1x1024x1024, .f32⟩
  | .hbm, ⟨7, _⟩ => ⟨S2x2048x1024, .f32⟩
  | .hbm, ⟨8, _⟩ => ⟨S1024x1024, .f32⟩
  | .hbm, ⟨9, _⟩ => ⟨S1024x2048, .f32⟩
  | .hbm, ⟨10, _⟩ => ⟨S2048x1024, .f32⟩
  | .hbm, ⟨11, _⟩ => ⟨S1024x1024, .f32⟩
  | .hbm, ⟨12, _⟩ => ⟨S8x128x1024, .f32⟩
  | .hbm, ⟨13, _⟩ => ⟨S8x256x1024, .f32⟩
  | .hbm, ⟨14, _⟩ => ⟨S8x128x1024, .f32⟩
  | .hbm, ⟨15, _⟩ => ⟨S8x512x1024, .f32⟩
  | .hbm, ⟨16, _⟩ => ⟨S8x512x1024, .bf16⟩
  | .hbm, ⟨17, _⟩ => ⟨S1024, .f32⟩
  | .hbm, ⟨18, _⟩ => ⟨S2x256x1024, .f32⟩
  | .hbm, ⟨19, _⟩ => ⟨S_, .f32⟩
  | .hbm, ⟨20, _⟩ => ⟨S2x256, .f32⟩
  | .hbm, ⟨21, _⟩ => ⟨S2x256x1, .f32⟩
  | .hbm, ⟨22, _⟩ => ⟨S_, .f32⟩
  | .hbm, ⟨23, _⟩ => ⟨S2x256x1, .f32⟩
  | .hbm, ⟨24, _⟩ => ⟨S2x256x1, .f32⟩
  | .hbm, ⟨25, _⟩ => ⟨S_, .f32⟩
  | .hbm, ⟨26, _⟩ => ⟨S2x256x1, .f32⟩
  | .hbm, ⟨27, _⟩ => ⟨S2x256x1, .f32⟩
  | .hbm, ⟨28, _⟩ => ⟨S2x256x1, .f32⟩
  | .hbm, ⟨29, _⟩ => ⟨S2x256x1024, .f32⟩
  | .hbm, ⟨30, _⟩ => ⟨S2x256x1024, .f32⟩
  | .hbm, ⟨31, _⟩ => ⟨S1x1x1024, .f32⟩
  | .hbm, ⟨32, _⟩ => ⟨S2x256x1024, .f32⟩
  | .hbm, ⟨33, _⟩ => ⟨S2x256x1024, .f32⟩
  | .hbm, ⟨34, _⟩ => ⟨S1024x2048, .f32⟩
  | .hbm, ⟨35, _⟩ => ⟨S2x256x2048, .f32⟩
  | .hbm, ⟨36, _⟩ => ⟨S2x256x2048, .bf16⟩
  | .hbm, ⟨37, _⟩ => ⟨S1024, .f32⟩
  | .hbm, ⟨38, _⟩ => ⟨S2x2048x1024, .f32⟩
  | .hbm, ⟨39, _⟩ => ⟨S_, .f32⟩
  | .hbm, ⟨40, _⟩ => ⟨S2x2048, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S2x2048x1, .f32⟩
  | .hbm, ⟨49, _⟩ => ⟨S2x2048x1024, .f32⟩
  | .hbm, ⟨50, _⟩ => ⟨S2x2048x1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | .hbm, ⟨54, _⟩ => ⟨S1024x1024, .f32⟩
  | .hbm, ⟨55, _⟩ => ⟨S2x2048x1024, .f32⟩
  | .hbm, ⟨56, _⟩ => ⟨S_, .f32⟩
  | .hbm, ⟨57, _⟩ => ⟨S2x2048x1024, .f32⟩
  | .hbm, ⟨58, _⟩ => ⟨S2x2048x1024, .f32⟩
  | .hbm, ⟨59, _⟩ => ⟨S2x2048x1024, .bf16⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S512x2048, .bf16⟩
  | .hbm, ⟨64, _⟩ => ⟨S_, .f32⟩
  | .hbm, ⟨65, _⟩ => ⟨S8x128, .f32⟩
  | .hbm, ⟨66, _⟩ => ⟨S4096x1024, .f32⟩
  | .hbm, ⟨67, _⟩ => ⟨S4096x1024, .bf16⟩
  | .hbm, ⟨68, _⟩ => ⟨S4096x1024, .bf16⟩
  | .hbm, ⟨69, _⟩ => ⟨S512x2048, .f32⟩
  | .hbm, ⟨70, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S256x2048, .bf16⟩
  | .local _ .vmem, ⟨7, _⟩ => ⟨S256x2048, .bf16⟩
  | .local _ .vmem, ⟨8, _⟩ => ⟨S1x1024, .f32⟩
  | .local _ .vmem, ⟨9, _⟩ => ⟨S8x128, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S256x2048, .f32⟩
  | .local _ .vmem, ⟨17, _⟩ => ⟨S256x2048, .f32⟩
  | .local _ .vmem, ⟨18, _⟩ => ⟨S1x1024, .f32⟩
  | .local _ .vmem, ⟨19, _⟩ => ⟨S1024x1024, .bf16⟩
  | .local _ .vmem, ⟨20, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50_0 : Ref sig .tc := ⟨.hbm, 66, rfl⟩
abbrev main_v50_1 : Ref sig .tc := ⟨.hbm, 67, rfl⟩
abbrev main_v50_2 : Ref sig .tc := ⟨.hbm, 68, rfl⟩
abbrev main_v50_3 : Ref sig .tc := ⟨.hbm, 69, rfl⟩
abbrev main_v50_4 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S2x2048x1024 : Shape := ⟨3, ![2, 2048, 1024]⟩
abbrev S2x256x1024 : Shape := ⟨3, ![2, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x1024 : Shape := ⟨2, ![1024, 1024]⟩
abbrev S2x256 : Shape := ⟨2, ![2, 256]⟩
abbrev S2x256x1 : Shape := ⟨3, ![2, 256, 1]⟩
abbrev S1024x2048 : Shape := ⟨2, ![1024, 2048]⟩
abbrev S2x256x2048 : Shape := ⟨3, ![2, 256, 2048]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩
abbrev S4096x1024 : Shape := ⟨2, ![4096, 1024]⟩
abbrev S512x2048 : Shape := ⟨2, ![512, 2048]⟩

abbrev nBuf : Space → Nat
  | .hbm => 166
  | .vmem => 0
  | .smem => 0
  | _ => 0

abbrev hbmTy0_0 (i : Nat) : BufTy := match i % 128 with
  | 0 => ⟨S2x2048x1024, .f32⟩
  | 1 => ⟨S2x256x1024, .f32⟩
  | 2 => ⟨S1x1024, .f32⟩
  | 3 => ⟨S1x1024, .f32⟩
  | 4 => ⟨S1x1024x1024, .f32⟩
  | 5 => ⟨S1x1024x2048, .f32⟩
  | 6 => ⟨S1x1024x1024, .f32⟩
  | 7 => ⟨S2x2048x1024, .f32⟩
  | 8 => ⟨S1024, .f32⟩
  | 9 => ⟨S2x2048x1024, .f32⟩
  | 10 => ⟨S_, .f32⟩
  | 11 => ⟨S2x2048, .f32⟩
  | 12 => ⟨S2x2048x1, .f32⟩
  | 13 => ⟨S_, .f32⟩
  | 14 => ⟨S2x2048x1, .f32⟩
  | 15 => ⟨S2x2048x1, .f32⟩
  | 16 => ⟨S_, .f32⟩
  | 17 => ⟨S2x2048x1, .f32⟩
  | 18 => ⟨S2x2048x1, .f32⟩
  | 19 => ⟨S2x2048x1, .f32⟩
  | 20 => ⟨S2x2048x1, .f32⟩
  | 21 => ⟨S_, .f32⟩
  | 22 => ⟨S2x2048x1, .f32⟩
  | 23 => ⟨S2x2048x1, .f32⟩
  | 24 => ⟨S2x2048x1024, .f32⟩
  | 25 => ⟨S2x2048x1024, .f32⟩
  | 26 => ⟨S1x1x1024, .f32⟩
  | 27 => ⟨S2x2048x1024, .f32⟩
  | 28 => ⟨S2x2048x1024, .f32⟩
  | 29 => ⟨S1024x1024, .f32⟩
  | 30 => ⟨S2x2048x1024, .f32⟩
  | 31 => ⟨S1024, .f32⟩
  | 32 => ⟨S2x256x1024, .f32⟩
  | 33 => ⟨S_, .f32⟩
  | 34 => ⟨S2x256, .f32⟩
  | 35 => ⟨S2x256x1, .f32⟩
  | 36 => ⟨S_, .f32⟩
  | 37 => ⟨S2x256x1, .f32⟩
  | 38 => ⟨S2x256x1, .f32⟩
  | 39 => ⟨S_, .f32⟩
  | 40 => ⟨S2x256x1, .f32⟩
  | 41 => ⟨S2x256x1, .f32⟩
  | 42 => ⟨S2x256x1, .f32⟩
  | 43 => ⟨S2x256x1024, .f32⟩
  | 44 => ⟨S2x256x1024, .f32⟩
  | 45 => ⟨S1x1x1024, .f32⟩
  | 46 => ⟨S2x256x1024, .f32⟩
  | 47 => ⟨S2x256x1024, .f32⟩
  | 48 => ⟨S1024x2048, .f32⟩
  | 49 => ⟨S2x256x2048, .f32⟩
  | 50 => ⟨S2x2048x4x256, .f32⟩
  | 51 => ⟨S2x256x1024, .f32⟩
  | 52 => ⟨S2x256x1024, .f32⟩
  | 53 => ⟨S2x256x4x256, .f32⟩
  | 54 => ⟨S2x256x4x256, .f32⟩
  | 55 => ⟨S2x4x2048x256, .f32⟩
  | 56 => ⟨S_, .f32⟩
  | 57 => ⟨S2x4x2048x256, .f32⟩
  | 58 => ⟨S2x4x2048x256, .f32⟩
  | 59 => ⟨S_, .f32⟩
  | 60 => ⟨S2x4x2048, .f32⟩
  | 61 => ⟨S2x4x2048x1, .f32⟩
  | 62 => ⟨S2x4x2048x256, .f32⟩
  | 63 => ⟨S2x4x2048x256, .i1⟩
  | 64 => ⟨S2x4x2048x256, .f32⟩
  | 65 => ⟨S_, .f32⟩
  | 66 => ⟨S2x4x2048, .f32⟩
  | 67 => ⟨S_, .f32⟩
  | 68 => ⟨S2x4x2048, .f32⟩
  | 69 => ⟨S2x4x2048, .f32⟩
  | 70 => ⟨S_, .f32⟩
  | 71 => ⟨S2x4x2048, .f32⟩
  | 72 => ⟨S2x4x2048, .i1⟩
  | 73 => ⟨S_, .f32⟩
  | 74 => ⟨S2x4x2048, .f32⟩
  | 75 => ⟨S2x4x2048, .i1⟩
  | 76 => ⟨S_, .f32⟩
  | 77 => ⟨S2x4x2048, .f32⟩
  | 78 => ⟨S_, .f32⟩
  | 79 => ⟨S2x4x2048, .f32⟩
  | 80 => ⟨S_, .f32⟩
  | 81 => ⟨S2x4x2048, .f32⟩
  | 82 => ⟨S2x4x2048, .f32⟩
  | 83 => ⟨S2x4x2048, .f32⟩
  | 84 => ⟨S2x4x2048x1, .f32⟩
  | 85 => ⟨S2x4x2048x256, .f32⟩
  | 86 => ⟨S2x4x2048x256, .f32⟩
  | 87 => ⟨S2x4x2048x256, .f32⟩
  | 88 => ⟨S_, .f32⟩
  | 89 => ⟨S2x4x2048, .f32⟩
  | 90 => ⟨S2x4x2048x1, .f32⟩
  | 91 => ⟨S2x4x2048x256, .f32⟩
  | 92 => ⟨S2x4x2048x256, .f32⟩
  | 93 => ⟨S2x4x2048x1, .f32⟩
  | 94 => ⟨S_, .f32⟩
  | 95 => ⟨S2x4x2048x1, .f32⟩
  | 96 => ⟨S2x4x2048x1, .f32⟩
  | 97 => ⟨S2x4x256x2048, .f32⟩
  | 98 => ⟨S2x2048x4x256, .f32⟩
  | 99 => ⟨S2x2048x1024, .f32⟩
  | 100 => ⟨S1024x1024, .f32⟩
  | 101 => ⟨S2x2048x1024, .f32⟩
  | 102 => ⟨S2x2048x1024, .f32⟩
  | 103 => ⟨S2x2048x4x256, .f32⟩
  | 104 => ⟨S2x4x256x2048, .f32⟩
  | 105 => ⟨S2x4x2048x256, .f32⟩
  | 106 => ⟨S2x4x256x256, .f32⟩
  | 107 => ⟨S2x256x4x256, .f32⟩
  | 108 => ⟨S2x4x2048x256, .f32⟩
  | 109 => ⟨S2x4x2048x256, .f32⟩
  | 110 => ⟨S2x4x2048x256, .f32⟩
  | 111 => ⟨S_, .f32⟩
  | 112 => ⟨S2x4x2048, .f32⟩
  | 113 => ⟨S2x4x2048x1, .f32⟩
  | 114 => ⟨S2x4x2048x1, .f32⟩
  | 115 => ⟨S2x4x2048x256, .f32⟩
  | 116 => ⟨S2x4x2048x256, .f32⟩
  | 117 => ⟨S_, .f32⟩
  | 118 => ⟨S2x4x2048, .f32⟩
  | 119 => ⟨S2x4x2048x256, .f32⟩
  | 120 => ⟨S2x4x2048x256, .f32⟩
  | 121 => ⟨S2x4x2048x256, .f32⟩
  | 122 => ⟨S_, .f32⟩
  | 123 => ⟨S2x4x2048x256, .f32⟩
  | 124 => ⟨S2x4x2048x256, .f32⟩
  | 125 => ⟨S2x4x256x256, .f32⟩
  | 126 => ⟨S2x256x4x256, .f32⟩
  | 127 => ⟨S2x4x2048x256, .f32⟩
  | _ => ⟨S2x2048x1024, .f32⟩

abbrev hbmTy0_1 (i : Nat) : BufTy := match i % 128 with
  | 0 => ⟨S2x2048x4x256, .f32⟩
  | 1 => ⟨S2x256x1024, .f32⟩
  | 2 => ⟨S2x256x1024, .f32⟩
  | 3 => ⟨S2x256x2048, .f32⟩
  | 4 => ⟨S2x2048x1024, .f32⟩
  | 5 => ⟨S2x2048x1024, .f32⟩
  | 6 => ⟨S2x2048x1024, .f32⟩
  | 7 => ⟨S_, .f32⟩
  | 8 => ⟨S1024, .f32⟩
  | 9 => ⟨S1x1x1024, .f32⟩
  | 10 => ⟨S2x2048x1024, .f32⟩
  | 11 => ⟨S2x2048x1024, .f32⟩
  | 12 => ⟨S_, .f32⟩
  | 13 => ⟨S1024, .f32⟩
  | 14 => ⟨S2x2048x1024, .f32⟩
  | 15 => ⟨S_, .f32⟩
  | 16 => ⟨S2x2048, .f32⟩
  | 17 => ⟨S2x2048x1, .f32⟩
  | 18 => ⟨S2x2048x1024, .f32⟩
  | 19 => ⟨S2x2048x1024, .f32⟩
  | 20 => ⟨S2x2048x1, .f32⟩
  | 21 => ⟨S_, .f32⟩
  | 22 => ⟨S2x2048x1, .f32⟩
  | 23 => ⟨S2x2048x1, .f32⟩
  | 24 => ⟨S_, .f32⟩
  | 25 => ⟨S2x2048, .f32⟩
  | 26 => ⟨S2x2048x1024, .f32⟩
  | 27 => ⟨S2x2048x1024, .f32⟩
  | 28 => ⟨S2x2048x1024, .f32⟩
  | 29 => ⟨S2x2048x1024, .f32⟩
  | 30 => ⟨S2x2048x1024, .f32⟩
  | 31 => ⟨S1x1024, .f32⟩
  | 32 => ⟨S2x2048x1024, .f32⟩
  | 33 => ⟨S4096x1024, .f32⟩
  | 34 => ⟨S4096x1024, .bf16⟩
  | 35 => ⟨S4096x1024, .f32⟩
  | 36 => ⟨S4096x1024, .bf16⟩
  | 37 => ⟨S512x2048, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_16 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_17 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_18 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_19 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_20 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_21 : Ref sig .tc := ⟨.hbm, 140, rfl⟩
abbrev main_v110 : Ref sig .tc := ⟨.hbm, 141, rfl⟩
abbrev main_v111 : Ref sig .tc := ⟨.hbm, 142, rfl⟩
abbrev main_cst_22 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_23 : Ref sig .tc := ⟨.hbm, 149, rfl⟩
abbrev main_v117 : Ref sig .tc := ⟨.hbm, 150, rfl⟩
abbrev main_v118 : Ref sig .tc := ⟨.hbm, 151, rfl⟩
abbrev main_cst_24 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩

abbrev nD : Nat := 1
abbrev τ : Topo := Topo.v7x

variable {F : FTy → Type} [FloatOps F]
-- ==== Kernel3.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x5632 : Shape := ⟨2, ![1024, 5632]⟩
abbrev S5632x1024 : Shape := ⟨2, ![5632, 1024]⟩
abbrev S2816x1024 : Shape := ⟨2, ![2816, 1024]⟩
abbrev S8x704x1024 : Shape := ⟨3, ![8, 704, 1024]⟩
abbrev S8x352x1024 : Shape := ⟨3, ![8, 352, 1024]⟩
abbrev S8x1056x1024 : Shape := ⟨3, ![8, 1056, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x5632 : Shape := ⟨3, ![2, 2048, 5632]⟩
abbrev S5632 : Shape := ⟨1, ![5632]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S4096x1024 : Shape := ⟨2, ![4096, 1024]⟩
abbrev S4096x5632 : Shape := ⟨2, ![4096, 5632]⟩
abbrev S3x5632 : Shape := ⟨2, ![3, 5632]⟩
abbrev S256x1024 : Shape := ⟨2, ![256, 1024]⟩
abbrev S256x5632 : Shape := ⟨2, ![256, 5632]⟩
abbrev S8x5632 : Shape := ⟨2, ![8, 5632]⟩
abbrev S2 : Shape := ⟨1, ![2]⟩
abbrev S1 : Shape := ⟨1, ![1]⟩
abbrev S352x1024 : Shape := ⟨2, ![352, 1024]⟩
abbrev S1x352x1024 : Shape := ⟨3, ![1, 352, 1024]⟩
abbrev S704x1024 : Shape := ⟨2, ![704, 1024]⟩
abbrev S1x704x1024 : Shape := ⟨3, ![1, 704, 1024]⟩
abbrev S256x2816 : Shape := ⟨2, ![256, 2816]⟩
abbrev S1x2816 : Shape := ⟨2, ![1, 2816]⟩
abbrev S2816 : Shape := ⟨1, ![2816]⟩
abbrev S8x2816 : Shape := ⟨2, ![8, 2816]⟩
abbrev S264x2816 : Shape := ⟨2, ![264, 2816]⟩
abbrev S256 : Shape := ⟨1, ![256]⟩
abbrev S256x1 : Shape := ⟨2, ![256, 1]⟩

abbrev nBuf : Space → Nat
  | .hbm => 67
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S2x2048x1024, .f32⟩
  | .hbm, ⟨7, _⟩ => ⟨S1024x5632, .f32⟩
  | .hbm, ⟨8, _⟩ => ⟨S5632x1024, .f32⟩
  | .hbm, ⟨9, _⟩ => ⟨S2816x1024, .f32⟩
  | .hbm, ⟨10, _⟩ => ⟨S8x704x1024, .f32⟩
  | .hbm, ⟨11, _⟩ => ⟨S8x352x1024, .f32⟩
  | .hbm, ⟨12, _⟩ => ⟨S8x1056x1024, .f32⟩
  | .hbm, ⟨13, _⟩ => ⟨S8x1056x1024, .bf16⟩
  | .hbm, ⟨14, _⟩ => ⟨S1024, .f32⟩
  | .hbm, ⟨15, _⟩ => ⟨S2x2048x1024, .f32⟩
  | .hbm, ⟨16, _⟩ => ⟨S_, .f32⟩
  | .hbm, ⟨17, _⟩ => ⟨S2x2048, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S1024x5632, .f32⟩
  | .hbm, ⟨32, _⟩ => ⟨S2x2048x5632, .f32⟩
  | .hbm, ⟨33, _⟩ => ⟨S5632, .f32⟩
  | .hbm, ⟨34, _⟩ => ⟨S_, .f32⟩
  | .hbm, ⟨35, _⟩ => ⟨S2x2x5632, .f32⟩
  | .hbm, ⟨36, _⟩ => ⟨S2x2050x5632, .f32⟩
  | .hbm, ⟨37, _⟩ => ⟨S2x2048x5632, .f32⟩
  | .hbm, ⟨38, _⟩ => ⟨S1x1x5632, .f32⟩
  | .hbm, ⟨39, _⟩ => ⟨S2x2048x5632, .f32⟩
  | .hbm, ⟨40, _⟩ => ⟨S2x2048x5632, .f32⟩
  | .hbm, ⟨41, _⟩ => ⟨S2x2048x5632, .f32⟩
  | .hbm, ⟨42, _⟩ => ⟨S1x1x5632, .f32⟩
  | .hbm, ⟨43, _⟩ => ⟨S2x2048x5632, .f32⟩
  | .hbm, ⟨44, _⟩ => ⟨S2x2048x5632, .f32⟩
  | .hbm, ⟨45, _⟩ => ⟨S2x2048x5632, .f32⟩
  | .hbm, ⟨46, _⟩ => ⟨S2x2048x5632, .f32⟩
  | .hbm, ⟨47, _⟩ => ⟨S1x1x5632, .f32⟩
  | .hbm, ⟨48, _⟩ => ⟨S2x2048x5632, .f32⟩
  | .hbm, ⟨49, _⟩ => ⟨S2x2048x5632, .f32⟩
  | .hbm, ⟨50, _⟩ => ⟨S2x2048x5632, .f32⟩
  | .hbm, ⟨51, _⟩ => ⟨S1x1x5632, .f32⟩
  | .hbm, ⟨52, _⟩ => ⟨S2x2048x5632, .f32⟩
  | .hbm, ⟨53, _⟩ => ⟨S2x2048x5632, .f32⟩
  | .hbm, ⟨54, _⟩ => ⟨S4096x1024, .f32⟩
  | .hbm, ⟨55, _⟩ => ⟨S4096x1024, .f32⟩
  | .hbm, ⟨56, _⟩ => ⟨S2x2048x5632, .bf16⟩
  | .hbm, ⟨57, _⟩ => ⟨S4096x5632, .bf16⟩
  | .hbm, ⟨58, _⟩ => ⟨S2x2048x5632, .bf16⟩
  | .hbm, ⟨59, _⟩ => ⟨S4096x5632, .bf16⟩
  | .hbm, ⟨60, _⟩ => ⟨S3x5632, .f32⟩
  | .hbm, ⟨61, _⟩ => ⟨S4096x1024, .f32⟩
  | .hbm, ⟨62, _⟩ => ⟨S4096x1024, .bf16⟩
  | .hbm, ⟨63, _⟩ => ⟨S4096x5632, .bf16⟩
  | .hbm, ⟨64, _⟩ => ⟨S1x5632, .f32⟩
  | .hbm, ⟨65, _⟩ => ⟨S3x5632, .f32⟩
  | .hbm, ⟨66, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | .local _ .vmem, ⟨7, _⟩ => ⟨S256x5632, .bf16⟩
  | .local _ .vmem, ⟨8, _⟩ => ⟨S1x1024, .f32⟩
  | .local _ .vmem, ⟨9, _⟩ => ⟨S3x5632, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x5632, .bf16⟩
  | .local _ .vmem, ⟨15, _⟩ => ⟨S256x5632, .bf16⟩
  | .local _ .vmem, ⟨16, _⟩ => ⟨S1x5632, .f32⟩
  | .local _ .vmem, ⟨17, _⟩ => ⟨S3x5632, .f32⟩
  | .local _ .vmem, ⟨18, _⟩ => ⟨S1x1024, .f32⟩
  | .local _ .vmem, ⟨19, _⟩ => ⟨S5632x1024, .bf16⟩
  | .local _ .vmem, ⟨20, _⟩ => ⟨S2816x1024, .bf16⟩
  | .local _ .vmem, ⟨21, _⟩ => ⟨S8x5632, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50_0 : Ref sig .tc := ⟨.hbm, 61, rfl⟩
abbrev main_v50_1 : Ref sig .tc := ⟨.hbm, 62, rfl⟩
abbrev main_v50_2 : Ref sig .tc := ⟨.hbm, 63, rfl⟩
abbrev main_v50_3 : Ref sig .tc := ⟨.hbm, 64, rfl⟩
abbrev main_v50_4 : Ref sig .tc := ⟨.hbm, 65, rfl⟩
abbrev main_v50_5 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x2048x5632 : Shape := ⟨3, ![2, 2048, 5632]⟩
abbrev S5632 : Shape := ⟨1, ![5632]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S2x2048x2816 : Shape := ⟨3, ![2, 2048, 2816]⟩
abbrev S2816x1024 : Shape := ⟨2, ![2816, 1024]⟩
abbrev S4096x1024 : Shape := ⟨2, ![4096, 1024]⟩
abbrev S4096x5632 : Shape := ⟨2, ![4096, 5632]⟩
abbrev S3x5632 : Shape := ⟨2, ![3, 5632]⟩

abbrev nBuf : Space → Nat
  | .hbm => 154
  | .vmem => 0
  | .smem => 0
  | _ => 0

abbrev hbmTy0_0 (i : Nat) : BufTy := match i % 128 with
  | 0 => ⟨S2x2048x1024, .f32⟩
  | 1 => ⟨S1x1024, .f32⟩
  | 2 => ⟨S1x1024x5632, .f32⟩
  | 3 => ⟨S1x3x5632, .f32⟩
  | 4 => ⟨S1x5632, .f32⟩
  | 5 => ⟨S1x2816x1024, .f32⟩
  | 6 => ⟨S2x2048x1024, .f32⟩
  | 7 => ⟨S1024, .f32⟩
  | 8 => ⟨S2x2048x1024, .f32⟩
  | 9 => ⟨S_, .f32⟩
  | 10 => ⟨S2x2048, .f32⟩
  | 11 => ⟨S2x2048x1, .f32⟩
  | 12 => ⟨S_, .f32⟩
  | 13 => ⟨S2x2048x1, .f32⟩
  | 14 => ⟨S2x2048x1, .f32⟩
  | 15 => ⟨S_, .f32⟩
  | 16 => ⟨S2x2048x1, .f32⟩
  | 17 => ⟨S2x2048x1, .f32⟩
  | 18 => ⟨S2x2048x1, .f32⟩
  | 19 => ⟨S2x2048x1, .f32⟩
  | 20 => ⟨S_, .f32⟩
  | 21 => ⟨S2x2048x1, .f32⟩
  | 22 => ⟨S2x2048x1, .f32⟩
  | 23 => ⟨S2x2048x1024, .f32⟩
  | 24 => ⟨S2x2048x1024, .f32⟩
  | 25 => ⟨S1x1x1024, .f32⟩
  | 26 => ⟨S2x2048x1024, .f32⟩
  | 27 => ⟨S2x2048x1024, .f32⟩
  | 28 => ⟨S1024x5632, .f32⟩
  | 29 => ⟨S2x2048x5632, .f32⟩
  | 30 => ⟨S5632, .f32⟩
  | 31 => ⟨S_, .f32⟩
  | 32 => ⟨S2x2x5632, .f32⟩
  | 33 => ⟨S2x2050x5632, .f32⟩
  | 34 => ⟨S_, .f32⟩
  | 35 => ⟨S2x2x5632, .f32⟩
  | 36 => ⟨S2x2048x5632, .f32⟩
  | 37 => ⟨S1x1x5632, .f32⟩
  | 38 => ⟨S2x2048x5632, .f32⟩
  | 39 => ⟨S2x2048x5632, .f32⟩
  | 40 => ⟨S2x2048x5632, .f32⟩
  | 41 => ⟨S1x1x5632, .f32⟩
  | 42 => ⟨S2x2048x5632, .f32⟩
  | 43 => ⟨S2x2048x5632, .f32⟩
  | 44 => ⟨S2x2048x5632, .f32⟩
  | 45 => ⟨S2x2048x5632, .f32⟩
  | 46 => ⟨S1x1x5632, .f32⟩
  | 47 => ⟨S2x2048x5632, .f32⟩
  | 48 => ⟨S2x2048x5632, .f32⟩
  | 49 => ⟨S2x2048x5632, .f32⟩
  | 50 => ⟨S1x1x5632, .f32⟩
  | 51 => ⟨S2x2048x5632, .f32⟩
  | 52 => ⟨S2x2048x5632, .f32⟩
  | 53 => ⟨S2x2048x2816, .f32⟩
  | 54 => ⟨S2x2048x2816, .f32⟩
  | 55 => ⟨S2x2048x2816, .f32⟩
  | 56 => ⟨S2x2048x2816, .f32⟩
  | 57 => ⟨S_, .f32⟩
  | 58 => ⟨S2x2048x2816, .f32⟩
  | 59 => ⟨S2x2048x2816, .f32⟩
  | 60 => ⟨S_, .f32⟩
  | 61 => ⟨S2x2048x2816, .f32⟩
  | 62 => ⟨S2x2048x2816, .f32⟩
  | 63 => ⟨S_, .f32⟩
  | 64 => ⟨S2x2048x2816, .f32⟩
  | 65 => ⟨S2x2048x2816, .f32⟩
  | 66 => ⟨S2x2048x2816, .f32⟩
  | 67 => ⟨S2x2048x2816, .f32⟩
  | 68 => ⟨S2x2048x2816, .f32⟩
  | 69 => ⟨S2816x1024, .f32⟩
  | 70 => ⟨S2x2048x1024, .f32⟩
  | 71 => ⟨S2x2048x2816, .f32⟩
  | 72 => ⟨S2x2048x2816, .f32⟩
  | 73 => ⟨S2x2048x2816, .f32⟩
  | 74 => ⟨S2x2048x2816, .f32⟩
  | 75 => ⟨S2x2048x2816, .f32⟩
  | 76 => ⟨S2x2048x2816, .f32⟩
  | 77 => ⟨S2x2048x2816, .f32⟩
  | 78 => ⟨S2x2048x5632, .f32⟩
  | 79 => ⟨S_, .f32⟩
  | 80 => ⟨S5632, .f32⟩
  | 81 => ⟨S1x1x5632, .f32⟩
  | 82 => ⟨S_, .f32⟩
  | 83 => ⟨S5632, .f32⟩
  | 84 => ⟨S2x2048x5632, .f32⟩
  | 85 => ⟨S_, .f32⟩
  | 86 => ⟨S5632, .f32⟩
  | 87 => ⟨S1x1x5632, .f32⟩
  | 88 => ⟨S2x2048x5632, .f32⟩
  | 89 => ⟨S2x2048x5632, .f32⟩
  | 90 => ⟨S_, .f32⟩
  | 91 => ⟨S1x3x5632, .f32⟩
  | 92 => ⟨S_, .f32⟩
  | 93 => ⟨S2x2050x5632, .f32⟩
  | 94 => ⟨S2x2048x5632, .f32⟩
  | 95 => ⟨S_, .f32⟩
  | 96 => ⟨S5632, .f32⟩
  | 97 => ⟨S1x1x5632, .f32⟩
  | 98 => ⟨S2x2048x5632, .f32⟩
  | 99 => ⟨S2x2048x5632, .f32⟩
  | 100 => ⟨S_, .f32⟩
  | 101 => ⟨S1x3x5632, .f32⟩
  | 102 => ⟨S1x3x5632, .f32⟩
  | 103 => ⟨S_, .f32⟩
  | 104 => ⟨S2x2050x5632, .f32⟩
  | 105 => ⟨S2x2050x5632, .f32⟩
  | 106 => ⟨S2x2048x5632, .f32⟩
  | 107 => ⟨S_, .f32⟩
  | 108 => ⟨S5632, .f32⟩
  | 109 => ⟨S1x1x5632, .f32⟩
  | 110 => ⟨S2x2048x5632, .f32⟩
  | 111 => ⟨S2x2048x5632, .f32⟩
  | 112 => ⟨S_, .f32⟩
  | 113 => ⟨S1x3x5632, .f32⟩
  | 114 => ⟨S1x3x5632, .f32⟩
  | 115 => ⟨S_, .f32⟩
  | 116 => ⟨S2x2050x5632, .f32⟩
  | 117 => ⟨S2x2050x5632, .f32⟩
  | 118 => ⟨S2x2x5632, .f32⟩
  | 119 => ⟨S2x2048x5632, .f32⟩
  | 120 => ⟨S1x5632, .f32⟩
  | 121 => ⟨S2x2048x1024, .f32⟩
  | 122 => ⟨S2x2048x1024, .f32⟩
  | 123 => ⟨S_, .f32⟩
  | 124 => ⟨S1024, .f32⟩
  | 125 => ⟨S1x1x1024, .f32⟩
  | 126 => ⟨S2x2048x1024, .f32⟩
  | 127 => ⟨S2x2048x1024, .f32⟩
  | _ => ⟨S2x2048x1024, .f32⟩

abbrev hbmTy0_1 (i : Nat) : BufTy := match i % 128 with
  | 0 => ⟨S_, .f32⟩
  | 1 => ⟨S1024, .f32⟩
  | 2 => ⟨S2x2048x1024, .f32⟩
  | 3 => ⟨S_, .f32⟩
  | 4 => ⟨S2x2048, .f32⟩
  | 5 => ⟨S2x2048x1, .f32⟩
  | 6 => ⟨S2x2048x1024, .f32⟩
  | 7 => ⟨S2x2048x1024, .f32⟩
  | 8 => ⟨S2x2048x1, .f32⟩
  | 9 => ⟨S_, .f32⟩
  | 10 => ⟨S2x2048x1, .f32⟩
  | 11 => ⟨S2x2048x1, .f32⟩
  | 12 => ⟨S_, .f32⟩
  | 13 => ⟨S2x2048, .f32⟩
  | 14 => ⟨S2x2048x1024, .f32⟩
  | 15 => ⟨S2x2048x1024, .f32⟩
  | 16 => ⟨S2x2048x1024, .f32⟩
  | 17 => ⟨S2x2048x1024, .f32⟩
  | 18 => ⟨S2x2048x1024, .f32⟩
  | 19 => ⟨S1x1024, .f32⟩
  | 20 => ⟨S2x2048x1024, .f32⟩
  | 21 => ⟨S4096x1024, .f32⟩
  | 22 => ⟨S4096x1024, .bf16⟩
  | 23 => ⟨S4096x5632, .f32⟩
  | 24 => ⟨S4096x5632, .bf16⟩
  | 25 => ⟨S3x5632, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v42_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v42_1 : Ref sig .tc := ⟨.hbm, 66, rfl⟩
abbrev main_v42_0 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v49 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_cst_6 : Ref sig .tc := ⟨.hbm, 82, rfl⟩
abbrev main_v53 : Ref sig .tc := ⟨.hbm, 83, rfl⟩
abbrev main_v54 : Ref sig .tc := ⟨.hbm, 84, rfl⟩
abbrev main_cst_7 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_8 : Ref sig .tc := ⟨.hbm, 90, rfl⟩
abbrev main_v59 : Ref sig .tc := ⟨.hbm, 91, rfl⟩
abbrev main_cst_9 : Ref sig .tc := ⟨.hbm, 92, rfl⟩
abbrev main_v60 : Ref sig .tc := ⟨.hbm, 93, rfl⟩
abbrev main_v61 : Ref sig .tc := ⟨.hbm, 94, rfl⟩
abbrev main_cst_10 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_13 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_14 : Ref sig .tc := ⟨.hbm, 112, rfl⟩
abbrev main_v75 : Ref sig .tc := ⟨.hbm, 113, rfl⟩
abbrev main_v76 : Ref sig .tc := ⟨.hbm, 114, rfl⟩
abbrev main_cst_15 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_16 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_19 : Ref sig .tc := ⟨.hbm, 137, rfl⟩
abbrev main_v95 : Ref sig .tc := ⟨.hbm, 138, rfl⟩
abbrev main_v96 : Ref sig .tc := ⟨.hbm, 139, rfl⟩
abbrev main_cst_20 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩

abbrev nD : Nat := 1
abbrev τ : Topo := Topo.v7x

variable {F : FTy → Type} [FloatOps F]
-- ==== Kernel4.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S5632x1024 : Shape := ⟨2, ![5632, 1024]⟩
abbrev S2816x1024 : Shape := ⟨2, ![2816, 1024]⟩
abbrev S8x704x1024 : Shape := ⟨3, ![8, 704, 1024]⟩
abbrev S8x352x1024 : Shape := ⟨3, ![8, 352, 1024]⟩
abbrev S8x1056x1024 : Shape := ⟨3, ![8, 1056, 1024]⟩
abbrev S4096x1024 : Shape := ⟨2, ![4096, 1024]⟩
abbrev S3x5632 : Shape := ⟨2, ![3, 5632]⟩
abbrev S4096x5632 : Shape := ⟨2, ![4096, 5632]⟩
abbrev S4096x2816 : Shape := ⟨2, ![4096, 2816]⟩
abbrev S8x128 : Shape := ⟨2, ![8, 128]⟩
abbrev S256x1024 : Shape := ⟨2, ![256, 1024]⟩
abbrev S256x5632 : Shape := ⟨2, ![256, 5632]⟩
abbrev S256x2816 : Shape := ⟨2, ![256, 2816]⟩
abbrev S8x5632 : Shape := ⟨2, ![8, 5632]⟩
abbrev S2 : Shape := ⟨1, ![2]⟩
abbrev S1 : Shape := ⟨1, ![1]⟩
abbrev S_ : Shape := ⟨0, ![]⟩
abbrev S704x1024 : Shape := ⟨2, ![704, 1024]⟩
abbrev S1x704x1024 : Shape := ⟨3, ![1, 704, 1024]⟩
abbrev S352x1024 : Shape := ⟨2, ![352, 1024]⟩
abbrev S1x352x1024 : Shape := ⟨3, ![1, 352, 1024]⟩
abbrev S256 : Shape := ⟨1, ![256]⟩
abbrev S256x1 : Shape := ⟨2, ![256, 1]⟩
abbrev S8x2816 : Shape := ⟨2, ![8, 2816]⟩
abbrev S264x2816 : Shape := ⟨2, ![264, 2816]⟩
abbrev S1x2816 : Shape := ⟨2, ![1, 2816]⟩
abbrev S1x256x1024 : Shape := ⟨3, ![1, 256, 1024]⟩
abbrev S1x1x1 : Shape := ⟨3, ![1, 1, 1]⟩

abbrev nBuf : Space → Nat
  | .hbm => 27
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S2x2048x1024, .f32⟩
  | .hbm, ⟨8, _⟩ => ⟨S1024x5632, .f32⟩
  | .hbm, ⟨9, _⟩ => ⟨S5632x1024, .f32⟩
  | .hbm, ⟨10, _⟩ => ⟨S2816x1024, .f32⟩
  | .hbm, ⟨11, _⟩ => ⟨S8x704x1024, .f32⟩
  | .hbm, ⟨12, _⟩ => ⟨S8x352x1024, .f32⟩
  | .hbm, ⟨13, _⟩ => ⟨S8x1056x1024, .f32⟩
  | .hbm, ⟨14, _⟩ => ⟨S8x1056x1024, .bf16⟩
  | .hbm, ⟨15, _⟩ => ⟨S4096x1024, .f32⟩
  | .hbm, ⟨16, _⟩ => ⟨S4096x1024, .f32⟩
  | .hbm, ⟨17, _⟩ => ⟨S3x5632, .f32⟩
  | .hbm, ⟨18, _⟩ => ⟨S1x1024, .f32⟩
  | .hbm, ⟨19, _⟩ => ⟨S4096x5632, .bf16⟩
  | .hbm, ⟨20, _⟩ => ⟨S4096x5632, .bf16⟩
  | .hbm, ⟨21, _⟩ => ⟨S4096x2816, .bf16⟩
  | .hbm, ⟨22, _⟩ => ⟨S4096x1024, .bf16⟩
  | .hbm, ⟨23, _⟩ => ⟨S4096x1024, .f32⟩
  | .hbm, ⟨24, _⟩ => ⟨S4096x1024, .bf16⟩
  | .hbm, ⟨25, _⟩ => ⟨S8x128, .f32⟩
  | .hbm, ⟨26, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S3x5632, .f32⟩
  | .local _ .vmem, ⟨6, _⟩ => ⟨S1x5632, .f32⟩
  | .local _ .vmem, ⟨7, _⟩ => ⟨S1x1024, .f32⟩
  | .local _ .vmem, ⟨8, _⟩ => ⟨S256x5632, .bf16⟩
  | .local _ .vmem, ⟨9, _⟩ => ⟨S256x5632, .bf16⟩
  | .local _ .vmem, ⟨10, _⟩ => ⟨S256x5632, .bf16⟩
  | .local _ .vmem, ⟨11, _⟩ => ⟨S256x5632, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S8x128, .f32⟩
  | .local _ .vmem, ⟨21, _⟩ => ⟨S1x1024, .f32⟩
  | .local _ .vmem, ⟨22, _⟩ => ⟨S5632x1024, .bf16⟩
  | .local _ .vmem, ⟨23, _⟩ => ⟨S2816x1024, .bf16⟩
  | .local _ .vmem, ⟨24, _⟩ => ⟨S8x5632, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v11_6 : Ref sig .tc := ⟨.hbm, 25, rfl⟩
abbrev main_v11_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S2x2048x1024 : Shape := ⟨3, ![2, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S2x2048x5632 : Shape := ⟨3, ![2, 2048, 5632]⟩
abbrev S5632 : Shape := ⟨1, ![5632]⟩
abbrev S2x2x5632 : Shape := ⟨3, ![2, 2, 5632]⟩
abbrev S2x2050x5632 : Shape := ⟨3, ![2, 2050, 5632]⟩
abbrev S1x1x5632 : Shape := ⟨3, ![1, 1, 5632]⟩
abbrev S2x2048x2816 : Shape := ⟨3, ![2, 2048, 2816]⟩
abbrev S2816x1024 : Shape := ⟨2, ![2816, 1024]⟩
abbrev S4096x1024 : Shape := ⟨2, ![4096, 1024]⟩
abbrev S4096x5632 : Shape := ⟨2, ![4096, 5632]⟩
abbrev S4096x2816 : Shape := ⟨2, ![4096, 2816]⟩
abbrev S8x128 : Shape := ⟨2, ![8, 128]⟩

abbrev nBuf : Space → Nat
  | .hbm => 143
  | .vmem => 0
  | .smem => 0
  | _ => 0

abbrev hbmTy0_0 (i : Nat) : BufTy := match i % 128 with
  | 0 => ⟨S2x2048x1024, .f32⟩
  | 1 => ⟨S1x1024, .f32⟩
  | 2 => ⟨S1x1024x5632, .f32⟩
  | 3 => ⟨S1x3x5632, .f32⟩
  | 4 => ⟨S1x5632, .f32⟩
  | 5 => ⟨S1x2816x1024, .f32⟩
  | 6 => ⟨S1024, .f32⟩
  | 7 => ⟨S2x2048x1024, .f32⟩
  | 8 => ⟨S1024, .f32⟩
  | 9 => ⟨S2x2048x1024, .f32⟩
  | 10 => ⟨S_, .f32⟩
  | 11 => ⟨S2x2048, .f32⟩
  | 12 => ⟨S2x2048x1, .f32⟩
  | 13 => ⟨S_, .f32⟩
  | 14 => ⟨S2x2048x1, .f32⟩
  | 15 => ⟨S2x2048x1, .f32⟩
  | 16 => ⟨S_, .f32⟩
  | 17 => ⟨S2x2048x1, .f32⟩
  | 18 => ⟨S2x2048x1, .f32⟩
  | 19 => ⟨S2x2048x1, .f32⟩
  | 20 => ⟨S2x2048x1024, .f32⟩
  | 21 => ⟨S2x2048x1024, .f32⟩
  | 22 => ⟨S1x1x1024, .f32⟩
  | 23 => ⟨S2x2048x1024, .f32⟩
  | 24 => ⟨S2x2048x1024, .f32⟩
  | 25 => ⟨S1024x5632, .f32⟩
  | 26 => ⟨S2x2048x5632, .f32⟩
  | 27 => ⟨S5632, .f32⟩
  | 28 => ⟨S_, .f32⟩
  | 29 => ⟨S2x2x5632, .f32⟩
  | 30 => ⟨S2x2050x5632, .f32⟩
  | 31 => ⟨S2x2048x5632, .f32⟩
  | 32 => ⟨S1x1x5632, .f32⟩
  | 33 => ⟨S2x2048x5632, .f32⟩
  | 34 => ⟨S2x2048x5632, .f32⟩
  | 35 => ⟨S2x2048x5632, .f32⟩
  | 36 => ⟨S1x1x5632, .f32⟩
  | 37 => ⟨S2x2048x5632, .f32⟩
  | 38 => ⟨S2x2048x5632, .f32⟩
  | 39 => ⟨S2x2048x5632, .f32⟩
  | 40 => ⟨S2x2048x5632, .f32⟩
  | 41 => ⟨S1x1x5632, .f32⟩
  | 42 => ⟨S2x2048x5632, .f32⟩
  | 43 => ⟨S2x2048x5632, .f32⟩
  | 44 => ⟨S2x2048x5632, .f32⟩
  | 45 => ⟨S1x1x5632, .f32⟩
  | 46 => ⟨S2x2048x5632, .f32⟩
  | 47 => ⟨S2x2048x5632, .f32⟩
  | 48 => ⟨S2x2048x2816, .f32⟩
  | 49 => ⟨S2x2048x2816, .f32⟩
  | 50 => ⟨S2x2048x2816, .f32⟩
  | 51 => ⟨S2x2048x2816, .f32⟩
  | 52 => ⟨S_, .f32⟩
  | 53 => ⟨S2x2048x2816, .f32⟩
  | 54 => ⟨S2x2048x2816, .f32⟩
  | 55 => ⟨S_, .f32⟩
  | 56 => ⟨S2x2048x2816, .f32⟩
  | 57 => ⟨S2x2048x2816, .f32⟩
  | 58 => ⟨S2x2048x2816, .f32⟩
  | 59 => ⟨S2x2048x2816, .f32⟩
  | 60 => ⟨S2816x1024, .f32⟩
  | 61 => ⟨S2x2048x1024, .f32⟩
  | 62 => ⟨S2x2048x1024, .f32⟩
  | 63 => ⟨S2x2048x1024, .f32⟩
  | 64 => ⟨S_, .f32⟩
  | 65 => ⟨S2x2048, .f32⟩
  | 66 => ⟨S2x2048x1, .f32⟩
  | 67 => ⟨S_, .f32⟩
  | 68 => ⟨S2x2048x1, .f32⟩
  | 69 => ⟨S2x2048x1, .f32⟩
  | 70 => ⟨S_, .f32⟩
  | 71 => ⟨S2x2048x1, .f32⟩
  | 72 => ⟨S2x2048x1, .f32⟩
  | 73 => ⟨S2x2048x1, .f32⟩
  | 74 => ⟨S2x2048x1, .f32⟩
  | 75 => ⟨S_, .f32⟩
  | 76 => ⟨S2x2048x1, .f32⟩
  | 77 => ⟨S2x2048x1, .f32⟩
  | 78 => ⟨S2x2048x1024, .f32⟩
  | 79 => ⟨S2x2048x1024, .f32⟩
  | 80 => ⟨S1x1x1024, .f32⟩
  | 81 => ⟨S2x2048x1024, .f32⟩
  | 82 => ⟨S2x2048x1024, .f32⟩
  | 83 => ⟨S2x2048x1024, .f32⟩
  | 84 => ⟨S2x2048x1024, .f32⟩
  | 85 => ⟨S_, .f32⟩
  | 86 => ⟨S2x2048x1024, .f32⟩
  | 87 => ⟨S2x2048x1024, .f32⟩
  | 88 => ⟨S_, .f32⟩
  | 89 => ⟨S2x2048, .f32⟩
  | 90 => ⟨S_, .f32⟩
  | 91 => ⟨S2x2048, .f32⟩
  | 92 => ⟨S2x2048, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S2x2048, .f32⟩
  | 101 => ⟨S_, .f32⟩
  | 102 => ⟨S2x2048, .f32⟩
  | 103 => ⟨S2x2048, .f32⟩
  | 104 => ⟨S2x2048x1024, .f32⟩
  | 105 => ⟨S2x2048x1024, .f32⟩
  | 106 => ⟨S2x2048x1024, .f32⟩
  | 107 => ⟨S_, .f32⟩
  | 108 => ⟨S1024, .f32⟩
  | 109 => ⟨S1x1x1024, .f32⟩
  | 110 => ⟨S2x2048x1024, .f32⟩
  | 111 => ⟨S2x2048x1024, .f32⟩
  | 112 => ⟨S_, .f32⟩
  | 113 => ⟨S1024, .f32⟩
  | 114 => ⟨S2x2048x1024, .f32⟩
  | 115 => ⟨S_, .f32⟩
  | 116 => ⟨S2x2048, .f32⟩
  | 117 => ⟨S2x2048x1, .f32⟩
  | 118 => ⟨S2x2048x1024, .f32⟩
  | 119 => ⟨S2x2048x1024, .f32⟩
  | 120 => ⟨S2x2048x1, .f32⟩
  | 121 => ⟨S_, .f32⟩
  | 122 => ⟨S2x2048x1, .f32⟩
  | 123 => ⟨S2x2048x1, .f32⟩
  | 124 => ⟨S_, .f32⟩
  | 125 => ⟨S2x2048, .f32⟩
  | 126 => ⟨S2x2048x1024, .f32⟩
  | 127 => ⟨S2x2048x1024, .f32⟩
  | _ => ⟨S2x2048x1024, .f32⟩

abbrev hbmTy0_1 (i : Nat) : BufTy := match i % 128 with
  | 0 => ⟨S2x2048x1024, .f32⟩
  | 1 => ⟨S2x2048x1024, .f32⟩
  | 2 => ⟨S2x2048x1024, .f32⟩
  | 3 => ⟨S4096x1024, .f32⟩
  | 4 => ⟨S4096x5632, .f32⟩
  | 5 => ⟨S4096x5632, .bf16⟩
  | 6 => ⟨S4096x5632, .f32⟩
  | 7 => ⟨S4096x5632, .bf16⟩
  | 8 => ⟨S4096x2816, .f32⟩
  | 9 => ⟨S4096x2816, .bf16⟩
  | 10 => ⟨S4096x1024, .f32⟩
  | 11 => ⟨S4096x1024, .bf16⟩
  | 12 => ⟨S4096x1024, .bf16⟩
  | 13 => ⟨S8x128, .f32⟩
  | 14 => ⟨S1x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_v62 : Ref sig .tc := ⟨.hbm, 87, rfl⟩
abbrev main_cst_8 : Ref sig .tc := ⟨.hbm, 88, rfl⟩
abbrev main_v63 : Ref sig .tc := ⟨.hbm, 89, rfl⟩
abbrev main_cst_9 : Ref sig .tc := ⟨.hbm, 90, rfl⟩
abbrev main_v64 : Ref sig .tc := ⟨.hbm, 91, rfl⟩
abbrev main_v65 : Ref sig .tc := ⟨.hbm, 92, rfl⟩
abbrev main_cst_10 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_cst_12 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_16 : Ref sig .tc := ⟨.hbm, 112, rfl⟩
abbrev main_v79 : Ref sig .tc := ⟨.hbm, 113, rfl⟩
abbrev main_v80 : Ref sig .tc := ⟨.hbm, 114, rfl⟩
abbrev main_cst_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_18 : Ref sig .tc := ⟨.hbm, 121, rfl⟩
abbrev main_v86 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩

abbrev nD : Nat := 1
abbrev τ : Topo := Topo.v7x

variable {F : FTy → Type} [FloatOps F]
-- ==== Kernel5.lean ====
abbrev S2x2048x1024 : Shape := ⟨3, ![2, 2048, 1024]⟩
abbrev S1x1024 : Shape := ⟨2, ![1, 1024]⟩
abbrev S1x1024x1536 : Shape := ⟨3, ![1, 1024, 1536]⟩
abbrev S1x31x512 : Shape := ⟨3, ![1, 31, 512]⟩
abbrev S1x512 : Shape := ⟨2, ![1, 512]⟩
abbrev S1x4x128x128 : Shape := ⟨4, ![1, 4, 128, 128]⟩
abbrev S1x1024x1024 : Shape := ⟨3, ![1, 1024, 1024]⟩
abbrev S1024x1536 : Shape := ⟨2, ![1024, 1536]⟩
abbrev S1536x1024 : Shape := ⟨2, ![1536, 1024]⟩
abbrev S1024x1024 : Shape := ⟨2, ![1024, 1024]⟩
abbrev S8x192x1024 : Shape := ⟨3, ![8, 192, 1024]⟩
abbrev S8x128x1024 : Shape := ⟨3, ![8, 128, 1024]⟩
abbrev S8x320x1024 : Shape := ⟨3, ![8, 320, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x1536 : Shape := ⟨3, ![2, 2048, 1536]⟩
abbrev S2x2048x512 : Shape := ⟨3, ![2, 2048, 512]⟩
abbrev S31x512 : Shape := ⟨2, ![31, 512]⟩
abbrev S512 : Shape := ⟨1, ![512]⟩
abbrev S2x30x512 : Shape := ⟨3, ![2, 30, 512]⟩
abbrev S2x2078x512 : Shape := ⟨3, ![2, 2078, 512]⟩
abbrev S1x1x512 : Shape := ⟨3, ![1, 1, 512]⟩
abbrev S2x2048x128 : Shape := ⟨3, ![2, 2048, 128]⟩
abbrev S2x2x128 : Shape := ⟨3, ![2, 2, 128]⟩
abbrev S2x2046x128 : Shape := ⟨3, ![2, 2046, 128]⟩
abbrev S2048 : Shape := ⟨1, ![2048]⟩
abbrev S1x2048x1 : Shape := ⟨3, ![1, 2048, 1]⟩
abbrev S2x4x128 : Shape := ⟨3, ![2, 4, 128]⟩
abbrev S2x2044x128 : Shape := ⟨3, ![2, 2044, 128]⟩
abbrev S2x8x128 : Shape := ⟨3, ![2, 8, 128]⟩
abbrev S2x2040x128 : Shape := ⟨3, ![2, 2040, 128]⟩
abbrev S2x16x128 : Shape := ⟨3, ![2, 16, 128]⟩
abbrev S2x2032x128 : Shape := ⟨3, ![2, 2032, 128]⟩
abbrev S4096x1024 : Shape := ⟨2, ![4096, 1024]⟩
abbrev S4096x1536 : Shape := ⟨2, ![4096, 1536]⟩
abbrev S4096x512 : Shape := ⟨2, ![4096, 512]⟩
abbrev S4x128x128 : Shape := ⟨3, ![4, 128, 128]⟩
abbrev S8x128 : Shape := ⟨2, ![8, 128]⟩
abbrev S512x1024 : Shape := ⟨2, ![512, 1024]⟩
abbrev S512x1536 : Shape := ⟨2, ![512, 1536]⟩
abbrev S512x512 : Shape := ⟨2, ![512, 512]⟩
abbrev S32x512 : Shape := ⟨2, ![32, 512]⟩
abbrev S16x512 : Shape := ⟨2, ![16, 512]⟩
abbrev S2 : Shape := ⟨1, ![2]⟩
abbrev S1 : Shape := ⟨1, ![1]⟩
abbrev S128x1024 : Shape := ⟨2, ![128, 1024]⟩
abbrev S1x128x1024 : Shape := ⟨3, ![1, 128, 1024]⟩
abbrev S192x1024 : Shape := ⟨2, ![192, 1024]⟩
abbrev S1x192x1024 : Shape := ⟨3, ![1, 192, 1024]⟩
abbrev S512x1 : Shape := ⟨2, ![512, 1]⟩
abbrev S544x512 : Shape := ⟨2, ![544, 512]⟩
abbrev S8x512 : Shape := ⟨2, ![8, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S528x512 : Shape := ⟨2, ![528, 512]⟩
abbrev S528x384 : Shape := ⟨2, ![528, 384]⟩
abbrev S528x256 : Shape := ⟨2, ![528, 256]⟩
abbrev S528x128 : Shape := ⟨2, ![528, 128]⟩

abbrev nBuf : Space → Nat
  | .hbm => 376
  | .vmem => 32
  | .smem => 0
  | _ => 0

abbrev hbmTy0_0 (i : Nat) : BufTy := match i % 128 with
  | 0 => ⟨S2x2048x1024, .f32⟩
  | 1 => ⟨S1x1024, .f32⟩
  | 2 => ⟨S1x1024x1536, .f32⟩
  | 3 => ⟨S1x31x512, .f32⟩
  | 4 => ⟨S1x512, .f32⟩
  | 5 => ⟨S1x512, .f32⟩
  | 6 => ⟨S1x512, .f32⟩
  | 7 => ⟨S1x4x128x128, .f32⟩
  | 8 => ⟨S1x512, .f32⟩
  | 9 => ⟨S1x1024x1024, .f32⟩
  | 10 => ⟨S2x2048x1024, .f32⟩
  | 11 => ⟨S1024x1536, .f32⟩
  | 12 => ⟨S1536x1024, .f32⟩
  | 13 => ⟨S1024x1024, .f32⟩
  | 14 => ⟨S8x192x1024, .f32⟩
  | 15 => ⟨S8x128x1024, .f32⟩
  | 16 => ⟨S8x320x1024, .f32⟩
  | 17 => ⟨S8x320x1024, .bf16⟩
  | 18 => ⟨S1024, .f32⟩
  | 19 => ⟨S2x2048x1024, .f32⟩
  | 20 => ⟨S_, .f32⟩
  | 21 => ⟨S2x2048, .f32⟩
  | 22 => ⟨S2x2048x1, .f32⟩
  | 23 => ⟨S_, .f32⟩
  | 24 => ⟨S2x2048x1, .f32⟩
  | 25 => ⟨S2x2048x1, .f32⟩
  | 26 => ⟨S_, .f32⟩
  | 27 => ⟨S2x2048x1, .f32⟩
  | 28 => ⟨S2x2048x1, .f32⟩
  | 29 => ⟨S2x2048x1, .f32⟩
  | 30 => ⟨S2x2048x1024, .f32⟩
  | 31 => ⟨S2x2048x1024, .f32⟩
  | 32 => ⟨S1x1x1024, .f32⟩
  | 33 => ⟨S2x2048x1024, .f32⟩
  | 34 => ⟨S2x2048x1024, .f32⟩
  | 35 => ⟨S1024x1536, .f32⟩
  | 36 => ⟨S2x2048x1536, .f32⟩
  | 37 => ⟨S2x2048x512, .f32⟩
  | 38 => ⟨S2x2048x512, .f32⟩
  | 39 => ⟨S2x2048x512, .f32⟩
  | 40 => ⟨S2x2048x512, .f32⟩
  | 41 => ⟨S_, .f32⟩
  | 42 => ⟨S2x2048x512, .f32⟩
  | 43 => ⟨S2x2048x512, .f32⟩
  | 44 => ⟨S_, .f32⟩
  | 45 => ⟨S2x2048x512, .f32⟩
  | 46 => ⟨S2x2048x512, .f32⟩
  | 47 => ⟨S2x2048x512, .f32⟩
  | 48 => ⟨S31x512, .f32⟩
  | 49 => ⟨S512, .f32⟩
  | 50 => ⟨S_, .f32⟩
  | 51 => ⟨S2x30x512, .f32⟩
  | 52 => ⟨S2x2078x512, .f32⟩
  | 53 => ⟨S1x512, .f32⟩
  | 54 => ⟨S512, .f32⟩
  | 55 => ⟨S2x2048x512, .f32⟩
  | 56 => ⟨S1x1x512, .f32⟩
  | 57 => ⟨S2x2048x512, .f32⟩
  | 58 => ⟨S2x2048x512, .f32⟩
  | 59 => ⟨S_, .f32⟩
  | 60 => ⟨S2x2048x512, .f32⟩
  | 61 => ⟨S2x2048x512, .f32⟩
  | 62 => ⟨S1x512, .f32⟩
  | 63 => ⟨S512, .f32⟩
  | 64 => ⟨S2x2048x512, .f32⟩
  | 65 => ⟨S1x1x512, .f32⟩
  | 66 => ⟨S2x2048x512, .f32⟩
  | 67 => ⟨S2x2048x512, .f32⟩
  | 68 => ⟨S2x2048x512, .f32⟩
  | 69 => ⟨S1x512, .f32⟩
  | 70 => ⟨S512, .f32⟩
  | 71 => ⟨S2x2048x512, .f32⟩
  | 72 => ⟨S1x1x512, .f32⟩
  | 73 => ⟨S2x2048x512, .f32⟩
  | 74 => ⟨S2x2048x512, .f32⟩
  | 75 => ⟨S2x2048x512, .f32⟩
  | 76 => ⟨S1x512, .f32⟩
  | 77 => ⟨S512, .f32⟩
  | 78 => ⟨S2x2048x512, .f32⟩
  | 79 => ⟨S1x1x512, .f32⟩
  | 80 => ⟨S2x2048x512, .f32⟩
  | 81 => ⟨S2x2048x512, .f32⟩
  | 82 => ⟨S2x2048x512, .f32⟩
  | 83 => ⟨S1x512, .f32⟩
  | 84 => ⟨S512, .f32⟩
  | 85 => ⟨S2x2048x512, .f32⟩
  | 86 => ⟨S1x1x512, .f32⟩
  | 87 => ⟨S2x2048x512, .f32⟩
  | 88 => ⟨S2x2048x512, .f32⟩
  | 89 => ⟨S2x2048x512, .f32⟩
  | 90 => ⟨S1x512, .f32⟩
  | 91 => ⟨S512, .f32⟩
  | 92 => ⟨S2x2048x512, .f32⟩
  | 93 => ⟨S1x1x512, .f32⟩
  | 94 => ⟨S2x2048x512, .f32⟩
  | 95 => ⟨S2x2048x512, .f32⟩
  | 96 => ⟨S2x2048x512, .f32⟩
  | 97 => ⟨S1x512, .f32⟩
  | 98 => ⟨S512, .f32⟩
  | 99 => ⟨S2x2048x512, .f32⟩
  | 100 => ⟨S1x1x512, .f32⟩
  | 101 => ⟨S2x2048x512, .f32⟩
  | 102 => ⟨S2x2048x512, .f32⟩
  | 103 => ⟨S2x2048x512, .f32⟩
  | 104 => ⟨S1x512, .f32⟩
  | 105 => ⟨S512, .f32⟩
  | 106 => ⟨S2x2048x512, .f32⟩
  | 107 => ⟨S1x1x512, .f32⟩
  | 108 => ⟨S2x2048x512, .f32⟩
  | 109 => ⟨S2x2048x512, .f32⟩
  | 110 => ⟨S2x2048x512, .f32⟩
  | 111 => ⟨S1x512, .f32⟩
  | 112 => ⟨S512, .f32⟩
  | 113 => ⟨S2x2048x512, .f32⟩
  | 114 => ⟨S1x1x512, .f32⟩
  | 115 => ⟨S2x2048x512, .f32⟩
  | 116 => ⟨S2x2048x512, .f32⟩
  | 117 => ⟨S2x2048x512, .f32⟩
  | 118 => ⟨S1x512, .f32⟩
  | 119 => ⟨S512, .f32⟩
  | 120 => ⟨S2x2048x512, .f32⟩
  | 121 => ⟨S1x1x512, .f32⟩
  | 122 => ⟨S2x2048x512, .f32⟩
  | 123 => ⟨S2x2048x512, .f32⟩
  | 124 => ⟨S2x2048x512, .f32⟩
  | 125 => ⟨S1x512, .f32⟩
  | 126 => ⟨S512, .f32⟩
  | 127 => ⟨S2x2048x512, .f32⟩
  | _ => ⟨S2x2048x1024, .f32⟩

abbrev hbmTy0_1 (i : Nat) : BufTy := match i % 128 with
  | 0 => ⟨S1x1x512, .f32⟩
  | 1 => ⟨S2x2048x512, .f32⟩
  | 2 => ⟨S2x2048x512, .f32⟩
  | 3 => ⟨S2x2048x512, .f32⟩
  | 4 => ⟨S1x512, .f32⟩
  | 5 => ⟨S512, .f32⟩
  | 6 => ⟨S2x2048x512, .f32⟩
  | 7 => ⟨S1x1x512, .f32⟩
  | 8 => ⟨S2x2048x512, .f32⟩
  | 9 => ⟨S2x2048x512, .f32⟩
  | 10 => ⟨S2x2048x512, .f32⟩
  | 11 => ⟨S1x512, .f32⟩
  | 12 => ⟨S512, .f32⟩
  | 13 => ⟨S2x2048x512, .f32⟩
  | 14 => ⟨S1x1x512, .f32⟩
  | 15 => ⟨S2x2048x512, .f32⟩
  | 16 => ⟨S2x2048x512, .f32⟩
  | 17 => ⟨S2x2048x512, .f32⟩
  | 18 => ⟨S1x512, .f32⟩
  | 19 => ⟨S512, .f32⟩
  | 20 => ⟨S2x2048x512, .f32⟩
  | 21 => ⟨S1x1x512, .f32⟩
  | 22 => ⟨S2x2048x512, .f32⟩
  | 23 => ⟨S2x2048x512, .f32⟩
  | 24 => ⟨S2x2048x512, .f32⟩
  | 25 => ⟨S1x512, .f32⟩
  | 26 => ⟨S512, .f32⟩
  | 27 => ⟨S2x2048x512, .f32⟩
  | 28 => ⟨S1x1x512, .f32⟩
  | 29 => ⟨S2x2048x512, .f32⟩
  | 30 => ⟨S2x2048x512, .f32⟩
  | 31 => ⟨S2x2048x512, .f32⟩
  | 32 => ⟨S1x512, .f32⟩
  | 33 => ⟨S512, .f32⟩
  | 34 => ⟨S2x2048x512, .f32⟩
  | 35 => ⟨S1x1x512, .f32⟩
  | 36 => ⟨S2x2048x512, .f32⟩
  | 37 => ⟨S2x2048x512, .f32⟩
  | 38 => ⟨S2x2048x512, .f32⟩
  | 39 => ⟨S1x512, .f32⟩
  | 40 => ⟨S512, .f32⟩
  | 41 => ⟨S2x2048x512, .f32⟩
  | 42 => ⟨S1x1x512, .f32⟩
  | 43 => ⟨S2x2048x512, .f32⟩
  | 44 => ⟨S2x2048x512, .f32⟩
  | 45 => ⟨S2x2048x512, .f32⟩
  | 46 => ⟨S1x512, .f32⟩
  | 47 => ⟨S512, .f32⟩
  | 48 => ⟨S2x2048x512, .f32⟩
  | 49 => ⟨S1x1x512, .f32⟩
  | 50 => ⟨S2x2048x512, .f32⟩
  | 51 => ⟨S2x2048x512, .f32⟩
  | 52 => ⟨S2x2048x512, .f32⟩
  | 53 => ⟨S1x512, .f32⟩
  | 54 => ⟨S512, .f32⟩
  | 55 => ⟨S2x2048x512, .f32⟩
  | 56 => ⟨S1x1x512, .f32⟩
  | 57 => ⟨S2x2048x512, .f32⟩
  | 58 => ⟨S2x2048x512, .f32⟩
  | 59 => ⟨S2x2048x512, .f32⟩
  | 60 => ⟨S1x512, .f32⟩
  | 61 => ⟨S512, .f32⟩
  | 62 => ⟨S2x2048x512, .f32⟩
  | 63 => ⟨S1x1x512, .f32⟩
  | 64 => ⟨S2x2048x512, .f32⟩
  | 65 => ⟨S2x2048x512, .f32⟩
  | 66 => ⟨S2x2048x512, .f32⟩
  | 67 => ⟨S1x512, .f32⟩
  | 68 => ⟨S512, .f32⟩
  | 69 => ⟨S2x2048x512, .f32⟩
  | 70 => ⟨S1x1x512, .f32⟩
  | 71 => ⟨S2x2048x512, .f32⟩
  | 72 => ⟨S2x2048x512, .f32⟩
  | 73 => ⟨S2x2048x512, .f32⟩
  | 74 => ⟨S1x512, .f32⟩
  | 75 => ⟨S512, .f32⟩
  | 76 => ⟨S2x2048x512, .f32⟩
  | 77 => ⟨S1x1x512, .f32⟩
  | 78 => ⟨S2x2048x512, .f32⟩
  | 79 => ⟨S2x2048x512, .f32⟩
  | 80 => ⟨S2x2048x512, .f32⟩
  | 81 => ⟨S1x512, .f32⟩
  | 82 => ⟨S512, .f32⟩
  | 83 => ⟨S2x2048x512, .f32⟩
  | 84 => ⟨S1x1x512, .f32⟩
  | 85 => ⟨S2x2048x512, .f32⟩
  | 86 => ⟨S2x2048x512, .f32⟩
  | 87 => ⟨S2x2048x512, .f32⟩
  | 88 => ⟨S1x512, .f32⟩
  | 89 => ⟨S512, .f32⟩
  | 90 => ⟨S2x2048x512, .f32⟩
  | 91 => ⟨S1x1x512, .f32⟩
  | 92 => ⟨S2x2048x512, .f32⟩
  | 93 => ⟨S2x2048x512, .f32⟩
  | 94 => ⟨S2x2048x512, .f32⟩
  | 95 => ⟨S1x512, .f32⟩
  | 96 => ⟨S512, .f32⟩
  | 97 => ⟨S2x2048x512, .f32⟩
  | 98 => ⟨S1x1x512, .f32⟩
  | 99 => ⟨S2x2048x512, .f32⟩
  | 100 => ⟨S2x2048x512, .f32⟩
  | 101 => ⟨S2x2048x512, .f32⟩
  | 102 => ⟨S1x512, .f32⟩
  | 103 => ⟨S512, .f32⟩
  | 104 => ⟨S2x2048x512, .f32⟩
  | 105 => ⟨S1x1x512, .f32⟩
  | 106 => ⟨S2x2048x512, .f32⟩
  | 107 => ⟨S2x2048x512, .f32⟩
  | 108 => ⟨S2x2048x512, .f32⟩
  | 109 => ⟨S1x512, .f32⟩
  | 110 => ⟨S512, .f32⟩
  | 111 => ⟨S2x2048x512, .f32⟩
  | 112 => ⟨S1x1x512, .f32⟩
  | 113 => ⟨S2x2048x512, .f32⟩
  | 114 => ⟨S2x2048x512, .f32⟩
  | 115 => ⟨S2x2048x512, .f32⟩
  | 116 => ⟨S1x512, .f32⟩
  | 117 => ⟨S512, .f32⟩
  | 118 => ⟨S2x2048x512, .f32⟩
  | 119 => ⟨S1x1x512, .f32⟩
  | 120 => ⟨S2x2048x512, .f32⟩
  | 121 => ⟨S2x2048x512, .f32⟩
  | 122 => ⟨S2x2048x512, .f32⟩
  | 123 => ⟨S1x512, .f32⟩
  | 124 => ⟨S512, .f32⟩
  | 125 => ⟨S2x2048x512, .f32⟩
  | 126 => ⟨S1x1x512, .f32⟩
  | 127 => ⟨S2x2048x512, .f32⟩
  | _ => ⟨S2x2048x1024, .f32⟩

abbrev hbmTy0_2 (i : Nat) : BufTy := match i % 128 with
  | 0 => ⟨S2x2048x512, .f32⟩
  | 1 => ⟨S2x2048x512, .f32⟩
  | 2 => ⟨S1x512, .f32⟩
  | 3 => ⟨S512, .f32⟩
  | 4 => ⟨S2x2048x512, .f32⟩
  | 5 => ⟨S1x1x512, .f32⟩
  | 6 => ⟨S2x2048x512, .f32⟩
  | 7 => ⟨S2x2048x512, .f32⟩
  | 8 => ⟨S2x2048x512, .f32⟩
  | 9 => ⟨S1x512, .f32⟩
  | 10 => ⟨S512, .f32⟩
  | 11 => ⟨S2x2048x512, .f32⟩
  | 12 => ⟨S1x1x512, .f32⟩
  | 13 => ⟨S2x2048x512, .f32⟩
  | 14 => ⟨S2x2048x512, .f32⟩
  | 15 => ⟨S2x2048x512, .f32⟩
  | 16 => ⟨S1x1x512, .f32⟩
  | 17 => ⟨S2x2048x512, .f32⟩
  | 18 => ⟨S2x2048x512, .f32⟩
  | 19 => ⟨S2x2048x512, .f32⟩
  | 20 => ⟨S2x2048x128, .f32⟩
  | 21 => ⟨S2x2048x128, .f32⟩
  | 22 => ⟨S2x2048x128, .f32⟩
  | 23 => ⟨S2x2048x128, .f32⟩
  | 24 => ⟨S_, .f32⟩
  | 25 => ⟨S_, .f32⟩
  | 26 => ⟨S2x2048x128, .f32⟩
  | 27 => ⟨S_, .f32⟩
  | 28 => ⟨S2x2x128, .f32⟩
  | 29 => ⟨S2x2046x128, .f32⟩
  | 30 => ⟨S2x2048x128, .f32⟩
  | 31 => ⟨S2048, .f32⟩
  | 32 => ⟨S_, .f32⟩
  | 33 => ⟨S2048, .f32⟩
  | 34 => ⟨S2048, .f32⟩
  | 35 => ⟨S_, .f32⟩
  | 36 => ⟨S2048, .f32⟩
  | 37 => ⟨S2048, .f32⟩
  | 38 => ⟨S2x2048x128, .f32⟩
  | 39 => ⟨S1x2048x1, .f32⟩
  | 40 => ⟨S2x2048x128, .f32⟩
  | 41 => ⟨S2x2048x128, .f32⟩
  | 42 => ⟨S2x2048x128, .f32⟩
  | 43 => ⟨S_, .f32⟩
  | 44 => ⟨S_, .f32⟩
  | 45 => ⟨S2x2048x128, .f32⟩
  | 46 => ⟨S_, .f32⟩
  | 47 => ⟨S2x4x128, .f32⟩
  | 48 => ⟨S2x2044x128, .f32⟩
  | 49 => ⟨S2x2048x128, .f32⟩
  | 50 => ⟨S2048, .f32⟩
  | 51 => ⟨S_, .f32⟩
  | 52 => ⟨S2048, .f32⟩
  | 53 => ⟨S2048, .f32⟩
  | 54 => ⟨S_, .f32⟩
  | 55 => ⟨S2048, .f32⟩
  | 56 => ⟨S2048, .f32⟩
  | 57 => ⟨S2x2048x128, .f32⟩
  | 58 => ⟨S1x2048x1, .f32⟩
  | 59 => ⟨S2x2048x128, .f32⟩
  | 60 => ⟨S2x2048x128, .f32⟩
  | 61 => ⟨S2x2048x128, .f32⟩
  | 62 => ⟨S_, .f32⟩
  | 63 => ⟨S_, .f32⟩
  | 64 => ⟨S2x2048x128, .f32⟩
  | 65 => ⟨S_, .f32⟩
  | 66 => ⟨S2x8x128, .f32⟩
  | 67 => ⟨S2x2040x128, .f32⟩
  | 68 => ⟨S2x2048x128, .f32⟩
  | 69 => ⟨S2048, .f32⟩
  | 70 => ⟨S_, .f32⟩
  | 71 => ⟨S2048, .f32⟩
  | 72 => ⟨S2048, .f32⟩
  | 73 => ⟨S_, .f32⟩
  | 74 => ⟨S2048, .f32⟩
  | 75 => ⟨S2048, .f32⟩
  | 76 => ⟨S2x2048x128, .f32⟩
  | 77 => ⟨S1x2048x1, .f32⟩
  | 78 => ⟨S2x2048x128, .f32⟩
  | 79 => ⟨S2x2048x128, .f32⟩
  | 80 => ⟨S2x2048x128, .f32⟩
  | 81 => ⟨S_, .f32⟩
  | 82 => ⟨S_, .f32⟩
  | 83 => ⟨S2x2048x128, .f32⟩
  | 84 => ⟨S_, .f32⟩
  | 85 => ⟨S2x16x128, .f32⟩
  | 86 => ⟨S2x2032x128, .f32⟩
  | 87 => ⟨S2x2048x128, .f32⟩
  | 88 => ⟨S2048, .f32⟩
  | 89 => ⟨S_, .f32⟩
  | 90 => ⟨S2048, .f32⟩
  | 91 => ⟨S2048, .f32⟩
  | 92 => ⟨S_, .f32⟩
  | 93 => ⟨S2048, .f32⟩
  | 94 => ⟨S2048, .f32⟩
  | 95 => ⟨S2x2048x128, .f32⟩
  | 96 => ⟨S1x2048x1, .f32⟩
  | 97 => ⟨S2x2048x128, .f32⟩
  | 98 => ⟨S2x2048x128, .f32⟩
  | 99 => ⟨S2x2048x128, .f32⟩
  | 100 => ⟨S2x2048x512, .f32⟩
  | 101 => ⟨S4096x1024, .f32⟩
  | 102 => ⟨S4096x1024, .f32⟩
  | 103 => ⟨S4096x1536, .f32⟩
  | 104 => ⟨S4096x512, .f32⟩
  | 105 => ⟨S2x2048x512, .bf16⟩
  | 106 => ⟨S4096x512, .bf16⟩
  | 107 => ⟨S31x512, .f32⟩
  | 108 => ⟨S4x128x128, .f32⟩
  | 109 => ⟨S_, .f32⟩
  | 110 => ⟨S8x128, .f32⟩
  | 111 => ⟨S4096x1024, .f32⟩
  | 112 => ⟨S4096x1536, .bf16⟩
  | 113 => ⟨S1x1024, .f32⟩
  | 114 => ⟨S31x512, .f32⟩
  | 115 => ⟨S1x512, .f32⟩
  | 116 => ⟨S1x512, .f32⟩
  | 117 => ⟨S1x512, .f32⟩
  | 118 => ⟨S4x128x128, .f32⟩
  | 119 => ⟨S1x512, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1536, .f32⟩
  | .local _ .vmem, ⟨5, _⟩ => ⟨S512x1536, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S1x1024, .f32⟩
  | .local _ .vmem, ⟨11, _⟩ => ⟨S31x512, .f32⟩
  | .local _ .vmem, ⟨12, _⟩ => ⟨S1x512, .f32⟩
  | .local _ .vmem, ⟨13, _⟩ => ⟨S1x512, .f32⟩
  | .local _ .vmem, ⟨14, _⟩ => ⟨S4x128x128, .f32⟩
  | .local _ .vmem, ⟨15, _⟩ => ⟨S1x512, .f32⟩
  | .local _ .vmem, ⟨16, _⟩ => ⟨S8x128, .f32⟩
  | .local _ .vmem, ⟨17, _⟩ => ⟨S512x1024, .f32⟩
  | .local _ .vmem, ⟨18, _⟩ => ⟨S512x1024, .f32⟩
  | .local _ .vmem, ⟨19, _⟩ => ⟨S512x1536, .bf16⟩
  | .local _ .vmem, ⟨20, _⟩ => ⟨S512x1536, .bf16⟩
  | .local _ .vmem, ⟨21, _⟩ => ⟨S1x1024, .f32⟩
  | .local _ .vmem, ⟨22, _⟩ => ⟨S31x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S4x128x128, .f32⟩
  | .local _ .vmem, ⟨27, _⟩ => ⟨S1x512, .f32⟩
  | .local _ .vmem, ⟨28, _⟩ => ⟨S1536x1024, .bf16⟩
  | .local _ .vmem, ⟨29, _⟩ => ⟨S1024x1024, .bf16⟩
  | .local _ .vmem, ⟨30, _⟩ => ⟨S32x512, .f32⟩
  | .local _ .vmem, ⟨31, _⟩ => ⟨S16x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_call0_call0_cst : Ref sig .tc := ⟨.hbm, 280, rfl⟩
abbrev main_call0_call0_v0 : Ref sig .tc := ⟨.hbm, 281, rfl⟩
abbrev main_v262 : Ref sig .tc := ⟨.hbm, 282, rfl⟩
abbrev main_cst_6 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_cst_7 : Ref sig .tc := ⟨.hbm, 288, rfl⟩
abbrev main_v267 : Ref sig .tc := ⟨.hbm, 289, rfl⟩
abbrev main_v268 : Ref sig .tc := ⟨.hbm, 290, rfl⟩
abbrev main_cst_8 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_call1_call0_cst : Ref sig .tc := ⟨.hbm, 299, rfl⟩
abbrev main_call1_call0_v0 : Ref sig .tc := ⟨.hbm, 300, rfl⟩
abbrev main_v276 : Ref sig .tc := ⟨.hbm, 301, rfl⟩
abbrev main_cst_9 : Ref sig .tc := ⟨.hbm, 302, rfl⟩
abbrev main_v277 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_cst_10 : Ref sig .tc := ⟨.hbm, 307, rfl⟩
abbrev main_v281 : Ref sig .tc := ⟨.hbm, 308, rfl⟩
abbrev main_v282 : Ref sig .tc := ⟨.hbm, 309, rfl⟩
abbrev main_cst_11 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_call2_call0_cst : Ref sig .tc := ⟨.hbm, 318, rfl⟩
abbrev main_call2_call0_v0 : Ref sig .tc := ⟨.hbm, 319, rfl⟩
abbrev main_v290 : Ref sig .tc := ⟨.hbm, 320, rfl⟩
abbrev main_cst_12 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_cst_13 : Ref sig .tc := ⟨.hbm, 326, rfl⟩
abbrev main_v295 : Ref sig .tc := ⟨.hbm, 327, rfl⟩
abbrev main_v296 : Ref sig .tc := ⟨.hbm, 328, rfl⟩
abbrev main_cst_14 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_call3_call0_cst : Ref sig .tc := ⟨.hbm, 337, rfl⟩
abbrev main_call3_call0_v0 : Ref sig .tc := ⟨.hbm, 338, rfl⟩
abbrev main_v304 : Ref sig .tc := ⟨.hbm, 339, rfl⟩
abbrev main_cst_15 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_cst_16 : Ref sig .tc := ⟨.hbm, 345, rfl⟩
abbrev main_v309 : Ref sig .tc := ⟨.hbm, 346, rfl⟩
abbrev main_v310 : Ref sig .tc := ⟨.hbm, 347, rfl⟩
abbrev main_cst_17 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_v326 : Ref sig .tc := ⟨.hbm, 364, rfl⟩
abbrev main_cst_18 : Ref sig .tc := ⟨.hbm, 365, rfl⟩
abbrev main_v327 : Ref sig .tc := ⟨.hbm, 366, rfl⟩
abbrev main_v328_0 : Ref sig .tc := ⟨.hbm, 367, rfl⟩
abbrev main_v328_1 : Ref sig .tc := ⟨.hbm, 368, rfl⟩
abbrev main_v328_2 : Ref sig .tc := ⟨.hbm, 369, rfl⟩
abbrev main_v328_3 : Ref sig .tc := ⟨.hbm, 370, rfl⟩
abbrev main_v328_4 : Ref sig .tc := ⟨.hbm, 371, rfl⟩
abbrev main_v328_5 : Ref sig .tc := ⟨.hbm, 372, rfl⟩
abbrev main_v328_6 : Ref sig .tc := ⟨.hbm, 373, rfl⟩
abbrev main_v328_7 : Ref sig .tc := ⟨.hbm, 374, rfl⟩
abbrev main_v328_8 : Ref sig .tc := ⟨.hbm, 375, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S31x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Kernel6.lean ====
abbrev S2x2048x1024 : Shape := ⟨3, ![2, 2048, 1024]⟩
abbrev S2x256x1024 : Shape := ⟨3, ![2, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1024x1024 : Shape := ⟨2, ![1024, 1024]⟩
abbrev S1024x2048 : Shape := ⟨2, ![1024, 2048]⟩
abbrev S2048x1024 : Shape := ⟨2, ![2048, 1024]⟩
abbrev S8x128x1024 : Shape := ⟨3, ![8, 128, 1024]⟩
abbrev S8x256x1024 : Shape := ⟨3, ![8, 256, 1024]⟩
abbrev S8x512x1024 : Shape := ⟨3, ![8, 512, 1024]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2048 : Shape := ⟨3, ![2, 256, 2048]⟩
abbrev S4096x1024 : Shape := ⟨2, ![4096, 1024]⟩
abbrev S512x2048 : Shape := ⟨2, ![512, 2048]⟩
abbrev S256x2048 : Shape := ⟨2, ![256, 2048]⟩
abbrev S2 : Shape := ⟨1, ![2]⟩
abbrev S1 : Shape := ⟨1, ![1]⟩
abbrev S128x1024 : Shape := ⟨2, ![128, 1024]⟩
abbrev S1x128x1024 : Shape := ⟨3, ![1, 128, 1024]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 42
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024x2048, .f32⟩
  | .hbm, ⟨6, _⟩ => ⟨S1x1024x1024, .f32⟩
  | .hbm, ⟨7, _⟩ => ⟨S1024x1024, .f32⟩
  | .hbm, ⟨8, _⟩ => ⟨S1024x2048, .f32⟩
  | .hbm, ⟨9, _⟩ => ⟨S2048x1024, .f32⟩
  | .hbm, ⟨10, _⟩ => ⟨S1024x1024, .f32⟩
  | .hbm, ⟨11, _⟩ => ⟨S8x128x1024, .f32⟩
  | .hbm, ⟨12, _⟩ => ⟨S8x256x1024, .f32⟩
  | .hbm, ⟨13, _⟩ => ⟨S8x128x1024, .f32⟩
  | .hbm, ⟨14, _⟩ => ⟨S8x512x1024, .f32⟩
  | .hbm, ⟨15, _⟩ => ⟨S8x512x1024, .bf16⟩
  | .hbm, ⟨16, _⟩ => ⟨S1024, .f32⟩
  | .hbm, ⟨17, _⟩ => ⟨S2x256x1024, .f32⟩
  | .hbm, ⟨18, _⟩ => ⟨S_, .f32⟩
  | .hbm, ⟨19, _⟩ => ⟨S2x256, .f32⟩
  | .hbm, ⟨20, _⟩ => ⟨S2x256x1, .f32⟩
  | .hbm, ⟨21, _⟩ => ⟨S_, .f32⟩
  | .hbm, ⟨22, _⟩ => ⟨S2x256x1, .f32⟩
  | .hbm, ⟨23, _⟩ => ⟨S2x256x1, .f32⟩
  | .hbm, ⟨24, _⟩ => ⟨S_, .f32⟩
  | .hbm, ⟨25, _⟩ => ⟨S2x256x1, .f32⟩
  | .hbm, ⟨26, _⟩ => ⟨S2x256x1, .f32⟩
  | .hbm, ⟨27, _⟩ => ⟨S2x256x1, .f32⟩
  | .hbm, ⟨28, _⟩ => ⟨S2x256x1024, .f32⟩
  | .hbm, ⟨29, _⟩ => ⟨S2x256x1024, .f32⟩
  | .hbm, ⟨30, _⟩ => ⟨S1x1x1024, .f32⟩
  | .hbm, ⟨31, _⟩ => ⟨S2x256x1024, .f32⟩
  | .hbm, ⟨32, _⟩ => ⟨S2x256x1024, .f32⟩
  | .hbm, ⟨33, _⟩ => ⟨S1024x2048, .f32⟩
  | .hbm, ⟨34, _⟩ => ⟨S2x256x2048, .f32⟩
  | .hbm, ⟨35, _⟩ => ⟨S2x256x2048, .bf16⟩
  | .hbm, ⟨36, _⟩ => ⟨S4096x1024, .f32⟩
  | .hbm, ⟨37, _⟩ => ⟨S512x2048, .bf16⟩
  | .hbm, ⟨38, _⟩ => ⟨S4096x1024, .f32⟩
  | .hbm, ⟨39, _⟩ => ⟨S4096x1024, .bf16⟩
  | .hbm, ⟨40, _⟩ => ⟨S4096x1024, .bf16⟩
  | .hbm, ⟨41, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S256x2048, .bf16⟩
  | .local _ .vmem, ⟨3, _⟩ => ⟨S256x2048, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_v28_2 : Ref sig .tc := ⟨.hbm, 40, rfl⟩
abbrev main_v28_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S2x2048x1024 : Shape := ⟨3, ![2, 2048, 1024]⟩
abbrev S2x256x1024 : Shape := ⟨3, ![2, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x1024 : Shape := ⟨2, ![1024, 1024]⟩
abbrev S2x256 : Shape := ⟨2, ![2, 256]⟩
abbrev S2x256x1 : Shape := ⟨3, ![2, 256, 1]⟩
abbrev S1024x2048 : Shape := ⟨2, ![1024, 2048]⟩
abbrev S2x256x2048 : Shape := ⟨3, ![2, 256, 2048]⟩
abbrev S2x256x4x256 : Shape := ⟨4, ![2, 256, 4, 256]⟩
abbrev S2x2048x4x256 : Shape := ⟨4, ![2, 2048, 4, 256]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S4096x1024 : Shape := ⟨2, ![4096, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024x2048, .f32⟩
  | .hbm, ⟨6, _⟩ => ⟨S1x1024x1024, .f32⟩
  | .hbm, ⟨7, _⟩ => ⟨S1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S1024x1024, .f32⟩
  | .hbm, ⟨25, _⟩ => ⟨S2x2048x1024, .f32⟩
  | .hbm, ⟨26, _⟩ => ⟨S1024, .f32⟩
  | .hbm, ⟨27, _⟩ => ⟨S2x256x1024, .f32⟩
  | .hbm, ⟨28, _⟩ => ⟨S_, .f32⟩
  | .hbm, ⟨29, _⟩ => ⟨S2x256, .f32⟩
  | .hbm, ⟨30, _⟩ => ⟨S2x256x1, .f32⟩
  | .hbm, ⟨31, _⟩ => ⟨S_, .f32⟩
  | .hbm, ⟨32, _⟩ => ⟨S2x256x1, .f32⟩
  | .hbm, ⟨33, _⟩ => ⟨S2x256x1, .f32⟩
  | .hbm, ⟨34, _⟩ => ⟨S_, .f32⟩
  | .hbm, ⟨35, _⟩ => ⟨S2x256x1, .f32⟩
  | .hbm, ⟨36, _⟩ => ⟨S2x256x1, .f32⟩
  | .hbm, ⟨37, _⟩ => ⟨S2x256x1, .f32⟩
  | .hbm, ⟨38, _⟩ => ⟨S2x256x1024, .f32⟩
  | .hbm, ⟨39, _⟩ => ⟨S2x256x1024, .f32⟩
  | .hbm, ⟨40, _⟩ => ⟨S1x1x1024, .f32⟩
  | .hbm, ⟨41, _⟩ => ⟨S2x256x1024, .f32⟩
  | .hbm, ⟨42, _⟩ => ⟨S2x256x1024, .f32⟩
  | .hbm, ⟨43, _⟩ => ⟨S1024x2048, .f32⟩
  | .hbm, ⟨44, _⟩ => ⟨S2x256x2048, .f32⟩
  | .hbm, ⟨45, _⟩ => ⟨S2x256x1024, .f32⟩
  | .hbm, ⟨46, _⟩ => ⟨S2x256x1024, .f32⟩
  | .hbm, ⟨47, _⟩ => ⟨S2x256x4x256, .f32⟩
  | .hbm, ⟨48, _⟩ => ⟨S2x256x4x256, .f32⟩
  | .hbm, ⟨49, _⟩ => ⟨S2x2048x4x256, .f32⟩
  | .hbm, ⟨50, _⟩ => ⟨S2x4x2048x256, .f32⟩
  | .hbm, ⟨51, _⟩ => ⟨S_, .f32⟩
  | .hbm, ⟨52, _⟩ => ⟨S2x4x2048x256, .f32⟩
  | .hbm, ⟨53, _⟩ => ⟨S2x4x2048x256, .f32⟩
  | .hbm, ⟨54, _⟩ => ⟨S_, .f32⟩
  | .hbm, ⟨55, _⟩ => ⟨S2x4x2048, .f32⟩
  | .hbm, ⟨56, _⟩ => ⟨S_, .f32⟩
  | .hbm, ⟨57, _⟩ => ⟨S2x4x2048, .f32⟩
  | .hbm, ⟨58, _⟩ => ⟨S2x4x2048, .f32⟩
  | .hbm, ⟨59, _⟩ => ⟨S2x4x2048x1, .f32⟩
  | .hbm, ⟨60, _⟩ => ⟨S2x4x2048x256, .f32⟩
  | .hbm, ⟨61, _⟩ => ⟨S2x4x2048x256, .f32⟩
  | .hbm, ⟨62, _⟩ => ⟨S2x4x2048x256, .f32⟩
  | .hbm, ⟨63, _⟩ => ⟨S_, .f32⟩
  | .hbm, ⟨64, _⟩ => ⟨S2x4x2048, .f32⟩
  | .hbm, ⟨65, _⟩ => ⟨S2x4x2048x1, .f32⟩
  | .hbm, ⟨66, _⟩ => ⟨S2x4x2048x256, .f32⟩
  | .hbm, ⟨67, _⟩ => ⟨S2x4x2048x256, .f32⟩
  | .hbm, ⟨68, _⟩ => ⟨S2x4x256x2048, .f32⟩
  | .hbm, ⟨69, _⟩ => ⟨S2x2048x4x256, .f32⟩
  | .hbm, ⟨70, _⟩ => ⟨S2x2048x1024, .f32⟩
  | .hbm, ⟨71, _⟩ => ⟨S1024x1024, .f32⟩
  | .hbm, ⟨72, _⟩ => ⟨S2x2048x1024, .f32⟩
  | .hbm, ⟨73, _⟩ => ⟨S2x2048x1024, .f32⟩
  | .hbm, ⟨74, _⟩ => ⟨S4096x1024, .f32⟩
  | .hbm, ⟨75, _⟩ => ⟨S4096x1024, .f32⟩
  | .hbm, ⟨76, _⟩ => ⟨S4096x1024, .bf16⟩
  | .hbm, ⟨77, _⟩ => ⟨S_, .f32⟩
  | .hbm, ⟨78, _⟩ => ⟨S2x2048x1024, .f32⟩
  | .hbm, ⟨79, _⟩ => ⟨S2x2048x1024, .f32⟩
  | .hbm, ⟨80, _⟩ => ⟨S4096x1024, .f32⟩
  | .hbm, ⟨81, _⟩ => ⟨S4096x1024, .bf16⟩
  | .hbm, ⟨82, _⟩ => ⟨S4096x1024, .f32⟩
  | .hbm, ⟨83, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel7.lean ====
abbrev S2x256x1024 : Shape := ⟨3, ![2, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1024x1024 : Shape := ⟨2, ![1024, 1024]⟩
abbrev S1024x2048 : Shape := ⟨2, ![1024, 2048]⟩
abbrev S2048x1024 : Shape := ⟨2, ![2048, 1024]⟩
abbrev S8x128x1024 : Shape := ⟨3, ![8, 128, 1024]⟩
abbrev S8x256x1024 : Shape := ⟨3, ![8, 256, 1024]⟩
abbrev S8x512x1024 : Shape := ⟨3, ![8, 512, 1024]⟩
abbrev S512x1024 : Shape := ⟨2, ![512, 1024]⟩
abbrev S512x2048 : Shape := ⟨2, ![512, 2048]⟩
abbrev S256x1024 : Shape := ⟨2, ![256, 1024]⟩
abbrev S256x2048 : Shape := ⟨2, ![256, 2048]⟩
abbrev S_ : Shape := ⟨0, ![]⟩
abbrev S1x256x1024 : Shape := ⟨3, ![1, 256, 1024]⟩
abbrev S256 : Shape := ⟨1, ![256]⟩
abbrev S256x1 : Shape := ⟨2, ![256, 1]⟩

abbrev nBuf : Space → Nat
  | .hbm => 17
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1x1024x2048, .f32⟩
  | .hbm, ⟨4, _⟩ => ⟨S1x1024x1024, .f32⟩
  | .hbm, ⟨5, _⟩ => ⟨S1024x1024, .f32⟩
  | .hbm, ⟨6, _⟩ => ⟨S1024x2048, .f32⟩
  | .hbm, ⟨7, _⟩ => ⟨S2048x1024, .f32⟩
  | .hbm, ⟨8, _⟩ => ⟨S1024x1024, .f32⟩
  | .hbm, ⟨9, _⟩ => ⟨S8x128x1024, .f32⟩
  | .hbm, ⟨10, _⟩ => ⟨S8x256x1024, .f32⟩
  | .hbm, ⟨11, _⟩ => ⟨S8x128x1024, .f32⟩
  | .hbm, ⟨12, _⟩ => ⟨S8x512x1024, .f32⟩
  | .hbm, ⟨13, _⟩ => ⟨S8x512x1024, .bf16⟩
  | .hbm, ⟨14, _⟩ => ⟨S512x1024, .f32⟩
  | .hbm, ⟨15, _⟩ => ⟨S512x1024, .bf16⟩
  | .hbm, ⟨16, _⟩ => ⟨S512x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x2048, .bf16⟩
  | .local _ .vmem, ⟨6, _⟩ => ⟨S256x2048, .bf16⟩
  | .local _ .vmem, ⟨7, _⟩ => ⟨S2048x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S2x256x1024 : Shape := ⟨3, ![2, 256, 1024]⟩
abbrev S1x1024 : Shape := ⟨2, ![1, 1024]⟩
abbrev S1x1024x1024 : Shape := ⟨3, ![1, 1024, 1024]⟩
abbrev S1x1024x2048 : Shape := ⟨3, ![1, 1024, 2048]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S512x1024 : Shape := ⟨2, ![512, 1024]⟩
abbrev S1024x2048 : Shape := ⟨2, ![1024, 2048]⟩
abbrev S2x256x2048 : Shape := ⟨3, ![2, 256, 2048]⟩
abbrev S512x2048 : Shape := ⟨2, ![512, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1x1024x2048, .f32⟩
  | .hbm, ⟨4, _⟩ => ⟨S1x1024x1024, .f32⟩
  | .hbm, ⟨5, _⟩ => ⟨S1024, .f32⟩
  | .hbm, ⟨6, _⟩ => ⟨S2x256x1024, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x1024, .f32⟩
  | .hbm, ⟨18, _⟩ => ⟨S2x256x1024, .f32⟩
  | .hbm, ⟨19, _⟩ => ⟨S1x1x1024, .f32⟩
  | .hbm, ⟨20, _⟩ => ⟨S2x256x1024, .f32⟩
  | .hbm, ⟨21, _⟩ => ⟨S2x256x1024, .f32⟩
  | .hbm, ⟨22, _⟩ => ⟨S512x1024, .f32⟩
  | .hbm, ⟨23, _⟩ => ⟨S512x1024, .bf16⟩
  | .hbm, ⟨24, _⟩ => ⟨S1024x2048, .f32⟩
  | .hbm, ⟨25, _⟩ => ⟨S2x256x2048, .f32⟩
  | .hbm, ⟨26, _⟩ => ⟨S512x2048, .f32⟩
  | .hbm, ⟨27, _⟩ => ⟨S512x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Gathered.lean ====
/-
  The weights of the training step reach every call as one array gathered over the eight devices: slice `d` holds
  device `d`'s rows of each weight, one weight under the other. A call copies one weight into a scratch buffer by eight
  transfers, one per device, and reads the buffer whole afterwards. Here is what that buffer then holds.
-/
module

public import Idealize.ShloMosaic.Lib.ValueLayout
public import Idealize.ShloMosaic.Lib.Writes
public import Idealize.ShloMosaic.Lib.Pipeline.Value
public import Idealize.ShloMosaic.Lib.Pipeline.FrameBody

@[expose] public section

namespace Cert.Gathered

open Idealize.ShloMosaic Idealize.ShloMosaic.ValueIdx

/-- The weight whose rows lie at rows `off … off + R` of each of the eight slices of the gathered array `g`: row `y` of
    the weight is row `off + y % R` of slice `y / R`. -/
def stack {α : Type} {N C : ℕ} (T R off : ℕ) (hT : T = 8 * R) (hR : off + R ≤ N) (g : (⟨3, ![8, N, C]⟩ : Shape).Idx → α) :
    (⟨2, ![T, C]⟩ : Shape).Idx → α := fun y =>
  g (ix3 (⟨(y (0 : Fin 2)).val / R, by
        have h : (y (0 : Fin 2)).val < T := (y (0 : Fin 2)).isLt
        exact Nat.div_lt_of_lt_mul (by rw [Nat.mul_comm]; exact hT ▸ h)⟩ : Fin 8)
      (⟨off + (y (0 : Fin 2)).val % R, by
        have h : (y (0 : Fin 2)).val < T := (y (0 : Fin 2)).isLt
        have hpos : 0 < R := by rcases Nat.eq_zero_or_pos R with h0 | h0; · subst h0; omega
                                · exact h0
        have := Nat.mod_lt (y (0 : Fin 2)).val hpos; omega⟩ : Fin N)
      (⟨(y (1 : Fin 2)).val, (y (1 : Fin 2)).isLt⟩ : Fin C))

/-- A transfer's payload: slice `d`'s rows `off … off + R` of the gathered array, read at `x`, is the weight at row
    `d * R + x`. -/
theorem payload {sig : RefSig} {κ : Kind} {sp : Space} {e : EltTy} {Val : EltTy → Type} {N C : ℕ} {T R off : ℕ} (hT : T = 8 * R) (hR : off + R ≤ N)
    (M : Memref sig κ sp (⟨3, ![8, N, C]⟩ : Shape) e) (G : M.view.ty.Contents Val) (d o : ℕ) (hd : d < 8) (ho : o = d * R)
    (inb : ∀ a, (![d, off, 0] : Fin 3 → ℕ) a + (![1, R, C] : Fin 3 → ℕ) a ≤ (⟨3, ![8, N, C]⟩ : Shape).size a)
    (hs : ∀ a, (Rect.unit (s := ⟨3, ![8, N, C]⟩) ![d, off, 0] ![1, R, C] inb).stride a = 1)
    (hq : (Rect.unit (s := ⟨3, ![8, N, C]⟩) ![d, off, 0] ![1, R, C] inb).shape.Squeezes (⟨2, ![R, C]⟩ : Shape))
    (inb' : ∀ a, (![o, 0] : Fin 2 → ℕ) a + (![R, C] : Fin 2 → ℕ) a ≤ (⟨2, ![T, C]⟩ : Shape).size a)
    (x : (⟨2, ![R, C]⟩ : Shape).Idx) :
    ((M.slice (Rect.unit ![d, off, 0] ![1, R, C] inb) hs).squeeze (⟨2, ![R, C]⟩ : Shape) hq).view.read Val G x
      = stack T R off hT hR (M.view.read Val G) ((Rect.unit (s := ⟨2, ![T, C]⟩) ![o, 0] ![R, C] inb').emb x) := by
  subst ho
  obtain ⟨x0, x1, rfl⟩ : ∃ (x0 : Fin R) (x1 : Fin C), x = ix2 x0 x1 := ⟨x 0, x 1, funext fun a => by
    match a with
    | ⟨0, _⟩ => rfl
    | ⟨1, _⟩ => rfl⟩
  show M.view.read Val G ((Rect.unit ![d, off, 0] ![1, R, C] inb).emb (Shape.reshapeEquiv hq.numel_eq (ix2 x0 x1))) = _
  rw [show Shape.reshapeEquiv hq.numel_eq (ix2 x0 x1) = ix3 (⟨0, Nat.one_pos⟩ : Fin 1) x0 x1 from reshapeEquiv_ix2_1ab _ x0 x1]
  have hx := x0.isLt
  unfold stack
  refine congrArg (M.view.read Val G) (funext fun a => Fin.ext ?_)
  match a with
  | ⟨0, _⟩ =>
    show d + 1 * 0 = (d * R + 1 * x0.val) / R
    rw [Nat.one_mul x0.val, Nat.mul_comm d R, Nat.mul_add_div (by omega), Nat.div_eq_of_lt hx]
  | ⟨1, _⟩ =>
    show off + 1 * x0.val = off + (d * R + 1 * x0.val) % R
    rw [Nat.one_mul, Nat.mul_comm d R, Nat.mul_add_mod, Nat.mod_eq_of_lt hx]
  | ⟨2, _⟩ => show 0 + 1 * x1.val = 0 + 1 * x1.val; rfl

/-- One of the writes: rows `d·R … d·R + R` of the scratch buffer take device `d`'s rows of the gathered array. -/
def IsPiece {sig : RefSig} {κ : Kind} {sp : Space} {e : EltTy} {Val : EltTy → Type} {N C : ℕ} (T R off : ℕ)
    (M : Memref sig κ sp (⟨3, ![8, N, C]⟩ : Shape) e) (G : M.view.ty.Contents Val) (d : ℕ)
    (p : View.Piece Val (⟨2, ![T, C]⟩ : Shape) e) : Prop :=
  ∃ inb' inb hs hq, p = ⟨Rect.unit (s := ⟨2, ![T, C]⟩) ![d * R, 0] ![R, C] inb',
    ((M.slice (Rect.unit ![d, off, 0] ![1, R, C] inb) hs).squeeze (⟨2, ![R, C]⟩ : Shape) hq).view.read Val G⟩

/-- After the eight transfers, newest first in the list of writes, the scratch buffer holds the weight, whatever it held
    before. -/
theorem loaded {sig : RefSig} {κ κ' : Kind} {sp sp' : Space} {e : EltTy} {Val : EltTy → Type} {N C T R off : ℕ} (hT : T = 8 * R) (hpos : 0 < R)
    (hR : off + R ≤ N) (M : Memref sig κ sp (⟨3, ![8, N, C]⟩ : Shape) e) (G : M.view.ty.Contents Val)
    (v : View sig κ' sp' (⟨2, ![T, C]⟩ : Shape) e) (f : v.ty.Contents Val)
    (L : List (View.Piece Val (⟨2, ![T, C]⟩ : Shape) e)) (hlen : L.length = 8)
    (hL : ∀ (d : ℕ) (hd : d < 8), IsPiece T R off M G d (L[7 - d]'(hlen ▸ Nat.lt_of_le_of_lt (Nat.sub_le 7 d) (by decide)))) :
    v.read Val (v.writes Val f L) = stack T R off hT hR (M.view.read Val G) := funext fun y => by
  refine View.read_writes_apply_of_pieces _ _ (stack T R off hT hR (M.view.read Val G)) L (fun p hp x => ?_) y ?_
  · obtain ⟨n, hn, rfl⟩ := List.mem_iff_getElem.mp hp
    have hn8 : n < 8 := hlen ▸ hn
    have key : ∀ p, IsPiece T R off M G (7 - n) p → ∀ x, p.2 x = stack T R off hT hR (M.view.read Val G) (p.1.emb x) := by
      rintro _ ⟨inb', inb, hs, hq, rfl⟩ x
      exact payload hT hR M G (7 - n) _ (by omega) rfl inb hs hq inb' x
    refine key _ ?_ x
    have h := hL (7 - n) (by omega)
    have e : L[7 - (7 - n)]'(by omega) = L[n] := getElem_congr_idx (by omega)
    exact e ▸ h
  · have h0 : (y (0 : Fin 2)).val < T := (y (0 : Fin 2)).isLt
    have h1 : (y (1 : Fin 2)).val < C := (y (1 : Fin 2)).isLt
    obtain ⟨inb', inb, hs, hq, h⟩ := hL ((y (0 : Fin 2)).val / R) (Nat.div_lt_of_lt_mul (by rw [Nat.mul_comm]; exact hT ▸ h0))
    refine ⟨_, List.getElem_mem (l := L) (n := 7 - (y (0 : Fin 2)).val / R) (by rw [hlen]; exact Nat.lt_of_le_of_lt (Nat.sub_le _ _) (by decide)), ?_⟩
    rw [h]
    show y ∈ (Rect.unit (s := ⟨2, ![T, C]⟩) ![(y (0 : Fin 2)).val / R * R, 0] ![R, C] inb').set
    rw [Rect.mem_set_unit]
    have hd := Nat.div_add_mod (y (0 : Fin 2)).val R
    have hm := Nat.mod_lt (y (0 : Fin 2)).val hpos
    rw [Nat.mul_comm] at hd
    intro a
    match a with
    | ⟨0, _⟩ =>
      show (y (0 : Fin 2)).val / R * R ≤ (y (0 : Fin 2)).val ∧ (y (0 : Fin 2)).val < (y (0 : Fin 2)).val / R * R + R
      omega
    | ⟨1, _⟩ => exact ⟨Nat.zero_le _, (Nat.zero_add C).symm ▸ h1⟩

/-- The gathered array is packed by laying the weights, each cut into eight slices, one under the other: taking one weight
    back out of it gives that weight. -/
theorem stack_packed {α : Type} {N C T R off : ℕ} (hT : T = 8 * R) (hR : off + R ≤ N)
    (xs : List ((s : Shape) × (s.Idx → α))) (h : Shape.Concatenates (xs.map (·.1)) (⟨3, ![8, N, C]⟩ : Shape) 1)
    (k : ℕ) (hk : k < xs.length) (A : (⟨2, ![T, C]⟩ : Shape).Idx → α)
    (hc : (⟨2, ![T, C]⟩ : Shape).ShapeCasts ⟨3, ![8, R, C]⟩) (hxk : xs[k] = ⟨⟨3, ![8, R, C]⟩, shapeCast _ A hc⟩)
    (hpre : (((xs.take k).map (·.1)).map fun s => if h : s.rank = 3 then s.size ((1 : Fin 3).cast h.symm) else 0).sum = off) :
    stack T R off hT hR (concatenate (⟨3, ![8, N, C]⟩ : Shape) 1 xs h) = A := funext fun y => by
  have h0 : (y (0 : Fin 2)).val < T := (y (0 : Fin 2)).isLt
  have hpos : 0 < R := by omega
  have hd := Nat.div_add_mod (y (0 : Fin 2)).val R
  unfold stack
  rw [concatenate_apply_piece 1 xs h _ k hk _ _ hxk rfl off hpre
    (ix3 (⟨(y (0 : Fin 2)).val / R, Nat.div_lt_of_lt_mul (by rw [Nat.mul_comm]; exact hT ▸ h0)⟩ : Fin 8)
      (⟨(y (0 : Fin 2)).val % R, Nat.mod_lt _ hpos⟩ : Fin R) (⟨(y (1 : Fin 2)).val, (y (1 : Fin 2)).isLt⟩ : Fin C))
    (fun b hb => match b with
      | ⟨0, _⟩ => rfl
      | ⟨1, _⟩ => absurd rfl hb
      | ⟨2, _⟩ => rfl) rfl]
  refine shapeCast_apply _ _ _ _ ?_
  rw [Shape.rowMajor_val_two, Shape.rowMajor_val_three]
  show (y (0 : Fin 2)).val * C + (y (1 : Fin 2)).val
    = ((y (0 : Fin 2)).val / R * R + (y (0 : Fin 2)).val % R) * C + (y (1 : Fin 2)).val
  rw [Nat.mul_comm _ R, hd]

end Cert.Gathered
-- ==== Proof.KvBody.lean ====
/-
  The call that turns the cotangent of the memory's keys and values into the gradient of the memory's norm weight: its
  body, run once at the first grid point (where it loads its weight and clears the sum) and once at a later one.
-/
module

public import proofs.«01_k».proof.Proof.Gathered
public import proofs.«01_k».proof.Proof.Gen.KernelIdeal.Frame
public import proofs.«01_k».proof.Proof.Gen.KernelIdeal.Skeleton
public import Idealize.ShloMosaic.Lib.Batch
public import Idealize.ShloMosaic.Lib.VecWindow

@[expose] public section

set_option maxRecDepth 16384

noncomputable section

namespace Cert.KernelIdeal.Kv

open Cert.KernelIdeal Cert.KernelIdeal.Gen Cert.Gathered
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's test: the grid coordinate is zero. -/
abbrev first (i : grid0.Coords) : Prop :=
  Scalar.cmpi .ne (Scalar.extui (Scalar.cmpi .eq (BitVec.ofNat 32 (i 0).val) 0#32) : BitVec 32) 0#32 = 1#1

/-- The gathered weights, and the scratch buffer the weight is loaded into. -/
abbrev hbM : Memref sig .tc .hbm S8x512x1024 .bf16 := Memref.whole main_v8
abbrev scM : Memref sig .tc .vmem S2048x1024 .bf16 := Memref.whole cc0_scratch0

/-- The key/value projection, transposed, as the gathered array holds it: device `d`'s 256 rows start at row 128 of its slice. -/
def wkv (g : Vec F S8x512x1024 .bf16) : Vec F S2048x1024 .bf16 := stack 2048 256 128 rfl (by decide) g

set_option maxHeartbeats 4000000 in
/-- The body at the first grid point: the weight is loaded, the sum starts at zero. -/
theorem run_first (c : Dev nD) (i : grid0.Coords) (hi : first i)
    (arg1 : Memref sig .tc .vmem S256x2048 .f32) (harg1 : arg1.IsWhole) (arg2 : Memref sig .tc .vmem S256x1024 .f32) (harg2 : arg2.IsWhole)
    (arg4 : Memref sig .tc .vmem S256x2048 .bf16) (harg4 : arg4.IsWhole) (arg5 : Memref sig .tc .vmem S1x1024 .f32) (harg5 : arg5.IsWhole)
    (x0 : Vec F S256x2048 .f32) (x1 : Vec F S256x1024 .f32) (G : Buf (Elt F) (hbM.view.loc (c : Thread nD τ)))
    (W : Waits sig Unit) (K : PUnit → sProp 𝕄) :
    iprop(owns (c : Thread nD τ) arg1 fullShare x0 ∗ owns (c : Thread nD τ) arg2 fullShare x1
        ∗ (∃ d, owns (c : Thread nD τ) arg4 fullShare d) ∗ (∃ d, owns (c : Thread nD τ) arg5 fullShare d)
        ∗ (∃ fs : Buf (Elt F) (scM.view.loc (c : Thread nD τ)), (scM.view.loc (c : Thread nD τ) ↦{fullShare} fs))
        ∗ semVal ((c : Thread nD τ), SemLoc.dma 7) 0
        ∗ (hbM.view.loc (c : Thread nD τ) ↦{fullShare} G)
        ∗ owes (c : Thread nD τ) 0 W
        ∗ (iprop(owns (c : Thread nD τ) arg1 fullShare x0 ∗ owns (c : Thread nD τ) arg2 fullShare x1
            ∗ owns (c : Thread nD τ) arg4 fullShare (k0_pay2 x0)
            ∗ owns (c : Thread nD τ) arg5 fullShare (k0_pay3 x0 (wkv (hbM.view.read (Elt F) G)) x1 k0_pay1)
            ∗ owns (c : Thread nD τ) scM fullShare (wkv (hbM.view.read (Elt F) G))
            ∗ semVal ((c : Thread nD τ), SemLoc.dma 7) 0
            ∗ (hbM.view.loc (c : Thread nD τ) ↦{fullShare} G)
            ∗ (∃ W', owes (c : Thread nD τ) 0 W')) -∗ K ⟨⟩))
      ⊢ wp frame (wpE (defs₀ (F := F)) Variants.none c none) Set.univ
          (cc0_bwd_kv i arg1 harg1 arg2 harg2 hbM (Memref.isWhole_whole _) arg4 harg4 arg5 harg5 scM (Memref.isWhole_whole _) cc0_scratch1) K := by
  have _plan : Transfers.BatchOf (c : Thread nD τ) (SemLoc.dma (sig := sig) 7) 8 (windows := true) := ⟨⟩
  rw [cc0_bwd_kv_eq_skeleton]; unfold cc0_bwd_kv_skel; rw [k0_part1_eq_skeleton, k0_part2_eq_skeleton]; unfold k0_part1_skel k0_part2_skel
  unfold owns
  iintro ⟨⟨%f1, %hf1, H1⟩, ⟨%f2, %hf2, H2⟩, ⟨%d4, %f4, -, H4⟩, ⟨%d5, %f5, -, H5⟩, ⟨%fs, HS⟩, Hq, Hh, HW, Hk⟩
  sl_exec (disch := first | sl_exact hi)
  sl_step
  -- what the eight transfers leave in the scratch buffer
  have hL : ∀ f : scM.view.ty.Contents (Elt F), scM.view.read (Elt F) (scM.view.writes (Elt F) f
      [⟨Rect.unit ![1792, 0] S256x1024.size inb_S2048x1024_S256x1024_1792_0, run_first.sl.dma7 c G⟩,
        ⟨Rect.unit ![1536, 0] S256x1024.size inb_S2048x1024_S256x1024_1536_0, run_first.sl.dma6 c G⟩,
        ⟨Rect.unit ![1280, 0] S256x1024.size inb_S2048x1024_S256x1024_1280_0, run_first.sl.dma5 c G⟩,
        ⟨Rect.unit ![1024, 0] S256x1024.size inb_S2048x1024_S256x1024_1024_0, run_first.sl.dma4 c G⟩,
        ⟨Rect.unit ![768, 0] S256x1024.size inb_S2048x1024_S256x1024_768_0, run_first.sl.dma3 c G⟩,
        ⟨Rect.unit ![512, 0] S256x1024.size inb_S2048x1024_S256x1024_512_0, run_first.sl.dma2 c G⟩,
        ⟨Rect.unit ![256, 0] S256x1024.size inb_S2048x1024_S256x1024_256_0, run_first.sl.dma1 c G⟩,
        ⟨Rect.unit ![0, 0] S256x1024.size inb_S2048x1024_S256x1024_0_0, run_first.sl.dma0 c G⟩])
        = wkv (hbM.view.read (Elt F) G) := fun f =>
    loaded (T := 2048) (R := 256) (off := 128) rfl (by decide) (by decide) hbM G _ f _ rfl fun d hd => by interval_cases d <;> exact ⟨_, _, _, _, rfl⟩
  have h1 : ∀ h, View.readAt (Elt F) arg1.view (Rect.unit ![0, 0] S256x2048.size h).toLoadRect f1 = x0 := fun h => (View.readAt_full ..).trans hf1
  have h2 : ∀ h, View.readAt (Elt F) arg2.view (Rect.unit ![0, 0] S256x1024.size h).toLoadRect f2 = x1 := fun h => (View.readAt_full ..).trans hf2
  iapply Hk
  isplitl [H1]; · iexists _; isplitr; swap; · iexact H1
                  ipureintro; exact hf1
  isplitl [H2]; · iexists _; isplitr; swap; · iexact H2
                  ipureintro; exact hf2
  isplitl [H4]
  · iexists _; isplitr; swap; · iexact H4
    ipureintro; rw [View.read_writes_full, h1]
  isplitl [H5]
  · iexists _; isplitr; swap; · iexact H5
    ipureintro; rw [View.read_writes_full, h1, h2]
    refine congrArg₂ (fun w a => k0_pay3 x0 w x1 a) ?_ (View.readCov_full ..)
    exact (View.readAt_full ..).trans (hL _)
  isplitl [HS]
  · iexists _; isplitr; swap; · rw [(Memref.isWhole_whole cc0_scratch0).set_eq_univ]; iexact HS
    ipureintro; exact hL fs
  isplitl [Hq]; · iexact Hq
  isplitl [Hh]; · iexact Hh
  iexists _; iexact HW

set_option maxHeartbeats 1000000 in
/-- The body at a later grid point: the weight is in the scratch buffer and the sum so far in its block. -/
theorem run_later (c : Dev nD) (i : grid0.Coords) (hi : ¬first i)
    (arg1 : Memref sig .tc .vmem S256x2048 .f32) (harg1 : arg1.IsWhole) (arg2 : Memref sig .tc .vmem S256x1024 .f32) (harg2 : arg2.IsWhole)
    (arg4 : Memref sig .tc .vmem S256x2048 .bf16) (harg4 : arg4.IsWhole) (arg5 : Memref sig .tc .vmem S1x1024 .f32) (harg5 : arg5.IsWhole)
    (x0 : Vec F S256x2048 .f32) (x1 : Vec F S256x1024 .f32) (w : Vec F S2048x1024 .bf16) (a : Vec F S1x1024 .f32) (K : PUnit → sProp 𝕄) :
    iprop(owns (c : Thread nD τ) arg1 fullShare x0 ∗ owns (c : Thread nD τ) arg2 fullShare x1
        ∗ (∃ d, owns (c : Thread nD τ) arg4 fullShare d) ∗ owns (c : Thread nD τ) arg5 fullShare a
        ∗ owns (c : Thread nD τ) scM fullShare w
        ∗ (iprop(owns (c : Thread nD τ) arg1 fullShare x0 ∗ owns (c : Thread nD τ) arg2 fullShare x1
            ∗ owns (c : Thread nD τ) arg4 fullShare (k0_pay2 x0)
            ∗ owns (c : Thread nD τ) arg5 fullShare (k0_pay3 x0 w x1 a)
            ∗ owns (c : Thread nD τ) scM fullShare w) -∗ K ⟨⟩))
      ⊢ wp frame (wpE (defs₀ (F := F)) Variants.none c none) Set.univ
          (cc0_bwd_kv i arg1 harg1 arg2 harg2 hbM (Memref.isWhole_whole _) arg4 harg4 arg5 harg5 scM (Memref.isWhole_whole _) cc0_scratch1) K := by
  rw [cc0_bwd_kv_eq_skeleton]; unfold cc0_bwd_kv_skel; rw [k0_part1_eq_skeleton, k0_part2_eq_skeleton]; unfold k0_part1_skel k0_part2_skel
  unfold owns
  iintro ⟨⟨%f1, %hf1, H1⟩, ⟨%f2, %hf2, H2⟩, ⟨%d4, %f4, -, H4⟩, ⟨%f5, %hf5, H5⟩, ⟨%fs, %hfs, HS⟩, Hk⟩
  sl_exec (disch := first | sl_exact hi)
  sl_step
  have h1 : ∀ h, View.readAt (Elt F) arg1.view (Rect.unit ![0, 0] S256x2048.size h).toLoadRect f1 = x0 := fun h => (View.readAt_full ..).trans hf1
  have h2 : ∀ h, View.readAt (Elt F) arg2.view (Rect.unit ![0, 0] S256x1024.size h).toLoadRect f2 = x1 := fun h => (View.readAt_full ..).trans hf2
  have h5 : ∀ h, View.readAt (Elt F) arg5.view (Rect.unit ![0, 0] S1x1024.size h).toLoadRect f5 = a := fun h => (View.readAt_full ..).trans hf5
  have hs : ∀ h, View.readAt (Elt F) scM.view (Rect.unit ![0, 0] S2048x1024.size h).toLoadRect fs = w := fun h => (View.readAt_full ..).trans hfs
  iapply Hk
  isplitl [H1]; · iexists _; isplitr; swap; · iexact H1
                  ipureintro; exact hf1
  isplitl [H2]; · iexists _; isplitr; swap; · iexact H2
                  ipureintro; exact hf2
  isplitl [H4]
  · iexists _; isplitr; swap; · iexact H4
    ipureintro; rw [View.read_writes_full, h1]
  isplitl [H5]
  · iexists _; isplitr; swap; · iexact H5
    ipureintro; rw [View.read_writes_full, h1, h2, h5, hs]
  iexists _; isplitr; swap; · iexact HS
  ipureintro; exact hfs

end Cert.KernelIdeal.Kv
-- ==== Proof.KvFrame.lean ====
/-
  The launch of the call that turns the cotangent of the memory's keys and values into the gradient of the memory's norm
  weight: what the scratch buffer and the running sum hold between grid points, and the frame.
-/
module

public import proofs.«01_k».proof.Proof.KvBody

@[expose] public section

set_option maxRecDepth 16384

noncomputable section

namespace Cert.KernelIdeal.Kv

open Cert.KernelIdeal Cert.KernelIdeal.Gen Cert.Gathered
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host operations, then the region. -/
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's test is true at the first grid point only. -/
theorem first_iff : ∀ t : Fin cfg0.N, first (grid0.coords t) ↔ t.val = 0 := fun t => by
  have ht : t.val < 2 := Nat.lt_of_lt_of_eq t.isLt N_0
  have e0 : (grid0.coords t 0).val = t.val / 1 % 2 := Pipeline.Grid.coords_val t 0 (by decide) rfl
  have : first (grid0.coords t) ↔ t.val % 2 = 0 := by
    simp only [first, e0]
    word_cmp
  rw [this]; omega

/-- The weight as the region finds it in the gathered array. -/
def wAt (c : Dev nD) : Vec F S2048x1024 .bf16 := wkv (hbM.view.read (Elt F) (V m c main_v8))

/-- The running sum after each grid point. -/
def dgAt (c : Dev nD) : (n : ℕ) → n < cfg0.N → Vec F S1x1024 .f32
  | 0, h => k0_pay3 (iblk m c 0 ⟨0, h⟩) (wAt m c) (iblk m c 1 ⟨0, h⟩) k0_pay1
  | n + 1, h => k0_pay3 (iblk m c 0 ⟨n + 1, h⟩) (wAt m c) (iblk m c 1 ⟨n + 1, h⟩) (dgAt c n (Nat.lt_of_succ_lt h))

theorem dgAt_zero (c : Dev nD) (t : Fin cfg0.N) (h : t.val = 0) :
    dgAt m c t.val t.isLt = k0_pay3 (iblk m c 0 t) (wAt m c) (iblk m c 1 t) k0_pay1 := by
  obtain ⟨n, hn⟩ := t; cases n with | zero => rfl | succ n => exact absurd h (Nat.succ_ne_zero n)

theorem dgAt_pos (c : Dev nD) (t : Fin cfg0.N) (h : t.val ≠ 0) :
    dgAt m c t.val t.isLt = k0_pay3 (iblk m c 0 t) (wAt m c) (iblk m c 1 t)
      (dgAt m c (t.val - 1) (Nat.lt_of_le_of_lt (Nat.sub_le _ _) t.isLt)) := by
  obtain ⟨n, hn⟩ := t; cases n with | zero => exact absurd rfl h | succ n => rfl

/-! ## Between grid points -/

/-- The body's one semaphore, and the array its transfers read. -/
abbrev osem0 : Fin 1 → SemLoc sig := fun _ => SemLoc.dma 7
theorem ownSemFacts0 : Pipeline.OwnSemFacts spec0 osem0 := by decide
def H0 : Finset (Ref sig .tc) := {main_v8}
theorem H0_sub : H0 ⊆ Pipeline.restRefs sig spec0 := by decide

/-- What the launch hands the region. -/
theorem Phi_launch (c : Dev nD) : (Pipeline.ΦD osem0 spec0 H0 (V m) c : sProp 𝕄)
    = iprop((∃ fs : Buf (Elt F) (scM.view.loc (c : Thread nD τ)), (scM.view.loc (c : Thread nD τ) ↦{fullShare} fs))
      ∗ (∃ r, prngReg c r) ∗ semVal ((c : Thread nD τ), SemLoc.dma 7) 0
      ∗ (hbM.view.loc (c : Thread nD τ) ↦{fullShare} V m c main_v8)) := by
  rw [Pipeline.ΦD_eq, scopedRest0_eq, Pipeline.ownSems0_eq_of_list c osem0 [0] (by decide) (by decide)]
  rw [BI.bigSep_eq_bigSepL_of_eq [main_v8] (by decide) (by decide)]; rfl

/-- Before the first grid point the scratch buffer holds anything, afterwards the weight. -/
def Phi (c : Dev nD) : ℕ → sProp 𝕄
  | 0 => Pipeline.ΦD osem0 spec0 H0 (V m) c
  | _ + 1 => iprop(owns (c : Thread nD τ) scM fullShare (wAt m c)
      ∗ (∃ r, prngReg c r) ∗ semVal ((c : Thread nD τ), SemLoc.dma 7) 0
      ∗ (hbM.view.loc (c : Thread nD τ) ↦{fullShare} V m c main_v8))

theorem Phi_zero (c : Dev nD) (n : ℕ) (h : n = 0) : Phi m c n
    = iprop((∃ fs : Buf (Elt F) (scM.view.loc (c : Thread nD τ)), (scM.view.loc (c : Thread nD τ) ↦{fullShare} fs))
      ∗ (∃ r, prngReg c r) ∗ semVal ((c : Thread nD τ), SemLoc.dma 7) 0
      ∗ (hbM.view.loc (c : Thread nD τ) ↦{fullShare} V m c main_v8)) := by subst h; exact Phi_launch m c

theorem Phi_pos (c : Dev nD) (n : ℕ) (h : n ≠ 0) : Phi m c n
    = iprop(owns (c : Thread nD τ) scM fullShare (wAt m c)
      ∗ (∃ r, prngReg c r) ∗ semVal ((c : Thread nD τ), SemLoc.dma 7) 0
      ∗ (hbM.view.loc (c : Thread nD τ) ↦{fullShare} V m c main_v8)) := by
  cases n with | zero => exact absurd rfl h | succ n => rfl

/-- The launch's proof data: the inputs stay as fetched, the first result's block is the rounded cotangent, the second's
    the running sum. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t)
    | ⟨3, _⟩ => dgAt m c t.val t.isLt
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay2 (iblk m c 0 t) := by dsimp only [dats]
theorem after3 (c : Dev nD) (t : Fin cfg0.N) : (dats m 0 c).after 3 t = dgAt m c t.val t.isLt := by dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- The sum's block is written back after the last point only, so a later point finds what the point before left. -/
theorem before3 (c : Dev nD) (t : Fin cfg0.N) (h0 : t.val ≠ 0) (d) :
    (dats m 0 c).before 3 t d = dgAt m c (t.val - 1) (Nat.lt_of_le_of_lt (Nat.sub_le _ _) t.isLt) := by
  have hN : t.val < 2 := lt_of_lt_of_eq t.isLt N_0
  rw [Dat.before_out_kept _ 3 rfl t (by omega) (Bool.eq_false_iff.mpr fun h => by have := (flush0_3 _).mp h; dsimp only at this; omega)
    (fun _ => rfl) (fun _ _ => rfl)]
  dsimp only [dats]

/-! ## The body at a grid point -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 3200000 in
/-- The body at any grid point: the first point loads the weight, the later ones find it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [after0, after1, after2, after3]
  rw [show (dats m 0 c).Φ t.castSucc = Phi m c t.val from rfl,
    show (dats m 0 c).Φ t.succ = Phi m c (t.val + 1) from rfl, Phi_pos m c (t.val + 1) (Nat.succ_ne_zero _)]
  unfold Dat.owesAt Pipeline.owesWithin
  rw [show (dats m 0 c).owed t.castSucc = 0 from rfl, show (dats m 0 c).owed t.succ = 0 from rfl]
  by_cases hz : t.val = 0
  · rw [Phi_zero m c _ hz, dgAt_zero m c t hz]
    iintro ⟨⟨HS, Hg, Hq, Hh⟩, ⟨%W, -, HW⟩, ⟨%d0, H0⟩, ⟨%d1, H1⟩, ⟨%d2, H2⟩, ⟨%d3, H3⟩⟩
    iapply (run_first c (grid0.coords t) ((first_iff t).mpr hz) _ _ _ _ _ _ _ _ (iblk m c 0 t) (iblk m c 1 t) (V m c main_v8) W _)
    isplitl [H0]; · iexact H0
    isplitl [H1]; · iexact H1
    isplitl [H2]; · iexists _; iexact H2
    isplitl [H3]; · iexists _; iexact H3
    isplitl [HS]; · iexact HS
    isplitl [Hq]; · iexact Hq
    isplitl [Hh]; · iexact Hh
    isplitl [HW]; · iexact HW
    iintro ⟨H0, H1, H2, H3, HS, Hq, Hh, ⟨%W', HW⟩⟩
    isplitl [HS Hg Hq Hh]
    · isplitl [HS]; · iexact HS
      isplitl [Hg]; · iexact Hg
      isplitl [Hq]; · iexact Hq
      iexact Hh
    isplitl [HW]
    · iexists W'; isplitr; · ipureintro; exact fun _ _ => Or.inl trivial
      iexact HW
    isplitl [H0]; · iexact H0
    isplitl [H1]; · iexact H1
    isplitl [H2]; · iexact H2
    iexact H3
  · rw [Phi_pos m c _ hz, dgAt_pos m c t hz]
    simp only [before3 m c t hz]
    iintro ⟨⟨HS, Hg, Hq, Hh⟩, HO, ⟨%d0, H0⟩, ⟨%d1, H1⟩, ⟨%d2, H2⟩, ⟨%d3, H3⟩⟩
    iapply (run_later c (grid0.coords t) (fun h => hz ((first_iff t).mp h)) _ _ _ _ _ _ _ _ (iblk m c 0 t) (iblk m c 1 t) _ _ _)
    isplitl [H0]; · iexact H0
    isplitl [H1]; · iexact H1
    isplitl [H2]; · iexists _; iexact H2
    isplitl [H3]; · iexact H3
    isplitl [HS]; · iexact HS
    iintro ⟨H0, H1, H2, H3, HS⟩
    isplitl [HS Hg Hq Hh]
    · isplitl [HS]; · iexact HS
      isplitl [Hg]; · iexact Hg
      isplitl [Hq]; · iexact Hq
      iexact Hh
    isplitl [HO]; · iexact HO
    isplitl [H0]; · iexact H0
    isplitl [H1]; · iexact H1
    isplitl [H2]; · iexact H2
    iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦD osem0 spec0 H0 (V m) c ⊢ (dats m 0 c).Φ 0 := .rfl

theorem hout (c : Dev nD) : (dats m 0 c).Φ (Fin.last cfg0.N) ⊢ Pipeline.ΦD osem0 spec0 H0 (V m) c := by
  rw [show (dats m 0 c).Φ (Fin.last cfg0.N) = Phi m c cfg0.N from rfl, Phi_pos m c cfg0.N (by rw [show cfg0.N = 2 from N_0]; decide), Phi_launch]
  unfold owns
  iintro ⟨⟨%f, -, HS⟩, Hg⟩
  isplitl [HS]
  · iexists f; rw [(Memref.isWhole_whole cc0_scratch0).set_eq_univ]; iexact HS
  iexact Hg

set_option backward.isDefEq.respectTransparency.types false in
/-- Every run ends with each array of the launch at the contents the proof data give, every other buffer as the region
    found it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays are as they were at the start. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem kept (r : PUnit × MemSt nD τ sig (Elt F)) (h : Pipeline.FramePost cfgs (dats m) 0 (V m) r) (c : Dev nD) : Kept m r c :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: the arguments end as they began, every semaphore at zero. -/
theorem frame : θ_run defs (onTc (τ := τ) (main (F := F))) ⟨m, fun _ => 0, ρ⟩
    (fun r => (∀ c : Dev nD, Kept m r c) ∧ r.2.sem = fun _ => 0) :=
  (θ_run defs _ _).mono (fun r h => ⟨kept m r h.1, h.2⟩) (run_main m ρ)

end Cert.KernelIdeal.Kv
-- ==== Proof.HostRead.lean ====
/-
  The host's operations the programs share, read at an index: flattening batch and position into one row, and the sum
  over the first two of three axes, in which the derivative of a norm's weight is summed over batch and positions.
-/
module

public import Idealize.ShloMosaic.Lib.Pointwise
public import Idealize.ShloMosaic.Lib.Pipeline.Value

@[expose] public section

namespace Cert.HostRead

open Idealize.ShloMosaic

/-- Dropping the first two of three coordinates leaves the third. -/
theorem drop_ix3 {A B C : ℕ} (h : (⟨3, ![A, B, C]⟩ : Shape).ReducesTo [0, 1] ⟨1, ![C]⟩) (a : Fin A) (b : Fin B) (c : Fin C) :
    h.drop (ix3 a b c) = ix1 c := by
  rw [eq_ix1 (h.drop (ix3 a b c))]
  exact congrArg ix1 (Fin.ext rfl)

/-- Summing three axes' first two away: at `k`, the initial value plus the sum over both. -/
theorem reduceAdd_first_two {A B C : ℕ} (h : (⟨3, ![A, B, C]⟩ : Shape).ReducesTo [0, 1] ⟨1, ![C]⟩)
    (x : (⟨3, ![A, B, C]⟩ : Shape).Idx → EReal) (init : EReal) (k : Fin C) :
    Ideal.hostReduceAdd h x init (ix1 k) = init + ∑ a : Fin A, ∑ b : Fin B, x (ix3 a b k) := by
  unfold Ideal.hostReduceAdd
  rw [Finset.sum_filter, sum_idx3]
  refine congrArg (init + ·) (Finset.sum_congr rfl fun a _ => Finset.sum_congr rfl fun b _ => ?_)
  simp only [drop_ix3, ix1_inj]
  simp

/-- Flattening the first two of three axes: row `R` is position `r` of batch `b` where `R = b·B + r`. -/
theorem flatten_apply {α : Type} {A B C N : ℕ} (x : (⟨3, ![A, B, C]⟩ : Shape).Idx → α)
    (h : (⟨3, ![A, B, C]⟩ : Shape).ShapeCasts ⟨2, ![N, C]⟩) (a : Fin A) (b : Fin B) (k : Fin C) (R : Fin N)
    (hR : R.val = a.val * B + b.val) : shapeCast ⟨2, ![N, C]⟩ x h (ix2 R k) = x (ix3 a b k) := by
  refine shapeCast_apply _ _ _ _ ?_
  rw [Shape.rowMajor_val_two, Shape.rowMajor_val_three]
  show (a.val * B + b.val) * C + k.val = R.val * C + k.val
  rw [hR]

/-- Dropping a leading axis of extent one and transposing. -/
theorem transposed_apply {α : Type} {B C : ℕ} (x : (⟨3, ![1, B, C]⟩ : Shape).Idx → α)
    (h : (⟨3, ![1, B, C]⟩ : Shape).ShapeCasts ⟨2, ![B, C]⟩) (h' : (⟨2, ![B, C]⟩ : Shape).Transposes [1, 0] ⟨2, ![C, B]⟩)
    (b : Fin B) (k : Fin C) : transpose ⟨2, ![C, B]⟩ [1, 0] (shapeCast ⟨2, ![B, C]⟩ x h) h' (ix2 k b) = x (ix3 0 b k) := by
  rw [transpose_apply _ _ _ (ix2 k b) (ix2 b k) (fun a => match a with
    | ⟨0, _⟩ => rfl
    | ⟨1, _⟩ => rfl)]
  exact flatten_apply x h 0 b k b (by simp)

end Cert.HostRead
-- ==== Proof.Blocks.lean ====
/-
  Blocks of whole rows: where the entries of a window's block lie in its array, and which block covers an entry.
-/
module

public import Idealize.ShloMosaic.Lib.ValueLayout
public import Idealize.ShloMosaic.Lib.Pipeline.Value

@[expose] public section

namespace Cert.Blocks

open Idealize.ShloMosaic Idealize.ShloMosaic.ValueIdx

/-- A window of whole rows has block number `b`. -/
abbrev At (n : Fin 2 → ℕ) (b : ℕ) : Prop := n 0 = b ∧ n 1 = 0

/-- The row of a block's entry in the array. -/
theorem row {n : Fin 2 → ℕ} {b h x y : ℕ} (hn : At n b) (e : x = n 0 * h + 1 * y) : x = b * h + y := by
  rw [e, hn.1, Nat.one_mul]

/-- The column of a block's entry in the array. -/
theorem column {n : Fin 2 → ℕ} {b w x y : ℕ} (hn : At n b) (e : x = n 1 * w + 1 * y) : x = y := by
  rw [e, hn.2, Nat.one_mul, Nat.zero_mul, Nat.zero_add]

/-- An entry of a block, by its row and column in the array. -/
theorem entry {R C h w : ℕ} {i : (⟨2, ![R, C]⟩ : Shape).Idx} {n : Fin 2 → ℕ} {b : ℕ} (hn : At n b) {r : Fin h} {k : Fin w} {R' : Fin R} {K : Fin C}
    (hR : R'.val = b * h + r.val) (hK : K.val = k.val) (e0 : (i (0 : Fin 2)).val = n 0 * h + 1 * r.val) (e1 : (i (1 : Fin 2)).val = n 1 * w + 1 * k.val) :
    i = ix2 R' K := funext fun a => Fin.ext (match a with
  | ⟨0, _⟩ => (row hn e0).trans hR.symm
  | ⟨1, _⟩ => (column hn e1).trans hK.symm)

/-- A block that is the whole array has its entries at their own places. -/
theorem same {R C : ℕ} {i y : (⟨2, ![R, C]⟩ : Shape).Idx} {n : Fin 2 → ℕ} (hn : At n 0) (e0 : (i (0 : Fin 2)).val = n 0 * R + 1 * (y (0 : Fin 2)).val)
    (e1 : (i (1 : Fin 2)).val = n 1 * C + 1 * (y (1 : Fin 2)).val) : i = y := funext fun a => Fin.ext (match a with
  | ⟨0, _⟩ => (row hn e0).trans ((congrArg (· + (y (0 : Fin 2)).val) (Nat.zero_mul R)).trans (Nat.zero_add _))
  | ⟨1, _⟩ => column hn e1)

/-- An entry lies in the block whose number is its row's over the block's height. -/
theorem inside {R C h b : ℕ} (hh : 0 < h) {n : Fin 2 → ℕ} (hn : At n b) (i : (⟨2, ![R, C]⟩ : Shape).Idx) (hb : b = (i (0 : Fin 2)).val / h) (a : Fin 2) :
    n a * (⟨2, ![h, C]⟩ : Shape).size a ≤ (i a).val ∧ (i a).val < n a * (⟨2, ![h, C]⟩ : Shape).size a + (⟨2, ![h, C]⟩ : Shape).size a := by
  have hm := Nat.mod_lt (i (0 : Fin 2)).val hh
  have hd := Nat.div_add_mod' (i (0 : Fin 2)).val h
  rw [← hb, ← hn.1] at hd
  have hc : (i (1 : Fin 2)).val < C := (i (1 : Fin 2)).isLt
  match a with
  | ⟨0, _⟩ => show n 0 * h ≤ (i (0 : Fin 2)).val ∧ (i (0 : Fin 2)).val < n 0 * h + h; omega
  | ⟨1, _⟩ => show n 1 * C ≤ (i (1 : Fin 2)).val ∧ (i (1 : Fin 2)).val < n 1 * C + C; rw [hn.2]; omega

end Cert.Blocks
-- ==== Proof.KvValue.lean ====
/-
  The value of the call that turns the cotangent of the memory's keys and values into the gradient of the memory's norm
  weight: its results are the rounded cotangent and the derivative of the reference's forward lines.
-/
module

public import proofs.«01_k».proof.Proof.KvFrame
public import proofs.«01_k».proof.Proof.HostRead
public import proofs.«01_k».proof.Proof.Blocks
public import proofs.«01_k».proof.Proof.Gen.ReferenceIdeal.Run
public import proofs.«01_k».proof.Proof.Gen.ReferenceIdeal.Read
public import Idealize.ShloMosaic.Lib.Pipeline.Value
public import Idealize.ShloMosaic.Lib.Pointwise

@[expose] public section

set_option maxRecDepth 16384

noncomputable section

namespace Cert.KernelIdeal.Kv

open Cert.KernelIdeal Cert.KernelIdeal.Gen Cert.Gathered Cert.HostRead Cert.Blocks
open Idealize.ShloMosaic Idealize.ShloMosaic.TcCoe Idealize.ShloMosaic.Tactic
open Idealize.SL.Sem
open Idealize.ShloMosaic.Pipeline (Dat Cfg Window)

section Arrays

variable {F : FTy → Type} [FloatOps F]
variable (m : (ℓ : Loc nD τ sig) → Buf (Elt F) ℓ)

/-! ## What the two result arrays end holding -/

theorem lt_N {n : ℕ} (h : n < 2) : n < cfg0.N := lt_of_lt_of_eq h N_0.symm

/-- Which block each window has at a grid point: its own of the rows, and the one block of the sum. -/
theorem blocks : ∀ t : Fin cfg0.N, At (win0_0.index t) t.val ∧ At (win0_1.index t) t.val ∧ At (win0_2.index t) t.val ∧ At (win0_3.index t) 0 :=
  (by decide +kernel : ∀ t : Fin grid0.N, _)

/-- Row `r` of point `t`'s block of the cotangent is row `256·t + r` of the array. -/
theorem iblk0_apply (c : Dev nD) (t : Fin cfg0.N) (r : Fin 256) (k : Fin 2048) (R : Fin 512) (hR : R.val = t.val * 256 + r.val) :
    iblk m c 0 t (ix2 r k) = V m c main_v9 (ix2 R k) := congrArg (V m c main_v9) (entry (blocks t).1 hR rfl rfl rfl)

/-- The same of the memory's block. -/
theorem iblk1_apply (c : Dev nD) (t : Fin cfg0.N) (r : Fin 256) (k : Fin 1024) (R : Fin 512) (hR : R.val = t.val * 256 + r.val) :
    iblk m c 1 t (ix2 r k) = V m c main_v10 (ix2 R k) := congrArg (V m c main_v10) (entry (blocks t).2.1 hR rfl rfl rfl)

/-- The point whose block has the row of `i`. -/
abbrev at_ (i : S512x2048.Idx) : Fin cfg0.N := ⟨(i 0).val / 256, lt_N (by have : (i 0).val < 512 := (i 0).isLt; omega)⟩

/-- The first result: the whole cotangent, rounded. -/
theorem result0 (c : Dev nD) : (dats m 0 c).arrAt 2 cfg0.N
    = (truncf .bf16 (V m c main_v9 : Vec F S512x2048 .f32) bitsLt_bf16_f32 : Vec F S512x2048 .bf16) := by
  refine (dats m 0 c).arrAt_eq_of_cover 2 _ (fun t _ => ?_)
    (fun i => ⟨at_ i, (by decide +kernel : ∀ t : Fin grid0.N, win0_2.flush t = true) _, ?_⟩)
  · show (cfg0.win 2).cut (grid0.coords t) ((dats m 0 c).after 2 t) = _
    rw [after2]
    funext y
    show k0_pay2 (iblk m c 0 t) y = FloatOps.truncf .bf16 bitsLt_bf16_f32 ((V m c main_v9 : Vec F S512x2048 .f32) (((cfg0.win 2).blk t).view.emb y))
    unfold k0_pay2
    simp only [shapeCast_self]
    rfl
  · show i ∈ ((View.whole main_v11_0).slice (win0_2.rect (at_ i))).set
    rw [View.set_slice_whole, Rect.mem_set_unit]
    exact inside (by decide) (blocks _).2.2.1 i rfl

/-- The second result: the sum after the last point. -/
theorem result1 (c : Dev nD) : (dats m 0 c).arrAt 3 cfg0.N = dgAt m c 1 (lt_N (by decide)) := by
  have e (t : Fin cfg0.N) (y : S1x1024.Idx) : ((cfg0.win 3).blk t).view.emb y = y := same (blocks t).2.2.2 rfl rfl
  refine (dats m 0 c).arrAt_eq_of_cover 3 _ (fun t hf => funext fun y => ?_) (fun i => ⟨⟨1, lt_N (by decide)⟩, (flush0_3 _).mpr rfl, ?_⟩)
  · obtain rfl : t = ⟨1, lt_N (by decide)⟩ := Fin.ext (by have := (flush0_3 t).mp hf; have := lt_of_lt_of_eq t.isLt N_0; show t.val = 1; omega)
    exact congrArg (dgAt m c 1 _) (e _ y).symm
  · have := ((cfg0.win 3).blk ⟨1, lt_N (by decide)⟩).view.emb_mem_set i
    rwa [e] at this

/-! ## The host's lines before the call -/

theorem V_v9 (c : Dev nD) : (V m c main_v9 : Vec F S512x2048 .f32)
    = shapeCast S512x2048 (m ((c : Thread nD τ).loc main_arg5) : Vec F S2x256x2048 .f32) shapeCasts_S2x256x2048_S512x2048 := by
  show StableHlo.after hostOps0 (fun b => m (c, b)) main_v9 = _
  after_results <;> rfl

theorem V_v10 (c : Dev nD) : (V m c main_v10 : Vec F S512x1024 .f32)
    = shapeCast S512x1024 (m ((c : Thread nD τ).loc main_arg0) : Vec F S2x256x1024 .f32) shapeCasts_S2x256x1024_S512x1024 := by
  show StableHlo.after hostOps0 (fun b => m (c, b)) main_v10 = _
  after_results <;> rfl

/-- The gathered array: the three weights under one another in each device's slice. -/
theorem V_v8 (c : Dev nD) : (V m c main_v8 : Vec F S8x512x1024 .bf16)
    = truncf .bf16 (concatenate S8x512x1024 1
        [⟨S8x128x1024, shapeCast S8x128x1024 (shapeCast S1024x1024 (m ((c : Thread nD τ).loc main_arg2) : Vec F S1x1024x1024 .f32)
            shapeCasts_S1x1024x1024_S1024x1024) shapeCasts_S1024x1024_S8x128x1024⟩,
          ⟨S8x256x1024, shapeCast S8x256x1024 (transpose S2048x1024 [1, 0] (shapeCast S1024x2048
            (m ((c : Thread nD τ).loc main_arg3) : Vec F S1x1024x2048 .f32) shapeCasts_S1x1024x2048_S1024x2048)
            transposes_S1024x2048_S2048x1024_1_0) shapeCasts_S2048x1024_S8x256x1024⟩,
          ⟨S8x128x1024, shapeCast S8x128x1024 (shapeCast S1024x1024 (m ((c : Thread nD τ).loc main_arg4) : Vec F S1x1024x1024 .f32)
            shapeCasts_S1x1024x1024_S1024x1024) shapeCasts_S1024x1024_S8x128x1024⟩]
        concatenates_S8x128x1024_S8x256x1024_S8x128x1024_S8x512x1024_d1) bitsLt_bf16_f32 := by
  show StableHlo.after hostOps0 (fun b => m (c, b)) main_v8 = _
  after_results <;> rfl

end Arrays

section Ideals

variable (m : (ℓ : Loc nD τ sig) → Buf (Elt Ideal) ℓ)

/-- Row `y` of the weight the kernel loads is column `y` of the keys' and values' weight. -/
theorem wAt_apply (c : Dev nD) (y : Fin 2048) (l : Fin 1024) :
    wAt m c (ix2 y l) = (m ((c : Thread nD τ).loc main_arg3) : Vec Ideal S1x1024x2048 .f32) (ix3 0 l y) := by
  have e : wAt m c = transpose S2048x1024 [1, 0] (shapeCast S1024x2048
      (m ((c : Thread nD τ).loc main_arg3) : Vec Ideal S1x1024x2048 .f32) shapeCasts_S1x1024x2048_S1024x2048)
      transposes_S1024x2048_S2048x1024_1_0 := by
    show stack 2048 256 128 rfl (by decide) (V m c main_v8 : Vec Ideal S8x512x1024 .bf16) = _
    rw [V_v8]
    exact stack_packed (N := 512) _ _ [⟨S8x128x1024, _⟩, ⟨S8x256x1024, _⟩, ⟨S8x128x1024, _⟩] concatenates_S8x128x1024_S8x256x1024_S8x128x1024_S8x512x1024_d1 1 (Nat.lt_add_of_pos_right Nat.two_pos) _ shapeCasts_S2048x1024_S8x256x1024 rfl rfl
  rw [e]
  exact transposed_apply _ _ _ l y

/-- Row `R` of the flattened cotangent is row `R % 256` of batch `R / 256`. -/
theorem v9_apply (c : Dev nD) (b : Fin 2) (r : Fin 256) (k : Fin 2048) (R : Fin 512) (hR : R.val = b.val * 256 + r.val) :
    (V m c main_v9 : Vec Ideal S512x2048 .f32) (ix2 R k)
      = (m ((c : Thread nD τ).loc main_arg5) : Vec Ideal S2x256x2048 .f32) (ix3 b r k) := by
  rw [V_v9]
  exact flatten_apply _ _ b r k R hR

/-- The same of the memory. -/
theorem v10_apply (c : Dev nD) (b : Fin 2) (r : Fin 256) (k : Fin 1024) (R : Fin 512) (hR : R.val = b.val * 256 + r.val) :
    (V m c main_v10 : Vec Ideal S512x1024 .f32) (ix2 R k)
      = (m ((c : Thread nD τ).loc main_arg0) : Vec Ideal S2x256x1024 .f32) (ix3 b r k) := by
  rw [V_v10]
  exact flatten_apply _ _ b r k R hR

/-- One grid point's addition to the sum. -/
theorem pay3_apply (x : Vec Ideal S256x2048 .f32) (w : Vec Ideal S2048x1024 .bf16) (h : Vec Ideal S256x1024 .f32)
    (acc : Vec Ideal S1x1024 .f32) (l : Fin 1024) :
    k0_pay3 x w h acc (ix2 0 l) = acc (ix2 0 l) + ∑ r : Fin 256, (∑ k : Fin 2048, x (ix2 r k) * w (ix2 k l))
      * (h (ix2 r l) * Ideal.rsqrt (Ideal.div (∑ k : Fin 1024, h (ix2 r k) * h (ix2 r k)) (Ideal.ofBits .f32 0x44800000#32)
          + Ideal.ofBits .f32 0x358637BD#32)) := by
  pointwise [k0_pay3, k0_pay2]

/-- One position's share of the derivative with respect to the norm's weight at channel `l`. -/
def entry (g : Vec Ideal S2x256x2048 .f32) (w : Vec Ideal S1x1024x2048 .f32) (x : Vec Ideal S2x256x1024 .f32) (l : Fin 1024)
    (b : Fin 2) (r : Fin 256) : EReal :=
  (∑ k : Fin 2048, g (ix3 b r k) * w (ix3 0 l k))
    * (x (ix3 b r l) * Ideal.rsqrt (Ideal.div (∑ k : Fin 1024, x (ix3 b r k) * x (ix3 b r k)) (Ideal.ofBits .f32 0x44800000#32)
        + Ideal.ofBits .f32 0x358637BD#32))

/-- What the kernel's running sum ends at. -/
theorem dgAt_apply (c : Dev nD) (l : Fin 1024) : dgAt m c 1 (lt_N (by decide)) (ix2 0 l)
    = ∑ b : Fin 2, ∑ r : Fin 256, entry (m ((c : Thread nD τ).loc main_arg5)) (m ((c : Thread nD τ).loc main_arg3))
        (m ((c : Thread nD τ).loc main_arg0)) l b r := by
  have e0 : k0_pay1 (F := Ideal) (ix2 0 l) = 0 := by pointwise [k0_pay1]
  have step : ∀ (b : Fin 2) (acc : Vec Ideal S1x1024 .f32),
      k0_pay3 (iblk m c 0 ⟨b.val, lt_N b.isLt⟩) (wAt m c) (iblk m c 1 ⟨b.val, lt_N b.isLt⟩) acc (ix2 0 l)
        = acc (ix2 0 l) + ∑ r : Fin 256, entry (m ((c : Thread nD τ).loc main_arg5)) (m ((c : Thread nD τ).loc main_arg3))
            (m ((c : Thread nD τ).loc main_arg0)) l b r := by
    intro b acc
    have h5 : ∀ (r : Fin 256) (k : Fin 2048), iblk m c 0 ⟨b.val, lt_N b.isLt⟩ (ix2 r k)
        = (m ((c : Thread nD τ).loc main_arg5) : Vec Ideal S2x256x2048 .f32) (ix3 b r k) := fun r k =>
      (iblk0_apply m c _ r k ⟨b.val * 256 + r.val, by omega⟩ rfl).trans (v9_apply m c b r k _ rfl)
    have h0 : ∀ (r : Fin 256) (k : Fin 1024), iblk m c 1 ⟨b.val, lt_N b.isLt⟩ (ix2 r k)
        = (m ((c : Thread nD τ).loc main_arg0) : Vec Ideal S2x256x1024 .f32) (ix3 b r k) := fun r k =>
      (iblk1_apply m c _ r k ⟨b.val * 256 + r.val, by omega⟩ rfl).trans (v10_apply m c b r k _ rfl)
    rw [pay3_apply]
    simp only [h5, h0, wAt_apply]
    rfl
  show k0_pay3 (iblk m c 0 ⟨1, _⟩) (wAt m c) (iblk m c 1 ⟨1, _⟩)
    (k0_pay3 (iblk m c 0 ⟨0, _⟩) (wAt m c) (iblk m c 1 ⟨0, _⟩) (k0_pay1 (F := Ideal))) (ix2 0 l) = _
  rw [Fin.sum_univ_two]
  refine (step 1 _).trans (congrArg (· + _) ((step 0 _).trans ?_))
  rw [e0, zero_add]

/-! ## The reference -/

open Cert.ReferenceIdeal.Read in
/-- The reference's second result is the same sum. -/
theorem reference_apply (x : Vec Ideal S2x256x1024 .f32) (w : Vec Ideal S1x1024x2048 .f32) (g : Vec Ideal S2x256x2048 .f32)
    (l : Fin 1024) : val_main_v23 (F := Ideal) x w g (ix2 0 l) = ∑ b : Fin 2, ∑ r : Fin 256, entry g w x l b r := by
  have e : ∀ (b : Fin 2) (r : Fin 256), val_main_v19 (F := Ideal) x w g (ix3 b r l) = entry g w x l b r := by
    intro b r
    pointwise [val_main_v19, val_main_v12, val_main_v18, val_main_v16, val_main_v11, val_main_v10, val_main_v9, val_main_v8,
      val_main_v7, val_main_v6, val_main_v5, val_main_v4, val_main_v3, val_main_cst, val_main_cst_0, val_main_cst_1]
    exact mul_comm _ _
  have z2 : val_main_cst_2 (F := Ideal) (Shape.Idx.first Cert.ReferenceIdeal.Gen.h_S_) = 0 := by pointwise [val_main_cst_2]
  have z3 : val_main_cst_3 (F := Ideal) (Shape.Idx.first Cert.ReferenceIdeal.Gen.h_S_) = 0 := by pointwise [val_main_cst_3]
  have e20 : val_main_v20 (F := Ideal) x w g (ix1 l) = ∑ b : Fin 2, ∑ r : Fin 256, entry g w x l b r := by
    unfold val_main_v20
    show Ideal.hostReduceAdd _ _ _ (ix1 l) = _
    rw [reduceAdd_first_two, z2, zero_add]
    simp only [e]
  rw [val_main_v23_apply, show idx_main_v23 (ix2 0 l) = ix1 l from eq_ix1 _]
  unfold val_main_v22
  show Ideal.hostReduceAdd _ _ _ (ix1 l) = _
  rw [reduceAdd_first_two, z3, zero_add, Fin.sum_univ_one, Fin.sum_univ_one, val_main_v21_apply, ← e20]
  exact congrArg _ (funext fun a => Fin.ext (match a with | ⟨0, _⟩ => by show (0 * 1 + 0) * 1024 + l.val = l.val; omega))

/-! ## The claim's two results -/

/-- The kernel's run: both results, the arguments untouched. -/
theorem run_value (ρ : Dev nD → PrngReg) : θ_run defs (onTc (τ := τ) (main (F := Ideal))) ⟨m, fun _ => 0, ρ⟩ (fun r => ∀ c : Dev nD,
    r.2.mem ((c : Thread nD τ).loc main_v11_0) = Cert.ReferenceIdeal.Read.val_main_v1 (F := Ideal) (m ((c : Thread nD τ).loc main_arg5))
    ∧ r.2.mem ((c : Thread nD τ).loc main_v11_1) = Cert.ReferenceIdeal.Read.val_main_v23 (F := Ideal)
        (m ((c : Thread nD τ).loc main_arg0)) (m ((c : Thread nD τ).loc main_arg3)) (m ((c : Thread nD τ).loc main_arg5))
    ∧ Kept m r c) := by
  refine (θ_run _ _ _).mono (fun r h c => ⟨?_, ?_, kept m r h.1 c⟩) (run_main m ρ)
  · refine ((h.1 c).1 2).trans ((result0 m c).trans ?_)
    rw [V_v9]
    rfl
  · refine ((h.1 c).1 3).trans ((result1 m c).trans (funext fun i => ?_))
    obtain ⟨i0, l, rfl⟩ : ∃ (i0 : Fin 1) (l : Fin 1024), i = ix2 i0 l := ⟨_, _, eq_ix2 i⟩
    obtain rfl : i0 = 0 := Subsingleton.elim _ _
    exact (dgAt_apply m c l).trans (reference_apply _ _ _ l).symm

end Ideals

end Cert.KernelIdeal.Kv
-- ==== Proof.AttnBody.lean ====
/-
  The call that differentiates the attention over the memory: its body at the first grid point (where it loads its two
  weights and clears both sums), at the first grid point of a later sequence, and at any other one.
-/
module

public import proofs.«01_k».proof.Proof.Gathered
public import proofs.«01_k».proof.Proof.Gen.Kernel2Ideal.Frame
public import proofs.«01_k».proof.Proof.Gen.Kernel2Ideal.Skeleton
public import Idealize.ShloMosaic.Lib.ValueLayout
public import Idealize.ShloMosaic.Lib.Writes
public import Idealize.ShloMosaic.Lib.Batch
public import Idealize.ShloMosaic.Lib.VecWindow

@[expose] public section

set_option maxRecDepth 16384

noncomputable section

namespace Cert.Kernel2Ideal.Attn

open Cert.Kernel2Ideal Cert.Kernel2Ideal.Gen Cert.Gathered
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's first test: the grid coordinate is zero. -/
abbrev first (i : grid0.Coords) : Prop :=
  Scalar.cmpi .ne (Scalar.extui (Scalar.cmpi .eq (BitVec.ofNat 32 (i 0).val) 0#32) : BitVec 32) 0#32 = 1#1

/-- The grid coordinate modulo the number of tiles of a sequence, as the body computes it. -/
abbrev tile (i : grid0.Coords) : BitVec 32 := Scalar.remsi (BitVec.ofNat 32 (i 0).val) (Scalar.select (Scalar.cmpi .eq 4#32 0#32) 1#32 4#32)

/-- The body's second test: the grid point is the first of a sequence. -/
abbrev fresh (i : grid0.Coords) : Prop :=
  Scalar.cmpi .ne (Scalar.extui (Scalar.cmpi .eq (Scalar.select
    (Scalar.andi (Scalar.xori (Scalar.cmpi .slt (tile i) 0#32) (Scalar.cmpi .slt (Scalar.select (Scalar.cmpi .eq 4#32 0#32) 1#32 4#32) 0#32))
      (Scalar.cmpi .ne (tile i) 0#32))
    (Scalar.addi (tile i) (Scalar.select (Scalar.cmpi .eq 4#32 0#32) 1#32 4#32)) (tile i)) 0#32) : BitVec 32) 0#32 = 1#1

/-- The gathered weights, and the scratch buffers of the query and the output projection. -/
abbrev hbM : Memref sig .tc .hbm S8x512x1024 .bf16 := Memref.whole main_v8
abbrev qM : Memref sig .tc .vmem S1024x1024 .bf16 := Memref.whole cc0_scratch0
abbrev oM : Memref sig .tc .vmem S1024x1024 .bf16 := Memref.whole cc0_scratch1

/-- The query and the output projection, as the gathered array holds them: device `d`'s 128 rows start at row 0 and at row 384
    of its slice. -/
def wqOf (g : Vec F S8x512x1024 .bf16) : Vec F S1024x1024 .bf16 := stack 1024 128 0 rfl (by decide) g
def woOf (g : Vec F S8x512x1024 .bf16) : Vec F S1024x1024 .bf16 := stack 1024 128 384 rfl (by decide) g

/-! ## What one grid point computes -/

/-- Columns `o … o + 256` of a block of keys and values, or of their gradient. -/
def cols {α : Type} (o : ℕ) (h : o + 256 ≤ 2048) (a : S256x2048.Idx → α) : S256x256.Idx → α := fun y =>
  a (ix2 (y 0) (⟨o + (y 1).val, lt_of_lt_of_le (Nat.add_lt_add_left (y 1).isLt o) h⟩ : Fin 2048))

/-- Eight blocks of 256 columns side by side. -/
def joined {α : Type} (f : Fin 8 → S256x256.Idx → α) : S256x2048.Idx → α := fun y =>
  f (⟨(y 1).val / 256, Nat.div_lt_of_lt_mul (y 1).isLt⟩ : Fin 8) (ix2 (y 0) (⟨(y 1).val % 256, Nat.mod_lt _ (by decide)⟩ : Fin 256))

/-- The block one load of 256 columns brings. -/
theorem readAt_cols {sg : RefSig} {κ : Kind} {sp : Space} {e : EltTy} (v : View sg κ sp S256x2048 e) (f : v.ty.Contents (Elt F)) (x : S256x2048.Idx → Elt F e)
    (hf : v.read (Elt F) f = x) (o : ℕ) (inb : ∀ a, (![0, o] : Fin 2 → ℕ) a + S256x256.size a ≤ S256x2048.size a) :
    v.readAt (Elt F) (Rect.unit (s := S256x2048) ![0, o] S256x256.size inb).toLoadRect f = cols o (inb 1) x := funext fun y => by
  show v.read (Elt F) f ((Rect.unit (s := S256x2048) ![0, o] S256x256.size inb).emb y) = _
  rw [hf]
  refine congrArg x (funext fun a => Fin.ext ?_)
  match a with
  | ⟨0, _⟩ => show 0 + 1 * (y 0).val = (y 0).val; omega
  | ⟨1, _⟩ => show o + 1 * (y 1).val = o + (y 1).val; omega

/-- A stored block of 256 columns, in its place among the eight. -/
theorem joined_emb {α : Type} (f : Fin 8 → S256x256.Idx → α) (d : Fin 8) (o : ℕ) (ho : o = d.val * 256)
    (inb : ∀ a, (![0, o] : Fin 2 → ℕ) a + S256x256.size a ≤ S256x2048.size a) (x : S256x256.Idx) :
    f d x = joined f ((Rect.unit (s := S256x2048) ![0, o] S256x256.size inb).emb x) := by
  subst ho
  have hx : (x 1).val < 256 := (x 1).isLt
  unfold joined
  congr 1
  · congr 1
    refine Fin.ext ?_
    show d.val = (d.val * 256 + 1 * (x 1).val) / 256
    omega
  · refine funext fun a => Fin.ext ?_
    match a with
    | ⟨0, _⟩ => show (x 0).val = 0 + 1 * (x 0).val; omega
    | ⟨1, _⟩ => show (x 1).val = (d.val * 256 + 1 * (x 1).val) % 256; omega

/-- After the eight stores, in the body's order (the values' blocks, then the keys'), the buffer holds the eight blocks side
    by side, whatever it held before. -/
theorem read_stored {κ : Kind} {sp : Space} {e : EltTy} (v : View sig κ sp S256x2048 e) (f : v.ty.Contents (Elt F)) (b : Fin 8 → S256x256.Idx → Elt F e)
    (h0 h1 h2 h3 h4 h5 h6 h7) :
    v.read (Elt F) (v.writes (Elt F) f [⟨Rect.unit ![0, 768] S256x256.size h3, b 3⟩, ⟨Rect.unit ![0, 512] S256x256.size h2, b 2⟩,
      ⟨Rect.unit ![0, 256] S256x256.size h1, b 1⟩, ⟨Rect.unit ![0, 0] S256x256.size h0, b 0⟩, ⟨Rect.unit ![0, 1792] S256x256.size h7, b 7⟩,
      ⟨Rect.unit ![0, 1536] S256x256.size h6, b 6⟩, ⟨Rect.unit ![0, 1280] S256x256.size h5, b 5⟩, ⟨Rect.unit ![0, 1024] S256x256.size h4, b 4⟩]) = joined b := by
  refine funext fun y => View.read_writes_apply_of_pieces v f (joined b) _ (fun p hp x => ?_) y ?_
  · simp only [List.mem_cons, List.not_mem_nil, _root_.or_false] at hp
    rcases hp with rfl | rfl | rfl | rfl | rfl | rfl | rfl | rfl
    · exact joined_emb b 3 768 rfl h3 x
    · exact joined_emb b 2 512 rfl h2 x
    · exact joined_emb b 1 256 rfl h1 x
    · exact joined_emb b 0 0 rfl h0 x
    · exact joined_emb b 7 1792 rfl h7 x
    · exact joined_emb b 6 1536 rfl h6 x
    · exact joined_emb b 5 1280 rfl h5 x
    · exact joined_emb b 4 1024 rfl h4 x
  · have hy0 : (y 0).val < 256 := (y 0).isLt
    have hy : (y 1).val < 2048 := (y 1).isLt
    have hm : ∀ (o : ℕ) (h), o ≤ (y 1).val → (y 1).val < o + 256 → y ∈ (Rect.unit (s := S256x2048) ![0, o] S256x256.size h).set := fun o h h1 h2 => by
      rw [Rect.mem_set_unit]; intro a
      match a with
      | ⟨0, _⟩ => exact ⟨Nat.zero_le _, show (y 0).val < 0 + 256 by omega⟩
      | ⟨1, _⟩ => exact ⟨h1, h2⟩
    have hd : (y 1).val / 256 < 8 := by omega
    simp only [List.exists_mem_cons_iff, List.not_mem_nil, _root_.false_and, exists_false, _root_.or_false]
    rcases (by omega : (y 1).val / 256 = 0 ∨ (y 1).val / 256 = 1 ∨ (y 1).val / 256 = 2 ∨ (y 1).val / 256 = 3 ∨ (y 1).val / 256 = 4
      ∨ (y 1).val / 256 = 5 ∨ (y 1).val / 256 = 6 ∨ (y 1).val / 256 = 7) with h | h | h | h | h | h | h | h
    · exact .inr (.inr (.inr (.inl (hm _ _ (by omega) (by omega)))))
    · exact .inr (.inr (.inl (hm _ _ (by omega) (by omega))))
    · exact .inr (.inl (hm _ _ (by omega) (by omega)))
    · exact .inl (hm _ _ (by omega) (by omega))
    · exact .inr (.inr (.inr (.inr (.inr (.inr (.inr (hm _ _ (by omega) (by omega))))))))
    · exact .inr (.inr (.inr (.inr (.inr (.inr (.inl (hm _ _ (by omega) (by omega))))))))
    · exact .inr (.inr (.inr (.inr (.inr (.inl (hm _ _ (by omega) (by omega)))))))
    · exact .inr (.inr (.inr (.inr (.inl (hm _ _ (by omega) (by omega))))))

/-! The four heads of one block of queries: the scores, the probabilities, their cotangent, the scores' cotangent. -/

section Step

variable (x1 x2 : Vec F S512x1024 .f32) (x3 : Vec F S512x1024 .bf16) (x4 : Vec F S256x2048 .bf16) (x5 : Vec F S1x1024 .f32)
  (wq wo : Vec F S1024x1024 .bf16) (a : Vec F S256x2048 .f32) (b : Vec F S1x1024 .f32)

def s0 : FVec F S512x256 .f32 := k0_pay8 x3 (cols 0 (by decide) x4)
def s1 : FVec F S512x256 .f32 := k0_pay10 (k0_pay9 x3) (cols 256 (by decide) x4)
def s2 : FVec F S512x256 .f32 := k0_pay11 (k0_pay7 x3) (cols 512 (by decide) x4)
def s3 : FVec F S512x256 .f32 := k0_pay12 (k0_pay7 x3) (cols 768 (by decide) x4)
def p0 : FVec F S512x256 .f32 := k0_pay17 (s0 x3 x4)
def p1 : FVec F S512x256 .f32 := k0_pay19 (s1 x3 x4) (k0_pay18 (k0_pay9 x3) (cols 256 (by decide) x4))
def p2 : FVec F S512x256 .f32 := k0_pay20 (s2 x3 x4)
def p3 : FVec F S512x256 .f32 := k0_pay21 (s3 x3 x4)
def dp0 : FVec F S512x256 .f32 := k0_pay13 (k0_pay6 x1 wo) (cols 1024 (by decide) x4)
def dp1 : FVec F S512x256 .f32 := k0_pay14 (k0_pay6 x1 wo) (cols 1280 (by decide) x4)
def dp2 : FVec F S512x256 .f32 := k0_pay15 (k0_pay6 x1 wo) (cols 1536 (by decide) x4)
def dp3 : FVec F S512x256 .f32 := k0_pay16 (k0_pay6 x1 wo) (cols 1792 (by decide) x4)
def ds0 : FVec F S512x256 .bf16 := k0_pay22 (dp0 x1 x4 wo) (p0 x3 x4)
def ds1 : FVec F S512x256 .bf16 := k0_pay23 (s1 x3 x4) (dp1 x1 x4 wo) (k0_pay18 (k0_pay9 x3) (cols 256 (by decide) x4))
def ds2 : FVec F S512x256 .bf16 := k0_pay24 (s2 x3 x4) (dp2 x1 x4 wo)
def ds3 : FVec F S512x256 .bf16 := k0_pay26 (p3 x3 x4) (k0_pay25 (s3 x3 x4) (dp3 x1 x4 wo))
def dq0 : FVec F S512x256 .f32 := k0_pay32 (k0_pay31 (ds0 x1 x3 x4 wo) (cols 0 (by decide) x4))
def dq1 : FVec F S512x256 .f32 := k0_pay33 (ds1 x1 x3 x4 wo) (cols 256 (by decide) x4)
def dq2 : FVec F S512x256 .f32 := k0_pay34 (ds2 x1 x3 x4 wo) (cols 512 (by decide) x4)
def dq3 : FVec F S512x256 .f32 := k0_pay35 (ds3 x1 x3 x4 wo) (cols 768 (by decide) x4)

/-- The cotangent of the queries. -/
def dqOf : FVec F S512x1024 .bf16 := k0_pay42 (dq0 x1 x3 x4 wo) (dq1 x1 x3 x4 wo) (dq2 x1 x3 x4 wo) (dq3 x1 x3 x4 wo)
/-- The cotangent of the normalised input. -/
def dhOf : FVec F S512x1024 .f32 := k0_pay43 (dq0 x1 x3 x4 wo) (dq1 x1 x3 x4 wo) (dq2 x1 x3 x4 wo) (dq3 x1 x3 x4 wo) wq
/-- The cotangent of the input, and its rounding. -/
def dxOf : FVec F S512x1024 .f32 := k0_pay1 (k0_pay5 x1) (dhOf x1 x3 x4 wq wo) (k0_pay45 x2) (k0_pay46 x2) x5
def dxbOf : FVec F S512x1024 .bf16 := k0_pay2 (k0_pay5 x1) (dhOf x1 x3 x4 wq wo) (k0_pay45 x2) (k0_pay46 x2) x5
/-- The norm weight's sum after this block. -/
def dgOf : FVec F S1x1024 .f32 := k0_pay47 (dq0 x1 x3 x4 wo) (dq1 x1 x3 x4 wo) (dq2 x1 x3 x4 wo) (dq3 x1 x3 x4 wo) wq x2 b
/-- The keys' and the values' sums after this block: four blocks of keys, four of values. -/
def dkvBlocks : Fin 8 → Vec F S256x256 .f32 := fun
  | 0 => k0_pay36 (k0_pay7 x3) (ds0 x1 x3 x4 wo) (cols 0 (by decide) a)
  | 1 => k0_pay37 (k0_pay7 x3) (ds1 x1 x3 x4 wo) (cols 256 (by decide) a)
  | 2 => k0_pay40 (ds2 x1 x3 x4 wo) (k0_pay38 (cols 512 (by decide) a)) (k0_pay39 (k0_pay7 x3)) (constant S256x256 .f32 0x00000000#32)
  | 3 => k0_pay41 (k0_pay7 x3) (ds3 x1 x3 x4 wo) (cols 768 (by decide) a)
  | 4 => k0_pay27 (k0_pay6 x1 wo) (p0 x3 x4) (cols 1024 (by decide) a)
  | 5 => k0_pay28 (k0_pay6 x1 wo) (p1 x3 x4) (cols 1280 (by decide) a)
  | 6 => k0_pay29 (k0_pay6 x1 wo) (p2 x3 x4) (cols 1536 (by decide) a)
  | 7 => k0_pay30 (k0_pay6 x1 wo) (p3 x3 x4) (cols 1792 (by decide) a)
def dkvOf : Vec F S256x2048 .f32 := joined (dkvBlocks x1 x3 x4 wo a)

end Step

section Run

variable (c : Dev nD) (i : grid0.Coords)
  (arg1 : Memref sig .tc .vmem S512x1024 .f32) (harg1 : arg1.IsWhole) (arg2 : Memref sig .tc .vmem S512x1024 .f32) (harg2 : arg2.IsWhole)
  (arg3 : Memref sig .tc .vmem S512x1024 .bf16) (harg3 : arg3.IsWhole) (arg4 : Memref sig .tc .vmem S256x2048 .bf16) (harg4 : arg4.IsWhole)
  (arg5 : Memref sig .tc .vmem S1x1024 .f32) (harg5 : arg5.IsWhole) (arg7 : Memref sig .tc .vmem S8x128 .f32) (harg7 : arg7.IsWhole)
  (arg8 : Memref sig .tc .vmem S512x1024 .f32) (harg8 : arg8.IsWhole) (arg9 : Memref sig .tc .vmem S512x1024 .bf16) (harg9 : arg9.IsWhole)
  (arg10 : Memref sig .tc .vmem S512x1024 .bf16) (harg10 : arg10.IsWhole) (arg11 : Memref sig .tc .vmem S256x2048 .f32) (harg11 : arg11.IsWhole)
  (arg12 : Memref sig .tc .vmem S1x1024 .f32) (harg12 : arg12.IsWhole)
  (x1 x2 : Vec F S512x1024 .f32) (x3 : Vec F S512x1024 .bf16) (x4 : Vec F S256x2048 .bf16) (x5 : Vec F S1x1024 .f32)

/-- The five blocks the body only reads. -/
abbrev Inputs : sProp 𝕄 :=
  iprop(owns (c : Thread nD τ) arg1 fullShare x1 ∗ owns (c : Thread nD τ) arg2 fullShare x2
    ∗ owns (c : Thread nD τ) arg3 fullShare x3 ∗ owns (c : Thread nD τ) arg4 fullShare x4 ∗ owns (c : Thread nD τ) arg5 fullShare x5)

/-- The three blocks the body writes whole, at any contents. -/
abbrev Outputs : sProp 𝕄 :=
  iprop((∃ d, owns (c : Thread nD τ) arg8 fullShare d) ∗ (∃ d, owns (c : Thread nD τ) arg9 fullShare d) ∗ (∃ d, owns (c : Thread nD τ) arg10 fullShare d))

/-- The two sums and the two weights. -/
abbrev State (a : Vec F S256x2048 .f32) (b : Vec F S1x1024 .f32) (wq wo : Vec F S1024x1024 .bf16) : sProp 𝕄 :=
  iprop(owns (c : Thread nD τ) arg11 fullShare a ∗ owns (c : Thread nD τ) arg12 fullShare b
    ∗ owns (c : Thread nD τ) qM fullShare wq ∗ owns (c : Thread nD τ) oM fullShare wo)

/-- The body's first part: it prepares the sums and the weights, then reads the first values. -/
abbrev start := k0_part7 (F := F) i arg1 harg1 arg2 harg2 arg3 harg3 arg4 harg4 arg5 harg5 hbM (Memref.isWhole_whole _) arg7 harg7 arg8 harg8
  arg9 harg9 arg10 harg10 arg11 harg11 arg12 harg12 qM (Memref.isWhole_whole _) oM (Memref.isWhole_whole _) cc0_scratch2

/-- The whole body. -/
abbrev body := cc0_bwd_attn (F := F) i arg1 harg1 arg2 harg2 arg3 harg3 arg4 harg4 arg5 harg5 hbM (Memref.isWhole_whole _) arg7 harg7 arg8 harg8
  arg9 harg9 arg10 harg10 arg11 harg11 arg12 harg12 qM (Memref.isWhole_whole _) oM (Memref.isWhole_whole _) cc0_scratch2

set_option maxHeartbeats 1000000 in
/-- Whatever prepares the two sums and the two weights, the rest of the body leaves the three results of this block and the two
    sums with this block added. -/
theorem run (a : Vec F S256x2048 .f32) (b : Vec F S1x1024 .f32) (wq wo : Vec F S1024x1024 .bf16) (P E : sProp 𝕄)
    (h : ∀ K, iprop(P ∗ (iprop(Inputs c arg1 arg2 arg3 arg4 arg5 x1 x2 x3 x4 x5 ∗ State c arg11 arg12 a b wq wo ∗ E)
        -∗ K ⟨k0_pay5 x1, k0_pay6 x1 wo, k0_pay7 x3, s0 x3 x4, k0_pay9 x3⟩))
      ⊢ wp frame (wpE (defs₀ (F := F)) Variants.none c none) Set.univ
          (start i arg1 harg1 arg2 harg2 arg3 harg3 arg4 harg4 arg5 harg5 arg7 harg7 arg8 harg8 arg9 harg9 arg10 harg10 arg11 harg11 arg12 harg12) K)
    (K : PUnit → sProp 𝕄) :
    iprop(P ∗ Outputs c arg8 arg9 arg10
        ∗ (iprop(Inputs c arg1 arg2 arg3 arg4 arg5 x1 x2 x3 x4 x5
          ∗ owns (c : Thread nD τ) arg8 fullShare (dxOf x1 x2 x3 x4 x5 wq wo) ∗ owns (c : Thread nD τ) arg9 fullShare (dxbOf x1 x2 x3 x4 x5 wq wo)
          ∗ owns (c : Thread nD τ) arg10 fullShare (dqOf x1 x3 x4 wo)
          ∗ State c arg11 arg12 (dkvOf x1 x3 x4 wo a) (dgOf x1 x2 x3 x4 wq wo b) wq wo ∗ E) -∗ K ⟨⟩))
      ⊢ wp frame (wpE (defs₀ (F := F)) Variants.none c none) Set.univ
          (body i arg1 harg1 arg2 harg2 arg3 harg3 arg4 harg4 arg5 harg5 arg7 harg7 arg8 harg8 arg9 harg9 arg10 harg10 arg11 harg11 arg12 harg12) K := by
  unfold body
  rw [cc0_bwd_attn_eq_skeleton]; unfold cc0_bwd_attn_skel
  rw [k0_part8_eq_skeleton, k0_part9_eq_skeleton, k0_part10_eq_skeleton, k0_part11_eq_skeleton, k0_part12_eq_skeleton]
  unfold k0_part8_skel k0_part9_skel k0_part10_skel k0_part11_skel k0_part12_skel
  rw [wp_bind]
  iintro ⟨HP, ⟨H8, H9, H10⟩, Hk⟩
  iapply (h _)
  isplitl [HP]; · iexact HP
  unfold Inputs State owns
  icases H8 with ⟨%d8, %f8, -, H8⟩
  icases H9 with ⟨%d9, %f9, -, H9⟩
  icases H10 with ⟨%d10, %f10, -, H10⟩
  iintro ⟨⟨⟨%f1, %hf1, H1⟩, ⟨%f2, %hf2, H2⟩, ⟨%f3, %hf3, H3⟩, ⟨%f4, %hf4, H4⟩, ⟨%f5, %hf5, H5⟩⟩, ⟨⟨%f11, %hf11, H11⟩, ⟨%f12, %hf12, H12⟩, ⟨%fq, %hfq, HQ⟩, ⟨%fo, %hfo, HO⟩⟩, HE⟩
  sl_exec
  sl_step
  have k1 : ∀ h, View.readAt (Elt F) arg1.view (Rect.unit ![0, 0] S512x1024.size h).toLoadRect f1 = x1 := fun h => (View.readAt_full ..).trans hf1
  have k2 : ∀ h, View.readAt (Elt F) arg2.view (Rect.unit ![0, 0] S512x1024.size h).toLoadRect f2 = x2 := fun h => (View.readAt_full ..).trans hf2
  have k4 := readAt_cols arg4.view f4 x4 hf4
  have k5 : ∀ h, View.readAt (Elt F) arg5.view (Rect.unit ![0, 0] S1x1024.size h).toLoadRect f5 = x5 := fun h => (View.readAt_full ..).trans hf5
  have k11 := readAt_cols arg11.view f11 a hf11
  have k12 : ∀ h, View.readAt (Elt F) arg12.view (Rect.unit ![0, 0] S1x1024.size h).toLoadRect f12 = b := fun h => (View.readAt_full ..).trans hf12
  have kq : ∀ h, View.readAt (Elt F) qM.view (Rect.unit ![0, 0] S1024x1024.size h).toLoadRect fq = wq := fun h => (View.readAt_full ..).trans hfq
  iapply Hk
  isplitl [H1 H2 H3 H4 H5]
  · isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    iexists _; isplitr; swap; · iexact H5
    ipureintro; exact hf5
  isplitl [H8]
  · iexists _; isplitr; swap; · iexact H8
    ipureintro; rw [View.read_writes_full]; simp only [k2, k4, k5, kq]; rfl
  isplitl [H9]
  · iexists _; isplitr; swap; · iexact H9
    ipureintro; rw [View.read_writes_full]; simp only [k2, k4, k5, kq]; rfl
  isplitl [H10]
  · iexists _; isplitr; swap; · iexact H10
    ipureintro; rw [View.read_writes_full]; simp only [k4]; rfl
  isplitr [HE]; swap; · iexact HE
  isplitl [H11]
  · iexists _; isplitr; swap; · iexact H11
    ipureintro
    rw [show run.sl.v189 c arg11 f11 = cols 768 _ a from k11 768 _, show run.sl.v183 c arg11 f11 = cols 512 _ a from k11 512 _,
      show run.sl.v177 c arg11 f11 = cols 256 _ a from k11 256 _, show run.sl.v171 c arg11 f11 = cols 0 _ a from k11 0 _,
      show run.sl.v144 c arg11 f11 = cols 1792 _ a from k11 1792 _, show run.sl.v137 c arg11 f11 = cols 1536 _ a from k11 1536 _,
      show run.sl.v130 c arg11 f11 = cols 1280 _ a from k11 1280 _]
    simp only [k4, k11]
    exact read_stored arg11.view f11 (dkvBlocks x1 x3 x4 wo a) inb_S256x2048_S256x256_0_0 inb_S256x2048_S256x256_0_256
      inb_S256x2048_S256x256_0_512 inb_S256x2048_S256x256_0_768 inb_S256x2048_S256x256_0_1024 inb_S256x2048_S256x256_0_1280
      inb_S256x2048_S256x256_0_1536 inb_S256x2048_S256x256_0_1792
  isplitl [H12]
  · iexists _; isplitr; swap; · iexact H12
    ipureintro; rw [View.read_writes_full]; simp only [k2, k4, k12, kq]; rfl
  isplitl [HQ]; · iexists _; isplitr; swap; · iexact HQ
                  ipureintro; exact hfq
  iexists _; isplitr; swap; · iexact HO
  ipureintro; exact hfo

/-- At any other grid point the first part only reads. -/
theorem start_later (hi : ¬first i) (hj : ¬fresh i) (a : Vec F S256x2048 .f32) (b : Vec F S1x1024 .f32) (wq wo : Vec F S1024x1024 .bf16)
    (K : _ → sProp 𝕄) :
    iprop(iprop(Inputs c arg1 arg2 arg3 arg4 arg5 x1 x2 x3 x4 x5 ∗ State c arg11 arg12 a b wq wo)
        ∗ (iprop(Inputs c arg1 arg2 arg3 arg4 arg5 x1 x2 x3 x4 x5 ∗ State c arg11 arg12 a b wq wo ∗ emp)
        -∗ K ⟨k0_pay5 x1, k0_pay6 x1 wo, k0_pay7 x3, s0 x3 x4, k0_pay9 x3⟩))
      ⊢ wp frame (wpE (defs₀ (F := F)) Variants.none c none) Set.univ
          (start i arg1 harg1 arg2 harg2 arg3 harg3 arg4 harg4 arg5 harg5 arg7 harg7 arg8 harg8 arg9 harg9 arg10 harg10 arg11 harg11 arg12 harg12) K := by
  unfold start s0; rw [k0_part7_eq_skeleton]; unfold k0_part7_skel Inputs State owns
  iintro ⟨⟨⟨⟨%f1, %hf1, H1⟩, H2, ⟨%f3, %hf3, H3⟩, ⟨%f4, %hf4, H4⟩, H5⟩, ⟨H11, H12, HQ, ⟨%fo, %hfo, HO⟩⟩⟩, Hk⟩
  sl_exec (disch := first | sl_exact hi | sl_exact hj)
  sl_step
  have k1 : ∀ h, View.readAt (Elt F) arg1.view (Rect.unit ![0, 0] S512x1024.size h).toLoadRect f1 = x1 := fun h => (View.readAt_full ..).trans hf1
  have k3 : ∀ h, View.readAt (Elt F) arg3.view (Rect.unit ![0, 0] S512x1024.size h).toLoadRect f3 = x3 := fun h => (View.readAt_full ..).trans hf3
  have k4 := readAt_cols arg4.view f4 x4 hf4
  have ko : ∀ h, View.readAt (Elt F) oM.view (Rect.unit ![0, 0] S1024x1024.size h).toLoadRect fo = wo := fun h => (View.readAt_full ..).trans hfo
  simp only [k1, k3, k4, ko]
  iapply Hk
  isplitl [H1 H2 H3 H4 H5]
  · isplitl [H1]; · iexists _; isplitr; swap; · iexact H1
                    ipureintro; exact hf1
    isplitl [H2]; · iexact H2
    isplitl [H3]; · iexists _; isplitr; swap; · iexact H3
                    ipureintro; exact hf3
    isplitl [H4]; · iexists _; isplitr; swap; · iexact H4
                    ipureintro; exact hf4
    iexact H5
  isplitl
  · isplitl [H11]; · iexact H11
    isplitl [H12]; · iexact H12
    isplitl [HQ]; · iexact HQ
    iexists _; isplitr; swap; · iexact HO
    ipureintro; exact hfo
  iempintro

/-- At the first grid point of a later sequence the first part clears the keys' and values' sum. -/
theorem start_fresh (hi : ¬first i) (hj : fresh i) (b : Vec F S1x1024 .f32) (wq wo : Vec F S1024x1024 .bf16)
    (K : _ → sProp 𝕄) :
    iprop(iprop(Inputs c arg1 arg2 arg3 arg4 arg5 x1 x2 x3 x4 x5 ∗ (∃ d, owns (c : Thread nD τ) arg11 fullShare d)
          ∗ owns (c : Thread nD τ) arg12 fullShare b ∗ owns (c : Thread nD τ) qM fullShare wq ∗ owns (c : Thread nD τ) oM fullShare wo)
        ∗ (iprop(Inputs c arg1 arg2 arg3 arg4 arg5 x1 x2 x3 x4 x5 ∗ State c arg11 arg12 k0_pay4 b wq wo ∗ emp)
        -∗ K ⟨k0_pay5 x1, k0_pay6 x1 wo, k0_pay7 x3, s0 x3 x4, k0_pay9 x3⟩))
      ⊢ wp frame (wpE (defs₀ (F := F)) Variants.none c none) Set.univ
          (start i arg1 harg1 arg2 harg2 arg3 harg3 arg4 harg4 arg5 harg5 arg7 harg7 arg8 harg8 arg9 harg9 arg10 harg10 arg11 harg11 arg12 harg12) K := by
  unfold start s0; rw [k0_part7_eq_skeleton]; unfold k0_part7_skel Inputs State owns
  iintro ⟨⟨⟨⟨%f1, %hf1, H1⟩, H2, ⟨%f3, %hf3, H3⟩, ⟨%f4, %hf4, H4⟩, H5⟩, ⟨%d11, %f11, -, H11⟩, H12, HQ, ⟨%fo, %hfo, HO⟩⟩, Hk⟩
  sl_exec (disch := first | sl_exact hi | sl_exact hj)
  sl_step
  have k1 : ∀ h, View.readAt (Elt F) arg1.view (Rect.unit ![0, 0] S512x1024.size h).toLoadRect f1 = x1 := fun h => (View.readAt_full ..).trans hf1
  have k3 : ∀ h, View.readAt (Elt F) arg3.view (Rect.unit ![0, 0] S512x1024.size h).toLoadRect f3 = x3 := fun h => (View.readAt_full ..).trans hf3
  have k4 := readAt_cols arg4.view f4 x4 hf4
  have ko : ∀ h, View.readAt (Elt F) oM.view (Rect.unit ![0, 0] S1024x1024.size h).toLoadRect fo = wo := fun h => (View.readAt_full ..).trans hfo
  simp only [k1, k3, k4, ko]
  iapply Hk
  isplitl [H1 H2 H3 H4 H5]
  · isplitl [H1]; · iexists _; isplitr; swap; · iexact H1
                    ipureintro; exact hf1
    isplitl [H2]; · iexact H2
    isplitl [H3]; · iexists _; isplitr; swap; · iexact H3
                    ipureintro; exact hf3
    isplitl [H4]; · iexists _; isplitr; swap; · iexact H4
                    ipureintro; exact hf4
    iexact H5
  isplitl
  · isplitl [H11]; · iexists _; isplitr; swap; · iexact H11
                     ipureintro; exact View.read_writes_full ..
    isplitl [H12]; · iexact H12
    isplitl [HQ]; · iexact HQ
    iexists _; isplitr; swap; · iexact HO
    ipureintro; exact hfo
  iempintro

/-- What the first grid point needs besides its blocks: the two scratch buffers at any contents, the two semaphores, the
    gathered array, and what the core owes. -/
abbrev Loading (G : Buf (Elt F) (hbM.view.loc (c : Thread nD τ))) (W : Waits sig Unit) : sProp 𝕄 :=
  iprop((∃ fs : Buf (Elt F) (qM.view.loc (c : Thread nD τ)), (qM.view.loc (c : Thread nD τ) ↦{fullShare} fs))
    ∗ (∃ fs : Buf (Elt F) (oM.view.loc (c : Thread nD τ)), (oM.view.loc (c : Thread nD τ) ↦{fullShare} fs))
    ∗ semVal ((c : Thread nD τ), SemLoc.dma 19) 0 ∗ semVal ((c : Thread nD τ), SemLoc.dma 20) 0
    ∗ (hbM.view.loc (c : Thread nD τ) ↦{fullShare} G) ∗ owes (c : Thread nD τ) 0 W)

/-- What the first grid point leaves of that beside the two weights. -/
abbrev Loaded (G : Buf (Elt F) (hbM.view.loc (c : Thread nD τ))) : sProp 𝕄 :=
  iprop(semVal ((c : Thread nD τ), SemLoc.dma 19) 0 ∗ semVal ((c : Thread nD τ), SemLoc.dma 20) 0
    ∗ (hbM.view.loc (c : Thread nD τ) ↦{fullShare} G) ∗ (∃ W', owes (c : Thread nD τ) 0 W'))

set_option maxHeartbeats 8000000 in
/-- At the first grid point the first part loads the two weights and clears both sums. -/
theorem start_first (hi : first i) (hj : fresh i) (G : Buf (Elt F) (hbM.view.loc (c : Thread nD τ))) (W : Waits sig Unit)
    (K : _ → sProp 𝕄) :
    iprop(iprop(Inputs c arg1 arg2 arg3 arg4 arg5 x1 x2 x3 x4 x5 ∗ (∃ d, owns (c : Thread nD τ) arg11 fullShare d)
          ∗ (∃ d, owns (c : Thread nD τ) arg12 fullShare d) ∗ Loading c G W)
        ∗ (iprop(Inputs c arg1 arg2 arg3 arg4 arg5 x1 x2 x3 x4 x5
            ∗ State c arg11 arg12 k0_pay4 k0_pay3 (wqOf (hbM.view.read (Elt F) G)) (woOf (hbM.view.read (Elt F) G)) ∗ Loaded c G)
        -∗ K ⟨k0_pay5 x1, k0_pay6 x1 (woOf (hbM.view.read (Elt F) G)), k0_pay7 x3, s0 x3 x4, k0_pay9 x3⟩))
      ⊢ wp frame (wpE (defs₀ (F := F)) Variants.none c none) Set.univ
          (start i arg1 harg1 arg2 harg2 arg3 harg3 arg4 harg4 arg5 harg5 arg7 harg7 arg8 harg8 arg9 harg9 arg10 harg10 arg11 harg11 arg12 harg12) K := by
  have _planO : Transfers.BatchOf (c : Thread nD τ) (SemLoc.dma (sig := sig) 19) 8 (windows := true) := ⟨⟩
  have _planQ : Transfers.BatchOf (c : Thread nD τ) (SemLoc.dma (sig := sig) 20) 8 (windows := true) := ⟨⟩
  unfold start s0; rw [k0_part7_eq_skeleton]; unfold k0_part7_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel Inputs State Loading Loaded owns
  iintro ⟨⟨⟨⟨%f1, %hf1, H1⟩, H2, ⟨%f3, %hf3, H3⟩, ⟨%f4, %hf4, H4⟩, H5⟩, ⟨%d11, %f11, -, H11⟩, ⟨%d12, %f12, -, H12⟩, ⟨%fq, HQ⟩, ⟨%fo, HO⟩, Hs, Ht, Hh, HW⟩, Hk⟩
  sl_exec (disch := first | sl_exact hi | sl_exact hj)
  sl_exec (disch := first | sl_exact hi | sl_exact hj)
  sl_step
  -- what the two rows of eight transfers leave in the scratch buffers
  have hO : ∀ f : oM.view.ty.Contents (Elt F), oM.view.read (Elt F) (oM.view.writes (Elt F) f
      [⟨Rect.unit ![896, 0] S128x1024.size inb_S1024x1024_S128x1024_896_0, start_first.sl.dma7 c G⟩,
        ⟨Rect.unit ![768, 0] S128x1024.size inb_S1024x1024_S128x1024_768_0, start_first.sl.dma6 c G⟩,
        ⟨Rect.unit ![640, 0] S128x1024.size inb_S1024x1024_S128x1024_640_0, start_first.sl.dma5 c G⟩,
        ⟨Rect.unit ![512, 0] S128x1024.size inb_S1024x1024_S128x1024_512_0, start_first.sl.dma4 c G⟩,
        ⟨Rect.unit ![384, 0] S128x1024.size inb_S1024x1024_S128x1024_384_0, start_first.sl.dma3 c G⟩,
        ⟨Rect.unit ![256, 0] S128x1024.size inb_S1024x1024_S128x1024_256_0, start_first.sl.dma2 c G⟩,
        ⟨Rect.unit ![128, 0] S128x1024.size inb_S1024x1024_S128x1024_128_0, start_first.sl.dma1 c G⟩,
        ⟨Rect.unit ![0, 0] S128x1024.size inb_S1024x1024_S128x1024_0_0, start_first.sl.dma0 c G⟩])
        = woOf (hbM.view.read (Elt F) G) := fun f =>
    loaded (T := 1024) (R := 128) (off := 384) rfl (by decide) (by decide) hbM G _ f _ rfl fun d hd => by interval_cases d <;> exact ⟨_, _, _, _, rfl⟩
  have hQ : ∀ f : qM.view.ty.Contents (Elt F), qM.view.read (Elt F) (qM.view.writes (Elt F) f
      [⟨Rect.unit ![896, 0] S128x1024.size inb_S1024x1024_S128x1024_896_0, start_first.sl.dma7_1 c G⟩,
        ⟨Rect.unit ![768, 0] S128x1024.size inb_S1024x1024_S128x1024_768_0, start_first.sl.dma6_1 c G⟩,
        ⟨Rect.unit ![640, 0] S128x1024.size inb_S1024x1024_S128x1024_640_0, start_first.sl.dma5_1 c G⟩,
        ⟨Rect.unit ![512, 0] S128x1024.size inb_S1024x1024_S128x1024_512_0, start_first.sl.dma4_1 c G⟩,
        ⟨Rect.unit ![384, 0] S128x1024.size inb_S1024x1024_S128x1024_384_0, start_first.sl.dma3_1 c G⟩,
        ⟨Rect.unit ![256, 0] S128x1024.size inb_S1024x1024_S128x1024_256_0, start_first.sl.dma2_1 c G⟩,
        ⟨Rect.unit ![128, 0] S128x1024.size inb_S1024x1024_S128x1024_128_0, start_first.sl.dma1_1 c G⟩,
        ⟨Rect.unit ![0, 0] S128x1024.size inb_S1024x1024_S128x1024_0_0, start_first.sl.dma0_1 c G⟩])
        = wqOf (hbM.view.read (Elt F) G) := fun f =>
    loaded (T := 1024) (R := 128) (off := 0) rfl (by decide) (by decide) hbM G _ f _ rfl fun d hd => by interval_cases d <;> exact ⟨_, _, _, _, rfl⟩
  have k1 : ∀ h, View.readAt (Elt F) arg1.view (Rect.unit ![0, 0] S512x1024.size h).toLoadRect f1 = x1 := fun h => (View.readAt_full ..).trans hf1
  have k3 : ∀ h, View.readAt (Elt F) arg3.view (Rect.unit ![0, 0] S512x1024.size h).toLoadRect f3 = x3 := fun h => (View.readAt_full ..).trans hf3
  have k4 := readAt_cols arg4.view f4 x4 hf4
  simp only [k1, k3, k4]
  rw [show start_first.sl.v22 c G = woOf (hbM.view.read (Elt F) G) from (View.readAt_full ..).trans (hO _)]
  iapply Hk
  isplitl [H1 H2 H3 H4 H5]
  · isplitl [H1]; · iexists _; isplitr; swap; · iexact H1
                    ipureintro; exact hf1
    isplitl [H2]; · iexact H2
    isplitl [H3]; · iexists _; isplitr; swap; · iexact H3
                    ipureintro; exact hf3
    isplitl [H4]; · iexists _; isplitr; swap; · iexact H4
                    ipureintro; exact hf4
    iexact H5
  isplitl [H11 H12 HQ HO]
  · isplitl [H11]; · iexists _; isplitr; swap; · iexact H11
                     ipureintro; exact View.read_writes_full ..
    isplitl [H12]; · iexists _; isplitr; swap; · iexact H12
                     ipureintro; exact View.read_writes_full ..
    isplitl [HQ]; · iexists _; isplitr; swap; · rw [(Memref.isWhole_whole cc0_scratch0).set_eq_univ]; iexact HQ
                    ipureintro; exact hQ fq
    iexists _; isplitr; swap; · rw [(Memref.isWhole_whole cc0_scratch1).set_eq_univ]; iexact HO
    ipureintro; exact hO fo
  isplitl [Hs]; · iexact Hs
  isplitl [Ht]; · iexact Ht
  isplitl [Hh]; · iexact Hh
  iexists _; iexact HW

end Run

end Cert.Kernel2Ideal.Attn
-- ==== Proof.AttnFrame.lean ====
/-
  The launch of the call that differentiates the attention over the memory: what the two weights' scratch buffers and the two
  running sums hold between grid points, and the frame.
-/
module

public import proofs.«01_k».proof.Proof.AttnBody

@[expose] public section

set_option maxRecDepth 16384

noncomputable section

namespace Cert.Kernel2Ideal.Attn

open Cert.Kernel2Ideal Cert.Kernel2Ideal.Gen Cert.Gathered
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host operations, then the region. -/
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem coord (t : Fin cfg0.N) : (grid0.coords t 0).val = t.val ∧ t.val < 8 := by
  have ht : t.val < 8 := Nat.lt_of_lt_of_eq t.isLt N_0
  have e0 : (grid0.coords t 0).val = t.val / 1 % 8 := Pipeline.Grid.coords_val t 0 (by decide) rfl
  omega

/-- The body's first test is true at the first grid point only. -/
theorem first_iff (t : Fin cfg0.N) : first (grid0.coords t) ↔ t.val = 0 := by
  obtain ⟨e0, ht⟩ := coord t
  have : ∀ n : Fin 8, (Scalar.cmpi .ne (Scalar.extui (Scalar.cmpi .eq (BitVec.ofNat 32 n.val) 0#32) : BitVec 32) 0#32 = 1#1) ↔ n.val = 0 := by
    decide
  unfold first; rw [e0]; exact this ⟨t.val, ht⟩

/-- The body's second test is true at the first grid point of each sequence. -/
theorem fresh_iff (t : Fin cfg0.N) : fresh (grid0.coords t) ↔ t.val % 4 = 0 := by
  obtain ⟨e0, ht⟩ := coord t
  have : ∀ n : Fin 8, (Scalar.cmpi .ne (Scalar.extui (Scalar.cmpi .eq (Scalar.select
      (Scalar.andi (Scalar.xori (Scalar.cmpi .slt (Scalar.remsi (BitVec.ofNat 32 n.val) (Scalar.select (Scalar.cmpi .eq 4#32 0#32) 1#32 4#32)) 0#32)
        (Scalar.cmpi .slt (Scalar.select (Scalar.cmpi .eq 4#32 0#32) 1#32 4#32) 0#32))
        (Scalar.cmpi .ne (Scalar.remsi (BitVec.ofNat 32 n.val) (Scalar.select (Scalar.cmpi .eq 4#32 0#32) 1#32 4#32)) 0#32))
      (Scalar.addi (Scalar.remsi (BitVec.ofNat 32 n.val) (Scalar.select (Scalar.cmpi .eq 4#32 0#32) 1#32 4#32))
        (Scalar.select (Scalar.cmpi .eq 4#32 0#32) 1#32 4#32))
      (Scalar.remsi (BitVec.ofNat 32 n.val) (Scalar.select (Scalar.cmpi .eq 4#32 0#32) 1#32 4#32))) 0#32) : BitVec 32) 0#32 = 1#1) ↔ n.val % 4 = 0 := by
    decide
  unfold fresh tile; rw [e0]; exact this ⟨t.val, ht⟩

/-- The two weights as the region finds them in the gathered array. -/
def wqAt (c : Dev nD) : Vec F S1024x1024 .bf16 := wqOf (hbM.view.read (Elt F) (V m c main_v8))
def woAt (c : Dev nD) : Vec F S1024x1024 .bf16 := woOf (hbM.view.read (Elt F) (V m c main_v8))

/-- One step of the keys' and values' sum, and of the norm weight's. -/
def dkvStep (c : Dev nD) (t : Fin cfg0.N) (a : Vec F S256x2048 .f32) : Vec F S256x2048 .f32 :=
  dkvOf (iblk m c 0 t) (iblk m c 2 t) (iblk m c 3 t) (woAt m c) a
def dgStep (c : Dev nD) (t : Fin cfg0.N) (b : Vec F S1x1024 .f32) : Vec F S1x1024 .f32 :=
  dgOf (iblk m c 0 t) (iblk m c 1 t) (iblk m c 2 t) (iblk m c 3 t) (wqAt m c) (woAt m c) b

/-- The keys' and values' sum after each grid point: it starts again with each sequence. -/
def dkvAt (c : Dev nD) : (n : ℕ) → n < cfg0.N → Vec F S256x2048 .f32
  | 0, h => dkvStep m c ⟨0, h⟩ k0_pay4
  | n + 1, h => dkvStep m c ⟨n + 1, h⟩ (if (n + 1) % 4 = 0 then k0_pay4 else dkvAt c n (Nat.lt_of_succ_lt h))

/-- The norm weight's sum after each grid point. -/
def dgAt (c : Dev nD) : (n : ℕ) → n < cfg0.N → Vec F S1x1024 .f32
  | 0, h => dgStep m c ⟨0, h⟩ k0_pay3
  | n + 1, h => dgStep m c ⟨n + 1, h⟩ (dgAt c n (Nat.lt_of_succ_lt h))

theorem dkvAt_fresh (c : Dev nD) (t : Fin cfg0.N) (h : t.val % 4 = 0) : dkvAt m c t.val t.isLt = dkvStep m c t k0_pay4 := by
  obtain ⟨n, hn⟩ := t
  cases n with
  | zero => rfl
  | succ n => exact congrArg (dkvStep m c ⟨n + 1, hn⟩) (if_pos h)

theorem dkvAt_later (c : Dev nD) (t : Fin cfg0.N) (h : t.val % 4 ≠ 0) :
    dkvAt m c t.val t.isLt = dkvStep m c t (dkvAt m c (t.val - 1) (Nat.lt_of_le_of_lt (Nat.sub_le _ _) t.isLt)) := by
  obtain ⟨n, hn⟩ := t
  cases n with
  | zero => exact absurd rfl h
  | succ n => exact congrArg (dkvStep m c ⟨n + 1, hn⟩) (if_neg h)

theorem dgAt_zero (c : Dev nD) (t : Fin cfg0.N) (h : t.val = 0) : dgAt m c t.val t.isLt = dgStep m c t k0_pay3 := by
  obtain ⟨n, hn⟩ := t; cases n with | zero => rfl | succ n => exact absurd h (Nat.succ_ne_zero n)

theorem dgAt_pos (c : Dev nD) (t : Fin cfg0.N) (h : t.val ≠ 0) :
    dgAt m c t.val t.isLt = dgStep m c t (dgAt m c (t.val - 1) (Nat.lt_of_le_of_lt (Nat.sub_le _ _) t.isLt)) := by
  obtain ⟨n, hn⟩ := t; cases n with | zero => exact absurd rfl h | succ n => rfl

/-! ## Between grid points -/

/-- The body's two semaphores, and the array its transfers read. -/
abbrev osem0 : Fin 2 → SemLoc sig := ![SemLoc.dma 19, SemLoc.dma 20]
theorem ownSemFacts0 : Pipeline.OwnSemFacts spec0 osem0 := by decide
def H0 : Finset (Ref sig .tc) := {main_v8}
theorem H0_sub : H0 ⊆ Pipeline.restRefs sig spec0 := by decide

/-- The two semaphores at zero, and the gathered array. -/
abbrev Idle (c : Dev nD) : sProp 𝕄 :=
  iprop(semVal ((c : Thread nD τ), SemLoc.dma 19) 0 ∗ semVal ((c : Thread nD τ), SemLoc.dma 20) 0
    ∗ (hbM.view.loc (c : Thread nD τ) ↦{fullShare} V m c main_v8))

/-- What the launch hands the region. -/
theorem Phi_launch (c : Dev nD) : (Pipeline.ΦD osem0 spec0 H0 (V m) c : sProp 𝕄)
    = iprop(((∃ fs : Buf (Elt F) (qM.view.loc (c : Thread nD τ)), (qM.view.loc (c : Thread nD τ) ↦{fullShare} fs))
        ∗ (∃ fs : Buf (Elt F) (oM.view.loc (c : Thread nD τ)), (oM.view.loc (c : Thread nD τ) ↦{fullShare} fs)))
      ∗ (∃ r, prngReg c r) ∗ (semVal ((c : Thread nD τ), SemLoc.dma 19) 0 ∗ semVal ((c : Thread nD τ), SemLoc.dma 20) 0)
      ∗ (hbM.view.loc (c : Thread nD τ) ↦{fullShare} V m c main_v8)) := by
  rw [Pipeline.ΦD_eq, scopedRest0_eq, Pipeline.ownSems0_eq_of_list c osem0 [0, 1] (by decide) (by decide)]
  rw [BI.bigSep_eq_bigSepL_of_eq [main_v8] (by decide) (by decide)]; rfl

/-- Before the first grid point the scratch buffers hold anything, afterwards the weights. -/
def Phi (c : Dev nD) : ℕ → sProp 𝕄
  | 0 => Pipeline.ΦD osem0 spec0 H0 (V m) c
  | _ + 1 => iprop((owns (c : Thread nD τ) qM fullShare (wqAt m c) ∗ owns (c : Thread nD τ) oM fullShare (woAt m c))
      ∗ (∃ r, prngReg c r) ∗ (semVal ((c : Thread nD τ), SemLoc.dma 19) 0 ∗ semVal ((c : Thread nD τ), SemLoc.dma 20) 0)
      ∗ (hbM.view.loc (c : Thread nD τ) ↦{fullShare} V m c main_v8))

theorem Phi_zero (c : Dev nD) (n : ℕ) (h : n = 0) : Phi m c n
    = iprop(((∃ fs : Buf (Elt F) (qM.view.loc (c : Thread nD τ)), (qM.view.loc (c : Thread nD τ) ↦{fullShare} fs))
        ∗ (∃ fs : Buf (Elt F) (oM.view.loc (c : Thread nD τ)), (oM.view.loc (c : Thread nD τ) ↦{fullShare} fs)))
      ∗ (∃ r, prngReg c r) ∗ (semVal ((c : Thread nD τ), SemLoc.dma 19) 0 ∗ semVal ((c : Thread nD τ), SemLoc.dma 20) 0)
      ∗ (hbM.view.loc (c : Thread nD τ) ↦{fullShare} V m c main_v8)) := by subst h; exact Phi_launch m c

theorem Phi_pos (c : Dev nD) (n : ℕ) (h : n ≠ 0) : Phi m c n
    = iprop((owns (c : Thread nD τ) qM fullShare (wqAt m c) ∗ owns (c : Thread nD τ) oM fullShare (woAt m c))
      ∗ (∃ r, prngReg c r) ∗ (semVal ((c : Thread nD τ), SemLoc.dma 19) 0 ∗ semVal ((c : Thread nD τ), SemLoc.dma 20) 0)
      ∗ (hbM.view.loc (c : Thread nD τ) ↦{fullShare} V m c main_v8)) := by
  cases n with | zero => exact absurd rfl h | succ n => rfl

/-- The launch's proof data: the inputs stay as fetched, the first three results' blocks are the cotangents of this block of
    queries, the last two the running sums. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxOf (iblk m c 0 t) (iblk m c 1 t) (iblk m c 2 t) (iblk m c 3 t) (iblk m c 4 t) (wqAt m c) (woAt m c)
    | ⟨7, _⟩ => dxbOf (iblk m c 0 t) (iblk m c 1 t) (iblk m c 2 t) (iblk m c 3 t) (iblk m c 4 t) (wqAt m c) (woAt m c)
    | ⟨8, _⟩ => dqOf (iblk m c 0 t) (iblk m c 2 t) (iblk m c 3 t) (woAt m c)
    | ⟨9, _⟩ => dkvAt m c t.val t.isLt
    | ⟨10, _⟩ => dgAt m c t.val t.isLt
  Φ t := Phi m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = dxOf (iblk m c 0 t) (iblk m c 1 t) (iblk m c 2 t) (iblk m c 3 t) (iblk m c 4 t) (wqAt m c) (woAt m c) := by dsimp only [dats]
theorem after7 (c : Dev nD) (t : Fin cfg0.N) : (dats m 0 c).after 7 t
    = dxbOf (iblk m c 0 t) (iblk m c 1 t) (iblk m c 2 t) (iblk m c 3 t) (iblk m c 4 t) (wqAt m c) (woAt m c) := by dsimp only [dats]
theorem after8 (c : Dev nD) (t : Fin cfg0.N) : (dats m 0 c).after 8 t
    = dqOf (iblk m c 0 t) (iblk m c 2 t) (iblk m c 3 t) (woAt m c) := by dsimp only [dats]
theorem after9 (c : Dev nD) (t : Fin cfg0.N) : (dats m 0 c).after 9 t = dkvAt m c t.val t.isLt := by dsimp only [dats]
theorem after10 (c : Dev nD) (t : Fin cfg0.N) : (dats m 0 c).after 10 t = dgAt m c t.val t.isLt := by dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
/-- The keys' and values' sum is written back after the last point of each sequence, so the others find what the point
    before left. -/
theorem before9 (c : Dev nD) (t : Fin cfg0.N) (h0 : t.val % 4 ≠ 0) (d) :
    (dats m 0 c).before 9 t d = dkvAt m c (t.val - 1) (Nat.lt_of_le_of_lt (Nat.sub_le _ _) t.isLt) := by
  have hN : t.val < 8 := lt_of_lt_of_eq t.isLt N_0
  rw [Dat.before_out_kept _ 9 rfl t (by omega) (Bool.eq_false_iff.mpr fun h => by have := (flush0_9 _).mp h; dsimp only at this; omega)
    (fun _ => rfl) (fun _ _ => rfl)]
  dsimp only [dats]
/-- The norm weight's sum is written back after the last point only. -/
theorem before10 (c : Dev nD) (t : Fin cfg0.N) (h0 : t.val ≠ 0) (d) :
    (dats m 0 c).before 10 t d = dgAt m c (t.val - 1) (Nat.lt_of_le_of_lt (Nat.sub_le _ _) t.isLt) := by
  have hN : t.val < 8 := lt_of_lt_of_eq t.isLt N_0
  rw [Dat.before_out_kept _ 10 rfl t (by omega) (Bool.eq_false_iff.mpr fun h => by have := (flush0_10 _).mp h; dsimp only at this; omega)
    (fun _ => rfl) (fun _ _ => rfl)]
  dsimp only [dats]

/-! ## The body at a grid point -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t))

set_option maxHeartbeats 3200000 in
/-- The body at any grid point: the first point loads the weights, the later ones find them; the first point of a sequence
    starts the keys' and values' sum again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [after0, after1, after2, after3, after4, after5, after6, after7, after8, after9, after10]
  rw [show (dats m 0 c).Φ t.castSucc = Phi m c t.val from rfl,
    show (dats m 0 c).Φ t.succ = Phi m c (t.val + 1) from rfl, Phi_pos m c (t.val + 1) (Nat.succ_ne_zero _)]
  unfold Dat.owesAt Pipeline.owesWithin
  rw [show (dats m 0 c).owed t.castSucc = 0 from rfl, show (dats m 0 c).owed t.succ = 0 from rfl]
  by_cases hz : t.val = 0
  · rw [Phi_zero m c _ hz, dgAt_zero m c t hz, dkvAt_fresh m c t (by omega)]
    iintro ⟨⟨⟨HQ, HO⟩, Hg, ⟨Hs, Ht⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run c (grid0.coords t) (ms0 t) _ (ms1 t) _ (ms2 t) _ (ms3 t) _ (ms4 t) _ (ms5 t) _ (ms6 t) _ (ms7 t) _ (ms8 t) _ (ms9 t) _ (ms10 t) _ (iblk m c 0 t) (iblk m c 1 t) (iblk m c 2 t) (iblk m c 3 t) (iblk m c 4 t) k0_pay4 k0_pay3 (wqAt m c) (woAt m c) _ _ (start_first c (grid0.coords t) (ms0 t) _ (ms1 t) _ (ms2 t) _ (ms3 t) _ (ms4 t) _ (ms5 t) _ (ms6 t) _ (ms7 t) _ (ms8 t) _ (ms9 t) _ (ms10 t) _ (iblk m c 0 t) (iblk m c 1 t) (iblk m c 2 t) (iblk m c 3 t) (iblk m c 4 t) ((first_iff t).mpr hz) ((fresh_iff t).mpr (by omega)) (V m c main_v8) W) _)
    isplitl [H0 H1 H2 H3 H4 H9 H10 HQ HO Hs Ht Hh HW]
    · isplitl [H0 H1 H2 H3 H4]
      · isplitl [H0]; · iexact H0
        isplitl [H1]; · iexact H1
        isplitl [H2]; · iexact H2
        isplitl [H3]; · iexact H3
        iexact H4
      isplitl [H9]; · iexists _; iexact H9
      isplitl [H10]; · iexists _; iexact H10
      isplitl [HQ]; · iexact HQ
      isplitl [HO]; · iexact HO
      isplitl [Hs]; · iexact Hs
      isplitl [Ht]; · iexact Ht
      isplitl [Hh]; · iexact Hh
      iexact HW
    isplitl [H6 H7 H8]
    · isplitl [H6]; · iexists _; iexact H6
      isplitl [H7]; · iexists _; iexact H7
      iexists _; iexact H8
    iintro ⟨⟨H0, H1, H2, H3, H4⟩, H6, H7, H8, ⟨H9, H10, HQ, HO⟩, ⟨Hs, Ht, Hh, ⟨%W', HW⟩⟩⟩
    isplitl [HQ HO Hg Hs Ht Hh]
    · isplitl [HQ HO]
      · isplitl [HQ]; · iexact HQ
        iexact HO
      isplitl [Hg]; · iexact Hg
      isplitl [Hs Ht]
      · isplitl [Hs]; · iexact Hs
        iexact Ht
      iexact Hh
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Phi_pos m c _ hz, dgAt_pos m c t hz]
    simp only [before10 m c t hz]
    by_cases hf : t.val % 4 = 0
    · rw [dkvAt_fresh m c t hf]
      iintro ⟨⟨⟨HQ, HO⟩, Hg, HI⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run c (grid0.coords t) (ms0 t) _ (ms1 t) _ (ms2 t) _ (ms3 t) _ (ms4 t) _ (ms5 t) _ (ms6 t) _ (ms7 t) _ (ms8 t) _ (ms9 t) _ (ms10 t) _ (iblk m c 0 t) (iblk m c 1 t) (iblk m c 2 t) (iblk m c 3 t) (iblk m c 4 t) k0_pay4 _ (wqAt m c) (woAt m c) _ _ (start_fresh c (grid0.coords t) (ms0 t) _ (ms1 t) _ (ms2 t) _ (ms3 t) _ (ms4 t) _ (ms5 t) _ (ms6 t) _ (ms7 t) _ (ms8 t) _ (ms9 t) _ (ms10 t) _ (iblk m c 0 t) (iblk m c 1 t) (iblk m c 2 t) (iblk m c 3 t) (iblk m c 4 t) (fun h => hz ((first_iff t).mp h)) ((fresh_iff t).mpr hf) _ (wqAt m c) (woAt m c)) _)
      isplitl [H0 H1 H2 H3 H4 H9 H10 HQ HO]
      · isplitl [H0 H1 H2 H3 H4]
        · isplitl [H0]; · iexact H0
          isplitl [H1]; · iexact H1
          isplitl [H2]; · iexact H2
          isplitl [H3]; · iexact H3
          iexact H4
        isplitl [H9]; · iexists _; iexact H9
        isplitl [H10]; · iexact H10
        isplitl [HQ]; · iexact HQ
        iexact HO
      isplitl [H6 H7 H8]
      · isplitl [H6]; · iexists _; iexact H6
        isplitl [H7]; · iexists _; iexact H7
        iexists _; iexact H8
      iintro ⟨⟨H0, H1, H2, H3, H4⟩, H6, H7, H8, ⟨H9, H10, HQ, HO⟩, -⟩
      isplitl [HQ HO Hg HI]
      · isplitl [HQ HO]
        · isplitl [HQ]; · iexact HQ
          iexact HO
        isplitl [Hg]; · iexact Hg
        iexact HI
      isplitl [HW]; · iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [dkvAt_later m c t hf]
      simp only [before9 m c t hf]
      iintro ⟨⟨⟨HQ, HO⟩, Hg, HI⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run c (grid0.coords t) (ms0 t) _ (ms1 t) _ (ms2 t) _ (ms3 t) _ (ms4 t) _ (ms5 t) _ (ms6 t) _ (ms7 t) _ (ms8 t) _ (ms9 t) _ (ms10 t) _ (iblk m c 0 t) (iblk m c 1 t) (iblk m c 2 t) (iblk m c 3 t) (iblk m c 4 t) _ _ (wqAt m c) (woAt m c) _ _ (start_later c (grid0.coords t) (ms0 t) _ (ms1 t) _ (ms2 t) _ (ms3 t) _ (ms4 t) _ (ms5 t) _ (ms6 t) _ (ms7 t) _ (ms8 t) _ (ms9 t) _ (ms10 t) _ (iblk m c 0 t) (iblk m c 1 t) (iblk m c 2 t) (iblk m c 3 t) (iblk m c 4 t) (fun h => hz ((first_iff t).mp h)) (fun h => hf ((fresh_iff t).mp h)) _ _ (wqAt m c) (woAt m c)) _)
      isplitl [H0 H1 H2 H3 H4 H9 H10 HQ HO]
      · isplitl [H0 H1 H2 H3 H4]
        · isplitl [H0]; · iexact H0
          isplitl [H1]; · iexact H1
          isplitl [H2]; · iexact H2
          isplitl [H3]; · iexact H3
          iexact H4
        isplitl [H9]; · iexact H9
        isplitl [H10]; · iexact H10
        isplitl [HQ]; · iexact HQ
        iexact HO
      isplitl [H6 H7 H8]
      · isplitl [H6]; · iexists _; iexact H6
        isplitl [H7]; · iexists _; iexact H7
        iexists _; iexact H8
      iintro ⟨⟨H0, H1, H2, H3, H4⟩, H6, H7, H8, ⟨H9, H10, HQ, HO⟩, -⟩
      isplitl [HQ HO Hg HI]
      · isplitl [HQ HO]
        · isplitl [HQ]; · iexact HQ
          iexact HO
        isplitl [Hg]; · iexact Hg
        iexact HI
      isplitl [HW]; · iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦD osem0 spec0 H0 (V m) c ⊢ (dats m 0 c).Φ 0 := .rfl

theorem hout (c : Dev nD) : (dats m 0 c).Φ (Fin.last cfg0.N) ⊢ Pipeline.ΦD osem0 spec0 H0 (V m) c := by
  rw [show (dats m 0 c).Φ (Fin.last cfg0.N) = Phi m c cfg0.N from rfl, Phi_pos m c cfg0.N (by rw [show cfg0.N = 8 from N_0]; decide), Phi_launch]
  unfold owns
  iintro ⟨⟨⟨%f, -, HQ⟩, ⟨%f', -, HO⟩⟩, Hg⟩
  isplitl [HQ HO]
  · isplitl [HQ]
    · iexists f; rw [(Memref.isWhole_whole cc0_scratch0).set_eq_univ]; iexact HQ
    iexists f'; rw [(Memref.isWhole_whole cc0_scratch1).set_eq_univ]; iexact HO
  iexact Hg

set_option backward.isDefEq.respectTransparency.types false in
/-- Every run ends with each array of the launch at the contents the proof data give, every other buffer as the region
    found it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays are as they were at the start. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

theorem kept (r : PUnit × MemSt nD τ sig (Elt F)) (h : Pipeline.FramePost cfgs (dats m) 0 (V m) r) (c : Dev nD) : Kept m r c :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 4).trans (((dats m 0 c).arrAt_in 4 rfl _).trans ((A_eq m c 4).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame: the arguments end as they began, every semaphore at zero. -/
theorem frame : θ_run defs (onTc (τ := τ) (main (F := F))) ⟨m, fun _ => 0, ρ⟩
    (fun r => (∀ c : Dev nD, Kept m r c) ∧ r.2.sem = fun _ => 0) :=
  (θ_run defs _ _).mono (fun r h => ⟨kept m r h.1, h.2⟩) (run_main m ρ)

end Cert.Kernel2Ideal.Attn
-- ==== Proof.AttnArrays.lean ====
/-
  The arrays of the call that differentiates the attention over the memory: what its result arrays end holding in terms of the
  blocks, and what the host's lines before the call hand it.
-/
module

public import proofs.«01_k».proof.Proof.AttnFrame
public import proofs.«01_k».proof.Proof.HostRead
public import proofs.«01_k».proof.Proof.Blocks
public import proofs.«01_k».proof.Proof.Gen.Reference2Ideal.Read
public import Idealize.ShloMosaic.Lib.Pipeline.Value
public import Idealize.ShloMosaic.Lib.Pointwise

@[expose] public section

set_option maxRecDepth 16384

noncomputable section

namespace Cert.Kernel2Ideal.Attn

open Cert.Kernel2Ideal Cert.Kernel2Ideal.Gen Cert.Gathered Cert.HostRead Cert.Blocks
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ)

theorem lt_N {n : ℕ} (h : n < 8) : n < cfg0.N := lt_of_lt_of_eq h N_0.symm

/-- Grid point `n`. -/
def pt (n : ℕ) (h : n < 8) : Fin cfg0.N := ⟨n, lt_N h⟩

/-! ## Which block each window has at a grid point -/

theorem rows : ∀ t : Fin cfg0.N, At (win0_0.index t) t.val ∧ At (win0_1.index t) t.val ∧ At (win0_2.index t) t.val ∧ At (win0_6.index t) t.val
    ∧ At (win0_7.index t) t.val ∧ At (win0_8.index t) t.val :=
  (by decide +kernel : ∀ t : Fin grid0.N, _)

/-- The memory's block changes with the sequence, every fourth point; the norm's weight and its sum are one block each. -/
theorem others : ∀ t : Fin cfg0.N, At (win0_3.index t) (t.val / 4) ∧ At (win0_9.index t) (t.val / 4) ∧ At (win0_4.index t) 0 ∧ At (win0_10.index t) 0 :=
  (by decide +kernel : ∀ t : Fin grid0.N, _)

/-- Row `r` of point `t`'s block of the cotangent is row `512·t + r` of the array; the next two are of the input and the queries. -/
theorem iblk0_apply (c : Dev nD) (t : Fin cfg0.N) (r : Fin 512) (k : Fin 1024) (R : Fin 4096) (hR : R.val = t.val * 512 + r.val) :
    iblk m c 0 t (ix2 r k) = V m c main_v45 (ix2 R k) := congrArg (V m c main_v45) (entry (rows t).1 hR rfl rfl rfl)
theorem iblk1_apply (c : Dev nD) (t : Fin cfg0.N) (r : Fin 512) (k : Fin 1024) (R : Fin 4096) (hR : R.val = t.val * 512 + r.val) :
    iblk m c 1 t (ix2 r k) = V m c main_v46 (ix2 R k) := congrArg (V m c main_v46) (entry (rows t).2.1 hR rfl rfl rfl)
theorem iblk2_apply (c : Dev nD) (t : Fin cfg0.N) (r : Fin 512) (k : Fin 1024) (R : Fin 4096) (hR : R.val = t.val * 512 + r.val) :
    iblk m c 2 t (ix2 r k) = V m c main_v47 (ix2 R k) := congrArg (V m c main_v47) (entry (rows t).2.2.1 hR rfl rfl rfl)
theorem iblk3_apply (c : Dev nD) (t : Fin cfg0.N) (j : Fin 256) (k : Fin 2048) (R : Fin 512) (hR : R.val = t.val / 4 * 256 + j.val) :
    iblk m c 3 t (ix2 j k) = V m c main_v48 (ix2 R k) := congrArg (V m c main_v48) (entry (others t).1 hR rfl rfl rfl)
theorem iblk4_apply (c : Dev nD) (t : Fin cfg0.N) (k : Fin 1024) :
    iblk m c 4 t (ix2 0 k) = (m ((c : Thread nD τ).loc main_arg2) : Vec F S1x1024 .f32) (ix2 0 k) :=
  (congrArg (V m c main_arg2) (same (others t).2.2.1 rfl rfl)).trans (congrFun (V_main_arg2 m c) _)

/-! ## What the result arrays end holding -/

/-- The point whose block has the row of `i`. -/
abbrev at_ (i : S4096x1024.Idx) : Fin cfg0.N := pt ((i 0).val / 512) (by have : (i 0).val < 4096 := (i 0).isLt; omega)

/-- The array whose rows `512·t …` are block `t`. -/
def tiled {α : Type} (f : Fin cfg0.N → S512x1024.Idx → α) : S4096x1024.Idx → α := fun i =>
  f (at_ i) (ix2 ⟨(i 0).val % 512, Nat.mod_lt _ (by decide)⟩ ⟨(i 1).val, (i 1).isLt⟩)

theorem tiled_at {α : Type} (f : Fin cfg0.N → S512x1024.Idx → α) (t : Fin cfg0.N) (y : S512x1024.Idx) (i : S4096x1024.Idx)
    (h0 : (i 0).val = t.val * 512 + (y 0).val) (h1 : (i 1).val = (y 1).val) : tiled f i = f t y := by
  have hy : (y 0).val < 512 := (y 0).isLt
  have e1 : at_ i = t :=
    Fin.ext (show (i 0).val / 512 = t.val by omega)
  have e2 : (ix2 ⟨(i 0).val % 512, Nat.mod_lt _ (by decide)⟩ ⟨(i 1).val, (i 1).isLt⟩ : S512x1024.Idx) = y := funext fun a => Fin.ext (match a with
    | ⟨0, _⟩ => show (i 0).val % 512 = (y 0).val by omega
    | ⟨1, _⟩ => h1)
  unfold tiled
  rw [e1, e2]

/-- What a window stores block by block. -/
theorem of_tiles {α : Type} {f : Fin cfg0.N → S512x1024.Idx → α} {t : Fin cfg0.N} {y : S512x1024.Idx} {i : S4096x1024.Idx} {n : Fin 2 → ℕ}
    (hn : At n t.val) {x : α} (hx : x = f t y) (e0 : (i 0).val = n 0 * 512 + 1 * (y 0).val) (e1 : (i 1).val = n 1 * 1024 + 1 * (y 1).val) :
    x = tiled f i :=
  hx.trans (tiled_at f t y i (row hn e0) (column hn e1)).symm

/-- The gradient of the block's input, tile by tile. -/
theorem result0 (c : Dev nD) : (dats m 0 c).arrAt 6 cfg0.N
    = tiled fun t => dxOf (iblk m c 0 t) (iblk m c 1 t) (iblk m c 2 t) (iblk m c 3 t) (iblk m c 4 t) (wqAt m c) (woAt m c) := by
  refine (dats m 0 c).arrAt_eq_of_cover 6 _ (fun t _ => funext fun y => of_tiles (i := ((cfg0.win 6).blk t).view.emb y) (rows t).2.2.2.1 rfl rfl rfl)
    (fun i => ⟨at_ i, (by decide +kernel : ∀ t : Fin grid0.N, win0_6.flush t = true) _, ?_⟩)
  show i ∈ ((View.whole main_v50_0).slice (win0_6.rect (at_ i))).set
  rw [View.set_slice_whole, Rect.mem_set_unit]
  exact inside (by decide) (rows _).2.2.2.1 i rfl

/-- The same, rounded. -/
theorem result1 (c : Dev nD) : (dats m 0 c).arrAt 7 cfg0.N
    = tiled fun t => dxbOf (iblk m c 0 t) (iblk m c 1 t) (iblk m c 2 t) (iblk m c 3 t) (iblk m c 4 t) (wqAt m c) (woAt m c) := by
  refine (dats m 0 c).arrAt_eq_of_cover 7 _ (fun t _ => funext fun y => of_tiles (i := ((cfg0.win 7).blk t).view.emb y) (rows t).2.2.2.2.1 rfl rfl rfl)
    (fun i => ⟨at_ i, (by decide +kernel : ∀ t : Fin grid0.N, win0_7.flush t = true) _, ?_⟩)
  show i ∈ ((View.whole main_v50_1).slice (win0_7.rect (at_ i))).set
  rw [View.set_slice_whole, Rect.mem_set_unit]
  exact inside (by decide) (rows _).2.2.2.2.1 i rfl

/-- The gradient of the queries, tile by tile. -/
theorem result2 (c : Dev nD) : (dats m 0 c).arrAt 8 cfg0.N
    = tiled fun t => dqOf (iblk m c 0 t) (iblk m c 2 t) (iblk m c 3 t) (woAt m c) := by
  refine (dats m 0 c).arrAt_eq_of_cover 8 _ (fun t _ => funext fun y => of_tiles (i := ((cfg0.win 8).blk t).view.emb y) (rows t).2.2.2.2.2 rfl rfl rfl)
    (fun i => ⟨at_ i, (by decide +kernel : ∀ t : Fin grid0.N, win0_8.flush t = true) _, ?_⟩)
  show i ∈ ((View.whole main_v50_2).slice (win0_8.rect (at_ i))).set
  rw [View.set_slice_whole, Rect.mem_set_unit]
  exact inside (by decide) (rows _).2.2.2.2.2 i rfl

/-- The sum of the keys' and values' gradients after the sequence's last tile. -/
def dkvEnd (c : Dev nD) (b : Fin 2) : Vec F S256x2048 .f32 := dkvAt m c (b.val * 4 + 3) (lt_N (by omega))

/-- The last point of the sequence that the row of `i` belongs to. -/
abbrev last (i : S512x2048.Idx) : Fin cfg0.N := pt ((i 0).val / 256 * 4 + 3) (by have : (i 0).val < 512 := (i 0).isLt; omega)

/-- The gradients of the keys and values, sequence by sequence. -/
theorem result3 (c : Dev nD) : (dats m 0 c).arrAt 9 cfg0.N = fun i : S512x2048.Idx =>
    dkvEnd m c ⟨(i 0).val / 256, by have : (i 0).val < 512 := (i 0).isLt; omega⟩ (ix2 ⟨(i 0).val % 256, Nat.mod_lt _ (by decide)⟩ ⟨(i 1).val, (i 1).isLt⟩) := by
  refine (dats m 0 c).arrAt_eq_of_cover 9 _ (fun t hf => ?_)
    (fun i => ⟨last i, (flush0_9 _).mpr (by show ((i 0).val / 256 * 4 + 3) % 4 = 3; omega), ?_⟩)
  · show (cfg0.win 9).cut (grid0.coords t) ((dats m 0 c).after 9 t) = _
    rw [after9]
    funext y
    have h := (others t).2.1
    have h3 := (flush0_9 t).mp hf
    have hN : t.val < 8 := lt_of_lt_of_eq t.isLt N_0
    have hy : (y 0).val < 256 := (y 0).isLt
    have e0 : ((((cfg0.win 9).blk t).view.emb y) 0).val = win0_9.index t (0 : Fin 2) * 256 + 1 * (y 0).val := rfl
    have e1 : ((((cfg0.win 9).blk t).view.emb y) 1).val = win0_9.index t (1 : Fin 2) * 2048 + 1 * (y 1).val := rfl
    show dkvAt m c t.val t.isLt y = dkvEnd m c ⟨((((cfg0.win 9).blk t).view.emb y) 0).val / 256, _⟩ (ix2 ⟨((((cfg0.win 9).blk t).view.emb y) 0).val % 256, _⟩ ⟨((((cfg0.win 9).blk t).view.emb y) 1).val, _⟩)
    have ey : (ix2 ⟨((((cfg0.win 9).blk t).view.emb y) 0).val % 256, Nat.mod_lt _ (by decide)⟩ ⟨((((cfg0.win 9).blk t).view.emb y) 1).val, ((((cfg0.win 9).blk t).view.emb y) 1).isLt⟩ : S256x2048.Idx) = y := funext fun a => Fin.ext (match a with
      | ⟨0, _⟩ => show ((((cfg0.win 9).blk t).view.emb y) 0).val % 256 = (y 0).val by rw [e0]; omega
      | ⟨1, _⟩ => show ((((cfg0.win 9).blk t).view.emb y) 1).val = (y 1).val by rw [e1]; omega)
    rw [ey]
    unfold dkvEnd
    have et : ((((cfg0.win 9).blk t).view.emb y) 0).val / 256 * 4 + 3 = t.val := by rw [e0]; omega
    dsimp only
    have : ∀ (n : ℕ) (hn : n < cfg0.N), n = t.val → dkvAt m c t.val t.isLt y = dkvAt m c n hn y := by rintro n hn rfl; rfl
    exact this _ _ et
  · show i ∈ ((View.whole main_v50_3).slice (win0_9.rect (last i))).set
    rw [View.set_slice_whole, Rect.mem_set_unit]
    exact inside (by decide) (others _).2.1 i (by show ((i 0).val / 256 * 4 + 3) / 4 = _; omega)

/-- The norm weight's sum after the last point. -/
theorem result4 (c : Dev nD) : (dats m 0 c).arrAt 10 cfg0.N = dgAt m c 7 (lt_N (by decide)) := by
  have e (t : Fin cfg0.N) (y : S1x1024.Idx) : ((cfg0.win 10).blk t).view.emb y = y := same (others t).2.2.2 rfl rfl
  refine (dats m 0 c).arrAt_eq_of_cover 10 _ (fun t hf => funext fun y => ?_) (fun i => ⟨pt 7 (by decide), (flush0_10 _).mpr rfl, ?_⟩)
  · obtain rfl : t = pt 7 (by decide) := Fin.ext (by have := (flush0_10 t).mp hf; have := lt_of_lt_of_eq t.isLt N_0; show t.val = 7; omega)
    exact congrArg (dgAt m c 7 _) (e _ y).symm
  · have := ((cfg0.win 10).blk (pt 7 (by decide))).view.emb_mem_set i
    rwa [e] at this

/-! ## The host's lines before the call -/

theorem V_v45 (c : Dev nD) : (V m c main_v45 : Vec F S4096x1024 .f32)
    = shapeCast S4096x1024 (m ((c : Thread nD τ).loc main_arg7) : Vec F S2x2048x1024 .f32) shapeCasts_S2x2048x1024_S4096x1024 := by
  show StableHlo.after hostOps0 (fun b => m (c, b)) main_v45 = _
  after_results <;> rfl

theorem V_v46 (c : Dev nD) : (V m c main_v46 : Vec F S4096x1024 .f32)
    = shapeCast S4096x1024 (m ((c : Thread nD τ).loc main_arg0) : Vec F S2x2048x1024 .f32) shapeCasts_S2x2048x1024_S4096x1024 := by
  show StableHlo.after hostOps0 (fun b => m (c, b)) main_v46 = _
  after_results <;> rfl

/-- The queries: the reference's, scaled by a sixteenth and rounded. -/
theorem V_v47 (c : Dev nD) : (V m c main_v47 : Vec F S4096x1024 .bf16)
    = shapeCast S4096x1024 (truncf .bf16 (mulf (Cert.Reference2Ideal.Read.val_main_v18 (F := F)
          (m ((c : Thread nD τ).loc main_arg0)) (m ((c : Thread nD τ).loc main_arg2)) (m ((c : Thread nD τ).loc main_arg4)))
        (broadcastInDim S2x2048x1024 ![] bcast_S_S2x2048x1024 (constant S_ .f32 0x3D800000#32))) bitsLt_bf16_f32 : Vec F S2x2048x1024 .bf16)
        shapeCasts_S2x2048x1024_S4096x1024 := by
  show StableHlo.after hostOps0 (fun b => m (c, b)) main_v47 = _
  after_results <;> rfl

/-- The memory's keys and values: the reference's, rounded. -/
theorem V_v48 (c : Dev nD) : (V m c main_v48 : Vec F S512x2048 .bf16)
    = shapeCast S512x2048 (truncf .bf16 (Cert.Reference2Ideal.Read.val_main_v34 (F := F)
          (m ((c : Thread nD τ).loc main_arg1)) (m ((c : Thread nD τ).loc main_arg3)) (m ((c : Thread nD τ).loc main_arg5)))
        bitsLt_bf16_f32 : Vec F S2x256x2048 .bf16) shapeCasts_S2x256x2048_S512x2048 := by
  show StableHlo.after hostOps0 (fun b => m (c, b)) main_v48 = _
  after_results <;> rfl

/-- The gathered array: the three weights under one another in each device's slice. -/
theorem V_v8 (c : Dev nD) : (V m c main_v8 : Vec F S8x512x1024 .bf16)
    = truncf .bf16 (concatenate S8x512x1024 1
        [⟨S8x128x1024, shapeCast S8x128x1024 (shapeCast S1024x1024 (m ((c : Thread nD τ).loc main_arg4) : Vec F S1x1024x1024 .f32)
            shapeCasts_S1x1024x1024_S1024x1024) shapeCasts_S1024x1024_S8x128x1024⟩,
          ⟨S8x256x1024, shapeCast S8x256x1024 (transpose S2048x1024 [1, 0] (shapeCast S1024x2048
            (m ((c : Thread nD τ).loc main_arg5) : Vec F S1x1024x2048 .f32) shapeCasts_S1x1024x2048_S1024x2048)
            transposes_S1024x2048_S2048x1024_1_0) shapeCasts_S2048x1024_S8x256x1024⟩,
          ⟨S8x128x1024, shapeCast S8x128x1024 (shapeCast S1024x1024 (m ((c : Thread nD τ).loc main_arg6) : Vec F S1x1024x1024 .f32)
            shapeCasts_S1x1024x1024_S1024x1024) shapeCasts_S1024x1024_S8x128x1024⟩]
        concatenates_S8x128x1024_S8x256x1024_S8x128x1024_S8x512x1024_d1) bitsLt_bf16_f32 := by
  show StableHlo.after hostOps0 (fun b => m (c, b)) main_v8 = _
  after_results <;> rfl

end Cert.Kernel2Ideal.Attn
-- ==== Proof.AttnRows.lean ====
/-
  The derivative of the attention over the memory, row by row, on plain functions: what one row of queries gives for its
  own gradients, and the two shapes in which the derivative of a softmax and of a root-mean-square norm are written, with
  the proof that both shapes agree on finite numbers.
-/
module

public import Idealize.ShloMosaic.Lib.Pointwise
public import Idealize.ShloMosaic.Lib.Pipeline.Value

@[expose] public section

noncomputable section

namespace Cert.AttnRows

open Idealize.ShloMosaic

/-! ## The softmax and its derivative -/

/-- The largest of finitely many scores. -/
def peak {n : ℕ} (s : Fin n → EReal) : EReal := Finset.univ.fold max (Ideal.ofBits .f32 0xFF800000#32) s

/-- The exponential of a score less the largest. -/
def weight {n : ℕ} (s : Fin n → EReal) (j : Fin n) : EReal := Ideal.exp (s j - peak s)

/-- The softmax of the scores. -/
def share {n : ℕ} (s : Fin n → EReal) (j : Fin n) : EReal := Ideal.div (weight s j) (∑ x, weight s x)

/-- The softmax's derivative applied to a cotangent `d`, written with the probabilities themselves. -/
def pull {n : ℕ} (s d : Fin n → EReal) (j : Fin n) : EReal := share s j * (d j - ∑ x, d x * share s x)

/-! ## One row of the attention: four heads of 256 columns over 256 keys -/

/-- The four heads' columns of a row of 1024, and the same among the keys and among the values of a row of 2048. -/
def col (h : Fin 4) (d : Fin 256) : Fin 1024 := ⟨h.val * 256 + d.val, by omega⟩
def key (k : Fin 1024) : Fin 2048 := ⟨k.val, by omega⟩
def val (k : Fin 1024) : Fin 2048 := ⟨1024 + k.val, by omega⟩

/-- The head and the place within it of a column. -/
def head (k : Fin 1024) : Fin 4 := ⟨k.val / 256, by omega⟩
def lane (k : Fin 1024) : Fin 256 := ⟨k.val % 256, by omega⟩

theorem col_head_lane (k : Fin 1024) : col (head k) (lane k) = k := Fin.ext (show k.val / 256 * 256 + k.val % 256 = k.val by omega)
theorem head_col (h : Fin 4) (d : Fin 256) : head (col h d) = h := Fin.ext (show (h.val * 256 + d.val) / 256 = h.val by omega)

/-- A row times a transposed matrix. -/
def back {n p : ℕ} (x : Fin n → EReal) (w : Fin p → Fin n → EReal) (k : Fin p) : EReal := ∑ c, x c * w k c

/-- A head's scores of one (scaled) query row, the cotangent of its probabilities, and the cotangent of its scores. -/
def scores (q : Fin 1024 → EReal) (kv : Fin 256 → Fin 2048 → EReal) (h : Fin 4) (j : Fin 256) : EReal :=
  ∑ d, q (col h d) * kv j (key (col h d))
def dprobs (o : Fin 1024 → EReal) (kv : Fin 256 → Fin 2048 → EReal) (h : Fin 4) (j : Fin 256) : EReal :=
  ∑ d, o (col h d) * kv j (val (col h d))
def dscores (q o : Fin 1024 → EReal) (kv : Fin 256 → Fin 2048 → EReal) (h : Fin 4) : Fin 256 → EReal :=
  pull (scores q kv h) (dprobs o kv h)

/-- The gradient of one query row before the scaling by a sixteenth. -/
def dquery (q o : Fin 1024 → EReal) (kv : Fin 256 → Fin 2048 → EReal) (k : Fin 1024) : EReal :=
  (∑ j, dscores q o kv (head k) j * kv j (key k)) * Ideal.ofBits .f32 0x3D800000#32

/-- One query row's contribution to the gradient of the keys and of the values. -/
def dkey (q o : Fin 1024 → EReal) (kv : Fin 256 → Fin 2048 → EReal) (j : Fin 256) (k : Fin 1024) : EReal :=
  dscores q o kv (head k) j * q k
def dval (q o : Fin 1024 → EReal) (kv : Fin 256 → Fin 2048 → EReal) (j : Fin 256) (k : Fin 1024) : EReal :=
  share (scores q kv (head k)) j * o k

/-- A row's contribution to one column of the keys' and the values' gradients, which lie side by side. -/
def both (q o : Fin 1024 → EReal) (kv : Fin 256 → Fin 2048 → EReal) (j : Fin 256) (l : Fin 2048) : EReal :=
  if h : l.val < 1024 then dkey q o kv j ⟨l.val, h⟩ else dval q o kv j ⟨l.val - 1024, by omega⟩

theorem both_key (q o : Fin 1024 → EReal) (kv : Fin 256 → Fin 2048 → EReal) (j : Fin 256) (h : Fin 4) (d : Fin 256) :
    both q o kv j (key (col h d)) = dscores q o kv h j * q (col h d) := by
  refine (dif_pos (col h d).isLt).trans ?_; show dscores q o kv (head (col h d)) j * _ = _; rw [head_col]; rfl

theorem both_val (q o : Fin 1024 → EReal) (kv : Fin 256 → Fin 2048 → EReal) (j : Fin 256) (h : Fin 4) (d : Fin 256) :
    both q o kv j (val (col h d)) = share (scores q kv h) j * o (col h d) := by
  refine (dif_neg (show ¬ 1024 + (col h d).val < 1024 by omega)).trans ?_
  rw [show (⟨(val (col h d)).val - 1024, by have := (val (col h d)).isLt; omega⟩ : Fin 1024) = col h d from Fin.ext (show 1024 + (col h d).val - 1024 = _ by omega)]
  unfold dval; rw [head_col]

/-! The same gradients in the shape in which the forward lines are differentiated: the scores are scaled after the product,
    the softmax's quotient is differentiated as a quotient, and the cotangent of the scores is scaled back by a sixteenth. -/

def plainScores (q : Fin 1024 → EReal) (kv : Fin 256 → Fin 2048 → EReal) (h : Fin 4) (j : Fin 256) : EReal :=
  (∑ d, q (col h d) * kv j (key (col h d))) * Ideal.ofBits .f32 0x3D800000#32

/-- The derivative of `e / l`, with `e` the exponentials and `l` their sum, applied to a cotangent `d`. -/
def quotientPull {n : ℕ} (s d : Fin n → EReal) (j : Fin n) : EReal :=
  (Ideal.div (d j) (∑ x, weight s x)
    + -(∑ x, d x * Ideal.div (Ideal.ofBits .f32 0x3F800000#32) ((∑ x, weight s x) * ∑ x, weight s x) * weight s x)) * weight s j

def plainDscores (q o : Fin 1024 → EReal) (kv : Fin 256 → Fin 2048 → EReal) (h : Fin 4) (j : Fin 256) : EReal :=
  quotientPull (plainScores q kv h) (dprobs o kv h) j * Ideal.ofBits .f32 0x3D800000#32

def plainDquery (q o : Fin 1024 → EReal) (kv : Fin 256 → Fin 2048 → EReal) (k : Fin 1024) : EReal :=
  ∑ j, plainDscores q o kv (head k) j * kv j (key k)

def plainBoth (q o : Fin 1024 → EReal) (kv : Fin 256 → Fin 2048 → EReal) (j : Fin 256) (l : Fin 2048) : EReal :=
  if h : l.val < 1024 then plainDscores q o kv (head ⟨l.val, h⟩) j * q ⟨l.val, h⟩
  else o ⟨l.val - 1024, by omega⟩ * share (plainScores q kv (head ⟨l.val - 1024, by omega⟩)) j

/-! ## The norm -/

/-- One over the root mean square of a row. -/
def inv (x : Fin 1024 → EReal) : EReal :=
  Ideal.rsqrt (Ideal.div (∑ k, x k * x k) (Ideal.ofBits .f32 0x44800000#32) + Ideal.ofBits .f32 0x358637BD#32)

/-- The norm's derivative applied to the cotangent `u` of the weighted row, written with the normalised row. -/
def dnorm (x g u : Fin 1024 → EReal) (k : Fin 1024) : EReal :=
  inv x * (u k * g k - x k * inv x * Ideal.div (∑ l, u l * g l * (x l * inv x)) (Ideal.ofBits .f32 0x44800000#32))

/-- The mean square of a row, with the small constant added. -/
def meanSquare (x : Fin 1024 → EReal) : EReal :=
  Ideal.div (∑ k, x k * x k) (Ideal.ofBits .f32 0x44800000#32) + Ideal.ofBits .f32 0x358637BD#32

/-- The cotangent of one entry's square, from the derivative of the reciprocal root at the mean square. -/
def squarePull (x g u : Fin 1024 → EReal) : EReal :=
  Ideal.div ((∑ l, x l * (u l * g l)) * (Ideal.ofBits .f32 0xBF000000#32 * Ideal.div (inv x) (meanSquare x))) (Ideal.ofBits .f32 0x44800000#32)

/-- The norm's derivative as the forward lines are differentiated: the scaled cotangent, and the square's twice. -/
def plainDnorm (x g u : Fin 1024 → EReal) (k : Fin 1024) : EReal :=
  u k * g k * inv x + (x k * squarePull x g u + squarePull x g u * x k)

end Cert.AttnRows
-- ==== Proof.AttnBlock.lean ====
/-
  What one grid point of the attention's backward call computes, over the extended reals, entry by entry: each of its
  results is a row function of that point's rows.
-/
module

public import proofs.«01_k».proof.Proof.AttnBody
public import proofs.«01_k».proof.Proof.AttnRows

@[expose] public section

set_option maxRecDepth 16384

noncomputable section

namespace Cert.Kernel2Ideal.Attn

open Cert.Kernel2Ideal Cert.Kernel2Ideal.Gen Cert.Gathered Cert.AttnRows
open Idealize.ShloMosaic Idealize.ShloMosaic.TcCoe Idealize.ShloMosaic.Tactic

/-- Rows of a block. -/
abbrev row {n p : ℕ} (x : (⟨2, ![n, p]⟩ : Shape).Idx → EReal) (r : Fin n) : Fin p → EReal := fun k => x (ix2 r k)

variable (x1 x2 : Vec Ideal S512x1024 .f32) (x3 : Vec Ideal S512x1024 .bf16) (x4 : Vec Ideal S256x2048 .bf16) (x5 : Vec Ideal S1x1024 .f32)
  (wq wo : Vec Ideal S1024x1024 .bf16)

theorem cols_apply (o : ℕ) (h : o + 256 ≤ 2048) (a : S256x2048.Idx → EReal) (j d : Fin 256) :
    cols o h a (ix2 j d) = a (ix2 j ⟨o + d.val, by omega⟩) := rfl

/-! ### The four heads -/

theorem s0_row (r : Fin 512) : row (s0 (F := Ideal) x3 x4) r = scores (row x3 r) (row x4) 0 := funext fun j => by
  pointwise [row, s0, k0_pay7, k0_pay8, cols_apply]; exact Finset.sum_congr rfl fun d _ => by congr 2 <;> exact congrArg _ (Fin.ext (by simp [col, key]))
theorem s1_row (r : Fin 512) : row (s1 (F := Ideal) x3 x4) r = scores (row x3 r) (row x4) 1 := funext fun j => by
  pointwise [row, s1, k0_pay7, k0_pay9, k0_pay10, cols_apply]; rfl
theorem s2_row (r : Fin 512) : row (s2 (F := Ideal) x3 x4) r = scores (row x3 r) (row x4) 2 := funext fun j => by
  pointwise [row, s2, k0_pay7, k0_pay11, cols_apply]; rfl
theorem s3_row (r : Fin 512) : row (s3 (F := Ideal) x3 x4) r = scores (row x3 r) (row x4) 3 := funext fun j => by
  pointwise [row, s3, k0_pay7, k0_pay12, cols_apply]; rfl

/-- The cotangent of the heads' outputs: the rows of `x1` times the transposed output projection. -/
theorem do_row (r : Fin 512) : row (k0_pay6 (F := Ideal) x1 wo) r = back (row x1 r) (row wo) := funext fun k => by
  pointwise [row, k0_pay6, k0_pay5]; rfl

theorem dp0_row (r : Fin 512) : row (dp0 (F := Ideal) x1 x4 wo) r = dprobs (back (row x1 r) (row wo)) (row x4) 0 := funext fun j => by
  rw [← do_row]; unfold dp0; generalize k0_pay6 x1 wo = s
  pointwise [row, k0_pay13, cols_apply]; exact Finset.sum_congr rfl fun d _ => by congr 2 <;> exact congrArg _ (Fin.ext (by simp [col, val]))
theorem dp1_row (r : Fin 512) : row (dp1 (F := Ideal) x1 x4 wo) r = dprobs (back (row x1 r) (row wo)) (row x4) 1 := funext fun j => by
  rw [← do_row]; unfold dp1; generalize k0_pay6 x1 wo = s
  pointwise [row, k0_pay14, cols_apply]; exact Finset.sum_congr rfl fun d _ => by congr 2 <;> exact congrArg _ (Fin.ext (by simp [col, val] <;> omega))
theorem dp2_row (r : Fin 512) : row (dp2 (F := Ideal) x1 x4 wo) r = dprobs (back (row x1 r) (row wo)) (row x4) 2 := funext fun j => by
  rw [← do_row]; unfold dp2; generalize k0_pay6 x1 wo = s
  pointwise [row, k0_pay15, cols_apply]; exact Finset.sum_congr rfl fun d _ => by congr 2 <;> exact congrArg _ (Fin.ext (by simp [col, val] <;> omega))
theorem dp3_row (r : Fin 512) : row (dp3 (F := Ideal) x1 x4 wo) r = dprobs (back (row x1 r) (row wo)) (row x4) 3 := funext fun j => by
  rw [← do_row]; unfold dp3; generalize k0_pay6 x1 wo = s
  pointwise [row, k0_pay16, cols_apply]; exact Finset.sum_congr rfl fun d _ => by congr 2 <;> exact congrArg _ (Fin.ext (by simp [col, val] <;> omega))

/-- Each head's softmax, whichever way its row maximum is handed on. -/
theorem pay17_row (s : FVec Ideal S512x256 .f32) (r : Fin 512) : row (k0_pay17 (F := Ideal) s) r = share (row s r) := funext fun j => by
  pointwise [row, k0_pay17]; rfl
theorem pay20_row (s : FVec Ideal S512x256 .f32) (r : Fin 512) : row (k0_pay20 (F := Ideal) s) r = share (row s r) := funext fun j => by
  pointwise [row, k0_pay20]; rfl
theorem pay21_row (s : FVec Ideal S512x256 .f32) (r : Fin 512) : row (k0_pay21 (F := Ideal) s) r = share (row s r) := funext fun j => by
  pointwise [row, k0_pay21]; rfl
theorem p0_row (r : Fin 512) : row (p0 (F := Ideal) x3 x4) r = share (scores (row x3 r) (row x4) 0) := by
  rw [← s0_row]; exact pay17_row _ r
theorem p1_row (r : Fin 512) : row (p1 (F := Ideal) x3 x4) r = share (scores (row x3 r) (row x4) 1) := by
  rw [← s1_row]; unfold p1 s1 k0_pay18; generalize k0_pay10 (k0_pay9 x3) (cols 256 _ x4) = s
  funext j; pointwise [row, k0_pay19]; rfl
theorem p2_row (r : Fin 512) : row (p2 (F := Ideal) x3 x4) r = share (scores (row x3 r) (row x4) 2) := by
  rw [← s2_row]; exact pay20_row _ r
theorem p3_row (r : Fin 512) : row (p3 (F := Ideal) x3 x4) r = share (scores (row x3 r) (row x4) 3) := by
  rw [← s3_row]; exact pay21_row _ r

/-- Each head's cotangent of the scores. -/
theorem ds0_row (r : Fin 512) : row (ds0 (F := Ideal) x1 x3 x4 wo) r = dscores (row x3 r) (back (row x1 r) (row wo)) (row x4) 0 := by
  unfold dscores pull; rw [← dp0_row, ← p0_row]; unfold ds0; generalize dp0 x1 x4 wo = d; generalize p0 x3 x4 = p
  funext j; pointwise [row, k0_pay22]
theorem ds1_row (r : Fin 512) : row (ds1 (F := Ideal) x1 x3 x4 wo) r = dscores (row x3 r) (back (row x1 r) (row wo)) (row x4) 1 := by
  unfold dscores pull; rw [← dp1_row, ← p1_row]; unfold ds1 p1 k0_pay23; generalize dp1 x1 x4 wo = d
  generalize k0_pay19 (s1 x3 x4) (k0_pay18 (k0_pay9 x3) (cols 256 _ x4)) = p
  funext j; pointwise [row]
theorem ds2_row (r : Fin 512) : row (ds2 (F := Ideal) x1 x3 x4 wo) r = dscores (row x3 r) (back (row x1 r) (row wo)) (row x4) 2 := by
  unfold dscores pull; rw [← dp2_row, ← p2_row]; unfold ds2 p2 k0_pay24; generalize dp2 x1 x4 wo = d
  generalize k0_pay20 (s2 x3 x4) = p
  funext j; pointwise [row]
theorem ds3_row (r : Fin 512) : row (ds3 (F := Ideal) x1 x3 x4 wo) r = dscores (row x3 r) (back (row x1 r) (row wo)) (row x4) 3 := by
  unfold dscores pull; rw [← dp3_row, ← p3_row]; unfold ds3 p3 k0_pay25 k0_pay26; generalize dp3 x1 x4 wo = d
  generalize k0_pay21 (s3 x3 x4) = p
  funext j; pointwise [row]

/-! ### The gradient of the queries, and through the query projection and the norm -/

theorem dq0_apply (r : Fin 512) (d : Fin 256) : dq0 (F := Ideal) x1 x3 x4 wo (ix2 r d)
    = dquery (row x3 r) (back (row x1 r) (row wo)) (row x4) (col 0 d) := by
  unfold dquery; rw [head_col, ← ds0_row]; unfold dq0; generalize ds0 x1 x3 x4 wo = s
  pointwise [row, k0_pay31, k0_pay32, cols_apply]
  rw [show key (col 0 d) = ⟨d.val, by omega⟩ from Fin.ext (show 0 * 256 + d.val = d.val by omega)]
theorem dq1_apply (r : Fin 512) (d : Fin 256) : dq1 (F := Ideal) x1 x3 x4 wo (ix2 r d)
    = dquery (row x3 r) (back (row x1 r) (row wo)) (row x4) (col 1 d) := by
  unfold dquery; rw [head_col, ← ds1_row]; unfold dq1; generalize ds1 x1 x3 x4 wo = s
  pointwise [row, k0_pay33, cols_apply]; rfl
theorem dq2_apply (r : Fin 512) (d : Fin 256) : dq2 (F := Ideal) x1 x3 x4 wo (ix2 r d)
    = dquery (row x3 r) (back (row x1 r) (row wo)) (row x4) (col 2 d) := by
  unfold dquery; rw [head_col, ← ds2_row]; unfold dq2; generalize ds2 x1 x3 x4 wo = s
  pointwise [row, k0_pay34, cols_apply]; rfl
theorem dq3_apply (r : Fin 512) (d : Fin 256) : dq3 (F := Ideal) x1 x3 x4 wo (ix2 r d)
    = dquery (row x3 r) (back (row x1 r) (row wo)) (row x4) (col 3 d) := by
  unfold dquery; rw [head_col, ← ds3_row]; unfold dq3; generalize ds3 x1 x3 x4 wo = s
  pointwise [row, k0_pay35, cols_apply]; rfl

theorem dqOf_row (r : Fin 512) : row (dqOf (F := Ideal) x1 x3 x4 wo) r = dquery (row x3 r) (back (row x1 r) (row wo)) (row x4) := funext fun k => by
  have e0 := dq0_apply x1 x3 x4 wo r; have e1 := dq1_apply x1 x3 x4 wo r
  have e2 := dq2_apply x1 x3 x4 wo r; have e3 := dq3_apply x1 x3 x4 wo r
  unfold dqOf
  generalize dquery (row x3 r) (back (row x1 r) (row wo)) (row x4) = q at *
  generalize dq0 x1 x3 x4 wo = s0 at *; generalize dq1 x1 x3 x4 wo = s1 at *
  generalize dq2 x1 x3 x4 wo = s2 at *; generalize dq3 x1 x3 x4 wo = s3 at *
  pointwise [row, k0_pay42]
  have hk := k.isLt
  by_cases h0 : k.val < 256
  · rw [dif_pos h0]; exact (e0 _).trans (congrArg q (Fin.ext (show 0 * 256 + k.val = k.val by omega)))
  rw [dif_neg h0]
  by_cases h1 : k.val - 256 < 256
  · rw [dif_pos h1]; exact (e1 _).trans (congrArg q (Fin.ext (show 1 * 256 + (k.val - 256) = k.val by omega)))
  rw [dif_neg h1]
  by_cases h2 : k.val - 256 - 256 < 256
  · rw [dif_pos h2]; exact (e2 _).trans (congrArg q (Fin.ext (show 2 * 256 + (k.val - 256 - 256) = k.val by omega)))
  rw [dif_neg h2]
  exact (e3 _).trans (congrArg q (Fin.ext (show 3 * 256 + (k.val - 256 - 256 - 256) = k.val by omega)))

theorem dhOf_row (r : Fin 512) : row (dhOf (F := Ideal) x1 x3 x4 wq wo) r
    = back (dquery (row x3 r) (back (row x1 r) (row wo)) (row x4)) (row wq) := funext fun c => by
  rw [← dqOf_row]; unfold dhOf dqOf k0_pay43
  generalize k0_pay42 (dq0 x1 x3 x4 wo) (dq1 x1 x3 x4 wo) (dq2 x1 x3 x4 wo) (dq3 x1 x3 x4 wo) = s
  pointwise [row]; rfl

theorem dxOf_row (r : Fin 512) (k : Fin 1024) : dxOf (F := Ideal) x1 x2 x3 x4 x5 wq wo (ix2 r k)
    = x1 (ix2 r k) + dnorm (row x2 r) (row x5 0) (back (dquery (row x3 r) (back (row x1 r) (row wo)) (row x4)) (row wq)) k := by
  rw [← dhOf_row]; unfold dxOf; generalize dhOf x1 x3 x4 wq wo = s
  pointwise [row, k0_pay1, k0_pay5, k0_pay45, k0_pay46, k0_pay44]; rfl

theorem dxbOf_eq : (dxbOf (F := Ideal) x1 x2 x3 x4 x5 wq wo : S512x1024.Idx → EReal) = dxOf (F := Ideal) x1 x2 x3 x4 x5 wq wo := rfl

theorem dgOf_apply (b : Vec Ideal S1x1024 .f32) (k : Fin 1024) : dgOf (F := Ideal) x1 x2 x3 x4 wq wo b (ix2 0 k)
    = b (ix2 0 k) + ∑ r : Fin 512, back (dquery (row x3 r) (back (row x1 r) (row wo)) (row x4)) (row wq) k * (x2 (ix2 r k) * inv (row x2 r)) := by
  simp only [← dhOf_row]; unfold dgOf k0_pay47; change _ = _ + ∑ r : Fin 512, row (k0_pay43 _ _ _ _ wq) r k * _
  generalize k0_pay43 (dq0 x1 x3 x4 wo) (dq1 x1 x3 x4 wo) (dq2 x1 x3 x4 wo) (dq3 x1 x3 x4 wo) wq = t
  pointwise [row, k0_pay46, k0_pay45, k0_pay44]; rfl

/-! ### The gradient of the keys and of the values -/

variable (a : Vec Ideal S256x2048 .f32)

/-- A block of the keys' sum gains each row's cotangent of the scores times that row's query. -/
theorem keys_apply (h : Fin 4) (s : FVec Ideal S512x256 .bf16) (hs : ∀ r, row s r = dscores (row x3 r) (back (row x1 r) (row wo)) (row x4) h)
    (b : FVec Ideal S256x256 .f32) (j d : Fin 256) (hb : b (ix2 j d) = a (ix2 j (key (col h d))) + ∑ r : Fin 512, s (ix2 r j) * x3 (ix2 r (col h d))) :
    b (ix2 j d) = a (ix2 j (key (col h d))) + ∑ r : Fin 512, both (row x3 r) (back (row x1 r) (row wo)) (row x4) j (key (col h d)) := by
  rw [hb]; refine congrArg (_ + ·) (Finset.sum_congr rfl fun r _ => ?_)
  rw [both_key, ← hs]

/-- A block of the values' sum gains each row's probabilities times that row's cotangent. -/
theorem vals_apply (h : Fin 4) (p : FVec Ideal S512x256 .f32) (hp : ∀ r, row p r = share (scores (row x3 r) (row x4) h))
    (b : FVec Ideal S256x256 .f32) (j d : Fin 256) (hb : b (ix2 j d) = a (ix2 j (val (col h d))) + ∑ r : Fin 512, p (ix2 r j) * k0_pay6 (F := Ideal) x1 wo (ix2 r (col h d))) :
    b (ix2 j d) = a (ix2 j (val (col h d))) + ∑ r : Fin 512, both (row x3 r) (back (row x1 r) (row wo)) (row x4) j (val (col h d)) := by
  rw [hb]; refine congrArg (_ + ·) (Finset.sum_congr rfl fun r _ => ?_)
  rw [both_val, ← hp, ← do_row]

/-- The same entry of the sum and the same column of the rows, at columns of the same number. -/
theorem same_entry (A : Fin 2048 → EReal) (T : Fin 512 → Fin 1024 → EReal) {l l' : Fin 2048} {k k' : Fin 1024} (hl : l.val = l'.val) (hk : k.val = k'.val) :
    A l + ∑ r, T r k = A l' + ∑ r, T r k' := by rw [Fin.ext hl, Fin.ext hk]

theorem dkvBlocks_key (h : Fin 4) (j d : Fin 256) : dkvBlocks (F := Ideal) x1 x3 x4 wo a ⟨h.val, by omega⟩ (ix2 j d)
    = a (ix2 j (key (col h d))) + ∑ r : Fin 512, both (row x3 r) (back (row x1 r) (row wo)) (row x4) j (key (col h d)) := by
  match h with
  | 0 =>
    refine keys_apply x1 x3 x4 wo a 0 (ds0 x1 x3 x4 wo) (ds0_row x1 x3 x4 wo) _ j d ?_
    show k0_pay36 (k0_pay7 x3) (ds0 x1 x3 x4 wo) (cols 0 (by decide) a) (ix2 j d) = _
    generalize ds0 x1 x3 x4 wo = s
    pointwise [k0_pay36, k0_pay7, cols_apply]
    exact same_entry (fun l => a (ix2 j l)) (fun r k => s (ix2 r j) * x3 (ix2 r k)) (show d.val = 0 * 256 + d.val by omega) (show d.val = 0 * 256 + d.val by omega)
  | 1 =>
    refine keys_apply x1 x3 x4 wo a 1 (ds1 x1 x3 x4 wo) (ds1_row x1 x3 x4 wo) _ j d ?_
    show k0_pay37 (k0_pay7 x3) (ds1 x1 x3 x4 wo) (cols 256 (by decide) a) (ix2 j d) = _
    generalize ds1 x1 x3 x4 wo = s
    pointwise [k0_pay37, k0_pay7, cols_apply]
    exact same_entry (fun l => a (ix2 j l)) (fun r k => s (ix2 r j) * x3 (ix2 r k)) (show 256 + d.val = 1 * 256 + d.val by omega) (show 256 + d.val = 1 * 256 + d.val by omega)
  | 2 =>
    refine keys_apply x1 x3 x4 wo a 2 (ds2 x1 x3 x4 wo) (ds2_row x1 x3 x4 wo) _ j d ?_
    show k0_pay40 (ds2 x1 x3 x4 wo) (k0_pay38 (cols 512 (by decide) a)) (k0_pay39 (k0_pay7 x3)) (constant S256x256 .f32 0x00000000#32) (ix2 j d) = _
    generalize ds2 x1 x3 x4 wo = s
    pointwise [k0_pay40, k0_pay38, k0_pay39, k0_pay7, cols_apply]
    exact same_entry (fun l => a (ix2 j l)) (fun r k => s (ix2 r j) * x3 (ix2 r k)) (show 512 + d.val = 2 * 256 + d.val by omega) (show 512 + d.val = 2 * 256 + d.val by omega)
  | 3 =>
    refine keys_apply x1 x3 x4 wo a 3 (ds3 x1 x3 x4 wo) (ds3_row x1 x3 x4 wo) _ j d ?_
    show k0_pay41 (k0_pay7 x3) (ds3 x1 x3 x4 wo) (cols 768 (by decide) a) (ix2 j d) = _
    generalize ds3 x1 x3 x4 wo = s
    pointwise [k0_pay41, k0_pay7, cols_apply]
    exact same_entry (fun l => a (ix2 j l)) (fun r k => s (ix2 r j) * x3 (ix2 r k)) (show 768 + d.val = 3 * 256 + d.val by omega) (show 768 + d.val = 3 * 256 + d.val by omega)

theorem dkvBlocks_val (h : Fin 4) (j d : Fin 256) : dkvBlocks (F := Ideal) x1 x3 x4 wo a ⟨4 + h.val, by omega⟩ (ix2 j d)
    = a (ix2 j (val (col h d))) + ∑ r : Fin 512, both (row x3 r) (back (row x1 r) (row wo)) (row x4) j (val (col h d)) := by
  match h with
  | 0 =>
    refine vals_apply x1 x3 x4 wo a 0 (p0 x3 x4) (p0_row x3 x4) _ j d ?_
    show k0_pay27 (k0_pay6 x1 wo) (p0 x3 x4) (cols 1024 (by decide) a) (ix2 j d) = _
    generalize p0 x3 x4 = s; generalize k0_pay6 x1 wo = t
    pointwise [k0_pay27, cols_apply]
    exact same_entry (fun l => a (ix2 j l)) (fun r k => s (ix2 r j) * t (ix2 r k)) (show 1024 + d.val = 1024 + (0 * 256 + d.val) by omega) (show d.val = 0 * 256 + d.val by omega)
  | 1 =>
    refine vals_apply x1 x3 x4 wo a 1 (p1 x3 x4) (p1_row x3 x4) _ j d ?_
    show k0_pay28 (k0_pay6 x1 wo) (p1 x3 x4) (cols 1280 (by decide) a) (ix2 j d) = _
    generalize p1 x3 x4 = s; generalize k0_pay6 x1 wo = t
    pointwise [k0_pay28, cols_apply]
    exact same_entry (fun l => a (ix2 j l)) (fun r k => s (ix2 r j) * t (ix2 r k)) (show 1280 + d.val = 1024 + (1 * 256 + d.val) by omega) (show 256 + d.val = 1 * 256 + d.val by omega)
  | 2 =>
    refine vals_apply x1 x3 x4 wo a 2 (p2 x3 x4) (p2_row x3 x4) _ j d ?_
    show k0_pay29 (k0_pay6 x1 wo) (p2 x3 x4) (cols 1536 (by decide) a) (ix2 j d) = _
    generalize p2 x3 x4 = s; generalize k0_pay6 x1 wo = t
    pointwise [k0_pay29, cols_apply]
    exact same_entry (fun l => a (ix2 j l)) (fun r k => s (ix2 r j) * t (ix2 r k)) (show 1536 + d.val = 1024 + (2 * 256 + d.val) by omega) (show 512 + d.val = 2 * 256 + d.val by omega)
  | 3 =>
    refine vals_apply x1 x3 x4 wo a 3 (p3 x3 x4) (p3_row x3 x4) _ j d ?_
    show k0_pay30 (k0_pay6 x1 wo) (p3 x3 x4) (cols 1792 (by decide) a) (ix2 j d) = _
    generalize p3 x3 x4 = s; generalize k0_pay6 x1 wo = t
    pointwise [k0_pay30, cols_apply]
    exact same_entry (fun l => a (ix2 j l)) (fun r k => s (ix2 r j) * t (ix2 r k)) (show 1792 + d.val = 1024 + (3 * 256 + d.val) by omega) (show 768 + d.val = 3 * 256 + d.val by omega)

theorem dkvOf_apply (j : Fin 256) (l : Fin 2048) : dkvOf (F := Ideal) x1 x3 x4 wo a (ix2 j l)
    = a (ix2 j l) + ∑ r : Fin 512, both (row x3 r) (back (row x1 r) (row wo)) (row x4) j l := by
  by_cases h : l.val < 1024
  · have e : l = key (col (head ⟨l.val, h⟩) (lane ⟨l.val, h⟩)) := by rw [col_head_lane]; rfl
    have := dkvBlocks_key x1 x3 x4 wo a (head ⟨l.val, h⟩) j (lane ⟨l.val, h⟩)
    rw [← e] at this; exact this
  · have e : l = val (col (head ⟨l.val - 1024, by omega⟩) (lane ⟨l.val - 1024, by omega⟩)) := by
      rw [col_head_lane]; exact Fin.ext (show l.val = 1024 + (l.val - 1024) by omega)
    have := dkvBlocks_val x1 x3 x4 wo a (head ⟨l.val - 1024, by omega⟩) j (lane ⟨l.val - 1024, by omega⟩)
    rw [← e] at this; rw [← this]
    refine congr (congrArg (dkvBlocks x1 x3 x4 wo a) (Fin.ext ?_)) (congrArg (ix2 j) (Fin.ext ?_))
    · show l.val / 256 = 4 + (l.val - 1024) / 256; omega
    · show l.val % 256 = (l.val - 1024) % 256; omega

end Cert.Kernel2Ideal.Attn
-- ==== Proof.AttnRef.lean ====
/-
  The reference of the attention's backward call, read entry by entry: each of its five results is a row function of the
  query rows, the keys and values, and the cotangent, in the shape in which the forward lines are differentiated.
-/
module

public import proofs.«01_k».proof.Proof.AttnRows
public import proofs.«01_k».proof.Proof.HostRead
public import proofs.«01_k».proof.Proof.Gen.Reference2Ideal.Read

@[expose] public section

set_option maxRecDepth 16384

noncomputable section

namespace Cert.Reference2Ideal.Attn

open Cert.Reference2Ideal Cert.Reference2Ideal.Gen Cert.Reference2Ideal.Read Cert.AttnRows Cert.HostRead
open Idealize.ShloMosaic Idealize.ShloMosaic.TcCoe Idealize.ShloMosaic.Tactic

/-- A row of an array of rank three. -/
abbrev row3 {n p q : ℕ} (x : (⟨3, ![n, p, q]⟩ : Shape).Idx → EReal) (b : Fin n) (t : Fin p) : Fin q → EReal := fun k => x (ix3 b t k)

variable (x0 : Vec Ideal S2x2048x1024 .f32) (x1 : Vec Ideal S2x256x1024 .f32) (x2 x3 : Vec Ideal S1x1024 .f32)
  (x4 : Vec Ideal S1x1024x1024 .f32) (x5 : Vec Ideal S1x1024x2048 .f32) (x6 : Vec Ideal S1x1024x1024 .f32) (x7 : Vec Ideal S2x2048x1024 .f32)

/-- The query rows before scaling, the rows of keys and values, and the cotangent's rows through the output projection. -/
abbrev qs (b : Fin 2) (t : Fin 2048) : Fin 1024 → EReal := row3 (val_main_v18 (F := Ideal) x0 x2 x4) b t
abbrev kvs (b : Fin 2) : Fin 256 → Fin 2048 → EReal := row3 (val_main_v34 (F := Ideal) x1 x3 x5) b
abbrev os (b : Fin 2) (t : Fin 2048) : Fin 1024 → EReal := row3 (val_main_v76 (F := Ideal) x6 x7) b t

section Heads

variable (b : Fin 2) (t : Fin 2048) (h : Fin 4) (d j : Fin 256)

theorem v35_apply : val_main_v35 (F := Ideal) x0 x2 x4 (ix4 b t h d) = qs x0 x2 x4 b t (col h d) := by
  rw [val_main_v35_apply]
  exact congrArg _ (funext fun a => Fin.ext (match a with
    | ⟨0, _⟩ => show (((b.val * 2048 + t.val) * 4 + h.val) * 256 + d.val) / 2097152 = b.val by omega
    | ⟨1, _⟩ => show (((b.val * 2048 + t.val) * 4 + h.val) * 256 + d.val) / 1024 % 2048 = t.val by omega
    | ⟨2, _⟩ => show (((b.val * 2048 + t.val) * 4 + h.val) * 256 + d.val) % 1024 = h.val * 256 + d.val by omega))

theorem v38_apply : val_main_v38 (F := Ideal) x1 x3 x5 (ix4 b j h d) = kvs x1 x3 x5 b j (key (col h d)) := by
  rw [val_main_v38_apply, val_main_v36_apply]
  exact congrArg _ (funext fun a => Fin.ext (match a with
    | ⟨0, _⟩ => show (((b.val * 256 + j.val) * 4 + h.val) * 256 + d.val) / 262144 = b.val by omega
    | ⟨1, _⟩ => show (((b.val * 256 + j.val) * 4 + h.val) * 256 + d.val) / 1024 % 256 = j.val by omega
    | ⟨2, _⟩ => show (((b.val * 256 + j.val) * 4 + h.val) * 256 + d.val) % 1024 = h.val * 256 + d.val by omega))

theorem v39_apply : val_main_v39 (F := Ideal) x1 x3 x5 (ix4 b j h d) = kvs x1 x3 x5 b j (val (col h d)) := by
  rw [val_main_v39_apply, val_main_v37_apply]
  exact congrArg _ (funext fun a => Fin.ext (match a with
    | ⟨0, _⟩ => show (((b.val * 256 + j.val) * 4 + h.val) * 256 + d.val) / 262144 = b.val by omega
    | ⟨1, _⟩ => show (((b.val * 256 + j.val) * 4 + h.val) * 256 + d.val) / 1024 % 256 = j.val by omega
    | ⟨2, _⟩ => show 1024 + (((b.val * 256 + j.val) * 4 + h.val) * 256 + d.val) % 1024 = 1024 + (h.val * 256 + d.val) by omega))

theorem v77_apply : val_main_v77 (F := Ideal) x6 x7 (ix4 b t h d) = os x6 x7 b t (col h d) := by
  rw [val_main_v77_apply]
  exact congrArg _ (funext fun a => Fin.ext (match a with
    | ⟨0, _⟩ => show (((b.val * 2048 + t.val) * 4 + h.val) * 256 + d.val) / 2097152 = b.val by omega
    | ⟨1, _⟩ => show (((b.val * 2048 + t.val) * 4 + h.val) * 256 + d.val) / 1024 % 2048 = t.val by omega
    | ⟨2, _⟩ => show (((b.val * 2048 + t.val) * 4 + h.val) * 256 + d.val) % 1024 = h.val * 256 + d.val by omega))

theorem v78_apply : val_main_v78 (F := Ideal) x6 x7 (ix4 b h d t) = os x6 x7 b t (col h d) := by
  rw [← v77_apply]; unfold val_main_v78; generalize val_main_v77 (F := Ideal) x6 x7 = y; pointwise []

theorem v42_apply : val_main_v42 (F := Ideal) x0 x1 x2 x3 x4 x5 (ix4 b h t j) = plainScores (qs x0 x2 x4 b t) (kvs x1 x3 x5 b) h j := by
  unfold plainScores; simp only [← v35_apply, ← v38_apply]
  unfold val_main_v42 val_main_v40
  generalize val_main_v35 (F := Ideal) x0 x2 x4 = y; generalize val_main_v38 (F := Ideal) x1 x3 x5 = z
  pointwise [val_main_v41, val_main_cst_6]

/-- The scores' row the softmax is taken of. -/
abbrev sc : Fin 256 → EReal := fun j => val_main_v42 (F := Ideal) x0 x1 x2 x3 x4 x5 (ix4 b h t j)

theorem sc_eq : sc x0 x1 x2 x3 x4 x5 b t h = plainScores (qs x0 x2 x4 b t) (kvs x1 x3 x5 b) h :=
  funext fun j => v42_apply x0 x1 x2 x3 x4 x5 b t h j

theorem v43_apply : val_main_v43 (F := Ideal) x0 x1 x2 x3 x4 x5 (ix3 b h t) = peak (sc x0 x1 x2 x3 x4 x5 b t h) := by
  unfold peak sc val_main_v43; generalize val_main_v42 (F := Ideal) x0 x1 x2 x3 x4 x5 = y; pointwise [val_main_cst_7]

theorem v50_apply : val_main_v50 (F := Ideal) x0 x1 x2 x3 x4 x5 (ix3 b h t) = peak (sc x0 x1 x2 x3 x4 x5 b t h) := by
  rw [← v43_apply, val_main_v50_apply]
  have e : val_main_v49 (F := Ideal) (ix3 b h t) = Ideal.ofBits .f32 0xFF800000#32 := by pointwise [val_main_v49, val_main_cst_9]
  rw [e]; show max _ _ = _
  refine max_eq_right ?_
  rw [v43_apply]; exact (Finset.le_fold_max _).mpr (.inl le_rfl)

theorem v63_apply : val_main_v63 (F := Ideal) x0 x1 x2 x3 x4 x5 (ix4 b h t j) = weight (sc x0 x1 x2 x3 x4 x5 b t h) j := by
  unfold weight; rw [← v50_apply]; unfold sc val_main_v63 val_main_v62 val_main_v61 val_main_v60
  generalize val_main_v42 (F := Ideal) x0 x1 x2 x3 x4 x5 = y; generalize val_main_v50 (F := Ideal) x0 x1 x2 x3 x4 x5 = z
  pointwise []

theorem v64_apply : val_main_v64 (F := Ideal) x0 x1 x2 x3 x4 x5 (ix3 b h t) = ∑ x, weight (sc x0 x1 x2 x3 x4 x5 b t h) x := by
  simp only [← v63_apply]; unfold val_main_v64
  generalize val_main_v63 (F := Ideal) x0 x1 x2 x3 x4 x5 = y; pointwise [val_main_cst_15]

theorem v65_apply (u : Fin 1) : val_main_v65 (F := Ideal) x0 x1 x2 x3 x4 x5 (ix4 b h t u) = ∑ x, weight (sc x0 x1 x2 x3 x4 x5 b t h) x := by
  rw [← v64_apply]; unfold val_main_v65; generalize val_main_v64 (F := Ideal) x0 x1 x2 x3 x4 x5 = y; pointwise []

theorem v67_apply : val_main_v67 (F := Ideal) x0 x1 x2 x3 x4 x5 (ix4 b h t j) = share (sc x0 x1 x2 x3 x4 x5 b t h) j := by
  unfold share; rw [← v63_apply, ← v65_apply x0 x1 x2 x3 x4 x5 b t h 0]; unfold val_main_v67 val_main_v66
  generalize val_main_v63 (F := Ideal) x0 x1 x2 x3 x4 x5 = y; generalize val_main_v65 (F := Ideal) x0 x1 x2 x3 x4 x5 = z; pointwise []

theorem v70_apply (u : Fin 1) : val_main_v70 (F := Ideal) x0 x1 x2 x3 x4 x5 (ix4 b h t u)
    = Ideal.div (Ideal.ofBits .f32 0x3F800000#32) ((∑ x, weight (sc x0 x1 x2 x3 x4 x5 b t h) x) * ∑ x, weight (sc x0 x1 x2 x3 x4 x5 b t h) x) := by
  rw [← v65_apply x0 x1 x2 x3 x4 x5 b t h u]; unfold val_main_v70 val_main_v68
  generalize val_main_v65 (F := Ideal) x0 x1 x2 x3 x4 x5 = z; pointwise [val_main_v69, val_main_cst_16]

theorem v79_apply : val_main_v79 (F := Ideal) x1 x3 x5 x6 x7 (ix4 b h t j) = dprobs (os x6 x7 b t) (kvs x1 x3 x5 b) h j := by
  unfold dprobs; simp only [← v78_apply, ← v39_apply]; unfold val_main_v79
  generalize val_main_v78 (F := Ideal) x6 x7 = y; generalize val_main_v39 (F := Ideal) x1 x3 x5 = z; pointwise []

theorem v95_apply : val_main_v95 (F := Ideal) x0 x1 x2 x3 x4 x5 x6 x7 (ix4 b h t j) = plainDscores (qs x0 x2 x4 b t) (os x6 x7 b t) (kvs x1 x3 x5 b) h j := by
  have e84 : ∀ j, val_main_v84 (F := Ideal) x0 x1 x2 x3 x4 x5 x6 x7 (ix4 b h t j) = dprobs (os x6 x7 b t) (kvs x1 x3 x5 b) h j
      * Ideal.div (Ideal.ofBits .f32 0x3F800000#32) ((∑ x, weight (sc x0 x1 x2 x3 x4 x5 b t h) x) * ∑ x, weight (sc x0 x1 x2 x3 x4 x5 b t h) x)
      * weight (sc x0 x1 x2 x3 x4 x5 b t h) j := fun j => by
    rw [← v79_apply, ← v63_apply, ← v70_apply x0 x1 x2 x3 x4 x5 b t h 0]; unfold val_main_v84 val_main_v83 val_main_v82
    generalize val_main_v79 (F := Ideal) x1 x3 x5 x6 x7 = y; generalize val_main_v63 (F := Ideal) x0 x1 x2 x3 x4 x5 = z
    generalize val_main_v70 (F := Ideal) x0 x1 x2 x3 x4 x5 = w; pointwise []
  have e85 : val_main_v85 (F := Ideal) x0 x1 x2 x3 x4 x5 x6 x7 (ix3 b h t) = ∑ j, val_main_v84 (F := Ideal) x0 x1 x2 x3 x4 x5 x6 x7 (ix4 b h t j) := by
    unfold val_main_v85; generalize val_main_v84 (F := Ideal) x0 x1 x2 x3 x4 x5 x6 x7 = y; pointwise [val_main_cst_17]
  have e86 : ∀ u : Fin 1, val_main_v86 (F := Ideal) x0 x1 x2 x3 x4 x5 x6 x7 (ix4 b h t u) = val_main_v85 (F := Ideal) x0 x1 x2 x3 x4 x5 x6 x7 (ix3 b h t) := fun u => by
    rw [val_main_v86_apply]
    exact congrArg _ (funext fun a => Fin.ext (match a with
      | ⟨0, _⟩ => show (((b.val * 4 + h.val) * 2048 + t.val) * 1 + u.val) / 8192 = b.val by omega
      | ⟨1, _⟩ => show (((b.val * 4 + h.val) * 2048 + t.val) * 1 + u.val) / 2048 % 4 = h.val by omega
      | ⟨2, _⟩ => show (((b.val * 4 + h.val) * 2048 + t.val) * 1 + u.val) % 2048 = t.val by omega))
  have e90 : val_main_v90 (F := Ideal) x0 x1 x2 x3 x4 x5 x6 x7 (ix3 b h t) = -(val_main_v85 (F := Ideal) x0 x1 x2 x3 x4 x5 x6 x7 (ix3 b h t)) := by
    rw [← e86 0]; unfold val_main_v90 val_main_v87; generalize val_main_v86 (F := Ideal) x0 x1 x2 x3 x4 x5 x6 x7 = y; pointwise [val_main_cst_18]; exact Fin.sum_univ_one _
  unfold plainDscores quotientPull
  rw [← sc_eq, ← v63_apply]
  simp only [← e84]
  rw [← e85, ← e90, ← v79_apply, ← v65_apply x0 x1 x2 x3 x4 x5 b t h 0]
  unfold val_main_v95 val_main_v93 val_main_v92 val_main_v91 val_main_v89 val_main_v88
  generalize val_main_v79 (F := Ideal) x1 x3 x5 x6 x7 = y; generalize val_main_v63 (F := Ideal) x0 x1 x2 x3 x4 x5 = z
  generalize val_main_v65 (F := Ideal) x0 x1 x2 x3 x4 x5 = w; generalize val_main_v90 (F := Ideal) x0 x1 x2 x3 x4 x5 x6 x7 = v
  pointwise [val_main_v94, val_main_cst_19]

theorem v98_apply : val_main_v98 (F := Ideal) x0 x1 x2 x3 x4 x5 x6 x7 (ix4 b h t d)
    = ∑ j, plainDscores (qs x0 x2 x4 b t) (os x6 x7 b t) (kvs x1 x3 x5 b) h j * kvs x1 x3 x5 b j (key (col h d)) := by
  simp only [← v95_apply, ← v38_apply]; unfold val_main_v98
  generalize val_main_v95 (F := Ideal) x0 x1 x2 x3 x4 x5 x6 x7 = y; generalize val_main_v38 (F := Ideal) x1 x3 x5 = z; pointwise []

theorem v96_apply : val_main_v96 (F := Ideal) x0 x1 x2 x3 x4 x5 x6 x7 (ix4 b h j d)
    = ∑ t, plainDscores (qs x0 x2 x4 b t) (os x6 x7 b t) (kvs x1 x3 x5 b) h j * qs x0 x2 x4 b t (col h d) := by
  simp only [← v95_apply, ← v35_apply]; unfold val_main_v96
  generalize val_main_v95 (F := Ideal) x0 x1 x2 x3 x4 x5 x6 x7 = y; generalize val_main_v35 (F := Ideal) x0 x2 x4 = z; pointwise []

theorem v80_apply : val_main_v80 (F := Ideal) x0 x1 x2 x3 x4 x5 x6 x7 (ix4 b h d j)
    = ∑ t, os x6 x7 b t (col h d) * share (plainScores (qs x0 x2 x4 b t) (kvs x1 x3 x5 b) h) j := by
  simp only [← sc_eq, ← v67_apply, ← v78_apply]; unfold val_main_v80
  generalize val_main_v67 (F := Ideal) x0 x1 x2 x3 x4 x5 = y; generalize val_main_v78 (F := Ideal) x6 x7 = z; pointwise []

end Heads

/-! ## The results -/

/-- The gradient of the queries. -/
theorem v103_apply (b : Fin 2) (t : Fin 2048) (k : Fin 1024) : val_main_v103 (F := Ideal) x0 x1 x2 x3 x4 x5 x6 x7 (ix3 b t k)
    = plainDquery (qs x0 x2 x4 b t) (os x6 x7 b t) (kvs x1 x3 x5 b) k := by
  have e99 : val_main_v99 (F := Ideal) x0 x1 x2 x3 x4 x5 x6 x7 (ix4 b t (head k) (lane k)) = val_main_v98 (F := Ideal) x0 x1 x2 x3 x4 x5 x6 x7 (ix4 b (head k) t (lane k)) := by
    unfold val_main_v99; generalize val_main_v98 (F := Ideal) x0 x1 x2 x3 x4 x5 x6 x7 = y; pointwise []
  have e := v98_apply x0 x1 x2 x3 x4 x5 x6 x7 b t (head k) (lane k)
  rw [col_head_lane] at e
  unfold plainDquery
  rw [← e, ← e99, val_main_v103_apply]
  exact congrArg _ (funext fun a => Fin.ext (match a with
    | ⟨0, _⟩ => show ((b.val * 2048 + t.val) * 1024 + k.val) / 2097152 = b.val by omega
    | ⟨1, _⟩ => show ((b.val * 2048 + t.val) * 1024 + k.val) / 1024 % 2048 = t.val by omega
    | ⟨2, _⟩ => show ((b.val * 2048 + t.val) * 1024 + k.val) / 256 % 4 = k.val / 256 by omega
    | ⟨3, _⟩ => show ((b.val * 2048 + t.val) * 1024 + k.val) % 256 = k.val % 256 by omega))

/-- The gradient of the keys, and of the values. -/
theorem v101_apply (b : Fin 2) (j : Fin 256) (k : Fin 1024) : val_main_v101 (F := Ideal) x0 x1 x2 x3 x4 x5 x6 x7 (ix3 b j k)
    = ∑ t, plainDscores (qs x0 x2 x4 b t) (os x6 x7 b t) (kvs x1 x3 x5 b) (head k) j * qs x0 x2 x4 b t k := by
  have e97 : val_main_v97 (F := Ideal) x0 x1 x2 x3 x4 x5 x6 x7 (ix4 b j (head k) (lane k)) = val_main_v96 (F := Ideal) x0 x1 x2 x3 x4 x5 x6 x7 (ix4 b (head k) j (lane k)) := by
    unfold val_main_v97; generalize val_main_v96 (F := Ideal) x0 x1 x2 x3 x4 x5 x6 x7 = y; pointwise []
  have e := v96_apply x0 x1 x2 x3 x4 x5 x6 x7 b (head k) (lane k) j
  rw [col_head_lane] at e
  rw [← e, ← e97, val_main_v101_apply]
  exact congrArg _ (funext fun a => Fin.ext (match a with
    | ⟨0, _⟩ => show ((b.val * 256 + j.val) * 1024 + k.val) / 262144 = b.val by omega
    | ⟨1, _⟩ => show ((b.val * 256 + j.val) * 1024 + k.val) / 1024 % 256 = j.val by omega
    | ⟨2, _⟩ => show ((b.val * 256 + j.val) * 1024 + k.val) / 256 % 4 = k.val / 256 by omega
    | ⟨3, _⟩ => show ((b.val * 256 + j.val) * 1024 + k.val) % 256 = k.val % 256 by omega))

theorem v100_apply (b : Fin 2) (j : Fin 256) (k : Fin 1024) : val_main_v100 (F := Ideal) x0 x1 x2 x3 x4 x5 x6 x7 (ix3 b j k)
    = ∑ t, os x6 x7 b t k * share (plainScores (qs x0 x2 x4 b t) (kvs x1 x3 x5 b) (head k)) j := by
  have e81 : val_main_v81 (F := Ideal) x0 x1 x2 x3 x4 x5 x6 x7 (ix4 b j (head k) (lane k)) = val_main_v80 (F := Ideal) x0 x1 x2 x3 x4 x5 x6 x7 (ix4 b (head k) (lane k) j) := by
    unfold val_main_v81; generalize val_main_v80 (F := Ideal) x0 x1 x2 x3 x4 x5 x6 x7 = y; pointwise []
  have e := v80_apply x0 x1 x2 x3 x4 x5 x6 x7 b (head k) (lane k) j
  rw [col_head_lane] at e
  rw [← e, ← e81, val_main_v100_apply]
  exact congrArg _ (funext fun a => Fin.ext (match a with
    | ⟨0, _⟩ => show ((b.val * 256 + j.val) * 1024 + k.val) / 262144 = b.val by omega
    | ⟨1, _⟩ => show ((b.val * 256 + j.val) * 1024 + k.val) / 1024 % 256 = j.val by omega
    | ⟨2, _⟩ => show ((b.val * 256 + j.val) * 1024 + k.val) / 256 % 4 = k.val / 256 by omega
    | ⟨3, _⟩ => show ((b.val * 256 + j.val) * 1024 + k.val) % 256 = k.val % 256 by omega))

theorem v102_apply (b : Fin 2) (j : Fin 256) (l : Fin 2048) : val_main_v102 (F := Ideal) x0 x1 x2 x3 x4 x5 x6 x7 (ix3 b j l)
    = ∑ t, plainBoth (qs x0 x2 x4 b t) (os x6 x7 b t) (kvs x1 x3 x5 b) j l := by
  have e0 := v101_apply x0 x1 x2 x3 x4 x5 x6 x7 b j; have e1 := v100_apply x0 x1 x2 x3 x4 x5 x6 x7 b j
  unfold val_main_v102 plainBoth
  generalize val_main_v101 (F := Ideal) x0 x1 x2 x3 x4 x5 x6 x7 = y at *; generalize val_main_v100 (F := Ideal) x0 x1 x2 x3 x4 x5 x6 x7 = z at *
  pointwise []
  by_cases hl : l.val < 1024
  · simp only [dif_pos hl]; exact e0 _
  · simp only [dif_neg hl]; exact e1 _

/-- The weights without their leading unit axis. -/
theorem v17_apply (c k : Fin 1024) : val_main_v17 (F := Ideal) x4 (ix2 c k) = x4 (ix3 0 c k) := by
  rw [val_main_v17_apply]
  exact congrArg _ (funext fun a => Fin.ext (match a with
    | ⟨0, _⟩ => rfl
    | ⟨1, _⟩ => show (c.val * 1024 + k.val) / 1024 % 1024 = c.val by omega
    | ⟨2, _⟩ => show (c.val * 1024 + k.val) % 1024 = k.val by omega))

/-- The cotangent of the normalised rows. -/
abbrev us (b : Fin 2) (t : Fin 2048) : Fin 1024 → EReal :=
  back (plainDquery (qs x0 x2 x4 b t) (os x6 x7 b t) (kvs x1 x3 x5 b)) (row3 x4 0)

theorem v104_apply (b : Fin 2) (t : Fin 2048) (c : Fin 1024) : val_main_v104 (F := Ideal) x0 x1 x2 x3 x4 x5 x6 x7 (ix3 b t c) = us x0 x1 x2 x3 x4 x5 x6 x7 b t c := by
  unfold us back; simp only [← v103_apply, row3, ← v17_apply]; unfold val_main_v104
  generalize val_main_v103 (F := Ideal) x0 x1 x2 x3 x4 x5 x6 x7 = y; generalize val_main_v17 (F := Ideal) x4 = z; pointwise []

theorem v7_apply (b : Fin 2) (t : Fin 2048) (u : Fin 1) : val_main_v7 (F := Ideal) x0 (ix3 b t u) = meanSquare (row3 x0 b t) := by
  unfold meanSquare row3 val_main_v7 val_main_v5 val_main_v3 val_main_v2 val_main_v1
  pointwise [val_main_v6, val_main_v4, val_main_cst, val_main_cst_0, val_main_cst_1]

theorem v8_apply (b : Fin 2) (t : Fin 2048) (u : Fin 1) : val_main_v8 (F := Ideal) x0 (ix3 b t u) = inv (row3 x0 b t) := by
  show _ = Ideal.rsqrt (meanSquare (row3 x0 b t))
  rw [← v7_apply x0 b t u]; unfold val_main_v8; generalize val_main_v7 (F := Ideal) x0 = y; pointwise []

theorem v11_apply (b : Fin 2) (t : Fin 2048) (u : Fin 1) : val_main_v11 (F := Ideal) x0 (ix3 b t u)
    = Ideal.ofBits .f32 0xBF000000#32 * Ideal.div (inv (row3 x0 b t)) (meanSquare (row3 x0 b t)) := by
  rw [← v7_apply x0 b t u, ← v8_apply x0 b t u]; unfold val_main_v11 val_main_v9
  generalize val_main_v7 (F := Ideal) x0 = y; generalize val_main_v8 (F := Ideal) x0 = z; pointwise [val_main_v10, val_main_cst_2]

theorem v13_apply (b : Fin 2) (t : Fin 2048) (k : Fin 1024) : val_main_v13 (F := Ideal) x0 (ix3 b t k) = x0 (ix3 b t k) * inv (row3 x0 b t) := by
  rw [← v8_apply x0 b t 0]; unfold val_main_v13 val_main_v12; generalize val_main_v8 (F := Ideal) x0 = z; pointwise []

theorem v108_apply (b : Fin 2) (t : Fin 2048) (k : Fin 1024) : val_main_v108 (F := Ideal) x2 (ix3 b t k) = x2 (ix2 0 k) := by
  rw [val_main_v108_apply, val_main_v14_apply, val_main_v0_apply]
  exact congrArg _ (funext fun a => Fin.ext (match a with
    | ⟨0, _⟩ => rfl
    | ⟨1, _⟩ => show k.val % 1024 = k.val by omega))

theorem v109_apply (b : Fin 2) (t : Fin 2048) (k : Fin 1024) : val_main_v109 (F := Ideal) x0 x1 x2 x3 x4 x5 x6 x7 (ix3 b t k)
    = us x0 x1 x2 x3 x4 x5 x6 x7 b t k * x2 (ix2 0 k) := by
  rw [← v104_apply, ← v108_apply x2 b t k, val_main_v109_apply]; rfl

theorem v112_apply (b : Fin 2) (t : Fin 2048) : val_main_v112 (F := Ideal) x0 x1 x2 x3 x4 x5 x6 x7 (ix2 b t)
    = ∑ l, x0 (ix3 b t l) * (us x0 x1 x2 x3 x4 x5 x6 x7 b t l * x2 (ix2 0 l)) := by
  have z : val_main_cst_22 (F := Ideal) (Shape.Idx.first Cert.Reference2Ideal.Gen.h_S_) = 0 := by pointwise [val_main_cst_22]
  rw [val_main_v112_apply, z, zero_add]
  refine Finset.sum_congr rfl fun l _ => ?_
  rw [show idx_main_v112 (ix2 b t) l = ix3 b t l from eq_ix3 _, val_main_v111_apply, v109_apply]; rfl

theorem v113_apply (b : Fin 2) (t : Fin 2048) (u : Fin 1) :
    val_main_v113 (F := Ideal) x0 x1 x2 x3 x4 x5 x6 x7 (ix3 b t u) = val_main_v112 (F := Ideal) x0 x1 x2 x3 x4 x5 x6 x7 (ix2 b t) := by
  rw [val_main_v113_apply]
  exact congrArg _ (funext fun a => Fin.ext (match a with
    | ⟨0, _⟩ => show ((b.val * 2048 + t.val) * 1 + u.val) / 2048 = b.val by omega
    | ⟨1, _⟩ => show ((b.val * 2048 + t.val) * 1 + u.val) % 2048 = t.val by omega))

theorem v119_apply (b : Fin 2) (t : Fin 2048) : val_main_v119 (F := Ideal) x0 x1 x2 x3 x4 x5 x6 x7 (ix2 b t)
    = squarePull (row3 x0 b t) (fun k => x2 (ix2 0 k)) (us x0 x1 x2 x3 x4 x5 x6 x7 b t) := by
  unfold squarePull
  show _ = Ideal.div ((∑ l, x0 (ix3 b t l) * (us x0 x1 x2 x3 x4 x5 x6 x7 b t l * x2 (ix2 0 l))) * _) _
  rw [← v112_apply, ← v113_apply x0 x1 x2 x3 x4 x5 x6 x7 b t 0, ← v11_apply x0 b t 0]; unfold val_main_v119 val_main_v118 val_main_v116
  generalize val_main_v113 (F := Ideal) x0 x1 x2 x3 x4 x5 x6 x7 = y; generalize val_main_v11 (F := Ideal) x0 = z
  pointwise [val_main_v117, val_main_cst_23, val_main_cst_24]; exact Fin.sum_univ_one _

/-- The gradient of the stream. -/
theorem v126_apply (b : Fin 2) (t : Fin 2048) (k : Fin 1024) : val_main_v126 (F := Ideal) x0 x1 x2 x3 x4 x5 x6 x7 (ix3 b t k)
    = x7 (ix3 b t k) + plainDnorm (row3 x0 b t) (fun k => x2 (ix2 0 k)) (us x0 x1 x2 x3 x4 x5 x6 x7 b t) k := by
  have e114 : val_main_v114 (F := Ideal) x0 (ix3 b t k) = inv (row3 x0 b t) := by
    rw [val_main_v114_apply, show idx_main_v114 (ix3 b t k) = ix3 b t 0 from eq_ix3 _, v8_apply]
  have e120 : val_main_v120 (F := Ideal) x0 x1 x2 x3 x4 x5 x6 x7 (ix3 b t k) = squarePull (row3 x0 b t) (fun k => x2 (ix2 0 k)) (us x0 x1 x2 x3 x4 x5 x6 x7 b t) := by
    rw [val_main_v120_apply, show idx_main_v120 (ix3 b t k) = ix2 b t from eq_ix2 _, v119_apply]
  rw [val_main_v126_apply, val_main_v124_apply, val_main_v123_apply, val_main_v122_apply, val_main_v121_apply, val_main_v115_apply, e114, e120, v109_apply]
  exact congrArg (x7 (ix3 b t k) + ·) (add_assoc _ _ _)

/-- The gradient of the norm's weight. -/
theorem v125_apply (l : Fin 1024) : val_main_v125 (F := Ideal) x0 x1 x2 x3 x4 x5 x6 x7 (ix2 0 l)
    = ∑ b : Fin 2, ∑ t : Fin 2048, x0 (ix3 b t l) * inv (row3 x0 b t) * us x0 x1 x2 x3 x4 x5 x6 x7 b t l := by
  have e105 : ∀ b t, val_main_v105 (F := Ideal) x0 x1 x2 x3 x4 x5 x6 x7 (ix3 b t l) = x0 (ix3 b t l) * inv (row3 x0 b t) * us x0 x1 x2 x3 x4 x5 x6 x7 b t l := fun b t => by
    rw [val_main_v105_apply, v104_apply, v13_apply]; rfl
  have z1 : val_main_cst_20 (F := Ideal) (Shape.Idx.first Cert.Reference2Ideal.Gen.h_S_) = 0 := by pointwise [val_main_cst_20]
  have z2 : val_main_cst_21 (F := Ideal) (Shape.Idx.first Cert.Reference2Ideal.Gen.h_S_) = 0 := by pointwise [val_main_cst_21]
  have e106 : val_main_v106 (F := Ideal) x0 x1 x2 x3 x4 x5 x6 x7 (ix1 l) = ∑ b : Fin 2, ∑ t : Fin 2048, x0 (ix3 b t l) * inv (row3 x0 b t) * us x0 x1 x2 x3 x4 x5 x6 x7 b t l := by
    unfold val_main_v106
    show Ideal.hostReduceAdd _ _ _ (ix1 l) = _
    rw [reduceAdd_first_two, z1, zero_add]
    simp only [e105]
  rw [val_main_v125_apply, show idx_main_v125 (ix2 0 l) = ix1 l from eq_ix1 _]
  unfold val_main_v110
  show Ideal.hostReduceAdd _ _ _ (ix1 l) = _
  rw [reduceAdd_first_two, z2, zero_add, Fin.sum_univ_one, Fin.sum_univ_one, val_main_v107_apply, ← e106]
  exact congrArg _ (funext fun a => Fin.ext (match a with | ⟨0, _⟩ => by show (0 * 1 + 0) * 1024 + l.val = l.val; omega))

/-! ### The cotangent through the output projection, and the results with batch and position in one row -/

theorem os_eq (b : Fin 2) (t : Fin 2048) : os x6 x7 b t = back (row3 x7 b t) (row3 x6 0) := funext fun k => by
  have e74 : ∀ c k : Fin 1024, val_main_v74 (F := Ideal) x6 (ix2 c k) = x6 (ix3 0 c k) := fun c k => by
    rw [val_main_v74_apply]
    exact congrArg _ (funext fun a => Fin.ext (match a with
      | ⟨0, _⟩ => rfl
      | ⟨1, _⟩ => show (c.val * 1024 + k.val) / 1024 % 1024 = c.val by omega
      | ⟨2, _⟩ => show (c.val * 1024 + k.val) % 1024 = k.val by omega))
  unfold back row3; simp only [← e74]; show val_main_v76 (F := Ideal) x6 x7 (ix3 b t k) = _; unfold val_main_v76
  generalize val_main_v74 (F := Ideal) x6 = y; pointwise []

end Cert.Reference2Ideal.Attn
-- ==== Proof.FiniteReal.lean ====
/-
  Finite extended reals: sums, products and the nonlinear functions of finite numbers are finite, and two ways of writing
  the derivative of a softmax, and of a root-mean-square norm, agree on finite numbers.
-/
module

public import proofs.«01_k».proof.Proof.AttnRows
public import Idealize.ShloMosaic.PureOps.Ideal.Laws
public import Idealize.ShloMosaic.Lib.IdealHost
public import Mathlib.Tactic.FieldSimp
public import Mathlib.Tactic.Ring
public import Mathlib.Tactic.LinearCombination

@[expose] public section

noncomputable section

namespace Cert.FiniteReal

open Idealize.ShloMosaic Cert.AttnRows

/-- An extended real that is a real number. -/
def IsFinite (x : EReal) : Prop := ∃ r : ℝ, x = (r : EReal)

theorem isFinite_coe (r : ℝ) : IsFinite (r : EReal) := ⟨r, rfl⟩

theorem IsFinite.add {x y : EReal} (hx : IsFinite x) (hy : IsFinite y) : IsFinite (x + y) := by
  obtain ⟨r, rfl⟩ := hx; obtain ⟨s, rfl⟩ := hy; exact ⟨r + s, (EReal.coe_add r s).symm⟩

theorem IsFinite.mul {x y : EReal} (hx : IsFinite x) (hy : IsFinite y) : IsFinite (x * y) := by
  obtain ⟨r, rfl⟩ := hx; obtain ⟨s, rfl⟩ := hy; exact ⟨r * s, (EReal.coe_mul r s).symm⟩

theorem IsFinite.sub {x y : EReal} (hx : IsFinite x) (hy : IsFinite y) : IsFinite (x - y) := by
  obtain ⟨r, rfl⟩ := hx; obtain ⟨s, rfl⟩ := hy; exact ⟨r - s, (EReal.coe_sub r s).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsFinite.sum {ι : Type} (s : Finset ι) {f : ι → EReal} (h : ∀ i, IsFinite (f i)) : IsFinite (∑ i ∈ s, f i) := by
  choose g hg using h
  exact ⟨∑ i ∈ s, g i, by rw [coe_sum]; exact Finset.sum_congr rfl fun i _ => hg i⟩

/-- A row of finite numbers is a row of reals. -/
theorem lift {ι : Type} {f : ι → EReal} (h : ∀ i, IsFinite (f i)) : ∃ g : ι → ℝ, f = fun i => (g i : EReal) := by
  choose g hg using h
  exact ⟨g, funext hg⟩

/-- A finite factor moves out of a sum of finite numbers. -/
theorem sum_mul {ι : Type} (s : Finset ι) {f : ι → EReal} (h : ∀ i, IsFinite (f i)) {c : EReal} (hc : IsFinite c) :
    ∑ i ∈ s, f i * c = (∑ i ∈ s, f i) * c := by
  obtain ⟨g, rfl⟩ := lift h; obtain ⟨c, rfl⟩ := hc
  rw [← coe_sum, ← EReal.coe_mul, Finset.sum_mul, coe_sum]
  exact Finset.sum_congr rfl fun i _ => (EReal.coe_mul _ _).symm

/-! ## The literals -/

theorem lit_sixteenth : Ideal.ofBits .f32 0x3D800000#32 = ((1 / 16 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_bot : Ideal.ofBits .f32 0xFF800000#32 = ⊥ := by simp [Ideal.ofBits, Ideal.ieee]
theorem lit_eps : ∃ e : ℝ, 0 < e ∧ Ideal.ofBits .f32 0x358637BD#32 = (e : EReal) := by
  refine ⟨8796093 / 8388608 * 2 ^ (-20 : ℤ), by positivity, ?_⟩
  simp [Ideal.ofBits, Ideal.ieee, -EReal.coe_mul]; norm_num

/-! ## The softmax -/

/-- The largest of a nonempty row of reals is a real. -/
theorem peak_coe {n : ℕ} (hn : 0 < n) (s : Fin n → ℝ) : ∃ m : ℝ, peak (fun j => (s j : EReal)) = (m : EReal) := by
  have h : ∀ S : Finset (Fin n), S.fold max (⊥ : EReal) (fun j => (s j : EReal)) = ⊥ ∨ IsFinite (S.fold max (⊥ : EReal) fun j => (s j : EReal)) := by
    intro S
    induction S using Finset.induction_on with
    | empty => exact .inl rfl
    | insert a S ha ih =>
      rw [Finset.fold_insert ha]
      refine .inr ?_
      rcases ih with ih | ih
      · rw [ih, max_eq_left bot_le]; exact isFinite_coe _
      · obtain ⟨r, hr⟩ := ih
        rw [hr]
        rcases le_total (s a : EReal) (r : EReal) with hle | hle
        · rw [max_eq_right hle]; exact isFinite_coe _
        · rw [max_eq_left hle]; exact isFinite_coe _
  unfold peak
  rw [lit_bot]
  rcases h Finset.univ with h | ⟨r, hr⟩
  · have h0 : (s ⟨0, hn⟩ : EReal) ≤ Finset.univ.fold max (⊥ : EReal) (fun j => (s j : EReal)) :=
      (Finset.le_fold_max _).mpr (.inr ⟨⟨0, hn⟩, Finset.mem_univ _, le_rfl⟩)
    rw [h] at h0
    exact absurd (le_bot_iff.mp h0) (EReal.coe_ne_bot _)
  · exact ⟨r, hr⟩

/-- The exponentials of a nonempty row of reals are reals with a positive sum. -/
theorem weight_coe {n : ℕ} (hn : 0 < n) (s : Fin n → ℝ) : ∃ e : Fin n → ℝ, 0 < ∑ j, e j ∧ ∀ j, weight (fun j => (s j : EReal)) j = (e j : EReal) := by
  obtain ⟨m, hm⟩ := peak_coe hn s
  refine ⟨fun j => Real.exp (s j - m), Finset.sum_pos (fun j _ => Real.exp_pos _) ⟨⟨0, hn⟩, Finset.mem_univ _⟩, fun j => ?_⟩
  unfold weight
  rw [hm, ← EReal.coe_sub, Ideal.exp_coe]

/-- Both shapes of the softmax's derivative agree on finite numbers, and are finite; so is the softmax. -/
theorem pulls {n : ℕ} (hn : 0 < n) {s d : Fin n → EReal} (hs : ∀ j, IsFinite (s j)) (hd : ∀ j, IsFinite (d j)) (j : Fin n) :
    quotientPull s d j = pull s d j ∧ IsFinite (pull s d j) ∧ IsFinite (share s j) := by
  obtain ⟨s, rfl⟩ := lift hs; obtain ⟨d, rfl⟩ := lift hd
  obtain ⟨e, hL, he⟩ := weight_coe hn s
  have hL' := hL.ne'
  have hsh : ∀ j, share (fun j => (s j : EReal)) j = ((e j * (1 / ∑ x, e x) : ℝ) : EReal) := fun j => by
    unfold share
    simp only [he]
    rw [← coe_sum, Ideal.div_coe hL', ← EReal.coe_mul]
  have hp : pull (fun j => (s j : EReal)) (fun j => (d j : EReal)) j
      = ((e j * (1 / ∑ x, e x) * (d j - ∑ x, d x * (e x * (1 / ∑ x, e x))) : ℝ) : EReal) := by
    unfold pull
    simp only [hsh, ← EReal.coe_mul, ← coe_sum, ← EReal.coe_sub]
  refine ⟨?_, hp ▸ isFinite_coe _, hsh j ▸ isFinite_coe _⟩
  rw [hp]
  unfold quotientPull
  simp only [he]
  rw [← coe_sum, ← EReal.coe_mul, Ideal.ofBits_one_f32, Ideal.div_coe hL', Ideal.div_coe (mul_ne_zero hL' hL'), one_mul]
  simp only [← EReal.coe_mul, ← coe_sum, ← EReal.coe_neg, ← EReal.coe_add]
  congr 1
  have e1 : ∀ x, d x * (1 / ((∑ x, e x) * ∑ x, e x)) * e x = d x * e x * (1 / ((∑ x, e x) * ∑ x, e x)) := fun x => by ring
  have e2 : ∀ x, d x * (e x * (1 / ∑ x, e x)) = d x * e x * (1 / ∑ x, e x) := fun x => by ring
  simp only [e1, e2, ← Finset.sum_mul]
  generalize ∑ x, d x * e x = S
  generalize ∑ x, e x = L at *
  field_simp
  ring

/-! ## The norm -/

theorem inv_coe (x : Fin 1024 → ℝ) : ∃ r v : ℝ, v ≠ 0 ∧ r * r = 1 / v ∧ meanSquare (fun k => (x k : EReal)) = (v : EReal) ∧ inv (fun k => (x k : EReal)) = (r : EReal) := by
  obtain ⟨e, he, hl⟩ := lit_eps
  have hm : meanSquare (fun k => (x k : EReal)) = (((∑ k, x k * x k) * (1 / 1024) + e : ℝ) : EReal) := by
    unfold meanSquare
    rw [hl, lit_1024, Ideal.div_coe (by norm_num)]
    simp only [← EReal.coe_mul, ← coe_sum, ← EReal.coe_add]
  have hv : 0 < (∑ k, x k * x k) * (1 / 1024) + e := by
    have : 0 ≤ ∑ k, x k * x k := Finset.sum_nonneg fun k _ => mul_self_nonneg _
    positivity
  refine ⟨(Real.sqrt ((∑ k, x k * x k) * (1 / 1024) + e))⁻¹, _, hv.ne', ?_, hm, ?_⟩
  · rw [← mul_inv, Real.mul_self_sqrt hv.le]; exact inv_eq_one_div _
  · show Ideal.rsqrt (meanSquare fun k => (x k : EReal)) = _
    rw [hm, Ideal.rsqrt_coe, if_neg (not_lt.mpr hv.le), if_neg hv.ne']

/-- Both shapes of the norm's derivative agree on finite numbers. -/
theorem norms {x g u : Fin 1024 → EReal} (hx : ∀ k, IsFinite (x k)) (hg : ∀ k, IsFinite (g k)) (hu : ∀ k, IsFinite (u k)) (k : Fin 1024) :
    plainDnorm x g u k = dnorm x g u k := by
  obtain ⟨x, rfl⟩ := lift hx; obtain ⟨g, rfl⟩ := lift hg; obtain ⟨u, rfl⟩ := lift hu
  obtain ⟨r, v, hv, hr, hm, hi⟩ := inv_coe x
  unfold plainDnorm dnorm squarePull
  rw [hm, hi, lit_1024, lit_neg_half, Ideal.div_coe hv, Ideal.div_coe (by norm_num), Ideal.div_coe (by norm_num)]
  simp only [← EReal.coe_mul, ← coe_sum, ← EReal.coe_add, ← EReal.coe_sub]
  congr 1
  have e1 : ∑ l, x l * (u l * g l) = ∑ l, u l * g l * x l := Finset.sum_congr rfl fun l _ => by ring
  have e2 : ∑ l, u l * g l * (x l * r) = (∑ l, u l * g l * x l) * r := by rw [Finset.sum_mul]; exact Finset.sum_congr rfl fun l _ => by ring
  rw [e1, e2]
  generalize ∑ l, u l * g l * x l = S
  linear_combination (x k * S * r * (1 / 1024)) * hr

/-- The inverse root mean square of finite numbers is finite. -/
theorem inv_finite {x : Fin 1024 → EReal} (hx : ∀ k, IsFinite (x k)) : IsFinite (inv x) := by
  obtain ⟨x, rfl⟩ := lift hx
  obtain ⟨r, v, hv, hr, hm, hi⟩ := inv_coe x
  exact ⟨r, hi⟩

/-! ## One row of the attention -/

section Row

variable {q o : Fin 1024 → EReal} {kv : Fin 256 → Fin 2048 → EReal}

theorem back_finite {n p : ℕ} {x : Fin n → EReal} {w : Fin p → Fin n → EReal} (hx : ∀ c, IsFinite (x c)) (hw : ∀ k c, IsFinite (w k c)) (k : Fin p) :
    IsFinite (back x w k) := IsFinite.sum _ fun c => (hx c).mul (hw k c)

/-- Scaling the query row scales its scores. -/
theorem scores_scaled (hq : ∀ k, IsFinite (q k)) (hkv : ∀ j l, IsFinite (kv j l)) (h : Fin 4) :
    scores (fun k => q k * Ideal.ofBits .f32 0x3D800000#32) kv h = plainScores q kv h := funext fun j => by
  unfold scores plainScores
  rw [← sum_mul _ (fun d => (hq _).mul (hkv _ _)) ⟨_, lit_sixteenth⟩]
  exact Finset.sum_congr rfl fun d _ => mul_right_comm _ _ _

theorem plainScores_finite (hq : ∀ k, IsFinite (q k)) (hkv : ∀ j l, IsFinite (kv j l)) (h : Fin 4) (j : Fin 256) : IsFinite (plainScores q kv h j) :=
  (IsFinite.sum _ fun d => (hq _).mul (hkv _ _)).mul ⟨_, lit_sixteenth⟩

theorem dprobs_finite (ho : ∀ k, IsFinite (o k)) (hkv : ∀ j l, IsFinite (kv j l)) (h : Fin 4) (j : Fin 256) : IsFinite (dprobs o kv h j) :=
  IsFinite.sum _ fun d => (ho _).mul (hkv _ _)

theorem dscores_scaled (hq : ∀ k, IsFinite (q k)) (ho : ∀ k, IsFinite (o k)) (hkv : ∀ j l, IsFinite (kv j l)) (h : Fin 4) (j : Fin 256) :
    plainDscores q o kv h j = dscores (fun k => q k * Ideal.ofBits .f32 0x3D800000#32) o kv h j * Ideal.ofBits .f32 0x3D800000#32
      ∧ IsFinite (dscores (fun k => q k * Ideal.ofBits .f32 0x3D800000#32) o kv h j) := by
  have e := pulls (by decide : 0 < 256) (plainScores_finite hq hkv h) (dprobs_finite ho hkv h) j
  unfold plainDscores dscores
  rw [scores_scaled hq hkv]
  exact ⟨by rw [e.1], e.2.1⟩

/-- The gradient of a query row, both ways. -/
theorem dquery_eq (hq : ∀ k, IsFinite (q k)) (ho : ∀ k, IsFinite (o k)) (hkv : ∀ j l, IsFinite (kv j l)) :
    plainDquery q o kv = dquery (fun k => q k * Ideal.ofBits .f32 0x3D800000#32) o kv := funext fun k => by
  unfold plainDquery dquery
  rw [← sum_mul _ (fun j => ((dscores_scaled hq ho hkv _ j).2).mul (hkv _ _)) ⟨_, lit_sixteenth⟩]
  exact Finset.sum_congr rfl fun j _ => by rw [(dscores_scaled hq ho hkv _ j).1, mul_right_comm]

theorem dquery_finite (hq : ∀ k, IsFinite (q k)) (ho : ∀ k, IsFinite (o k)) (hkv : ∀ j l, IsFinite (kv j l)) (k : Fin 1024) :
    IsFinite (dquery (fun k => q k * Ideal.ofBits .f32 0x3D800000#32) o kv k) :=
  (IsFinite.sum _ fun j => ((dscores_scaled hq ho hkv _ j).2).mul (hkv _ _)).mul ⟨_, lit_sixteenth⟩

/-- A row's contribution to the gradient of the keys and values, both ways. -/
theorem both_eq (hq : ∀ k, IsFinite (q k)) (ho : ∀ k, IsFinite (o k)) (hkv : ∀ j l, IsFinite (kv j l)) (j : Fin 256) (l : Fin 2048) :
    plainBoth q o kv j l = both (fun k => q k * Ideal.ofBits .f32 0x3D800000#32) o kv j l := by
  unfold plainBoth both
  split_ifs with hl
  · unfold dkey
    rw [(dscores_scaled hq ho hkv _ j).1, mul_assoc, mul_comm (Ideal.ofBits .f32 0x3D800000#32)]
  · unfold dval
    rw [scores_scaled hq hkv, mul_comm]

end Row

end Cert.FiniteReal
-- ==== Proof.FiniteArgs.lean ====
/-
  A precondition says of an array that all its entries lie below infinity in absolute value. Here that is read as: every entry
  is a real number.
-/
module

public import proofs.«01_k».proof.Proof.FiniteReal
public import Idealize.ShloMosaic.Lib.StableHlo
public import Idealize.ShloMosaic.Lib.Pointwise

@[expose] public section

noncomputable section

namespace Cert.FiniteReal

open Idealize.ShloMosaic

theorem lit_top : Ideal.ofBits .f32 0x7F800000#32 = ⊤ := by simp [Ideal.ofBits, Ideal.ieee]

/-- An extended real below infinity in absolute value is a real. -/
theorem isFinite_of_abs {x : EReal} (h : max x (-x) < ⊤) : IsFinite x := by
  refine ⟨x.toReal, (EReal.coe_toReal ?_ ?_).symm⟩ <;> rintro rfl <;> simp at h

/-- A conjunction of bits that comes out as one had ones only. -/
theorem foldl_and {ι : Type} (l : List ι) (f : ι → BitVec 1) (b : BitVec 1) (h : l.foldl (fun r n => IntOp.andi r (f n)) b = 1#1) :
    b = 1#1 ∧ ∀ n ∈ l, f n = 1#1 := by
  have two : ∀ p q : BitVec 1, IntOp.andi p q = 1#1 → p = 1#1 ∧ q = 1#1 := by decide
  induction l generalizing b with
  | nil => exact ⟨h, fun n hn => absurd hn (List.not_mem_nil)⟩
  | cons a l ih =>
    obtain ⟨h1, h2⟩ := ih _ h
    obtain ⟨h3, h4⟩ := two _ _ h1
    exact ⟨h3, fun n hn => (List.mem_cons.mp hn).elim (fun e => e ▸ h4) (h2 n)⟩

/-- The conjunction over a whole array, as the host computes it. -/
abbrev allBelow {s u t : Shape} {axes : List (Fin s.rank)} (x : FVec Ideal s .f32) (h : s.ReducesTo axes t) (hu : 0 < u.numel) : IVec t 1 :=
  Host.reduce (u := u) IntOp.andi (cmpf .olt (Host.absf x) (fun _ => Ideal.ofBits .f32 0x7F800000#32)) (fun _ => 1#1) h hu

theorem all_finite {s u : Shape} {axes : List (Fin s.rank)} (x : FVec Ideal s .f32) (h : s.ReducesTo axes ⟨0, ![]⟩) (hu : 0 < u.numel)
    (e : allBelow (u := u) x h hu (fun a => a.elim0) = 1#1) (i : s.Idx) : IsFinite (x i) := by
  have hj : ∀ i, h.drop i = fun a => a.elim0 := fun i => funext fun a => a.elim0
  have hi := (foldl_and _ _ _ e).2 (s.rowMajor i) (List.mem_filter.mpr ⟨List.mem_finRange _, by rw [decide_eq_true_eq]; exact hj _⟩)
  rw [Equiv.symm_apply_apply] at hi
  have h2 : BitVec.ofBool (decide (max (x i) (-(x i)) < Ideal.ofBits .f32 0x7F800000#32)) = 1#1 := hi
  rw [lit_top] at h2
  refine isFinite_of_abs ?_
  by_contra hc
  rw [decide_eq_false hc] at h2
  exact absurd h2 (by decide)

/-- Two bits whose conjunction is one. -/
theorem both_ones {t : Shape} {p q : IVec t 1} {j : t.Idx} (e : andi p q j = 1#1) : p j = 1#1 ∧ q j = 1#1 := by
  have two : ∀ p q : BitVec 1, IntOp.andi p q = 1#1 → p = 1#1 ∧ q = 1#1 := by decide
  exact two _ _ e

end Cert.FiniteReal
-- ==== Proof.AttnValue.lean ====
/-
  The value of the call that differentiates the attention over the memory: with finite arguments its five results are the
  derivatives of the reference's forward lines.
-/
module

public import proofs.«01_k».proof.Defs
public import proofs.«01_k».proof.Proof.Gen.Pre_finite2
public import proofs.«01_k».proof.Proof.AttnArrays
public import proofs.«01_k».proof.Proof.AttnBlock
public import proofs.«01_k».proof.Proof.AttnRef
public import proofs.«01_k».proof.Proof.FiniteArgs

@[expose] public section

set_option maxRecDepth 16384

noncomputable section

namespace Cert.Kernel2Ideal.Attn

open Cert.Kernel2Ideal Cert.Kernel2Ideal.Gen Cert.Gathered Cert.HostRead Cert.AttnRows Cert.FiniteReal
open Cert.Reference2Ideal.Attn (row3 qs kvs os us)
open Cert.Reference2Ideal.Read
open Idealize.ShloMosaic Idealize.ShloMosaic.TcCoe Idealize.ShloMosaic.Tactic
open Idealize.SL.Sem

variable (m : (ℓ : Loc nD τ sig) → Buf (Elt Ideal) ℓ) (c : Dev nD)

/-! ## The arguments -/

abbrev a0 : Vec Ideal S2x2048x1024 .f32 := m ((c : Thread nD τ).loc main_arg0)
abbrev a1 : Vec Ideal S2x256x1024 .f32 := m ((c : Thread nD τ).loc main_arg1)
abbrev a2 : Vec Ideal S1x1024 .f32 := m ((c : Thread nD τ).loc main_arg2)
abbrev a3 : Vec Ideal S1x1024 .f32 := m ((c : Thread nD τ).loc main_arg3)
abbrev a4 : Vec Ideal S1x1024x1024 .f32 := m ((c : Thread nD τ).loc main_arg4)
abbrev a5 : Vec Ideal S1x1024x2048 .f32 := m ((c : Thread nD τ).loc main_arg5)
abbrev a6 : Vec Ideal S1x1024x1024 .f32 := m ((c : Thread nD τ).loc main_arg6)
abbrev a7 : Vec Ideal S2x2048x1024 .f32 := m ((c : Thread nD τ).loc main_arg7)

/-- Every entry of every argument is a real number. -/
structure Args : Prop where
  h0 : ∀ i, IsFinite (a0 m c i)
  h1 : ∀ i, IsFinite (a1 m c i)
  h2 : ∀ i, IsFinite (a2 m c i)
  h3 : ∀ i, IsFinite (a3 m c i)
  h4 : ∀ i, IsFinite (a4 m c i)
  h5 : ∀ i, IsFinite (a5 m c i)
  h6 : ∀ i, IsFinite (a6 m c i)
  h7 : ∀ i, IsFinite (a7 m c i)

/-- The precondition says so. -/
theorem args (h : Cert.Pre_Kernel2Ideal_finite2 m) : Args m c := by
  have e := congrFun (h c) (fun a => a.elim0)
  obtain ⟨e, h7⟩ := both_ones e
  obtain ⟨e, h6⟩ := both_ones e
  obtain ⟨e, h5⟩ := both_ones e
  obtain ⟨e, h4⟩ := both_ones e
  obtain ⟨e, h3⟩ := both_ones e
  obtain ⟨e, h2⟩ := both_ones e
  obtain ⟨h0, h1⟩ := both_ones e
  exact ⟨all_finite _ _ _ h0, all_finite _ _ _ h1,
    all_finite _ _ _ h2, all_finite _ _ _ h3,
    all_finite _ _ _ h4, all_finite _ _ _ h5,
    all_finite _ _ _ h6, all_finite _ _ _ h7⟩

/-! ## Rows of the arrays the kernel reads -/

theorem v45_row (b : Fin 2) (s : Fin 2048) (k : Fin 1024) (R : Fin 4096) (hR : R.val = b.val * 2048 + s.val) :
    (V m c main_v45 : Vec Ideal S4096x1024 .f32) (ix2 R k) = a7 m c (ix3 b s k) := by
  rw [V_v45]
  exact flatten_apply _ _ b s k R hR
theorem v46_row (b : Fin 2) (s : Fin 2048) (k : Fin 1024) (R : Fin 4096) (hR : R.val = b.val * 2048 + s.val) :
    (V m c main_v46 : Vec Ideal S4096x1024 .f32) (ix2 R k) = a0 m c (ix3 b s k) := by
  rw [V_v46]
  exact flatten_apply _ _ b s k R hR
theorem v47_row (b : Fin 2) (s : Fin 2048) (k : Fin 1024) (R : Fin 4096) (hR : R.val = b.val * 2048 + s.val) :
    (V m c main_v47 : Vec Ideal S4096x1024 .bf16) (ix2 R k)
      = qs (a0 m c) (a2 m c) (a4 m c) b s k * Ideal.ofBits .f32 0x3D800000#32 := by
  rw [V_v47]
  exact flatten_apply _ _ b s k R hR
theorem v48_row (b : Fin 2) (j : Fin 256) (l : Fin 2048) (R : Fin 512) (hR : R.val = b.val * 256 + j.val) :
    (V m c main_v48 : Vec Ideal S512x2048 .bf16) (ix2 R l) = kvs (a1 m c) (a3 m c) (a5 m c) b j l := by
  rw [V_v48]
  exact flatten_apply _ _ b j l R hR

/-- The weights the kernel loads are the queries' and the output's. -/
theorem wq_row : row (wqAt m c) = row3 (a4 m c) 0 := by
  have e : wqAt m c = shapeCast S1024x1024 (a4 m c) shapeCasts_S1x1024x1024_S1024x1024 := by
    show stack 1024 128 0 rfl (by decide) (V m c main_v8 : Vec Ideal S8x512x1024 .bf16) = _
    rw [V_v8]
    exact stack_packed (N := 512) _ _ [⟨S8x128x1024, _⟩, ⟨S8x256x1024, _⟩, ⟨S8x128x1024, _⟩] concatenates_S8x128x1024_S8x256x1024_S8x128x1024_S8x512x1024_d1 0 (Nat.zero_lt_succ _) _ shapeCasts_S1024x1024_S8x128x1024 rfl rfl
  rw [e]
  exact funext fun k => funext fun l => flatten_apply _ _ 0 k l k (by show k.val = 0 * 1024 + k.val; omega)
theorem wo_row : row (woAt m c) = row3 (a6 m c) 0 := by
  have e : woAt m c = shapeCast S1024x1024 (a6 m c) shapeCasts_S1x1024x1024_S1024x1024 := by
    show stack 1024 128 384 rfl (by decide) (V m c main_v8 : Vec Ideal S8x512x1024 .bf16) = _
    rw [V_v8]
    exact stack_packed (N := 512) _ _ [⟨S8x128x1024, _⟩, ⟨S8x256x1024, _⟩, ⟨S8x128x1024, _⟩] concatenates_S8x128x1024_S8x256x1024_S8x128x1024_S8x512x1024_d1 2 (Nat.lt_succ_self _) _ shapeCasts_S1024x1024_S8x128x1024 rfl rfl
  rw [e]
  exact funext fun k => funext fun l => flatten_apply _ _ 0 k l k (by show k.val = 0 * 1024 + k.val; omega)

/-- Point `4·b + v` has rows `512·v …` of sequence `b`. -/
abbrev at4 (b : Fin 2) (v : Fin 4) : Fin cfg0.N := pt (b.val * 4 + v.val) (by omega)
abbrev pos (v : Fin 4) (r : Fin 512) : Fin 2048 := ⟨v.val * 512 + r.val, by omega⟩

variable (b : Fin 2) (v : Fin 4) (r : Fin 512)

theorem row0 : row (iblk m c 0 (at4 b v) : Vec Ideal S512x1024 .f32) r = row3 (a7 m c) b (pos v r) := funext fun k =>
  (iblk0_apply m c (at4 b v) r k ⟨(b.val * 4 + v.val) * 512 + r.val, by omega⟩ rfl).trans (v45_row m c b (pos v r) k _ (by show _ = b.val * 2048 + (v.val * 512 + r.val); dsimp only; omega))
theorem row1 : row (iblk m c 1 (at4 b v) : Vec Ideal S512x1024 .f32) r = row3 (a0 m c) b (pos v r) := funext fun k =>
  (iblk1_apply m c (at4 b v) r k ⟨(b.val * 4 + v.val) * 512 + r.val, by omega⟩ rfl).trans (v46_row m c b (pos v r) k _ (by show _ = b.val * 2048 + (v.val * 512 + r.val); dsimp only; omega))
theorem row2 : row (iblk m c 2 (at4 b v) : Vec Ideal S512x1024 .bf16) r
    = fun k => qs (a0 m c) (a2 m c) (a4 m c) b (pos v r) k * Ideal.ofBits .f32 0x3D800000#32 := funext fun k =>
  (iblk2_apply m c (at4 b v) r k ⟨(b.val * 4 + v.val) * 512 + r.val, by omega⟩ rfl).trans (v47_row m c b (pos v r) k _ (by show _ = b.val * 2048 + (v.val * 512 + r.val); dsimp only; omega))
theorem rows3 : row (iblk m c 3 (at4 b v) : Vec Ideal S256x2048 .bf16) = kvs (a1 m c) (a3 m c) (a5 m c) b := funext fun j => funext fun l =>
  (iblk3_apply m c (at4 b v) j l ⟨b.val * 256 + j.val, by omega⟩ (by show _ = (b.val * 4 + v.val) / 4 * 256 + j.val; dsimp only; omega)).trans (v48_row m c b j l _ rfl)
theorem row4 : row (iblk m c 4 (at4 b v) : Vec Ideal S1x1024 .f32) 0 = fun k => a2 m c (ix2 0 k) := funext fun k => iblk4_apply m c (at4 b v) k
/-- The cotangent of the heads' outputs. -/
theorem row_o : back (row (iblk m c 0 (at4 b v) : Vec Ideal S512x1024 .f32) r) (row (woAt m c)) = os (a6 m c) (a7 m c) b (pos v r) := by
  rw [row0, wo_row, Cert.Reference2Ideal.Attn.os_eq]

/-! ## The rows are finite -/

theorem v26_apply (x1 : S2x256x1024.Idx → EReal) (b : Fin 2) (t : Fin 256) (u : Fin 1) : val_main_v26 (F := Ideal) x1 (ix3 b t u) = meanSquare (row3 x1 b t) := by
  pointwise [val_main_v26, val_main_v25, val_main_v24, val_main_v23, val_main_v22, val_main_v21, val_main_v20, val_main_cst_3, val_main_cst_4, val_main_cst_5, meanSquare]
theorem v27_apply (x1 : S2x256x1024.Idx → EReal) (b : Fin 2) (t : Fin 256) (u : Fin 1) : val_main_v27 (F := Ideal) x1 (ix3 b t u) = Cert.AttnRows.inv (row3 x1 b t) := by
  rw [val_main_v27_apply, v26_apply]
  rfl

section Finite
variable {m c} (h : Args m c) (s : Fin 2048)
include h

theorem q_finite (k : Fin 1024) : IsFinite (qs (a0 m c) (a2 m c) (a4 m c) b s k) := by
  show IsFinite (val_main_v18 (F := Ideal) (a0 m c) (a2 m c) (a4 m c) (ix3 b s k))
  rw [val_main_v18_apply]
  refine IsFinite.sum _ fun l => ?_
  rw [show lidx_main_v18 (ix3 b s k) l = ix3 b s l from eq_ix3 _, show ridx_main_v18 (ix3 b s k) l = ix2 l k from eq_ix2 _,
    Cert.Reference2Ideal.Attn.v17_apply, val_main_v16_apply]
  refine IsFinite.mul ?_ (h.h4 _)
  show IsFinite (val_main_v13 (F := Ideal) (a0 m c) (ix3 b s l) * val_main_v15 (F := Ideal) (a2 m c) (ix3 b s l))
  rw [Cert.Reference2Ideal.Attn.v13_apply, val_main_v15_apply, val_main_v14_apply, val_main_v0_apply]
  exact ((h.h0 _).mul (inv_finite fun _ => h.h0 _)).mul (h.h2 _)

theorem kv_finite (j : Fin 256) (l : Fin 2048) : IsFinite (kvs (a1 m c) (a3 m c) (a5 m c) b j l) := by
  have hi : ∀ u, val_main_v27 (F := Ideal) (a1 m c) (ix3 b j u) = Cert.AttnRows.inv (row3 (a1 m c) b j) := v27_apply (a1 m c) b j
  show IsFinite (val_main_v34 (F := Ideal) (a1 m c) (a3 m c) (a5 m c) (ix3 b j l))
  rw [val_main_v34_apply]
  refine IsFinite.sum _ fun k => ?_
  rw [show lidx_main_v34 (ix3 b j l) k = ix3 b j k from eq_ix3 _, show ridx_main_v34 (ix3 b j l) k = ix2 k l from eq_ix2 _,
    val_main_v33_apply, val_main_v32_apply]
  refine IsFinite.mul ?_ (h.h5 _)
  show IsFinite (val_main_v29 (F := Ideal) (a1 m c) (ix3 b j k) * val_main_v31 (F := Ideal) (a3 m c) (ix3 b j k))
  rw [val_main_v29_apply, val_main_v28_apply, show idx_main_v28 (ix3 b j k) = ix3 b j 0 from eq_ix3 _, hi, val_main_v31_apply, val_main_v30_apply, val_main_v19_apply]
  exact ((h.h1 _).mul (inv_finite fun _ => h.h1 _)).mul (h.h3 _)

theorem o_finite (k : Fin 1024) : IsFinite (os (a6 m c) (a7 m c) b s k) := by
  rw [Cert.Reference2Ideal.Attn.os_eq]
  exact back_finite (fun _ => h.h7 _) (fun _ _ => h.h6 _) k

/-- The cotangent of the normalised row, as the kernel and as the reference have it. -/
theorem u_eq : back (dquery (fun k => qs (a0 m c) (a2 m c) (a4 m c) b s k * Ideal.ofBits .f32 0x3D800000#32) (os (a6 m c) (a7 m c) b s)
      (kvs (a1 m c) (a3 m c) (a5 m c) b)) (row3 (a4 m c) 0)
    = us (a0 m c) (a1 m c) (a2 m c) (a3 m c) (a4 m c) (a5 m c) (a6 m c) (a7 m c) b s :=
  congrArg (fun q => back q (row3 (a4 m c) 0)) (dquery_eq (q_finite b h s) (o_finite b h s) (kv_finite b h)).symm

theorem u_finite (k : Fin 1024) : IsFinite (us (a0 m c) (a1 m c) (a2 m c) (a3 m c) (a4 m c) (a5 m c) (a6 m c) (a7 m c) b s k) := by
  rw [← u_eq b h s]
  exact back_finite (dquery_finite (q_finite b h s) (o_finite b h s) (kv_finite b h)) (fun _ _ => h.h4 _) k

end Finite

/-! ## Sums over a sequence, tile by tile -/

theorem sum_tiles (f : Fin 2048 → EReal) : ∑ s, f s = ∑ v : Fin 4, ∑ r : Fin 512, f (pos v r) := by
  rw [← Equiv.sum_comp (finProdFinEquiv : Fin 4 × Fin 512 ≃ Fin 2048) f, Fintype.sum_prod_type]
  exact Finset.sum_congr rfl fun v _ => Finset.sum_congr rfl fun r _ => congrArg f (Fin.ext (show r.val + 512 * v.val = v.val * 512 + r.val by omega))

theorem pay4_apply (j : Fin 256) (l : Fin 2048) : k0_pay4 (F := Ideal) (ix2 j l) = 0 := by pointwise [k0_pay4]
theorem pay3_apply (l : Fin 1024) : k0_pay3 (F := Ideal) (ix2 0 l) = 0 := by pointwise [k0_pay3]

section Values
variable {m c} (h : Args m c)
include h

/-- One entry of the gradient of the block's input. -/
theorem dx_entry (k : Fin 1024) : dxOf (iblk m c 0 (at4 b v)) (iblk m c 1 (at4 b v)) (iblk m c 2 (at4 b v)) (iblk m c 3 (at4 b v))
      (iblk m c 4 (at4 b v)) (wqAt m c) (woAt m c) (ix2 r k)
    = val_main_v126 (F := Ideal) (a0 m c) (a1 m c) (a2 m c) (a3 m c) (a4 m c) (a5 m c) (a6 m c) (a7 m c) (ix3 b (pos v r) k) := by
  rw [dxOf_row, row_o, row2, rows3, row1, row4, wq_row, u_eq b h, Cert.Reference2Ideal.Attn.v126_apply,
    norms (fun _ => h.h0 _) (fun _ => h.h2 _) (u_finite b h (pos v r))]
  exact congrArg (· + _) (congrFun (row0 m c b v r) k)

/-- One entry of the gradient of the queries. -/
theorem dq_entry (k : Fin 1024) : dqOf (iblk m c 0 (at4 b v)) (iblk m c 2 (at4 b v)) (iblk m c 3 (at4 b v)) (woAt m c) (ix2 r k)
    = val_main_v103 (F := Ideal) (a0 m c) (a1 m c) (a2 m c) (a3 m c) (a4 m c) (a5 m c) (a6 m c) (a7 m c) (ix3 b (pos v r) k) := by
  rw [Cert.Reference2Ideal.Attn.v103_apply, dquery_eq (q_finite b h (pos v r)) (o_finite b h (pos v r)) (kv_finite b h)]
  refine (congrFun (dqOf_row _ _ _ _ r) k).trans ?_
  rw [row_o, row2, rows3]

/-- What one tile adds to the gradients of the keys and values. -/
theorem dkv_step (a : Vec Ideal S256x2048 .f32) (j : Fin 256) (l : Fin 2048) : dkvStep m c (at4 b v) a (ix2 j l)
    = a (ix2 j l) + ∑ r : Fin 512, plainBoth (qs (a0 m c) (a2 m c) (a4 m c) b (pos v r)) (os (a6 m c) (a7 m c) b (pos v r))
        (kvs (a1 m c) (a3 m c) (a5 m c) b) j l := by
  unfold dkvStep
  rw [dkvOf_apply]
  refine congrArg (_ + ·) (Finset.sum_congr rfl fun r _ => ?_)
  rw [row_o, row2, rows3, both_eq (q_finite b h (pos v r)) (o_finite b h (pos v r)) (kv_finite b h)]

/-- The sum over a sequence's four tiles. -/
theorem dkvEnd_apply (j : Fin 256) (l : Fin 2048) : dkvEnd m c b (ix2 j l)
    = val_main_v102 (F := Ideal) (a0 m c) (a1 m c) (a2 m c) (a3 m c) (a4 m c) (a5 m c) (a6 m c) (a7 m c) (ix3 b j l) := by
  have e0 : dkvAt m c (b.val * 4) (lt_N (by omega)) = dkvStep m c (at4 b 0) (k0_pay4 (F := Ideal)) := dkvAt_fresh m c (at4 b 0) (by show (b.val * 4 + 0) % 4 = 0; omega)
  have e1 : dkvAt m c (b.val * 4 + 1) (lt_N (by omega)) = dkvStep m c (at4 b 1) (dkvAt m c (b.val * 4) (lt_N (by omega))) :=
    dkvAt_later m c (at4 b 1) (by show (b.val * 4 + 1) % 4 ≠ 0; omega)
  have e2 : dkvAt m c (b.val * 4 + 2) (lt_N (by omega)) = dkvStep m c (at4 b 2) (dkvAt m c (b.val * 4 + 1) (lt_N (by omega))) :=
    dkvAt_later m c (at4 b 2) (by show (b.val * 4 + 2) % 4 ≠ 0; omega)
  have e3 : dkvAt m c (b.val * 4 + 3) (lt_N (by omega)) = dkvStep m c (at4 b 3) (dkvAt m c (b.val * 4 + 2) (lt_N (by omega))) :=
    dkvAt_later m c (at4 b 3) (by show (b.val * 4 + 3) % 4 ≠ 0; omega)
  unfold dkvEnd
  rw [e3, dkv_step b 3 h, e2, dkv_step b 2 h, e1, dkv_step b 1 h, e0, dkv_step b 0 h, pay4_apply, zero_add,
    Cert.Reference2Ideal.Attn.v102_apply, sum_tiles, Fin.sum_univ_four]

/-- What one tile adds to the gradient of the norm's weight. -/
theorem dg_step (a : Vec Ideal S1x1024 .f32) (l : Fin 1024) : dgStep m c (at4 b v) a (ix2 0 l)
    = a (ix2 0 l) + ∑ r : Fin 512, a0 m c (ix3 b (pos v r) l) * Cert.AttnRows.inv (row3 (a0 m c) b (pos v r))
        * us (a0 m c) (a1 m c) (a2 m c) (a3 m c) (a4 m c) (a5 m c) (a6 m c) (a7 m c) b (pos v r) l := by
  unfold dgStep
  rw [dgOf_apply]
  refine congrArg (_ + ·) (Finset.sum_congr rfl fun r _ => ?_)
  rw [row_o, row2, rows3, wq_row, u_eq b h, row1, show (iblk m c 1 (at4 b v) : Vec Ideal S512x1024 .f32) (ix2 r l) = _ from congrFun (row1 m c b v r) l]
  exact mul_comm _ _

/-- The sum over all eight tiles. -/
theorem dgAt_apply (l : Fin 1024) : dgAt m c 7 (lt_N (by decide)) (ix2 0 l)
    = val_main_v125 (F := Ideal) (a0 m c) (a1 m c) (a2 m c) (a3 m c) (a4 m c) (a5 m c) (a6 m c) (a7 m c) (ix2 0 l) := by
  have e0 : dgAt m c 0 (lt_N (by decide)) = dgStep m c (at4 0 0) (k0_pay3 (F := Ideal)) := dgAt_zero m c (at4 0 0) rfl
  have e1 : dgAt m c 1 (lt_N (by decide)) = dgStep m c (at4 0 1) (dgAt m c 0 (lt_N (by decide))) := dgAt_pos m c (at4 0 1) (Nat.succ_ne_zero _)
  have e2 : dgAt m c 2 (lt_N (by decide)) = dgStep m c (at4 0 2) (dgAt m c 1 (lt_N (by decide))) := dgAt_pos m c (at4 0 2) (Nat.succ_ne_zero _)
  have e3 : dgAt m c 3 (lt_N (by decide)) = dgStep m c (at4 0 3) (dgAt m c 2 (lt_N (by decide))) := dgAt_pos m c (at4 0 3) (Nat.succ_ne_zero _)
  have e4 : dgAt m c 4 (lt_N (by decide)) = dgStep m c (at4 1 0) (dgAt m c 3 (lt_N (by decide))) := dgAt_pos m c (at4 1 0) (Nat.succ_ne_zero _)
  have e5 : dgAt m c 5 (lt_N (by decide)) = dgStep m c (at4 1 1) (dgAt m c 4 (lt_N (by decide))) := dgAt_pos m c (at4 1 1) (Nat.succ_ne_zero _)
  have e6 : dgAt m c 6 (lt_N (by decide)) = dgStep m c (at4 1 2) (dgAt m c 5 (lt_N (by decide))) := dgAt_pos m c (at4 1 2) (Nat.succ_ne_zero _)
  have e7 : dgAt m c 7 (lt_N (by decide)) = dgStep m c (at4 1 3) (dgAt m c 6 (lt_N (by decide))) := dgAt_pos m c (at4 1 3) (Nat.succ_ne_zero _)
  rw [e7, dg_step 1 3 h, e6, dg_step 1 2 h, e5, dg_step 1 1 h, e4, dg_step 1 0 h, e3, dg_step 0 3 h, e2, dg_step 0 2 h, e1, dg_step 0 1 h,
    e0, dg_step 0 0 h, pay3_apply,
    zero_add, Cert.Reference2Ideal.Attn.v125_apply, Fin.sum_univ_two, sum_tiles, sum_tiles, Fin.sum_univ_four, Fin.sum_univ_four]
  simp only [add_assoc]

/-! ## The five results -/

end Values

/-- A tiled array that agrees with a flattened one entry by entry. -/
theorem tiled_eq (f : Fin cfg0.N → S512x1024.Idx → EReal) (g : S2x2048x1024.Idx → EReal)
    (e : ∀ b v r k, f (at4 b v) (ix2 r k) = g (ix3 b (pos v r) k)) : tiled f = shapeCast S4096x1024 g shapeCasts_S2x2048x1024_S4096x1024 := by
  funext i
  obtain ⟨R, k, rfl⟩ : ∃ (R : Fin 4096) (k : Fin 1024), i = ix2 R k := ⟨_, _, eq_ix2 i⟩
  refine (tiled_at f (at4 ⟨R.val / 2048, by omega⟩ ⟨R.val / 512 % 4, by omega⟩) (ix2 ⟨R.val % 512, by omega⟩ k) _ ?_ rfl).trans ((e _ _ _ _).trans (flatten_apply _ _ _ _ _ _ ?_).symm)
  · show R.val = (R.val / 2048 * 4 + R.val / 512 % 4) * 512 + R.val % 512
    omega
  · show R.val = R.val / 2048 * 2048 + (R.val / 512 % 4 * 512 + R.val % 512)
    omega

/-- The gradient of the block's input, all of it. -/
theorem dx_all (h : Args m c) : tiled (fun t => dxOf (iblk m c 0 t) (iblk m c 1 t) (iblk m c 2 t) (iblk m c 3 t) (iblk m c 4 t) (wqAt m c) (woAt m c))
    = shapeCast S4096x1024 (val_main_v126 (F := Ideal) (a0 m c) (a1 m c) (a2 m c) (a3 m c) (a4 m c) (a5 m c) (a6 m c) (a7 m c) : S2x2048x1024.Idx → EReal)
        shapeCasts_S2x2048x1024_S4096x1024 :=
  tiled_eq _ _ fun b v r k => dx_entry b v r h k

/-- The gradient of the queries, all of it. -/
theorem dq_all (h : Args m c) : tiled (fun t => dqOf (iblk m c 0 t) (iblk m c 2 t) (iblk m c 3 t) (woAt m c))
    = shapeCast S4096x1024 (val_main_v103 (F := Ideal) (a0 m c) (a1 m c) (a2 m c) (a3 m c) (a4 m c) (a5 m c) (a6 m c) (a7 m c) : S2x2048x1024.Idx → EReal)
        shapeCasts_S2x2048x1024_S4096x1024 :=
  tiled_eq _ _ fun b v r k => dq_entry b v r h k

/-- The gradients of the keys and values, all of them. -/
theorem dkv_all (h : Args m c) : (fun i : S512x2048.Idx => dkvEnd m c ⟨(i 0).val / 256, by have : (i 0).val < 512 := (i 0).isLt; omega⟩
      (ix2 ⟨(i 0).val % 256, Nat.mod_lt _ (by decide)⟩ ⟨(i 1).val, (i 1).isLt⟩))
    = shapeCast S512x2048 (val_main_v102 (F := Ideal) (a0 m c) (a1 m c) (a2 m c) (a3 m c) (a4 m c) (a5 m c) (a6 m c) (a7 m c) : S2x256x2048.Idx → EReal)
        shapeCasts_S2x256x2048_S512x2048 := by
  funext i
  obtain ⟨R, l, rfl⟩ : ∃ (R : Fin 512) (l : Fin 2048), i = ix2 R l := ⟨_, _, eq_ix2 i⟩
  refine (dkvEnd_apply ⟨R.val / 256, by omega⟩ h ⟨R.val % 256, by omega⟩ l).trans (flatten_apply _ _ _ _ _ _ ?_).symm
  show R.val = R.val / 256 * 256 + R.val % 256
  omega

/-- The gradient of the norm's weight, all of it. -/
theorem dg_all (h : Args m c) : dgAt m c 7 (lt_N (by decide))
    = val_main_v125 (F := Ideal) (a0 m c) (a1 m c) (a2 m c) (a3 m c) (a4 m c) (a5 m c) (a6 m c) (a7 m c) := by
  funext i
  obtain ⟨i0, l, rfl⟩ : ∃ (i0 : Fin 1) (l : Fin 1024), i = ix2 i0 l := ⟨_, _, eq_ix2 i⟩
  obtain rfl : i0 = 0 := Subsingleton.elim _ _
  exact dgAt_apply h l

set_option maxHeartbeats 1000000 in
/-- The kernel's run: all five results, the arguments untouched. -/
theorem run_value (hm : Cert.Pre_Kernel2Ideal_finite2 m) (ρ : Dev nD → PrngReg) :
    θ_run defs (onTc (τ := τ) (main (F := Ideal))) ⟨m, fun _ => 0, ρ⟩ (fun r => ∀ c : Dev nD,
    r.2.mem ((c : Thread nD τ).loc main_v50_0) = val_main_v127 (F := Ideal) (a0 m c) (a1 m c) (a2 m c) (a3 m c) (a4 m c) (a5 m c) (a6 m c) (a7 m c)
    ∧ r.2.mem ((c : Thread nD τ).loc main_v50_1) = val_main_v128 (F := Ideal) (a0 m c) (a1 m c) (a2 m c) (a3 m c) (a4 m c) (a5 m c) (a6 m c) (a7 m c)
    ∧ r.2.mem ((c : Thread nD τ).loc main_v50_2) = val_main_v130 (F := Ideal) (a0 m c) (a1 m c) (a2 m c) (a3 m c) (a4 m c) (a5 m c) (a6 m c) (a7 m c)
    ∧ r.2.mem ((c : Thread nD τ).loc main_v50_3) = val_main_v131 (F := Ideal) (a0 m c) (a1 m c) (a2 m c) (a3 m c) (a4 m c) (a5 m c) (a6 m c) (a7 m c)
    ∧ r.2.mem ((c : Thread nD τ).loc main_v50_4) = val_main_v125 (F := Ideal) (a0 m c) (a1 m c) (a2 m c) (a3 m c) (a4 m c) (a5 m c) (a6 m c) (a7 m c)
    ∧ Kept m r c) := by
  refine (θ_run _ _ _).mono (fun r hr c => ⟨?_, ?_, ?_, ?_, ?_, kept m r hr.1 c⟩) (run_main m ρ)
  · exact ((hr.1 c).1 6).trans ((result0 m c).trans (dx_all m c (args m c hm)))
  · exact ((hr.1 c).1 7).trans ((result1 m c).trans (dx_all m c (args m c hm)))
  · exact ((hr.1 c).1 8).trans ((result2 m c).trans (dq_all m c (args m c hm)))
  · exact ((hr.1 c).1 9).trans ((result3 m c).trans (dkv_all m c (args m c hm)))
  · exact ((hr.1 c).1 10).trans ((result4 m c).trans (dg_all m c (args m c hm)))

end Cert.Kernel2Ideal.Attn
-- ==== Proof.Tiles.lean ====
/-
  Rectangular parts of a two-axis array: what a load of one brings, and what a buffer holds after stores that tile it.
-/
module

public import Idealize.ShloMosaic.Lib.ValueLayout
public import Idealize.ShloMosaic.Lib.Writes
public import Idealize.ShloMosaic.Lib.Pipeline.Value

@[expose] public section

namespace Cert.Tiles

open Idealize.ShloMosaic Idealize.ShloMosaic.ValueIdx

/-- The part of `h` rows and `w` columns whose first entry is at row `r`, column `o`. -/
def part {α : Type} {R C h w : ℕ} (r o : ℕ) (hr : r + h ≤ R) (ho : o + w ≤ C) (a : (⟨2, ![R, C]⟩ : Shape).Idx → α) :
    (⟨2, ![h, w]⟩ : Shape).Idx → α := fun y =>
  a (ix2 (⟨r + (y (0 : Fin 2)).val, lt_of_lt_of_le (Nat.add_lt_add_left (y (0 : Fin 2)).isLt r) hr⟩ : Fin R)
    (⟨o + (y (1 : Fin 2)).val, lt_of_lt_of_le (Nat.add_lt_add_left (y (1 : Fin 2)).isLt o) ho⟩ : Fin C))

/-- A load of a part of a buffer brings that part. -/
theorem readAt_part {sig : RefSig} {κ : Kind} {sp : Space} {e : EltTy} {Val : EltTy → Type} {R C h w : ℕ} (v : View sig κ sp (⟨2, ![R, C]⟩ : Shape) e)
    (f : v.ty.Contents Val) (x : (⟨2, ![R, C]⟩ : Shape).Idx → Val e) (hf : v.read Val f = x) (r o : ℕ)
    (inb : ∀ a, (![r, o] : Fin 2 → ℕ) a + (![h, w] : Fin 2 → ℕ) a ≤ (⟨2, ![R, C]⟩ : Shape).size a) :
    v.readAt Val (Rect.unit (s := ⟨2, ![R, C]⟩) ![r, o] ![h, w] inb).toLoadRect f = part (h := h) (w := w) r o (inb 0) (inb 1) x := funext fun y => by
  show v.read Val f ((Rect.unit (s := ⟨2, ![R, C]⟩) ![r, o] ![h, w] inb).emb y) = _
  rw [hf]
  refine congrArg x (funext fun a => Fin.ext ?_)
  match a with
  | ⟨0, _⟩ => show r + 1 * (y (0 : Fin 2)).val = r + (y (0 : Fin 2)).val; omega
  | ⟨1, _⟩ => show o + 1 * (y (1 : Fin 2)).val = o + (y (1 : Fin 2)).val; omega

/-- The array tiled by the parts `b i j`, each of `h` rows and `w` columns. -/
def tiles {α : Type} {R C h w : ℕ} (hh : 0 < h) (hw : 0 < w) (b : ℕ → ℕ → (⟨2, ![h, w]⟩ : Shape).Idx → α) : (⟨2, ![R, C]⟩ : Shape).Idx → α := fun y =>
  b ((y (0 : Fin 2)).val / h) ((y (1 : Fin 2)).val / w)
    (ix2 (⟨(y (0 : Fin 2)).val % h, Nat.mod_lt _ hh⟩ : Fin h) (⟨(y (1 : Fin 2)).val % w, Nat.mod_lt _ hw⟩ : Fin w))

/-- One store of a tile. -/
def IsTile {Val : EltTy → Type} {e : EltTy} {R C h w : ℕ} (b : ℕ → ℕ → (⟨2, ![h, w]⟩ : Shape).Idx → Val e) (i j : ℕ)
    (p : View.Piece Val (⟨2, ![R, C]⟩ : Shape) e) : Prop :=
  ∃ inb, p = ⟨Rect.unit (s := ⟨2, ![R, C]⟩) ![i * h, j * w] ![h, w] inb, b i j⟩

theorem div_tile (i h x : ℕ) (hx : x < h) : (i * h + 1 * x) / h = i := by
  rw [Nat.one_mul, Nat.mul_comm, Nat.mul_add_div (by omega), Nat.div_eq_of_lt hx]; rfl
theorem mod_tile (i h x : ℕ) (hx : x < h) : (i * h + 1 * x) % h = x := by
  rw [Nat.one_mul, Nat.mul_comm, Nat.mul_add_mod, Nat.mod_eq_of_lt hx]

/-- After stores that tile the buffer it holds the tiles, whatever it held before. -/
theorem read_tiles {sig : RefSig} {κ : Kind} {sp : Space} {e : EltTy} {Val : EltTy → Type} {R C h w : ℕ} (hh : 0 < h) (hw : 0 < w)
    (v : View sig κ sp (⟨2, ![R, C]⟩ : Shape) e) (f : v.ty.Contents Val) (b : ℕ → ℕ → (⟨2, ![h, w]⟩ : Shape).Idx → Val e)
    (L : List (View.Piece Val (⟨2, ![R, C]⟩ : Shape) e)) (hL : ∀ p ∈ L, ∃ i j, IsTile b i j p)
    (hc : ∀ i j, i * h < R → j * w < C → ∃ p ∈ L, IsTile b i j p) :
    v.read Val (v.writes Val f L) = tiles hh hw b := by
  refine funext fun y => View.read_writes_apply_of_pieces v f (tiles hh hw b) L (fun p hp x => ?_) y ?_
  · have key : ∀ (p : View.Piece Val (⟨2, ![R, C]⟩ : Shape) e) (i j : ℕ), IsTile b i j p → ∀ x, p.2 x = tiles hh hw b (p.1.emb x) := by
      rintro _ i j ⟨inb, rfl⟩ x
      have h0 : (x (0 : Fin 2)).val < h := (x (0 : Fin 2)).isLt
      have h1 : (x (1 : Fin 2)).val < w := (x (1 : Fin 2)).isLt
      have e0 := div_tile i h _ h0
      have e1 := div_tile j w _ h1
      have e2 := mod_tile i h _ h0
      have e3 := mod_tile j w _ h1
      show b i j x = b ((i * h + 1 * (x (0 : Fin 2)).val) / h) ((j * w + 1 * (x (1 : Fin 2)).val) / w) _
      rw [e0, e1]
      refine congrArg (b i j) (funext fun a => Fin.ext ?_)
      match a with
      | ⟨0, _⟩ => exact e2.symm
      | ⟨1, _⟩ => exact e3.symm
    obtain ⟨i, j, h⟩ := hL p hp
    exact key p i j h x
  · have h0 : (y (0 : Fin 2)).val < R := (y (0 : Fin 2)).isLt
    have h1 : (y (1 : Fin 2)).val < C := (y (1 : Fin 2)).isLt
    have d0 := Nat.div_add_mod (y (0 : Fin 2)).val h
    have d1 := Nat.div_add_mod (y (1 : Fin 2)).val w
    have m0 := Nat.mod_lt (y (0 : Fin 2)).val hh
    have m1 := Nat.mod_lt (y (1 : Fin 2)).val hw
    rw [Nat.mul_comm] at d0 d1
    obtain ⟨p, hp, inb, rfl⟩ := hc ((y (0 : Fin 2)).val / h) ((y (1 : Fin 2)).val / w) (by omega) (by omega)
    refine ⟨_, hp, ?_⟩
    rw [Rect.mem_set_unit]
    intro a
    match a with
    | ⟨0, _⟩ =>
      show (y (0 : Fin 2)).val / h * h ≤ (y (0 : Fin 2)).val ∧ (y (0 : Fin 2)).val < (y (0 : Fin 2)).val / h * h + h
      omega
    | ⟨1, _⟩ =>
      show (y (1 : Fin 2)).val / w * w ≤ (y (1 : Fin 2)).val ∧ (y (1 : Fin 2)).val < (y (1 : Fin 2)).val / w * w + w
      omega

/-- Two stores of half the columns each. -/
theorem two_halves {sig : RefSig} {Val : EltTy → Type} {κ : Kind} {sp : Space} {e : EltTy} {R : ℕ} (hR : 0 < R) (v : View sig κ sp (⟨2, ![R, 5632]⟩ : Shape) e) (f : v.ty.Contents Val)
    (b : ℕ → ℕ → (⟨2, ![R, 2816]⟩ : Shape).Idx → Val e) (h0 h1) :
    v.read Val (v.writes Val f [⟨Rect.unit ![0, 2816] ![R, 2816] h1, b 0 1⟩, ⟨Rect.unit ![0, 0] ![R, 2816] h0, b 0 0⟩])
      = tiles hR (by decide) b := by
  have e0 : (0 : ℕ) * R = 0 := Nat.zero_mul R
  have t0 : IsTile (e := e) (Val := Val) (R := R) (C := 5632) b 0 0 ⟨Rect.unit ![0, 0] ![R, 2816] h0, b 0 0⟩ := by
    unfold IsTile; rw [e0]; exact ⟨_, rfl⟩
  have t1 : IsTile (e := e) (Val := Val) (R := R) (C := 5632) b 0 1 ⟨Rect.unit ![0, 2816] ![R, 2816] h1, b 0 1⟩ := by
    unfold IsTile; rw [e0]; exact ⟨_, rfl⟩
  refine read_tiles hR (by decide) v f b _ (fun p hp => ?_) fun i j hi hj => ?_
  · simp only [List.mem_cons, List.not_mem_nil, _root_.or_false] at hp
    rcases hp with rfl | rfl
    · exact ⟨0, 1, t1⟩
    · exact ⟨0, 0, t0⟩
  · have hi0 : i = 0 := by
      rcases Nat.eq_zero_or_pos i with h | h
      · exact h
      · exact absurd (Nat.le_mul_of_pos_left R h) (Nat.not_le.mpr hi)
    subst hi0
    rcases (by omega : j = 0 ∨ j = 1) with rfl | rfl
    · exact ⟨_, List.mem_cons_of_mem _ List.mem_cons_self, t0⟩
    · exact ⟨_, List.mem_cons_self, t1⟩

/-- The left (`o = 0`) or the right (`o = 2816`) half of the columns of row `r` and the following ones. -/
abbrev half {α : Type} {R h : ℕ} (r o : ℕ) (hr : r + h ≤ R) (ho : o + 2816 ≤ 5632) (a : (⟨2, ![R, 5632]⟩ : Shape).Idx → α) :
    (⟨2, ![h, 2816]⟩ : Shape).Idx → α := part r o hr ho a

/-! ## Sums over grid points -/

/-- The grid point before. -/
def prev {N : ℕ} (t : Fin N) : Fin N := ⟨t.val - 1, Nat.lt_of_le_of_lt (Nat.sub_le _ _) t.isLt⟩

/-- A sum after each grid point: a start, then one step after the other. -/
def sumAt {α : Type} {N : ℕ} (step : Fin N → α → α) (z : α) : (n : ℕ) → n < N → α
  | 0, h => step ⟨0, h⟩ z
  | n + 1, h => step ⟨n + 1, h⟩ (sumAt step z n (Nat.lt_of_succ_lt h))

theorem sumAt_zero {α : Type} {N : ℕ} (step : Fin N → α → α) (z : α) (t : Fin N) (h : t.val = 0) : sumAt step z t.val t.isLt = step t z := by
  obtain ⟨n, hn⟩ := t; cases n with | zero => rfl | succ n => exact absurd h (Nat.succ_ne_zero n)

theorem sumAt_pos {α : Type} {N : ℕ} (step : Fin N → α → α) (z : α) (t : Fin N) (h : t.val ≠ 0) :
    sumAt step z t.val t.isLt = step t (sumAt step z (prev t).val (prev t).isLt) := by
  obtain ⟨n, hn⟩ := t; cases n with | zero => exact absurd rfl h | succ n => rfl

end Cert.Tiles
-- ==== Proof.FfnBody.lean ====
/-
  The call that differentiates the gated convolution block: its body at the first grid point (where it loads its two
  weights and clears the sums and the carried rows), at the first grid point of the other sequence, and at any other one.
-/
module

public import proofs.«01_k».proof.Proof.Gathered
public import proofs.«01_k».proof.Proof.Tiles
public import proofs.«01_k».proof.Proof.Gen.Kernel3Ideal.Frame
public import proofs.«01_k».proof.Proof.Gen.Kernel3Ideal.Skeleton
public import Idealize.ShloMosaic.Lib.ValueLayout
public import Idealize.ShloMosaic.Lib.Writes
public import Idealize.ShloMosaic.Lib.Batch
public import Idealize.ShloMosaic.Lib.VecWindow

@[expose] public section

set_option maxRecDepth 16384

noncomputable section

namespace Cert.Kernel3Ideal.Ffn

open Cert.Kernel3Ideal Cert.Kernel3Ideal.Gen Cert.Gathered Cert.Tiles
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's first test: the grid coordinate is zero. -/
abbrev first (i : grid0.Coords) : Prop :=
  Scalar.cmpi .ne (Scalar.extui (Scalar.cmpi .eq (BitVec.ofNat 32 (i 0).val) 0#32) : BitVec 32) 0#32 = 1#1

/-- The tile modulo the number of tiles of a sequence, as the body computes it: the tiles are taken from the last to the first. -/
abbrev tile (i : grid0.Coords) : BitVec 32 :=
  Scalar.remsi (Scalar.subi 15#32 (BitVec.ofNat 32 (i 0).val)) (Scalar.select (Scalar.cmpi .eq 8#32 0#32) 1#32 8#32)

/-- The body's other test: the tile is the last of a sequence. -/
abbrev fresh (i : grid0.Coords) : Prop :=
  Scalar.cmpi .ne (Scalar.extui (Scalar.cmpi .eq (Scalar.select
    (Scalar.andi (Scalar.xori (Scalar.cmpi .slt (tile i) 0#32) (Scalar.cmpi .slt (Scalar.select (Scalar.cmpi .eq 8#32 0#32) 1#32 8#32) 0#32))
      (Scalar.cmpi .ne (tile i) 0#32))
    (Scalar.addi (tile i) (Scalar.select (Scalar.cmpi .eq 8#32 0#32) 1#32 8#32)) (tile i)) 7#32) : BitVec 32) 0#32 = 1#1

/-- The gathered weights, the scratch buffers of the two projections, and the carried rows. -/
abbrev hbM : Memref sig .tc .hbm S8x1056x1024 .bf16 := Memref.whole main_v6
abbrev uM : Memref sig .tc .vmem S5632x1024 .bf16 := Memref.whole cc0_scratch0
abbrev dM : Memref sig .tc .vmem S2816x1024 .bf16 := Memref.whole cc0_scratch1
abbrev kM : Memref sig .tc .vmem S8x5632 .f32 := Memref.whole cc0_scratch2

/-- The up and the down projection, as the gathered array holds them: device `d`'s 704 rows of the one start at row 0, its 352
    rows of the other at row 704 of its slice. -/
def wuOf (g : Vec F S8x1056x1024 .bf16) : Vec F S5632x1024 .bf16 := stack 5632 704 0 rfl (by decide) g
def wdOf (g : Vec F S8x1056x1024 .bf16) : Vec F S2816x1024 .bf16 := stack 2816 352 704 rfl (by decide) g

/-! ## What one grid point computes -/

section Step

variable (x1 x2 : Vec F S256x1024 .f32) (x3 x4 : Vec F S256x5632 .bf16) (x5 : Vec F S1x1024 .f32) (x7 : Vec F S3x5632 .f32)
  (wu : Vec F S5632x1024 .bf16) (wd : Vec F S2816x1024 .bf16) (k : Vec F S8x5632 .f32)
  (a : Vec F S1x5632 .f32) (b : Vec F S3x5632 .f32) (e : Vec F S1x1024 .f32)

/-- The zero the body subtracts from. -/
abbrev zero : F .f32 := Scalar.ofBits .f32 0x00000000#32

/-- The cotangent of the product of the two halves, and the two halves themselves. -/
def da : FVec F S256x2816 .f32 := k0_pay12 x1 wd
def gate : FVec F S256x2816 .f32 := k0_pay13 (half (R := 256) (h := 256) 0 0 (by decide) (by decide) x4)
def value : FVec F S256x2816 .f32 := k0_pay14 (half (R := 256) (h := 256) 0 2816 (by decide) (by decide) x4)
/-- The cotangents of the two halves. -/
def dgate : FVec F S256x2816 .f32 := k0_pay16 (da x1 wd) (gate x4) (value x4) zero
def dvalue : FVec F S256x2816 .f32 := k0_pay17 (da x1 wd) (gate x4) zero
/-- The two halves of the convolution's input. -/
def uleft : FVec F S256x2816 .f32 := k0_pay18 (half (R := 256) (h := 256) 0 0 (by decide) (by decide) x3)
def uright : FVec F S256x2816 .f32 := k0_pay30 (half (R := 256) (h := 256) 0 2816 (by decide) (by decide) x3)
/-- The cotangents one and two rows further on. -/
def gate1 : FVec F S256x2816 .f32 := k0_pay22 (da x1 wd) (gate x4) (value x4) zero (half (R := 8) (h := 8) 0 0 (by decide) (by decide) k)
def gate2 : FVec F S256x2816 .f32 := k0_pay23 (da x1 wd) (gate x4) (value x4) zero (half (R := 8) (h := 8) 0 0 (by decide) (by decide) k)
def value1 : FVec F S256x2816 .f32 := k0_pay34 (dvalue x1 x4 wd) (half (R := 8) (h := 8) 0 2816 (by decide) (by decide) k)
def value2 : FVec F S256x2816 .f32 := k0_pay35 (dvalue x1 x4 wd) (half (R := 8) (h := 8) 0 2816 (by decide) (by decide) k)
/-- The cotangents of the two halves of the convolution's input. -/
def duleft : FVec F S256x2816 .bf16 :=
  k0_pay28 (dgate x1 x4 wd) (gate1 x1 x4 wd k) (gate2 x1 x4 wd k) (k0_pay24 (half (R := 3) (h := 1) 2 0 (by decide) (by decide) x7))
    (half (R := 3) (h := 1) 1 0 (by decide) (by decide) x7) (half (R := 3) (h := 1) 0 0 (by decide) (by decide) x7)
def dusum : FVec F S256x2816 .f32 :=
  k0_pay36 (dvalue x1 x4 wd) (half (R := 8) (h := 8) 0 2816 (by decide) (by decide) k) (half (R := 3) (h := 1) 2 2816 (by decide) (by decide) x7)
    (half (R := 3) (h := 1) 1 2816 (by decide) (by decide) x7) (half (R := 3) (h := 1) 0 2816 (by decide) (by decide) x7)
/-- The cotangent of the normalised input. -/
def dhOf : FVec F S256x1024 .f32 :=
  k0_pay41 (k0_pay29 k0_pay11 (duleft x1 x4 x7 wd k) (part (h := 2816) (w := 1024) 0 0 (by decide) (by decide) wu)) (dusum x1 x4 x7 wd k)
    (part (h := 2816) (w := 1024) 2816 0 (by decide) (by decide) wu)

/-- The cotangent of the input, and its rounding. -/
def dxOf : FVec F S256x1024 .f32 := k0_pay4 (k0_pay10 x1) (dhOf x1 x4 x7 wu wd k) (k0_pay42 x2) (k0_pay43 x2) x5
def dxbOf : FVec F S256x1024 .bf16 := k0_pay5 (k0_pay10 x1) (dhOf x1 x4 x7 wu wd k) (k0_pay42 x2) (k0_pay43 x2) x5
/-- The cotangent of the convolution's input. -/
def duBlocks : ℕ → ℕ → Vec F S256x2816 .bf16 := fun _ j => if j = 0 then duleft x1 x4 x7 wd k else k0_pay40 (dusum x1 x4 x7 wd k)
def duOf : Vec F S256x5632 .bf16 := tiles (by decide) (by decide) (duBlocks x1 x4 x7 wd k)
/-- The bias's sum after this block. -/
def dfbBlocks : ℕ → ℕ → Vec F S1x2816 .f32 := fun _ j =>
  if j = 0 then k0_pay19 (da x1 wd) (gate x4) (value x4) zero (half (R := 1) (h := 1) 0 0 (by decide) (by decide) a)
  else k0_pay31 (dvalue x1 x4 wd) (half (R := 1) (h := 1) 0 2816 (by decide) (by decide) a)
def dfbOf : Vec F S1x5632 .f32 := tiles (by decide) (by decide) (dfbBlocks x1 x4 wd a)
/-- The taps' sums after this block. -/
def dfwBlocks : ℕ → ℕ → Vec F S1x2816 .f32 := fun i j =>
  if j = 0 then
    (if i = 0 then k0_pay27 (uleft x3) (gate2 x1 x4 wd k) (half (R := 3) (h := 1) 0 0 (by decide) (by decide) b)
    else if i = 1 then k0_pay26 (uleft x3) (gate1 x1 x4 wd k) (half (R := 3) (h := 1) 1 0 (by decide) (by decide) b)
    else k0_pay25 (dgate x1 x4 wd) (uleft x3) (half (R := 3) (h := 1) 2 0 (by decide) (by decide) b))
  else
    (if i = 0 then k0_pay39 (uright x3) (value2 x1 x4 wd k) (half (R := 3) (h := 1) 0 2816 (by decide) (by decide) b)
    else if i = 1 then k0_pay38 (uright x3) (value1 x1 x4 wd k) (half (R := 3) (h := 1) 1 2816 (by decide) (by decide) b)
    else k0_pay37 (dvalue x1 x4 wd) (uright x3) (half (R := 3) (h := 1) 2 2816 (by decide) (by decide) b))
def dfwOf : Vec F S3x5632 .f32 := tiles (by decide) (by decide) (dfwBlocks x1 x3 x4 wd k b)
/-- The norm weight's sum after this block. -/
def dgOf : FVec F S1x1024 .f32 := k0_pay3 (dhOf x1 x4 x7 wu wd k) (k0_pay42 x2) (k0_pay43 x2) e
/-- The rows this block carries to the tile before it. -/
def carryBlocks : ℕ → ℕ → Vec F S8x2816 .f32 := fun _ j =>
  if j = 0 then k0_pay21 (da x1 wd) (gate x4) (value x4) zero else k0_pay33 (dvalue x1 x4 wd)
def carryOf : Vec F S8x5632 .f32 := tiles (by decide) (by decide) (carryBlocks x1 x4 wd)

end Step

/-- The six stores of a tap's half each. -/
theorem six_taps {κ : Kind} {sp : Space} {e : EltTy} (v : View sig κ sp S3x5632 e) (f : v.ty.Contents (Elt F))
    (b : ℕ → ℕ → S1x2816.Idx → Elt F e) (h00 h10 h20 h01 h11 h21) :
    v.read (Elt F) (v.writes (Elt F) f [⟨Rect.unit ![0, 2816] S1x2816.size h01, b 0 1⟩, ⟨Rect.unit ![1, 2816] S1x2816.size h11, b 1 1⟩,
      ⟨Rect.unit ![2, 2816] S1x2816.size h21, b 2 1⟩, ⟨Rect.unit ![0, 0] S1x2816.size h00, b 0 0⟩,
      ⟨Rect.unit ![1, 0] S1x2816.size h10, b 1 0⟩, ⟨Rect.unit ![2, 0] S1x2816.size h20, b 2 0⟩])
      = tiles (by decide) (by decide) b := by
  refine read_tiles (by decide) (by decide) v f b _ (fun p hp => ?_) fun i j hi hj => ?_
  · simp only [List.mem_cons, List.not_mem_nil, _root_.or_false] at hp
    rcases hp with rfl | rfl | rfl | rfl | rfl | rfl
    · exact ⟨0, 1, _, rfl⟩
    · exact ⟨1, 1, _, rfl⟩
    · exact ⟨2, 1, _, rfl⟩
    · exact ⟨0, 0, _, rfl⟩
    · exact ⟨1, 0, _, rfl⟩
    · exact ⟨2, 0, _, rfl⟩
  · simp only [List.exists_mem_cons_iff, List.not_mem_nil, _root_.false_and, exists_false, _root_.or_false]
    rcases (by omega : i = 0 ∨ i = 1 ∨ i = 2) with rfl | rfl | rfl <;> rcases (by omega : j = 0 ∨ j = 1) with rfl | rfl
    · exact .inr (.inr (.inr (.inl ⟨_, rfl⟩)))
    · exact .inl ⟨_, rfl⟩
    · exact .inr (.inr (.inr (.inr (.inl ⟨_, rfl⟩))))
    · exact .inr (.inl ⟨_, rfl⟩)
    · exact .inr (.inr (.inr (.inr (.inr ⟨_, rfl⟩))))
    · exact .inr (.inr (.inl ⟨_, rfl⟩))

section Run

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S256x5632 .bf16) (harg3 : arg3.IsWhole) (arg4 : Memref sig .tc .vmem S256x5632 .bf16) (harg4 : arg4.IsWhole)
  (arg5 : Memref sig .tc .vmem S1x1024 .f32) (harg5 : arg5.IsWhole) (arg7 : Memref sig .tc .vmem S3x5632 .f32) (harg7 : arg7.IsWhole)
  (arg8 : Memref sig .tc .vmem S256x1024 .f32) (harg8 : arg8.IsWhole) (arg9 : Memref sig .tc .vmem S256x1024 .bf16) (harg9 : arg9.IsWhole)
  (arg10 : Memref sig .tc .vmem S256x5632 .bf16) (harg10 : arg10.IsWhole) (arg11 : Memref sig .tc .vmem S1x5632 .f32) (harg11 : arg11.IsWhole)
  (arg12 : Memref sig .tc .vmem S3x5632 .f32) (harg12 : arg12.IsWhole) (arg13 : Memref sig .tc .vmem S1x1024 .f32) (harg13 : arg13.IsWhole)
  (x1 x2 : Vec F S256x1024 .f32) (x3 x4 : Vec F S256x5632 .bf16) (x5 : Vec F S1x1024 .f32) (x7 : Vec F S3x5632 .f32)

/-- The six blocks the body only reads. -/
abbrev Inputs : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg7 fullShare x7)

/-- The three blocks the body writes whole, at any contents. -/
abbrev Outputs : sProp 𝕄 :=
  iprop((∃ d, owns (c : Thread nD τ) arg8 fullShare d) ∗ (∃ d, owns (c : Thread nD τ) arg9 fullShare d) ∗ (∃ d, owns (c : Thread nD τ) arg10 fullShare d))

/-- The two weights. -/
abbrev Weights (wu : Vec F S5632x1024 .bf16) (wd : Vec F S2816x1024 .bf16) : sProp 𝕄 :=
  iprop(owns (c : Thread nD τ) uM fullShare wu ∗ owns (c : Thread nD τ) dM fullShare wd)

/-- The three sums. -/
abbrev Sums (a : Vec F S1x5632 .f32) (b : Vec F S3x5632 .f32) (e : Vec F S1x1024 .f32) : sProp 𝕄 :=
  iprop(owns (c : Thread nD τ) arg11 fullShare a ∗ owns (c : Thread nD τ) arg12 fullShare b ∗ owns (c : Thread nD τ) arg13 fullShare e)

/-- The body's first part: it prepares the sums, the carried rows and the weights, then reads the first values. -/
abbrev start := k0_part7 (F := F) i arg1 harg1 arg2 harg2 arg3 harg3 arg4 harg4 arg5 harg5 hbM (Memref.isWhole_whole _) arg7 harg7 arg8 harg8
  arg9 harg9 arg10 harg10 arg11 harg11 arg12 harg12 arg13 harg13 uM (Memref.isWhole_whole _) dM (Memref.isWhole_whole _)
  kM (Memref.isWhole_whole _) cc0_scratch3

/-- The whole body. -/
abbrev body := cc0_bwd_ffn (F := F) i arg1 harg1 arg2 harg2 arg3 harg3 arg4 harg4 arg5 harg5 hbM (Memref.isWhole_whole _) arg7 harg7 arg8 harg8
  arg9 harg9 arg10 harg10 arg11 harg11 arg12 harg12 arg13 harg13 uM (Memref.isWhole_whole _) dM (Memref.isWhole_whole _)
  kM (Memref.isWhole_whole _) cc0_scratch3

set_option maxHeartbeats 2000000 in
/-- Whatever prepares the sums, the carried rows and the two weights, the rest of the body leaves the three results of this block,
    the three sums with this block added, and this block's first rows to be carried. -/
theorem run (a : Vec F S1x5632 .f32) (b : Vec F S3x5632 .f32) (e : Vec F S1x1024 .f32) (k : Vec F S8x5632 .f32)
    (wu : Vec F S5632x1024 .bf16) (wd : Vec F S2816x1024 .bf16) (P E : sProp 𝕄)
    (h : ∀ K, iprop(P ∗ (iprop(Inputs c arg1 arg2 arg3 arg4 arg5 arg7 x1 x2 x3 x4 x5 x7 ∗ Sums c arg11 arg12 arg13 a b e
          ∗ owns (c : Thread nD τ) kM fullShare k ∗ Weights c wu wd ∗ E)
        -∗ K ⟨k0_pay10 x1, k0_pay11, da x1 wd, gate x4, value x4, zero⟩))
      ⊢ wp frame (wpE (defs₀ (F := F)) Variants.none c none) Set.univ
          (start i arg1 harg1 arg2 harg2 arg3 harg3 arg4 harg4 arg5 harg5 arg7 harg7 arg8 harg8 arg9 harg9 arg10 harg10 arg11 harg11 arg12 harg12 arg13 harg13) K)
    (K : PUnit → sProp 𝕄) :
    iprop(P ∗ Outputs c arg8 arg9 arg10
        ∗ (iprop(Inputs c arg1 arg2 arg3 arg4 arg5 arg7 x1 x2 x3 x4 x5 x7
          ∗ owns (c : Thread nD τ) arg8 fullShare (dxOf x1 x2 x4 x5 x7 wu wd k) ∗ owns (c : Thread nD τ) arg9 fullShare (dxbOf x1 x2 x4 x5 x7 wu wd k)
          ∗ owns (c : Thread nD τ) arg10 fullShare (duOf x1 x4 x7 wd k)
          ∗ Sums c arg11 arg12 arg13 (dfbOf x1 x4 wd a) (dfwOf x1 x3 x4 wd k b) (dgOf x1 x2 x4 x7 wu wd k e)
          ∗ owns (c : Thread nD τ) kM fullShare (carryOf x1 x4 wd) ∗ Weights c wu wd ∗ E) -∗ K ⟨⟩))
      ⊢ wp frame (wpE (defs₀ (F := F)) Variants.none c none) Set.univ
          (body i arg1 harg1 arg2 harg2 arg3 harg3 arg4 harg4 arg5 harg5 arg7 harg7 arg8 harg8 arg9 harg9 arg10 harg10 arg11 harg11 arg12 harg12 arg13 harg13) K := by
  unfold body
  rw [cc0_bwd_ffn_eq_skeleton]; unfold cc0_bwd_ffn_skel
  rw [k0_part8_eq_skeleton, k0_part9_eq_skeleton, k0_part10_eq_skeleton, k0_part11_eq_skeleton]
  unfold k0_part8_skel k0_part9_skel k0_part10_skel k0_part11_skel
  rw [wp_bind]
  iintro ⟨HP, ⟨H8, H9, H10⟩, Hk⟩
  iapply (h _)
  isplitl [HP]; · iexact HP
  unfold Inputs Sums Weights owns
  icases H8 with ⟨%d8, %f8, -, H8⟩
  icases H9 with ⟨%d9, %f9, -, H9⟩
  icases H10 with ⟨%d10, %f10, -, H10⟩
  iintro ⟨⟨⟨%f1, %hf1, H1⟩, ⟨%f2, %hf2, H2⟩, ⟨%f3, %hf3, H3⟩, ⟨%f4, %hf4, H4⟩, ⟨%f5, %hf5, H5⟩, ⟨%f7, %hf7, H7⟩⟩, ⟨⟨%f11, %hf11, H11⟩, ⟨%f12, %hf12, H12⟩, ⟨%f13, %hf13, H13⟩⟩, ⟨%fk, %hfk, HK⟩, ⟨⟨%fu, %hfu, HU⟩, ⟨%fd, %hfd, HD⟩⟩, HE⟩
  sl_exec
  sl_step
  have k2 : ∀ h, View.readAt (Elt F) arg2.view (Rect.unit ![0, 0] S256x1024.size h).toLoadRect f2 = x2 := fun h => (View.readAt_full ..).trans hf2
  have k5 : ∀ h, View.readAt (Elt F) arg5.view (Rect.unit ![0, 0] S1x1024.size h).toLoadRect f5 = x5 := fun h => (View.readAt_full ..).trans hf5
  have k13 : ∀ h, View.readAt (Elt F) arg13.view (Rect.unit ![0, 0] S1x1024.size h).toLoadRect f13 = e := fun h => (View.readAt_full ..).trans hf13
  have k3 : ∀ (r o : ℕ) (inb : ∀ a, (![r, o] : Fin 2 → ℕ) a + S256x2816.size a ≤ (⟨2, ![256, 5632]⟩ : Shape).size a),
      View.readAt (Elt F) arg3.view (Rect.unit (s := ⟨2, ![256, 5632]⟩) ![r, o] S256x2816.size inb).toLoadRect f3 = part (h := 256) (w := 2816) r o (inb 0) (inb 1) x3 :=
    readAt_part arg3.view f3 x3 hf3
  have k7 : ∀ (r o : ℕ) (inb : ∀ a, (![r, o] : Fin 2 → ℕ) a + S1x2816.size a ≤ (⟨2, ![3, 5632]⟩ : Shape).size a),
      View.readAt (Elt F) arg7.view (Rect.unit (s := ⟨2, ![3, 5632]⟩) ![r, o] S1x2816.size inb).toLoadRect f7 = part (h := 1) (w := 2816) r o (inb 0) (inb 1) x7 :=
    readAt_part arg7.view f7 x7 hf7
  have k11 : ∀ (r o : ℕ) (inb : ∀ a, (![r, o] : Fin 2 → ℕ) a + S1x2816.size a ≤ (⟨2, ![1, 5632]⟩ : Shape).size a),
      View.readAt (Elt F) arg11.view (Rect.unit (s := ⟨2, ![1, 5632]⟩) ![r, o] S1x2816.size inb).toLoadRect f11 = part (h := 1) (w := 2816) r o (inb 0) (inb 1) a :=
    readAt_part arg11.view f11 a hf11
  have k12 : ∀ (r o : ℕ) (inb : ∀ a, (![r, o] : Fin 2 → ℕ) a + S1x2816.size a ≤ (⟨2, ![3, 5632]⟩ : Shape).size a),
      View.readAt (Elt F) arg12.view (Rect.unit (s := ⟨2, ![3, 5632]⟩) ![r, o] S1x2816.size inb).toLoadRect f12 = part (h := 1) (w := 2816) r o (inb 0) (inb 1) b :=
    readAt_part arg12.view f12 b hf12
  have kk : ∀ (r o : ℕ) (inb : ∀ a, (![r, o] : Fin 2 → ℕ) a + S8x2816.size a ≤ (⟨2, ![8, 5632]⟩ : Shape).size a),
      View.readAt (Elt F) kM.view (Rect.unit (s := ⟨2, ![8, 5632]⟩) ![r, o] S8x2816.size inb).toLoadRect fk = part (h := 8) (w := 2816) r o (inb 0) (inb 1) k :=
    readAt_part kM.view fk k hfk
  have ku : ∀ (r o : ℕ) (inb : ∀ a, (![r, o] : Fin 2 → ℕ) a + S2816x1024.size a ≤ (⟨2, ![5632, 1024]⟩ : Shape).size a),
      View.readAt (Elt F) uM.view (Rect.unit (s := ⟨2, ![5632, 1024]⟩) ![r, o] S2816x1024.size inb).toLoadRect fu = part (h := 2816) (w := 1024) r o (inb 0) (inb 1) wu :=
    readAt_part uM.view fu wu hfu
  have kr : run.sl.v117 c fk = part (h := 8) (w := 2816) 0 2816 (by decide) (by decide) k := kk 0 2816 _
  iapply Hk
  isplitl [H1 H2 H3 H4 H5 H7]
  · isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]; · iexists _; isplitr; swap; · iexact H5
                    ipureintro; exact hf5
    iexists _; isplitr; swap; · iexact H7
    ipureintro; exact hf7
  isplitl [H8]
  · iexists _; isplitr; swap; · iexact H8
    ipureintro; rw [View.read_writes_full, kr]; simp only [k2, k5, k7, k13, kk, ku]; rfl
  isplitl [H9]
  · iexists _; isplitr; swap; · iexact H9
    ipureintro; rw [View.read_writes_full, kr]; simp only [k2, k5, k7, k13, kk, ku]; rfl
  isplitl [H10]
  · iexists _; isplitr; swap; · iexact H10
    ipureintro; rw [kr]; simp only [k7, kk]
    exact two_halves (R := 256) (by decide) arg10.view f10 (duBlocks x1 x4 x7 wd k) inb_S256x5632_S256x2816_0_0 inb_S256x5632_S256x2816_0_2816
  isplitl [H11 H12 H13]
  · isplitl [H11]
    · iexists _; isplitr; swap; · iexact H11
      ipureintro; rw [show run.sl.v111 c arg11 f11 = part (h := 1) (w := 2816) 0 2816 (by decide) (by decide) a from k11 0 2816 _]; simp only [k11]
      exact two_halves (R := 1) (by decide) arg11.view f11 (dfbBlocks x1 x4 wd a) inb_S1x5632_S1x2816_0_0 inb_S1x5632_S1x2816_0_2816
    isplitl [H12]
    · iexists _; isplitr; swap; · iexact H12
      ipureintro
      rw [kr, show run.sl.v155 c arg12 f12 = part (h := 1) (w := 2816) 0 2816 (by decide) (by decide) b from k12 0 2816 _,
        show run.sl.v148 c arg12 f12 = part (h := 1) (w := 2816) 1 2816 (by decide) (by decide) b from k12 1 2816 _,
        show run.sl.v141 c arg12 f12 = part (h := 1) (w := 2816) 2 2816 (by decide) (by decide) b from k12 2 2816 _,
        show run.sl.v96 c arg12 f12 = part (h := 1) (w := 2816) 0 0 (by decide) (by decide) b from k12 0 0 _,
        show run.sl.v89 c arg12 f12 = part (h := 1) (w := 2816) 1 0 (by decide) (by decide) b from k12 1 0 _]
      simp only [k3, k12, kk]
      exact six_taps arg12.view f12 (dfwBlocks x1 x3 x4 wd k b) inb_S3x5632_S1x2816_0_0 inb_S3x5632_S1x2816_1_0 inb_S3x5632_S1x2816_2_0
        inb_S3x5632_S1x2816_0_2816 inb_S3x5632_S1x2816_1_2816 inb_S3x5632_S1x2816_2_2816
    iexists _; isplitr; swap; · iexact H13
    ipureintro; rw [View.read_writes_full, kr]; simp only [k2, k5, k7, k13, kk, ku]; rfl
  isplitl [HK]
  · iexists _; isplitr; swap; · iexact HK
    ipureintro
    exact two_halves (R := 8) (by decide) kM.view fk (carryBlocks x1 x4 wd) inb_S8x5632_S8x2816_0_0 inb_S8x5632_S8x2816_0_2816
  isplitr [HE]; swap; · iexact HE
  isplitl [HU]; · iexists _; isplitr; swap; · iexact HU
                  ipureintro; exact hfu
  iexists _; isplitr; swap; · iexact HD
  ipureintro; exact hfd

/-- At any other grid point the first part only reads. -/
theorem start_later (hi : ¬first i) (hj : ¬fresh i) (a : Vec F S1x5632 .f32) (b : Vec F S3x5632 .f32) (e : Vec F S1x1024 .f32) (k : Vec F S8x5632 .f32)
    (wu : Vec F S5632x1024 .bf16) (wd : Vec F S2816x1024 .bf16) (K : _ → sProp 𝕄) :
    iprop(iprop(Inputs c arg1 arg2 arg3 arg4 arg5 arg7 x1 x2 x3 x4 x5 x7 ∗ Sums c arg11 arg12 arg13 a b e ∗ owns (c : Thread nD τ) kM fullShare k ∗ Weights c wu wd)
        ∗ (iprop(Inputs c arg1 arg2 arg3 arg4 arg5 arg7 x1 x2 x3 x4 x5 x7 ∗ Sums c arg11 arg12 arg13 a b e ∗ owns (c : Thread nD τ) kM fullShare k ∗ Weights c wu wd ∗ emp)
        -∗ K ⟨k0_pay10 x1, k0_pay11, da x1 wd, gate x4, value x4, zero⟩))
      ⊢ wp frame (wpE (defs₀ (F := F)) Variants.none c none) Set.univ
          (start i arg1 harg1 arg2 harg2 arg3 harg3 arg4 harg4 arg5 harg5 arg7 harg7 arg8 harg8 arg9 harg9 arg10 harg10 arg11 harg11 arg12 harg12 arg13 harg13) K := by
  unfold start da gate value; rw [k0_part7_eq_skeleton]; unfold k0_part7_skel Inputs Sums Weights owns
  iintro ⟨⟨⟨⟨%f1, %hf1, H1⟩, H2, H3, ⟨%f4, %hf4, H4⟩, H5, H7⟩, HS, HK, ⟨HU, ⟨%fd, %hfd, HD⟩⟩⟩, Hk⟩
  sl_exec (disch := first | sl_exact hi | sl_exact hj)
  sl_step
  have k1 : ∀ h, View.readAt (Elt F) arg1.view (Rect.unit ![0, 0] S256x1024.size h).toLoadRect f1 = x1 := fun h => (View.readAt_full ..).trans hf1
  have k4 : ∀ (inb : ∀ a, (![0, 0] : Fin 2 → ℕ) a + S256x2816.size a ≤ (⟨2, ![256, 5632]⟩ : Shape).size a),
      View.readAt (Elt F) arg4.view (Rect.unit (s := ⟨2, ![256, 5632]⟩) ![0, 0] S256x2816.size inb).toLoadRect f4
        = half (R := 256) (h := 256) 0 0 (by decide) (by decide) x4 := fun inb => readAt_part arg4.view f4 x4 hf4 0 0 inb
  have k4r : ∀ (inb : ∀ a, (![0, 2816] : Fin 2 → ℕ) a + S256x2816.size a ≤ (⟨2, ![256, 5632]⟩ : Shape).size a),
      View.readAt (Elt F) arg4.view (Rect.unit (s := ⟨2, ![256, 5632]⟩) ![0, 2816] S256x2816.size inb).toLoadRect f4
        = half (R := 256) (h := 256) 0 2816 (by decide) (by decide) x4 := fun inb => readAt_part arg4.view f4 x4 hf4 0 2816 inb
  have kd : ∀ h, View.readAt (Elt F) dM.view (Rect.unit ![0, 0] S2816x1024.size h).toLoadRect fd = wd := fun h => (View.readAt_full ..).trans hfd
  simp only [k1, k4, k4r, kd]
  rw [show start_later.sl.cst_15 = zero from rfl]
  iapply Hk
  isplitl [H1 H2 H3 H4 H5 H7]
  · isplitl [H1]; · iexists _; isplitr; swap; · iexact H1
                    ipureintro; exact hf1
    isplitl [H2]; · iexact H2
    isplitl [H3]; · iexact H3
    isplitl [H4]; · iexists _; isplitr; swap; · iexact H4
                    ipureintro; exact hf4
    isplitl [H5]; · iexact H5
    iexact H7
  isplitl [HS]; · iexact HS
  isplitl [HK]; · iexact HK
  isplitl
  · isplitl [HU]; · iexact HU
    iexists _; isplitr; swap; · iexact HD
    ipureintro; exact hfd
  iempintro

/-- At the first grid point of the other sequence the first part clears the carried rows. -/
theorem start_fresh (hi : ¬first i) (hj : fresh i) (a : Vec F S1x5632 .f32) (b : Vec F S3x5632 .f32) (e : Vec F S1x1024 .f32)
    (wu : Vec F S5632x1024 .bf16) (wd : Vec F S2816x1024 .bf16) (K : _ → sProp 𝕄) :
    iprop(iprop(Inputs c arg1 arg2 arg3 arg4 arg5 arg7 x1 x2 x3 x4 x5 x7 ∗ Sums c arg11 arg12 arg13 a b e ∗ (∃ d, owns (c : Thread nD τ) kM fullShare d) ∗ Weights c wu wd)
        ∗ (iprop(Inputs c arg1 arg2 arg3 arg4 arg5 arg7 x1 x2 x3 x4 x5 x7 ∗ Sums c arg11 arg12 arg13 a b e ∗ owns (c : Thread nD τ) kM fullShare k0_pay9 ∗ Weights c wu wd ∗ emp)
        -∗ K ⟨k0_pay10 x1, k0_pay11, da x1 wd, gate x4, value x4, zero⟩))
      ⊢ wp frame (wpE (defs₀ (F := F)) Variants.none c none) Set.univ
          (start i arg1 harg1 arg2 harg2 arg3 harg3 arg4 harg4 arg5 harg5 arg7 harg7 arg8 harg8 arg9 harg9 arg10 harg10 arg11 harg11 arg12 harg12 arg13 harg13) K := by
  unfold start da gate value; rw [k0_part7_eq_skeleton]; unfold k0_part7_skel Inputs Sums Weights owns
  iintro ⟨⟨⟨⟨%f1, %hf1, H1⟩, H2, H3, ⟨%f4, %hf4, H4⟩, H5, H7⟩, HS, ⟨%dk, %fk, -, HK⟩, ⟨HU, ⟨%fd, %hfd, HD⟩⟩⟩, Hk⟩
  sl_exec (disch := first | sl_exact hi | sl_exact hj)
  sl_step
  have k1 : ∀ h, View.readAt (Elt F) arg1.view (Rect.unit ![0, 0] S256x1024.size h).toLoadRect f1 = x1 := fun h => (View.readAt_full ..).trans hf1
  have k4 : ∀ (inb : ∀ a, (![0, 0] : Fin 2 → ℕ) a + S256x2816.size a ≤ (⟨2, ![256, 5632]⟩ : Shape).size a),
      View.readAt (Elt F) arg4.view (Rect.unit (s := ⟨2, ![256, 5632]⟩) ![0, 0] S256x2816.size inb).toLoadRect f4
        = half (R := 256) (h := 256) 0 0 (by decide) (by decide) x4 := fun inb => readAt_part arg4.view f4 x4 hf4 0 0 inb
  have k4r : ∀ (inb : ∀ a, (![0, 2816] : Fin 2 → ℕ) a + S256x2816.size a ≤ (⟨2, ![256, 5632]⟩ : Shape).size a),
      View.readAt (Elt F) arg4.view (Rect.unit (s := ⟨2, ![256, 5632]⟩) ![0, 2816] S256x2816.size inb).toLoadRect f4
        = half (R := 256) (h := 256) 0 2816 (by decide) (by decide) x4 := fun inb => readAt_part arg4.view f4 x4 hf4 0 2816 inb
  have kd : ∀ h, View.readAt (Elt F) dM.view (Rect.unit ![0, 0] S2816x1024.size h).toLoadRect fd = wd := fun h => (View.readAt_full ..).trans hfd
  simp only [k1, k4, k4r, kd]
  rw [show start_fresh.sl.cst_15 = zero from rfl]
  iapply Hk
  isplitl [H1 H2 H3 H4 H5 H7]
  · isplitl [H1]; · iexists _; isplitr; swap; · iexact H1
                    ipureintro; exact hf1
    isplitl [H2]; · iexact H2
    isplitl [H3]; · iexact H3
    isplitl [H4]; · iexists _; isplitr; swap; · iexact H4
                    ipureintro; exact hf4
    isplitl [H5]; · iexact H5
    iexact H7
  isplitl [HS]; · iexact HS
  isplitl [HK]; · iexists _; isplitr; swap; · iexact HK
                  ipureintro; exact View.read_writes_full ..
  isplitl
  · isplitl [HU]; · iexact HU
    iexists _; isplitr; swap; · iexact HD
    ipureintro; exact hfd
  iempintro

/-- What the first grid point needs besides its blocks: the scratch buffers at any contents, the two semaphores, the gathered
    array, and what the core owes. -/
abbrev Loading (G : Buf (Elt F) (hbM.view.loc (c : Thread nD τ))) (W : Waits sig Unit) : sProp 𝕄 :=
  iprop((∃ fs : Buf (Elt F) (uM.view.loc (c : Thread nD τ)), (uM.view.loc (c : Thread nD τ) ↦{fullShare} fs))
    ∗ (∃ fs : Buf (Elt F) (dM.view.loc (c : Thread nD τ)), (dM.view.loc (c : Thread nD τ) ↦{fullShare} fs))
    ∗ (∃ fs : Buf (Elt F) (kM.view.loc (c : Thread nD τ)), (kM.view.loc (c : Thread nD τ) ↦{fullShare} fs))
    ∗ semVal ((c : Thread nD τ), SemLoc.dma 19) 0 ∗ semVal ((c : Thread nD τ), SemLoc.dma 20) 0
    ∗ (hbM.view.loc (c : Thread nD τ) ↦{fullShare} G) ∗ owes (c : Thread nD τ) 0 W)

/-- What the first grid point leaves of that beside the two weights and the carried rows. -/
abbrev Loaded (G : Buf (Elt F) (hbM.view.loc (c : Thread nD τ))) : sProp 𝕄 :=
  iprop(semVal ((c : Thread nD τ), SemLoc.dma 19) 0 ∗ semVal ((c : Thread nD τ), SemLoc.dma 20) 0
    ∗ (hbM.view.loc (c : Thread nD τ) ↦{fullShare} G) ∗ (∃ W', owes (c : Thread nD τ) 0 W'))

set_option maxHeartbeats 8000000 in
/-- At the first grid point the first part loads the two weights and clears the sums and the carried rows. -/
theorem start_first (hi : first i) (hj : fresh i) (G : Buf (Elt F) (hbM.view.loc (c : Thread nD τ))) (W : Waits sig Unit)
    (K : _ → sProp 𝕄) :
    iprop(iprop(Inputs c arg1 arg2 arg3 arg4 arg5 arg7 x1 x2 x3 x4 x5 x7 ∗ (∃ d, owns (c : Thread nD τ) arg11 fullShare d)
          ∗ (∃ d, owns (c : Thread nD τ) arg12 fullShare d) ∗ (∃ d, owns (c : Thread nD τ) arg13 fullShare d) ∗ Loading c G W)
        ∗ (iprop(Inputs c arg1 arg2 arg3 arg4 arg5 arg7 x1 x2 x3 x4 x5 x7 ∗ Sums c arg11 arg12 arg13 k0_pay6 k0_pay7 k0_pay8
            ∗ owns (c : Thread nD τ) kM fullShare k0_pay9 ∗ Weights c (wuOf (hbM.view.read (Elt F) G)) (wdOf (hbM.view.read (Elt F) G)) ∗ Loaded c G)
        -∗ K ⟨k0_pay10 x1, k0_pay11, da x1 (wdOf (hbM.view.read (Elt F) G)), gate x4, value x4, zero⟩))
      ⊢ wp frame (wpE (defs₀ (F := F)) Variants.none c none) Set.univ
          (start i arg1 harg1 arg2 harg2 arg3 harg3 arg4 harg4 arg5 harg5 arg7 harg7 arg8 harg8 arg9 harg9 arg10 harg10 arg11 harg11 arg12 harg12 arg13 harg13) K := by
  have _planD : Transfers.BatchOf (c : Thread nD τ) (SemLoc.dma (sig := sig) 19) 8 (windows := true) := ⟨⟩
  have _planU : Transfers.BatchOf (c : Thread nD τ) (SemLoc.dma (sig := sig) 20) 8 (windows := true) := ⟨⟩
  unfold start da gate value; rw [k0_part7_eq_skeleton]; unfold k0_part7_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel Inputs Sums Weights Loading Loaded owns
  iintro ⟨⟨⟨⟨%f1, %hf1, H1⟩, H2, H3, ⟨%f4, %hf4, H4⟩, H5, H7⟩, ⟨%d11, %f11, -, H11⟩, ⟨%d12, %f12, -, H12⟩, ⟨%d13, %f13, -, H13⟩, ⟨%fu, HU⟩, ⟨%fd, HD⟩, ⟨%fk, HK⟩, Hs, Ht, Hh, HW⟩, Hk⟩
  sl_exec (disch := first | sl_exact hi | sl_exact hj)
  sl_exec (disch := first | sl_exact hi | sl_exact hj)
  sl_step
  -- what the two rows of eight transfers leave in the scratch buffers
  have hD : ∀ f : dM.view.ty.Contents (Elt F), dM.view.read (Elt F) (dM.view.writes (Elt F) f
      [⟨Rect.unit ![2464, 0] S352x1024.size inb_S2816x1024_S352x1024_2464_0, start_first.sl.dma7 c G⟩,
        ⟨Rect.unit ![2112, 0] S352x1024.size inb_S2816x1024_S352x1024_2112_0, start_first.sl.dma6 c G⟩,
        ⟨Rect.unit ![1760, 0] S352x1024.size inb_S2816x1024_S352x1024_1760_0, start_first.sl.dma5 c G⟩,
        ⟨Rect.unit ![1408, 0] S352x1024.size inb_S2816x1024_S352x1024_1408_0, start_first.sl.dma4 c G⟩,
        ⟨Rect.unit ![1056, 0] S352x1024.size inb_S2816x1024_S352x1024_1056_0, start_first.sl.dma3 c G⟩,
        ⟨Rect.unit ![704, 0] S352x1024.size inb_S2816x1024_S352x1024_704_0, start_first.sl.dma2 c G⟩,
        ⟨Rect.unit ![352, 0] S352x1024.size inb_S2816x1024_S352x1024_352_0, start_first.sl.dma1 c G⟩,
        ⟨Rect.unit ![0, 0] S352x1024.size inb_S2816x1024_S352x1024_0_0, start_first.sl.dma0 c G⟩])
        = wdOf (hbM.view.read (Elt F) G) := fun f =>
    loaded (T := 2816) (R := 352) (off := 704) rfl (by decide) (by decide) hbM G _ f _ rfl fun d hd => by interval_cases d <;> exact ⟨_, _, _, _, rfl⟩
  have hU : ∀ f : uM.view.ty.Contents (Elt F), uM.view.read (Elt F) (uM.view.writes (Elt F) f
      [⟨Rect.unit ![4928, 0] S704x1024.size inb_S5632x1024_S704x1024_4928_0, start_first.sl.dma7_1 c G⟩,
        ⟨Rect.unit ![4224, 0] S704x1024.size inb_S5632x1024_S704x1024_4224_0, start_first.sl.dma6_1 c G⟩,
        ⟨Rect.unit ![3520, 0] S704x1024.size inb_S5632x1024_S704x1024_3520_0, start_first.sl.dma5_1 c G⟩,
        ⟨Rect.unit ![2816, 0] S704x1024.size inb_S5632x1024_S704x1024_2816_0, start_first.sl.dma4_1 c G⟩,
        ⟨Rect.unit ![2112, 0] S704x1024.size inb_S5632x1024_S704x1024_2112_0, start_first.sl.dma3_1 c G⟩,
        ⟨Rect.unit ![1408, 0] S704x1024.size inb_S5632x1024_S704x1024_1408_0, start_first.sl.dma2_1 c G⟩,
        ⟨Rect.unit ![704, 0] S704x1024.size inb_S5632x1024_S704x1024_704_0, start_first.sl.dma1_1 c G⟩,
        ⟨Rect.unit ![0, 0] S704x1024.size inb_S5632x1024_S704x1024_0_0, start_first.sl.dma0_1 c G⟩])
        = wuOf (hbM.view.read (Elt F) G) := fun f =>
    loaded (T := 5632) (R := 704) (off := 0) rfl (by decide) (by decide) hbM G _ f _ rfl fun d hd => by interval_cases d <;> exact ⟨_, _, _, _, rfl⟩
  have k1 : ∀ h, View.readAt (Elt F) arg1.view (Rect.unit ![0, 0] S256x1024.size h).toLoadRect f1 = x1 := fun h => (View.readAt_full ..).trans hf1
  have k4 : ∀ (inb : ∀ a, (![0, 0] : Fin 2 → ℕ) a + S256x2816.size a ≤ (⟨2, ![256, 5632]⟩ : Shape).size a),
      View.readAt (Elt F) arg4.view (Rect.unit (s := ⟨2, ![256, 5632]⟩) ![0, 0] S256x2816.size inb).toLoadRect f4
        = half (R := 256) (h := 256) 0 0 (by decide) (by decide) x4 := fun inb => readAt_part arg4.view f4 x4 hf4 0 0 inb
  have k4r : ∀ (inb : ∀ a, (![0, 2816] : Fin 2 → ℕ) a + S256x2816.size a ≤ (⟨2, ![256, 5632]⟩ : Shape).size a),
      View.readAt (Elt F) arg4.view (Rect.unit (s := ⟨2, ![256, 5632]⟩) ![0, 2816] S256x2816.size inb).toLoadRect f4
        = half (R := 256) (h := 256) 0 2816 (by decide) (by decide) x4 := fun inb => readAt_part arg4.view f4 x4 hf4 0 2816 inb
  simp only [k1, k4, k4r]
  rw [show start_first.sl.cst_15 = zero from rfl, show start_first.sl.v24 c G = wdOf (hbM.view.read (Elt F) G) from (View.readAt_full ..).trans (hD _)]
  iapply Hk
  isplitl [H1 H2 H3 H4 H5 H7]
  · isplitl [H1]; · iexists _; isplitr; swap; · iexact H1
                    ipureintro; exact hf1
    isplitl [H2]; · iexact H2
    isplitl [H3]; · iexact H3
    isplitl [H4]; · iexists _; isplitr; swap; · iexact H4
                    ipureintro; exact hf4
    isplitl [H5]; · iexact H5
    iexact H7
  isplitl [H11 H12 H13]
  · isplitl [H11]; · iexists _; isplitr; swap; · iexact H11
                     ipureintro; exact View.read_writes_full ..
    isplitl [H12]; · iexists _; isplitr; swap; · iexact H12
                     ipureintro; exact View.read_writes_full ..
    iexists _; isplitr; swap; · iexact H13
    ipureintro; exact View.read_writes_full ..
  isplitl [HK]
  · iexists _; isplitr; swap; · rw [(Memref.isWhole_whole cc0_scratch2).set_eq_univ]; iexact HK
    ipureintro; exact View.read_writes_full ..
  isplitl [HU HD]
  · isplitl [HU]; · iexists _; isplitr; swap; · rw [(Memref.isWhole_whole cc0_scratch0).set_eq_univ]; iexact HU
                    ipureintro; exact hU fu
    iexists _; isplitr; swap; · rw [(Memref.isWhole_whole cc0_scratch1).set_eq_univ]; iexact HD
    ipureintro; exact hD fd
  isplitl [Hs]; · iexact Hs
  isplitl [Ht]; · iexact Ht
  isplitl [Hh]; · iexact Hh
  iexists _; iexact HW

end Run

end Cert.Kernel3Ideal.Ffn
-- ==== Proof.FfnFrame.lean ====
/-
  The launch of the call that differentiates the gated feed-forward block: what the two weights' scratch buffers, the carried rows
  and the three running sums hold between grid points, and the frame.
-/
module

public import proofs.«01_k».proof.Proof.FfnBody

@[expose] public section

set_option maxRecDepth 16384

noncomputable section

namespace Cert.Kernel3Ideal.Ffn

open Cert.Kernel3Ideal Cert.Kernel3Ideal.Gen Cert.Gathered Cert.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host operations, then the region. -/
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem coord (t : Fin cfg0.N) : (grid0.coords t 0).val = t.val ∧ t.val < 16 := by
  have ht : t.val < 16 := Nat.lt_of_lt_of_eq t.isLt N_0
  have e0 : (grid0.coords t 0).val = t.val / 1 % 16 := Pipeline.Grid.coords_val t 0 (by decide) rfl
  omega

/-- The body's first test is true at the first grid point only. -/
theorem first_iff (t : Fin cfg0.N) : first (grid0.coords t) ↔ t.val = 0 := by
  obtain ⟨e0, ht⟩ := coord t
  have : ∀ n : Fin 16, (Scalar.cmpi .ne (Scalar.extui (Scalar.cmpi .eq (BitVec.ofNat 32 n.val) 0#32) : BitVec 32) 0#32 = 1#1) ↔ n.val = 0 := by
    decide
  unfold first; rw [e0]; exact this ⟨t.val, ht⟩

/-- The body's second test is true at the first grid point of each sequence: the tiles are taken from the last to the first. -/
theorem fresh_iff (t : Fin cfg0.N) : fresh (grid0.coords t) ↔ t.val % 8 = 0 := by
  obtain ⟨e0, ht⟩ := coord t
  have : ∀ n : Fin 16, (Scalar.cmpi .ne (Scalar.extui (Scalar.cmpi .eq (Scalar.select
      (Scalar.andi (Scalar.xori (Scalar.cmpi .slt (Scalar.remsi (Scalar.subi 15#32 (BitVec.ofNat 32 n.val)) (Scalar.select (Scalar.cmpi .eq 8#32 0#32) 1#32 8#32)) 0#32)
        (Scalar.cmpi .slt (Scalar.select (Scalar.cmpi .eq 8#32 0#32) 1#32 8#32) 0#32))
        (Scalar.cmpi .ne (Scalar.remsi (Scalar.subi 15#32 (BitVec.ofNat 32 n.val)) (Scalar.select (Scalar.cmpi .eq 8#32 0#32) 1#32 8#32)) 0#32))
      (Scalar.addi (Scalar.remsi (Scalar.subi 15#32 (BitVec.ofNat 32 n.val)) (Scalar.select (Scalar.cmpi .eq 8#32 0#32) 1#32 8#32))
        (Scalar.select (Scalar.cmpi .eq 8#32 0#32) 1#32 8#32))
      (Scalar.remsi (Scalar.subi 15#32 (BitVec.ofNat 32 n.val)) (Scalar.select (Scalar.cmpi .eq 8#32 0#32) 1#32 8#32))) 7#32) : BitVec 32) 0#32 = 1#1) ↔ n.val % 8 = 0 := by
    decide
  unfold fresh tile; rw [e0]; exact this ⟨t.val, ht⟩

/-- The two weights as the region finds them in the gathered array. -/
def wuAt (c : Dev nD) : Vec F S5632x1024 .bf16 := wuOf (hbM.view.read (Elt F) (V m c main_v6))
def wdAt (c : Dev nD) : Vec F S2816x1024 .bf16 := wdOf (hbM.view.read (Elt F) (V m c main_v6))

/-- The rows one grid point leaves for the next. -/
def carryAt (c : Dev nD) (t : Fin cfg0.N) : Vec F S8x5632 .f32 := carryOf (iblk m c 0 t) (iblk m c 3 t) (wdAt m c)
/-- The rows a grid point finds: none at the first point of a sequence. -/
def carried (c : Dev nD) (t : Fin cfg0.N) : Vec F S8x5632 .f32 := if t.val % 8 = 0 then k0_pay9 else carryAt m c (prev t)

/-- One step of the bias's sum, the taps' sums and the norm weight's. -/
def dfbStep (c : Dev nD) (t : Fin cfg0.N) (a : Vec F S1x5632 .f32) : Vec F S1x5632 .f32 := dfbOf (iblk m c 0 t) (iblk m c 3 t) (wdAt m c) a
def dfwStep (c : Dev nD) (t : Fin cfg0.N) (b : Vec F S3x5632 .f32) : Vec F S3x5632 .f32 :=
  dfwOf (iblk m c 0 t) (iblk m c 2 t) (iblk m c 3 t) (wdAt m c) (carried m c t) b
def dgStep (c : Dev nD) (t : Fin cfg0.N) (e : Vec F S1x1024 .f32) : Vec F S1x1024 .f32 :=
  dgOf (iblk m c 0 t) (iblk m c 1 t) (iblk m c 3 t) (iblk m c 5 t) (wuAt m c) (wdAt m c) (carried m c t) e

def dfbAt (c : Dev nD) (t : Fin cfg0.N) : Vec F S1x5632 .f32 := sumAt (dfbStep m c) k0_pay6 t.val t.isLt
def dfwAt (c : Dev nD) (t : Fin cfg0.N) : Vec F S3x5632 .f32 := sumAt (dfwStep m c) k0_pay7 t.val t.isLt
def dgAt (c : Dev nD) (t : Fin cfg0.N) : Vec F S1x1024 .f32 := sumAt (dgStep m c) k0_pay8 t.val t.isLt

/-! ## Between grid points -/

/-- The body's two semaphores, and the array its transfers read. -/
abbrev osem0 : Fin 2 → SemLoc sig := ![SemLoc.dma 19, SemLoc.dma 20]
theorem ownSemFacts0 : Pipeline.OwnSemFacts spec0 osem0 := by decide
def H0 : Finset (Ref sig .tc) := {main_v6}
theorem H0_sub : H0 ⊆ Pipeline.restRefs sig spec0 := by decide

/-- The register, the two semaphores at zero, and the gathered array. -/
abbrev Idle (c : Dev nD) : sProp 𝕄 :=
  iprop((∃ r, prngReg c r) ∗ (semVal ((c : Thread nD τ), SemLoc.dma 19) 0 ∗ semVal ((c : Thread nD τ), SemLoc.dma 20) 0)
    ∗ (hbM.view.loc (c : Thread nD τ) ↦{fullShare} V m c main_v6))

/-- The three scratch buffers at any contents. -/
abbrev Scratch (c : Dev nD) : sProp 𝕄 :=
  iprop((∃ fs : Buf (Elt F) (uM.view.loc (c : Thread nD τ)), (uM.view.loc (c : Thread nD τ) ↦{fullShare} fs))
    ∗ (∃ fs : Buf (Elt F) (dM.view.loc (c : Thread nD τ)), (dM.view.loc (c : Thread nD τ) ↦{fullShare} fs))
    ∗ (∃ fs : Buf (Elt F) (kM.view.loc (c : Thread nD τ)), (kM.view.loc (c : Thread nD τ) ↦{fullShare} fs)))

/-- What the launch hands the region. -/
theorem Phi_launch (c : Dev nD) : (Pipeline.ΦD osem0 spec0 H0 (V m) c : sProp 𝕄) = iprop(Scratch c ∗ Idle m c) := by
  rw [Pipeline.ΦD_eq, scopedRest0_eq, Pipeline.ownSems0_eq_of_list c osem0 [0, 1] (by decide) (by decide)]
  rw [BI.bigSep_eq_bigSepL_of_eq [main_v6] (by decide) (by decide)]; rfl

/-- Between grid points: the weights, the rows the last point left, and the rest. -/
abbrev Between (c : Dev nD) (k : Vec F S8x5632 .f32) : sProp 𝕄 :=
  iprop((Weights c (wuAt m c) (wdAt m c) ∗ owns (c : Thread nD τ) kM fullShare k) ∗ Idle m c)

/-- Before the first grid point the scratch buffers hold anything, afterwards the weights and the carried rows. -/
def Phi (c : Dev nD) : (n : ℕ) → n < cfg0.N + 1 → sProp 𝕄
  | 0, _ => Pipeline.ΦD osem0 spec0 H0 (V m) c
  | n + 1, h => Between m c (carryAt m c ⟨n, Nat.lt_of_succ_lt_succ h⟩)

theorem Phi_zero (c : Dev nD) (n : ℕ) (hn : n < cfg0.N + 1) (h : n = 0) : Phi m c n hn = iprop(Scratch c ∗ Idle m c) := by
  subst h; exact Phi_launch m c

theorem Phi_pos (c : Dev nD) (t : Fin cfg0.N) (hn : t.val < cfg0.N + 1) (h : t.val ≠ 0) : Phi m c t.val hn = Between m c (carryAt m c (prev t)) := by
  obtain ⟨n, hn⟩ := t; cases n with | zero => exact absurd rfl h | succ n => rfl

/-- The launch's proof data: the inputs stay as fetched, the first three results' blocks are the cotangents of this block of
    positions, the last three the running sums. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxOf (iblk m c 0 t) (iblk m c 1 t) (iblk m c 3 t) (iblk m c 4 t) (iblk m c 5 t) (wuAt m c) (wdAt m c) (carried m c t)
    | ⟨7, _⟩ => dxbOf (iblk m c 0 t) (iblk m c 1 t) (iblk m c 3 t) (iblk m c 4 t) (iblk m c 5 t) (wuAt m c) (wdAt m c) (carried m c t)
    | ⟨8, _⟩ => duOf (iblk m c 0 t) (iblk m c 3 t) (iblk m c 5 t) (wdAt m c) (carried m c t)
    | ⟨9, _⟩ => dfbAt m c t
    | ⟨10, _⟩ => dfwAt m c t
    | ⟨11, _⟩ => dgAt m c t
  Φ t := Phi m c t.val t.isLt
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dxOf (iblk m c 0 t) (iblk m c 1 t) (iblk m c 3 t) (iblk m c 4 t) (iblk m c 5 t) (wuAt m c) (wdAt m c) (carried m c t) := by dsimp only [dats]
theorem after7 (c : Dev nD) (t : Fin cfg0.N) : (dats m 0 c).after 7 t = dxbOf (iblk m c 0 t) (iblk m c 1 t) (iblk m c 3 t) (iblk m c 4 t) (iblk m c 5 t) (wuAt m c) (wdAt m c) (carried m c t) := by dsimp only [dats]
theorem after8 (c : Dev nD) (t : Fin cfg0.N) : (dats m 0 c).after 8 t = duOf (iblk m c 0 t) (iblk m c 3 t) (iblk m c 5 t) (wdAt m c) (carried m c t) := by dsimp only [dats]
theorem after9 (c : Dev nD) (t : Fin cfg0.N) : (dats m 0 c).after 9 t = dfbAt m c t := by dsimp only [dats]
theorem after10 (c : Dev nD) (t : Fin cfg0.N) : (dats m 0 c).after 10 t = dfwAt m c t := by dsimp only [dats]
theorem after11 (c : Dev nD) (t : Fin cfg0.N) : (dats m 0 c).after 11 t = dgAt m c t := by dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
/-! The three sums are written back after the last point only, so every other point finds what the point before left. -/
theorem before9 (c : Dev nD) (t : Fin cfg0.N) (h0 : t.val ≠ 0) (d) : (dats m 0 c).before 9 t d = dfbAt m c (prev t) := by
  have hN : t.val < 16 := lt_of_lt_of_eq t.isLt N_0
  rw [Dat.before_out_kept _ 9 rfl t (by omega) (Bool.eq_false_iff.mpr fun h => by have := (flush0_9 _).mp h; dsimp only at this; omega)
    (fun _ => rfl) (fun _ _ => rfl)]
  dsimp only [dats]; rfl
theorem before10 (c : Dev nD) (t : Fin cfg0.N) (h0 : t.val ≠ 0) (d) : (dats m 0 c).before 10 t d = dfwAt m c (prev t) := by
  have hN : t.val < 16 := lt_of_lt_of_eq t.isLt N_0
  rw [Dat.before_out_kept _ 10 rfl t (by omega) (Bool.eq_false_iff.mpr fun h => by have := (flush0_10 _).mp h; dsimp only at this; omega)
    (fun _ => rfl) (fun _ _ => rfl)]
  dsimp only [dats]; rfl
theorem before11 (c : Dev nD) (t : Fin cfg0.N) (h0 : t.val ≠ 0) (d) : (dats m 0 c).before 11 t d = dgAt m c (prev t) := by
  have hN : t.val < 16 := lt_of_lt_of_eq t.isLt N_0
  rw [Dat.before_out_kept _ 11 rfl t (by omega) (Bool.eq_false_iff.mpr fun h => by have := (flush0_11 _).mp h; dsimp only at this; omega)
    (fun _ => rfl) (fun _ _ => rfl)]
  dsimp only [dats]; rfl

/-! ## The body at a grid point -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev ms11 (t : Fin cfg0.N) := win0_11.stage (cfg0.slots t 11)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 3200000 in
/-- The body at any grid point: the first point loads the weights, the later ones find them; the first point of a sequence
    clears the carried rows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [after0, after1, after2, after3, after4, after5, after6, after7, after8, after9, after10, after11]
  rw [show (dats m 0 c).Φ t.castSucc = Phi m c t.val (Nat.lt_succ_of_lt t.isLt) from rfl,
    show (dats m 0 c).Φ t.succ = Between m c (carryAt m c t) from rfl]
  unfold Dat.owesAt Pipeline.owesWithin
  rw [show (dats m 0 c).owed t.castSucc = 0 from rfl, show (dats m 0 c).owed t.succ = 0 from rfl]
  unfold dfbAt dfwAt dgAt
  by_cases hz : t.val = 0
  · rw [Phi_zero m c _ _ hz, sumAt_zero _ _ t hz, sumAt_zero _ _ t hz, sumAt_zero _ _ t hz]
    unfold carryAt dfbStep dfwStep dgStep carried
    rw [if_pos (show t.val % 8 = 0 by omega)]
    iintro ⟨⟨⟨HU, HD, HK⟩, Hg, ⟨Hs, Ht⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (run c (grid0.coords t) (ms0 t) _ (ms1 t) _ (ms2 t) _ (ms3 t) _ (ms4 t) _ (ms5 t) _ (ms6 t) _ (ms7 t) _ (ms8 t) _ (ms9 t) _ (ms10 t) _ (ms11 t) _
      (iblk m c 0 t) (iblk m c 1 t) (iblk m c 2 t) (iblk m c 3 t) (iblk m c 4 t) (iblk m c 5 t) k0_pay6 k0_pay7 k0_pay8 k0_pay9 (wuAt m c) (wdAt m c) _ _
      (start_first c (grid0.coords t) (ms0 t) _ (ms1 t) _ (ms2 t) _ (ms3 t) _ (ms4 t) _ (ms5 t) _ (ms6 t) _ (ms7 t) _ (ms8 t) _ (ms9 t) _ (ms10 t) _ (ms11 t) _
        (iblk m c 0 t) (iblk m c 1 t) (iblk m c 2 t) (iblk m c 3 t) (iblk m c 4 t) (iblk m c 5 t) ((first_iff t).mpr hz) ((fresh_iff t).mpr (by omega)) (V m c main_v6) W) _)
    unfold Outputs Inputs Sums Loading Loaded Weights
    isplitl [H0 H1 H2 H3 H4 H5 H9 H10 H11 HU HD HK Hs Ht Hh HW]
    · iframe
      isplitl [H9]; · iexists _; iexact H9
      isplitl [H10]; · iexists _; iexact H10
      iexists _; iexact H11
    isplitl [H6 H7 H8]
    · isplitl [H6]; · iexists _; iexact H6
      isplitl [H7]; · iexists _; iexact H7
      iexists _; iexact H8
    iintro ⟨⟨H0, H1, H2, H3, H4, H5⟩, H6, H7, H8, ⟨H9, H10, H11⟩, HK, HWt, ⟨Hs, Ht, Hh, ⟨%W', HW⟩⟩⟩
    isplitl [HWt HK Hg Hs Ht Hh]
    · unfold Between Weights Idle; icases HWt with ⟨HU, HD⟩; iframe
    isplitl [HW]
    · iexists W'; isplitr; · ipureintro; exact fun _ _ => Or.inl trivial
      iexact HW
    iframe
  · rw [Phi_pos m c t _ hz, sumAt_pos _ _ t hz, sumAt_pos _ _ t hz, sumAt_pos _ _ t hz]
    simp only [before9 m c t hz, before10 m c t hz, before11 m c t hz]
    unfold dfbStep dfwStep dgStep
    by_cases hf : t.val % 8 = 0
    · rw [show carried m c t = k0_pay9 from if_pos hf]
      iintro ⟨⟨⟨HWt, HK⟩, HI⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run c (grid0.coords t) (ms0 t) _ (ms1 t) _ (ms2 t) _ (ms3 t) _ (ms4 t) _ (ms5 t) _ (ms6 t) _ (ms7 t) _ (ms8 t) _ (ms9 t) _ (ms10 t) _ (ms11 t) _
      (iblk m c 0 t) (iblk m c 1 t) (iblk m c 2 t) (iblk m c 3 t) (iblk m c 4 t) (iblk m c 5 t) _ _ _ k0_pay9 (wuAt m c) (wdAt m c) _ _
      (start_fresh c (grid0.coords t) (ms0 t) _ (ms1 t) _ (ms2 t) _ (ms3 t) _ (ms4 t) _ (ms5 t) _ (ms6 t) _ (ms7 t) _ (ms8 t) _ (ms9 t) _ (ms10 t) _ (ms11 t) _
        (iblk m c 0 t) (iblk m c 1 t) (iblk m c 2 t) (iblk m c 3 t) (iblk m c 4 t) (iblk m c 5 t) (fun h => hz ((first_iff t).mp h)) ((fresh_iff t).mpr hf) _ _ _ (wuAt m c) (wdAt m c)) _)
      unfold Outputs Inputs Sums
      isplitl [H0 H1 H2 H3 H4 H5 H9 H10 H11 HWt HK]
      · isplitl [H0 H1 H2 H3 H4 H5]; · iframe
        isplitl [H9 H10 H11]; · iframe
        isplitl [HK]; · iexists _; iexact HK
        iexact HWt
      isplitl [H6 H7 H8]
      · isplitl [H6]; · iexists _; iexact H6
        isplitl [H7]; · iexists _; iexact H7
        iexists _; iexact H8
      iintro ⟨⟨H0, H1, H2, H3, H4, H5⟩, H6, H7, H8, ⟨H9, H10, H11⟩, HK, HWt, -⟩
      iframe
      isplitl [HWt HK HI]
      · isplitr [HI]; swap; · iexact HI
        isplitl [HWt]; · iexact HWt
        iexact HK
      isplitl [HW]; · iexact HW
      isplitl [H9]; · iexact H9
      isplitl [H10]; · iexact H10
      iexact H11
    · rw [show carried m c t = carryAt m c (prev t) from if_neg hf]
      iintro ⟨⟨⟨HWt, HK⟩, HI⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run c (grid0.coords t) (ms0 t) _ (ms1 t) _ (ms2 t) _ (ms3 t) _ (ms4 t) _ (ms5 t) _ (ms6 t) _ (ms7 t) _ (ms8 t) _ (ms9 t) _ (ms10 t) _ (ms11 t) _
      (iblk m c 0 t) (iblk m c 1 t) (iblk m c 2 t) (iblk m c 3 t) (iblk m c 4 t) (iblk m c 5 t) _ _ _ (carryAt m c (prev t)) (wuAt m c) (wdAt m c) _ _
      (start_later c (grid0.coords t) (ms0 t) _ (ms1 t) _ (ms2 t) _ (ms3 t) _ (ms4 t) _ (ms5 t) _ (ms6 t) _ (ms7 t) _ (ms8 t) _ (ms9 t) _ (ms10 t) _ (ms11 t) _
        (iblk m c 0 t) (iblk m c 1 t) (iblk m c 2 t) (iblk m c 3 t) (iblk m c 4 t) (iblk m c 5 t) (fun h => hz ((first_iff t).mp h)) (fun h => hf ((fresh_iff t).mp h)) _ _ _ _ (wuAt m c) (wdAt m c)) _)
      unfold Outputs Inputs Sums
      isplitl [H0 H1 H2 H3 H4 H5 H9 H10 H11 HWt HK]
      · iframe
      isplitl [H6 H7 H8]
      · isplitl [H6]; · iexists _; iexact H6
        isplitl [H7]; · iexists _; iexact H7
        iexists _; iexact H8
      iintro ⟨⟨H0, H1, H2, H3, H4, H5⟩, H6, H7, H8, ⟨H9, H10, H11⟩, HK, HWt, -⟩
      iframe
      isplitl [HWt HK HI]
      · isplitr [HI]; swap; · iexact HI
        isplitl [HWt]; · iexact HWt
        iexact HK
      isplitl [HW]; · iexact HW
      isplitl [H9]; · iexact H9
      isplitl [H10]; · iexact H10
      iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦD osem0 spec0 H0 (V m) c ⊢ (dats m 0 c).Φ 0 := .rfl

theorem hout (c : Dev nD) : (dats m 0 c).Φ (Fin.last cfg0.N) ⊢ Pipeline.ΦD osem0 spec0 H0 (V m) c := by
  have h15 : 15 < cfg0.N := by rw [show cfg0.N = 16 from N_0]; decide
  rw [show (dats m 0 c).Φ (Fin.last cfg0.N) = Between m c (carryAt m c ⟨15, h15⟩) from rfl, Phi_launch]
  unfold Between Weights Scratch owns
  iintro ⟨⟨⟨⟨%fu, -, HU⟩, ⟨%fd, -, HD⟩⟩, ⟨%fk, -, HK⟩⟩, Hg⟩
  isplitr [Hg]; swap; · iexact Hg
  isplitl [HU]; · iexists fu; rw [(Memref.isWhole_whole cc0_scratch0).set_eq_univ]; iexact HU
  isplitl [HD]; · iexists fd; rw [(Memref.isWhole_whole cc0_scratch1).set_eq_univ]; iexact HD
  iexists fk; rw [(Memref.isWhole_whole cc0_scratch2).set_eq_univ]; iexact HK

set_option backward.isDefEq.respectTransparency.types false in
/-- Every run ends with each array of the launch at the contents the proof data give, every other buffer as the region
    found it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays are as they were at the start. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem kept (r : PUnit × MemSt nD τ sig (Elt F)) (h : Pipeline.FramePost cfgs (dats m) 0 (V m) r) (c : Dev nD) : Kept m r c :=
  ⟨((h c).2 main_arg0 (Pipeline.mem_restRefs_of main_arg0 (by decide) (by decide))).trans (V_main_arg0 m c),
    ((h c).1 4).trans (((dats m 0 c).arrAt_in 4 rfl _).trans ((A_eq m c 4).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The frame: the arguments end as they began, every semaphore at zero. -/
theorem frame : θ_run defs (onTc (τ := τ) (main (F := F))) ⟨m, fun _ => 0, ρ⟩
    (fun r => (∀ c : Dev nD, Kept m r c) ∧ r.2.sem = fun _ => 0) :=
  (θ_run defs _ _).mono (fun r h => ⟨kept m r h.1, h.2⟩) (run_main m ρ)

end Cert.Kernel3Ideal.Ffn
-- ==== Proof.FfnArrays.lean ====
/-
  The arrays of the feed-forward layer's backward call: what its result arrays end holding in terms of the blocks, and what
  the host's lines before the call hand it.
-/
module

public import proofs.«01_k».proof.Proof.FfnFrame
public import proofs.«01_k».proof.Proof.HostRead
public import proofs.«01_k».proof.Proof.Blocks
public import proofs.«01_k».proof.Proof.Gen.Reference3Ideal.Read
public import Idealize.ShloMosaic.Lib.Pipeline.Value
public import Idealize.ShloMosaic.Lib.Pointwise

@[expose] public section

set_option maxRecDepth 16384

noncomputable section

namespace Cert.Kernel3Ideal.Ffn

open Cert.Kernel3Ideal Cert.Kernel3Ideal.Gen Cert.Gathered Cert.HostRead Cert.Blocks
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ)

theorem lt_N {n : ℕ} (h : n < 16) : n < cfg0.N := lt_of_lt_of_eq h N_0.symm
theorem lt_16 (t : Fin cfg0.N) : t.val < 16 := lt_of_lt_of_eq t.isLt N_0

/-- Grid point `n`. -/
def pt (n : ℕ) (h : n < 16) : Fin cfg0.N := ⟨n, lt_N h⟩

/-! ## Which block each window has at a grid point: the blocks are taken from the last to the first -/

theorem rows : ∀ t : Fin cfg0.N, At (win0_0.index t) (15 - t.val) ∧ At (win0_1.index t) (15 - t.val) ∧ At (win0_2.index t) (15 - t.val)
    ∧ At (win0_3.index t) (15 - t.val) ∧ At (win0_6.index t) (15 - t.val) ∧ At (win0_7.index t) (15 - t.val)
    ∧ At (win0_8.index t) (15 - t.val) :=
  (by decide +kernel : ∀ t : Fin grid0.N, _)

/-- The norm's weight, the taps and the three sums are one block each. -/
theorem single : ∀ t : Fin cfg0.N, At (win0_4.index t) 0 ∧ At (win0_5.index t) 0 ∧ At (win0_9.index t) 0 ∧ At (win0_10.index t) 0
    ∧ At (win0_11.index t) 0 :=
  (by decide +kernel : ∀ t : Fin grid0.N, _)

/-- Row `r` of point `t`'s block is row `256·(15 - t) + r` of the array: the cotangent, the layer's input, the convolution's
    input and its output. -/
theorem iblk0_apply (c : Dev nD) (t : Fin cfg0.N) (r : Fin 256) (k : Fin 1024) (R : Fin 4096) (hR : R.val = (15 - t.val) * 256 + r.val) :
    iblk m c 0 t (ix2 r k) = V m c main_v43 (ix2 R k) := congrArg (V m c main_v43) (entry (rows t).1 hR rfl rfl rfl)
theorem iblk1_apply (c : Dev nD) (t : Fin cfg0.N) (r : Fin 256) (k : Fin 1024) (R : Fin 4096) (hR : R.val = (15 - t.val) * 256 + r.val) :
    iblk m c 1 t (ix2 r k) = V m c main_v44 (ix2 R k) := congrArg (V m c main_v44) (entry (rows t).2.1 hR rfl rfl rfl)
theorem iblk2_apply (c : Dev nD) (t : Fin cfg0.N) (r : Fin 256) (k : Fin 5632) (R : Fin 4096) (hR : R.val = (15 - t.val) * 256 + r.val) :
    iblk m c 2 t (ix2 r k) = V m c main_v46 (ix2 R k) := congrArg (V m c main_v46) (entry (rows t).2.2.1 hR rfl rfl rfl)
theorem iblk3_apply (c : Dev nD) (t : Fin cfg0.N) (r : Fin 256) (k : Fin 5632) (R : Fin 4096) (hR : R.val = (15 - t.val) * 256 + r.val) :
    iblk m c 3 t (ix2 r k) = V m c main_v48 (ix2 R k) := congrArg (V m c main_v48) (entry (rows t).2.2.2.1 hR rfl rfl rfl)

theorem iblk4_apply (c : Dev nD) (t : Fin cfg0.N) (k : Fin 1024) :
    iblk m c 4 t (ix2 0 k) = (m ((c : Thread nD τ).loc main_arg1) : Vec F S1x1024 .f32) (ix2 0 k) :=
  (congrArg (V m c main_arg1) (same (single t).1 rfl rfl)).trans (congrFun (V_main_arg1 m c) _)
theorem iblk5_apply (c : Dev nD) (t : Fin cfg0.N) (i : Fin 3) (k : Fin 5632) :
    iblk m c 5 t (ix2 i k) = V m c main_v49 (ix2 i k) := congrArg (V m c main_v49) (same (single t).2.1 rfl rfl)

/-! ## What the result arrays end holding -/

/-- The point whose block has the row of `i`. -/
abbrev at_ {C : ℕ} (i : (⟨2, ![4096, C]⟩ : Shape).Idx) : Fin cfg0.N := pt (15 - (i (0 : Fin 2)).val / 256) (by omega)

/-- The number of that block. -/
theorem back {C : ℕ} (i : (⟨2, ![4096, C]⟩ : Shape).Idx) : 15 - (at_ i).val = (i (0 : Fin 2)).val / 256 := by
  have : (i (0 : Fin 2)).val < 4096 := (i (0 : Fin 2)).isLt
  show 15 - (15 - (i (0 : Fin 2)).val / 256) = _
  omega

/-- The array whose rows `256·(15 - t) …` are block `t`. -/
def tiled {α : Type} {C : ℕ} (f : Fin cfg0.N → (⟨2, ![256, C]⟩ : Shape).Idx → α) : (⟨2, ![4096, C]⟩ : Shape).Idx → α := fun i =>
  f (at_ i) (ix2 ⟨(i (0 : Fin 2)).val % 256, Nat.mod_lt _ (by decide)⟩ ⟨(i (1 : Fin 2)).val, (i (1 : Fin 2)).isLt⟩)

theorem tiled_at {α : Type} {C : ℕ} (f : Fin cfg0.N → (⟨2, ![256, C]⟩ : Shape).Idx → α) (t : Fin cfg0.N) (y : (⟨2, ![256, C]⟩ : Shape).Idx)
    (i : (⟨2, ![4096, C]⟩ : Shape).Idx)
    (h0 : (i (0 : Fin 2)).val = (15 - t.val) * 256 + (y (0 : Fin 2)).val) (h1 : (i (1 : Fin 2)).val = (y (1 : Fin 2)).val) : tiled f i = f t y := by
  have hy : (y (0 : Fin 2)).val < 256 := (y (0 : Fin 2)).isLt
  have ht := lt_16 t
  have e1 : at_ i = t := Fin.ext (show 15 - (i (0 : Fin 2)).val / 256 = t.val by omega)
  have e2 : (ix2 ⟨(i (0 : Fin 2)).val % 256, Nat.mod_lt _ (by decide)⟩ ⟨(i (1 : Fin 2)).val, (i (1 : Fin 2)).isLt⟩ : (⟨2, ![256, C]⟩ : Shape).Idx) = y :=
    funext fun a => Fin.ext (match a with
    | ⟨0, _⟩ => show (i (0 : Fin 2)).val % 256 = (y (0 : Fin 2)).val by omega
    | ⟨1, _⟩ => h1)
  unfold tiled
  rw [e1, e2]

/-- What a window stores block by block. -/
theorem of_tiles {α : Type} {C : ℕ} {f : Fin cfg0.N → (⟨2, ![256, C]⟩ : Shape).Idx → α} {t : Fin cfg0.N} {y : (⟨2, ![256, C]⟩ : Shape).Idx}
    {i : (⟨2, ![4096, C]⟩ : Shape).Idx} {n : Fin 2 → ℕ} (hn : At n (15 - t.val)) {x : α} (hx : x = f t y)
    (e0 : (i (0 : Fin 2)).val = n 0 * 256 + 1 * (y (0 : Fin 2)).val) (e1 : (i (1 : Fin 2)).val = n 1 * C + 1 * (y (1 : Fin 2)).val) : x = tiled f i :=
  hx.trans (tiled_at f t y i (row hn e0) (column hn e1)).symm

/-- The gradient of the layer's input, tile by tile. -/
theorem result0 (c : Dev nD) : (dats m 0 c).arrAt 6 cfg0.N = tiled (C := 1024) fun t => dxOf (iblk m c 0 t) (iblk m c 1 t) (iblk m c 3 t) (iblk m c 4 t) (iblk m c 5 t) (wuAt m c) (wdAt m c) (carried m c t) := by
  refine (dats m 0 c).arrAt_eq_of_cover 6 _ (fun t _ => funext fun y => of_tiles (i := ((cfg0.win 6).blk t).view.emb y) (rows t).2.2.2.2.1 rfl rfl rfl)
    (fun i => ⟨at_ i, (by decide +kernel : ∀ t : Fin grid0.N, win0_6.flush t = true) _, ?_⟩)
  show i ∈ ((View.whole main_v50_0).slice (win0_6.rect (at_ i))).set
  rw [View.set_slice_whole, Rect.mem_set_unit]
  exact inside (by decide) (rows _).2.2.2.2.1 i (back i)

/-- The same, rounded. -/
theorem result1 (c : Dev nD) : (dats m 0 c).arrAt 7 cfg0.N = tiled (C := 1024) fun t => dxbOf (iblk m c 0 t) (iblk m c 1 t) (iblk m c 3 t) (iblk m c 4 t) (iblk m c 5 t) (wuAt m c) (wdAt m c) (carried m c t) := by
  refine (dats m 0 c).arrAt_eq_of_cover 7 _ (fun t _ => funext fun y => of_tiles (i := ((cfg0.win 7).blk t).view.emb y) (rows t).2.2.2.2.2.1 rfl rfl rfl)
    (fun i => ⟨at_ i, (by decide +kernel : ∀ t : Fin grid0.N, win0_7.flush t = true) _, ?_⟩)
  show i ∈ ((View.whole main_v50_1).slice (win0_7.rect (at_ i))).set
  rw [View.set_slice_whole, Rect.mem_set_unit]
  exact inside (by decide) (rows _).2.2.2.2.2.1 i (back i)

/-- The gradient of the convolution's input, tile by tile. -/
theorem result2 (c : Dev nD) : (dats m 0 c).arrAt 8 cfg0.N = tiled (C := 5632) fun t => duOf (iblk m c 0 t) (iblk m c 3 t) (iblk m c 5 t) (wdAt m c) (carried m c t) := by
  refine (dats m 0 c).arrAt_eq_of_cover 8 _ (fun t _ => funext fun y => of_tiles (i := ((cfg0.win 8).blk t).view.emb y) (rows t).2.2.2.2.2.2 rfl rfl rfl)
    (fun i => ⟨at_ i, (by decide +kernel : ∀ t : Fin grid0.N, win0_8.flush t = true) _, ?_⟩)
  show i ∈ ((View.whole main_v50_2).slice (win0_8.rect (at_ i))).set
  rw [View.set_slice_whole, Rect.mem_set_unit]
  exact inside (by decide) (rows _).2.2.2.2.2.2 i (back i)

/-- The bias's sum after the last point. -/
theorem result3 (c : Dev nD) : (dats m 0 c).arrAt 9 cfg0.N = dfbAt m c (pt 15 (by decide)) := by
  have e (t : Fin cfg0.N) (y : S1x5632.Idx) : ((cfg0.win 9).blk t).view.emb y = y := same (single t).2.2.1 rfl rfl
  refine (dats m 0 c).arrAt_eq_of_cover 9 _ (fun t hf => funext fun y => ?_) (fun i => ⟨pt 15 (by decide), (flush0_9 _).mpr rfl, ?_⟩)
  · obtain rfl : t = pt 15 (by decide) := Fin.ext (by have := (flush0_9 t).mp hf; have := lt_16 t; show t.val = 15; omega)
    exact congrArg (dfbAt m c _) (e _ y).symm
  · have := ((cfg0.win 9).blk (pt 15 (by decide))).view.emb_mem_set i
    rwa [e] at this

/-- The taps' sums after the last point. -/
theorem result4 (c : Dev nD) : (dats m 0 c).arrAt 10 cfg0.N = dfwAt m c (pt 15 (by decide)) := by
  have e (t : Fin cfg0.N) (y : S3x5632.Idx) : ((cfg0.win 10).blk t).view.emb y = y := same (single t).2.2.2.1 rfl rfl
  refine (dats m 0 c).arrAt_eq_of_cover 10 _ (fun t hf => funext fun y => ?_) (fun i => ⟨pt 15 (by decide), (flush0_10 _).mpr rfl, ?_⟩)
  · obtain rfl : t = pt 15 (by decide) := Fin.ext (by have := (flush0_10 t).mp hf; have := lt_16 t; show t.val = 15; omega)
    exact congrArg (dfwAt m c _) (e _ y).symm
  · have := ((cfg0.win 10).blk (pt 15 (by decide))).view.emb_mem_set i
    rwa [e] at this

/-- The norm weight's sum after the last point. -/
theorem result5 (c : Dev nD) : (dats m 0 c).arrAt 11 cfg0.N = dgAt m c (pt 15 (by decide)) := by
  have e (t : Fin cfg0.N) (y : S1x1024.Idx) : ((cfg0.win 11).blk t).view.emb y = y := same (single t).2.2.2.2 rfl rfl
  refine (dats m 0 c).arrAt_eq_of_cover 11 _ (fun t hf => funext fun y => ?_) (fun i => ⟨pt 15 (by decide), (flush0_11 _).mpr rfl, ?_⟩)
  · obtain rfl : t = pt 15 (by decide) := Fin.ext (by have := (flush0_11 t).mp hf; have := lt_16 t; show t.val = 15; omega)
    exact congrArg (dgAt m c _) (e _ y).symm
  · have := ((cfg0.win 11).blk (pt 15 (by decide))).view.emb_mem_set i
    rwa [e] at this

/-! ## The host's lines before the call -/

theorem V_v43 (c : Dev nD) : (V m c main_v43 : Vec F S4096x1024 .f32)
    = shapeCast S4096x1024 (m ((c : Thread nD τ).loc main_arg6) : Vec F S2x2048x1024 .f32) shapeCasts_S2x2048x1024_S4096x1024 := by
  show StableHlo.after hostOps0 (fun b => m (c, b)) main_v43 = _
  after_results <;> rfl

theorem V_v44 (c : Dev nD) : (V m c main_v44 : Vec F S4096x1024 .f32)
    = shapeCast S4096x1024 (m ((c : Thread nD τ).loc main_arg0) : Vec F S2x2048x1024 .f32) shapeCasts_S2x2048x1024_S4096x1024 := by
  show StableHlo.after hostOps0 (fun b => m (c, b)) main_v44 = _
  after_results <;> rfl

/-- The convolution's input: the reference's, rounded. -/
theorem V_v46 (c : Dev nD) : (V m c main_v46 : Vec F S4096x5632 .bf16)
    = shapeCast S4096x5632 (truncf .bf16 (Cert.Reference3Ideal.Read.val_main_v18 (F := F)
          (m ((c : Thread nD τ).loc main_arg0)) (m ((c : Thread nD τ).loc main_arg1)) (m ((c : Thread nD τ).loc main_arg2)))
        bitsLt_bf16_f32 : Vec F S2x2048x5632 .bf16) shapeCasts_S2x2048x5632_S4096x5632 := by
  show StableHlo.after hostOps0 (fun b => m (c, b)) main_v46 = _
  after_results <;> rfl

/-- The convolution's output: the reference's, rounded. -/
theorem V_v48 (c : Dev nD) : (V m c main_v48 : Vec F S4096x5632 .bf16)
    = shapeCast S4096x5632 (truncf .bf16 (Cert.Reference3Ideal.Read.val_main_v39 (F := F)
          (m ((c : Thread nD τ).loc main_arg0)) (m ((c : Thread nD τ).loc main_arg1)) (m ((c : Thread nD τ).loc main_arg2)) (m ((c : Thread nD τ).loc main_arg3)) (m ((c : Thread nD τ).loc main_arg4)))
        bitsLt_bf16_f32 : Vec F S2x2048x5632 .bf16) shapeCasts_S2x2048x5632_S4096x5632 := by
  show StableHlo.after hostOps0 (fun b => m (c, b)) main_v48 = _
  after_results <;> rfl

/-- The taps. -/
theorem V_v49 (c : Dev nD) : (V m c main_v49 : Vec F S3x5632 .f32)
    = shapeCast S3x5632 (m ((c : Thread nD τ).loc main_arg3) : Vec F S1x3x5632 .f32) shapeCasts_S1x3x5632_S3x5632 := by
  show StableHlo.after hostOps0 (fun b => m (c, b)) main_v49 = _
  after_results <;> rfl

/-- The gathered array: the two weights under one another in each device's slice. -/
theorem V_v6 (c : Dev nD) : (V m c main_v6 : Vec F S8x1056x1024 .bf16)
    = truncf .bf16 (concatenate S8x1056x1024 1
        [⟨S8x704x1024, shapeCast S8x704x1024 (transpose S5632x1024 [1, 0] (shapeCast S1024x5632 (m ((c : Thread nD τ).loc main_arg2) : Vec F S1x1024x5632 .f32)
            shapeCasts_S1x1024x5632_S1024x5632) transposes_S1024x5632_S5632x1024_1_0) shapeCasts_S5632x1024_S8x704x1024⟩,
          ⟨S8x352x1024, shapeCast S8x352x1024 (shapeCast S2816x1024 (m ((c : Thread nD τ).loc main_arg5) : Vec F S1x2816x1024 .f32)
            shapeCasts_S1x2816x1024_S2816x1024) shapeCasts_S2816x1024_S8x352x1024⟩]
        concatenates_S8x704x1024_S8x352x1024_S8x1056x1024_d1) bitsLt_bf16_f32 := by
  show StableHlo.after hostOps0 (fun b => m (c, b)) main_v6 = _
  after_results <;> rfl

end Cert.Kernel3Ideal.Ffn
-- ==== Proof.FfnRows.lean ====
/-
  The derivative of the feed-forward layer on plain functions: a gated activation of the two halves of a row, a causal
  convolution of three rows, and the two shapes in which the activation's derivative is written, with the proof that both
  agree on finite numbers.
-/
module

public import proofs.«01_k».proof.Proof.FiniteReal
public import proofs.«01_k».proof.Proof.Tiles

@[expose] public section

noncomputable section

namespace Cert.FfnRows

open Idealize.ShloMosaic Cert.FiniteReal Cert.Tiles

/-- The number one, and the logistic function. -/
abbrev one : EReal := Ideal.ofBits .f32 0x3F800000#32
def sg (x : EReal) : EReal := Ideal.div one (one + Ideal.exp (-x))

/-- The two halves of a row of 5632 columns. -/
def left (j : Fin 2816) : Fin 5632 := ⟨j.val, by omega⟩
def right (j : Fin 2816) : Fin 5632 := ⟨2816 + j.val, by omega⟩

theorem halves {P : Fin 5632 → Prop} (h0 : ∀ j, P (left j)) (h1 : ∀ j, P (right j)) (j : Fin 5632) : P j := by
  by_cases h : j.val < 2816
  · exact h0 ⟨j.val, h⟩
  · have e : right ⟨j.val - 2816, by omega⟩ = j := Fin.ext (show 2816 + (j.val - 2816) = j.val by omega)
    exact e ▸ h1 ⟨j.val - 2816, by omega⟩

theorem sum_halves (f : Fin 5632 → EReal) : ∑ j, f j = ∑ j, f (left j) + ∑ j, f (right j) :=
  Fin.sum_univ_add (a := 2816) (b := 2816) f

/-! ## The gated activation `silu gate · value` of a row `c`, applied to a cotangent `a` -/

/-- The cotangent of the gate, in the product form and in the form of the product rule. -/
def gatePull (a v g : EReal) : EReal := a * v * (sg g * (one + g * (one - sg g)))
def plainGatePull (a v g : EReal) : EReal := a * v * sg g + g * (a * v) * (sg g * (one - sg g))

/-- The cotangents of the two halves of the row side by side. -/
def act (c : Fin 5632 → EReal) (a : Fin 2816 → EReal) (j : Fin 5632) : EReal :=
  if h : j.val < 2816 then gatePull (a ⟨j.val, h⟩) (c (right ⟨j.val, h⟩)) (c j)
  else a ⟨j.val - 2816, by omega⟩ * (c (left ⟨j.val - 2816, by omega⟩) * sg (c (left ⟨j.val - 2816, by omega⟩)))

theorem act_left (c : Fin 5632 → EReal) (a : Fin 2816 → EReal) (j : Fin 2816) : act c a (left j) = gatePull (a j) (c (right j)) (c (left j)) :=
  dif_pos j.isLt

theorem act_right (c : Fin 5632 → EReal) (a : Fin 2816 → EReal) (j : Fin 2816) : act c a (right j) = a j * (c (left j) * sg (c (left j))) := by
  refine (dif_neg (show ¬ 2816 + j.val < 2816 by omega)).trans ?_
  rw [show (⟨(right j).val - 2816, by have := (right j).isLt; omega⟩ : Fin 2816) = j from Fin.ext (show 2816 + j.val - 2816 = j.val by omega)]

theorem lit_one : one = ((1 : ℝ) : EReal) := by
  simp [Ideal.ofBits, Ideal.ieee]

theorem sg_finite {x : EReal} (hx : IsFinite x) : IsFinite (sg x) := by
  obtain ⟨r, rfl⟩ := hx
  unfold sg; rw [lit_one, ← EReal.coe_neg, Ideal.exp_coe, ← EReal.coe_add]
  have h : (1 + Real.exp (-r) : ℝ) ≠ 0 := by positivity
  rw [Ideal.div_coe h, ← EReal.coe_mul]; exact isFinite_coe _

theorem gatePulls {a v g : EReal} (ha : IsFinite a) (hv : IsFinite v) (hg : IsFinite g) : gatePull a v g = plainGatePull a v g := by
  obtain ⟨s, hs⟩ := sg_finite hg
  unfold gatePull plainGatePull; rw [hs, lit_one]
  obtain ⟨a, rfl⟩ := ha; obtain ⟨v, rfl⟩ := hv; obtain ⟨g, rfl⟩ := hg
  rw [← EReal.coe_sub]; simp only [← EReal.coe_mul, ← EReal.coe_add]
  exact congrArg _ (by ring)

theorem gatePull_finite {a v g : EReal} (ha : IsFinite a) (hv : IsFinite v) (hg : IsFinite g) : IsFinite (gatePull a v g) :=
  (ha.mul hv).mul ((sg_finite hg).mul (IsFinite.add ⟨1, lit_one⟩ (hg.mul (IsFinite.sub ⟨1, lit_one⟩ (sg_finite hg)))))

theorem act_finite {c : Fin 5632 → EReal} {a : Fin 2816 → EReal} (hc : ∀ j, IsFinite (c j)) (ha : ∀ j, IsFinite (a j)) (j : Fin 5632) : IsFinite (act c a j) := by
  revert j; refine halves (fun j => ?_) (fun j => ?_)
  · rw [act_left]; exact gatePull_finite (ha j) (hc _) (hc _)
  · rw [act_right]; exact (ha j).mul ((hc _).mul (sg_finite (hc _)))

/-! ## The causal convolution: row `i` of its output reads rows `i - 2`, `i - 1` and `i` -/

/-- The entry `d` rows further on, and zero after the last row. -/
def ahead {n : ℕ} (z : Fin n → EReal) (d : ℕ) (i : Fin n) : EReal := if h : i.val + d < n then z ⟨i.val + d, h⟩ else 0

/-- The cotangent of one entry of the convolution's input. -/
def conv {n : ℕ} (w : Fin 3 → EReal) (z : Fin n → EReal) (i : Fin n) : EReal :=
  w 2 * z i + w 1 * ahead z 1 i + w 0 * ahead z 2 i

theorem ahead_finite {n : ℕ} {z : Fin n → EReal} (hz : ∀ i, IsFinite (z i)) (d : ℕ) (i : Fin n) : IsFinite (ahead z d i) := by
  unfold ahead; split
  · exact hz _
  · exact ⟨0, rfl⟩

theorem conv_finite {n : ℕ} {w : Fin 3 → EReal} {z : Fin n → EReal} (hw : ∀ k, IsFinite (w k)) (hz : ∀ i, IsFinite (z i)) (i : Fin n) : IsFinite (conv w z i) :=
  (((hw 2).mul (hz i)).add ((hw 1).mul (ahead_finite hz 1 i))).add ((hw 0).mul (ahead_finite hz 2 i))

/-- The rows `d` back, with zeros before the first, against `z` are the rows themselves against the rows of `z` further on. -/
theorem sum_back {n : ℕ} (f z : Fin n → EReal) (d : ℕ) :
    (∑ i : Fin n, (if h : d ≤ i.val then f ⟨i.val - d, by omega⟩ else 0) * z i) = ∑ i, f i * ahead z d i := by
  have e1 : ∀ i : Fin n, (if h : d ≤ i.val then f ⟨i.val - d, by omega⟩ else 0) * z i = ∑ k : Fin n, if k.val + d = i.val then f k * z i else 0 := fun i => by
    split
    · rename_i h
      rw [Finset.sum_eq_single (⟨i.val - d, by omega⟩ : Fin n) (fun k _ hk => if_neg fun e => hk (Fin.ext (show k.val = i.val - d by omega))) (fun h' => absurd (Finset.mem_univ _) h')]
      exact (if_pos (show i.val - d + d = i.val by omega)).symm
    · rw [zero_mul]; exact (Finset.sum_eq_zero fun k _ => if_neg (by omega)).symm
  have e2 : ∀ k : Fin n, f k * ahead z d k = ∑ i : Fin n, if k.val + d = i.val then f k * z i else 0 := fun k => by
    unfold ahead; split
    · rename_i h
      rw [Finset.sum_eq_single (⟨k.val + d, h⟩ : Fin n) (fun i _ hi => if_neg fun e => hi (Fin.ext e.symm)) (fun h' => absurd (Finset.mem_univ _) h')]
      exact (if_pos rfl).symm
    · rw [mul_zero]; exact (Finset.sum_eq_zero fun i _ => if_neg (by have := i.isLt; omega)).symm
  rw [Finset.sum_congr rfl fun i _ => e1 i, Finset.sum_comm, Finset.sum_congr rfl fun k _ => (e2 k).symm]

/-! ## Rows, halves and tiles -/

/-- A row of an array of rank three. -/
abbrev row3 {n p q : ℕ} (x : (⟨3, ![n, p, q]⟩ : Shape).Idx → EReal) (b : Fin n) (t : Fin p) : Fin q → EReal := fun k => x (ix3 b t k)

/-- Rows of a block. -/
abbrev row {n p : ℕ} (x : (⟨2, ![n, p]⟩ : Shape).Idx → EReal) (r : Fin n) : Fin p → EReal := fun k => x (ix2 r k)

theorem half_left {R h : ℕ} (r : ℕ) (hr : r + h ≤ R) (ho) (y : (⟨2, ![R, 5632]⟩ : Shape).Idx → EReal) (i : Fin h) (j : Fin 2816) :
    half (R := R) (h := h) r 0 hr ho y (ix2 i j) = y (ix2 ⟨r + i.val, by omega⟩ (left j)) :=
  congrArg (fun l => y (ix2 ⟨r + i.val, by omega⟩ l)) (Fin.ext (show 0 + j.val = j.val by omega))

theorem half_right {R h : ℕ} (r : ℕ) (hr : r + h ≤ R) (ho) (y : (⟨2, ![R, 5632]⟩ : Shape).Idx → EReal) (i : Fin h) (j : Fin 2816) :
    half (R := R) (h := h) r 2816 hr ho y (ix2 i j) = y (ix2 ⟨r + i.val, by omega⟩ (right j)) := rfl

/-- The rows from the first on. -/
theorem from_zero {R : ℕ} (i : Fin R) (h : 0 + i.val < R) : (⟨0 + i.val, h⟩ : Fin R) = i := Fin.ext (Nat.zero_add _)

/-- The two halves' columns of an array tiled by its two halves. -/
theorem tiles_left {R : ℕ} (hh : 0 < R) (hw : 0 < 2816) (y : ℕ → ℕ → (⟨2, ![R, 2816]⟩ : Shape).Idx → EReal) (i : Fin R) (j : Fin 2816) :
    tiles (R := R) (C := 5632) hh hw y (ix2 i (left j)) = y 0 0 (ix2 i j) := by
  show y (i.val / R) (j.val / 2816) (ix2 (⟨i.val % R, _⟩ : Fin R) (⟨j.val % 2816, _⟩ : Fin 2816)) = _
  rw [Nat.div_eq_of_lt i.isLt, Nat.div_eq_of_lt j.isLt]
  exact congrArg (y 0 0) (congrArg₂ ix2 (Fin.ext (Nat.mod_eq_of_lt i.isLt)) (Fin.ext (Nat.mod_eq_of_lt j.isLt)))

theorem tiles_right {R : ℕ} (hh : 0 < R) (hw : 0 < 2816) (y : ℕ → ℕ → (⟨2, ![R, 2816]⟩ : Shape).Idx → EReal) (i : Fin R) (j : Fin 2816) :
    tiles (R := R) (C := 5632) hh hw y (ix2 i (right j)) = y 0 1 (ix2 i j) := by
  show y (i.val / R) ((2816 + j.val) / 2816) (ix2 (⟨i.val % R, _⟩ : Fin R) (⟨(2816 + j.val) % 2816, _⟩ : Fin 2816)) = _
  rw [Nat.div_eq_of_lt i.isLt, show (2816 + j.val) / 2816 = 1 by omega]
  exact congrArg (y 0 1) (congrArg₂ ix2 (Fin.ext (Nat.mod_eq_of_lt i.isLt)) (Fin.ext (show (2816 + j.val) % 2816 = j.val by omega)))

/-- Row `r` of tile `v` of a sequence. -/
abbrev pos (v : Fin 8) (r : Fin 256) : Fin 2048 := ⟨v.val * 256 + r.val, by omega⟩

theorem sum_tiles (f : Fin 2048 → EReal) : ∑ s, f s = ∑ v : Fin 8, ∑ r : Fin 256, f (pos v r) := by
  rw [← Equiv.sum_comp (finProdFinEquiv : Fin 8 × Fin 256 ≃ Fin 2048) f, Fintype.sum_prod_type]
  exact Finset.sum_congr rfl fun v _ => Finset.sum_congr rfl fun r _ => congrArg f (Fin.ext (show r.val + 256 * v.val = v.val * 256 + r.val by omega))

/-- A sum one of whose entries grows by `s t` at point `t`. -/
theorem sumAt_apply {ι : Type} {N : ℕ} (step : Fin N → (ι → EReal) → ι → EReal) (z : ι → EReal) (i : ι) (s : Fin N → EReal)
    (hs : ∀ t a, step t a i = a i + s t) (n : ℕ) (hn : n < N) : sumAt step z n hn i = z i + ∑ k : Fin (n + 1), s ⟨k.val, by omega⟩ := by
  induction n with
  | zero => exact (hs _ _).trans (congrArg (z i + ·) (Fin.sum_univ_one fun k : Fin 1 => s ⟨k.val, by omega⟩).symm)
  | succ n ih =>
    rw [Fin.sum_univ_castSucc, ← add_assoc]
    exact (hs _ _).trans (congrArg (· + _) (ih _))

end Cert.FfnRows
-- ==== Proof.FfnBlock.lean ====
/-
  What one grid point of the feed-forward layer's backward call computes, over the extended reals, entry by entry: each of
  its results is a row function of that point's rows and of the rows carried from the point before.
-/
module

public import proofs.«01_k».proof.Proof.FfnBody
public import proofs.«01_k».proof.Proof.FfnRows
public import Idealize.ShloMosaic.Lib.KernelVsHost

@[expose] public section

set_option maxRecDepth 16384

noncomputable section

namespace Cert.Kernel3Ideal.Ffn

open Cert.Kernel3Ideal Cert.Kernel3Ideal.Gen Cert.Gathered Cert.AttnRows Cert.FfnRows Cert.Tiles
open Idealize.ShloMosaic Idealize.ShloMosaic.TcCoe Idealize.ShloMosaic.Tactic

variable (x1 x2 : Vec Ideal S256x1024 .f32) (x3 x4 : Vec Ideal S256x5632 .bf16) (x5 : Vec Ideal S1x1024 .f32) (x7 : Vec Ideal S3x5632 .f32)
  (wu : Vec Ideal S5632x1024 .bf16) (wd : Vec Ideal S2816x1024 .bf16) (k : Vec Ideal S8x5632 .f32)
  (a : Vec Ideal S1x5632 .f32) (b : Vec Ideal S3x5632 .f32) (e : Vec Ideal S1x1024 .f32)

/-! ### The cotangent of the convolution's output -/

/-- A row of the cotangent of the convolution's output, from the rows of `x1` and `x4`. -/
abbrev z (r : Fin 256) : Fin 5632 → EReal := act (row x4 r) (back (row x1 r) (row wd))

theorem da_apply (r : Fin 256) (j : Fin 2816) : da (F := Ideal) x1 wd (ix2 r j) = back (row x1 r) (row wd) j := by
  pointwise [row, da, k0_pay12, k0_pay10]; rfl

theorem gate_apply (r : Fin 256) (j : Fin 2816) : gate (F := Ideal) x4 (ix2 r j) = x4 (ix2 r (left j)) := by
  have h := half_left (R := 256) (h := 256) 0 (by decide) (by decide) x4 r j
  rw [from_zero] at h; rw [← h]; unfold gate
  generalize half (R := 256) (h := 256) 0 0 (by decide) (by decide) x4 = y; pointwise [k0_pay13]

theorem value_apply (r : Fin 256) (j : Fin 2816) : value (F := Ideal) x4 (ix2 r j) = x4 (ix2 r (right j)) := by
  have h := half_right (R := 256) (h := 256) 0 (by decide) (by decide) x4 r j
  rw [from_zero] at h; rw [← h]; unfold value
  generalize half (R := 256) (h := 256) 0 2816 (by decide) (by decide) x4 = y; pointwise [k0_pay14]

theorem dgate_apply (r : Fin 256) (j : Fin 2816) : dgate (F := Ideal) x1 x4 wd (ix2 r j) = z x1 x4 wd r (left j) := by
  rw [z, act_left, ← da_apply]; show _ = gatePull _ (x4 (ix2 r (right j))) (x4 (ix2 r (left j))); rw [← gate_apply x4 r j, ← value_apply x4 r j]
  unfold dgate gatePull sg; generalize da x1 wd = u; generalize gate x4 = v; generalize value x4 = w
  pointwise [k0_pay16, k0_pay15]; simp only [zero_sub]

theorem dvalue_apply (r : Fin 256) (j : Fin 2816) : dvalue (F := Ideal) x1 x4 wd (ix2 r j) = z x1 x4 wd r (right j) := by
  rw [z, act_right, ← da_apply]; show _ = _ * (x4 (ix2 r (left j)) * sg (x4 (ix2 r (left j)))); rw [← gate_apply x4 r j]
  unfold dvalue sg; generalize da x1 wd = u; generalize gate x4 = v
  pointwise [k0_pay17, k0_pay15]; simp only [zero_sub]

/-- The rows of a block followed by eight carried rows, read `d` rows further on. -/
theorem rotated (s : BitVec 32) (d : ℕ) (hd : 0 < d) (hd' : d ≤ 8) (hs : s.toNat = 264 - d) (y : S256x2816.Idx → EReal) (c : S8x2816.Idx → EReal)
    (h1 h2 h3) (r : Fin 256) (j : Fin 2816) :
    extractStridedSlice S256x2816 ![0, 0] (dynamicRotate 0 s none (concatenate S264x2816 0 [⟨S256x2816, y⟩, ⟨S8x2816, c⟩] h1) h2) h3 (ix2 r j)
      = if h : r.val + d < 256 then y (ix2 ⟨r.val + d, h⟩ j) else c (ix2 ⟨r.val + d - 256, by omega⟩ j) := by
  have e : extractStridedSlice S256x2816 ![0, 0] (dynamicRotate 0 s none (concatenate S264x2816 0 [⟨S256x2816, y⟩, ⟨S8x2816, c⟩] h1) h2) h3 (ix2 r j)
      = concatenate S264x2816 0 [⟨S256x2816, y⟩, ⟨S8x2816, c⟩] h1 (ix2 ⟨r.val + d, by omega⟩ j) := by
    generalize concatenate S264x2816 0 [⟨S256x2816, y⟩, ⟨S8x2816, c⟩] h1 = q
    refine dynamicRotate_apply 0 s q h2 _ (ix2 ⟨r.val + d, by omega⟩ j) fun a => ?_
    match a with
    | ⟨0, _⟩ => show r.val + d = (0 + r.val + 264 - s.toNat % 264) % 264; rw [hs]; omega
    | ⟨1, _⟩ => show j.val = 0 + j.val; omega
  rw [e]; clear e
  pointwise []

/-- The cotangent's row `d` rows further on: past the block's last row it is a carried one. -/
def next (d : ℕ) (hd : d ≤ 8) (r : Fin 256) (j : Fin 5632) : EReal :=
  if h : r.val + d < 256 then z x1 x4 wd ⟨r.val + d, h⟩ j else k (ix2 ⟨r.val + d - 256, by omega⟩ j)

theorem next_left (d : ℕ) (hd : d ≤ 8) (r : Fin 256) (j : Fin 2816) : next x1 x4 wd k d hd r (left j)
    = if h : r.val + d < 256 then dgate (F := Ideal) x1 x4 wd (ix2 ⟨r.val + d, h⟩ j)
      else half (R := 8) (h := 8) 0 0 (by decide) (by decide) k (ix2 ⟨r.val + d - 256, by omega⟩ j) := by
  unfold next; split
  · rw [dgate_apply]
  · rw [half_left, from_zero]

theorem next_right (d : ℕ) (hd : d ≤ 8) (r : Fin 256) (j : Fin 2816) : next x1 x4 wd k d hd r (right j)
    = if h : r.val + d < 256 then dvalue (F := Ideal) x1 x4 wd (ix2 ⟨r.val + d, h⟩ j)
      else half (R := 8) (h := 8) 0 2816 (by decide) (by decide) k (ix2 ⟨r.val + d - 256, by omega⟩ j) := by
  unfold next; split
  · rw [dvalue_apply]
  · rw [half_right, from_zero]

theorem gate1_apply (r : Fin 256) (j : Fin 2816) : gate1 (F := Ideal) x1 x4 wd k (ix2 r j) = next x1 x4 wd k 1 (by decide) r (left j) := by
  rw [next_left]; unfold gate1 k0_pay22 k0_pay20; exact rotated 263#32 1 (by decide) (by decide) rfl (dgate x1 x4 wd) _ _ _ _ r j
theorem gate2_apply (r : Fin 256) (j : Fin 2816) : gate2 (F := Ideal) x1 x4 wd k (ix2 r j) = next x1 x4 wd k 2 (by decide) r (left j) := by
  rw [next_left]; unfold gate2 k0_pay23 k0_pay20; exact rotated 262#32 2 (by decide) (by decide) rfl (dgate x1 x4 wd) _ _ _ _ r j
theorem value1_apply (r : Fin 256) (j : Fin 2816) : value1 (F := Ideal) x1 x4 wd k (ix2 r j) = next x1 x4 wd k 1 (by decide) r (right j) := by
  rw [next_right]; unfold value1 k0_pay34 k0_pay32; exact rotated 263#32 1 (by decide) (by decide) rfl (dvalue x1 x4 wd) _ _ _ _ r j
theorem value2_apply (r : Fin 256) (j : Fin 2816) : value2 (F := Ideal) x1 x4 wd k (ix2 r j) = next x1 x4 wd k 2 (by decide) r (right j) := by
  rw [next_right]; unfold value2 k0_pay35 k0_pay32; exact rotated 262#32 2 (by decide) (by decide) rfl (dvalue x1 x4 wd) _ _ _ _ r j

/-! ### The cotangent of the convolution's input -/

/-- A row of the cotangent of the convolution's input. -/
def du (r : Fin 256) (j : Fin 5632) : EReal :=
  x7 (ix2 2 j) * z x1 x4 wd r j + x7 (ix2 1 j) * next x1 x4 wd k 1 (by decide) r j + x7 (ix2 0 j) * next x1 x4 wd k 2 (by decide) r j

theorem duleft_apply (r : Fin 256) (j : Fin 2816) : duleft (F := Ideal) x1 x4 x7 wd k (ix2 r j) = du x1 x4 x7 wd k r (left j) := by
  have t2 := half_left (R := 3) (h := 1) 2 (by decide) (by decide) x7 0 j
  have t1 := half_left (R := 3) (h := 1) 1 (by decide) (by decide) x7 0 j
  have t0 := half_left (R := 3) (h := 1) 0 (by decide) (by decide) x7 0 j
  unfold du; rw [← dgate_apply, ← gate1_apply, ← gate2_apply]; unfold duleft
  generalize half (R := 3) (h := 1) 2 0 (by decide) (by decide) x7 = w2 at *
  generalize half (R := 3) (h := 1) 1 0 (by decide) (by decide) x7 = w1 at *
  generalize half (R := 3) (h := 1) 0 0 (by decide) (by decide) x7 = w0 at *
  refine Eq.trans ?_ (congrArg₂ (· + ·) (congrArg₂ (· + ·) (congrArg (· * _) t2) (congrArg (· * _) t1)) (congrArg (· * _) t0))
  generalize dgate x1 x4 wd = s0; generalize gate1 x1 x4 wd k = s1; generalize gate2 x1 x4 wd k = s2
  pointwise [k0_pay28, k0_pay24]

theorem dusum_apply (r : Fin 256) (j : Fin 2816) : dusum (F := Ideal) x1 x4 x7 wd k (ix2 r j) = du x1 x4 x7 wd k r (right j) := by
  have t2 := half_right (R := 3) (h := 1) 2 (by decide) (by decide) x7 0 j
  have t1 := half_right (R := 3) (h := 1) 1 (by decide) (by decide) x7 0 j
  have t0 := half_right (R := 3) (h := 1) 0 (by decide) (by decide) x7 0 j
  unfold du; rw [← dvalue_apply, ← value1_apply, ← value2_apply]; unfold dusum value1 value2
  generalize half (R := 3) (h := 1) 2 2816 (by decide) (by decide) x7 = w2 at *
  generalize half (R := 3) (h := 1) 1 2816 (by decide) (by decide) x7 = w1 at *
  generalize half (R := 3) (h := 1) 0 2816 (by decide) (by decide) x7 = w0 at *
  refine Eq.trans ?_ (congrArg₂ (· + ·) (congrArg₂ (· + ·) (congrArg (· * _) t2) (congrArg (· * _) t1)) (congrArg (· * _) t0))
  unfold k0_pay36
  generalize k0_pay34 (dvalue x1 x4 wd) (half 0 2816 _ _ k) = s1; generalize k0_pay35 (dvalue x1 x4 wd) (half 0 2816 _ _ k) = s2
  generalize dvalue x1 x4 wd = s0
  pointwise []

theorem duOf_apply (r : Fin 256) (j : Fin 5632) : duOf (F := Ideal) x1 x4 x7 wd k (ix2 r j) = du x1 x4 x7 wd k r j := by
  revert j; refine halves (fun j => ?_) (fun j => ?_)
  · unfold duOf; rw [tiles_left, ← duleft_apply]; rfl
  · unfold duOf; rw [tiles_right, ← dusum_apply]; rfl

/-! ### Through the up projection and the norm -/

/-- A row of the cotangent of the normalised input. -/
def dh (r : Fin 256) (c : Fin 1024) : EReal := ∑ j, du x1 x4 x7 wd k r j * wu (ix2 j c)

theorem dhOf_apply (r : Fin 256) (c : Fin 1024) : dhOf (F := Ideal) x1 x4 x7 wu wd k (ix2 r c) = dh x1 x4 x7 wu wd k r c := by
  unfold dh; rw [sum_halves]
  simp only [← duleft_apply, ← dusum_apply]
  have p0 : ∀ j : Fin 2816, part (h := 2816) (w := 1024) 0 0 (by decide) (by decide) wu (ix2 j c) = wu (ix2 (left j) c) := fun j =>
    congrArg₂ (fun p q => wu (ix2 p q)) (Fin.ext (Nat.zero_add _)) (Fin.ext (Nat.zero_add _))
  have p1 : ∀ j : Fin 2816, part (h := 2816) (w := 1024) 2816 0 (by decide) (by decide) wu (ix2 j c) = wu (ix2 (right j) c) := fun j =>
    congrArg (fun q => wu (ix2 (right j) q)) (Fin.ext (Nat.zero_add _))
  simp only [← p0, ← p1]
  unfold dhOf
  generalize part (h := 2816) (w := 1024) 0 0 (by decide) (by decide) wu = w0; generalize part (h := 2816) (w := 1024) 2816 0 (by decide) (by decide) wu = w1
  generalize duleft x1 x4 x7 wd k = s0; generalize dusum x1 x4 x7 wd k = s1
  pointwise [k0_pay41, k0_pay40, k0_pay29, k0_pay11]

theorem dxOf_apply (r : Fin 256) (c : Fin 1024) : dxOf (F := Ideal) x1 x2 x4 x5 x7 wu wd k (ix2 r c)
    = x1 (ix2 r c) + dnorm (row x2 r) (row x5 0) (dh x1 x4 x7 wu wd k r) c := by
  rw [← show row (dhOf (F := Ideal) x1 x4 x7 wu wd k) r = dh x1 x4 x7 wu wd k r from funext fun c => dhOf_apply ..]
  unfold dxOf dnorm Cert.AttnRows.inv; generalize dhOf x1 x4 x7 wu wd k = s
  pointwise [row, k0_pay4, k0_pay1, k0_pay2, k0_pay10, k0_pay42, k0_pay43]

theorem dxbOf_eq : dxbOf (F := Ideal) x1 x2 x4 x5 x7 wu wd k = dxOf (F := Ideal) x1 x2 x4 x5 x7 wu wd k := funext fun y => by
  unfold dxbOf dxOf k0_pay5; rfl

/-! ### The sums -/

theorem dgOf_apply (c : Fin 1024) : dgOf (F := Ideal) x1 x2 x4 x7 wu wd k e (ix2 0 c)
    = e (ix2 0 c) + ∑ r, dh x1 x4 x7 wu wd k r c * (x2 (ix2 r c) * Cert.AttnRows.inv (row x2 r)) := by
  simp only [← dhOf_apply]
  unfold dgOf Cert.AttnRows.inv; generalize dhOf x1 x4 x7 wu wd k = s
  pointwise [row, k0_pay3, k0_pay1, k0_pay2, k0_pay42, k0_pay43]

theorem dfbOf_apply (j : Fin 5632) : dfbOf (F := Ideal) x1 x4 wd a (ix2 0 j) = a (ix2 0 j) + ∑ r, z x1 x4 wd r j := by
  revert j; refine halves (fun j => ?_) (fun j => ?_)
  · simp only [← dgate_apply]
    refine Eq.trans ?_ (congrArg (· + _) (half_left (R := 1) (h := 1) 0 (by decide) (by decide) a 0 j))
    unfold dfbOf; rw [tiles_left]; unfold dfbBlocks k0_pay19; rw [if_pos rfl]; unfold dgate
    generalize half (R := 1) (h := 1) 0 0 (by decide) (by decide) a = v; generalize k0_pay16 (da x1 wd) (gate x4) (value x4) zero = s
    pointwise []
  · simp only [← dvalue_apply]
    refine Eq.trans ?_ (congrArg (· + _) (half_right (R := 1) (h := 1) 0 (by decide) (by decide) a 0 j))
    unfold dfbOf; rw [tiles_right]; unfold dfbBlocks; rw [if_neg (by decide)]
    generalize half (R := 1) (h := 1) 0 2816 (by decide) (by decide) a = v; generalize dvalue x1 x4 wd = s
    pointwise [k0_pay31]

/-- The two halves' columns of three rows, each tiled by its two halves. -/
theorem taps_left (hh : 0 < 1) (hw : 0 < 2816) (y : ℕ → ℕ → (⟨2, ![1, 2816]⟩ : Shape).Idx → EReal) (i : Fin 3) (j : Fin 2816) :
    tiles (R := 3) (C := 5632) hh hw y (ix2 i (left j)) = y i.val 0 (ix2 0 j) := by
  show y (i.val / 1) (j.val / 2816) (ix2 (⟨i.val % 1, _⟩ : Fin 1) (⟨j.val % 2816, _⟩ : Fin 2816)) = _
  rw [Nat.div_one, Nat.div_eq_of_lt j.isLt]
  exact congrArg (y i.val 0) (congrArg₂ ix2 (Fin.ext (Nat.mod_one _)) (Fin.ext (Nat.mod_eq_of_lt j.isLt)))

theorem taps_right (hh : 0 < 1) (hw : 0 < 2816) (y : ℕ → ℕ → (⟨2, ![1, 2816]⟩ : Shape).Idx → EReal) (i : Fin 3) (j : Fin 2816) :
    tiles (R := 3) (C := 5632) hh hw y (ix2 i (right j)) = y i.val 1 (ix2 0 j) := by
  show y (i.val / 1) ((2816 + j.val) / 2816) (ix2 (⟨i.val % 1, _⟩ : Fin 1) (⟨(2816 + j.val) % 2816, _⟩ : Fin 2816)) = _
  rw [Nat.div_one, show (2816 + j.val) / 2816 = 1 by omega]
  exact congrArg (y i.val 1) (congrArg₂ ix2 (Fin.ext (Nat.mod_one _)) (Fin.ext (show (2816 + j.val) % 2816 = j.val by omega)))

theorem uleft_apply (r : Fin 256) (j : Fin 2816) : uleft (F := Ideal) x3 (ix2 r j) = x3 (ix2 r (left j)) := by
  have h := half_left (R := 256) (h := 256) 0 (by decide) (by decide) x3 r j
  rw [from_zero] at h; rw [← h]; unfold uleft
  generalize half (R := 256) (h := 256) 0 0 (by decide) (by decide) x3 = y; pointwise [k0_pay18]

theorem uright_apply (r : Fin 256) (j : Fin 2816) : uright (F := Ideal) x3 (ix2 r j) = x3 (ix2 r (right j)) := by
  have h := half_right (R := 256) (h := 256) 0 (by decide) (by decide) x3 r j
  rw [from_zero] at h; rw [← h]; unfold uright
  generalize half (R := 256) (h := 256) 0 2816 (by decide) (by decide) x3 = y; pointwise [k0_pay30]

theorem next_zero (r : Fin 256) (j : Fin 5632) : next x1 x4 wd k 0 (by decide) r j = z x1 x4 wd r j := dif_pos r.isLt

/-- Six sums of products, each added to a row. -/
theorem tap_sums (u v : FVec Ideal S256x2816 .f32) (y : Vec Ideal S1x2816 .f32) (j : Fin 2816) :
    (k0_pay25 (F := Ideal) v u y (ix2 0 j) = y (ix2 0 j) + ∑ r, u (ix2 r j) * v (ix2 r j)
      ∧ k0_pay26 (F := Ideal) u v y (ix2 0 j) = y (ix2 0 j) + ∑ r, u (ix2 r j) * v (ix2 r j)
      ∧ k0_pay27 (F := Ideal) u v y (ix2 0 j) = y (ix2 0 j) + ∑ r, u (ix2 r j) * v (ix2 r j))
    ∧ k0_pay37 (F := Ideal) v u y (ix2 0 j) = y (ix2 0 j) + ∑ r, u (ix2 r j) * v (ix2 r j)
      ∧ k0_pay38 (F := Ideal) u v y (ix2 0 j) = y (ix2 0 j) + ∑ r, u (ix2 r j) * v (ix2 r j)
      ∧ k0_pay39 (F := Ideal) u v y (ix2 0 j) = y (ix2 0 j) + ∑ r, u (ix2 r j) * v (ix2 r j) := by
  refine ⟨⟨?_, ?_, ?_⟩, ?_, ?_, ?_⟩
  · pointwise [k0_pay25]
  · pointwise [k0_pay26]
  · pointwise [k0_pay27]
  · pointwise [k0_pay37]
  · pointwise [k0_pay38]
  · pointwise [k0_pay39]

theorem dfwOf_apply (i : Fin 3) (j : Fin 5632) : dfwOf (F := Ideal) x1 x3 x4 wd k b (ix2 i j)
    = b (ix2 i j) + ∑ r, x3 (ix2 r j) * next x1 x4 wd k (2 - i.val) (by omega) r j := by
  revert j; refine halves (fun j => ?_) (fun j => ?_)
  · unfold dfwOf; rw [taps_left]; unfold dfwBlocks; rw [if_pos rfl]
    simp only [← uleft_apply]
    match i with
    | ⟨0, _⟩ => rw [if_pos rfl, (tap_sums _ _ _ j).1.2.2, half_left]; simp only [gate2_apply]; rfl
    | ⟨1, _⟩ => rw [if_neg (show ¬ (1 : ℕ) = 0 by decide), if_pos rfl, (tap_sums _ _ _ j).1.2.1, half_left]; simp only [gate1_apply]; rfl
    | ⟨2, _⟩ => rw [if_neg (show ¬ (2 : ℕ) = 0 by decide), if_neg (show ¬ (2 : ℕ) = 1 by decide), (tap_sums _ _ _ j).1.1, half_left]; simp only [dgate_apply, ← next_zero x1 x4 wd k]; rfl
  · unfold dfwOf; rw [taps_right]; unfold dfwBlocks; rw [if_neg (by decide)]
    simp only [← uright_apply]
    match i with
    | ⟨0, _⟩ => rw [if_pos rfl, (tap_sums _ _ _ j).2.2.2, half_right]; simp only [value2_apply]; rfl
    | ⟨1, _⟩ => rw [if_neg (show ¬ (1 : ℕ) = 0 by decide), if_pos rfl, (tap_sums _ _ _ j).2.2.1, half_right]; simp only [value1_apply]; rfl
    | ⟨2, _⟩ => rw [if_neg (show ¬ (2 : ℕ) = 0 by decide), if_neg (show ¬ (2 : ℕ) = 1 by decide), (tap_sums _ _ _ j).2.1, half_right]; simp only [dvalue_apply, ← next_zero x1 x4 wd k]; rfl

/-- The carried rows are the block's first. -/
theorem carryOf_apply (i : Fin 8) (j : Fin 5632) : carryOf (F := Ideal) x1 x4 wd (ix2 i j) = z x1 x4 wd ⟨i.val, by omega⟩ j := by
  revert j; refine halves (fun j => ?_) (fun j => ?_)
  · rw [← dgate_apply]; unfold carryOf; rw [tiles_left]; unfold carryBlocks k0_pay21; rw [if_pos rfl]; unfold dgate
    generalize k0_pay16 (da x1 wd) (gate x4) (value x4) zero = s
    pointwise []
  · rw [← dvalue_apply]; unfold carryOf; rw [tiles_right]; unfold carryBlocks; rw [if_neg (by decide)]
    generalize dvalue x1 x4 wd = s
    pointwise [k0_pay33]

end Cert.Kernel3Ideal.Ffn
-- ==== Proof.FfnRef.lean ====
/-
  The reference of the feed-forward layer's backward call, read entry by entry: each of its results in terms of the
  convolution's input and output, the weights, and the cotangent, in the shape in which the forward lines are differentiated.
-/
module

public import proofs.«01_k».proof.Proof.FfnRows
public import proofs.«01_k».proof.Proof.HostRead
public import proofs.«01_k».proof.Proof.Gen.Reference3Ideal.Read
public import Idealize.ShloMosaic.Lib.KernelVsHost

@[expose] public section

set_option maxRecDepth 16384

noncomputable section

namespace Cert.Reference3Ideal.Ffn

open Cert.Reference3Ideal Cert.Reference3Ideal.Gen Cert.Reference3Ideal.Read Cert.AttnRows Cert.FfnRows Cert.HostRead
open Idealize.ShloMosaic Idealize.ShloMosaic.TcCoe Idealize.ShloMosaic.Tactic

variable (x0 : Vec Ideal S2x2048x1024 .f32) (x1 : Vec Ideal S1x1024 .f32) (x2 : Vec Ideal S1x1024x5632 .f32) (x3 : Vec Ideal S1x3x5632 .f32)
  (x4 : Vec Ideal S1x5632 .f32) (x5 : Vec Ideal S1x2816x1024 .f32) (x6 : Vec Ideal S2x2048x1024 .f32)

/-- The convolution's input and output, the cotangent through the down projection, and the cotangent of the convolution's output. -/
abbrev uu (b : Fin 2) (i : Fin 2048) : Fin 5632 → EReal := row3 (val_main_v18 (F := Ideal) x0 x1 x2) b i
abbrev cc (b : Fin 2) (i : Fin 2048) : Fin 5632 → EReal := row3 (val_main_v39 (F := Ideal) x0 x1 x2 x3 x4) b i
abbrev dd (b : Fin 2) (i : Fin 2048) : Fin 2816 → EReal := back (row3 x6 b i) (row3 x5 0)
abbrev zz (b : Fin 2) (i : Fin 2048) : Fin 5632 → EReal := row3 (val_main_v50 (F := Ideal) x0 x1 x2 x3 x4 x5 x6) b i

/-- The weights and the taps without their leading unit axis. -/
theorem v17_apply (c : Fin 1024) (k : Fin 5632) : val_main_v17 (F := Ideal) x2 (ix2 c k) = x2 (ix3 0 c k) := by
  rw [val_main_v17_apply]
  exact congrArg _ (funext fun a => Fin.ext (match a with
    | ⟨0, _⟩ => rfl
    | ⟨1, _⟩ => show (c.val * 5632 + k.val) / 5632 % 1024 = c.val by omega
    | ⟨2, _⟩ => show (c.val * 5632 + k.val) % 5632 = k.val by omega))

theorem v44_apply (c : Fin 2816) (k : Fin 1024) : val_main_v44 (F := Ideal) x5 (ix2 c k) = x5 (ix3 0 c k) := by
  rw [val_main_v44_apply]
  exact congrArg _ (funext fun a => Fin.ext (match a with
    | ⟨0, _⟩ => rfl
    | ⟨1, _⟩ => show (c.val * 1024 + k.val) / 1024 % 2816 = c.val by omega
    | ⟨2, _⟩ => show (c.val * 1024 + k.val) % 1024 = k.val by omega))

/-! ## The gated activation -/

theorem v46_apply (b : Fin 2) (i : Fin 2048) (j : Fin 2816) : val_main_v46 (F := Ideal) x5 x6 (ix3 b i j) = dd x5 x6 b i j := by
  unfold dd back; simp only [row3, ← v44_apply]; unfold val_main_v46
  generalize val_main_v44 (F := Ideal) x5 = y; pointwise []

theorem v40_apply (b : Fin 2) (i : Fin 2048) (j : Fin 2816) : val_main_v40 (F := Ideal) x0 x1 x2 x3 x4 (ix3 b i j) = cc x0 x1 x2 x3 x4 b i (left j) := by
  rw [val_main_v40_apply]; exact congrArg _ (eq_ix3 _)
theorem v41_apply (b : Fin 2) (i : Fin 2048) (j : Fin 2816) : val_main_v41 (F := Ideal) x0 x1 x2 x3 x4 (ix3 b i j) = cc x0 x1 x2 x3 x4 b i (right j) := by
  rw [val_main_v41_apply]; exact congrArg _ (eq_ix3 _)

theorem v42_2_apply (b : Fin 2) (i : Fin 2048) (j : Fin 2816) : val_main_v42_2 (F := Ideal) x0 x1 x2 x3 x4 (ix3 b i j) = sg (cc x0 x1 x2 x3 x4 b i (left j)) := by
  rw [← v40_apply]; unfold sg val_main_v42_2 val_main_call0_v3 val_main_call0_v1 val_main_call0_v0
  generalize val_main_v40 (F := Ideal) x0 x1 x2 x3 x4 = y
  pointwise [val_main_call0_v4, val_main_call0_v2, val_main_call0_cst, val_main_call0_cst_0]

theorem v47_apply (b : Fin 2) (i : Fin 2048) (j : Fin 2816) : val_main_v47 (F := Ideal) x0 x1 x2 x3 x4 x5 x6 (ix3 b i j)
    = dd x5 x6 b i j * (cc x0 x1 x2 x3 x4 b i (left j) * sg (cc x0 x1 x2 x3 x4 b i (left j))) := by
  rw [← v42_2_apply, ← v40_apply, ← v46_apply, mul_comm]; unfold val_main_v47 val_main_v42_0
  generalize val_main_v40 (F := Ideal) x0 x1 x2 x3 x4 = y; generalize val_main_v42_2 (F := Ideal) x0 x1 x2 x3 x4 = w
  generalize val_main_v46 (F := Ideal) x5 x6 = v; pointwise []

theorem v49_apply (b : Fin 2) (i : Fin 2048) (j : Fin 2816) : val_main_v49 (F := Ideal) x0 x1 x2 x3 x4 x5 x6 (ix3 b i j)
    = plainGatePull (dd x5 x6 b i j) (cc x0 x1 x2 x3 x4 b i (right j)) (cc x0 x1 x2 x3 x4 b i (left j)) := by
  unfold plainGatePull
  rw [← v42_2_apply, ← v40_apply, ← v41_apply, ← v46_apply]
  unfold val_main_v49 val_main_call1_v2 val_main_call1_v1 val_main_call1_v0 val_main_v48 val_main_v42_1 val_main_call0_v7
  generalize val_main_v40 (F := Ideal) x0 x1 x2 x3 x4 = y; generalize val_main_v42_2 (F := Ideal) x0 x1 x2 x3 x4 = w
  generalize val_main_v46 (F := Ideal) x5 x6 = v; generalize val_main_v41 (F := Ideal) x0 x1 x2 x3 x4 = u
  pointwise [val_main_call0_v6, val_main_call0_cst_1]

theorem zz_left (b : Fin 2) (i : Fin 2048) (j : Fin 2816) : zz x0 x1 x2 x3 x4 x5 x6 b i (left j)
    = plainGatePull (dd x5 x6 b i j) (cc x0 x1 x2 x3 x4 b i (right j)) (cc x0 x1 x2 x3 x4 b i (left j)) := by
  rw [← v49_apply]; unfold zz row3 val_main_v50
  generalize val_main_v49 (F := Ideal) x0 x1 x2 x3 x4 x5 x6 = y; generalize val_main_v47 (F := Ideal) x0 x1 x2 x3 x4 x5 x6 = w
  pointwise []
  exact (dif_pos j.isLt).trans rfl

theorem zz_right (b : Fin 2) (i : Fin 2048) (j : Fin 2816) : zz x0 x1 x2 x3 x4 x5 x6 b i (right j)
    = dd x5 x6 b i j * (cc x0 x1 x2 x3 x4 b i (left j) * sg (cc x0 x1 x2 x3 x4 b i (left j))) := by
  rw [← v47_apply]; unfold zz row3 val_main_v50
  generalize val_main_v49 (F := Ideal) x0 x1 x2 x3 x4 x5 x6 = y; generalize val_main_v47 (F := Ideal) x0 x1 x2 x3 x4 x5 x6 = w
  pointwise []
  refine (dif_neg (show ¬ 2816 + j.val < 2816 by omega)).trans ?_
  exact congrArg (fun q => w (ix3 b i q)) (Fin.ext (show 2816 + j.val - 2816 = j.val by omega))

/-- The cotangent of the convolution's output, where everything is finite. -/
theorem zz_act (hc : ∀ b i j, FiniteReal.IsFinite (cc x0 x1 x2 x3 x4 b i j)) (hd : ∀ b i j, FiniteReal.IsFinite (dd x5 x6 b i j)) (b : Fin 2) (i : Fin 2048) (j : Fin 5632) :
    zz x0 x1 x2 x3 x4 x5 x6 b i j = act (cc x0 x1 x2 x3 x4 b i) (dd x5 x6 b i) j := by
  revert j; refine halves (fun j => ?_) (fun j => ?_)
  · rw [zz_left, act_left, gatePulls (hd b i j) (hc b i _) (hc b i _)]
  · rw [zz_right, act_right]

/-! ## The convolution -/

/-- An array padded with rows before and after. -/
theorem pad_rows {B n N C lo hi : ℕ} (x : (⟨3, ![B, n, C]⟩ : Shape).Idx → EReal) {u : Shape} (v : u.Idx → EReal)
    (h : (⟨3, ![B, n, C]⟩ : Shape).Pads ![0, lo, 0] ![0, hi, 0] ![0, 0, 0] ⟨3, ![B, N, C]⟩) (hu : 0 < u.numel) (hv : v (Shape.Idx.first hu) = 0)
    (b : Fin B) (i : Fin N) (j : Fin C) :
    pad ⟨3, ![B, N, C]⟩ ![0, lo, 0] ![0, hi, 0] ![0, 0, 0] x v h hu (ix3 b i j)
      = if h : lo ≤ i.val ∧ i.val - lo < n then x (ix3 b ⟨i.val - lo, h.2⟩ j) else 0 := by
  split
  · rename_i hh
    refine pad_apply_of_inside _ _ _ x v h hu _ (ix3 b ⟨i.val - lo, hh.2⟩ j) fun a => ?_
    match a with
    | ⟨0, _⟩ => show b.val = 0 + b.val * 1; omega
    | ⟨1, _⟩ => show i.val = lo + (i.val - lo) * 1; omega
    | ⟨2, _⟩ => show j.val = 0 + j.val * 1; omega
  · rename_i hh
    refine (pad_apply_of_not_inside _ _ _ x v h hu _ (1 : Fin 3) fun hc => hh ?_).trans hv
    have h2 : (i.val - lo) / 1 < n := hc.2.2
    exact ⟨hc.1, by omega⟩

theorem tap_apply (b : Fin 2) (i : Fin 2048) (j : Fin 5632) : val_main_v57 (F := Ideal) x3 (ix3 b i j) = x3 (ix3 0 2 j)
    ∧ val_main_v64 (F := Ideal) x3 (ix3 b i j) = x3 (ix3 0 1 j) ∧ val_main_v73 (F := Ideal) x3 (ix3 b i j) = x3 (ix3 0 0 j) := by
  refine ⟨?_, ?_, ?_⟩
  · rw [val_main_v57_apply, val_main_v33_apply]; exact congrArg _ (eq_ix3 _)
  · rw [val_main_v64_apply, val_main_v28_apply]; exact congrArg _ (eq_ix3 _)
  · rw [val_main_v73_apply, val_main_v24_apply]; exact congrArg _ (eq_ix3 _)

/-- The cotangent of the convolution's input. -/
theorem v80_apply (b : Fin 2) (i : Fin 2048) (j : Fin 5632) : val_main_v80 (F := Ideal) x0 x1 x2 x3 x4 x5 x6 (ix3 b i j)
    = conv (fun k => x3 (ix3 0 k j)) (fun i => zz x0 x1 x2 x3 x4 x5 x6 b i j) i := by
  have hi := i.isLt
  have e : idx_main_v80 (ix3 b i j) = ix3 b ⟨2 + i.val, by omega⟩ j := eq_ix3 _
  have e60 : val_main_v60 (F := Ideal) x0 x1 x2 x3 x4 x5 x6 (ix3 b ⟨2 + i.val, by omega⟩ j) = x3 (ix3 0 2 j) * zz x0 x1 x2 x3 x4 x5 x6 b i j := by
    unfold val_main_v60
    rw [pad_rows _ _ _ _ (by pointwise [val_main_cst_9]), dif_pos ⟨by dsimp only; omega, by dsimp only; omega⟩, val_main_v58_apply, (tap_apply x3 _ _ _).1]
    rw [show (⟨(⟨2 + i.val, by omega⟩ : Fin 2050).val - 2, by dsimp only; omega⟩ : Fin 2048) = i from Fin.ext (show 2 + i.val - 2 = i.val by omega)]
    exact mul_comm _ _
  have e68 : val_main_v68 (F := Ideal) x0 x1 x2 x3 x4 x5 x6 (ix3 b ⟨2 + i.val, by omega⟩ j) = x3 (ix3 0 1 j) * ahead (fun i => zz x0 x1 x2 x3 x4 x5 x6 b i j) 1 i := by
    unfold val_main_v68 ahead
    rw [pad_rows _ _ _ _ (by pointwise [val_main_cst_12])]
    by_cases h : i.val + 1 < 2048
    · rw [dif_pos h, dif_pos ⟨by dsimp only; omega, by dsimp only; omega⟩, val_main_v65_apply, (tap_apply x3 _ _ _).2.1]
      rw [show (⟨(⟨2 + i.val, by omega⟩ : Fin 2050).val - 1, by dsimp only; omega⟩ : Fin 2048) = ⟨i.val + 1, h⟩ from Fin.ext (show 2 + i.val - 1 = i.val + 1 by omega)]
      exact mul_comm _ _
    · rw [dif_neg h, dif_neg (fun hc => h (by have := hc.2; dsimp only at this; omega)), mul_zero]
  have e77 : val_main_v77 (F := Ideal) x0 x1 x2 x3 x4 x5 x6 (ix3 b ⟨2 + i.val, by omega⟩ j) = x3 (ix3 0 0 j) * ahead (fun i => zz x0 x1 x2 x3 x4 x5 x6 b i j) 2 i := by
    unfold val_main_v77 ahead
    rw [pad_rows _ _ _ _ (by pointwise [val_main_cst_15])]
    by_cases h : i.val + 2 < 2048
    · rw [dif_pos h, dif_pos ⟨by dsimp only; omega, by dsimp only; omega⟩, val_main_v74_apply, (tap_apply x3 _ _ _).2.2]
      rw [show (⟨(⟨2 + i.val, by omega⟩ : Fin 2050).val - 0, by dsimp only; omega⟩ : Fin 2048) = ⟨i.val + 2, h⟩ from Fin.ext (show 2 + i.val - 0 = i.val + 2 by omega)]
      exact mul_comm _ _
    · rw [dif_neg h, dif_neg (fun hc => h (by have := hc.2; dsimp only at this; omega)), mul_zero]
  rw [val_main_v80_apply, e, val_main_v78_apply, val_main_v69_apply, e60, e68, e77]; rfl

/-- The input's rows with two rows of zeros before them, read from the row before the last but one on. -/
theorem back_apply (b : Fin 2) (i : Fin 2048) (j : Fin 5632) :
    val_main_v32 (F := Ideal) x0 x1 x2 (ix3 b i j) = (if h : 0 ≤ i.val then uu x0 x1 x2 b ⟨i.val - 0, by omega⟩ j else 0)
    ∧ val_main_v27 (F := Ideal) x0 x1 x2 (ix3 b i j) = (if h : 1 ≤ i.val then uu x0 x1 x2 b ⟨i.val - 1, by omega⟩ j else 0)
    ∧ val_main_v23 (F := Ideal) x0 x1 x2 (ix3 b i j) = (if h : 2 ≤ i.val then uu x0 x1 x2 b ⟨i.val - 2, by omega⟩ j else 0) := by
  have e : ∀ q : Fin 2050, val_main_v21 (F := Ideal) x0 x1 x2 (ix3 b q j) = if h : q.val < 2 then 0 else uu x0 x1 x2 b ⟨q.val - 2, by omega⟩ j := fun q => by
    unfold uu row3 val_main_v21
    generalize val_main_v18 (F := Ideal) x0 x1 x2 = y
    pointwise [val_main_v20, val_main_cst_3]
  refine ⟨?_, ?_, ?_⟩
  · rw [val_main_v32_apply, show idx_main_v32 (ix3 b i j) = ix3 b ⟨2 + i.val, by omega⟩ j from eq_ix3 _, e, dif_neg (by dsimp only; omega), dif_pos (by omega)]
    exact congrArg (fun q => uu x0 x1 x2 b q j) (Fin.ext (show 2 + i.val - 2 = i.val - 0 by omega))
  · rw [val_main_v27_apply, show idx_main_v27 (ix3 b i j) = ix3 b ⟨1 + i.val, by omega⟩ j from eq_ix3 _, e]
    by_cases h : 1 ≤ i.val
    · rw [dif_pos h, dif_neg (by dsimp only; omega)]
      exact congrArg (fun q => uu x0 x1 x2 b q j) (Fin.ext (show 1 + i.val - 2 = i.val - 1 by omega))
    · rw [dif_neg h, dif_pos (by dsimp only; omega)]
  · rw [val_main_v23_apply, show idx_main_v23 (ix3 b i j) = ix3 b ⟨i.val, by omega⟩ j from eq_ix3 _, e]
    by_cases h : 2 ≤ i.val
    · rw [dif_pos h, dif_neg (by dsimp only; omega)]
    · rw [dif_neg h, dif_pos (by dsimp only; omega)]

/-- The bias's gradient. -/
theorem v81_apply (j : Fin 5632) : val_main_v81 (F := Ideal) x0 x1 x2 x3 x4 x5 x6 (ix2 0 j) = ∑ b : Fin 2, ∑ i : Fin 2048, zz x0 x1 x2 x3 x4 x5 x6 b i j := by
  have z1 : val_main_cst_5 (F := Ideal) (Shape.Idx.first Cert.Reference3Ideal.Gen.h_S_) = 0 := by pointwise [val_main_cst_5]
  have z2 : val_main_cst_6 (F := Ideal) (Shape.Idx.first Cert.Reference3Ideal.Gen.h_S_) = 0 := by pointwise [val_main_cst_6]
  have e51 : val_main_v51 (F := Ideal) x0 x1 x2 x3 x4 x5 x6 (ix1 j) = ∑ b : Fin 2, ∑ i : Fin 2048, zz x0 x1 x2 x3 x4 x5 x6 b i j := by
    unfold val_main_v51
    show Ideal.hostReduceAdd _ _ _ (ix1 j) = _
    rw [reduceAdd_first_two, z1, zero_add]
  rw [val_main_v81_apply, show idx_main_v81 (ix2 0 j) = ix1 j from eq_ix1 _]
  unfold val_main_v53
  show Ideal.hostReduceAdd _ _ _ (ix1 j) = _
  rw [reduceAdd_first_two, z2, zero_add, Fin.sum_univ_one, Fin.sum_univ_one, val_main_v52_apply, ← e51]
  exact congrArg _ (funext fun a => Fin.ext (match a with | ⟨0, _⟩ => by show (0 * 1 + 0) * 5632 + j.val = j.val; omega))

theorem v56_apply (j : Fin 5632) : val_main_v56 (F := Ideal) x0 x1 x2 x3 x4 x5 x6 (ix3 0 0 j)
    = ∑ b : Fin 2, ∑ i : Fin 2048, uu x0 x1 x2 b i j * ahead (fun i => zz x0 x1 x2 x3 x4 x5 x6 b i j) 0 i := by
  have z1 : val_main_cst_7 (F := Ideal) (Shape.Idx.first Cert.Reference3Ideal.Gen.h_S_) = 0 := by pointwise [val_main_cst_7]
  rw [val_main_v56_apply, show idx_main_v56 (ix3 0 0 j) = ix1 j from funext fun a => Fin.ext (match a with | ⟨0, _⟩ => by show (0 * 1 + 0) * 5632 + j.val = j.val; omega)]
  unfold val_main_v55
  show Ideal.hostReduceAdd _ _ _ (ix1 j) = _
  rw [reduceAdd_first_two, z1, zero_add]
  refine Finset.sum_congr rfl fun b _ => ?_
  rw [← sum_back (fun i => uu x0 x1 x2 b i j) (fun i => zz x0 x1 x2 x3 x4 x5 x6 b i j) 0]
  refine Finset.sum_congr rfl fun i _ => ?_
  rw [val_main_v54_apply, (back_apply x0 x1 x2 b i j).1]; rfl

theorem v63_apply (j : Fin 5632) : val_main_v63 (F := Ideal) x0 x1 x2 x3 x4 x5 x6 (ix3 0 0 j)
    = ∑ b : Fin 2, ∑ i : Fin 2048, uu x0 x1 x2 b i j * ahead (fun i => zz x0 x1 x2 x3 x4 x5 x6 b i j) 1 i := by
  have z1 : val_main_cst_10 (F := Ideal) (Shape.Idx.first Cert.Reference3Ideal.Gen.h_S_) = 0 := by pointwise [val_main_cst_10]
  rw [val_main_v63_apply, show idx_main_v63 (ix3 0 0 j) = ix1 j from funext fun a => Fin.ext (match a with | ⟨0, _⟩ => by show (0 * 1 + 0) * 5632 + j.val = j.val; omega)]
  unfold val_main_v62
  show Ideal.hostReduceAdd _ _ _ (ix1 j) = _
  rw [reduceAdd_first_two, z1, zero_add]
  refine Finset.sum_congr rfl fun b _ => ?_
  rw [← sum_back (fun i => uu x0 x1 x2 b i j) (fun i => zz x0 x1 x2 x3 x4 x5 x6 b i j) 1]
  refine Finset.sum_congr rfl fun i _ => ?_
  rw [val_main_v61_apply, (back_apply x0 x1 x2 b i j).2.1]; rfl

theorem v72_apply (j : Fin 5632) : val_main_v72 (F := Ideal) x0 x1 x2 x3 x4 x5 x6 (ix3 0 0 j)
    = ∑ b : Fin 2, ∑ i : Fin 2048, uu x0 x1 x2 b i j * ahead (fun i => zz x0 x1 x2 x3 x4 x5 x6 b i j) 2 i := by
  have z1 : val_main_cst_13 (F := Ideal) (Shape.Idx.first Cert.Reference3Ideal.Gen.h_S_) = 0 := by pointwise [val_main_cst_13]
  rw [val_main_v72_apply, show idx_main_v72 (ix3 0 0 j) = ix1 j from funext fun a => Fin.ext (match a with | ⟨0, _⟩ => by show (0 * 1 + 0) * 5632 + j.val = j.val; omega)]
  unfold val_main_v71
  show Ideal.hostReduceAdd _ _ _ (ix1 j) = _
  rw [reduceAdd_first_two, z1, zero_add]
  refine Finset.sum_congr rfl fun b _ => ?_
  rw [← sum_back (fun i => uu x0 x1 x2 b i j) (fun i => zz x0 x1 x2 x3 x4 x5 x6 b i j) 2]
  refine Finset.sum_congr rfl fun i _ => ?_
  rw [val_main_v70_apply, (back_apply x0 x1 x2 b i j).2.2]; rfl

/-- The taps' gradients. -/
theorem v76_apply (k : Fin 3) (j : Fin 5632) : val_main_v76 (F := Ideal) x0 x1 x2 x3 x4 x5 x6 (ix3 0 k j)
    = ∑ b : Fin 2, ∑ i : Fin 2048, uu x0 x1 x2 b i j * ahead (fun i => zz x0 x1 x2 x3 x4 x5 x6 b i j) (2 - k.val) i := by
  have p59 : val_main_v59 (F := Ideal) x0 x1 x2 x3 x4 x5 x6 (ix3 0 k j) = if h : 2 ≤ k.val ∧ k.val - 2 < 1 then val_main_v56 (F := Ideal) x0 x1 x2 x3 x4 x5 x6 (ix3 0 ⟨k.val - 2, h.2⟩ j) else 0 := by
    unfold val_main_v59; exact pad_rows _ _ _ _ (by pointwise [val_main_cst_8]) _ _ _
  have p66 : val_main_v66 (F := Ideal) x0 x1 x2 x3 x4 x5 x6 (ix3 0 k j) = if h : 1 ≤ k.val ∧ k.val - 1 < 1 then val_main_v63 (F := Ideal) x0 x1 x2 x3 x4 x5 x6 (ix3 0 ⟨k.val - 1, h.2⟩ j) else 0 := by
    unfold val_main_v66; exact pad_rows _ _ _ _ (by pointwise [val_main_cst_11]) _ _ _
  have p75 : val_main_v75 (F := Ideal) x0 x1 x2 x3 x4 x5 x6 (ix3 0 k j) = if h : 0 ≤ k.val ∧ k.val - 0 < 1 then val_main_v72 (F := Ideal) x0 x1 x2 x3 x4 x5 x6 (ix3 0 ⟨k.val - 0, h.2⟩ j) else 0 := by
    unfold val_main_v75; exact pad_rows _ _ _ _ (by pointwise [val_main_cst_14]) _ _ _
  rw [val_main_v76_apply, val_main_v67_apply, p59, p66, p75]
  match k with
  | ⟨0, h⟩ =>
    rw [dif_neg (show ¬ (2 ≤ 0 ∧ 0 - 2 < 1) by omega), dif_neg (show ¬ (1 ≤ 0 ∧ 0 - 1 < 1) by omega), dif_pos (show 0 ≤ 0 ∧ 0 - 0 < 1 by omega)]
    exact (show (0 : EReal) + 0 + val_main_v72 (F := Ideal) x0 x1 x2 x3 x4 x5 x6 (ix3 0 0 j) = _ by rw [v72_apply, zero_add, zero_add]; rfl)
  | ⟨1, h⟩ =>
    rw [dif_neg (show ¬ (2 ≤ 1 ∧ 1 - 2 < 1) by omega), dif_pos (show 1 ≤ 1 ∧ 1 - 1 < 1 by omega), dif_neg (show ¬ (0 ≤ 1 ∧ 1 - 0 < 1) by omega)]
    exact (show (0 : EReal) + val_main_v63 (F := Ideal) x0 x1 x2 x3 x4 x5 x6 (ix3 0 0 j) + 0 = _ by rw [v63_apply, zero_add, add_zero]; rfl)
  | ⟨2, h⟩ =>
    rw [dif_pos (show 2 ≤ 2 ∧ 2 - 2 < 1 by omega), dif_neg (show ¬ (1 ≤ 2 ∧ 2 - 1 < 1) by omega), dif_neg (show ¬ (0 ≤ 2 ∧ 2 - 0 < 1) by omega)]
    exact (show val_main_v56 (F := Ideal) x0 x1 x2 x3 x4 x5 x6 (ix3 0 0 j) + (0 : EReal) + 0 = _ by rw [v56_apply, add_zero, add_zero]; rfl)

/-! ## The up projection and the norm -/

/-- The cotangent of the normalised input. -/
abbrev hh (b : Fin 2) (i : Fin 2048) (c : Fin 1024) : EReal :=
  ∑ j, conv (fun k => x3 (ix3 0 k j)) (fun i => zz x0 x1 x2 x3 x4 x5 x6 b i j) i * x2 (ix3 0 c j)

theorem v82_apply (b : Fin 2) (i : Fin 2048) (c : Fin 1024) : val_main_v82 (F := Ideal) x0 x1 x2 x3 x4 x5 x6 (ix3 b i c) = hh x0 x1 x2 x3 x4 x5 x6 b i c := by
  unfold hh; simp only [← v80_apply, ← v17_apply]; unfold val_main_v82
  generalize val_main_v80 (F := Ideal) x0 x1 x2 x3 x4 x5 x6 = y; generalize val_main_v17 (F := Ideal) x2 = w; pointwise []

theorem v7_apply (b : Fin 2) (t : Fin 2048) (u : Fin 1) : val_main_v7 (F := Ideal) x0 (ix3 b t u) = meanSquare (row3 x0 b t) := by
  unfold meanSquare row3 val_main_v7 val_main_v5 val_main_v3 val_main_v2 val_main_v1
  pointwise [val_main_v6, val_main_v4, val_main_cst, val_main_cst_0, val_main_cst_1]

theorem v8_apply (b : Fin 2) (t : Fin 2048) (u : Fin 1) : val_main_v8 (F := Ideal) x0 (ix3 b t u) = Cert.AttnRows.inv (row3 x0 b t) := by
  show _ = Ideal.rsqrt (meanSquare (row3 x0 b t))
  rw [← v7_apply x0 b t u]; unfold val_main_v8; generalize val_main_v7 (F := Ideal) x0 = y; pointwise []

theorem v11_apply (b : Fin 2) (t : Fin 2048) (u : Fin 1) : val_main_v11 (F := Ideal) x0 (ix3 b t u)
    = Ideal.ofBits .f32 0xBF000000#32 * Ideal.div (Cert.AttnRows.inv (row3 x0 b t)) (meanSquare (row3 x0 b t)) := by
  rw [← v7_apply x0 b t u, ← v8_apply x0 b t u]; unfold val_main_v11 val_main_v9
  generalize val_main_v7 (F := Ideal) x0 = y; generalize val_main_v8 (F := Ideal) x0 = z; pointwise [val_main_v10, val_main_cst_2]

theorem v13_apply (b : Fin 2) (t : Fin 2048) (k : Fin 1024) : val_main_v13 (F := Ideal) x0 (ix3 b t k) = x0 (ix3 b t k) * Cert.AttnRows.inv (row3 x0 b t) := by
  rw [← v8_apply x0 b t 0]; unfold val_main_v13 val_main_v12; generalize val_main_v8 (F := Ideal) x0 = z; pointwise []

theorem v86_apply (b : Fin 2) (t : Fin 2048) (k : Fin 1024) : val_main_v86 (F := Ideal) x1 (ix3 b t k) = x1 (ix2 0 k) := by
  rw [val_main_v86_apply, val_main_v14_apply, val_main_v0_apply]
  exact congrArg _ (funext fun a => Fin.ext (match a with
    | ⟨0, _⟩ => rfl
    | ⟨1, _⟩ => show k.val % 1024 = k.val by omega))

theorem v87_apply (b : Fin 2) (t : Fin 2048) (k : Fin 1024) : val_main_v87 (F := Ideal) x0 x1 x2 x3 x4 x5 x6 (ix3 b t k) = hh x0 x1 x2 x3 x4 x5 x6 b t k * x1 (ix2 0 k) := by
  rw [← v82_apply, ← v86_apply x1 b t k, val_main_v87_apply]; rfl

theorem v90_apply (b : Fin 2) (t : Fin 2048) : val_main_v90 (F := Ideal) x0 x1 x2 x3 x4 x5 x6 (ix2 b t) = ∑ l, x0 (ix3 b t l) * (hh x0 x1 x2 x3 x4 x5 x6 b t l * x1 (ix2 0 l)) := by
  have z : val_main_cst_18 (F := Ideal) (Shape.Idx.first Cert.Reference3Ideal.Gen.h_S_) = 0 := by pointwise [val_main_cst_18]
  rw [val_main_v90_apply, z, zero_add]
  refine Finset.sum_congr rfl fun l _ => ?_
  rw [show idx_main_v90 (ix2 b t) l = ix3 b t l from eq_ix3 _, val_main_v89_apply, v87_apply]; rfl

theorem v91_apply (b : Fin 2) (t : Fin 2048) (u : Fin 1) : val_main_v91 (F := Ideal) x0 x1 x2 x3 x4 x5 x6 (ix3 b t u) = val_main_v90 (F := Ideal) x0 x1 x2 x3 x4 x5 x6 (ix2 b t) := by
  rw [val_main_v91_apply]
  exact congrArg _ (funext fun a => Fin.ext (match a with
    | ⟨0, _⟩ => show ((b.val * 2048 + t.val) * 1 + u.val) / 2048 = b.val by omega
    | ⟨1, _⟩ => show ((b.val * 2048 + t.val) * 1 + u.val) % 2048 = t.val by omega))

theorem v97_apply (b : Fin 2) (t : Fin 2048) : val_main_v97 (F := Ideal) x0 x1 x2 x3 x4 x5 x6 (ix2 b t)
    = squarePull (row3 x0 b t) (fun k => x1 (ix2 0 k)) (hh x0 x1 x2 x3 x4 x5 x6 b t) := by
  unfold squarePull
  show _ = Ideal.div ((∑ l, x0 (ix3 b t l) * (hh x0 x1 x2 x3 x4 x5 x6 b t l * x1 (ix2 0 l))) * _) _
  rw [← v90_apply, ← v91_apply x0 x1 x2 x3 x4 x5 x6 b t 0, ← v11_apply x0 b t 0]; unfold val_main_v97 val_main_v96 val_main_v94
  generalize val_main_v91 (F := Ideal) x0 x1 x2 x3 x4 x5 x6 = y; generalize val_main_v11 (F := Ideal) x0 = z
  pointwise [val_main_v95, val_main_cst_19, val_main_cst_20]; exact Fin.sum_univ_one _

/-- The gradient of the layer's input. -/
theorem v104_apply (b : Fin 2) (t : Fin 2048) (k : Fin 1024) : val_main_v104 (F := Ideal) x0 x1 x2 x3 x4 x5 x6 (ix3 b t k)
    = x6 (ix3 b t k) + plainDnorm (row3 x0 b t) (fun k => x1 (ix2 0 k)) (hh x0 x1 x2 x3 x4 x5 x6 b t) k := by
  have e92 : val_main_v92 (F := Ideal) x0 (ix3 b t k) = Cert.AttnRows.inv (row3 x0 b t) := by
    rw [val_main_v92_apply, show idx_main_v92 (ix3 b t k) = ix3 b t 0 from eq_ix3 _, v8_apply]
  have e98 : val_main_v98 (F := Ideal) x0 x1 x2 x3 x4 x5 x6 (ix3 b t k) = squarePull (row3 x0 b t) (fun k => x1 (ix2 0 k)) (hh x0 x1 x2 x3 x4 x5 x6 b t) := by
    rw [val_main_v98_apply, show idx_main_v98 (ix3 b t k) = ix2 b t from eq_ix2 _, v97_apply]
  rw [val_main_v104_apply, val_main_v102_apply, val_main_v101_apply, val_main_v100_apply, val_main_v99_apply, val_main_v93_apply, e92, e98, v87_apply]
  exact congrArg (x6 (ix3 b t k) + ·) (add_assoc _ _ _)

/-- The gradient of the norm's weight. -/
theorem v103_apply (l : Fin 1024) : val_main_v103 (F := Ideal) x0 x1 x2 x3 x4 x5 x6 (ix2 0 l)
    = ∑ b : Fin 2, ∑ t : Fin 2048, x0 (ix3 b t l) * Cert.AttnRows.inv (row3 x0 b t) * hh x0 x1 x2 x3 x4 x5 x6 b t l := by
  have e83 : ∀ b t, val_main_v83 (F := Ideal) x0 x1 x2 x3 x4 x5 x6 (ix3 b t l) = x0 (ix3 b t l) * Cert.AttnRows.inv (row3 x0 b t) * hh x0 x1 x2 x3 x4 x5 x6 b t l := fun b t => by
    rw [val_main_v83_apply, v82_apply, v13_apply]; rfl
  have z1 : val_main_cst_16 (F := Ideal) (Shape.Idx.first Cert.Reference3Ideal.Gen.h_S_) = 0 := by pointwise [val_main_cst_16]
  have z2 : val_main_cst_17 (F := Ideal) (Shape.Idx.first Cert.Reference3Ideal.Gen.h_S_) = 0 := by pointwise [val_main_cst_17]
  have e84 : val_main_v84 (F := Ideal) x0 x1 x2 x3 x4 x5 x6 (ix1 l) = ∑ b : Fin 2, ∑ t : Fin 2048, x0 (ix3 b t l) * Cert.AttnRows.inv (row3 x0 b t) * hh x0 x1 x2 x3 x4 x5 x6 b t l := by
    unfold val_main_v84
    show Ideal.hostReduceAdd _ _ _ (ix1 l) = _
    rw [reduceAdd_first_two, z1, zero_add]
    simp only [e83]
  rw [val_main_v103_apply, show idx_main_v103 (ix2 0 l) = ix1 l from eq_ix1 _]
  unfold val_main_v88
  show Ideal.hostReduceAdd _ _ _ (ix1 l) = _
  rw [reduceAdd_first_two, z2, zero_add, Fin.sum_univ_one, Fin.sum_univ_one, val_main_v85_apply, ← e84]
  exact congrArg _ (funext fun a => Fin.ext (match a with | ⟨0, _⟩ => by show (0 * 1 + 0) * 1024 + l.val = l.val; omega))

/-! ## The forward's values on finite arguments -/

open FiniteReal in
theorem uu_finite (h0 : ∀ i, IsFinite (x0 i)) (h1 : ∀ i, IsFinite (x1 i)) (h2 : ∀ i, IsFinite (x2 i)) (b : Fin 2) (i : Fin 2048) (j : Fin 5632) :
    IsFinite (uu x0 x1 x2 b i j) := by
  have e15 : ∀ k, val_main_v15 (F := Ideal) x1 (ix3 b i k) = x1 (ix2 0 k) := fun k => by
    rw [val_main_v15_apply, val_main_v14_apply, val_main_v0_apply]
    exact congrArg _ (funext fun a => Fin.ext (match a with
      | ⟨0, _⟩ => rfl
      | ⟨1, _⟩ => show k.val % 1024 = k.val by omega))
  have e16 : ∀ k, IsFinite (val_main_v16 (F := Ideal) x0 x1 (ix3 b i k)) := fun k => by
    rw [val_main_v16_apply, v13_apply, e15]
    exact ((h0 _).mul (inv_finite fun k => h0 _)).mul (h1 _)
  have e18 : uu x0 x1 x2 b i j = ∑ k, val_main_v16 (F := Ideal) x0 x1 (ix3 b i k) * x2 (ix3 0 k j) := by
    simp only [← v17_apply]; unfold uu row3 val_main_v18
    generalize val_main_v16 (F := Ideal) x0 x1 = y; generalize val_main_v17 (F := Ideal) x2 = w; pointwise []
  rw [e18]; exact IsFinite.sum _ fun k => (e16 k).mul (h2 _)

open FiniteReal in
theorem cc_finite (h0 : ∀ i, IsFinite (x0 i)) (h1 : ∀ i, IsFinite (x1 i)) (h2 : ∀ i, IsFinite (x2 i)) (h3 : ∀ i, IsFinite (x3 i)) (h4 : ∀ i, IsFinite (x4 i))
    (b : Fin 2) (i : Fin 2048) (j : Fin 5632) : IsFinite (cc x0 x1 x2 x3 x4 b i j) := by
  show IsFinite (val_main_v39 (F := Ideal) x0 x1 x2 x3 x4 (ix3 b i j))
  have hu : ∀ (d : ℕ), IsFinite (if h : d ≤ i.val then uu x0 x1 x2 b ⟨i.val - d, by omega⟩ j else 0) := fun d => by
    split
    · exact uu_finite x0 x1 x2 h0 h1 h2 _ _ _
    · exact ⟨0, rfl⟩
  obtain ⟨b0, b1, b2⟩ := back_apply x0 x1 x2 b i j
  have f0 := hu 0; have f1 := hu 1; have f2 := hu 2
  rw [← b0] at f0; rw [← b1] at f1; rw [← b2] at f2
  rw [val_main_v39_apply, val_main_v36_apply, val_main_v31_apply, val_main_v26_apply, val_main_v30_apply, val_main_v35_apply,
    val_main_v25_apply, val_main_v29_apply, val_main_v34_apply, val_main_v24_apply, val_main_v28_apply, val_main_v33_apply,
    val_main_v38_apply, val_main_v37_apply, val_main_v19_apply]
  exact (((f2.mul (h3 _)).add (f1.mul (h3 _))).add (f0.mul (h3 _))).add (h4 _)

end Cert.Reference3Ideal.Ffn
-- ==== Proof.FfnValue.lean ====
/-
  The value of the feed-forward layer's backward call: with finite arguments its six results are the derivatives of the
  reference's forward lines.
-/
module

public import proofs.«01_k».proof.Defs
public import proofs.«01_k».proof.Proof.Gen.Pre_finite3
public import proofs.«01_k».proof.Proof.FfnArrays
public import proofs.«01_k».proof.Proof.FfnBlock
public import proofs.«01_k».proof.Proof.FfnRef
public import proofs.«01_k».proof.Proof.FiniteArgs

@[expose] public section

set_option maxRecDepth 16384

noncomputable section

namespace Cert.Kernel3Ideal.Ffn

open Cert.Kernel3Ideal Cert.Kernel3Ideal.Gen Cert.Gathered Cert.HostRead Cert.AttnRows Cert.FfnRows Cert.FiniteReal Cert.Tiles
open Cert.Reference3Ideal.Ffn (uu cc dd zz hh)
open Cert.Reference3Ideal.Read
open Idealize.ShloMosaic Idealize.ShloMosaic.TcCoe Idealize.ShloMosaic.Tactic
open Idealize.SL.Sem

variable (m : (ℓ : Loc nD τ sig) → Buf (Elt Ideal) ℓ) (c : Dev nD)

/-! ## The arguments -/

abbrev a0 : Vec Ideal S2x2048x1024 .f32 := m ((c : Thread nD τ).loc main_arg0)
abbrev a1 : Vec Ideal S1x1024 .f32 := m ((c : Thread nD τ).loc main_arg1)
abbrev a2 : Vec Ideal S1x1024x5632 .f32 := m ((c : Thread nD τ).loc main_arg2)
abbrev a3 : Vec Ideal S1x3x5632 .f32 := m ((c : Thread nD τ).loc main_arg3)
abbrev a4 : Vec Ideal S1x5632 .f32 := m ((c : Thread nD τ).loc main_arg4)
abbrev a5 : Vec Ideal S1x2816x1024 .f32 := m ((c : Thread nD τ).loc main_arg5)
abbrev a6 : Vec Ideal S2x2048x1024 .f32 := m ((c : Thread nD τ).loc main_arg6)

/-- The convolution's input and output, the cotangents of the activation, of the convolution's output and of the normalised input, at the arguments. -/
abbrev us (b : Fin 2) (i : Fin 2048) := uu (a0 m c) (a1 m c) (a2 m c) b i
abbrev cs (b : Fin 2) (i : Fin 2048) := cc (a0 m c) (a1 m c) (a2 m c) (a3 m c) (a4 m c) b i
abbrev ds (b : Fin 2) (i : Fin 2048) := dd (a5 m c) (a6 m c) b i
abbrev zs (b : Fin 2) (i : Fin 2048) := zz (a0 m c) (a1 m c) (a2 m c) (a3 m c) (a4 m c) (a5 m c) (a6 m c) b i
abbrev hs (b : Fin 2) (i : Fin 2048) := hh (a0 m c) (a1 m c) (a2 m c) (a3 m c) (a4 m c) (a5 m c) (a6 m c) b i

/-- Every entry of every argument is a real number. -/
structure Args : Prop where
  h0 : ∀ i, IsFinite (a0 m c i)
  h1 : ∀ i, IsFinite (a1 m c i)
  h2 : ∀ i, IsFinite (a2 m c i)
  h3 : ∀ i, IsFinite (a3 m c i)
  h4 : ∀ i, IsFinite (a4 m c i)
  h5 : ∀ i, IsFinite (a5 m c i)
  h6 : ∀ i, IsFinite (a6 m c i)

/-- The precondition says so. -/
theorem args (h : Cert.Pre_Kernel3Ideal_finite3 m) : Args m c := by
  have e := congrFun (h c) (fun a => a.elim0)
  obtain ⟨e, h6⟩ := both_ones e
  obtain ⟨e, h5⟩ := both_ones e
  obtain ⟨e, h4⟩ := both_ones e
  obtain ⟨e, h3⟩ := both_ones e
  obtain ⟨e, h2⟩ := both_ones e
  obtain ⟨h0, h1⟩ := both_ones e
  exact ⟨all_finite _ _ _ h0, all_finite _ _ _ h1, all_finite _ _ _ h2, all_finite _ _ _ h3,
    all_finite _ _ _ h4, all_finite _ _ _ h5, all_finite _ _ _ h6⟩

/-! ## Rows of the arrays the kernel reads -/

/-- The grid point of tile `v` of sequence `b`. -/
abbrev at8 (b : Fin 2) (v : Fin 8) : Fin cfg0.N := pt (15 - (b.val * 8 + v.val)) (by omega)

/-- The weights the kernel loads are the up projection's, transposed, and the down projection's. -/
theorem wu_apply (j : Fin 5632) (k : Fin 1024) : wuAt m c (ix2 j k) = a2 m c (ix3 0 k j) := by
  have e : wuAt m c = transpose S5632x1024 [1, 0] (shapeCast S1024x5632 (a2 m c) shapeCasts_S1x1024x5632_S1024x5632) transposes_S1024x5632_S5632x1024_1_0 := by
    show stack 5632 704 0 rfl (by decide) (V m c main_v6 : Vec Ideal S8x1056x1024 .bf16) = _
    rw [V_v6]
    exact stack_packed (N := 1056) _ _ [⟨S8x704x1024, _⟩, ⟨S8x352x1024, _⟩] concatenates_S8x704x1024_S8x352x1024_S8x1056x1024_d1 0 (Nat.zero_lt_succ _) _ shapeCasts_S5632x1024_S8x704x1024 rfl rfl
  rw [e]
  exact transposed_apply _ _ _ k j
theorem wd_row : row (wdAt m c) = row3 (a5 m c) 0 := by
  have e : wdAt m c = shapeCast S2816x1024 (a5 m c) shapeCasts_S1x2816x1024_S2816x1024 := by
    show stack 2816 352 704 rfl (by decide) (V m c main_v6 : Vec Ideal S8x1056x1024 .bf16) = _
    rw [V_v6]
    exact stack_packed (N := 1056) _ _ [⟨S8x704x1024, _⟩, ⟨S8x352x1024, _⟩] concatenates_S8x704x1024_S8x352x1024_S8x1056x1024_d1 1 (Nat.lt_succ_self _) _ shapeCasts_S2816x1024_S8x352x1024 rfl rfl
  rw [e]
  exact funext fun k => funext fun l => flatten_apply _ _ 0 k l k (by show k.val = 0 * 2816 + k.val; omega)
theorem tap_apply (t : Fin cfg0.N) (i : Fin 3) (j : Fin 5632) : (iblk m c 5 t : Vec Ideal S3x5632 .f32) (ix2 i j) = a3 m c (ix3 0 i j) := by
  refine (iblk5_apply m c t i j).trans ?_
  rw [V_v49]
  exact flatten_apply _ _ 0 i j i (by show i.val = 0 * 3 + i.val; omega)
theorem gain_row (t : Fin cfg0.N) : row (iblk m c 4 t : Vec Ideal S1x1024 .f32) 0 = fun k => a1 m c (ix2 0 k) := funext fun k => iblk4_apply m c t k

variable (b : Fin 2) (v : Fin 8) (r : Fin 256)

theorem row0 : row (iblk m c 0 (at8 b v) : Vec Ideal S256x1024 .f32) r = row3 (a6 m c) b (pos v r) := funext fun k => by
  refine (iblk0_apply m c (at8 b v) r k ⟨(b.val * 8 + v.val) * 256 + r.val, by omega⟩ (by show _ = (15 - (15 - (b.val * 8 + v.val))) * 256 + r.val; dsimp only; omega)).trans ?_
  rw [V_v43]
  exact flatten_apply _ _ b (pos v r) k _ (by show _ = b.val * 2048 + (v.val * 256 + r.val); dsimp only; omega)
theorem row1 : row (iblk m c 1 (at8 b v) : Vec Ideal S256x1024 .f32) r = row3 (a0 m c) b (pos v r) := funext fun k => by
  refine (iblk1_apply m c (at8 b v) r k ⟨(b.val * 8 + v.val) * 256 + r.val, by omega⟩ (by show _ = (15 - (15 - (b.val * 8 + v.val))) * 256 + r.val; dsimp only; omega)).trans ?_
  rw [V_v44]
  exact flatten_apply _ _ b (pos v r) k _ (by show _ = b.val * 2048 + (v.val * 256 + r.val); dsimp only; omega)
theorem row2 : row (iblk m c 2 (at8 b v) : Vec Ideal S256x5632 .bf16) r = us m c b (pos v r) := funext fun k => by
  refine (iblk2_apply m c (at8 b v) r k ⟨(b.val * 8 + v.val) * 256 + r.val, by omega⟩ (by show _ = (15 - (15 - (b.val * 8 + v.val))) * 256 + r.val; dsimp only; omega)).trans ?_
  rw [V_v46]
  exact flatten_apply _ _ b (pos v r) k _ (by show _ = b.val * 2048 + (v.val * 256 + r.val); dsimp only; omega)
theorem row_c : row (iblk m c 3 (at8 b v) : Vec Ideal S256x5632 .bf16) r = cs m c b (pos v r) := funext fun k => by
  refine (iblk3_apply m c (at8 b v) r k ⟨(b.val * 8 + v.val) * 256 + r.val, by omega⟩ (by show _ = (15 - (15 - (b.val * 8 + v.val))) * 256 + r.val; dsimp only; omega)).trans ?_
  rw [V_v48]
  exact flatten_apply _ _ b (pos v r) k _ (by show _ = b.val * 2048 + (v.val * 256 + r.val); dsimp only; omega)

/-! ## What the rows are on finite arguments -/

section Values
variable {m c} (h : Args m c)
include h

theorem cs_finite (b i j) : IsFinite (cs m c b i j) := Cert.Reference3Ideal.Ffn.cc_finite _ _ _ _ _ h.h0 h.h1 h.h2 h.h3 h.h4 b i j
theorem ds_finite (b i j) : IsFinite (ds m c b i j) := back_finite (fun _ => h.h6 _) (fun _ _ => h.h5 _) j
theorem zs_eq (b i) : zs m c b i = act (cs m c b i) (ds m c b i) :=
  funext fun j => Cert.Reference3Ideal.Ffn.zz_act _ _ _ _ _ _ _ (cs_finite h) (ds_finite h) b i j
theorem zs_finite (b i j) : IsFinite (zs m c b i j) := by rw [zs_eq h]; exact act_finite (cs_finite h b i) (ds_finite h b i) j
theorem hs_finite (b i k) : IsFinite (hs m c b i k) :=
  IsFinite.sum _ fun j => (conv_finite (fun _ => h.h3 _) (fun i => zs_finite h b i j) i).mul (h.h2 _)

/-- A row of the cotangent of the convolution's output, as the kernel has it. -/
theorem z_eq : z (iblk m c 0 (at8 b v)) (iblk m c 3 (at8 b v)) (wdAt m c) r = zs m c b (pos v r) := by
  rw [zs_eq h, z, row0, row_c, wd_row]

/-- The cotangent's row further on: past the tile it is a row of the next tile, and past the sequence it is zero. -/
theorem next_eq (d : ℕ) (hd : d ≤ 8) (j : Fin 5632) : next (iblk m c 0 (at8 b v)) (iblk m c 3 (at8 b v)) (wdAt m c) (carried m c (at8 b v)) d hd r j
    = ahead (fun i => zs m c b i j) d (pos v r) := by
  have hr := r.isLt
  have hv := v.isLt
  have hb := b.isLt
  unfold next ahead
  by_cases h1 : r.val + d < 256
  · rw [dif_pos h1, dif_pos (show v.val * 256 + r.val + d < 2048 by omega), z_eq b v _ h]
    exact congrArg (fun i => zs m c b i j) (Fin.ext (show v.val * 256 + (r.val + d) = v.val * 256 + r.val + d by omega))
  · rw [dif_neg h1]
    by_cases h2 : v.val = 7
    · rw [dif_neg (show ¬ v.val * 256 + r.val + d < 2048 by omega), carried, if_pos (show (at8 b v).val % 8 = 0 from (by omega : (15 - (b.val * 8 + v.val)) % 8 = 0))]
      pointwise [k0_pay9]
    · rw [dif_pos (show v.val * 256 + r.val + d < 2048 by omega), carried, if_neg (show ¬ (at8 b v).val % 8 = 0 from (by omega : ¬ (15 - (b.val * 8 + v.val)) % 8 = 0))]
      have e : prev (at8 b v) = at8 b ⟨v.val + 1, by omega⟩ := Fin.ext (show 15 - (b.val * 8 + v.val) - 1 = 15 - (b.val * 8 + (v.val + 1)) by omega)
      rw [e, carryAt, carryOf_apply, z_eq b ⟨v.val + 1, by omega⟩ _ h]
      exact congrArg (fun i => zs m c b i j) (Fin.ext (show (v.val + 1) * 256 + (r.val + d - 256) = v.val * 256 + r.val + d by omega))

/-- A row of the cotangent of the convolution's input. -/
theorem du_eq (j : Fin 5632) : du (iblk m c 0 (at8 b v)) (iblk m c 3 (at8 b v)) (iblk m c 5 (at8 b v)) (wdAt m c) (carried m c (at8 b v)) r j
    = conv (fun k => a3 m c (ix3 0 k j)) (fun i => zs m c b i j) (pos v r) := by
  unfold du conv
  rw [next_eq b v r h, next_eq b v r h, z_eq b v r h, tap_apply, tap_apply, tap_apply]

/-- A row of the cotangent of the normalised input. -/
theorem dh_eq : dh (iblk m c 0 (at8 b v)) (iblk m c 3 (at8 b v)) (iblk m c 5 (at8 b v)) (wuAt m c) (wdAt m c) (carried m c (at8 b v)) r
    = hs m c b (pos v r) := funext fun k => by
  unfold dh
  exact Finset.sum_congr rfl fun j _ => by rw [du_eq b v r h, wu_apply]

/-- One entry of the gradient of the layer's input. -/
theorem dx_entry (k : Fin 1024) : dxOf (iblk m c 0 (at8 b v)) (iblk m c 1 (at8 b v)) (iblk m c 3 (at8 b v)) (iblk m c 4 (at8 b v)) (iblk m c 5 (at8 b v))
      (wuAt m c) (wdAt m c) (carried m c (at8 b v)) (ix2 r k) = val_main_v104 (F := Ideal) (a0 m c) (a1 m c) (a2 m c) (a3 m c) (a4 m c) (a5 m c) (a6 m c) (ix3 b (pos v r) k) := by
  rw [dxOf_apply, dh_eq b v r h, row1, gain_row, Cert.Reference3Ideal.Ffn.v104_apply, norms (fun _ => h.h0 _) (fun _ => h.h1 _) (hs_finite h b (pos v r))]
  exact congrArg (· + _) (congrFun (row0 m c b v r) k)

/-- One entry of the gradient of the convolution's input. -/
theorem du_entry (j : Fin 5632) : duOf (iblk m c 0 (at8 b v)) (iblk m c 3 (at8 b v)) (iblk m c 5 (at8 b v)) (wdAt m c) (carried m c (at8 b v)) (ix2 r j)
    = val_main_v80 (F := Ideal) (a0 m c) (a1 m c) (a2 m c) (a3 m c) (a4 m c) (a5 m c) (a6 m c) (ix3 b (pos v r) j) := by
  rw [duOf_apply, du_eq b v r h, Cert.Reference3Ideal.Ffn.v80_apply]

end Values

/-! ## Sums over the grid points -/

/-- The grid points are the tiles from the last to the first. -/
theorem sum_points (s : Fin cfg0.N → EReal) : ∑ k : Fin 16, s ⟨k.val, lt_N k.isLt⟩ = ∑ b : Fin 2, ∑ v : Fin 8, s (at8 b v) := by
  rw [← Equiv.sum_comp ((finProdFinEquiv : Fin 2 × Fin 8 ≃ Fin 16).trans Fin.revPerm), Fintype.sum_prod_type]
  exact Finset.sum_congr rfl fun b _ => Finset.sum_congr rfl fun v _ => congrArg s (Fin.ext (show 16 - (v.val + 8 * b.val + 1) = 15 - (b.val * 8 + v.val) by omega))

/-- The same after the last point, from zero. -/
theorem sum_all {ι : Type} (t : Fin cfg0.N) (ht : t.val = 15) (step : Fin cfg0.N → (ι → EReal) → ι → EReal) (z : ι → EReal) (i : ι) (hz : z i = 0) (g : Fin 2 → Fin 2048 → EReal)
    (s : Fin cfg0.N → EReal) (hs : ∀ t a, step t a i = a i + s t) (hg : ∀ b v, s (at8 b v) = ∑ r, g b (pos v r)) :
    sumAt step z t.val t.isLt i = ∑ b, ∑ p, g b p := by
  obtain ⟨n, hn⟩ := t
  obtain rfl : n = 15 := ht
  rw [sumAt_apply step z i s hs, hz, zero_add]
  refine (sum_points s).trans (Finset.sum_congr rfl fun b _ => ?_)
  rw [sum_tiles]
  exact Finset.sum_congr rfl fun v _ => hg b v

section Sums
variable {m c} (h : Args m c)
include h

/-- The bias's gradient. -/
theorem dfb_entry (t : Fin cfg0.N) (ht : t.val = 15) (j : Fin 5632) : dfbAt m c t (ix2 0 j) = val_main_v81 (F := Ideal) (a0 m c) (a1 m c) (a2 m c) (a3 m c) (a4 m c) (a5 m c) (a6 m c) (ix2 0 j) := by
  have hs : ∀ t a, dfbStep m c t a (ix2 0 j) = a (ix2 0 j) + ∑ r, z (iblk m c 0 t) (iblk m c 3 t) (wdAt m c) r j := fun t a => by
    unfold dfbStep; rw [dfbOf_apply]
  have hz : k0_pay6 (F := Ideal) (ix2 0 j) = 0 := by pointwise [k0_pay6]
  rw [Cert.Reference3Ideal.Ffn.v81_apply]
  unfold dfbAt
  refine sum_all t ht (dfbStep m c) (k0_pay6 (F := Ideal)) (ix2 0 j) hz (fun b i => zs m c b i j) _ hs fun b v => ?_
  exact Finset.sum_congr rfl fun r _ => by rw [z_eq b v r h]

/-- The taps' gradients. -/
theorem dfw_entry (t : Fin cfg0.N) (ht : t.val = 15) (i : Fin 3) (j : Fin 5632) : dfwAt m c t (ix2 i j) = val_main_v76 (F := Ideal) (a0 m c) (a1 m c) (a2 m c) (a3 m c) (a4 m c) (a5 m c) (a6 m c) (ix3 0 i j) := by
  have hs : ∀ t a, dfwStep m c t a (ix2 i j) = a (ix2 i j) + ∑ r, row (iblk m c 2 t : Vec Ideal S256x5632 .bf16) r j
      * next (iblk m c 0 t) (iblk m c 3 t) (wdAt m c) (carried m c t) (2 - i.val) (by omega) r j := fun t a => by
    unfold dfwStep; rw [dfwOf_apply]
  have hz : k0_pay7 (F := Ideal) (ix2 i j) = 0 := by pointwise [k0_pay7]
  rw [Cert.Reference3Ideal.Ffn.v76_apply]
  unfold dfwAt
  refine sum_all t ht (dfwStep m c) (k0_pay7 (F := Ideal)) (ix2 i j) hz (fun b p => us m c b p j * ahead (fun q => zs m c b q j) (2 - i.val) p) _ hs fun b v => ?_
  exact Finset.sum_congr rfl fun r _ => by rw [next_eq b v r h, row2]

/-- The gradient of the norm's weight. -/
theorem dg_entry (t : Fin cfg0.N) (ht : t.val = 15) (k : Fin 1024) : dgAt m c t (ix2 0 k) = val_main_v103 (F := Ideal) (a0 m c) (a1 m c) (a2 m c) (a3 m c) (a4 m c) (a5 m c) (a6 m c) (ix2 0 k) := by
  have hs : ∀ t a, dgStep m c t a (ix2 0 k) = a (ix2 0 k)
      + ∑ r, dh (iblk m c 0 t) (iblk m c 3 t) (iblk m c 5 t) (wuAt m c) (wdAt m c) (carried m c t) r k
        * (row (iblk m c 1 t : Vec Ideal S256x1024 .f32) r k * Cert.AttnRows.inv (row (iblk m c 1 t : Vec Ideal S256x1024 .f32) r)) := fun t a => by
    unfold dgStep; rw [dgOf_apply]
  have hz : k0_pay8 (F := Ideal) (ix2 0 k) = 0 := by pointwise [k0_pay8]
  rw [Cert.Reference3Ideal.Ffn.v103_apply]
  unfold dgAt
  refine sum_all t ht (dgStep m c) (k0_pay8 (F := Ideal)) (ix2 0 k) hz
    (fun b p => a0 m c (ix3 b p k) * Cert.AttnRows.inv (row3 (a0 m c) b p) * Cert.Kernel3Ideal.Ffn.hs m c b p k) _ hs fun b v => ?_
  refine Finset.sum_congr rfl fun r _ => ?_
  rw [dh_eq b v r h, row1]
  exact mul_comm _ _

end Sums

/-! ## The six results -/

/-- A tiled array that agrees with a flattened one entry by entry. -/
theorem tiled_eq {C : ℕ} (f : Fin cfg0.N → (⟨2, ![256, C]⟩ : Shape).Idx → EReal) (g : (⟨3, ![2, 2048, C]⟩ : Shape).Idx → EReal)
    (hc : (⟨3, ![2, 2048, C]⟩ : Shape).ShapeCasts ⟨2, ![4096, C]⟩)
    (e : ∀ b v r k, f (at8 b v) (ix2 r k) = g (ix3 b (pos v r) k)) : tiled f = shapeCast ⟨2, ![4096, C]⟩ g hc := by
  funext i
  obtain ⟨R, k, rfl⟩ : ∃ (R : Fin 4096) (k : Fin C), i = ix2 R k := ⟨_, _, eq_ix2 i⟩
  refine (tiled_at f (at8 ⟨R.val / 2048, by omega⟩ ⟨R.val / 256 % 8, by omega⟩) (ix2 ⟨R.val % 256, by omega⟩ k) _ ?_ rfl).trans ((e _ _ _ _).trans (flatten_apply _ _ _ _ _ _ ?_).symm)
  · show R.val = (15 - (15 - (R.val / 2048 * 8 + R.val / 256 % 8))) * 256 + R.val % 256
    omega
  · show R.val = R.val / 2048 * 2048 + (R.val / 256 % 8 * 256 + R.val % 256)
    omega

theorem dx_all (h : Args m c) : tiled (C := 1024) (fun t => dxOf (iblk m c 0 t) (iblk m c 1 t) (iblk m c 3 t) (iblk m c 4 t) (iblk m c 5 t) (wuAt m c) (wdAt m c) (carried m c t))
    = val_main_v105 (F := Ideal) (a0 m c) (a1 m c) (a2 m c) (a3 m c) (a4 m c) (a5 m c) (a6 m c) :=
  tiled_eq _ _ Cert.Reference3Ideal.Gen.shapeCasts_S2x2048x1024_S4096x1024 fun b v r k => dx_entry b v r h k

theorem dxb_all (h : Args m c) : tiled (C := 1024) (fun t => dxbOf (iblk m c 0 t) (iblk m c 1 t) (iblk m c 3 t) (iblk m c 4 t) (iblk m c 5 t) (wuAt m c) (wdAt m c) (carried m c t))
    = val_main_v106 (F := Ideal) (a0 m c) (a1 m c) (a2 m c) (a3 m c) (a4 m c) (a5 m c) (a6 m c) := by
  simp only [dxbOf_eq]
  exact dx_all m c h

theorem du_all (h : Args m c) : tiled (C := 5632) (fun t => duOf (iblk m c 0 t) (iblk m c 3 t) (iblk m c 5 t) (wdAt m c) (carried m c t))
    = val_main_v108 (F := Ideal) (a0 m c) (a1 m c) (a2 m c) (a3 m c) (a4 m c) (a5 m c) (a6 m c) :=
  (tiled_eq _ (val_main_v80 (F := Ideal) (a0 m c) (a1 m c) (a2 m c) (a3 m c) (a4 m c) (a5 m c) (a6 m c)) Cert.Reference3Ideal.Gen.shapeCasts_S2x2048x5632_S4096x5632 fun b v r k => du_entry b v r h k).trans rfl

theorem dfb_all (h : Args m c) : dfbAt m c (pt 15 (by decide)) = val_main_v81 (F := Ideal) (a0 m c) (a1 m c) (a2 m c) (a3 m c) (a4 m c) (a5 m c) (a6 m c) := by
  funext i
  obtain ⟨i0, l, rfl⟩ : ∃ (i0 : Fin 1) (l : Fin 5632), i = ix2 i0 l := ⟨_, _, eq_ix2 i⟩
  obtain rfl : i0 = 0 := Subsingleton.elim _ _
  exact dfb_entry h _ rfl l

theorem dfw_all (h : Args m c) : dfwAt m c (pt 15 (by decide)) = val_main_v109 (F := Ideal) (a0 m c) (a1 m c) (a2 m c) (a3 m c) (a4 m c) (a5 m c) (a6 m c) := by
  funext i
  obtain ⟨i0, l, rfl⟩ : ∃ (i0 : Fin 3) (l : Fin 5632), i = ix2 i0 l := ⟨_, _, eq_ix2 i⟩
  exact (dfw_entry h _ rfl i0 l).trans (flatten_apply _ _ 0 i0 l i0 (by show i0.val = 0 * 3 + i0.val; omega)).symm

theorem dg_all (h : Args m c) : dgAt m c (pt 15 (by decide)) = val_main_v103 (F := Ideal) (a0 m c) (a1 m c) (a2 m c) (a3 m c) (a4 m c) (a5 m c) (a6 m c) := by
  funext i
  obtain ⟨i0, l, rfl⟩ : ∃ (i0 : Fin 1) (l : Fin 1024), i = ix2 i0 l := ⟨_, _, eq_ix2 i⟩
  obtain rfl : i0 = 0 := Subsingleton.elim _ _
  exact dg_entry h _ rfl l

set_option maxHeartbeats 1000000 in
/-- The kernel's run: all six results, the arguments untouched. -/
theorem run_value (hm : Cert.Pre_Kernel3Ideal_finite3 m) (ρ : Dev nD → PrngReg) :
    θ_run defs (onTc (τ := τ) (main (F := Ideal))) ⟨m, fun _ => 0, ρ⟩ (fun r => ∀ c : Dev nD,
    r.2.mem ((c : Thread nD τ).loc main_v50_0) = val_main_v105 (F := Ideal) (a0 m c) (a1 m c) (a2 m c) (a3 m c) (a4 m c) (a5 m c) (a6 m c)
    ∧ r.2.mem ((c : Thread nD τ).loc main_v50_1) = val_main_v106 (F := Ideal) (a0 m c) (a1 m c) (a2 m c) (a3 m c) (a4 m c) (a5 m c) (a6 m c)
    ∧ r.2.mem ((c : Thread nD τ).loc main_v50_2) = val_main_v108 (F := Ideal) (a0 m c) (a1 m c) (a2 m c) (a3 m c) (a4 m c) (a5 m c) (a6 m c)
    ∧ r.2.mem ((c : Thread nD τ).loc main_v50_3) = val_main_v81 (F := Ideal) (a0 m c) (a1 m c) (a2 m c) (a3 m c) (a4 m c) (a5 m c) (a6 m c)
    ∧ r.2.mem ((c : Thread nD τ).loc main_v50_4) = val_main_v109 (F := Ideal) (a0 m c) (a1 m c) (a2 m c) (a3 m c) (a4 m c) (a5 m c) (a6 m c)
    ∧ r.2.mem ((c : Thread nD τ).loc main_v50_5) = val_main_v103 (F := Ideal) (a0 m c) (a1 m c) (a2 m c) (a3 m c) (a4 m c) (a5 m c) (a6 m c)
    ∧ Kept m r c) := by
  refine (θ_run _ _ _).mono (fun r hr c => ⟨?_, ?_, ?_, ?_, ?_, ?_, kept m r hr.1 c⟩) (run_main m ρ)
  · exact ((hr.1 c).1 6).trans ((result0 m c).trans (dx_all m c (args m c hm)))
  · exact ((hr.1 c).1 7).trans ((result1 m c).trans (dxb_all m c (args m c hm)))
  · exact ((hr.1 c).1 8).trans ((result2 m c).trans (du_all m c (args m c hm)))
  · exact ((hr.1 c).1 9).trans ((result3 m c).trans (dfb_all m c (args m c hm)))
  · exact ((hr.1 c).1 10).trans ((result4 m c).trans (dfw_all m c (args m c hm)))
  · exact ((hr.1 c).1 11).trans ((result5 m c).trans (dg_all m c (args m c hm)))

end Cert.Kernel3Ideal.Ffn
-- ==== Proof.HeadBody.lean ====
/-
  The forward call of the gated convolution block, which also differentiates the loss and the last norm: its body at the first
  grid point (where it loads its two weights and clears the sums and the carried rows), at the first grid point of the other
  sequence, and at any other one.
-/
module

public import proofs.«01_k».proof.Proof.Gathered
public import proofs.«01_k».proof.Proof.Tiles
public import proofs.«01_k».proof.Proof.Gen.Kernel4Ideal.Frame
public import proofs.«01_k».proof.Proof.Gen.Kernel4Ideal.Skeleton
public import Idealize.ShloMosaic.Lib.ValueLayout
public import Idealize.ShloMosaic.Lib.Writes
public import Idealize.ShloMosaic.Lib.Batch
public import Idealize.ShloMosaic.Lib.VecWindow

@[expose] public section

set_option maxRecDepth 16384

noncomputable section

namespace Cert.Kernel4Ideal.Head

open Cert.Kernel4Ideal Cert.Kernel4Ideal.Gen Cert.Gathered Cert.Tiles
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's first two tests: the grid coordinate is zero. -/
abbrev first (i : grid0.Coords) : Prop :=
  Scalar.cmpi .ne (Scalar.extui (Scalar.cmpi .eq (BitVec.ofNat 32 (i 0).val) 0#32) : BitVec 32) 0#32 = 1#1

/-- The tile modulo the number of tiles of a sequence, as the body computes it. -/
abbrev tile (i : grid0.Coords) : BitVec 32 :=
  Scalar.remsi (BitVec.ofNat 32 (i 0).val) (Scalar.select (Scalar.cmpi .eq 8#32 0#32) 1#32 8#32)

/-- The body's other test: the tile is the first of a sequence. -/
abbrev fresh (i : grid0.Coords) : Prop :=
  Scalar.cmpi .ne (Scalar.extui (Scalar.cmpi .eq (Scalar.select
    (Scalar.andi (Scalar.xori (Scalar.cmpi .slt (tile i) 0#32) (Scalar.cmpi .slt (Scalar.select (Scalar.cmpi .eq 8#32 0#32) 1#32 8#32) 0#32))
      (Scalar.cmpi .ne (tile i) 0#32))
    (Scalar.addi (tile i) (Scalar.select (Scalar.cmpi .eq 8#32 0#32) 1#32 8#32)) (tile i)) 0#32) : BitVec 32) 0#32 = 1#1

/-- The gathered weights, the scratch buffers of the two projections, and the carried rows. -/
abbrev hbM : Memref sig .tc .hbm S8x1056x1024 .bf16 := Memref.whole main_v6
abbrev uM : Memref sig .tc .vmem S5632x1024 .bf16 := Memref.whole cc0_scratch0
abbrev dM : Memref sig .tc .vmem S2816x1024 .bf16 := Memref.whole cc0_scratch1
abbrev kM : Memref sig .tc .vmem S8x5632 .f32 := Memref.whole cc0_scratch2

/-- The up and the down projection, as the gathered array holds them. -/
def wuOf (a : Vec F S8x1056x1024 .bf16) : Vec F S5632x1024 .bf16 := stack 5632 704 0 rfl (by decide) a
def wdOf (a : Vec F S8x1056x1024 .bf16) : Vec F S2816x1024 .bf16 := stack 2816 352 704 rfl (by decide) a

/-! ## What one grid point computes -/

section Step

variable (x y : Vec F S256x1024 .f32) (g : Vec F S1x1024 .f32) (w : Vec F S3x5632 .f32) (b : Vec F S1x5632 .f32) (gf : Vec F S1x1024 .f32)
  (wu : Vec F S5632x1024 .bf16) (wd : Vec F S2816x1024 .bf16) (k : Vec F S8x5632 .f32) (l : Vec F S8x128 .f32) (e : Vec F S1x1024 .f32)

/-- The normalised input. -/
def hOf : FVec F S256x1024 .bf16 := k0_pay9 x g
/-- The left and the right half of the up projection's rows. -/
abbrev wleft : Vec F S2816x1024 .bf16 := part (R := 5632) (C := 1024) (h := 2816) (w := 1024) 0 0 (by decide) (by decide) wu
abbrev wright : Vec F S2816x1024 .bf16 := part (R := 5632) (C := 1024) (h := 2816) (w := 1024) 2816 0 (by decide) (by decide) wu
/-- The two halves of the convolution's output. -/
def gate : FVec F S256x2816 .f32 :=
  k0_pay13 (hOf x g) (wleft wu) (half (R := 8) (h := 8) 0 0 (by decide) (by decide) k) (half (R := 1) (h := 1) 0 0 (by decide) (by decide) b)
    (half (R := 3) (h := 1) 2 0 (by decide) (by decide) w) (half (R := 3) (h := 1) 1 0 (by decide) (by decide) w)
    (half (R := 3) (h := 1) 0 0 (by decide) (by decide) w)
def value : FVec F S256x2816 .f32 :=
  k0_pay18 (hOf x g) (wright wu) (half (R := 8) (h := 8) 0 2816 (by decide) (by decide) k) (half (R := 1) (h := 1) 0 2816 (by decide) (by decide) b)
    (half (R := 3) (h := 1) 2 2816 (by decide) (by decide) w) (half (R := 3) (h := 1) 1 2816 (by decide) (by decide) w)
    (half (R := 3) (h := 1) 0 2816 (by decide) (by decide) w)
/-- The up projection's output, and the convolution's. -/
def uuBlocks : ℕ → ℕ → Vec F S256x2816 .bf16 := fun _ j => if j = 0 then k0_pay12 (hOf x g) (wleft wu) else k0_pay17 (hOf x g) (wright wu)
def uuOf : Vec F S256x5632 .bf16 := tiles (by decide) (by decide) (uuBlocks x g wu)
def ccBlocks : ℕ → ℕ → Vec F S256x2816 .bf16 := fun _ j =>
  if j = 0 then
    k0_pay14 (hOf x g) (wleft wu) (half (R := 8) (h := 8) 0 0 (by decide) (by decide) k) (half (R := 1) (h := 1) 0 0 (by decide) (by decide) b)
      (half (R := 3) (h := 1) 2 0 (by decide) (by decide) w) (half (R := 3) (h := 1) 1 0 (by decide) (by decide) w)
      (half (R := 3) (h := 1) 0 0 (by decide) (by decide) w)
  else
    k0_pay19 (hOf x g) (wright wu) (half (R := 8) (h := 8) 0 2816 (by decide) (by decide) k) (half (R := 1) (h := 1) 0 2816 (by decide) (by decide) b)
      (half (R := 3) (h := 1) 2 2816 (by decide) (by decide) w) (half (R := 3) (h := 1) 1 2816 (by decide) (by decide) w)
      (half (R := 3) (h := 1) 0 2816 (by decide) (by decide) w)
def ccOf : Vec F S256x5632 .bf16 := tiles (by decide) (by decide) (ccBlocks x g w b wu k)
/-- The gated product. -/
def aOf : FVec F S256x2816 .bf16 := k0_pay22 (gate x g w b wu k) (value x g w b wu k) k0_pay21
/-- The last norm's inverse root and normalised input, and the error. -/
def invOf : FVec F S256x1 .f32 := k0_pay24 (k0_pay8 x) k0_pay10 (gate x g w b wu k) (value x g w b wu k) k0_pay21 wd
def normOf : FVec F S256x1024 .f32 := k0_pay25 (k0_pay8 x) k0_pay10 (gate x g w b wu k) (value x g w b wu k) k0_pay21 wd
def errOf : FVec F S256x1024 .f32 := k0_pay27 (k0_pay8 x) k0_pay10 (gate x g w b wu k) (value x g w b wu k) k0_pay21 wd gf y
/-- The cotangent of the last norm's input, and its rounding. -/
def dxOf : FVec F S256x1024 .f32 := k0_pay3 (invOf x g w b wu wd k) (normOf x g w b wu wd k) (k0_pay26 gf) (errOf x y g w b gf wu wd k)
def dxbOf : FVec F S256x1024 .bf16 := k0_pay4 (invOf x g w b wu wd k) (normOf x g w b wu wd k) (k0_pay26 gf) (errOf x y g w b gf wu wd k)
/-- The loss after this block, and the last norm weight's sum. -/
def lossOf : FVec F S8x128 .f32 := k0_pay28 (k0_pay8 x) k0_pay10 (gate x g w b wu k) (value x g w b wu k) k0_pay21 wd gf y l
def dgOf : FVec F S1x1024 .f32 := k0_pay2 (normOf x g w b wu wd k) (errOf x y g w b gf wu wd k) e
/-- The rows this block carries to the next tile. -/
def carryBlocks : ℕ → ℕ → Vec F S8x2816 .f32 := fun _ j => if j = 0 then k0_pay15 (hOf x g) (wleft wu) else k0_pay20 (hOf x g) (wright wu)
def carryOf : Vec F S8x5632 .f32 := tiles (by decide) (by decide) (carryBlocks x g wu)

end Step

section Run

variable (c : Dev nD) (i : grid0.Coords)
  (arg1 : Memref sig .tc .vmem S256x1024 .f32) (harg1 : arg1.IsWhole) (arg2 : Memref sig .tc .vmem S256x1024 .f32) (harg2 : arg2.IsWhole)
  (arg3 : Memref sig .tc .vmem S1x1024 .f32) (harg3 : arg3.IsWhole) (arg5 : Memref sig .tc .vmem S3x5632 .f32) (harg5 : arg5.IsWhole)
  (arg6 : Memref sig .tc .vmem S1x5632 .f32) (harg6 : arg6.IsWhole) (arg7 : Memref sig .tc .vmem S1x1024 .f32) (harg7 : arg7.IsWhole)
  (arg8 : Memref sig .tc .vmem S256x5632 .bf16) (harg8 : arg8.IsWhole) (arg9 : Memref sig .tc .vmem S256x5632 .bf16) (harg9 : arg9.IsWhole)
  (arg10 : Memref sig .tc .vmem S256x2816 .bf16) (harg10 : arg10.IsWhole) (arg11 : Memref sig .tc .vmem S256x1024 .bf16) (harg11 : arg11.IsWhole)
  (arg12 : Memref sig .tc .vmem S256x1024 .f32) (harg12 : arg12.IsWhole) (arg13 : Memref sig .tc .vmem S256x1024 .bf16) (harg13 : arg13.IsWhole)
  (arg14 : Memref sig .tc .vmem S8x128 .f32) (harg14 : arg14.IsWhole) (arg15 : Memref sig .tc .vmem S1x1024 .f32) (harg15 : arg15.IsWhole)
  (x y : Vec F S256x1024 .f32) (g : Vec F S1x1024 .f32) (w : Vec F S3x5632 .f32) (b : Vec F S1x5632 .f32) (gf : Vec F S1x1024 .f32)

/-- The six blocks the body only reads. -/
abbrev Inputs : sProp 𝕄 :=
  iprop(owns (c : Thread nD τ) arg1 fullShare x ∗ owns (c : Thread nD τ) arg2 fullShare y ∗ owns (c : Thread nD τ) arg3 fullShare g
    ∗ owns (c : Thread nD τ) arg5 fullShare w ∗ owns (c : Thread nD τ) arg6 fullShare b ∗ owns (c : Thread nD τ) arg7 fullShare gf)

/-- The six blocks the body writes whole, at any contents. -/
abbrev Outputs : sProp 𝕄 :=
  iprop((∃ d, owns (c : Thread nD τ) arg8 fullShare d) ∗ (∃ d, owns (c : Thread nD τ) arg9 fullShare d) ∗ (∃ d, owns (c : Thread nD τ) arg10 fullShare d)
    ∗ (∃ d, owns (c : Thread nD τ) arg11 fullShare d) ∗ (∃ d, owns (c : Thread nD τ) arg12 fullShare d) ∗ (∃ d, owns (c : Thread nD τ) arg13 fullShare d))

/-- The two weights. -/
abbrev Weights (wu : Vec F S5632x1024 .bf16) (wd : Vec F S2816x1024 .bf16) : sProp 𝕄 :=
  iprop(owns (c : Thread nD τ) uM fullShare wu ∗ owns (c : Thread nD τ) dM fullShare wd)

/-- The two sums. -/
abbrev Sums (l : Vec F S8x128 .f32) (e : Vec F S1x1024 .f32) : sProp 𝕄 :=
  iprop(owns (c : Thread nD τ) arg14 fullShare l ∗ owns (c : Thread nD τ) arg15 fullShare e)

/-- The body's first part: it prepares the weights, the sums and the carried rows, then reads and normalises the input. -/
abbrev start := k0_part7 (F := F) i arg1 harg1 arg2 harg2 arg3 harg3 hbM (Memref.isWhole_whole _) arg5 harg5 arg6 harg6 arg7 harg7 arg8 harg8
  arg9 harg9 arg10 harg10 arg11 harg11 arg12 harg12 arg13 harg13 arg14 harg14 arg15 harg15 uM (Memref.isWhole_whole _) dM (Memref.isWhole_whole _)
  kM (Memref.isWhole_whole _) cc0_scratch3

/-- The whole body. -/
abbrev body := cc0_fwd_ffn (F := F) i arg1 harg1 arg2 harg2 arg3 harg3 hbM (Memref.isWhole_whole _) arg5 harg5 arg6 harg6 arg7 harg7 arg8 harg8
  arg9 harg9 arg10 harg10 arg11 harg11 arg12 harg12 arg13 harg13 arg14 harg14 arg15 harg15 uM (Memref.isWhole_whole _) dM (Memref.isWhole_whole _)
  kM (Memref.isWhole_whole _) cc0_scratch3

set_option maxHeartbeats 2000000 in
/-- Whatever prepares the sums, the carried rows and the two weights, the rest of the body leaves the six results of this block,
    the two sums with this block added, and this block's last rows to be carried. -/
theorem run (l : Vec F S8x128 .f32) (e : Vec F S1x1024 .f32) (k : Vec F S8x5632 .f32)
    (wu : Vec F S5632x1024 .bf16) (wd : Vec F S2816x1024 .bf16) (P E : sProp 𝕄)
    (h : ∀ K, iprop(P ∗ (iprop(Inputs c arg1 arg2 arg3 arg5 arg6 arg7 x y g w b gf ∗ Sums c arg14 arg15 l e
          ∗ owns (c : Thread nD τ) kM fullShare k ∗ Weights c wu wd ∗ E)
        -∗ K ⟨k0_pay8 x, hOf x g⟩))
      ⊢ wp frame (wpE (defs₀ (F := F)) Variants.none c none) Set.univ
          (start i arg1 harg1 arg2 harg2 arg3 harg3 arg5 harg5 arg6 harg6 arg7 harg7 arg8 harg8 arg9 harg9 arg10 harg10 arg11 harg11 arg12 harg12 arg13 harg13 arg14 harg14 arg15 harg15) K)
    (K : PUnit → sProp 𝕄) :
    iprop(P ∗ Outputs c arg8 arg9 arg10 arg11 arg12 arg13
        ∗ (iprop(Inputs c arg1 arg2 arg3 arg5 arg6 arg7 x y g w b gf
          ∗ owns (c : Thread nD τ) arg8 fullShare (uuOf x g wu) ∗ owns (c : Thread nD τ) arg9 fullShare (ccOf x g w b wu k)
          ∗ owns (c : Thread nD τ) arg10 fullShare (aOf x g w b wu k) ∗ owns (c : Thread nD τ) arg11 fullShare (hOf x g)
          ∗ owns (c : Thread nD τ) arg12 fullShare (dxOf x y g w b gf wu wd k) ∗ owns (c : Thread nD τ) arg13 fullShare (dxbOf x y g w b gf wu wd k)
          ∗ Sums c arg14 arg15 (lossOf x y g w b gf wu wd k l) (dgOf x y g w b gf wu wd k e)
          ∗ owns (c : Thread nD τ) kM fullShare (carryOf x g wu) ∗ Weights c wu wd ∗ E) -∗ K ⟨⟩))
      ⊢ wp frame (wpE (defs₀ (F := F)) Variants.none c none) Set.univ
          (body i arg1 harg1 arg2 harg2 arg3 harg3 arg5 harg5 arg6 harg6 arg7 harg7 arg8 harg8 arg9 harg9 arg10 harg10 arg11 harg11 arg12 harg12 arg13 harg13 arg14 harg14 arg15 harg15) K := by
  unfold body
  rw [cc0_fwd_ffn_eq_skeleton]; unfold cc0_fwd_ffn_skel
  rw [k0_part8_eq_skeleton, k0_part9_eq_skeleton, k0_part10_eq_skeleton]
  unfold k0_part8_skel k0_part9_skel k0_part10_skel
  rw [wp_bind]
  iintro ⟨HP, ⟨H8, H9, H10, H11, H12, H13⟩, Hk⟩
  iapply (h _)
  isplitl [HP]; · iexact HP
  unfold Inputs Sums Weights owns
  icases H8 with ⟨%d8, %f8, -, H8⟩
  icases H9 with ⟨%d9, %f9, -, H9⟩
  icases H10 with ⟨%d10, %f10, -, H10⟩
  icases H11 with ⟨%d11, %f11, -, H11⟩
  icases H12 with ⟨%d12, %f12, -, H12⟩
  icases H13 with ⟨%d13, %f13, -, H13⟩
  iintro ⟨⟨⟨%f1, %hf1, H1⟩, ⟨%f2, %hf2, H2⟩, ⟨%f3, %hf3, H3⟩, ⟨%f5, %hf5, H5⟩, ⟨%f6, %hf6, H6⟩, ⟨%f7, %hf7, H7⟩⟩, ⟨⟨%f14, %hf14, H14⟩, ⟨%f15, %hf15, H15⟩⟩, ⟨%fk, %hfk, HK⟩, ⟨⟨%fu, %hfu, HU⟩, ⟨%fd, %hfd, HD⟩⟩, HE⟩
  sl_exec
  sl_step
  have k2 : ∀ h, View.readAt (Elt F) arg2.view (Rect.unit ![0, 0] S256x1024.size h).toLoadRect f2 = y := fun h => (View.readAt_full ..).trans hf2
  have k7 : ∀ h, View.readAt (Elt F) arg7.view (Rect.unit ![0, 0] S1x1024.size h).toLoadRect f7 = gf := fun h => (View.readAt_full ..).trans hf7
  have k14 : ∀ h, View.readAt (Elt F) arg14.view (Rect.unit ![0, 0] S8x128.size h).toLoadRect f14 = l := fun h => (View.readAt_full ..).trans hf14
  have k15 : ∀ h, View.readAt (Elt F) arg15.view (Rect.unit ![0, 0] S1x1024.size h).toLoadRect f15 = e := fun h => (View.readAt_full ..).trans hf15
  have k5 : ∀ (r o : ℕ) (inb : ∀ a, (![r, o] : Fin 2 → ℕ) a + S1x2816.size a ≤ (⟨2, ![3, 5632]⟩ : Shape).size a),
      View.readAt (Elt F) arg5.view (Rect.unit (s := ⟨2, ![3, 5632]⟩) ![r, o] S1x2816.size inb).toLoadRect f5 = part (h := 1) (w := 2816) r o (inb 0) (inb 1) w :=
    readAt_part arg5.view f5 w hf5
  have k6 : ∀ (r o : ℕ) (inb : ∀ a, (![r, o] : Fin 2 → ℕ) a + S1x2816.size a ≤ (⟨2, ![1, 5632]⟩ : Shape).size a),
      View.readAt (Elt F) arg6.view (Rect.unit (s := ⟨2, ![1, 5632]⟩) ![r, o] S1x2816.size inb).toLoadRect f6 = part (h := 1) (w := 2816) r o (inb 0) (inb 1) b :=
    readAt_part arg6.view f6 b hf6
  have kk : ∀ (r o : ℕ) (inb : ∀ a, (![r, o] : Fin 2 → ℕ) a + S8x2816.size a ≤ (⟨2, ![8, 5632]⟩ : Shape).size a),
      View.readAt (Elt F) kM.view (Rect.unit (s := ⟨2, ![8, 5632]⟩) ![r, o] S8x2816.size inb).toLoadRect fk = part (h := 8) (w := 2816) r o (inb 0) (inb 1) k :=
    readAt_part kM.view fk k hfk
  have ku : ∀ (r o : ℕ) (inb : ∀ a, (![r, o] : Fin 2 → ℕ) a + S2816x1024.size a ≤ (⟨2, ![5632, 1024]⟩ : Shape).size a),
      View.readAt (Elt F) uM.view (Rect.unit (s := ⟨2, ![5632, 1024]⟩) ![r, o] S2816x1024.size inb).toLoadRect fu = part (h := 2816) (w := 1024) r o (inb 0) (inb 1) wu :=
    readAt_part uM.view fu wu hfu
  have kd : ∀ h, View.readAt (Elt F) dM.view (Rect.unit ![0, 0] S2816x1024.size h).toLoadRect fd = wd := fun h => (View.readAt_full ..).trans hfd
  have kr : run.sl.v74 c fk = part (h := 8) (w := 2816) 0 2816 (by decide) (by decide) k := kk 0 2816 _
  iapply Hk
  isplitl [H1 H2 H3 H5 H6 H7]
  · isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H5]; · iexists _; isplitr; swap; · iexact H5
                    ipureintro; exact hf5
    isplitl [H6]; · iexists _; isplitr; swap; · iexact H6
                    ipureintro; exact hf6
    iexists _; isplitr; swap; · iexact H7
    ipureintro; exact hf7
  isplitl [H8]
  · iexists _; isplitr; swap; · iexact H8
    ipureintro; simp only [ku]
    exact two_halves (R := 256) (by decide) arg8.view f8 (uuBlocks x g wu) inb_S256x5632_S256x2816_0_0 inb_S256x5632_S256x2816_0_2816
  isplitl [H9]
  · iexists _; isplitr; swap; · iexact H9
    ipureintro; rw [kr]; simp only [k5, k6, kk, ku]
    exact two_halves (R := 256) (by decide) arg9.view f9 (ccBlocks x g w b wu k) inb_S256x5632_S256x2816_0_0 inb_S256x5632_S256x2816_0_2816
  isplitl [H10]
  · iexists _; isplitr; swap; · iexact H10
    ipureintro; rw [View.read_writes_full, kr]; simp only [k2, k7, k14, k15, k5, k6, kk, ku, kd]; rfl
  isplitl [H11]
  · iexists _; isplitr; swap; · iexact H11
    ipureintro; exact View.read_writes_full ..
  isplitl [H12]
  · iexists _; isplitr; swap; · iexact H12
    ipureintro; rw [View.read_writes_full, kr]; simp only [k2, k7, k14, k15, k5, k6, kk, ku, kd]; rfl
  isplitl [H13]
  · iexists _; isplitr; swap; · iexact H13
    ipureintro; rw [View.read_writes_full, kr]; simp only [k2, k7, k14, k15, k5, k6, kk, ku, kd]; rfl
  isplitl [H14 H15]
  · isplitl [H14]
    · iexists _; isplitr; swap; · iexact H14
      ipureintro; rw [View.read_writes_full, kr]; simp only [k2, k7, k14, k15, k5, k6, kk, ku, kd]; rfl
    iexists _; isplitr; swap; · iexact H15
    ipureintro; rw [View.read_writes_full, kr]; simp only [k2, k7, k14, k15, k5, k6, kk, ku, kd]; rfl
  isplitl [HK]
  · iexists _; isplitr; swap; · iexact HK
    ipureintro; simp only [ku]
    exact two_halves (R := 8) (by decide) kM.view fk (carryBlocks x g wu) inb_S8x5632_S8x2816_0_0 inb_S8x5632_S8x2816_0_2816
  isplitr [HE]; swap; · iexact HE
  isplitl [HU]; · iexists _; isplitr; swap; · iexact HU
                  ipureintro; exact hfu
  iexists _; isplitr; swap; · iexact HD
  ipureintro; exact hfd

/-- At any other grid point the first part only reads. -/
theorem start_later (hi : ¬first i) (hj : ¬fresh i) (l : Vec F S8x128 .f32) (e : Vec F S1x1024 .f32) (k : Vec F S8x5632 .f32)
    (wu : Vec F S5632x1024 .bf16) (wd : Vec F S2816x1024 .bf16) (K : _ → sProp 𝕄) :
    iprop(iprop(Inputs c arg1 arg2 arg3 arg5 arg6 arg7 x y g w b gf ∗ Sums c arg14 arg15 l e ∗ owns (c : Thread nD τ) kM fullShare k ∗ Weights c wu wd)
        ∗ (iprop(Inputs c arg1 arg2 arg3 arg5 arg6 arg7 x y g w b gf ∗ Sums c arg14 arg15 l e ∗ owns (c : Thread nD τ) kM fullShare k ∗ Weights c wu wd ∗ emp)
        -∗ K ⟨k0_pay8 x, hOf x g⟩))
      ⊢ wp frame (wpE (defs₀ (F := F)) Variants.none c none) Set.univ
          (start i arg1 harg1 arg2 harg2 arg3 harg3 arg5 harg5 arg6 harg6 arg7 harg7 arg8 harg8 arg9 harg9 arg10 harg10 arg11 harg11 arg12 harg12 arg13 harg13 arg14 harg14 arg15 harg15) K := by
  unfold start hOf; rw [k0_part7_eq_skeleton]; unfold k0_part7_skel Inputs Sums Weights owns
  iintro ⟨⟨⟨⟨%f1, %hf1, H1⟩, H2, ⟨%f3, %hf3, H3⟩, H5, H6, H7⟩, HS, HK, HW⟩, Hk⟩
  sl_exec (disch := first | sl_exact hi | sl_exact hj)
  sl_step
  have k1 : ∀ h, View.readAt (Elt F) arg1.view (Rect.unit ![0, 0] S256x1024.size h).toLoadRect f1 = x := fun h => (View.readAt_full ..).trans hf1
  have k3 : ∀ h, View.readAt (Elt F) arg3.view (Rect.unit ![0, 0] S1x1024.size h).toLoadRect f3 = g := fun h => (View.readAt_full ..).trans hf3
  simp only [k1, k3]
  iapply Hk
  isplitl [H1 H2 H3 H5 H6 H7]
  · isplitl [H1]; · iexists _; isplitr; swap; · iexact H1
                    ipureintro; exact hf1
    isplitl [H2]; · iexact H2
    isplitl [H3]; · iexists _; isplitr; swap; · iexact H3
                    ipureintro; exact hf3
    isplitl [H5]; · iexact H5
    isplitl [H6]; · iexact H6
    iexact H7
  isplitl [HS]; · iexact HS
  isplitl [HK]; · iexact HK
  isplitl; · iexact HW
  iempintro

/-- At the first grid point of the other sequence the first part clears the carried rows. -/
theorem start_fresh (hi : ¬first i) (hj : fresh i) (l : Vec F S8x128 .f32) (e : Vec F S1x1024 .f32)
    (wu : Vec F S5632x1024 .bf16) (wd : Vec F S2816x1024 .bf16) (K : _ → sProp 𝕄) :
    iprop(iprop(Inputs c arg1 arg2 arg3 arg5 arg6 arg7 x y g w b gf ∗ Sums c arg14 arg15 l e ∗ (∃ d, owns (c : Thread nD τ) kM fullShare d) ∗ Weights c wu wd)
        ∗ (iprop(Inputs c arg1 arg2 arg3 arg5 arg6 arg7 x y g w b gf ∗ Sums c arg14 arg15 l e ∗ owns (c : Thread nD τ) kM fullShare k0_pay7 ∗ Weights c wu wd ∗ emp)
        -∗ K ⟨k0_pay8 x, hOf x g⟩))
      ⊢ wp frame (wpE (defs₀ (F := F)) Variants.none c none) Set.univ
          (start i arg1 harg1 arg2 harg2 arg3 harg3 arg5 harg5 arg6 harg6 arg7 harg7 arg8 harg8 arg9 harg9 arg10 harg10 arg11 harg11 arg12 harg12 arg13 harg13 arg14 harg14 arg15 harg15) K := by
  unfold start hOf; rw [k0_part7_eq_skeleton]; unfold k0_part7_skel Inputs Sums Weights owns
  iintro ⟨⟨⟨⟨%f1, %hf1, H1⟩, H2, ⟨%f3, %hf3, H3⟩, H5, H6, H7⟩, HS, ⟨%dk, %fk, -, HK⟩, HW⟩, Hk⟩
  sl_exec (disch := first | sl_exact hi | sl_exact hj)
  sl_step
  have k1 : ∀ h, View.readAt (Elt F) arg1.view (Rect.unit ![0, 0] S256x1024.size h).toLoadRect f1 = x := fun h => (View.readAt_full ..).trans hf1
  have k3 : ∀ h, View.readAt (Elt F) arg3.view (Rect.unit ![0, 0] S1x1024.size h).toLoadRect f3 = g := fun h => (View.readAt_full ..).trans hf3
  simp only [k1, k3]
  iapply Hk
  isplitl [H1 H2 H3 H5 H6 H7]
  · isplitl [H1]; · iexists _; isplitr; swap; · iexact H1
                    ipureintro; exact hf1
    isplitl [H2]; · iexact H2
    isplitl [H3]; · iexists _; isplitr; swap; · iexact H3
                    ipureintro; exact hf3
    isplitl [H5]; · iexact H5
    isplitl [H6]; · iexact H6
    iexact H7
  isplitl [HS]; · iexact HS
  isplitl [HK]; · iexists _; isplitr; swap; · iexact HK
                  ipureintro; exact View.read_writes_full ..
  isplitl; · iexact HW
  iempintro

/-- What the first grid point needs besides its blocks: the scratch buffers at any contents, the two semaphores, the gathered
    array, and what the core owes. -/
abbrev Loading (G : Buf (Elt F) (hbM.view.loc (c : Thread nD τ))) (W : Waits sig Unit) : sProp 𝕄 :=
  iprop((∃ fs : Buf (Elt F) (uM.view.loc (c : Thread nD τ)), (uM.view.loc (c : Thread nD τ) ↦{fullShare} fs))
    ∗ (∃ fs : Buf (Elt F) (dM.view.loc (c : Thread nD τ)), (dM.view.loc (c : Thread nD τ) ↦{fullShare} fs))
    ∗ (∃ fs : Buf (Elt F) (kM.view.loc (c : Thread nD τ)), (kM.view.loc (c : Thread nD τ) ↦{fullShare} fs))
    ∗ semVal ((c : Thread nD τ), SemLoc.dma 22) 0 ∗ semVal ((c : Thread nD τ), SemLoc.dma 23) 0
    ∗ (hbM.view.loc (c : Thread nD τ) ↦{fullShare} G) ∗ owes (c : Thread nD τ) 0 W)

/-- What the first grid point leaves of that beside the two weights and the carried rows. -/
abbrev Loaded (G : Buf (Elt F) (hbM.view.loc (c : Thread nD τ))) : sProp 𝕄 :=
  iprop(semVal ((c : Thread nD τ), SemLoc.dma 22) 0 ∗ semVal ((c : Thread nD τ), SemLoc.dma 23) 0
    ∗ (hbM.view.loc (c : Thread nD τ) ↦{fullShare} G) ∗ (∃ W', owes (c : Thread nD τ) 0 W'))

set_option maxHeartbeats 8000000 in
/-- At the first grid point the first part loads the two weights and clears the sums and the carried rows. -/
theorem start_first (hi : first i) (hj : fresh i) (G : Buf (Elt F) (hbM.view.loc (c : Thread nD τ))) (W : Waits sig Unit) (K : _ → sProp 𝕄) :
    iprop(iprop(Inputs c arg1 arg2 arg3 arg5 arg6 arg7 x y g w b gf ∗ (∃ d, owns (c : Thread nD τ) arg14 fullShare d)
          ∗ (∃ d, owns (c : Thread nD τ) arg15 fullShare d) ∗ Loading c G W)
        ∗ (iprop(Inputs c arg1 arg2 arg3 arg5 arg6 arg7 x y g w b gf ∗ Sums c arg14 arg15 k0_pay5 k0_pay6
            ∗ owns (c : Thread nD τ) kM fullShare k0_pay7 ∗ Weights c (wuOf (hbM.view.read (Elt F) G)) (wdOf (hbM.view.read (Elt F) G)) ∗ Loaded c G)
        -∗ K ⟨k0_pay8 x, hOf x g⟩))
      ⊢ wp frame (wpE (defs₀ (F := F)) Variants.none c none) Set.univ
          (start i arg1 harg1 arg2 harg2 arg3 harg3 arg5 harg5 arg6 harg6 arg7 harg7 arg8 harg8 arg9 harg9 arg10 harg10 arg11 harg11 arg12 harg12 arg13 harg13 arg14 harg14 arg15 harg15) K := by
  have _planU : Transfers.BatchOf (c : Thread nD τ) (SemLoc.dma (sig := sig) 22) 8 (windows := true) := ⟨⟩
  have _planD : Transfers.BatchOf (c : Thread nD τ) (SemLoc.dma (sig := sig) 23) 8 (windows := true) := ⟨⟩
  unfold start hOf; rw [k0_part7_eq_skeleton]; unfold k0_part7_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel Inputs Sums Weights Loading Loaded owns
  iintro ⟨⟨⟨⟨%f1, %hf1, H1⟩, H2, ⟨%f3, %hf3, H3⟩, H5, H6, H7⟩, ⟨%d14, %f14, -, H14⟩, ⟨%d15, %f15, -, H15⟩, ⟨%fu, HU⟩, ⟨%fd, HD⟩, ⟨%fk, HK⟩, Hs, Ht, Hh, HW⟩, Hk⟩
  sl_exec (disch := first | sl_exact hi | sl_exact hj)
  sl_exec (disch := first | sl_exact hi | sl_exact hj)
  sl_step
  -- what the two rows of eight transfers leave in the scratch buffers
  have hU : ∀ f : uM.view.ty.Contents (Elt F), uM.view.read (Elt F) (uM.view.writes (Elt F) f
      [⟨Rect.unit ![4928, 0] S704x1024.size inb_S5632x1024_S704x1024_4928_0, start_first.sl.dma7 c G⟩,
        ⟨Rect.unit ![4224, 0] S704x1024.size inb_S5632x1024_S704x1024_4224_0, start_first.sl.dma6 c G⟩,
        ⟨Rect.unit ![3520, 0] S704x1024.size inb_S5632x1024_S704x1024_3520_0, start_first.sl.dma5 c G⟩,
        ⟨Rect.unit ![2816, 0] S704x1024.size inb_S5632x1024_S704x1024_2816_0, start_first.sl.dma4 c G⟩,
        ⟨Rect.unit ![2112, 0] S704x1024.size inb_S5632x1024_S704x1024_2112_0, start_first.sl.dma3 c G⟩,
        ⟨Rect.unit ![1408, 0] S704x1024.size inb_S5632x1024_S704x1024_1408_0, start_first.sl.dma2 c G⟩,
        ⟨Rect.unit ![704, 0] S704x1024.size inb_S5632x1024_S704x1024_704_0, start_first.sl.dma1 c G⟩,
        ⟨Rect.unit ![0, 0] S704x1024.size inb_S5632x1024_S704x1024_0_0, start_first.sl.dma0 c G⟩])
        = wuOf (hbM.view.read (Elt F) G) := fun f =>
    loaded (T := 5632) (R := 704) (off := 0) rfl (by decide) (by decide) hbM G _ f _ rfl fun d hd => by interval_cases d <;> exact ⟨_, _, _, _, rfl⟩
  have hD : ∀ f : dM.view.ty.Contents (Elt F), dM.view.read (Elt F) (dM.view.writes (Elt F) f
      [⟨Rect.unit ![2464, 0] S352x1024.size inb_S2816x1024_S352x1024_2464_0, start_first.sl.dma7_1 c G⟩,
        ⟨Rect.unit ![2112, 0] S352x1024.size inb_S2816x1024_S352x1024_2112_0, start_first.sl.dma6_1 c G⟩,
        ⟨Rect.unit ![1760, 0] S352x1024.size inb_S2816x1024_S352x1024_1760_0, start_first.sl.dma5_1 c G⟩,
        ⟨Rect.unit ![1408, 0] S352x1024.size inb_S2816x1024_S352x1024_1408_0, start_first.sl.dma4_1 c G⟩,
        ⟨Rect.unit ![1056, 0] S352x1024.size inb_S2816x1024_S352x1024_1056_0, start_first.sl.dma3_1 c G⟩,
        ⟨Rect.unit ![704, 0] S352x1024.size inb_S2816x1024_S352x1024_704_0, start_first.sl.dma2_1 c G⟩,
        ⟨Rect.unit ![352, 0] S352x1024.size inb_S2816x1024_S352x1024_352_0, start_first.sl.dma1_1 c G⟩,
        ⟨Rect.unit ![0, 0] S352x1024.size inb_S2816x1024_S352x1024_0_0, start_first.sl.dma0_1 c G⟩])
        = wdOf (hbM.view.read (Elt F) G) := fun f =>
    loaded (T := 2816) (R := 352) (off := 704) rfl (by decide) (by decide) hbM G _ f _ rfl fun d hd => by interval_cases d <;> exact ⟨_, _, _, _, rfl⟩
  have k1 : ∀ h, View.readAt (Elt F) arg1.view (Rect.unit ![0, 0] S256x1024.size h).toLoadRect f1 = x := fun h => (View.readAt_full ..).trans hf1
  have k3 : ∀ h, View.readAt (Elt F) arg3.view (Rect.unit ![0, 0] S1x1024.size h).toLoadRect f3 = g := fun h => (View.readAt_full ..).trans hf3
  simp only [k1, k3]
  iapply Hk
  isplitl [H1 H2 H3 H5 H6 H7]
  · isplitl [H1]; · iexists _; isplitr; swap; · iexact H1
                    ipureintro; exact hf1
    isplitl [H2]; · iexact H2
    isplitl [H3]; · iexists _; isplitr; swap; · iexact H3
                    ipureintro; exact hf3
    isplitl [H5]; · iexact H5
    isplitl [H6]; · iexact H6
    iexact H7
  isplitl [H14 H15]
  · isplitl [H14]; · iexists _; isplitr; swap; · iexact H14
                     ipureintro; exact View.read_writes_full ..
    iexists _; isplitr; swap; · iexact H15
    ipureintro; exact View.read_writes_full ..
  isplitl [HK]
  · iexists _; isplitr; swap; · rw [(Memref.isWhole_whole cc0_scratch2).set_eq_univ]; iexact HK
    ipureintro; exact View.read_writes_full ..
  isplitl [HU HD]
  · isplitl [HU]; · iexists _; isplitr; swap; · rw [(Memref.isWhole_whole cc0_scratch0).set_eq_univ]; iexact HU
                    ipureintro; exact hU fu
    iexists _; isplitr; swap; · rw [(Memref.isWhole_whole cc0_scratch1).set_eq_univ]; iexact HD
    ipureintro; exact hD fd
  isplitl [Hs]; · iexact Hs
  isplitl [Ht]; · iexact Ht
  isplitl [Hh]; · iexact Hh
  iexists _; iexact HW

end Run

end Cert.Kernel4Ideal.Head
-- ==== Proof.HeadFrame.lean ====
/-
  The launch of the forward call of the gated feed-forward block, loss and last norm's gradient included: what the two weights'
  scratch buffers, the carried rows and the two running sums hold between grid points, and the frame.
-/
module

public import proofs.«01_k».proof.Proof.HeadBody

@[expose] public section

set_option maxRecDepth 16384

noncomputable section

namespace Cert.Kernel4Ideal.Head

open Cert.Kernel4Ideal Cert.Kernel4Ideal.Gen Cert.Gathered Cert.Tiles
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host operations, then the region. -/
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem coord (t : Fin cfg0.N) : (grid0.coords t 0).val = t.val ∧ t.val < 16 := by
  have ht : t.val < 16 := Nat.lt_of_lt_of_eq t.isLt N_0
  have e0 : (grid0.coords t 0).val = t.val / 1 % 16 := Pipeline.Grid.coords_val t 0 (by decide) rfl
  omega

/-- The body's first test is true at the first grid point only. -/
theorem first_iff (t : Fin cfg0.N) : first (grid0.coords t) ↔ t.val = 0 := by
  obtain ⟨e0, ht⟩ := coord t
  have : ∀ n : Fin 16, (Scalar.cmpi .ne (Scalar.extui (Scalar.cmpi .eq (BitVec.ofNat 32 n.val) 0#32) : BitVec 32) 0#32 = 1#1) ↔ n.val = 0 := by
    decide
  unfold first; rw [e0]; exact this ⟨t.val, ht⟩

/-- The body's other test is true at the first grid point of each sequence. -/
theorem fresh_iff (t : Fin cfg0.N) : fresh (grid0.coords t) ↔ t.val % 8 = 0 := by
  obtain ⟨e0, ht⟩ := coord t
  have : ∀ n : Fin 16, (Scalar.cmpi .ne (Scalar.extui (Scalar.cmpi .eq (Scalar.select
      (Scalar.andi (Scalar.xori (Scalar.cmpi .slt (Scalar.remsi (BitVec.ofNat 32 n.val) (Scalar.select (Scalar.cmpi .eq 8#32 0#32) 1#32 8#32)) 0#32) (Scalar.cmpi .slt (Scalar.select (Scalar.cmpi .eq 8#32 0#32) 1#32 8#32) 0#32))
        (Scalar.cmpi .ne (Scalar.remsi (BitVec.ofNat 32 n.val) (Scalar.select (Scalar.cmpi .eq 8#32 0#32) 1#32 8#32)) 0#32))
      (Scalar.addi (Scalar.remsi (BitVec.ofNat 32 n.val) (Scalar.select (Scalar.cmpi .eq 8#32 0#32) 1#32 8#32)) (Scalar.select (Scalar.cmpi .eq 8#32 0#32) 1#32 8#32))
      (Scalar.remsi (BitVec.ofNat 32 n.val) (Scalar.select (Scalar.cmpi .eq 8#32 0#32) 1#32 8#32))) 0#32) : BitVec 32) 0#32 = 1#1) ↔ n.val % 8 = 0 := by
    decide
  unfold fresh tile; rw [e0]; exact this ⟨t.val, ht⟩

/-- The two weights as the region finds them in the gathered array. -/
def wuAt (c : Dev nD) : Vec F S5632x1024 .bf16 := wuOf (hbM.view.read (Elt F) (V m c main_v6))
def wdAt (c : Dev nD) : Vec F S2816x1024 .bf16 := wdOf (hbM.view.read (Elt F) (V m c main_v6))

/-- The rows one grid point leaves for the next. -/
def carryAt (c : Dev nD) (t : Fin cfg0.N) : Vec F S8x5632 .f32 := carryOf (iblk m c 0 t) (iblk m c 2 t) (wuAt m c)
/-- The rows a grid point finds: none at the first point of a sequence. -/
def carried (c : Dev nD) (t : Fin cfg0.N) : Vec F S8x5632 .f32 := if t.val % 8 = 0 then k0_pay7 else carryAt m c (prev t)

/-- One step of the loss and of the last norm weight's sum. -/
def lossStep (c : Dev nD) (t : Fin cfg0.N) (l : Vec F S8x128 .f32) : Vec F S8x128 .f32 :=
  lossOf (iblk m c 0 t) (iblk m c 1 t) (iblk m c 2 t) (iblk m c 3 t) (iblk m c 4 t) (iblk m c 5 t) (wuAt m c) (wdAt m c) (carried m c t) l
def dgStep (c : Dev nD) (t : Fin cfg0.N) (e : Vec F S1x1024 .f32) : Vec F S1x1024 .f32 :=
  dgOf (iblk m c 0 t) (iblk m c 1 t) (iblk m c 2 t) (iblk m c 3 t) (iblk m c 4 t) (iblk m c 5 t) (wuAt m c) (wdAt m c) (carried m c t) e

def lossAt (c : Dev nD) (t : Fin cfg0.N) : Vec F S8x128 .f32 := sumAt (lossStep m c) k0_pay5 t.val t.isLt
def dgAt (c : Dev nD) (t : Fin cfg0.N) : Vec F S1x1024 .f32 := sumAt (dgStep m c) k0_pay6 t.val t.isLt

/-! ## Between grid points -/

/-- The body's two semaphores, and the array its transfers read. -/
abbrev osem0 : Fin 2 → SemLoc sig := ![SemLoc.dma 22, SemLoc.dma 23]
theorem ownSemFacts0 : Pipeline.OwnSemFacts spec0 osem0 := by decide
def H0 : Finset (Ref sig .tc) := {main_v6}
theorem H0_sub : H0 ⊆ Pipeline.restRefs sig spec0 := by decide

/-- The register, the two semaphores at zero, and the gathered array. -/
abbrev Idle (c : Dev nD) : sProp 𝕄 :=
  iprop((∃ r, prngReg c r) ∗ (semVal ((c : Thread nD τ), SemLoc.dma 22) 0 ∗ semVal ((c : Thread nD τ), SemLoc.dma 23) 0)
    ∗ (hbM.view.loc (c : Thread nD τ) ↦{fullShare} V m c main_v6))

/-- The three scratch buffers at any contents. -/
abbrev Scratch (c : Dev nD) : sProp 𝕄 :=
  iprop((∃ fs : Buf (Elt F) (uM.view.loc (c : Thread nD τ)), (uM.view.loc (c : Thread nD τ) ↦{fullShare} fs))
    ∗ (∃ fs : Buf (Elt F) (dM.view.loc (c : Thread nD τ)), (dM.view.loc (c : Thread nD τ) ↦{fullShare} fs))
    ∗ (∃ fs : Buf (Elt F) (kM.view.loc (c : Thread nD τ)), (kM.view.loc (c : Thread nD τ) ↦{fullShare} fs)))

/-- What the launch hands the region. -/
theorem Phi_launch (c : Dev nD) : (Pipeline.ΦD osem0 spec0 H0 (V m) c : sProp 𝕄) = iprop(Scratch c ∗ Idle m c) := by
  rw [Pipeline.ΦD_eq, scopedRest0_eq, Pipeline.ownSems0_eq_of_list c osem0 [0, 1] (by decide) (by decide)]
  rw [BI.bigSep_eq_bigSepL_of_eq [main_v6] (by decide) (by decide)]; rfl

/-- Between grid points: the weights, the rows the last point left, and the rest. -/
abbrev Between (c : Dev nD) (k : Vec F S8x5632 .f32) : sProp 𝕄 :=
  iprop((Weights c (wuAt m c) (wdAt m c) ∗ owns (c : Thread nD τ) kM fullShare k) ∗ Idle m c)

/-- Before the first grid point the scratch buffers hold anything, afterwards the weights and the carried rows. -/
def Phi (c : Dev nD) : (n : ℕ) → n < cfg0.N + 1 → sProp 𝕄
  | 0, _ => Pipeline.ΦD osem0 spec0 H0 (V m) c
  | n + 1, h => Between m c (carryAt m c ⟨n, Nat.lt_of_succ_lt_succ h⟩)

theorem Phi_zero (c : Dev nD) (n : ℕ) (hn : n < cfg0.N + 1) (h : n = 0) : Phi m c n hn = iprop(Scratch c ∗ Idle m c) := by
  subst h; exact Phi_launch m c

theorem Phi_pos (c : Dev nD) (t : Fin cfg0.N) (hn : t.val < cfg0.N + 1) (h : t.val ≠ 0) : Phi m c t.val hn = Between m c (carryAt m c (prev t)) := by
  obtain ⟨n, hn⟩ := t; cases n with | zero => exact absurd rfl h | succ n => rfl

/-- The launch's proof data: the inputs stay as fetched, the first six results' blocks are those of this block of positions, the
    last two the running sums. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => uuOf (iblk m c 0 t) (iblk m c 2 t) (wuAt m c)
    | ⟨7, _⟩ => ccOf (iblk m c 0 t) (iblk m c 2 t) (iblk m c 3 t) (iblk m c 4 t) (wuAt m c) (carried m c t)
    | ⟨8, _⟩ => aOf (iblk m c 0 t) (iblk m c 2 t) (iblk m c 3 t) (iblk m c 4 t) (wuAt m c) (carried m c t)
    | ⟨9, _⟩ => hOf (iblk m c 0 t) (iblk m c 2 t)
    | ⟨10, _⟩ => dxOf (iblk m c 0 t) (iblk m c 1 t) (iblk m c 2 t) (iblk m c 3 t) (iblk m c 4 t) (iblk m c 5 t) (wuAt m c) (wdAt m c) (carried m c t)
    | ⟨11, _⟩ => dxbOf (iblk m c 0 t) (iblk m c 1 t) (iblk m c 2 t) (iblk m c 3 t) (iblk m c 4 t) (iblk m c 5 t) (wuAt m c) (wdAt m c) (carried m c t)
    | ⟨12, _⟩ => lossAt m c t
    | ⟨13, _⟩ => dgAt m c t
  Φ t := Phi m c t.val t.isLt
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = uuOf (iblk m c 0 t) (iblk m c 2 t) (wuAt m c) := by dsimp only [dats]
theorem after7 (c : Dev nD) (t : Fin cfg0.N) : (dats m 0 c).after 7 t = ccOf (iblk m c 0 t) (iblk m c 2 t) (iblk m c 3 t) (iblk m c 4 t) (wuAt m c) (carried m c t) := by dsimp only [dats]
theorem after8 (c : Dev nD) (t : Fin cfg0.N) : (dats m 0 c).after 8 t = aOf (iblk m c 0 t) (iblk m c 2 t) (iblk m c 3 t) (iblk m c 4 t) (wuAt m c) (carried m c t) := by dsimp only [dats]
theorem after9 (c : Dev nD) (t : Fin cfg0.N) : (dats m 0 c).after 9 t = hOf (iblk m c 0 t) (iblk m c 2 t) := by dsimp only [dats]
theorem after10 (c : Dev nD) (t : Fin cfg0.N) : (dats m 0 c).after 10 t = dxOf (iblk m c 0 t) (iblk m c 1 t) (iblk m c 2 t) (iblk m c 3 t) (iblk m c 4 t) (iblk m c 5 t) (wuAt m c) (wdAt m c) (carried m c t) := by dsimp only [dats]
theorem after11 (c : Dev nD) (t : Fin cfg0.N) : (dats m 0 c).after 11 t = dxbOf (iblk m c 0 t) (iblk m c 1 t) (iblk m c 2 t) (iblk m c 3 t) (iblk m c 4 t) (iblk m c 5 t) (wuAt m c) (wdAt m c) (carried m c t) := by dsimp only [dats]
theorem after12 (c : Dev nD) (t : Fin cfg0.N) : (dats m 0 c).after 12 t = lossAt m c t := by dsimp only [dats]
theorem after13 (c : Dev nD) (t : Fin cfg0.N) : (dats m 0 c).after 13 t = dgAt m c t := by dsimp only [dats]

theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
/-! The two sums are written back after the last point only, so every other point finds what the point before left. -/
theorem before12 (c : Dev nD) (t : Fin cfg0.N) (h0 : t.val ≠ 0) (d) : (dats m 0 c).before 12 t d = lossAt m c (prev t) := by
  have hN : t.val < 16 := lt_of_lt_of_eq t.isLt N_0
  rw [Dat.before_out_kept _ 12 rfl t (by omega) (Bool.eq_false_iff.mpr fun h => by have := (flush0_12 _).mp h; dsimp only at this; omega)
    (fun _ => rfl) (fun _ _ => rfl)]
  dsimp only [dats]; rfl
theorem before13 (c : Dev nD) (t : Fin cfg0.N) (h0 : t.val ≠ 0) (d) : (dats m 0 c).before 13 t d = dgAt m c (prev t) := by
  have hN : t.val < 16 := lt_of_lt_of_eq t.isLt N_0
  rw [Dat.before_out_kept _ 13 rfl t (by omega) (Bool.eq_false_iff.mpr fun h => by have := (flush0_13 _).mp h; dsimp only at this; omega)
    (fun _ => rfl) (fun _ _ => rfl)]
  dsimp only [dats]; rfl

/-! ## The body at a grid point -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev ms11 (t : Fin cfg0.N) := win0_11.stage (cfg0.slots t 11)
abbrev ms12 (t : Fin cfg0.N) := win0_12.stage (cfg0.slots t 12)
abbrev ms13 (t : Fin cfg0.N) := win0_13.stage (cfg0.slots t 13)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 3200000 in
/-- The body at any grid point: the first point loads the weights, the later ones find them; the first point of a sequence
    clears the carried rows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [after0, after1, after2, after3, after4, after5, after6, after7, after8, after9, after10, after11, after12, after13]
  rw [show (dats m 0 c).Φ t.castSucc = Phi m c t.val (Nat.lt_succ_of_lt t.isLt) from rfl,
    show (dats m 0 c).Φ t.succ = Between m c (carryAt m c t) from rfl]
  unfold Dat.owesAt Pipeline.owesWithin
  rw [show (dats m 0 c).owed t.castSucc = 0 from rfl, show (dats m 0 c).owed t.succ = 0 from rfl]
  unfold lossAt dgAt
  by_cases hz : t.val = 0
  · rw [Phi_zero m c _ _ hz, sumAt_zero _ _ t hz, sumAt_zero _ _ t hz]
    unfold carryAt lossStep dgStep carried
    rw [if_pos (show t.val % 8 = 0 by omega)]
    iintro ⟨⟨⟨HU, HD, HK⟩, Hg, ⟨Hs, Ht⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run c (grid0.coords t) (ms0 t) _ (ms1 t) _ (ms2 t) _ (ms3 t) _ (ms4 t) _ (ms5 t) _ (ms6 t) _ (ms7 t) _ (ms8 t) _ (ms9 t) _ (ms10 t) _ (ms11 t) _ (ms12 t) _ (ms13 t) _
      (iblk m c 0 t) (iblk m c 1 t) (iblk m c 2 t) (iblk m c 3 t) (iblk m c 4 t) (iblk m c 5 t) _ _ k0_pay7 (wuAt m c) (wdAt m c) _ _
      (start_first c (grid0.coords t) (ms0 t) _ (ms1 t) _ (ms2 t) _ (ms3 t) _ (ms4 t) _ (ms5 t) _ (ms6 t) _ (ms7 t) _ (ms8 t) _ (ms9 t) _ (ms10 t) _ (ms11 t) _ (ms12 t) _ (ms13 t) _
        (iblk m c 0 t) (iblk m c 1 t) (iblk m c 2 t) (iblk m c 3 t) (iblk m c 4 t) (iblk m c 5 t) ((first_iff t).mpr hz) ((fresh_iff t).mpr (by omega)) (V m c main_v6) W) _)
    unfold Outputs Inputs Sums Loading Loaded Weights
    isplitl [H0 H1 H2 H3 H4 H5 H12 H13 HU HD HK Hs Ht Hh HW]
    · iframe
      isplitl [H12]; · iexists _; iexact H12
      iexists _; iexact H13
    isplitl [H6 H7 H8 H9 H10 H11]
    · isplitl [H6]; · iexists _; iexact H6
      isplitl [H7]; · iexists _; iexact H7
      isplitl [H8]; · iexists _; iexact H8
      isplitl [H9]; · iexists _; iexact H9
      isplitl [H10]; · iexists _; iexact H10
      iexists _; iexact H11
    iintro ⟨⟨H0, H1, H2, H3, H4, H5⟩, H6, H7, H8, H9, H10, H11, ⟨H12, H13⟩, HK, HWt, ⟨Hs, Ht, Hh, ⟨%W', HW⟩⟩⟩
    isplitl [HWt HK Hg Hs Ht Hh]
    · unfold Between Weights Idle; icases HWt with ⟨HU, HD⟩; iframe
    isplitl [HW]
    · iexists W'; isplitr; · ipureintro; exact fun _ _ => Or.inl trivial
      iexact HW
    iframe
  · rw [Phi_pos m c t _ hz, sumAt_pos _ _ t hz, sumAt_pos _ _ t hz]
    simp only [before12 m c t hz, before13 m c t hz]
    unfold lossStep dgStep
    by_cases hf : t.val % 8 = 0
    · rw [show carried m c t = k0_pay7 from if_pos hf]
      iintro ⟨⟨⟨HWt, HK⟩, HI⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run c (grid0.coords t) (ms0 t) _ (ms1 t) _ (ms2 t) _ (ms3 t) _ (ms4 t) _ (ms5 t) _ (ms6 t) _ (ms7 t) _ (ms8 t) _ (ms9 t) _ (ms10 t) _ (ms11 t) _ (ms12 t) _ (ms13 t) _
      (iblk m c 0 t) (iblk m c 1 t) (iblk m c 2 t) (iblk m c 3 t) (iblk m c 4 t) (iblk m c 5 t) _ _ k0_pay7 (wuAt m c) (wdAt m c) _ _
      (start_fresh c (grid0.coords t) (ms0 t) _ (ms1 t) _ (ms2 t) _ (ms3 t) _ (ms4 t) _ (ms5 t) _ (ms6 t) _ (ms7 t) _ (ms8 t) _ (ms9 t) _ (ms10 t) _ (ms11 t) _ (ms12 t) _ (ms13 t) _
        (iblk m c 0 t) (iblk m c 1 t) (iblk m c 2 t) (iblk m c 3 t) (iblk m c 4 t) (iblk m c 5 t) (fun h => hz ((first_iff t).mp h)) ((fresh_iff t).mpr hf) _ _ (wuAt m c) (wdAt m c)) _)
      unfold Outputs Inputs Sums
      isplitl [H0 H1 H2 H3 H4 H5 H12 H13 HWt HK]
      · isplitl [H0 H1 H2 H3 H4 H5]; · iframe
        isplitl [H12 H13]; · iframe
        isplitl [HK]; · iexists _; iexact HK
        iexact HWt
      isplitl [H6 H7 H8 H9 H10 H11]
      · isplitl [H6]; · iexists _; iexact H6
        isplitl [H7]; · iexists _; iexact H7
        isplitl [H8]; · iexists _; iexact H8
        isplitl [H9]; · iexists _; iexact H9
        isplitl [H10]; · iexists _; iexact H10
        iexists _; iexact H11
      iintro ⟨⟨H0, H1, H2, H3, H4, H5⟩, H6, H7, H8, H9, H10, H11, ⟨H12, H13⟩, HK, HWt, -⟩
      iframe
      isplitl [HWt HK HI]
      · isplitr [HI]; swap; · iexact HI
        isplitl [HWt]; · iexact HWt
        iexact HK
      isplitl [HW]; · iexact HW
      isplitl [H12]; · iexact H12
      iexact H13
    · rw [show carried m c t = carryAt m c (prev t) from if_neg hf]
      iintro ⟨⟨⟨HWt, HK⟩, HI⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run c (grid0.coords t) (ms0 t) _ (ms1 t) _ (ms2 t) _ (ms3 t) _ (ms4 t) _ (ms5 t) _ (ms6 t) _ (ms7 t) _ (ms8 t) _ (ms9 t) _ (ms10 t) _ (ms11 t) _ (ms12 t) _ (ms13 t) _
      (iblk m c 0 t) (iblk m c 1 t) (iblk m c 2 t) (iblk m c 3 t) (iblk m c 4 t) (iblk m c 5 t) _ _ (carryAt m c (prev t)) (wuAt m c) (wdAt m c) _ _
      (start_later c (grid0.coords t) (ms0 t) _ (ms1 t) _ (ms2 t) _ (ms3 t) _ (ms4 t) _ (ms5 t) _ (ms6 t) _ (ms7 t) _ (ms8 t) _ (ms9 t) _ (ms10 t) _ (ms11 t) _ (ms12 t) _ (ms13 t) _
        (iblk m c 0 t) (iblk m c 1 t) (iblk m c 2 t) (iblk m c 3 t) (iblk m c 4 t) (iblk m c 5 t) (fun h => hz ((first_iff t).mp h)) (fun h => hf ((fresh_iff t).mp h)) _ _ _ (wuAt m c) (wdAt m c)) _)
      unfold Outputs Inputs Sums
      isplitl [H0 H1 H2 H3 H4 H5 H12 H13 HWt HK]
      · iframe
      isplitl [H6 H7 H8 H9 H10 H11]
      · isplitl [H6]; · iexists _; iexact H6
        isplitl [H7]; · iexists _; iexact H7
        isplitl [H8]; · iexists _; iexact H8
        isplitl [H9]; · iexists _; iexact H9
        isplitl [H10]; · iexists _; iexact H10
        iexists _; iexact H11
      iintro ⟨⟨H0, H1, H2, H3, H4, H5⟩, H6, H7, H8, H9, H10, H11, ⟨H12, H13⟩, HK, HWt, -⟩
      iframe
      isplitl [HWt HK HI]
      · isplitr [HI]; swap; · iexact HI
        isplitl [HWt]; · iexact HWt
        iexact HK
      isplitl [HW]; · iexact HW
      isplitl [H12]; · iexact H12
      iexact H13

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦD osem0 spec0 H0 (V m) c ⊢ (dats m 0 c).Φ 0 := .rfl

theorem hout (c : Dev nD) : (dats m 0 c).Φ (Fin.last cfg0.N) ⊢ Pipeline.ΦD osem0 spec0 H0 (V m) c := by
  have h15 : 15 < cfg0.N := by rw [show cfg0.N = 16 from N_0]; decide
  rw [show (dats m 0 c).Φ (Fin.last cfg0.N) = Between m c (carryAt m c ⟨15, h15⟩) from rfl, Phi_launch]
  unfold Between Weights Scratch owns
  iintro ⟨⟨⟨⟨%fu, -, HU⟩, ⟨%fd, -, HD⟩⟩, ⟨%fk, -, HK⟩⟩, Hg⟩
  isplitr [Hg]; swap; · iexact Hg
  isplitl [HU]; · iexists fu; rw [(Memref.isWhole_whole cc0_scratch0).set_eq_univ]; iexact HU
  isplitl [HD]; · iexists fd; rw [(Memref.isWhole_whole cc0_scratch1).set_eq_univ]; iexact HD
  iexists fk; rw [(Memref.isWhole_whole cc0_scratch2).set_eq_univ]; iexact HK

set_option backward.isDefEq.respectTransparency.types false in
/-- Every run ends with each array of the launch at the contents the proof data give, every other buffer as the region
    found it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays are as they were at the start. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

theorem kept (r : PUnit × MemSt nD τ sig (Elt F)) (h : Pipeline.FramePost cfgs (dats m) 0 (V m) r) (c : Dev nD) : Kept m r c :=
  ⟨((h c).2 main_arg0 (Pipeline.mem_restRefs_of main_arg0 (by decide) (by decide))).trans (V_main_arg0 m c),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame: the arguments end as they began, every semaphore at zero. -/
theorem frame : θ_run defs (onTc (τ := τ) (main (F := F))) ⟨m, fun _ => 0, ρ⟩
    (fun r => (∀ c : Dev nD, Kept m r c) ∧ r.2.sem = fun _ => 0) :=
  (θ_run defs _ _).mono (fun r h => ⟨kept m r h.1, h.2⟩) (run_main m ρ)

end Cert.Kernel4Ideal.Head
-- ==== Proof.HeadArrays.lean ====
/-
  The arrays of the gated convolution block's forward call: what its result arrays end holding in terms of the blocks, and
  what the host's lines before the call hand it.
-/
module

public import proofs.«01_k».proof.Proof.HeadFrame
public import proofs.«01_k».proof.Proof.Blocks
public import Idealize.ShloMosaic.Lib.Pipeline.Value
public import Idealize.ShloMosaic.Lib.Pointwise

@[expose] public section

set_option maxRecDepth 16384

noncomputable section

namespace Cert.Kernel4Ideal.Head

open Cert.Kernel4Ideal Cert.Kernel4Ideal.Gen Cert.Gathered Cert.Blocks
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ)

theorem lt_N {n : ℕ} (h : n < 16) : n < cfg0.N := lt_of_lt_of_eq h N_0.symm
theorem lt_16 (t : Fin cfg0.N) : t.val < 16 := lt_of_lt_of_eq t.isLt N_0

/-- Grid point `n`. -/
def pt (n : ℕ) (h : n < 16) : Fin cfg0.N := ⟨n, lt_N h⟩

/-! ## Which block each window has at a grid point: the blocks are taken in order -/

theorem rows : ∀ t : Fin cfg0.N, At (win0_0.index t) t.val ∧ At (win0_1.index t) t.val ∧ At (win0_6.index t) t.val ∧ At (win0_7.index t) t.val
    ∧ At (win0_8.index t) t.val ∧ At (win0_9.index t) t.val ∧ At (win0_10.index t) t.val ∧ At (win0_11.index t) t.val :=
  (by decide +kernel : ∀ t : Fin grid0.N, _)

/-- The first norm's weight, the taps, the bias, the last norm's weight and the two sums are one block each. -/
theorem single : ∀ t : Fin cfg0.N, At (win0_2.index t) 0 ∧ At (win0_3.index t) 0 ∧ At (win0_4.index t) 0 ∧ At (win0_5.index t) 0
    ∧ At (win0_12.index t) 0 ∧ At (win0_13.index t) 0 :=
  (by decide +kernel : ∀ t : Fin grid0.N, _)

/-- Row `r` of point `t`'s block is row `256·t + r` of the array: the layer's input and the target. -/
theorem iblk0_apply (c : Dev nD) (t : Fin cfg0.N) (r : Fin 256) (k : Fin 1024) (R : Fin 4096) (hR : R.val = t.val * 256 + r.val) :
    iblk m c 0 t (ix2 r k) = V m c main_v7 (ix2 R k) := congrArg (V m c main_v7) (entry (rows t).1 hR rfl rfl rfl)
theorem iblk1_apply (c : Dev nD) (t : Fin cfg0.N) (r : Fin 256) (k : Fin 1024) (R : Fin 4096) (hR : R.val = t.val * 256 + r.val) :
    iblk m c 1 t (ix2 r k) = V m c main_v8 (ix2 R k) := congrArg (V m c main_v8) (entry (rows t).2.1 hR rfl rfl rfl)

theorem iblk2_eq (c : Dev nD) (t : Fin cfg0.N) : (iblk m c 2 t : Vec F S1x1024 .f32) = V m c main_arg1 :=
  funext fun _ => congrArg (V m c main_arg1) (same (single t).1 rfl rfl)
theorem iblk3_eq (c : Dev nD) (t : Fin cfg0.N) : (iblk m c 3 t : Vec F S3x5632 .f32) = V m c main_v9 :=
  funext fun _ => congrArg (V m c main_v9) (same (single t).2.1 rfl rfl)
theorem iblk4_eq (c : Dev nD) (t : Fin cfg0.N) : (iblk m c 4 t : Vec F S1x5632 .f32) = V m c main_arg4 :=
  funext fun _ => congrArg (V m c main_arg4) (same (single t).2.2.1 rfl rfl)
theorem iblk5_eq (c : Dev nD) (t : Fin cfg0.N) : (iblk m c 5 t : Vec F S1x1024 .f32) = V m c main_v10 :=
  funext fun _ => congrArg (V m c main_v10) (same (single t).2.2.2.1 rfl rfl)

/-! ## What the result arrays end holding -/

/-- The point whose block has the row of `i`. -/
abbrev at_ {C : ℕ} (i : (⟨2, ![4096, C]⟩ : Shape).Idx) : Fin cfg0.N := pt ((i (0 : Fin 2)).val / 256) (Nat.div_lt_of_lt_mul (i (0 : Fin 2)).isLt)

/-- The array whose rows `256·t …` are block `t`. -/
def tiled {α : Type} {C : ℕ} (f : Fin cfg0.N → (⟨2, ![256, C]⟩ : Shape).Idx → α) : (⟨2, ![4096, C]⟩ : Shape).Idx → α := fun i =>
  f (at_ i) (ix2 ⟨(i (0 : Fin 2)).val % 256, Nat.mod_lt _ (by decide)⟩ ⟨(i (1 : Fin 2)).val, (i (1 : Fin 2)).isLt⟩)

theorem tiled_at {α : Type} {C : ℕ} (f : Fin cfg0.N → (⟨2, ![256, C]⟩ : Shape).Idx → α) (t : Fin cfg0.N) (y : (⟨2, ![256, C]⟩ : Shape).Idx)
    (i : (⟨2, ![4096, C]⟩ : Shape).Idx)
    (h0 : (i (0 : Fin 2)).val = t.val * 256 + (y (0 : Fin 2)).val) (h1 : (i (1 : Fin 2)).val = (y (1 : Fin 2)).val) : tiled f i = f t y := by
  have hy : (y (0 : Fin 2)).val < 256 := (y (0 : Fin 2)).isLt
  have e1 : at_ i = t := Fin.ext (show (i (0 : Fin 2)).val / 256 = t.val by omega)
  have e2 : (ix2 ⟨(i (0 : Fin 2)).val % 256, Nat.mod_lt _ (by decide)⟩ ⟨(i (1 : Fin 2)).val, (i (1 : Fin 2)).isLt⟩ : (⟨2, ![256, C]⟩ : Shape).Idx) = y :=
    funext fun a => Fin.ext (match a with
    | ⟨0, _⟩ => show (i (0 : Fin 2)).val % 256 = (y (0 : Fin 2)).val by omega
    | ⟨1, _⟩ => h1)
  unfold tiled
  rw [e1, e2]

/-- What a window stores block by block. -/
theorem of_tiles {α : Type} {C : ℕ} {f : Fin cfg0.N → (⟨2, ![256, C]⟩ : Shape).Idx → α} {t : Fin cfg0.N} {y : (⟨2, ![256, C]⟩ : Shape).Idx}
    {i : (⟨2, ![4096, C]⟩ : Shape).Idx} {n : Fin 2 → ℕ} (hn : At n t.val) {x : α} (hx : x = f t y) (e0 : (i (0 : Fin 2)).val = n 0 * 256 + 1 * (y (0 : Fin 2)).val)
    (e1 : (i (1 : Fin 2)).val = n 1 * C + 1 * (y (1 : Fin 2)).val) : x = tiled f i :=
  hx.trans (tiled_at f t y i (row hn e0) (column hn e1)).symm

/-- The up projection, tile by tile. -/
theorem result0 (c : Dev nD) : (dats m 0 c).arrAt 6 cfg0.N = tiled (C := 5632) fun t => uuOf (iblk m c 0 t) (iblk m c 2 t) (wuAt m c) := by
  refine (dats m 0 c).arrAt_eq_of_cover 6 _ (fun t _ => funext fun y => of_tiles (i := ((cfg0.win 6).blk t).view.emb y) (rows t).2.2.1 rfl rfl rfl)
    (fun i => ⟨at_ i, (by decide +kernel : ∀ t : Fin grid0.N, win0_6.flush t = true) _, ?_⟩)
  show i ∈ ((View.whole main_v11_0).slice (win0_6.rect (at_ i))).set
  rw [View.set_slice_whole, Rect.mem_set_unit]
  exact inside (by decide) (rows _).2.2.1 i rfl

/-- The convolution, tile by tile. -/
theorem result1 (c : Dev nD) : (dats m 0 c).arrAt 7 cfg0.N = tiled (C := 5632) fun t => ccOf (iblk m c 0 t) (iblk m c 2 t) (iblk m c 3 t) (iblk m c 4 t) (wuAt m c) (carried m c t) := by
  refine (dats m 0 c).arrAt_eq_of_cover 7 _ (fun t _ => funext fun y => of_tiles (i := ((cfg0.win 7).blk t).view.emb y) (rows t).2.2.2.1 rfl rfl rfl)
    (fun i => ⟨at_ i, (by decide +kernel : ∀ t : Fin grid0.N, win0_7.flush t = true) _, ?_⟩)
  show i ∈ ((View.whole main_v11_1).slice (win0_7.rect (at_ i))).set
  rw [View.set_slice_whole, Rect.mem_set_unit]
  exact inside (by decide) (rows _).2.2.2.1 i rfl

/-- The gated product, tile by tile. -/
theorem result2 (c : Dev nD) : (dats m 0 c).arrAt 8 cfg0.N = tiled (C := 2816) fun t => aOf (iblk m c 0 t) (iblk m c 2 t) (iblk m c 3 t) (iblk m c 4 t) (wuAt m c) (carried m c t) := by
  refine (dats m 0 c).arrAt_eq_of_cover 8 _ (fun t _ => funext fun _ => of_tiles (rows t).2.2.2.2.1 rfl rfl rfl)
    (fun i => ⟨at_ i, (by decide +kernel : ∀ t : Fin grid0.N, win0_8.flush t = true) _, ?_⟩)
  show i ∈ ((View.whole main_v11_2).slice (win0_8.rect (at_ i))).set
  rw [View.set_slice_whole, Rect.mem_set_unit]
  exact inside (by decide) (rows _).2.2.2.2.1 i rfl

/-- The normalised input, tile by tile. -/
theorem result3 (c : Dev nD) : (dats m 0 c).arrAt 9 cfg0.N = tiled (C := 1024) fun t => hOf (iblk m c 0 t) (iblk m c 2 t) := by
  refine (dats m 0 c).arrAt_eq_of_cover 9 _ (fun t _ => funext fun _ => of_tiles (rows t).2.2.2.2.2.1 rfl rfl rfl)
    (fun i => ⟨at_ i, (by decide +kernel : ∀ t : Fin grid0.N, win0_9.flush t = true) _, ?_⟩)
  show i ∈ ((View.whole main_v11_3).slice (win0_9.rect (at_ i))).set
  rw [View.set_slice_whole, Rect.mem_set_unit]
  exact inside (by decide) (rows _).2.2.2.2.2.1 i rfl

/-- The cotangent of the last norm's input, tile by tile. -/
theorem result4 (c : Dev nD) : (dats m 0 c).arrAt 10 cfg0.N = tiled (C := 1024) fun t => dxOf (iblk m c 0 t) (iblk m c 1 t) (iblk m c 2 t) (iblk m c 3 t) (iblk m c 4 t) (iblk m c 5 t) (wuAt m c) (wdAt m c) (carried m c t) := by
  refine (dats m 0 c).arrAt_eq_of_cover 10 _ (fun t _ => funext fun _ => of_tiles (rows t).2.2.2.2.2.2.1 rfl rfl rfl)
    (fun i => ⟨at_ i, (by decide +kernel : ∀ t : Fin grid0.N, win0_10.flush t = true) _, ?_⟩)
  show i ∈ ((View.whole main_v11_4).slice (win0_10.rect (at_ i))).set
  rw [View.set_slice_whole, Rect.mem_set_unit]
  exact inside (by decide) (rows _).2.2.2.2.2.2.1 i rfl

/-- The same, rounded. -/
theorem result5 (c : Dev nD) : (dats m 0 c).arrAt 11 cfg0.N = tiled (C := 1024) fun t => dxbOf (iblk m c 0 t) (iblk m c 1 t) (iblk m c 2 t) (iblk m c 3 t) (iblk m c 4 t) (iblk m c 5 t) (wuAt m c) (wdAt m c) (carried m c t) := by
  refine (dats m 0 c).arrAt_eq_of_cover 11 _ (fun t _ => funext fun _ => of_tiles (rows t).2.2.2.2.2.2.2 rfl rfl rfl)
    (fun i => ⟨at_ i, (by decide +kernel : ∀ t : Fin grid0.N, win0_11.flush t = true) _, ?_⟩)
  show i ∈ ((View.whole main_v11_5).slice (win0_11.rect (at_ i))).set
  rw [View.set_slice_whole, Rect.mem_set_unit]
  exact inside (by decide) (rows _).2.2.2.2.2.2.2 i rfl

/-- The loss after the last point. -/
theorem result6 (c : Dev nD) : (dats m 0 c).arrAt 12 cfg0.N = lossAt m c (pt 15 (by decide)) := by
  have e (t : Fin cfg0.N) (y : S8x128.Idx) : ((cfg0.win 12).blk t).view.emb y = y := same (single t).2.2.2.2.1 rfl rfl
  refine (dats m 0 c).arrAt_eq_of_cover 12 _ (fun t hf => funext fun y => ?_) (fun i => ⟨pt 15 (by decide), (flush0_12 _).mpr rfl, ?_⟩)
  · obtain rfl : t = pt 15 (by decide) := Fin.ext (by have := (flush0_12 t).mp hf; have := lt_16 t; show t.val = 15; omega)
    exact congrArg (lossAt m c _) (e _ y).symm
  · have := ((cfg0.win 12).blk (pt 15 (by decide))).view.emb_mem_set i
    rwa [e] at this

/-- The last norm weight's sum after the last point. -/
theorem result7 (c : Dev nD) : (dats m 0 c).arrAt 13 cfg0.N = dgAt m c (pt 15 (by decide)) := by
  have e (t : Fin cfg0.N) (y : S1x1024.Idx) : ((cfg0.win 13).blk t).view.emb y = y := same (single t).2.2.2.2.2 rfl rfl
  refine (dats m 0 c).arrAt_eq_of_cover 13 _ (fun t hf => funext fun y => ?_) (fun i => ⟨pt 15 (by decide), (flush0_13 _).mpr rfl, ?_⟩)
  · obtain rfl : t = pt 15 (by decide) := Fin.ext (by have := (flush0_13 t).mp hf; have := lt_16 t; show t.val = 15; omega)
    exact congrArg (dgAt m c _) (e _ y).symm
  · have := ((cfg0.win 13).blk (pt 15 (by decide))).view.emb_mem_set i
    rwa [e] at this

/-! ## The host's lines before the call -/

/-- The layer's input and the target, flattened. -/
theorem V_v7 (c : Dev nD) : (V m c main_v7 : Vec F S4096x1024 .f32)
    = shapeCast S4096x1024 (m ((c : Thread nD τ).loc main_arg0) : Vec F S2x2048x1024 .f32) shapeCasts_S2x2048x1024_S4096x1024 := by
  show StableHlo.after hostOps0 (fun b => m (c, b)) main_v7 = _
  after_results <;> rfl

theorem V_v8 (c : Dev nD) : (V m c main_v8 : Vec F S4096x1024 .f32)
    = shapeCast S4096x1024 (m ((c : Thread nD τ).loc main_arg7) : Vec F S2x2048x1024 .f32) shapeCasts_S2x2048x1024_S4096x1024 := by
  show StableHlo.after hostOps0 (fun b => m (c, b)) main_v8 = _
  after_results <;> rfl

/-- The taps. -/
theorem V_v9 (c : Dev nD) : (V m c main_v9 : Vec F S3x5632 .f32)
    = shapeCast S3x5632 (m ((c : Thread nD τ).loc main_arg3) : Vec F S1x3x5632 .f32) shapeCasts_S1x3x5632_S3x5632 := by
  show StableHlo.after hostOps0 (fun b => m (c, b)) main_v9 = _
  after_results <;> rfl

/-- The last norm's weight. -/
theorem V_v10 (c : Dev nD) : (V m c main_v10 : Vec F S1x1024 .f32)
    = shapeCast S1x1024 (m ((c : Thread nD τ).loc main_arg6) : Vec F S1024 .f32) shapeCasts_S1024_S1x1024 := by
  show StableHlo.after hostOps0 (fun b => m (c, b)) main_v10 = _
  after_results <;> rfl

/-- The gathered array: the two weights under one another in each device's slice. -/
theorem V_v6 (c : Dev nD) : (V m c main_v6 : Vec F S8x1056x1024 .bf16)
    = truncf .bf16 (concatenate S8x1056x1024 1
        [⟨S8x704x1024, shapeCast S8x704x1024 (transpose S5632x1024 [1, 0] (shapeCast S1024x5632 (m ((c : Thread nD τ).loc main_arg2) : Vec F S1x1024x5632 .f32)
            shapeCasts_S1x1024x5632_S1024x5632) transposes_S1024x5632_S5632x1024_1_0) shapeCasts_S5632x1024_S8x704x1024⟩,
          ⟨S8x352x1024, shapeCast S8x352x1024 (shapeCast S2816x1024 (m ((c : Thread nD τ).loc main_arg5) : Vec F S1x2816x1024 .f32)
            shapeCasts_S1x2816x1024_S2816x1024) shapeCasts_S2816x1024_S8x352x1024⟩]
        concatenates_S8x704x1024_S8x352x1024_S8x1056x1024_d1) bitsLt_bf16_f32 := by
  show StableHlo.after hostOps0 (fun b => m (c, b)) main_v6 = _
  after_results <;> rfl

end Cert.Kernel4Ideal.Head
-- ==== Proof.HeadRows.lean ====
/-
  The gated convolution block, the last norm and the loss on plain functions, row by row: what one row gives, that it is
  finite where its arguments are, and that the two shapes in which the loss and its derivative are written agree.
-/
module

public import proofs.«01_k».proof.Proof.FfnRows

@[expose] public section

noncomputable section

namespace Cert.HeadRows

open Idealize.ShloMosaic Cert.FiniteReal Cert.AttnRows Cert.FfnRows

/-- A row over its root mean square, times a weight. -/
def normed (x g : Fin 1024 → EReal) (k : Fin 1024) : EReal := x k * Cert.AttnRows.inv x * g k

/-- The entry `d` places before, zero before the first. -/
def behind {n : ℕ} (f : Fin n → EReal) (d : ℕ) (i : Fin n) : EReal := if h : d ≤ i.val then f ⟨i.val - d, by omega⟩ else 0

/-- A causal convolution of three taps and a bias, from the entries at, one before, and two before a place. -/
def causal (w : Fin 3 → EReal) (b u0 u1 u2 : EReal) : EReal := b + w 2 * u0 + w 1 * u1 + w 0 * u2

/-- The same, the oldest entry first and the bias last. -/
theorem causal_plain (w : Fin 3 → EReal) (b u0 u1 u2 : EReal) : causal w b u0 u1 u2 = u2 * w 0 + u1 * w 1 + u0 * w 2 + b := by
  unfold causal
  rw [mul_comm u2, mul_comm u1, mul_comm u0, add_assoc b, add_assoc b, add_comm b]
  exact congrArg (· + b) ((add_comm _ _).trans ((congrArg (w 0 * u2 + ·) (add_comm _ _)).trans (add_assoc _ _ _).symm))

/-- The gated product of the two halves of a row. -/
def gated (c : Fin 5632 → EReal) (j : Fin 2816) : EReal := c (left j) * sg (c (left j)) * c (right j)

/-- The block's input with the down projection of the gated product added. -/
def added (x : Fin 1024 → EReal) (c : Fin 5632 → EReal) (w : Fin 2816 → Fin 1024 → EReal) (k : Fin 1024) : EReal :=
  x k + ∑ j, gated c j * w j k

/-- How far the normed row is from the target. -/
def miss (x g t : Fin 1024 → EReal) (k : Fin 1024) : EReal := normed x g k - t k

/-- The cotangent of the normed row, as one product and as the loss's lines are differentiated. -/
def pulled (e : EReal) : EReal := e * Ideal.ofBits .f32 0x3A800000#32
def plainPulled (e : EReal) : EReal :=
  Ideal.div (Ideal.ofBits .f32 0x3F000000#32 * Ideal.ofBits .f32 0x3F800000#32) (Ideal.ofBits .f32 0x44800000#32) * (Ideal.ofBits .f32 0x40000000#32 * e)

theorem lit_half : Ideal.ofBits .f32 0x3F000000#32 = ((1 / 2 : ℝ) : EReal) := by
  simp [Ideal.ofBits, Ideal.ieee]; norm_num [← EReal.coe_mul]
theorem lit_two : Ideal.ofBits .f32 0x40000000#32 = ((2 : ℝ) : EReal) := by
  simp [Ideal.ofBits, Ideal.ieee]; norm_num [← EReal.coe_mul]
theorem lit_milli : Ideal.ofBits .f32 0x3A800000#32 = ((1 / 1024 : ℝ) : EReal) := by
  simp [Ideal.ofBits, Ideal.ieee]; norm_num [← EReal.coe_mul]
theorem lit_halfmilli : Ideal.ofBits .f32 0x3A000000#32 = ((1 / 2048 : ℝ) : EReal) := by
  simp [Ideal.ofBits, Ideal.ieee]; norm_num [← EReal.coe_mul]

theorem pulleds (e : EReal) : pulled e = plainPulled e := by
  unfold pulled plainPulled
  rw [lit_half, show Ideal.ofBits .f32 0x3F800000#32 = ((1 : ℝ) : EReal) from lit_one, lit_two, lit_milli, lit_1024, ← mul_assoc, ← EReal.coe_mul,
    Ideal.div_coe (by norm_num : (1024 : ℝ) ≠ 0), ← EReal.coe_mul, ← EReal.coe_mul, mul_comm e]
  norm_num

/-! ## Finite rows -/

theorem normed_finite {x g : Fin 1024 → EReal} (hx : ∀ k, IsFinite (x k)) (hg : ∀ k, IsFinite (g k)) (k : Fin 1024) : IsFinite (normed x g k) :=
  ((hx k).mul (inv_finite hx)).mul (hg k)

theorem behind_finite {n : ℕ} {f : Fin n → EReal} (hf : ∀ i, IsFinite (f i)) (d : ℕ) (i : Fin n) : IsFinite (behind f d i) := by
  unfold behind; split
  · exact hf _
  · exact ⟨0, rfl⟩

theorem causal_finite {w : Fin 3 → EReal} {b u0 u1 u2 : EReal} (hw : ∀ i, IsFinite (w i)) (hb : IsFinite b) (h0 : IsFinite u0) (h1 : IsFinite u1)
    (h2 : IsFinite u2) : IsFinite (causal w b u0 u1 u2) :=
  ((hb.add ((hw 2).mul h0)).add ((hw 1).mul h1)).add ((hw 0).mul h2)

theorem added_finite {x : Fin 1024 → EReal} {c : Fin 5632 → EReal} {w : Fin 2816 → Fin 1024 → EReal} (hx : ∀ k, IsFinite (x k)) (hc : ∀ j, IsFinite (c j))
    (hw : ∀ j k, IsFinite (w j k)) (k : Fin 1024) : IsFinite (added x c w k) :=
  (hx k).add (IsFinite.sum _ fun j => (((hc _).mul (sg_finite (hc _))).mul (hc _)).mul (hw j k))

theorem miss_finite {x g t : Fin 1024 → EReal} (hx : ∀ k, IsFinite (x k)) (hg : ∀ k, IsFinite (g k)) (ht : ∀ k, IsFinite (t k)) (k : Fin 1024) :
    IsFinite (miss x g t k) := (normed_finite hx hg k).sub (ht k)

theorem pulled_finite {e : EReal} (he : IsFinite e) : IsFinite (pulled e) := he.mul ⟨_, lit_milli⟩

/-! ## The loss -/

/-- Half the sum of the rows' mean squares is the rows' sums of squares, each times one over 2048, added up. -/
theorem losses {ι : Type} [Fintype ι] (e : ι → Fin 1024 → EReal) (he : ∀ i k, IsFinite (e i k)) :
    ∑ i, (∑ k, e i k * e i k) * Ideal.ofBits .f32 0x3A000000#32
      = Ideal.ofBits .f32 0x3F000000#32 * ∑ i, Ideal.div (∑ k, e i k * e i k) (Ideal.ofBits .f32 0x44800000#32) := by
  have hs : ∀ i, IsFinite (∑ k, e i k * e i k) := fun i => IsFinite.sum _ fun k => (he i k).mul (he i k)
  have hd : ∀ i, IsFinite (Ideal.div (∑ k, e i k * e i k) (Ideal.ofBits .f32 0x44800000#32)) := fun i => by
    rw [lit_1024]; obtain ⟨s, hs⟩ := hs i; rw [hs, Ideal.div_coe (by norm_num : (1024 : ℝ) ≠ 0), ← EReal.coe_mul]; exact ⟨_, rfl⟩
  rw [mul_comm (Ideal.ofBits .f32 0x3F000000#32), ← sum_mul _ hd ⟨_, lit_half⟩]
  refine Finset.sum_congr rfl fun i _ => ?_
  obtain ⟨s, hs⟩ := hs i
  rw [hs, lit_1024, lit_half, lit_halfmilli, Ideal.div_coe (by norm_num : (1024 : ℝ) ≠ 0), ← EReal.coe_mul, ← EReal.coe_mul, ← EReal.coe_mul]
  exact congrArg _ (by ring)

end Cert.HeadRows
-- ==== Proof.HeadBlock.lean ====
/-
  What one grid point of the gated convolution block's forward call computes, over the extended reals, entry by entry: each
  of its results is a row function of that point's rows and of the rows carried from the point before.
-/
module

public import proofs.«01_k».proof.Proof.HeadBody
public import proofs.«01_k».proof.Proof.HeadRows
public import Idealize.ShloMosaic.Lib.KernelVsHost

@[expose] public section

set_option maxRecDepth 16384

noncomputable section

namespace Cert.Kernel4Ideal.Head

open Cert.Kernel4Ideal Cert.Kernel4Ideal.Gen Cert.Gathered Cert.AttnRows Cert.FfnRows Cert.HeadRows Cert.Tiles
open Idealize.ShloMosaic Idealize.ShloMosaic.TcCoe Idealize.ShloMosaic.Tactic

variable (x y : Vec Ideal S256x1024 .f32) (g : Vec Ideal S1x1024 .f32) (w : Vec Ideal S3x5632 .f32) (b : Vec Ideal S1x5632 .f32) (gf : Vec Ideal S1x1024 .f32)
  (wu : Vec Ideal S5632x1024 .bf16) (wd : Vec Ideal S2816x1024 .bf16) (k : Vec Ideal S8x5632 .f32) (l : Vec Ideal S8x128 .f32) (e : Vec Ideal S1x1024 .f32)

/-! ### The norm and the up projection -/

theorem hOf_apply (r : Fin 256) (c : Fin 1024) : hOf (F := Ideal) x g (ix2 r c) = normed (row x r) (row g 0) c := by
  unfold hOf normed Cert.AttnRows.inv; pointwise [row, k0_pay9, k0_pay8]

/-- A row of the up projection's output. -/
def up (r : Fin 256) : Fin 5632 → EReal := back (normed (row x r) (row g 0)) (row wu)

theorem left_apply (r : Fin 256) (j : Fin 2816) : k0_pay11 (F := Ideal) (hOf x g) (wleft wu) (ix2 r j) = up x g wu r (left j) := by
  have p : ∀ c : Fin 1024, wleft wu (ix2 j c) = wu (ix2 (left j) c) := fun c =>
    congrArg₂ (fun p q => wu (ix2 p q)) (Fin.ext (Nat.zero_add _)) (Fin.ext (Nat.zero_add _))
  unfold up back; simp only [row, ← p]; simp only [← hOf_apply]
  generalize wleft wu = v; generalize hOf x g = s; pointwise [k0_pay11]

theorem right_apply (r : Fin 256) (j : Fin 2816) : k0_pay16 (F := Ideal) (hOf x g) (wright wu) (ix2 r j) = up x g wu r (right j) := by
  have p : ∀ c : Fin 1024, wright wu (ix2 j c) = wu (ix2 (right j) c) := fun c =>
    congrArg (fun q => wu (ix2 (right j) q)) (Fin.ext (Nat.zero_add _))
  unfold up back; simp only [row, ← p]; simp only [← hOf_apply]
  generalize wright wu = v; generalize hOf x g = s; pointwise [k0_pay16]

theorem uuOf_apply (r : Fin 256) (j : Fin 5632) : uuOf (F := Ideal) x g wu (ix2 r j) = up x g wu r j := by
  revert j; refine halves (fun j => ?_) (fun j => ?_)
  · unfold uuOf; rw [tiles_left, ← left_apply]; rfl
  · unfold uuOf; rw [tiles_right, ← right_apply]; rfl

theorem carryOf_apply (i : Fin 8) (j : Fin 5632) : carryOf (F := Ideal) x g wu (ix2 i j) = up x g wu ⟨248 + i.val, by omega⟩ j := by
  revert j; refine halves (fun j => ?_) (fun j => ?_)
  · unfold carryOf; rw [tiles_left, ← left_apply]; unfold carryBlocks; rw [if_pos rfl]; unfold k0_pay15
    generalize k0_pay11 (hOf x g) (wleft wu) = s; pointwise []
  · unfold carryOf; rw [tiles_right, ← right_apply]; unfold carryBlocks; rw [if_neg (by decide)]; unfold k0_pay20
    generalize k0_pay16 (hOf x g) (wright wu) = s; pointwise []

/-! ### The convolution -/

/-- Eight carried rows followed by the rows of a block, read `d` rows back. -/
theorem rotated (s : BitVec 32) (d : ℕ) (hd' : d ≤ 8) (hs : s.toNat = d) (y : S256x2816.Idx → EReal) (c : S8x2816.Idx → EReal)
    (h1 h2 h3) (r : Fin 256) (j : Fin 2816) :
    extractStridedSlice S256x2816 ![8, 0] (dynamicRotate 0 s none (concatenate S264x2816 0 [⟨S8x2816, c⟩, ⟨S256x2816, y⟩] h1) h2) h3 (ix2 r j)
      = if h : d ≤ r.val then y (ix2 ⟨r.val - d, by omega⟩ j) else c (ix2 ⟨8 + r.val - d, by omega⟩ j) := by
  have e : extractStridedSlice S256x2816 ![8, 0] (dynamicRotate 0 s none (concatenate S264x2816 0 [⟨S8x2816, c⟩, ⟨S256x2816, y⟩] h1) h2) h3 (ix2 r j)
      = concatenate S264x2816 0 [⟨S8x2816, c⟩, ⟨S256x2816, y⟩] h1 (ix2 ⟨8 + r.val - d, by omega⟩ j) := by
    generalize concatenate S264x2816 0 [⟨S8x2816, c⟩, ⟨S256x2816, y⟩] h1 = q
    refine dynamicRotate_apply 0 s q h2 _ (ix2 ⟨8 + r.val - d, by omega⟩ j) fun a => ?_
    match a with
    | ⟨0, _⟩ => show 8 + r.val - d = (8 + r.val + 264 - s.toNat % 264) % 264; rw [hs]; omega
    | ⟨1, _⟩ => show j.val = 0 + j.val; omega
  rw [e]; clear e
  by_cases h : d ≤ r.val
  · rw [dif_pos h]
    pointwise []
    rw [dif_neg (by omega)]
    exact congrArg (fun q => y (ix2 q j)) (Fin.ext (show 8 + r.val - d - 8 = r.val - d by omega))
  · rw [dif_neg h]
    pointwise []
    rw [dif_pos (by omega)]

/-- The up projection's row `d` rows back: before the block's first row it is a carried one. -/
def past (d : ℕ) (hd : d ≤ 8) (r : Fin 256) (j : Fin 5632) : EReal :=
  if h : d ≤ r.val then up x g wu ⟨r.val - d, by omega⟩ j else k (ix2 ⟨8 + r.val - d, by omega⟩ j)

theorem past_left (d : ℕ) (hd : d ≤ 8) (r : Fin 256) (j : Fin 2816) : past x g wu k d hd r (left j)
    = if h : d ≤ r.val then k0_pay11 (F := Ideal) (hOf x g) (wleft wu) (ix2 ⟨r.val - d, by omega⟩ j)
      else half (R := 8) (h := 8) 0 0 (by decide) (by decide) k (ix2 ⟨8 + r.val - d, by omega⟩ j) := by
  unfold past; split
  · rw [left_apply]
  · rw [half_left, from_zero]

theorem past_right (d : ℕ) (hd : d ≤ 8) (r : Fin 256) (j : Fin 2816) : past x g wu k d hd r (right j)
    = if h : d ≤ r.val then k0_pay16 (F := Ideal) (hOf x g) (wright wu) (ix2 ⟨r.val - d, by omega⟩ j)
      else half (R := 8) (h := 8) 0 2816 (by decide) (by decide) k (ix2 ⟨8 + r.val - d, by omega⟩ j) := by
  unfold past; split
  · rw [right_apply]
  · rw [half_right, from_zero]

/-- A row of the convolution's output. -/
def mixed (r : Fin 256) (j : Fin 5632) : EReal :=
  causal (fun i => w (ix2 i j)) (b (ix2 0 j)) (up x g wu r j) (past x g wu k 1 (by decide) r j) (past x g wu k 2 (by decide) r j)

theorem gate_apply (r : Fin 256) (j : Fin 2816) : gate (F := Ideal) x g w b wu k (ix2 r j) = mixed x g w b wu k r (left j) := by
  have t2 := half_left (R := 3) (h := 1) 2 (by decide) (by decide) w 0 j
  have t1 := half_left (R := 3) (h := 1) 1 (by decide) (by decide) w 0 j
  have t0 := half_left (R := 3) (h := 1) 0 (by decide) (by decide) w 0 j
  have tb := half_left (R := 1) (h := 1) 0 (by decide) (by decide) b 0 j
  have s1 := fun h1 h2 h3 => (rotated 1#32 1 (by decide) rfl (k0_pay11 (F := Ideal) (hOf x g) (wleft wu)) (half (R := 8) (h := 8) 0 0 (by decide) (by decide) k) h1 h2 h3 r j).trans (past_left x g wu k 1 (by decide) r j).symm
  have s2 := fun h1 h2 h3 => (rotated 2#32 2 (by decide) rfl (k0_pay11 (F := Ideal) (hOf x g) (wleft wu)) (half (R := 8) (h := 8) 0 0 (by decide) (by decide) k) h1 h2 h3 r j).trans (past_left x g wu k 2 (by decide) r j).symm
  unfold mixed causal; rw [← left_apply]
  unfold gate k0_pay13
  generalize half (R := 3) (h := 1) 2 0 (by decide) (by decide) w = w2 at *
  generalize half (R := 3) (h := 1) 1 0 (by decide) (by decide) w = w1 at *
  generalize half (R := 3) (h := 1) 0 0 (by decide) (by decide) w = w0 at *
  generalize half (R := 1) (h := 1) 0 0 (by decide) (by decide) b = vb at *
  refine Eq.trans ?_ (congrArg₂ (· + ·) (congrArg₂ (· + ·) (congrArg₂ (· + ·) tb (congrArg (· * _) t2)) (congrArg₂ (· * ·) t1 (s1 concatenates_S8x2816_S256x2816_S264x2816_d0 rotates_S264x2816_d0 slices_S264x2816_o8_0_S256x2816)))
    (congrArg₂ (· * ·) t0 (s2 concatenates_S8x2816_S256x2816_S264x2816_d0 rotates_S264x2816_d0 slices_S264x2816_o8_0_S256x2816)))
  generalize extractStridedSlice (s := S264x2816) S256x2816 ![8, 0] (dynamicRotate 0 1#32 none _ _) _ = p1
  generalize extractStridedSlice (s := S264x2816) S256x2816 ![8, 0] (dynamicRotate 0 2#32 none _ _) _ = p2
  generalize k0_pay11 (hOf x g) (wleft wu) = s
  pointwise []

theorem value_apply (r : Fin 256) (j : Fin 2816) : value (F := Ideal) x g w b wu k (ix2 r j) = mixed x g w b wu k r (right j) := by
  have t2 := half_right (R := 3) (h := 1) 2 (by decide) (by decide) w 0 j
  have t1 := half_right (R := 3) (h := 1) 1 (by decide) (by decide) w 0 j
  have t0 := half_right (R := 3) (h := 1) 0 (by decide) (by decide) w 0 j
  have tb := half_right (R := 1) (h := 1) 0 (by decide) (by decide) b 0 j
  have s1 := fun h1 h2 h3 => (rotated 1#32 1 (by decide) rfl (k0_pay16 (F := Ideal) (hOf x g) (wright wu)) (half (R := 8) (h := 8) 0 2816 (by decide) (by decide) k) h1 h2 h3 r j).trans (past_right x g wu k 1 (by decide) r j).symm
  have s2 := fun h1 h2 h3 => (rotated 2#32 2 (by decide) rfl (k0_pay16 (F := Ideal) (hOf x g) (wright wu)) (half (R := 8) (h := 8) 0 2816 (by decide) (by decide) k) h1 h2 h3 r j).trans (past_right x g wu k 2 (by decide) r j).symm
  unfold mixed causal; rw [← right_apply]
  unfold value k0_pay18
  generalize half (R := 3) (h := 1) 2 2816 (by decide) (by decide) w = w2 at *
  generalize half (R := 3) (h := 1) 1 2816 (by decide) (by decide) w = w1 at *
  generalize half (R := 3) (h := 1) 0 2816 (by decide) (by decide) w = w0 at *
  generalize half (R := 1) (h := 1) 0 2816 (by decide) (by decide) b = vb at *
  refine Eq.trans ?_ (congrArg₂ (· + ·) (congrArg₂ (· + ·) (congrArg₂ (· + ·) tb (congrArg (· * _) t2)) (congrArg₂ (· * ·) t1 (s1 concatenates_S8x2816_S256x2816_S264x2816_d0 rotates_S264x2816_d0 slices_S264x2816_o8_0_S256x2816)))
    (congrArg₂ (· * ·) t0 (s2 concatenates_S8x2816_S256x2816_S264x2816_d0 rotates_S264x2816_d0 slices_S264x2816_o8_0_S256x2816)))
  generalize extractStridedSlice (s := S264x2816) S256x2816 ![8, 0] (dynamicRotate 0 1#32 none _ _) _ = p1
  generalize extractStridedSlice (s := S264x2816) S256x2816 ![8, 0] (dynamicRotate 0 2#32 none _ _) _ = p2
  generalize k0_pay16 (hOf x g) (wright wu) = s
  pointwise []

theorem ccOf_apply (r : Fin 256) (j : Fin 5632) : ccOf (F := Ideal) x g w b wu k (ix2 r j) = mixed x g w b wu k r j := by
  revert j; refine halves (fun j => ?_) (fun j => ?_)
  · unfold ccOf; rw [tiles_left, ← gate_apply]; rfl
  · unfold ccOf; rw [tiles_right, ← value_apply]; rfl

/-! ### The gated product, the down projection, the last norm and the error -/

theorem aOf_apply (r : Fin 256) (j : Fin 2816) : aOf (F := Ideal) x g w b wu k (ix2 r j) = gated (mixed x g w b wu k r) j := by
  unfold gated sg; rw [← gate_apply, ← value_apply]; unfold aOf
  generalize gate x g w b wu k = u; generalize value x g w b wu k = v
  pointwise [k0_pay22, k0_pay21]; simp only [zero_sub]

/-- A row of the block's output. -/
def out (r : Fin 256) : Fin 1024 → EReal := added (row x r) (mixed x g w b wu k r) (row wd)

/-- The block's output. -/
abbrev outOf : FVec Ideal S256x1024 .f32 := k0_pay23 (k0_pay8 x) k0_pay10 (gate x g w b wu k) (value x g w b wu k) k0_pay21 wd

theorem outOf_row (r : Fin 256) : row (outOf x g w b wu wd k) r = out x g w b wu wd k r := funext fun c => by
  unfold out added; simp only [← aOf_apply]; unfold row outOf k0_pay23 aOf
  generalize k0_pay22 (gate x g w b wu k) (value x g w b wu k) k0_pay21 = u
  pointwise [k0_pay8, k0_pay10]

theorem invOf_apply (r : Fin 256) : invOf (F := Ideal) x g w b wu wd k (ix2 r 0) = Cert.AttnRows.inv (out x g w b wu wd k r) := by
  rw [← outOf_row]; unfold invOf Cert.AttnRows.inv k0_pay24 outOf
  generalize k0_pay23 (k0_pay8 x) k0_pay10 (gate x g w b wu k) (value x g w b wu k) k0_pay21 wd = s; pointwise [row]

theorem normOf_apply (r : Fin 256) (c : Fin 1024) : normOf (F := Ideal) x g w b wu wd k (ix2 r c) = out x g w b wu wd k r c * Cert.AttnRows.inv (out x g w b wu wd k r) := by
  rw [← invOf_apply, ← outOf_row]; unfold normOf invOf k0_pay25 outOf
  generalize k0_pay24 (k0_pay8 x) k0_pay10 (gate x g w b wu k) (value x g w b wu k) k0_pay21 wd = t
  generalize k0_pay23 (k0_pay8 x) k0_pay10 (gate x g w b wu k) (value x g w b wu k) k0_pay21 wd = s; pointwise [row]

theorem errOf_apply (r : Fin 256) (c : Fin 1024) : errOf (F := Ideal) x y g w b gf wu wd k (ix2 r c) = miss (out x g w b wu wd k r) (row gf 0) (row y r) c := by
  unfold miss normed; rw [← normOf_apply]; unfold errOf normOf k0_pay27
  generalize k0_pay25 (k0_pay8 x) k0_pay10 (gate x g w b wu k) (value x g w b wu k) k0_pay21 wd = t
  pointwise [row, k0_pay26]

/-- A row of the cotangent of the normed output. -/
def dout (r : Fin 256) (c : Fin 1024) : EReal := pulled (miss (out x g w b wu wd k r) (row gf 0) (row y r) c)

theorem dxOf_apply (r : Fin 256) (c : Fin 1024) : dxOf (F := Ideal) x y g w b gf wu wd k (ix2 r c)
    = dnorm (out x g w b wu wd k r) (row gf 0) (dout x y g w b gf wu wd k r) c := by
  unfold dnorm dout pulled; simp only [← normOf_apply, ← errOf_apply]; rw [← invOf_apply]; unfold dxOf
  generalize invOf x g w b wu wd k = i; generalize normOf x g w b wu wd k = n; generalize errOf x y g w b gf wu wd k = s
  pointwise [row, k0_pay3, k0_pay1, k0_pay26]

theorem dxbOf_eq : dxbOf (F := Ideal) x y g w b gf wu wd k = dxOf (F := Ideal) x y g w b gf wu wd k := funext fun i => by
  unfold dxbOf dxOf k0_pay4; rfl

/-! ### The sums -/

theorem dgOf_apply (c : Fin 1024) : dgOf (F := Ideal) x y g w b gf wu wd k e (ix2 0 c)
    = e (ix2 0 c) + ∑ r, dout x y g w b gf wu wd k r c * (out x g w b wu wd k r c * Cert.AttnRows.inv (out x g w b wu wd k r)) := by
  unfold dout pulled; simp only [← normOf_apply, ← errOf_apply]; unfold dgOf
  generalize normOf x g w b wu wd k = n; generalize errOf x y g w b gf wu wd k = s
  pointwise [k0_pay2, k0_pay1]

theorem lossOf_apply (p : Fin 8) (q : Fin 128) : lossOf (F := Ideal) x y g w b gf wu wd k l (ix2 p q)
    = l (ix2 p q) + (∑ r, ∑ c, miss (out x g w b wu wd k r) (row gf 0) (row y r) c * miss (out x g w b wu wd k r) (row gf 0) (row y r) c)
        * Ideal.ofBits .f32 0x3A000000#32 := by
  simp only [← errOf_apply]; unfold lossOf errOf k0_pay28
  generalize k0_pay27 (k0_pay8 x) k0_pay10 (gate x g w b wu k) (value x g w b wu k) k0_pay21 wd gf y = s
  pointwise []

end Cert.Kernel4Ideal.Head
-- ==== Proof.HeadRef.lean ====
/-
  The reference of the gated convolution block's forward call, read entry by entry: each of its results as a row function of
  the arguments, in the shape in which the loss's lines are differentiated.
-/
module

public import proofs.«01_k».proof.Proof.HeadRows
public import proofs.«01_k».proof.Proof.HostRead
public import proofs.«01_k».proof.Proof.Gen.Reference4Ideal.Read
public import Idealize.ShloMosaic.Lib.KernelVsHost

@[expose] public section

set_option maxRecDepth 16384

noncomputable section

namespace Cert.Reference4Ideal.Head

open Cert.Reference4Ideal Cert.Reference4Ideal.Gen Cert.Reference4Ideal.Read Cert.AttnRows Cert.FfnRows Cert.HeadRows Cert.HostRead
open Idealize.ShloMosaic Idealize.ShloMosaic.TcCoe Idealize.ShloMosaic.Tactic

variable (x0 : Vec Ideal S2x2048x1024 .f32) (x1 : Vec Ideal S1x1024 .f32) (x2 : Vec Ideal S1x1024x5632 .f32) (x3 : Vec Ideal S1x3x5632 .f32)
  (x4 : Vec Ideal S1x5632 .f32) (x5 : Vec Ideal S1x2816x1024 .f32) (x6 : Vec Ideal S1024 .f32) (x7 : Vec Ideal S2x2048x1024 .f32)

/-- The normalised input, the up projection, the convolution, the block's output, the error, and the cotangent of the normed
    output, row by row. -/
def hh (b : Fin 2) (i : Fin 2048) : Fin 1024 → EReal := normed (row3 x0 b i) (fun k => x1 (ix2 0 k))
def uu (b : Fin 2) (i : Fin 2048) : Fin 5632 → EReal := back (hh x0 x1 b i) fun j k => x2 (ix3 0 k j)
def cc (b : Fin 2) (i : Fin 2048) (j : Fin 5632) : EReal :=
  causal (fun k => x3 (ix3 0 k j)) (x4 (ix2 0 j)) (uu x0 x1 x2 b i j) (behind (fun p => uu x0 x1 x2 b p j) 1 i) (behind (fun p => uu x0 x1 x2 b p j) 2 i)
def oo (b : Fin 2) (i : Fin 2048) : Fin 1024 → EReal := added (row3 x0 b i) (cc x0 x1 x2 x3 x4 b i) (row3 x5 0)
def ee (b : Fin 2) (i : Fin 2048) : Fin 1024 → EReal := miss (oo x0 x1 x2 x3 x4 x5 b i) (fun k => x6 (ix1 k)) (row3 x7 b i)
def dd (b : Fin 2) (i : Fin 2048) (k : Fin 1024) : EReal := pulled (ee x0 x1 x2 x3 x4 x5 x6 x7 b i k)

/-! ## The forward lines -/

theorem v14_apply (c : Fin 1024) (k : Fin 5632) : val_main_v14 (F := Ideal) x2 (ix2 c k) = x2 (ix3 0 c k) := by
  rw [val_main_v14_apply]
  exact congrArg _ (funext fun a => Fin.ext (match a with
    | ⟨0, _⟩ => rfl
    | ⟨1, _⟩ => show (c.val * 5632 + k.val) / 5632 % 1024 = c.val by omega
    | ⟨2, _⟩ => show (c.val * 5632 + k.val) % 5632 = k.val by omega))

theorem v40_apply (c : Fin 2816) (k : Fin 1024) : val_main_v40 (F := Ideal) x5 (ix2 c k) = x5 (ix3 0 c k) := by
  rw [val_main_v40_apply]
  exact congrArg _ (funext fun a => Fin.ext (match a with
    | ⟨0, _⟩ => rfl
    | ⟨1, _⟩ => show (c.val * 1024 + k.val) / 1024 % 2816 = c.val by omega
    | ⟨2, _⟩ => show (c.val * 1024 + k.val) % 1024 = k.val by omega))

theorem v12_apply (b : Fin 2) (i : Fin 2048) (k : Fin 1024) : val_main_v12 (F := Ideal) x1 (ix3 b i k) = x1 (ix2 0 k) := by
  rw [val_main_v12_apply, val_main_v11_apply, val_main_v0_apply]
  exact congrArg _ (funext fun a => Fin.ext (match a with
    | ⟨0, _⟩ => rfl
    | ⟨1, _⟩ => show k.val % 1024 = k.val by omega))

theorem v34_apply (b : Fin 2) (i : Fin 2048) (k : Fin 5632) : val_main_v34 (F := Ideal) x4 (ix3 b i k) = x4 (ix2 0 k) := by
  rw [val_main_v34_apply, val_main_v33_apply, val_main_v16_apply]
  exact congrArg _ (funext fun a => Fin.ext (match a with
    | ⟨0, _⟩ => rfl
    | ⟨1, _⟩ => show k.val % 5632 = k.val by omega))

theorem v13_apply (b : Fin 2) (i : Fin 2048) (k : Fin 1024) : val_main_v13 (F := Ideal) x0 x1 (ix3 b i k) = hh x0 x1 b i k := by
  have e : val_main_v8 (F := Ideal) x0 (ix3 b i 0) = Cert.AttnRows.inv (row3 x0 b i) := by
    unfold Cert.AttnRows.inv row3 val_main_v8 val_main_v7 val_main_v5 val_main_v3 val_main_v2 val_main_v1
    pointwise [val_main_v6, val_main_v4, val_main_cst, val_main_cst_0, val_main_cst_1]
  rw [val_main_v13_apply, v12_apply, val_main_v10_apply, val_main_v9_apply, show idx_main_v9 (ix3 b i k) = ix3 b i 0 from eq_ix3 _, e]; rfl

theorem v15_apply (b : Fin 2) (i : Fin 2048) (j : Fin 5632) : val_main_v15 (F := Ideal) x0 x1 x2 (ix3 b i j) = uu x0 x1 x2 b i j := by
  unfold uu back; simp only [← v14_apply, ← v13_apply]; unfold val_main_v15
  generalize val_main_v13 (F := Ideal) x0 x1 = y; generalize val_main_v14 (F := Ideal) x2 = w; pointwise []

/-- The up projection's rows with two rows of zeros before them, read from each of the first three rows on. -/
theorem taken (b : Fin 2) (i : Fin 2048) (j : Fin 5632) :
    val_main_v28 (F := Ideal) x0 x1 x2 (ix3 b i j) = uu x0 x1 x2 b i j
    ∧ val_main_v23 (F := Ideal) x0 x1 x2 (ix3 b i j) = behind (fun p => uu x0 x1 x2 b p j) 1 i
    ∧ val_main_v19 (F := Ideal) x0 x1 x2 (ix3 b i j) = behind (fun p => uu x0 x1 x2 b p j) 2 i := by
  have e : ∀ q : Fin 2050, val_main_v18 (F := Ideal) x0 x1 x2 (ix3 b q j) = if h : q.val < 2 then 0 else uu x0 x1 x2 b ⟨q.val - 2, by omega⟩ j := fun q => by
    simp only [← v15_apply]; unfold val_main_v18
    generalize val_main_v15 (F := Ideal) x0 x1 x2 = y
    pointwise [val_main_v17, val_main_cst_2]
  refine ⟨?_, ?_, ?_⟩
  · rw [val_main_v28_apply, show idx_main_v28 (ix3 b i j) = ix3 b ⟨2 + i.val, by omega⟩ j from eq_ix3 _, e, dif_neg (by dsimp only; omega)]
    exact congrArg (fun q => uu x0 x1 x2 b q j) (Fin.ext (show 2 + i.val - 2 = i.val by omega))
  · rw [val_main_v23_apply, show idx_main_v23 (ix3 b i j) = ix3 b ⟨1 + i.val, by omega⟩ j from eq_ix3 _, e]
    unfold behind
    by_cases h : 1 ≤ i.val
    · rw [dif_pos h, dif_neg (by dsimp only; omega)]
      exact congrArg (fun q => uu x0 x1 x2 b q j) (Fin.ext (show 1 + i.val - 2 = i.val - 1 by omega))
    · rw [dif_neg h, dif_pos (by dsimp only; omega)]
  · rw [val_main_v19_apply, show idx_main_v19 (ix3 b i j) = ix3 b ⟨i.val, by omega⟩ j from eq_ix3 _, e]
    unfold behind
    by_cases h : 2 ≤ i.val
    · rw [dif_pos h, dif_neg (by dsimp only; omega)]
    · rw [dif_neg h, dif_pos (by dsimp only; omega)]

theorem tap_apply (b : Fin 2) (i : Fin 2048) (j : Fin 5632) : val_main_v30 (F := Ideal) x3 (ix3 b i j) = x3 (ix3 0 2 j)
    ∧ val_main_v25 (F := Ideal) x3 (ix3 b i j) = x3 (ix3 0 1 j) ∧ val_main_v21 (F := Ideal) x3 (ix3 b i j) = x3 (ix3 0 0 j) := by
  refine ⟨?_, ?_, ?_⟩
  · rw [val_main_v30_apply, val_main_v29_apply]; exact congrArg _ (eq_ix3 _)
  · rw [val_main_v25_apply, val_main_v24_apply]; exact congrArg _ (eq_ix3 _)
  · rw [val_main_v21_apply, val_main_v20_apply]; exact congrArg _ (eq_ix3 _)

theorem v35_apply (b : Fin 2) (i : Fin 2048) (j : Fin 5632) : val_main_v35 (F := Ideal) x0 x1 x2 x3 x4 (ix3 b i j) = cc x0 x1 x2 x3 x4 b i j := by
  obtain ⟨u0, u1, u2⟩ := taken x0 x1 x2 b i j
  obtain ⟨t2, t1, t0⟩ := tap_apply x3 b i j
  unfold cc
  rw [causal_plain, val_main_v35_apply, val_main_v32_apply, val_main_v27_apply, val_main_v31_apply, val_main_v26_apply, val_main_v22_apply, v34_apply, u0, u1, u2, t0, t1, t2]
  rfl

theorem v39_apply (b : Fin 2) (i : Fin 2048) (j : Fin 2816) : val_main_v39 (F := Ideal) x0 x1 x2 x3 x4 (ix3 b i j) = gated (cc x0 x1 x2 x3 x4 b i) j := by
  have e36 : val_main_v36 (F := Ideal) x0 x1 x2 x3 x4 (ix3 b i j) = cc x0 x1 x2 x3 x4 b i (left j) := by
    rw [← v35_apply, val_main_v36_apply]; exact congrArg _ (eq_ix3 _)
  have e37 : val_main_v37 (F := Ideal) x0 x1 x2 x3 x4 (ix3 b i j) = cc x0 x1 x2 x3 x4 b i (right j) := by
    rw [← v35_apply, val_main_v37_apply]; exact congrArg _ (eq_ix3 _)
  unfold gated sg
  rw [← e36, ← e37]
  unfold val_main_v39 val_main_v38 val_main_call0_v5 val_main_call0_v3 val_main_call0_v1 val_main_call0_v0
  generalize val_main_v36 (F := Ideal) x0 x1 x2 x3 x4 = y; generalize val_main_v37 (F := Ideal) x0 x1 x2 x3 x4 = w
  pointwise [val_main_call0_v4, val_main_call0_v2, val_main_call0_cst, val_main_call0_cst_0]

theorem v42_apply (b : Fin 2) (i : Fin 2048) (k : Fin 1024) : val_main_v42 (F := Ideal) x0 x1 x2 x3 x4 x5 (ix3 b i k) = oo x0 x1 x2 x3 x4 x5 b i k := by
  unfold oo added; simp only [row3, ← v40_apply, ← v39_apply]; unfold val_main_v42 val_main_v41
  generalize val_main_v39 (F := Ideal) x0 x1 x2 x3 x4 = y; generalize val_main_v40 (F := Ideal) x5 = w; pointwise []

theorem v42_row (b : Fin 2) (i : Fin 2048) : row3 (val_main_v42 (F := Ideal) x0 x1 x2 x3 x4 x5) b i = oo x0 x1 x2 x3 x4 x5 b i :=
  funext fun k => v42_apply ..

/-! ## The last norm -/

theorem v49_apply (b : Fin 2) (t : Fin 2048) (u : Fin 1) : val_main_v49 (F := Ideal) x0 x1 x2 x3 x4 x5 (ix3 b t u) = meanSquare (oo x0 x1 x2 x3 x4 x5 b t) := by
  rw [← v42_row]; unfold meanSquare row3 val_main_v49 val_main_v47 val_main_v45 val_main_v44 val_main_v43
  generalize val_main_v42 (F := Ideal) x0 x1 x2 x3 x4 x5 = y
  pointwise [val_main_v48, val_main_v46, val_main_cst_3, val_main_cst_4, val_main_cst_5]

theorem v50_apply (b : Fin 2) (t : Fin 2048) (u : Fin 1) : val_main_v50 (F := Ideal) x0 x1 x2 x3 x4 x5 (ix3 b t u) = Cert.AttnRows.inv (oo x0 x1 x2 x3 x4 x5 b t) := by
  show _ = Ideal.rsqrt (meanSquare (oo x0 x1 x2 x3 x4 x5 b t))
  rw [← v49_apply x0 x1 x2 x3 x4 x5 b t u]; unfold val_main_v50; generalize val_main_v49 (F := Ideal) x0 x1 x2 x3 x4 x5 = y; pointwise []

theorem v53_apply (b : Fin 2) (t : Fin 2048) (u : Fin 1) : val_main_v53 (F := Ideal) x0 x1 x2 x3 x4 x5 (ix3 b t u)
    = Ideal.ofBits .f32 0xBF000000#32 * Ideal.div (Cert.AttnRows.inv (oo x0 x1 x2 x3 x4 x5 b t)) (meanSquare (oo x0 x1 x2 x3 x4 x5 b t)) := by
  rw [← v49_apply x0 x1 x2 x3 x4 x5 b t u, ← v50_apply x0 x1 x2 x3 x4 x5 b t u]; unfold val_main_v53 val_main_v51
  generalize val_main_v49 (F := Ideal) x0 x1 x2 x3 x4 x5 = y; generalize val_main_v50 (F := Ideal) x0 x1 x2 x3 x4 x5 = z; pointwise [val_main_v52, val_main_cst_6]

theorem v54_apply (b : Fin 2) (t : Fin 2048) (k : Fin 1024) : val_main_v54 (F := Ideal) x0 x1 x2 x3 x4 x5 (ix3 b t k) = Cert.AttnRows.inv (oo x0 x1 x2 x3 x4 x5 b t) := by
  rw [val_main_v54_apply, show idx_main_v54 (ix3 b t k) = ix3 b t 0 from eq_ix3 _, v50_apply]

theorem v55_apply (b : Fin 2) (t : Fin 2048) (k : Fin 1024) : val_main_v55 (F := Ideal) x0 x1 x2 x3 x4 x5 (ix3 b t k)
    = oo x0 x1 x2 x3 x4 x5 b t k * Cert.AttnRows.inv (oo x0 x1 x2 x3 x4 x5 b t) := by
  rw [val_main_v55_apply, v42_apply, v54_apply]; rfl

theorem v57_apply (b : Fin 2) (i : Fin 2048) (k : Fin 1024) : val_main_v57 (F := Ideal) x6 (ix3 b i k) = x6 (ix1 k) := by
  rw [val_main_v57_apply, val_main_v56_apply]; exact congrArg _ (eq_ix1 _)
theorem v77_apply (b : Fin 2) (i : Fin 2048) (k : Fin 1024) : val_main_v77 (F := Ideal) x6 (ix3 b i k) = x6 (ix1 k) := by
  rw [val_main_v77_apply, val_main_v56_apply]; exact congrArg _ (eq_ix1 _)

/-! ## The loss and its derivative -/

theorem v59_apply (b : Fin 2) (t : Fin 2048) (k : Fin 1024) : val_main_v59 (F := Ideal) x0 x1 x2 x3 x4 x5 x6 x7 (ix3 b t k) = ee x0 x1 x2 x3 x4 x5 x6 x7 b t k := by
  rw [val_main_v59_apply, val_main_v58_apply, v55_apply, v57_apply]; rfl

/-- The loss. -/
theorem v104_apply (p : Fin 8) (q : Fin 128) : val_main_v104 (F := Ideal) x0 x1 x2 x3 x4 x5 x6 x7 (ix2 p q)
    = Ideal.ofBits .f32 0x3F000000#32 * ∑ i : Fin 2 × Fin 2048, Ideal.div (∑ k, ee x0 x1 x2 x3 x4 x5 x6 x7 i.1 i.2 k * ee x0 x1 x2 x3 x4 x5 x6 x7 i.1 i.2 k) (Ideal.ofBits .f32 0x44800000#32) := by
  have z : val_main_cst_8 (F := Ideal) (Shape.Idx.first Cert.Reference4Ideal.Gen.h_S_) = 0 := by pointwise [val_main_cst_8]
  have z' : ∀ i, val_main_cst_10 (F := Ideal) i = 0 := fun i => (val_main_cst_10_apply i).trans (by exact Ideal.ofBits_zero .f32)
  have e65 : ∀ b t, val_main_v65 (F := Ideal) x0 x1 x2 x3 x4 x5 x6 x7 (ix2 b t)
      = Ideal.div (∑ k, ee x0 x1 x2 x3 x4 x5 x6 x7 b t k * ee x0 x1 x2 x3 x4 x5 x6 x7 b t k) (Ideal.ofBits .f32 0x44800000#32) := fun b t => by
    rw [val_main_v65_apply, val_main_v63_apply, z, zero_add]
    refine congrArg₂ Ideal.div (Finset.sum_congr rfl fun k _ => ?_) (by pointwise [val_main_v64, val_main_cst_9])
    rw [show idx_main_v63 (ix2 b t) k = ix3 b t k from eq_ix3 _, val_main_v60_apply, v59_apply]; rfl
  rw [val_main_v104_apply, val_main_v67_apply, val_main_v66_apply, z', zero_add, sum_idx2, Fintype.sum_prod_type]
  simp only [e65]
  rfl

/-- The cotangent of the normed output. -/
theorem v73_apply (b : Fin 2) (t : Fin 2048) (k : Fin 1024) : val_main_v73 (F := Ideal) x0 x1 x2 x3 x4 x5 x6 x7 (ix3 b t k) = dd x0 x1 x2 x3 x4 x5 x6 x7 b t k := by
  unfold dd; rw [pulleds, ← v59_apply]; unfold plainPulled val_main_v73 val_main_v62
  generalize val_main_v59 (F := Ideal) x0 x1 x2 x3 x4 x5 x6 x7 = y
  pointwise [val_main_v72, val_main_v71, val_main_v70, val_main_v69, val_main_v68, val_main_v61, val_main_cst_7, val_main_cst_12, val_main_cst_13, val_main_cst_14]

theorem v78_apply (b : Fin 2) (t : Fin 2048) (k : Fin 1024) : val_main_v78 (F := Ideal) x0 x1 x2 x3 x4 x5 x6 x7 (ix3 b t k)
    = dd x0 x1 x2 x3 x4 x5 x6 x7 b t k * x6 (ix1 k) := by
  rw [val_main_v78_apply, v73_apply, v77_apply]; rfl

theorem v82_apply (b : Fin 2) (t : Fin 2048) (u : Fin 1) : val_main_v82 (F := Ideal) x0 x1 x2 x3 x4 x5 x6 x7 (ix3 b t u)
    = ∑ l, oo x0 x1 x2 x3 x4 x5 b t l * (dd x0 x1 x2 x3 x4 x5 x6 x7 b t l * x6 (ix1 l)) := by
  have z : val_main_cst_17 (F := Ideal) (Shape.Idx.first Cert.Reference4Ideal.Gen.h_S_) = 0 := by pointwise [val_main_cst_17]
  rw [val_main_v82_apply, show idx_main_v82 (ix3 b t u) = ix2 b t from funext fun a => Fin.ext (match a with
    | ⟨0, _⟩ => show ((b.val * 2048 + t.val) * 1 + u.val) / 2048 = b.val by omega
    | ⟨1, _⟩ => show ((b.val * 2048 + t.val) * 1 + u.val) % 2048 = t.val by omega), val_main_v81_apply, z, zero_add]
  refine Finset.sum_congr rfl fun l _ => ?_
  rw [show idx_main_v81 (ix2 b t) l = ix3 b t l from eq_ix3 _, val_main_v80_apply, v78_apply, v42_apply]; rfl

theorem v88_apply (b : Fin 2) (t : Fin 2048) : val_main_v88 (F := Ideal) x0 x1 x2 x3 x4 x5 x6 x7 (ix2 b t)
    = squarePull (oo x0 x1 x2 x3 x4 x5 b t) (fun k => x6 (ix1 k)) (dd x0 x1 x2 x3 x4 x5 x6 x7 b t) := by
  unfold squarePull
  rw [← v82_apply x0 x1 x2 x3 x4 x5 x6 x7 b t 0, ← v53_apply x0 x1 x2 x3 x4 x5 b t 0]; unfold val_main_v88 val_main_v87 val_main_v85
  generalize val_main_v82 (F := Ideal) x0 x1 x2 x3 x4 x5 x6 x7 = y; generalize val_main_v53 (F := Ideal) x0 x1 x2 x3 x4 x5 = z
  pointwise [val_main_v86, val_main_cst_18, val_main_cst_19]; exact Fin.sum_univ_one _

/-- The cotangent of the last norm's input. -/
theorem v93_apply (b : Fin 2) (t : Fin 2048) (k : Fin 1024) : val_main_v93 (F := Ideal) x0 x1 x2 x3 x4 x5 x6 x7 (ix3 b t k)
    = plainDnorm (oo x0 x1 x2 x3 x4 x5 b t) (fun k => x6 (ix1 k)) (dd x0 x1 x2 x3 x4 x5 x6 x7 b t) k := by
  have e83 : val_main_v83 (F := Ideal) x0 x1 x2 x3 x4 x5 (ix3 b t k) = Cert.AttnRows.inv (oo x0 x1 x2 x3 x4 x5 b t) := by
    rw [val_main_v83_apply, show idx_main_v83 (ix3 b t k) = ix3 b t 0 from eq_ix3 _, v50_apply]
  have e89 : val_main_v89 (F := Ideal) x0 x1 x2 x3 x4 x5 x6 x7 (ix3 b t k) = squarePull (oo x0 x1 x2 x3 x4 x5 b t) (fun k => x6 (ix1 k)) (dd x0 x1 x2 x3 x4 x5 x6 x7 b t) := by
    rw [val_main_v89_apply, show idx_main_v89 (ix3 b t k) = ix2 b t from eq_ix2 _, v88_apply]
  rw [val_main_v93_apply, val_main_v91_apply, val_main_v92_apply, val_main_v90_apply, val_main_v84_apply, e83, e89, v78_apply, v42_apply]
  exact add_assoc _ _ _

/-- The gradient of the last norm's weight. -/
theorem v105_apply (l : Fin 1024) : val_main_v105 (F := Ideal) x0 x1 x2 x3 x4 x5 x6 x7 (ix2 0 l)
    = ∑ b : Fin 2, ∑ t : Fin 2048, oo x0 x1 x2 x3 x4 x5 b t l * Cert.AttnRows.inv (oo x0 x1 x2 x3 x4 x5 b t) * dd x0 x1 x2 x3 x4 x5 x6 x7 b t l := by
  have e74 : ∀ b t, val_main_v74 (F := Ideal) x0 x1 x2 x3 x4 x5 x6 x7 (ix3 b t l)
      = oo x0 x1 x2 x3 x4 x5 b t l * Cert.AttnRows.inv (oo x0 x1 x2 x3 x4 x5 b t) * dd x0 x1 x2 x3 x4 x5 x6 x7 b t l := fun b t => by
    rw [val_main_v74_apply, v73_apply, v55_apply]; rfl
  have z1 : val_main_cst_15 (F := Ideal) (Shape.Idx.first Cert.Reference4Ideal.Gen.h_S_) = 0 := by pointwise [val_main_cst_15]
  have z2 : val_main_cst_16 (F := Ideal) (Shape.Idx.first Cert.Reference4Ideal.Gen.h_S_) = 0 := by pointwise [val_main_cst_16]
  have e75 : val_main_v75 (F := Ideal) x0 x1 x2 x3 x4 x5 x6 x7 (ix1 l)
      = ∑ b : Fin 2, ∑ t : Fin 2048, oo x0 x1 x2 x3 x4 x5 b t l * Cert.AttnRows.inv (oo x0 x1 x2 x3 x4 x5 b t) * dd x0 x1 x2 x3 x4 x5 x6 x7 b t l := by
    unfold val_main_v75
    show Ideal.hostReduceAdd _ _ _ (ix1 l) = _
    rw [reduceAdd_first_two, z1, zero_add]
    simp only [e74]
  rw [val_main_v105_apply, show idx_main_v105 (ix2 0 l) = ix1 l from funext fun a => Fin.ext (match a with | ⟨0, _⟩ => by show 0 * 1024 + l.val = l.val; omega)]
  unfold val_main_v79
  show Ideal.hostReduceAdd _ _ _ (ix1 l) = _
  rw [reduceAdd_first_two, z2, zero_add, Fin.sum_univ_one, Fin.sum_univ_one, val_main_v76_apply, ← e75]
  exact congrArg _ (funext fun a => Fin.ext (match a with | ⟨0, _⟩ => by show (0 * 1 + 0) * 1024 + l.val = l.val; omega))

end Cert.Reference4Ideal.Head
-- ==== Proof.HeadValue.lean ====
/-
  The value of the gated convolution block's forward call: with finite arguments its eight results are the block's forward
  lines, the loss, and the loss's derivatives at the last norm.
-/
module

public import proofs.«01_k».proof.Defs
public import proofs.«01_k».proof.Proof.Gen.Pre_finite4
public import proofs.«01_k».proof.Proof.HeadArrays
public import proofs.«01_k».proof.Proof.HeadBlock
public import proofs.«01_k».proof.Proof.HeadRef
public import proofs.«01_k».proof.Proof.FiniteArgs

@[expose] public section

set_option maxRecDepth 16384

noncomputable section

namespace Cert.Kernel4Ideal.Head

open Cert.Kernel4Ideal Cert.Kernel4Ideal.Gen Cert.Gathered Cert.HostRead Cert.AttnRows Cert.FfnRows Cert.HeadRows Cert.FiniteReal Cert.Tiles
open Cert.Reference4Ideal.Head (hh uu cc oo ee dd)
open Cert.Reference4Ideal.Read
open Idealize.ShloMosaic Idealize.ShloMosaic.TcCoe Idealize.ShloMosaic.Tactic
open Idealize.SL.Sem

variable (m : (ℓ : Loc nD τ sig) → Buf (Elt Ideal) ℓ) (c : Dev nD)

/-! ## The arguments -/

abbrev a0 : Vec Ideal S2x2048x1024 .f32 := m ((c : Thread nD τ).loc main_arg0)
abbrev a1 : Vec Ideal S1x1024 .f32 := m ((c : Thread nD τ).loc main_arg1)
abbrev a2 : Vec Ideal S1x1024x5632 .f32 := m ((c : Thread nD τ).loc main_arg2)
abbrev a3 : Vec Ideal S1x3x5632 .f32 := m ((c : Thread nD τ).loc main_arg3)
abbrev a4 : Vec Ideal S1x5632 .f32 := m ((c : Thread nD τ).loc main_arg4)
abbrev a5 : Vec Ideal S1x2816x1024 .f32 := m ((c : Thread nD τ).loc main_arg5)
abbrev a6 : Vec Ideal S1024 .f32 := m ((c : Thread nD τ).loc main_arg6)
abbrev a7 : Vec Ideal S2x2048x1024 .f32 := m ((c : Thread nD τ).loc main_arg7)

/-- The up projection, the convolution, the block's output, the error, and the cotangent of the normed output, at the arguments. -/
abbrev us (b : Fin 2) (i : Fin 2048) := uu (a0 m c) (a1 m c) (a2 m c) b i
abbrev cs (b : Fin 2) (i : Fin 2048) := cc (a0 m c) (a1 m c) (a2 m c) (a3 m c) (a4 m c) b i
abbrev os (b : Fin 2) (i : Fin 2048) := oo (a0 m c) (a1 m c) (a2 m c) (a3 m c) (a4 m c) (a5 m c) b i
abbrev es (b : Fin 2) (i : Fin 2048) := ee (a0 m c) (a1 m c) (a2 m c) (a3 m c) (a4 m c) (a5 m c) (a6 m c) (a7 m c) b i
abbrev ds (b : Fin 2) (i : Fin 2048) := dd (a0 m c) (a1 m c) (a2 m c) (a3 m c) (a4 m c) (a5 m c) (a6 m c) (a7 m c) b i

/-- Every entry of every argument is a real number. -/
structure Args : Prop where
  h0 : ∀ i, IsFinite (a0 m c i)
  h1 : ∀ i, IsFinite (a1 m c i)
  h2 : ∀ i, IsFinite (a2 m c i)
  h3 : ∀ i, IsFinite (a3 m c i)
  h4 : ∀ i, IsFinite (a4 m c i)
  h5 : ∀ i, IsFinite (a5 m c i)
  h6 : ∀ i, IsFinite (a6 m c i)
  h7 : ∀ i, IsFinite (a7 m c i)

/-- The precondition says so. -/
theorem args (h : Cert.Pre_Kernel4Ideal_finite4 m) : Args m c := by
  have e := congrFun (h c) (fun a => a.elim0)
  obtain ⟨e, h7⟩ := both_ones e
  obtain ⟨e, h6⟩ := both_ones e
  obtain ⟨e, h5⟩ := both_ones e
  obtain ⟨e, h4⟩ := both_ones e
  obtain ⟨e, h3⟩ := both_ones e
  obtain ⟨e, h2⟩ := both_ones e
  obtain ⟨h0, h1⟩ := both_ones e
  exact ⟨all_finite _ _ _ h0, all_finite _ _ _ h1, all_finite _ _ _ h2, all_finite _ _ _ h3,
    all_finite _ _ _ h4, all_finite _ _ _ h5, all_finite _ _ _ h6, all_finite _ _ _ h7⟩

/-! ## Rows of the arrays the kernel reads -/

/-- The grid point of tile `v` of sequence `b`. -/
abbrev at8 (b : Fin 2) (v : Fin 8) : Fin cfg0.N := pt (b.val * 8 + v.val) (by omega)

/-- The weights the kernel loads are the up projection's, transposed, and the down projection's. -/
theorem wu_apply (j : Fin 5632) (k : Fin 1024) : wuAt m c (ix2 j k) = a2 m c (ix3 0 k j) := by
  have e : wuAt m c = transpose S5632x1024 [1, 0] (shapeCast S1024x5632 (a2 m c) shapeCasts_S1x1024x5632_S1024x5632) transposes_S1024x5632_S5632x1024_1_0 := by
    show stack 5632 704 0 rfl (by decide) (V m c main_v6 : Vec Ideal S8x1056x1024 .bf16) = _
    rw [V_v6]
    exact stack_packed (N := 1056) _ _ [⟨S8x704x1024, _⟩, ⟨S8x352x1024, _⟩] concatenates_S8x704x1024_S8x352x1024_S8x1056x1024_d1 0 (Nat.zero_lt_succ _) _ shapeCasts_S5632x1024_S8x704x1024 rfl rfl
  rw [e]
  exact transposed_apply _ _ _ k j
theorem wd_row : row (wdAt m c) = row3 (a5 m c) 0 := by
  have e : wdAt m c = shapeCast S2816x1024 (a5 m c) shapeCasts_S1x2816x1024_S2816x1024 := by
    show stack 2816 352 704 rfl (by decide) (V m c main_v6 : Vec Ideal S8x1056x1024 .bf16) = _
    rw [V_v6]
    exact stack_packed (N := 1056) _ _ [⟨S8x704x1024, _⟩, ⟨S8x352x1024, _⟩] concatenates_S8x704x1024_S8x352x1024_S8x1056x1024_d1 1 (Nat.lt_succ_self _) _ shapeCasts_S2816x1024_S8x352x1024 rfl rfl
  rw [e]
  exact funext fun k => funext fun l => flatten_apply _ _ 0 k l k (by show k.val = 0 * 2816 + k.val; omega)
theorem tap_apply (t : Fin cfg0.N) (i : Fin 3) (j : Fin 5632) : (iblk m c 3 t : Vec Ideal S3x5632 .f32) (ix2 i j) = a3 m c (ix3 0 i j) := by
  rw [iblk3_eq, V_v9]
  exact flatten_apply _ _ 0 i j i (by show i.val = 0 * 3 + i.val; omega)
theorem bias_apply (t : Fin cfg0.N) (j : Fin 5632) : (iblk m c 4 t : Vec Ideal S1x5632 .f32) (ix2 0 j) = a4 m c (ix2 0 j) := by
  rw [iblk4_eq, V_main_arg4]
theorem gain_row (t : Fin cfg0.N) : row (iblk m c 2 t : Vec Ideal S1x1024 .f32) 0 = fun k => a1 m c (ix2 0 k) := by
  rw [iblk2_eq, V_main_arg1]
theorem last_row (t : Fin cfg0.N) : row (iblk m c 5 t : Vec Ideal S1x1024 .f32) 0 = fun k => a6 m c (ix1 k) := funext fun k => by
  rw [iblk5_eq, V_v10]
  refine shapeCast_apply _ _ _ _ ?_
  show (Shape.rowMajor ⟨1, ![1024]⟩ (ix1 k)).val = (Shape.rowMajor ⟨2, ![1, 1024]⟩ (ix2 0 k)).val
  rw [Shape.rowMajor_val_two, Shape.rowMajor_val_one]
  show k.val = 0 * 1024 + k.val
  omega

variable (b : Fin 2) (v : Fin 8) (r : Fin 256)

theorem row0 : row (iblk m c 0 (at8 b v) : Vec Ideal S256x1024 .f32) r = row3 (a0 m c) b (pos v r) := funext fun k => by
  refine (iblk0_apply m c (at8 b v) r k ⟨(b.val * 8 + v.val) * 256 + r.val, by omega⟩ rfl).trans ?_
  rw [V_v7]
  exact flatten_apply _ _ b (pos v r) k _ (by show _ = b.val * 2048 + (v.val * 256 + r.val); dsimp only; omega)
theorem row1 : row (iblk m c 1 (at8 b v) : Vec Ideal S256x1024 .f32) r = row3 (a7 m c) b (pos v r) := funext fun k => by
  refine (iblk1_apply m c (at8 b v) r k ⟨(b.val * 8 + v.val) * 256 + r.val, by omega⟩ rfl).trans ?_
  rw [V_v8]
  exact flatten_apply _ _ b (pos v r) k _ (by show _ = b.val * 2048 + (v.val * 256 + r.val); dsimp only; omega)

/-! ## What the rows are -/

/-- A row of the normalised input and of the up projection. -/
theorem h_eq : normed (row (iblk m c 0 (at8 b v) : Vec Ideal S256x1024 .f32) r) (row (iblk m c 2 (at8 b v) : Vec Ideal S1x1024 .f32) 0) = hh (a0 m c) (a1 m c) b (pos v r) := by
  rw [row0, gain_row]; rfl
theorem up_eq : up (iblk m c 0 (at8 b v)) (iblk m c 2 (at8 b v)) (wuAt m c) r = us m c b (pos v r) := by
  unfold up; rw [h_eq, show row (wuAt m c) = fun j k => a2 m c (ix3 0 k j) from funext fun j => funext fun k => wu_apply m c j k]; rfl

/-- The up projection's row further back: before the tile it is a row of the tile before, and before the sequence it is zero. -/
theorem past_eq (d : ℕ) (hd : d ≤ 8) (j : Fin 5632) : past (iblk m c 0 (at8 b v)) (iblk m c 2 (at8 b v)) (wuAt m c) (carried m c (at8 b v)) d hd r j
    = behind (fun i => us m c b i j) d (pos v r) := by
  have hr := r.isLt
  have hv := v.isLt
  have hb := b.isLt
  unfold past behind
  by_cases h1 : d ≤ r.val
  · rw [dif_pos h1, dif_pos (show d ≤ v.val * 256 + r.val by omega), up_eq]
    exact congrArg (fun i => us m c b i j) (Fin.ext (show v.val * 256 + (r.val - d) = v.val * 256 + r.val - d by omega))
  · rw [dif_neg h1]
    by_cases h2 : v.val = 0
    · rw [dif_neg (show ¬ d ≤ v.val * 256 + r.val by omega), carried, if_pos (show (at8 b v).val % 8 = 0 from (by omega : (b.val * 8 + v.val) % 8 = 0))]
      pointwise [k0_pay7]
    · rw [dif_pos (show d ≤ v.val * 256 + r.val by omega), carried, if_neg (show ¬ (at8 b v).val % 8 = 0 from (by omega : ¬ (b.val * 8 + v.val) % 8 = 0))]
      have e : prev (at8 b v) = at8 b ⟨v.val - 1, by omega⟩ := Fin.ext (show b.val * 8 + v.val - 1 = b.val * 8 + (v.val - 1) by omega)
      rw [e, carryAt, carryOf_apply, up_eq]
      exact congrArg (fun i => us m c b i j) (Fin.ext (show (v.val - 1) * 256 + (248 + (8 + r.val - d)) = v.val * 256 + r.val - d by omega))

/-- A row of the convolution. -/
theorem mixed_eq : mixed (iblk m c 0 (at8 b v)) (iblk m c 2 (at8 b v)) (iblk m c 3 (at8 b v)) (iblk m c 4 (at8 b v)) (wuAt m c) (carried m c (at8 b v)) r
    = cs m c b (pos v r) := funext fun j => by
  unfold mixed cs cc
  rw [past_eq, past_eq, up_eq, bias_apply, show (fun i => (iblk m c 3 (at8 b v) : Vec Ideal S3x5632 .f32) (ix2 i j)) = fun i => a3 m c (ix3 0 i j) from funext fun i => tap_apply m c _ i j]

/-- A row of the block's output. -/
theorem out_eq : out (iblk m c 0 (at8 b v)) (iblk m c 2 (at8 b v)) (iblk m c 3 (at8 b v)) (iblk m c 4 (at8 b v)) (wuAt m c) (wdAt m c) (carried m c (at8 b v)) r
    = os m c b (pos v r) := by
  unfold out; rw [mixed_eq, row0, wd_row]; rfl

/-- A row of the error, and of the cotangent of the normed output. -/
theorem miss_eq : miss (out (iblk m c 0 (at8 b v)) (iblk m c 2 (at8 b v)) (iblk m c 3 (at8 b v)) (iblk m c 4 (at8 b v)) (wuAt m c) (wdAt m c) (carried m c (at8 b v)) r)
    (row (iblk m c 5 (at8 b v) : Vec Ideal S1x1024 .f32) 0) (row (iblk m c 1 (at8 b v) : Vec Ideal S256x1024 .f32) r) = es m c b (pos v r) := by
  rw [out_eq, last_row, row1]; rfl
theorem dout_eq : dout (iblk m c 0 (at8 b v)) (iblk m c 1 (at8 b v)) (iblk m c 2 (at8 b v)) (iblk m c 3 (at8 b v)) (iblk m c 4 (at8 b v)) (iblk m c 5 (at8 b v))
    (wuAt m c) (wdAt m c) (carried m c (at8 b v)) r = ds m c b (pos v r) := funext fun k => by
  unfold dout; rw [miss_eq]; rfl

/-! ## Finite arguments -/

section Values
variable {m c} (h : Args m c)
include h

theorem us_finite (b i j) : IsFinite (us m c b i j) := back_finite (fun _ => normed_finite (fun _ => h.h0 _) (fun _ => h.h1 _) _) (fun _ _ => h.h2 _) j
theorem cs_finite (b i j) : IsFinite (cs m c b i j) :=
  causal_finite (fun _ => h.h3 _) (h.h4 _) (us_finite h _ _ _) (behind_finite (fun _ => us_finite h _ _ _) _ _) (behind_finite (fun _ => us_finite h _ _ _) _ _)
theorem os_finite (b i k) : IsFinite (os m c b i k) := added_finite (fun _ => h.h0 _) (fun _ => cs_finite h _ _ _) (fun _ _ => h.h5 _) k
theorem es_finite (b i k) : IsFinite (es m c b i k) := miss_finite (fun _ => os_finite h _ _ _) (fun _ => h.h6 _) (fun _ => h.h7 _) k
theorem ds_finite (b i k) : IsFinite (ds m c b i k) := pulled_finite (es_finite h b i k)

/-- One entry of the cotangent of the last norm's input. -/
theorem dx_entry (k : Fin 1024) : dxOf (iblk m c 0 (at8 b v)) (iblk m c 1 (at8 b v)) (iblk m c 2 (at8 b v)) (iblk m c 3 (at8 b v)) (iblk m c 4 (at8 b v)) (iblk m c 5 (at8 b v))
      (wuAt m c) (wdAt m c) (carried m c (at8 b v)) (ix2 r k) = val_main_v93 (F := Ideal) (a0 m c) (a1 m c) (a2 m c) (a3 m c) (a4 m c) (a5 m c) (a6 m c) (a7 m c) (ix3 b (pos v r) k) := by
  rw [dxOf_apply, dout_eq, out_eq, last_row, Cert.Reference4Ideal.Head.v93_apply, norms (os_finite h b (pos v r)) (fun _ => h.h6 _) (ds_finite h b (pos v r))]

end Values

/-! ## Sums over the grid points -/

/-- The grid points are the tiles in order. -/
theorem sum_points (s : Fin cfg0.N → EReal) : ∑ k : Fin 16, s ⟨k.val, lt_N k.isLt⟩ = ∑ b : Fin 2, ∑ v : Fin 8, s (at8 b v) := by
  rw [← Equiv.sum_comp (finProdFinEquiv : Fin 2 × Fin 8 ≃ Fin 16), Fintype.sum_prod_type]
  exact Finset.sum_congr rfl fun b _ => Finset.sum_congr rfl fun v _ => congrArg s (Fin.ext (show v.val + 8 * b.val = b.val * 8 + v.val by omega))

/-- A sum over the grid points after the last one, from zero. -/
theorem sum_all {ι : Type} (t : Fin cfg0.N) (ht : t.val = 15) (step : Fin cfg0.N → (ι → EReal) → ι → EReal) (z : ι → EReal) (i : ι) (hz : z i = 0) (g : Fin 2 → Fin 2048 → EReal)
    (s : Fin cfg0.N → EReal) (hs : ∀ t a, step t a i = a i + s t) (hg : ∀ b v, s (at8 b v) = ∑ r, g b (pos v r)) :
    sumAt step z t.val t.isLt i = ∑ b, ∑ p, g b p := by
  obtain ⟨n, hn⟩ := t
  obtain rfl : n = 15 := ht
  rw [sumAt_apply step z i s hs, hz, zero_add]
  refine (sum_points s).trans (Finset.sum_congr rfl fun b _ => ?_)
  rw [sum_tiles]
  exact Finset.sum_congr rfl fun v _ => hg b v

/-- The loss. -/
theorem loss_entry {m c} (h : Args m c) (t : Fin cfg0.N) (ht : t.val = 15) (p : Fin 8) (q : Fin 128) : lossAt m c t (ix2 p q) = val_main_v104 (F := Ideal) (a0 m c) (a1 m c) (a2 m c) (a3 m c) (a4 m c) (a5 m c) (a6 m c) (a7 m c) (ix2 p q) := by
  have hs : ∀ t a, lossStep m c t a (ix2 p q) = a (ix2 p q)
      + (∑ r, ∑ k, miss (out (iblk m c 0 t) (iblk m c 2 t) (iblk m c 3 t) (iblk m c 4 t) (wuAt m c) (wdAt m c) (carried m c t) r) (row (iblk m c 5 t : Vec Ideal S1x1024 .f32) 0) (row (iblk m c 1 t : Vec Ideal S256x1024 .f32) r) k
          * miss (out (iblk m c 0 t) (iblk m c 2 t) (iblk m c 3 t) (iblk m c 4 t) (wuAt m c) (wdAt m c) (carried m c t) r) (row (iblk m c 5 t : Vec Ideal S1x1024 .f32) 0) (row (iblk m c 1 t : Vec Ideal S256x1024 .f32) r) k)
        * Ideal.ofBits .f32 0x3A000000#32 := fun t a => by
    unfold lossStep; rw [lossOf_apply]
  have hz : k0_pay5 (F := Ideal) (ix2 p q) = 0 := by pointwise [k0_pay5]
  rw [Cert.Reference4Ideal.Head.v104_apply, ← losses (fun i : Fin 2 × Fin 2048 => es m c i.1 i.2) (fun i k => es_finite h i.1 i.2 k), Fintype.sum_prod_type]
  unfold lossAt
  refine sum_all t ht (lossStep m c) (k0_pay5 (F := Ideal)) (ix2 p q) hz (fun b i => (∑ k, es m c b i k * es m c b i k) * Ideal.ofBits .f32 0x3A000000#32) _ hs fun b v => ?_
  rw [sum_mul _ (fun r => IsFinite.sum _ fun k => (es_finite h b (pos v r) k).mul (es_finite h b (pos v r) k)) ⟨_, lit_halfmilli⟩]
  exact congrArg (· * _) (Finset.sum_congr rfl fun r _ => by rw [miss_eq])

/-- The gradient of the last norm's weight. -/
theorem dg_entry (t : Fin cfg0.N) (ht : t.val = 15) (k : Fin 1024) : dgAt m c t (ix2 0 k) = val_main_v105 (F := Ideal) (a0 m c) (a1 m c) (a2 m c) (a3 m c) (a4 m c) (a5 m c) (a6 m c) (a7 m c) (ix2 0 k) := by
  have hs : ∀ t a, dgStep m c t a (ix2 0 k) = a (ix2 0 k)
      + ∑ r, dout (iblk m c 0 t) (iblk m c 1 t) (iblk m c 2 t) (iblk m c 3 t) (iblk m c 4 t) (iblk m c 5 t) (wuAt m c) (wdAt m c) (carried m c t) r k
        * (out (iblk m c 0 t) (iblk m c 2 t) (iblk m c 3 t) (iblk m c 4 t) (wuAt m c) (wdAt m c) (carried m c t) r k
          * Cert.AttnRows.inv (out (iblk m c 0 t) (iblk m c 2 t) (iblk m c 3 t) (iblk m c 4 t) (wuAt m c) (wdAt m c) (carried m c t) r)) := fun t a => by
    unfold dgStep; rw [dgOf_apply]
  have hz : k0_pay6 (F := Ideal) (ix2 0 k) = 0 := by pointwise [k0_pay6]
  rw [Cert.Reference4Ideal.Head.v105_apply]
  unfold dgAt
  refine sum_all t ht (dgStep m c) (k0_pay6 (F := Ideal)) (ix2 0 k) hz
    (fun b p => os m c b p k * Cert.AttnRows.inv (os m c b p) * Cert.Kernel4Ideal.Head.ds m c b p k) _ hs fun b v => ?_
  refine Finset.sum_congr rfl fun r _ => ?_
  rw [dout_eq, out_eq]
  exact mul_comm _ _

/-! ## The eight results -/

/-- A tiled array that agrees with a flattened one entry by entry. -/
theorem tiled_eq {C : ℕ} (f : Fin cfg0.N → (⟨2, ![256, C]⟩ : Shape).Idx → EReal) (g : (⟨3, ![2, 2048, C]⟩ : Shape).Idx → EReal)
    (hc : (⟨3, ![2, 2048, C]⟩ : Shape).ShapeCasts ⟨2, ![4096, C]⟩)
    (e : ∀ b v r k, f (at8 b v) (ix2 r k) = g (ix3 b (pos v r) k)) : tiled f = shapeCast ⟨2, ![4096, C]⟩ g hc := by
  funext i
  obtain ⟨R, k, rfl⟩ : ∃ (R : Fin 4096) (k : Fin C), i = ix2 R k := ⟨_, _, eq_ix2 i⟩
  refine (tiled_at f (at8 ⟨R.val / 2048, by omega⟩ ⟨R.val / 256 % 8, by omega⟩) (ix2 ⟨R.val % 256, by omega⟩ k) _ ?_ rfl).trans ((e _ _ _ _).trans (flatten_apply _ _ _ _ _ _ ?_).symm)
  · show R.val = (R.val / 2048 * 8 + R.val / 256 % 8) * 256 + R.val % 256
    omega
  · show R.val = R.val / 2048 * 2048 + (R.val / 256 % 8 * 256 + R.val % 256)
    omega

theorem uu_all : tiled (C := 5632) (fun t => uuOf (iblk m c 0 t) (iblk m c 2 t) (wuAt m c)) = val_main_v96 (F := Ideal) (a0 m c) (a1 m c) (a2 m c) :=
  (tiled_eq _ (val_main_v15 (F := Ideal) (a0 m c) (a1 m c) (a2 m c)) Cert.Reference4Ideal.Gen.shapeCasts_S2x2048x5632_S4096x5632 fun b v r k => by
    rw [uuOf_apply, up_eq, Cert.Reference4Ideal.Head.v15_apply]).trans rfl

theorem cc_all : tiled (C := 5632) (fun t => ccOf (iblk m c 0 t) (iblk m c 2 t) (iblk m c 3 t) (iblk m c 4 t) (wuAt m c) (carried m c t))
    = val_main_v98 (F := Ideal) (a0 m c) (a1 m c) (a2 m c) (a3 m c) (a4 m c) :=
  (tiled_eq _ (val_main_v35 (F := Ideal) (a0 m c) (a1 m c) (a2 m c) (a3 m c) (a4 m c)) Cert.Reference4Ideal.Gen.shapeCasts_S2x2048x5632_S4096x5632 fun b v r k => by
    rw [ccOf_apply, mixed_eq, Cert.Reference4Ideal.Head.v35_apply]).trans rfl

theorem a_all : tiled (C := 2816) (fun t => aOf (iblk m c 0 t) (iblk m c 2 t) (iblk m c 3 t) (iblk m c 4 t) (wuAt m c) (carried m c t))
    = val_main_v100 (F := Ideal) (a0 m c) (a1 m c) (a2 m c) (a3 m c) (a4 m c) :=
  (tiled_eq _ (val_main_v39 (F := Ideal) (a0 m c) (a1 m c) (a2 m c) (a3 m c) (a4 m c)) Cert.Reference4Ideal.Gen.shapeCasts_S2x2048x2816_S4096x2816 fun b v r k => by
    rw [aOf_apply, mixed_eq, Cert.Reference4Ideal.Head.v39_apply]).trans rfl

theorem h_all : tiled (C := 1024) (fun t => hOf (iblk m c 0 t) (iblk m c 2 t)) = val_main_v102 (F := Ideal) (a0 m c) (a1 m c) :=
  (tiled_eq _ (val_main_v13 (F := Ideal) (a0 m c) (a1 m c)) Cert.Reference4Ideal.Gen.shapeCasts_S2x2048x1024_S4096x1024 fun b v r k => by
    rw [hOf_apply, h_eq, Cert.Reference4Ideal.Head.v13_apply]).trans rfl

theorem dx_all (h : Args m c) : tiled (C := 1024) (fun t => dxOf (iblk m c 0 t) (iblk m c 1 t) (iblk m c 2 t) (iblk m c 3 t) (iblk m c 4 t) (iblk m c 5 t) (wuAt m c) (wdAt m c) (carried m c t))
    = val_main_v94 (F := Ideal) (a0 m c) (a1 m c) (a2 m c) (a3 m c) (a4 m c) (a5 m c) (a6 m c) (a7 m c) :=
  tiled_eq _ _ Cert.Reference4Ideal.Gen.shapeCasts_S2x2048x1024_S4096x1024 fun b v r k => dx_entry b v r h k

theorem dxb_all (h : Args m c) : tiled (C := 1024) (fun t => dxbOf (iblk m c 0 t) (iblk m c 1 t) (iblk m c 2 t) (iblk m c 3 t) (iblk m c 4 t) (iblk m c 5 t) (wuAt m c) (wdAt m c) (carried m c t))
    = val_main_v103 (F := Ideal) (a0 m c) (a1 m c) (a2 m c) (a3 m c) (a4 m c) (a5 m c) (a6 m c) (a7 m c) := by
  simp only [dxbOf_eq]
  exact dx_all m c h

theorem loss_all (h : Args m c) : lossAt m c (pt 15 (by decide)) = val_main_v104 (F := Ideal) (a0 m c) (a1 m c) (a2 m c) (a3 m c) (a4 m c) (a5 m c) (a6 m c) (a7 m c) := by
  funext i
  obtain ⟨p, q, rfl⟩ : ∃ (p : Fin 8) (q : Fin 128), i = ix2 p q := ⟨_, _, eq_ix2 i⟩
  exact loss_entry h _ rfl p q

theorem dg_all : dgAt m c (pt 15 (by decide)) = val_main_v105 (F := Ideal) (a0 m c) (a1 m c) (a2 m c) (a3 m c) (a4 m c) (a5 m c) (a6 m c) (a7 m c) := by
  funext i
  obtain ⟨i0, l, rfl⟩ : ∃ (i0 : Fin 1) (l : Fin 1024), i = ix2 i0 l := ⟨_, _, eq_ix2 i⟩
  obtain rfl : i0 = 0 := Subsingleton.elim _ _
  exact dg_entry m c _ rfl l

set_option maxHeartbeats 1000000 in
/-- The kernel's run: all eight results, the arguments untouched. -/
theorem run_value (hm : Cert.Pre_Kernel4Ideal_finite4 m) (ρ : Dev nD → PrngReg) :
    θ_run defs (onTc (τ := τ) (main (F := Ideal))) ⟨m, fun _ => 0, ρ⟩ (fun r => ∀ c : Dev nD,
    r.2.mem ((c : Thread nD τ).loc main_v11_0) = val_main_v96 (F := Ideal) (a0 m c) (a1 m c) (a2 m c)
    ∧ r.2.mem ((c : Thread nD τ).loc main_v11_1) = val_main_v98 (F := Ideal) (a0 m c) (a1 m c) (a2 m c) (a3 m c) (a4 m c)
    ∧ r.2.mem ((c : Thread nD τ).loc main_v11_2) = val_main_v100 (F := Ideal) (a0 m c) (a1 m c) (a2 m c) (a3 m c) (a4 m c)
    ∧ r.2.mem ((c : Thread nD τ).loc main_v11_3) = val_main_v102 (F := Ideal) (a0 m c) (a1 m c)
    ∧ r.2.mem ((c : Thread nD τ).loc main_v11_4) = val_main_v94 (F := Ideal) (a0 m c) (a1 m c) (a2 m c) (a3 m c) (a4 m c) (a5 m c) (a6 m c) (a7 m c)
    ∧ r.2.mem ((c : Thread nD τ).loc main_v11_5) = val_main_v103 (F := Ideal) (a0 m c) (a1 m c) (a2 m c) (a3 m c) (a4 m c) (a5 m c) (a6 m c) (a7 m c)
    ∧ r.2.mem ((c : Thread nD τ).loc main_v11_6) = val_main_v104 (F := Ideal) (a0 m c) (a1 m c) (a2 m c) (a3 m c) (a4 m c) (a5 m c) (a6 m c) (a7 m c)
    ∧ r.2.mem ((c : Thread nD τ).loc main_v11_7) = val_main_v105 (F := Ideal) (a0 m c) (a1 m c) (a2 m c) (a3 m c) (a4 m c) (a5 m c) (a6 m c) (a7 m c)
    ∧ Kept m r c) := by
  refine (θ_run _ _ _).mono (fun r hr c => ⟨?_, ?_, ?_, ?_, ?_, ?_, ?_, ?_, kept m r hr.1 c⟩) (run_main m ρ)
  · exact ((hr.1 c).1 6).trans ((result0 m c).trans (uu_all m c))
  · exact ((hr.1 c).1 7).trans ((result1 m c).trans (cc_all m c))
  · exact ((hr.1 c).1 8).trans ((result2 m c).trans (a_all m c))
  · exact ((hr.1 c).1 9).trans ((result3 m c).trans (h_all m c))
  · exact ((hr.1 c).1 10).trans ((result4 m c).trans (dx_all m c (args m c hm)))
  · exact ((hr.1 c).1 11).trans ((result5 m c).trans (dxb_all m c (args m c hm)))
  · exact ((hr.1 c).1 12).trans ((result6 m c).trans (loss_all m c (args m c hm)))
  · exact ((hr.1 c).1 13).trans ((result7 m c).trans (dg_all m c))

end Cert.Kernel4Ideal.Head
-- ==== Proof.MixBody.lean ====
/-
  The call that differentiates the sequence mixer (the pooling, the convolution with a long filter and the gates): its body, run
  from any contents of its blocks and its scratch buffers, and the frame. Nothing is said here of what the body computes: a block
  may hold anything before and after a grid point, and the two weights' scratch buffers hold what the first point's transfers left.
-/
module

public import proofs.«01_k».proof.Proof.Gen.Kernel5Ideal.Frame
public import proofs.«01_k».proof.Proof.Gen.Kernel5Ideal.Skeleton
public import Idealize.ShloMosaic.Lib.Writes
public import Idealize.ShloMosaic.Lib.Batch
public import Idealize.ShloMosaic.Lib.VecWindow

@[expose] public section

set_option maxRecDepth 16384

noncomputable section

namespace Cert.Kernel5Ideal.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's first two tests: the grid coordinate is zero. -/
abbrev first (i : grid0.Coords) : Prop :=
  Scalar.cmpi .ne (Scalar.extui (Scalar.cmpi .eq (BitVec.ofNat 32 (i 0).val) 0#32) : BitVec 32) 0#32 = 1#1

/-- The tile modulo the number of tiles of a sequence, as the body computes it: the tiles are taken from the last to the first. -/
abbrev tile (i : grid0.Coords) : BitVec 32 :=
  Scalar.remsi (Scalar.subi 7#32 (BitVec.ofNat 32 (i 0).val)) (Scalar.select (Scalar.cmpi .eq 4#32 0#32) 1#32 4#32)

/-- The body's other test: the tile is the last of a sequence. -/
abbrev fresh (i : grid0.Coords) : Prop :=
  Scalar.cmpi .ne (Scalar.extui (Scalar.cmpi .eq (Scalar.select
    (Scalar.andi (Scalar.xori (Scalar.cmpi .slt (tile i) 0#32) (Scalar.cmpi .slt (Scalar.select (Scalar.cmpi .eq 4#32 0#32) 1#32 4#32) 0#32))
      (Scalar.cmpi .ne (tile i) 0#32))
    (Scalar.addi (tile i) (Scalar.select (Scalar.cmpi .eq 4#32 0#32) 1#32 4#32)) (tile i)) 3#32) : BitVec 32) 0#32 = 1#1

/-- The gathered weights, the scratch buffers of the two projections, and the two buffers carried from tile to tile. -/
abbrev hbM : Memref sig .tc .hbm S8x320x1024 .bf16 := Memref.whole main_v6
abbrev inM : Memref sig .tc .vmem S1536x1024 .bf16 := Memref.whole cc0_scratch0
abbrev outM : Memref sig .tc .vmem S1024x1024 .bf16 := Memref.whole cc0_scratch1
abbrev rowM : Memref sig .tc .vmem S32x512 .f32 := Memref.whole cc0_scratch2
abbrev winM : Memref sig .tc .vmem S16x512 .f32 := Memref.whole cc0_scratch3

/-- A block at some contents. -/
abbrev Any (c : Dev nD) {sh : Shape} {e : EltTy} (M : Memref sig .tc .vmem sh e) : sProp 𝕄 :=
  iprop(∃ f : Buf (Elt F) (M.view.loc (c : Thread nD τ)), (M.view.loc (c : Thread nD τ) ↦[M.view.set]{fullShare} f))

/-- A block owned at some value is a block at some contents. -/
theorem any_owns (c : Dev nD) {sh : Shape} {e : EltTy} (M : Memref sig .tc .vmem sh e) :
    iprop(∃ d, owns (c : Thread nD τ) M fullShare d) ⊢ (Any c M : sProp 𝕄) := by
  unfold owns; iintro ⟨%d, %f, -, H⟩; iexists f; iexact H

theorem owns_any (c : Dev nD) {sh : Shape} {e : EltTy} (M : Memref sig .tc .vmem sh e) :
    (Any c M : sProp 𝕄) ⊢ iprop(∃ d, owns (c : Thread nD τ) M fullShare d) := by
  unfold owns; iintro ⟨%f, H⟩; iexists _; iexists f; isplitr; swap; · iexact H
  ipureintro; rfl

/-- The four scratch buffers at any contents. -/
abbrev Scratch (c : Dev nD) : sProp 𝕄 :=
  iprop((∃ f : Buf (Elt F) (inM.view.loc (c : Thread nD τ)), (inM.view.loc (c : Thread nD τ) ↦{fullShare} f))
    ∗ (∃ f : Buf (Elt F) (outM.view.loc (c : Thread nD τ)), (outM.view.loc (c : Thread nD τ) ↦{fullShare} f))
    ∗ (∃ f : Buf (Elt F) (rowM.view.loc (c : Thread nD τ)), (rowM.view.loc (c : Thread nD τ) ↦{fullShare} f))
    ∗ (∃ f : Buf (Elt F) (winM.view.loc (c : Thread nD τ)), (winM.view.loc (c : Thread nD τ) ↦{fullShare} f)))

/-- The two semaphores at zero, the gathered array at `G`, and what the core owes. -/
abbrev Quiet (c : Dev nD) (G : Buf (Elt F) (hbM.view.loc (c : Thread nD τ))) : sProp 𝕄 :=
  iprop(semVal ((c : Thread nD τ), SemLoc.dma 28) 0 ∗ semVal ((c : Thread nD τ), SemLoc.dma 29) 0
    ∗ (hbM.view.loc (c : Thread nD τ) ↦{fullShare} G) ∗ (∃ W, owes (c : Thread nD τ) 0 W))

section Run

variable (c : Dev nD) (i : grid0.Coords)
  (arg1 : Memref sig .tc .vmem S512x1024 .f32) (harg1 : arg1.IsWhole) (arg2 : Memref sig .tc .vmem S512x1024 .f32) (harg2 : arg2.IsWhole)
  (arg3 : Memref sig .tc .vmem S512x1536 .f32) (harg3 : arg3.IsWhole) (arg4 : Memref sig .tc .vmem S512x512 .f32) (harg4 : arg4.IsWhole)
  (arg5 : Memref sig .tc .vmem S512x512 .bf16) (harg5 : arg5.IsWhole) (arg6 : Memref sig .tc .vmem S1x1024 .f32) (harg6 : arg6.IsWhole)
  (arg8 : Memref sig .tc .vmem S31x512 .f32) (harg8 : arg8.IsWhole) (arg9 : Memref sig .tc .vmem S1x512 .f32) (harg9 : arg9.IsWhole)
  (arg10 : Memref sig .tc .vmem S1x512 .f32) (harg10 : arg10.IsWhole) (arg11 : Memref sig .tc .vmem S4x128x128 .f32) (harg11 : arg11.IsWhole)
  (arg12 : Memref sig .tc .vmem S1x512 .f32) (harg12 : arg12.IsWhole) (arg13 : Memref sig .tc .vmem S8x128 .f32) (harg13 : arg13.IsWhole)
  (arg14 : Memref sig .tc .vmem S512x1024 .f32) (harg14 : arg14.IsWhole) (arg15 : Memref sig .tc .vmem S512x1536 .bf16) (harg15 : arg15.IsWhole)
  (arg16 : Memref sig .tc .vmem S1x1024 .f32) (harg16 : arg16.IsWhole) (arg17 : Memref sig .tc .vmem S31x512 .f32) (harg17 : arg17.IsWhole)
  (arg18 : Memref sig .tc .vmem S1x512 .f32) (harg18 : arg18.IsWhole) (arg19 : Memref sig .tc .vmem S1x512 .f32) (harg19 : arg19.IsWhole)
  (arg20 : Memref sig .tc .vmem S1x512 .f32) (harg20 : arg20.IsWhole) (arg21 : Memref sig .tc .vmem S4x128x128 .f32) (harg21 : arg21.IsWhole)
  (arg22 : Memref sig .tc .vmem S1x512 .f32) (harg22 : arg22.IsWhole)

/-- The blocks of a grid point, each at any contents. -/
abbrev Blocks : sProp 𝕄 :=
  iprop(Any c arg1 ∗ Any c arg2 ∗ Any c arg3 ∗ Any c arg4 ∗ Any c arg5 ∗ Any c arg6 ∗ Any c arg8 ∗ Any c arg9 ∗ Any c arg10 ∗ Any c arg11 ∗ Any c arg12
     ∗ Any c arg13 ∗ Any c arg14 ∗ Any c arg15 ∗ Any c arg16 ∗ Any c arg17 ∗ Any c arg18 ∗ Any c arg19 ∗ Any c arg20 ∗ Any c arg21 ∗ Any c arg22)

/-- The body's first part: it prepares the weights, the sums and the carried buffers, then reads. -/
abbrev start := k0_part7 (F := F) i arg1 harg1 arg2 harg2 arg3 harg3 arg4 harg4 arg5 harg5 arg6 harg6 hbM (Memref.isWhole_whole _) arg8 harg8 arg9 harg9 arg10 harg10 arg11 harg11 arg12 harg12 arg13 harg13 arg14 harg14 arg15 harg15 arg16 harg16 arg17 harg17 arg18 harg18 arg19 harg19 arg20 harg20 arg21 harg21 arg22 harg22 inM (Memref.isWhole_whole _) outM (Memref.isWhole_whole _) rowM (Memref.isWhole_whole _) winM (Memref.isWhole_whole _) cc0_scratch4

/-- The whole body. -/
abbrev body := cc0_bwd_mix (F := F) i arg1 harg1 arg2 harg2 arg3 harg3 arg4 harg4 arg5 harg5 arg6 harg6 hbM (Memref.isWhole_whole _) arg8 harg8 arg9 harg9 arg10 harg10 arg11 harg11 arg12 harg12 arg13 harg13 arg14 harg14 arg15 harg15 arg16 harg16 arg17 harg17 arg18 harg18 arg19 harg19 arg20 harg20 arg21 harg21 arg22 harg22 inM (Memref.isWhole_whole _) outM (Memref.isWhole_whole _) rowM (Memref.isWhole_whole _) winM (Memref.isWhole_whole _) cc0_scratch4

set_option maxHeartbeats 16000000 in
/-- The first part, at any grid point, from any contents. -/
theorem start_any (G : Buf (Elt F) (hbM.view.loc (c : Thread nD τ))) (K : _ → sProp 𝕄) :
    iprop(Blocks c arg1 arg2 arg3 arg4 arg5 arg6 arg8 arg9 arg10 arg11 arg12 arg13 arg14 arg15 arg16 arg17 arg18 arg19 arg20 arg21 arg22 ∗ Scratch c ∗ Quiet c G
        ∗ (∀ r, iprop(Blocks c arg1 arg2 arg3 arg4 arg5 arg6 arg8 arg9 arg10 arg11 arg12 arg13 arg14 arg15 arg16 arg17 arg18 arg19 arg20 arg21 arg22 ∗ Scratch c ∗ Quiet c G) -∗ K r))
      ⊢ wp frame (wpE (defs₀ (F := F)) Variants.none c none) Set.univ (start i arg1 harg1 arg2 harg2 arg3 harg3 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  have _planO : Transfers.BatchOf (c : Thread nD τ) (SemLoc.dma (sig := sig) 28) 8 (windows := true) := ⟨⟩
  have _planI : Transfers.BatchOf (c : Thread nD τ) (SemLoc.dma (sig := sig) 29) 8 (windows := true) := ⟨⟩
  unfold start; rw [k0_part7_eq_skeleton]; unfold k0_part7_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  by_cases hi : first i <;> by_cases hj : fresh i
  all_goals
    iintro ⟨⟨⟨%f1, H1⟩, ⟨%f2, H2⟩, ⟨%f3, H3⟩, ⟨%f4, H4⟩, ⟨%f5, H5⟩, ⟨%f6, H6⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩, ⟨⟨%fi, HI⟩, ⟨%fo, HO⟩, ⟨%fr, HR⟩, ⟨%fw, HN⟩⟩, ⟨Hs, Ht, Hh, ⟨%W, HW⟩⟩, Hk⟩
    sl_exec (disch := first | sl_exact hi | sl_exact hj)
    try sl_exec (disch := first | sl_exact hi | sl_exact hj)
    sl_step
    iapply Hk
    isplitl [H1 H2 H3 H4 H5 H6 H8 H9 H10 H11 H12 H13 H14 H15 H16 H17 H18 H19 H20 H21 H22]
    · isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      iexists _; iexact H22
    isplitl [HI HO HR HN]
    · isplitl [HI]; · iexists _; iexact HI
      isplitl [HO]; · iexists _; iexact HO
      isplitl [HR]; · iexists _; iexact HR
      iexists _; iexact HN
    isplitl [Hs]; · iexact Hs
    isplitl [Ht]; · iexact Ht
    isplitl [Hh]; · iexact Hh
    iexists _; iexact HW

set_option maxHeartbeats 16000000 in
/-- The body, at any grid point, from any contents. -/
theorem run_any (G : Buf (Elt F) (hbM.view.loc (c : Thread nD τ))) (K : PUnit → sProp 𝕄) :
    iprop(Blocks c arg1 arg2 arg3 arg4 arg5 arg6 arg8 arg9 arg10 arg11 arg12 arg13 arg14 arg15 arg16 arg17 arg18 arg19 arg20 arg21 arg22 ∗ Scratch c ∗ Quiet c G
        ∗ (iprop(Blocks c arg1 arg2 arg3 arg4 arg5 arg6 arg8 arg9 arg10 arg11 arg12 arg13 arg14 arg15 arg16 arg17 arg18 arg19 arg20 arg21 arg22 ∗ Scratch c ∗ Quiet c G) -∗ K ⟨⟩))
      ⊢ wp frame (wpE (defs₀ (F := F)) Variants.none c none) Set.univ (body i arg1 harg1 arg2 harg2 arg3 harg3 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  unfold body
  rw [cc0_bwd_mix_eq_skeleton]; unfold cc0_bwd_mix_skel
  rw [k0_part8_eq_skeleton, k0_part9_eq_skeleton, k0_part10_eq_skeleton, k0_part11_eq_skeleton, k0_part12_eq_skeleton, k0_part13_eq_skeleton
    , k0_part14_eq_skeleton, k0_part15_eq_skeleton, k0_part16_eq_skeleton, k0_part17_eq_skeleton, k0_part18_eq_skeleton, k0_part19_eq_skeleton
    , k0_part20_eq_skeleton, k0_part21_eq_skeleton, k0_part22_eq_skeleton, k0_part23_eq_skeleton, k0_part24_eq_skeleton, k0_part25_eq_skeleton
    , k0_part26_eq_skeleton, k0_part27_eq_skeleton, k0_part28_eq_skeleton]
  unfold k0_part8_skel k0_part9_skel k0_part10_skel k0_part11_skel k0_part12_skel k0_part13_skel k0_part14_skel k0_part15_skel k0_part16_skel
     k0_part17_skel k0_part18_skel k0_part19_skel k0_part20_skel k0_part21_skel k0_part22_skel k0_part23_skel k0_part24_skel k0_part25_skel
     k0_part26_skel k0_part27_skel k0_part28_skel
  rw [wp_bind]
  iintro ⟨HB, HC, HQ, Hk⟩
  iapply (start_any c i arg1 harg1 arg2 harg2 arg3 harg3 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg21 harg21 arg22 harg22 G _)
  isplitl [HB]; · iexact HB
  isplitl [HC]; · iexact HC
  isplitl [HQ]; · iexact HQ
  iintro %r ⟨⟨⟨%f1, H1⟩, ⟨%f2, H2⟩, ⟨%f3, H3⟩, ⟨%f4, H4⟩, ⟨%f5, H5⟩, ⟨%f6, H6⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩, ⟨⟨%fi, HI⟩, ⟨%fo, HO⟩, ⟨%fr, HR⟩, ⟨%fw, HN⟩⟩, ⟨Hs, Ht, Hh, ⟨%W, HW⟩⟩⟩
  sl_exec
  sl_step
  iapply Hk
  isplitl [H1 H2 H3 H4 H5 H6 H8 H9 H10 H11 H12 H13 H14 H15 H16 H17 H18 H19 H20 H21 H22]
  · isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22
  isplitl [HI HO HR HN]
  · isplitl [HI]; · iexists _; iexact HI
    isplitl [HO]; · iexists _; iexact HO
    isplitl [HR]; · iexists _; iexact HR
    iexists _; iexact HN
  isplitl [Hs]; · iexact Hs
  isplitl [Ht]; · iexact Ht
  isplitl [Hh]; · iexact Hh
  iexists _; iexact HW

/-- The blocks of a grid point, each owned at some value. -/
abbrev Held : sProp 𝕄 :=
  iprop((∃ d, owns (c : Thread nD τ) arg1 fullShare d) ∗ (∃ d, owns (c : Thread nD τ) arg2 fullShare d) ∗ (∃ d, owns (c : Thread nD τ) arg3 fullShare d)
     ∗ (∃ d, owns (c : Thread nD τ) arg4 fullShare d) ∗ (∃ d, owns (c : Thread nD τ) arg5 fullShare d)
     ∗ (∃ d, owns (c : Thread nD τ) arg6 fullShare d) ∗ (∃ d, owns (c : Thread nD τ) arg8 fullShare d)
     ∗ (∃ d, owns (c : Thread nD τ) arg9 fullShare d) ∗ (∃ d, owns (c : Thread nD τ) arg10 fullShare d)
     ∗ (∃ d, owns (c : Thread nD τ) arg11 fullShare d) ∗ (∃ d, owns (c : Thread nD τ) arg12 fullShare d)
     ∗ (∃ d, owns (c : Thread nD τ) arg13 fullShare d) ∗ (∃ d, owns (c : Thread nD τ) arg14 fullShare d)
     ∗ (∃ d, owns (c : Thread nD τ) arg15 fullShare d) ∗ (∃ d, owns (c : Thread nD τ) arg16 fullShare d)
     ∗ (∃ d, owns (c : Thread nD τ) arg17 fullShare d) ∗ (∃ d, owns (c : Thread nD τ) arg18 fullShare d)
     ∗ (∃ d, owns (c : Thread nD τ) arg19 fullShare d) ∗ (∃ d, owns (c : Thread nD τ) arg20 fullShare d)
     ∗ (∃ d, owns (c : Thread nD τ) arg21 fullShare d) ∗ (∃ d, owns (c : Thread nD τ) arg22 fullShare d))

theorem held_blocks : (Held c arg1 arg2 arg3 arg4 arg5 arg6 arg8 arg9 arg10 arg11 arg12 arg13 arg14 arg15 arg16 arg17 arg18 arg19 arg20 arg21 arg22 : sProp 𝕄) ⊢ (Blocks c arg1 arg2 arg3 arg4 arg5 arg6 arg8 arg9 arg10 arg11 arg12 arg13 arg14 arg15 arg16 arg17 arg18 arg19 arg20 arg21 arg22 : sProp 𝕄) :=
  BIClass.sep_mono (any_owns c arg1) <| BIClass.sep_mono (any_owns c arg2) <| BIClass.sep_mono (any_owns c arg3)
     <| BIClass.sep_mono (any_owns c arg4) <| BIClass.sep_mono (any_owns c arg5) <| BIClass.sep_mono (any_owns c arg6)
     <| BIClass.sep_mono (any_owns c arg8) <| BIClass.sep_mono (any_owns c arg9) <| BIClass.sep_mono (any_owns c arg10)
     <| BIClass.sep_mono (any_owns c arg11) <| BIClass.sep_mono (any_owns c arg12) <| BIClass.sep_mono (any_owns c arg13)
     <| BIClass.sep_mono (any_owns c arg14) <| BIClass.sep_mono (any_owns c arg15) <| BIClass.sep_mono (any_owns c arg16)
     <| BIClass.sep_mono (any_owns c arg17) <| BIClass.sep_mono (any_owns c arg18) <| BIClass.sep_mono (any_owns c arg19)
     <| BIClass.sep_mono (any_owns c arg20) <| BIClass.sep_mono (any_owns c arg21) <| any_owns c arg22

theorem blocks_held : (Blocks c arg1 arg2 arg3 arg4 arg5 arg6 arg8 arg9 arg10 arg11 arg12 arg13 arg14 arg15 arg16 arg17 arg18 arg19 arg20 arg21 arg22 : sProp 𝕄) ⊢ (Held c arg1 arg2 arg3 arg4 arg5 arg6 arg8 arg9 arg10 arg11 arg12 arg13 arg14 arg15 arg16 arg17 arg18 arg19 arg20 arg21 arg22 : sProp 𝕄) :=
  BIClass.sep_mono (owns_any c arg1) <| BIClass.sep_mono (owns_any c arg2) <| BIClass.sep_mono (owns_any c arg3)
     <| BIClass.sep_mono (owns_any c arg4) <| BIClass.sep_mono (owns_any c arg5) <| BIClass.sep_mono (owns_any c arg6)
     <| BIClass.sep_mono (owns_any c arg8) <| BIClass.sep_mono (owns_any c arg9) <| BIClass.sep_mono (owns_any c arg10)
     <| BIClass.sep_mono (owns_any c arg11) <| BIClass.sep_mono (owns_any c arg12) <| BIClass.sep_mono (owns_any c arg13)
     <| BIClass.sep_mono (owns_any c arg14) <| BIClass.sep_mono (owns_any c arg15) <| BIClass.sep_mono (owns_any c arg16)
     <| BIClass.sep_mono (owns_any c arg17) <| BIClass.sep_mono (owns_any c arg18) <| BIClass.sep_mono (owns_any c arg19)
     <| BIClass.sep_mono (owns_any c arg20) <| BIClass.sep_mono (owns_any c arg21) <| owns_any c arg22

/-- The body at any grid point, each block owned at some value before and after. -/
theorem run_held (G : Buf (Elt F) (hbM.view.loc (c : Thread nD τ))) (K : PUnit → sProp 𝕄) :
    iprop(Held c arg1 arg2 arg3 arg4 arg5 arg6 arg8 arg9 arg10 arg11 arg12 arg13 arg14 arg15 arg16 arg17 arg18 arg19 arg20 arg21 arg22 ∗ Scratch c ∗ Quiet c G
        ∗ (iprop(Held c arg1 arg2 arg3 arg4 arg5 arg6 arg8 arg9 arg10 arg11 arg12 arg13 arg14 arg15 arg16 arg17 arg18 arg19 arg20 arg21 arg22 ∗ Scratch c ∗ Quiet c G) -∗ K ⟨⟩))
      ⊢ wp frame (wpE (defs₀ (F := F)) Variants.none c none) Set.univ (body i arg1 harg1 arg2 harg2 arg3 harg3 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  refine (BIClass.sep_mono (held_blocks c arg1 arg2 arg3 arg4 arg5 arg6 arg8 arg9 arg10 arg11 arg12 arg13 arg14 arg15 arg16 arg17 arg18 arg19 arg20 arg21 arg22) (BIClass.sep_mono .rfl (BIClass.sep_mono .rfl ?_))).trans (run_any c i arg1 harg1 arg2 harg2 arg3 harg3 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg21 harg21 arg22 harg22 G K)
  exact wand_mono (BIClass.sep_mono (blocks_held c arg1 arg2 arg3 arg4 arg5 arg6 arg8 arg9 arg10 arg11 arg12 arg13 arg14 arg15 arg16 arg17 arg18 arg19 arg20 arg21 arg22) .rfl) .rfl

end Run

end Cert.Kernel5Ideal.Mix
-- ==== Proof.MixFrame.lean ====
/-
  The launch of the call that differentiates the sequence mixer, and its frame: the arguments end as they began and every
  semaphore at zero, whatever the body leaves in the results.
-/
module

public import proofs.«01_k».proof.Proof.MixBody

@[expose] public section

set_option maxRecDepth 16384

noncomputable section

namespace Cert.Kernel5Ideal.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host operations, then the region. -/
theorem host_then_region (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    ⟨hostOps0_sub, hostOps0_1_sub, hostOps0_2_sub, hostOps0_3_sub, hostOps0_4_sub, hostOps0_5_sub, hostOps0_6_sub, hostOps0_7_sub, hostOps0_8_sub⟩
    ⟨hostOps0_fresh, hostOps0_1_fresh, hostOps0_2_fresh, hostOps0_3_fresh, hostOps0_4_fresh, hostOps0_5_fresh, hostOps0_6_fresh, hostOps0_7_fresh, hostOps0_8_fresh⟩
    main_chain

/-- The body's two semaphores, and the array its transfers read. -/
abbrev osem0 : Fin 2 → SemLoc sig := ![SemLoc.dma 28, SemLoc.dma 29]
theorem ownSemFacts0 : Pipeline.OwnSemFacts spec0 osem0 := by decide
def H0 : Finset (Ref sig .tc) := {main_v6}
theorem H0_sub : H0 ⊆ Pipeline.restRefs sig spec0 := by decide

/-- Between grid points: the scratch buffers at any contents, the register, the two semaphores at zero, the gathered array. -/
theorem Phi_launch (c : Dev nD) : (Pipeline.ΦD osem0 spec0 H0 (V m) c : sProp 𝕄)
    = iprop(Scratch c ∗ (∃ r, prngReg c r) ∗ (semVal ((c : Thread nD τ), SemLoc.dma 28) 0 ∗ semVal ((c : Thread nD τ), SemLoc.dma 29) 0)
      ∗ (hbM.view.loc (c : Thread nD τ) ↦{fullShare} V m c main_v6)) := by
  rw [Pipeline.ΦD_eq, scopedRest0_eq, Pipeline.ownSems0_eq_of_list c osem0 [0, 1] (by decide) (by decide)]
  rw [BI.bigSep_eq_bigSepL_of_eq [main_v6] (by decide) (by decide)]; rfl

/-- The launch's proof data: nothing is said of what a block holds. -/
def dats (_ : Fin 1) (c : Dev nD) : Dat τ (Elt F) Unit ℕ (Pipeline.UD sig nD τ) ℕ cfg0 c where
  A w := V m c (Pipeline.arrRef spec0 w)
  after w t := Dat.unnamed w t
  Φ _ := Pipeline.ΦD osem0 spec0 H0 (V m) c
  q _ := fullShare
  owed _ := 0

/-- No window's contents are named. -/
abbrev fgt : Fin cfg0.W → Bool := fun _ => true

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)
abbrev ms11 (t : Fin cfg0.N) := win0_11.stage (cfg0.slots t 11)
abbrev ms12 (t : Fin cfg0.N) := win0_12.stage (cfg0.slots t 12)
abbrev ms13 (t : Fin cfg0.N) := win0_13.stage (cfg0.slots t 13)
abbrev ms14 (t : Fin cfg0.N) := win0_14.stage (cfg0.slots t 14)
abbrev ms15 (t : Fin cfg0.N) := win0_15.stage (cfg0.slots t 15)
abbrev ms16 (t : Fin cfg0.N) := win0_16.stage (cfg0.slots t 16)
abbrev ms17 (t : Fin cfg0.N) := win0_17.stage (cfg0.slots t 17)
abbrev ms18 (t : Fin cfg0.N) := win0_18.stage (cfg0.slots t 18)
abbrev ms19 (t : Fin cfg0.N) := win0_19.stage (cfg0.slots t 19)
abbrev ms20 (t : Fin cfg0.N) := win0_20.stage (cfg0.slots t 20)

/-- The staging blocks of a grid point, each at some value. -/
abbrev Staged (c : Dev nD) (t : Fin cfg0.N) : sProp 𝕄 :=
  Held c (ms0 t) (ms1 t) (ms2 t) (ms3 t) (ms4 t) (ms5 t) (ms6 t) (ms7 t) (ms8 t) (ms9 t) (ms10 t) (ms11 t) (ms12 t) (ms13 t) (ms14 t) (ms15 t) (ms16 t)
     (ms17 t) (ms18 t) (ms19 t) (ms20 t)

set_option maxHeartbeats 3200000 in
/-- The body at any grid point. -/
theorem sound_body (c : Dev nD) (t : Fin cfg0.N) :
    iprop((dats m 0 c).Φ t.castSucc ∗ (dats m 0 c).owesAt () t.castSucc ∗ Staged c t)
      ⊢ wp frame (wpE (defs₀ (F := F)) Variants.none c none) Set.univ (bodyAt0 t)
        (fun _ => iprop((dats m 0 c).Φ t.succ ∗ (dats m 0 c).owesAt () t.succ ∗ Staged c t)) := by
  rw [show (dats m 0 c).Φ t.castSucc = Pipeline.ΦD osem0 spec0 H0 (V m) c from rfl,
    show (dats m 0 c).Φ t.succ = Pipeline.ΦD osem0 spec0 H0 (V m) c from rfl, Phi_launch]
  unfold Dat.owesAt Pipeline.owesWithin
  rw [show (dats m 0 c).owed t.castSucc = 0 from rfl, show (dats m 0 c).owed t.succ = 0 from rfl]
  unfold bodyAt0
  iintro ⟨⟨HC, Hg, ⟨Hs, Ht⟩, Hh⟩, ⟨%W, -, HW⟩, HB⟩
  iapply (run_held c (grid0.coords t) (ms0 t) _ (ms1 t) _ (ms2 t) _ (ms3 t) _ (ms4 t) _ (ms5 t) _ (ms6 t) _ (ms7 t) _ (ms8 t) _ (ms9 t) _ (ms10 t) _ (ms11 t) _ (ms12 t) _ (ms13 t) _ (ms14 t) _ (ms15 t) _ (ms16 t) _ (ms17 t) _ (ms18 t) _ (ms19 t) _ (ms20 t) _ (V m c main_v6) _)
  isplitl [HB]; · iexact HB
  isplitl [HC]; · iexact HC
  isplitl [Hs Ht Hh HW]
  · isplitl [Hs]; · iexact Hs
    isplitl [Ht]; · iexact Ht
    isplitl [Hh]; · iexact Hh
    iexists W; iexact HW
  iintro ⟨HB, HC, Hs, Ht, Hh, ⟨%W', HW⟩⟩
  isplitl [HC Hg Hs Ht Hh]; · iframe
  isplitl [HW]
  · iexists W'; isplitr; · ipureintro; exact fun _ _ => Or.inl trivial
    iexact HW
  iexact HB

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  refine triple_restated (sound_body m c t) (by rw [defs₀_row]) ?_ fun _ => ?_
  · refine BIClass.sep_mono .rfl (BIClass.sep_mono .rfl ?_)
    rw [bigSep_W0]; exact .rfl
  · refine BIClass.sep_mono .rfl (BIClass.sep_mono .rfl ?_)
    rw [bigSep_W0]; exact .rfl

/-- The arrays of the launch as the region leaves them, and every other buffer as the region found it. -/
abbrev Post (r : PUnit × MemSt nD τ sig (Elt F)) : Prop :=
  RDat.FramePost cfg0 (fun c => (dats m 0 c).toRForget fgt) (V m) r

set_option maxHeartbeats 4000000 in
set_option backward.isDefEq.respectTransparency.types false in
/-- Every run ends with every buffer the launch does not write as the region found it, and every semaphore at zero. -/
theorem run_main : θ_run defs (onTc (τ := τ) (main (F := F))) (s₀ m ρ) (fun r => Post m r ∧ r.2.sem = fun _ => 0) :=
  Pipeline.θ_run_frame_dma_forget (Q' := _) cfgs (dats m) (0 : Fin 1) launch0 osem0 defs₀ Variants.none fgt ownSemFacts0 H0 H0_sub m ρ main
    (hbody := fun c => (body_obligation m c).loose) (hshare := fun c => (dats m 0 c).share_full fun _ => rfl)
    (howed := fun _ _ => rfl) (V := V m) (hmain := host_then_region m Variants.none) (hA := fun _ _ => rfl) (hin := fun _ => .rfl) (hout := fun _ => .rfl)

/-- A block the body only reads belongs to an array that ends as the region found it. -/
theorem input (r : PUnit × MemSt nD τ sig (Elt F)) (h : Post m r) (c : Dev nD) (w : Fin cfg0.W) (hw : (cfg0.win w).isOut = false)
    {X} (hX : V m c (Pipeline.arrRef spec0 w) = X) :
    r.2.mem ((cfg0.spec w).arr.view.loc (c.tc : Thread nD τ)) = X :=
  (congrFun (((dats m 0 c).toRForget fgt).ArrAt_in w hw _) _ ▸ (h c).1 w).trans hX

/-- The argument arrays are as they were at the start. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)

theorem kept (r : PUnit × MemSt nD τ sig (Elt F)) (h : Post m r) (c : Dev nD) : Kept m r c :=
  ⟨((h c).2 main_arg0 (Pipeline.mem_restRefs_of main_arg0 (by decide) (by decide))).trans (V_main_arg0 m c),
    input m r h c 5 rfl (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    input m r h c 7 rfl (V_main_arg5 m c),
    input m r h c 8 rfl (V_main_arg6 m c),
    ((h c).2 main_arg7 (Pipeline.mem_restRefs_of main_arg7 (by decide) (by decide))).trans (V_main_arg7 m c),
    input m r h c 10 rfl (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- The frame: the arguments end as they began, every semaphore at zero. -/
theorem frame : θ_run defs (onTc (τ := τ) (main (F := F))) ⟨m, fun _ => 0, ρ⟩
    (fun r => (∀ c : Dev nD, Kept m r c) ∧ r.2.sem = fun _ => 0) :=
  (θ_run defs _ _).mono (fun r h => ⟨kept m r h.1, h.2⟩) (run_main m ρ)

end Cert.Kernel5Ideal.Mix
-- ==== Proof.LookBody.lean ====
/-
  The forward call of the attention over the memory: its body at the first grid point, where it loads its two weights, and at any
  other one. No grid point carries anything to the next but the two weights.
-/
module

public import proofs.«01_k».proof.Proof.AttnBody
public import proofs.«01_k».proof.Proof.Gen.Kernel6Ideal.Frame
public import proofs.«01_k».proof.Proof.Gen.Kernel6Ideal.Skeleton

@[expose] public section

set_option maxRecDepth 16384

noncomputable section

namespace Cert.Kernel6Ideal.Look

open Cert.Kernel6Ideal Cert.Kernel6Ideal.Gen Cert.Gathered
open Cert.Kernel2Ideal.Attn (cols readAt_cols)
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The body's test: the grid coordinate is zero. -/
abbrev first (i : grid0.Coords) : Prop :=
  Scalar.cmpi .ne (Scalar.extui (Scalar.cmpi .eq (BitVec.ofNat 32 (i 0).val) 0#32) : BitVec 32) 0#32 = 1#1

/-- The gathered weights, and the scratch buffers of the query and the output projection. -/
abbrev hbM : Memref sig .tc .hbm S8x512x1024 .bf16 := Memref.whole main_v8
abbrev qM : Memref sig .tc .vmem S1024x1024 .bf16 := Memref.whole cc0_scratch0
abbrev oM : Memref sig .tc .vmem S1024x1024 .bf16 := Memref.whole cc0_scratch1

/-- The query and the output projection, as the gathered array holds them: device `d`'s 128 rows start at row 0 and at row 384
    of its slice. -/
def wqOf (g : Vec F S8x512x1024 .bf16) : Vec F S1024x1024 .bf16 := stack 1024 128 0 rfl (by decide) g
def woOf (g : Vec F S8x512x1024 .bf16) : Vec F S1024x1024 .bf16 := stack 1024 128 384 rfl (by decide) g

section Step

variable (x : Vec F S1024x1024 .f32) (kv : Vec F S256x2048 .bf16) (g : Vec F S1x1024 .f32) (wq wo : Vec F S1024x1024 .bf16)

/-- The normalised rows and the queries of one block of rows. -/
def hOf : FVec F S1024x1024 .bf16 := k0_pay4 x g
def qOf : FVec F S1024x1024 .bf16 := k0_pay5 x g wq

/-- The four heads' probabilities; the fourth head's are kept as exponentials and their row sums. -/
def p0 : FVec F S1024x256 .bf16 := k0_pay9 (k0_pay6 x g wq (cols 0 (by decide) kv))
def p1 : FVec F S1024x256 .bf16 := k0_pay10 (k0_pay7 x g wq) (k0_pay8 (cols 256 (by decide) kv)) (constant S1024x256 .f32 0x00000000#32)
def p2 : FVec F S1024x256 .bf16 := k0_pay11 (qOf x g wq) (cols 512 (by decide) kv)
def e3 : FVec F S1024x256 .f32 := k0_pay12 (qOf x g wq) (cols 768 (by decide) kv)
def z3 : FVec F S1024x1 .f32 := k0_pay13 (qOf x g wq) (cols 768 (by decide) kv)

/-- The heads' outputs side by side, and the residual sum. -/
def oOf : FVec F S1024x1024 .bf16 :=
  k0_pay1 (p0 x kv g wq) (p1 x kv g wq) (p2 x kv g wq) (e3 x kv g wq) (z3 x kv g wq)
    (cols 1024 (by decide) kv) (cols 1280 (by decide) kv) (cols 1536 (by decide) kv) (cols 1792 (by decide) kv)
def yOf : FVec F S1024x1024 .f32 :=
  k0_pay2 (k0_pay3 x) (p0 x kv g wq) (p1 x kv g wq) (p2 x kv g wq) (e3 x kv g wq) (z3 x kv g wq)
    (cols 1024 (by decide) kv) (cols 1280 (by decide) kv) (cols 1536 (by decide) kv) (cols 1792 (by decide) kv) wo

end Step

section Run

variable (c : Dev nD) (i : grid0.Coords)
  (arg1 : Memref sig .tc .vmem S1024x1024 .f32) (harg1 : arg1.IsWhole) (arg2 : Memref sig .tc .vmem S256x2048 .bf16) (harg2 : arg2.IsWhole)
  (arg3 : Memref sig .tc .vmem S1x1024 .f32) (harg3 : arg3.IsWhole) (arg5 : Memref sig .tc .vmem S1024x1024 .f32) (harg5 : arg5.IsWhole)
  (arg6 : Memref sig .tc .vmem S1024x1024 .bf16) (harg6 : arg6.IsWhole) (arg7 : Memref sig .tc .vmem S1024x1024 .bf16) (harg7 : arg7.IsWhole)
  (arg8 : Memref sig .tc .vmem S1024x1024 .bf16) (harg8 : arg8.IsWhole)
  (x : Vec F S1024x1024 .f32) (kv : Vec F S256x2048 .bf16) (g : Vec F S1x1024 .f32)

/-- The three blocks the body only reads. -/
abbrev Inputs : sProp 𝕄 :=
  iprop(owns (c : Thread nD τ) arg1 fullShare x ∗ owns (c : Thread nD τ) arg2 fullShare kv ∗ owns (c : Thread nD τ) arg3 fullShare g)

/-- The two weights. -/
abbrev Weights (wq wo : Vec F S1024x1024 .bf16) : sProp 𝕄 :=
  iprop(owns (c : Thread nD τ) qM fullShare wq ∗ owns (c : Thread nD τ) oM fullShare wo)

/-- A block at any contents. -/
abbrev Free {sh : Shape} {e : EltTy} (M : Memref sig .tc .vmem sh e) : sProp 𝕄 := iprop(∃ d, owns (c : Thread nD τ) M fullShare d)

/-- The body's first part: it prepares the weights, writes the normalised rows and the queries, and reads the first keys. -/
abbrev start := k0_part7 (F := F) i arg1 harg1 arg2 harg2 arg3 harg3 hbM (Memref.isWhole_whole _) arg5 harg5 arg6 harg6 arg7 harg7 arg8 harg8
  qM (Memref.isWhole_whole _) oM (Memref.isWhole_whole _) cc0_scratch2

/-- The whole body. -/
abbrev body := cc0_fwd_attn (F := F) i arg1 harg1 arg2 harg2 arg3 harg3 hbM (Memref.isWhole_whole _) arg5 harg5 arg6 harg6 arg7 harg7 arg8 harg8
  qM (Memref.isWhole_whole _) oM (Memref.isWhole_whole _) cc0_scratch2

/-- What the first part leaves, beside the weights. -/
abbrev Started (wq : Vec F S1024x1024 .bf16) : sProp 𝕄 :=
  iprop(Inputs c arg1 arg2 arg3 x kv g ∗ owns (c : Thread nD τ) arg6 fullShare (hOf x g) ∗ owns (c : Thread nD τ) arg7 fullShare (qOf x g wq))

set_option maxHeartbeats 1000000 in
/-- Whatever prepares the two weights, the rest of the body leaves the four results of this block of rows. -/
theorem run (wq wo : Vec F S1024x1024 .bf16) (P E : sProp 𝕄)
    (h : ∀ K, iprop(P ∗ (iprop(Started c arg1 arg2 arg3 arg6 arg7 x kv g wq ∗ Weights c wq wo ∗ E)
        -∗ K ⟨k0_pay3 x, qOf x g wq, k0_pay6 x g wq (cols 0 (by decide) kv), k0_pay7 x g wq, k0_pay8 (cols 256 (by decide) kv),
          constant S1024x256 .f32 0x00000000#32⟩))
      ⊢ wp frame (wpE (defs₀ (F := F)) Variants.none c none) Set.univ
          (start i arg1 harg1 arg2 harg2 arg3 harg3 arg5 harg5 arg6 harg6 arg7 harg7 arg8 harg8) K)
    (K : PUnit → sProp 𝕄) :
    iprop(P ∗ (Free c arg5 ∗ Free c arg8)
        ∗ (iprop(Started c arg1 arg2 arg3 arg6 arg7 x kv g wq
          ∗ owns (c : Thread nD τ) arg5 fullShare (yOf x kv g wq wo) ∗ owns (c : Thread nD τ) arg8 fullShare (oOf x kv g wq)
          ∗ Weights c wq wo ∗ E) -∗ K ⟨⟩))
      ⊢ wp frame (wpE (defs₀ (F := F)) Variants.none c none) Set.univ
          (body i arg1 harg1 arg2 harg2 arg3 harg3 arg5 harg5 arg6 harg6 arg7 harg7 arg8 harg8) K := by
  unfold body
  rw [cc0_fwd_attn_eq_skeleton]; unfold cc0_fwd_attn_skel
  rw [k0_part8_eq_skeleton]; unfold k0_part8_skel
  rw [wp_bind]
  iintro ⟨HP, ⟨H5, H8⟩, Hk⟩
  iapply (h _)
  isplitl [HP]; · iexact HP
  unfold Started Inputs Weights Free owns
  icases H5 with ⟨%d5, %f5, -, H5⟩
  icases H8 with ⟨%d8, %f8, -, H8⟩
  iintro ⟨⟨⟨H1, ⟨%f2, %hf2, H2⟩, H3⟩, HH⟩, ⟨HQ, ⟨%fo, %hfo, HO⟩⟩, HE⟩
  sl_exec
  sl_step
  have k2 := readAt_cols arg2.view f2 kv hf2
  have ko : ∀ h, View.readAt (Elt F) oM.view (Rect.unit ![0, 0] S1024x1024.size h).toLoadRect fo = wo := fun h => (View.readAt_full ..).trans hfo
  iapply Hk
  isplitl [H1 H2 H3 HH]
  · isplitr [HH]; swap; · iexact HH
    isplitl [H1]; · iexact H1
    isplitl [H2]; · iexists _; isplitr; swap; · iexact H2
                    ipureintro; exact hf2
    iexact H3
  isplitl [H5]
  · iexists _; isplitr; swap; · iexact H5
    ipureintro; rw [View.read_writes_full]; simp only [k2, ko]; rfl
  isplitl [H8]
  · iexists _; isplitr; swap; · iexact H8
    ipureintro; rw [View.read_writes_full]; simp only [k2]; rfl
  isplitr [HE]; swap; · iexact HE
  isplitl [HQ]; · iexact HQ
  iexists _; isplitr; swap; · iexact HO
  ipureintro; exact hfo

/-- At any grid point but the first the first part finds the weights. -/
theorem start_later (hi : ¬first i) (wq wo : Vec F S1024x1024 .bf16) (K : _ → sProp 𝕄) :
    iprop(iprop((Inputs c arg1 arg2 arg3 x kv g ∗ Free c arg6 ∗ Free c arg7) ∗ Weights c wq wo)
        ∗ (iprop(Started c arg1 arg2 arg3 arg6 arg7 x kv g wq ∗ Weights c wq wo ∗ emp)
        -∗ K ⟨k0_pay3 x, qOf x g wq, k0_pay6 x g wq (cols 0 (by decide) kv), k0_pay7 x g wq, k0_pay8 (cols 256 (by decide) kv),
          constant S1024x256 .f32 0x00000000#32⟩))
      ⊢ wp frame (wpE (defs₀ (F := F)) Variants.none c none) Set.univ
          (start i arg1 harg1 arg2 harg2 arg3 harg3 arg5 harg5 arg6 harg6 arg7 harg7 arg8 harg8) K := by
  unfold start qOf; rw [k0_part7_eq_skeleton]; unfold k0_part7_skel Started Inputs Weights Free owns
  iintro ⟨⟨⟨⟨⟨%f1, %hf1, H1⟩, ⟨%f2, %hf2, H2⟩, ⟨%f3, %hf3, H3⟩⟩, ⟨%d6, %f6, -, H6⟩, ⟨%d7, %f7, -, H7⟩⟩, ⟨⟨%fq, %hfq, HQ⟩, HO⟩⟩, Hk⟩
  sl_exec (disch := sl_exact hi)
  sl_step
  have k1 : ∀ h, View.readAt (Elt F) arg1.view (Rect.unit ![0, 0] S1024x1024.size h).toLoadRect f1 = x := fun h => (View.readAt_full ..).trans hf1
  have k2 := readAt_cols arg2.view f2 kv hf2
  have k3 : ∀ h, View.readAt (Elt F) arg3.view (Rect.unit ![0, 0] S1x1024.size h).toLoadRect f3 = g := fun h => (View.readAt_full ..).trans hf3
  have kq : ∀ h, View.readAt (Elt F) qM.view (Rect.unit ![0, 0] S1024x1024.size h).toLoadRect fq = wq := fun h => (View.readAt_full ..).trans hfq
  simp only [k1, k2, k3, kq]
  unfold start_later.sl.cst_18
  iapply Hk
  isplitl [H1 H2 H3 H6 H7]
  · isplitl [H1 H2 H3]
    · isplitl [H1]; · iexists _; isplitr; swap; · iexact H1
                      ipureintro; exact hf1
      isplitl [H2]; · iexists _; isplitr; swap; · iexact H2
                      ipureintro; exact hf2
      iexists _; isplitr; swap; · iexact H3
      ipureintro; exact hf3
    isplitl [H6]
    · iexists _; isplitr; swap; · iexact H6
      ipureintro; rw [View.read_writes_full]; rfl
    iexists _; isplitr; swap; · iexact H7
    ipureintro; rw [View.read_writes_full]; rfl
  isplitl
  · isplitl [HQ]; · iexists _; isplitr; swap; · iexact HQ
                    ipureintro; exact hfq
    iexact HO
  iempintro

/-- What the first grid point leaves beside the two weights: the two semaphores, the gathered array, and what the core owes. -/
abbrev Quiet (G : Buf (Elt F) (hbM.view.loc (c : Thread nD τ))) : sProp 𝕄 :=
  iprop(semVal ((c : Thread nD τ), SemLoc.dma 13) 0 ∗ semVal ((c : Thread nD τ), SemLoc.dma 14) 0
    ∗ (hbM.view.loc (c : Thread nD τ) ↦{fullShare} G) ∗ (∃ W, owes (c : Thread nD τ) 0 W))

/-- The two scratch buffers at any contents. -/
abbrev Scratch : sProp 𝕄 :=
  iprop((∃ f : Buf (Elt F) (qM.view.loc (c : Thread nD τ)), (qM.view.loc (c : Thread nD τ) ↦{fullShare} f))
    ∗ (∃ f : Buf (Elt F) (oM.view.loc (c : Thread nD τ)), (oM.view.loc (c : Thread nD τ) ↦{fullShare} f)))

set_option maxHeartbeats 8000000 in
/-- At the first grid point the first part loads the two weights. -/
theorem start_first (hi : first i) (G : Buf (Elt F) (hbM.view.loc (c : Thread nD τ))) (K : _ → sProp 𝕄) :
    iprop(iprop((Inputs c arg1 arg2 arg3 x kv g ∗ Free c arg6 ∗ Free c arg7) ∗ Scratch c ∗ Quiet c G)
        ∗ (iprop(Started c arg1 arg2 arg3 arg6 arg7 x kv g (wqOf (hbM.view.read (Elt F) G))
            ∗ Weights c (wqOf (hbM.view.read (Elt F) G)) (woOf (hbM.view.read (Elt F) G)) ∗ Quiet c G)
        -∗ K ⟨k0_pay3 x, qOf x g (wqOf (hbM.view.read (Elt F) G)), k0_pay6 x g (wqOf (hbM.view.read (Elt F) G)) (cols 0 (by decide) kv),
          k0_pay7 x g (wqOf (hbM.view.read (Elt F) G)), k0_pay8 (cols 256 (by decide) kv), constant S1024x256 .f32 0x00000000#32⟩))
      ⊢ wp frame (wpE (defs₀ (F := F)) Variants.none c none) Set.univ
          (start i arg1 harg1 arg2 harg2 arg3 harg3 arg5 harg5 arg6 harg6 arg7 harg7 arg8 harg8) K := by
  have _planQ : Transfers.BatchOf (c : Thread nD τ) (SemLoc.dma (sig := sig) 13) 8 (windows := true) := ⟨⟩
  have _planO : Transfers.BatchOf (c : Thread nD τ) (SemLoc.dma (sig := sig) 14) 8 (windows := true) := ⟨⟩
  unfold start qOf; rw [k0_part7_eq_skeleton]; unfold k0_part7_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel Started Inputs Weights Quiet Scratch Free owns
  iintro ⟨⟨⟨⟨⟨%f1, %hf1, H1⟩, ⟨%f2, %hf2, H2⟩, ⟨%f3, %hf3, H3⟩⟩, ⟨%d6, %f6, -, H6⟩, ⟨%d7, %f7, -, H7⟩⟩, ⟨⟨%fq, HQ⟩, ⟨%fo, HO⟩⟩, Hs, Ht, Hh, ⟨%W, HW⟩⟩, Hk⟩
  sl_exec (disch := sl_exact hi)
  try sl_exec (disch := sl_exact hi)
  sl_step
  have k1 : ∀ h, View.readAt (Elt F) arg1.view (Rect.unit ![0, 0] S1024x1024.size h).toLoadRect f1 = x := fun h => (View.readAt_full ..).trans hf1
  have k2 := readAt_cols arg2.view f2 kv hf2
  have k3 : ∀ h, View.readAt (Elt F) arg3.view (Rect.unit ![0, 0] S1x1024.size h).toLoadRect f3 = g := fun h => (View.readAt_full ..).trans hf3
  -- what the first row of eight transfers leaves in its scratch buffer, as the body reads it
  have kq : start_first.sl.v20 c G = wqOf (hbM.view.read (Elt F) G) := by
    unfold start_first.sl.v20; refine (View.readAt_full ..).trans ?_
    exact loaded (T := 1024) (R := 128) (off := 0) rfl (by decide) (by decide) hbM G _ _ _ rfl fun d hd => by interval_cases d <;> exact ⟨_, _, _, _, rfl⟩
  simp only [k1, k2, k3, kq]
  unfold start_first.sl.cst_18
  iapply Hk
  isplitl [H1 H2 H3 H6 H7]
  · isplitl [H1 H2 H3]
    · isplitl [H1]; · iexists _; isplitr; swap; · iexact H1
                      ipureintro; exact hf1
      isplitl [H2]; · iexists _; isplitr; swap; · iexact H2
                      ipureintro; exact hf2
      iexists _; isplitr; swap; · iexact H3
      ipureintro; exact hf3
    isplitl [H6]
    · iexists _; isplitr; swap; · iexact H6
      ipureintro; rw [View.read_writes_full]; rfl
    iexists _; isplitr; swap; · iexact H7
    ipureintro; rw [View.read_writes_full]; rfl
  isplitl [HQ HO]
  · isplitl [HQ]
    · iexists _; isplitr; swap; · rw [(Memref.isWhole_whole cc0_scratch0).set_eq_univ]; iexact HQ
      ipureintro
      refine loaded (T := 1024) (R := 128) (off := 0) rfl (by decide) (by decide) hbM G qM.view fq _ ?_ fun d hd => ?_
      · rfl
      · interval_cases d <;> exact ⟨_, _, _, _, rfl⟩
    iexists _; isplitr; swap; · rw [(Memref.isWhole_whole cc0_scratch1).set_eq_univ]; iexact HO
    ipureintro
    refine loaded (T := 1024) (R := 128) (off := 384) rfl (by decide) (by decide) hbM G oM.view fo _ ?_ fun d hd => ?_
    · rfl
    · interval_cases d <;> exact ⟨_, _, _, _, rfl⟩
  isplitl [Hs]; · iexact Hs
  isplitl [Ht]; · iexact Ht
  isplitl [Hh]; · iexact Hh
  iexists _; iexact HW

end Run

end Cert.Kernel6Ideal.Look
-- ==== Proof.LookFrame.lean ====
/-
  The launch of the attention's forward call: what the two weights' scratch buffers hold between grid points, and the frame.
-/
module

public import proofs.«01_k».proof.Proof.LookBody

@[expose] public section

set_option maxRecDepth 16384

noncomputable section

namespace Cert.Kernel6Ideal.Look

open Cert.Kernel6Ideal Cert.Kernel6Ideal.Gen Cert.Gathered
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host operations, then the region. -/
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's test is true at the first grid point only. -/
theorem first_iff (t : Fin cfg0.N) : first (grid0.coords t) ↔ t.val = 0 := by
  have ht : t.val < 4 := Nat.lt_of_lt_of_eq t.isLt N_0
  have e0 : (grid0.coords t 0).val = t.val / 1 % 4 := Pipeline.Grid.coords_val t 0 (by decide) rfl
  have e1 : (grid0.coords t 0).val = t.val := by omega
  have : ∀ n : Fin 4, (Scalar.cmpi .ne (Scalar.extui (Scalar.cmpi .eq (BitVec.ofNat 32 n.val) 0#32) : BitVec 32) 0#32 = 1#1) ↔ n.val = 0 := by
    decide
  unfold first; rw [e1]; exact this ⟨t.val, ht⟩

/-- The two weights as the region finds them in the gathered array. -/
def wqAt (c : Dev nD) : Vec F S1024x1024 .bf16 := wqOf (hbM.view.read (Elt F) (V m c main_v8))
def woAt (c : Dev nD) : Vec F S1024x1024 .bf16 := woOf (hbM.view.read (Elt F) (V m c main_v8))

/-! ## Between grid points -/

/-- The body's two semaphores, and the array its transfers read. -/
abbrev osem0 : Fin 2 → SemLoc sig := ![SemLoc.dma 13, SemLoc.dma 14]
theorem ownSemFacts0 : Pipeline.OwnSemFacts spec0 osem0 := by decide
def H0 : Finset (Ref sig .tc) := {main_v8}
theorem H0_sub : H0 ⊆ Pipeline.restRefs sig spec0 := by decide

/-- What stays as it is: the generator's register, the two semaphores at zero, and the gathered array. -/
abbrev Rest (c : Dev nD) : sProp 𝕄 :=
  iprop((∃ r, prngReg c r) ∗ (semVal ((c : Thread nD τ), SemLoc.dma 13) 0 ∗ semVal ((c : Thread nD τ), SemLoc.dma 14) 0)
    ∗ (hbM.view.loc (c : Thread nD τ) ↦{fullShare} V m c main_v8))

/-- What the launch hands the region. -/
theorem Phi_launch (c : Dev nD) : (Pipeline.ΦD osem0 spec0 H0 (V m) c : sProp 𝕄) = iprop(Scratch c ∗ Rest m c) := by
  rw [Pipeline.ΦD_eq, scopedRest0_eq, Pipeline.ownSems0_eq_of_list c osem0 [0, 1] (by decide) (by decide)]
  rw [BI.bigSep_eq_bigSepL_of_eq [main_v8] (by decide) (by decide)]; rfl

/-- Before the first grid point the scratch buffers hold anything, afterwards the weights. -/
def Phi (c : Dev nD) : ℕ → sProp 𝕄
  | 0 => Pipeline.ΦD osem0 spec0 H0 (V m) c
  | _ + 1 => iprop(Weights c (wqAt m c) (woAt m c) ∗ Rest m c)

theorem Phi_zero (c : Dev nD) (n : ℕ) (h : n = 0) : Phi m c n = iprop(Scratch c ∗ Rest m c) := by subst h; exact Phi_launch m c

theorem Phi_pos (c : Dev nD) (n : ℕ) (h : n ≠ 0) : Phi m c n = iprop(Weights c (wqAt m c) (woAt m c) ∗ Rest m c) := by
  cases n with | zero => exact absurd rfl h | succ n => rfl

/-- The launch's proof data: the inputs stay as fetched, the results' blocks are those of this block of rows. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yOf (iblk m c 0 t) (iblk m c 1 t) (iblk m c 2 t) (wqAt m c) (woAt m c)
    | ⟨4, _⟩ => hOf (iblk m c 0 t) (iblk m c 2 t)
    | ⟨5, _⟩ => qOf (iblk m c 0 t) (iblk m c 2 t) (wqAt m c)
    | ⟨6, _⟩ => oOf (iblk m c 0 t) (iblk m c 1 t) (iblk m c 2 t) (wqAt m c)
  Φ t := Phi m c t.val
  q _ := fullShare
  owed _ := 0

theorem A_eq (c : Dev nD) (w : Fin cfg0.W) : (dats m 0 c).A w = V m c (Pipeline.arrRef spec0 w) := by dsimp only [dats]

/-- The block an input window brings at a grid point is a block of the array the region found. -/
theorem fetched_eq (c : Dev nD) (w : Fin cfg0.W) (t : Fin cfg0.N) : (dats m 0 c).blockOf w t = iblk m c w t := by
  unfold Dat.blockOf iblk; rw [A_eq]; try rfl

theorem before0 (c : Dev nD) (t : Fin cfg0.N) (d) : (dats m 0 c).before 0 t d = iblk m c 0 t :=
  ((dats m 0 c).before_in_eq_fetched 0 rfl (fun _ => rfl) (fun _ _ _ => rfl)
    (fun t => by rw [fetched_eq]; dsimp only [dats]) t d).trans (by unfold Dat.fetched; rw [fetched_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [fetched_eq]; dsimp only [dats]) t d).trans (by unfold Dat.fetched; rw [fetched_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [fetched_eq]; dsimp only [dats]) t d).trans (by unfold Dat.fetched; rw [fetched_eq]; try rfl)

/-! ## The body at a grid point -/

/-- The staging block of a window at a grid point. -/
abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d))
    ∗ (∃ d, owns (c : Thread nD τ) (ms2 t) fullShare ((dats m 0 c).before 2 t d)) ∗ (∃ d, owns (c : Thread nD τ) (ms3 t) fullShare ((dats m 0 c).before 3 t d))
    ∗ (∃ d, owns (c : Thread nD τ) (ms4 t) fullShare ((dats m 0 c).before 4 t d)) ∗ (∃ d, owns (c : Thread nD τ) (ms5 t) fullShare ((dats m 0 c).before 5 t d))
    ∗ (∃ d, owns (c : Thread nD τ) (ms6 t) fullShare ((dats m 0 c).before 6 t d)))

def blocksAfter (c : Dev nD) (t : Fin cfg0.N) : sProp 𝕄 :=
  iprop(owns (c : Thread nD τ) (ms0 t) fullShare ((dats m 0 c).after 0 t) ∗ owns (c : Thread nD τ) (ms1 t) fullShare ((dats m 0 c).after 1 t)
    ∗ owns (c : Thread nD τ) (ms2 t) fullShare ((dats m 0 c).after 2 t) ∗ owns (c : Thread nD τ) (ms3 t) fullShare ((dats m 0 c).after 3 t)
    ∗ owns (c : Thread nD τ) (ms4 t) fullShare ((dats m 0 c).after 4 t) ∗ owns (c : Thread nD τ) (ms5 t) fullShare ((dats m 0 c).after 5 t)
    ∗ owns (c : Thread nD τ) (ms6 t) fullShare ((dats m 0 c).after 6 t))

def bodyPost (c : Dev nD) (t : Fin cfg0.N) : sProp 𝕄 :=
  iprop((dats m 0 c).Φ t.succ ∗ (dats m 0 c).owesAt () t.succ ∗ blocksAfter m c t)

/-- What the body's run leaves in the seven blocks is what the proof data say. -/
theorem results (c : Dev nD) (t : Fin cfg0.N) :
    iprop(owns (c : Thread nD τ) (ms0 t) fullShare (iblk m c 0 t) ∗ owns (c : Thread nD τ) (ms1 t) fullShare (iblk m c 1 t)
      ∗ owns (c : Thread nD τ) (ms2 t) fullShare (iblk m c 2 t)
      ∗ owns (c : Thread nD τ) (ms3 t) fullShare (yOf (iblk m c 0 t) (iblk m c 1 t) (iblk m c 2 t) (wqAt m c) (woAt m c))
      ∗ owns (c : Thread nD τ) (ms4 t) fullShare (hOf (iblk m c 0 t) (iblk m c 2 t))
      ∗ owns (c : Thread nD τ) (ms5 t) fullShare (qOf (iblk m c 0 t) (iblk m c 2 t) (wqAt m c))
      ∗ owns (c : Thread nD τ) (ms6 t) fullShare (oOf (iblk m c 0 t) (iblk m c 1 t) (iblk m c 2 t) (wqAt m c)))
    ⊢ (blocksAfter m c t : sProp 𝕄) := by
  unfold blocksAfter; dsimp only [dats]; exact .rfl

set_option maxHeartbeats 3200000 in
/-- The body at any grid point: the first point loads the weights, the later ones find them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.castSucc = Phi m c t.val from rfl,
    show (dats m 0 c).Φ t.succ = Phi m c (t.val + 1) from rfl, Phi_pos m c (t.val + 1) (Nat.succ_ne_zero _)]
  unfold Dat.owesAt Pipeline.owesWithin
  rw [show (dats m 0 c).owed t.castSucc = 0 from rfl, show (dats m 0 c).owed t.succ = 0 from rfl]
  by_cases hz : t.val = 0
  · rw [Phi_zero m c _ hz]
    iintro ⟨⟨HS, Hg, ⟨Hs, Ht⟩, Hh⟩, ⟨%W, -, HW⟩, ⟨%d0, H0⟩, ⟨%d1, H1⟩, ⟨%d2, H2⟩, H3, H4, H5, H6⟩
    iapply (run c (grid0.coords t) (ms0 t) _ (ms1 t) _ (ms2 t) _ (ms3 t) _ (ms4 t) _ (ms5 t) _ (ms6 t) _ (iblk m c 0 t) (iblk m c 1 t) (iblk m c 2 t) (wqAt m c) (woAt m c) _ _
      (start_first c (grid0.coords t) (ms0 t) _ (ms1 t) _ (ms2 t) _ (ms3 t) _ (ms4 t) _ (ms5 t) _ (ms6 t) _ (iblk m c 0 t) (iblk m c 1 t) (iblk m c 2 t) ((first_iff t).mpr hz) (V m c main_v8)) _)
    isplitl [H0 H1 H2 H4 H5 HS Hs Ht Hh HW]
    · isplitl [H0 H1 H2 H4 H5]
      · isplitl [H0 H1 H2]
        · isplitl [H0]; · iexact H0
          isplitl [H1]; · iexact H1
          iexact H2
        isplitl [H4]; · icases H4 with ⟨%d, H4⟩; iexists _; iexact H4
        icases H5 with ⟨%d, H5⟩; iexists _; iexact H5
      isplitl [HS]; · iexact HS
      isplitl [Hs]; · iexact Hs
      isplitl [Ht]; · iexact Ht
      isplitl [Hh]; · iexact Hh
      iexists W; iexact HW
    isplitl [H3 H6]
    · isplitl [H3]; · icases H3 with ⟨%d, H3⟩; iexists _; iexact H3
      icases H6 with ⟨%d, H6⟩; iexists _; iexact H6
    iintro ⟨⟨⟨H0, H1, H2⟩, H4, H5⟩, H3, H6, HN, ⟨Hs, Ht, Hh, ⟨%W', HW⟩⟩⟩
    isplitl [HN Hg Hs Ht Hh]
    · isplitl [HN]; · iexact HN
      isplitl [Hg]; · iexact Hg
      isplitl [Hs Ht]
      · isplitl [Hs]; · iexact Hs
        iexact Ht
      iexact Hh
    isplitl [HW]
    · iexists W'; isplitr; · ipureintro; exact fun _ _ => Or.inl trivial
      iexact HW
    iapply (results m c t)
    isplitl [H0]; · iexact H0
    isplitl [H1]; · iexact H1
    isplitl [H2]; · iexact H2
    isplitl [H3]; · iexact H3
    isplitl [H4]; · iexact H4
    isplitl [H5]; · iexact H5
    iexact H6
  · rw [Phi_pos m c _ hz]
    iintro ⟨⟨HN, HR⟩, HW, ⟨%d0, H0⟩, ⟨%d1, H1⟩, ⟨%d2, H2⟩, H3, H4, H5, H6⟩
    iapply (run c (grid0.coords t) (ms0 t) _ (ms1 t) _ (ms2 t) _ (ms3 t) _ (ms4 t) _ (ms5 t) _ (ms6 t) _ (iblk m c 0 t) (iblk m c 1 t) (iblk m c 2 t) (wqAt m c) (woAt m c) _ _
      (start_later c (grid0.coords t) (ms0 t) _ (ms1 t) _ (ms2 t) _ (ms3 t) _ (ms4 t) _ (ms5 t) _ (ms6 t) _ (iblk m c 0 t) (iblk m c 1 t) (iblk m c 2 t) (fun h => hz ((first_iff t).mp h)) (wqAt m c) (woAt m c)) _)
    isplitl [H0 H1 H2 H4 H5 HN]
    · isplitl [H0 H1 H2 H4 H5]
      · isplitl [H0 H1 H2]
        · isplitl [H0]; · iexact H0
          isplitl [H1]; · iexact H1
          iexact H2
        isplitl [H4]; · icases H4 with ⟨%d, H4⟩; iexists _; iexact H4
        icases H5 with ⟨%d, H5⟩; iexists _; iexact H5
      iexact HN
    isplitl [H3 H6]
    · isplitl [H3]; · icases H3 with ⟨%d, H3⟩; iexists _; iexact H3
      icases H6 with ⟨%d, H6⟩; iexists _; iexact H6
    iintro ⟨⟨⟨H0, H1, H2⟩, H4, H5⟩, H3, H6, HN, -⟩
    isplitl [HN HR]
    · isplitl [HN]; · iexact HN
      iexact HR
    isplitl [HW]; · iexact HW
    iapply (results m c t)
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦD osem0 spec0 H0 (V m) c ⊢ (dats m 0 c).Φ 0 := .rfl

theorem hout (c : Dev nD) : (dats m 0 c).Φ (Fin.last cfg0.N) ⊢ Pipeline.ΦD osem0 spec0 H0 (V m) c := by
  rw [show (dats m 0 c).Φ (Fin.last cfg0.N) = Phi m c cfg0.N from rfl, Phi_pos m c cfg0.N (by rw [show cfg0.N = 4 from N_0]; decide), Phi_launch]
  unfold Weights Scratch owns
  iintro ⟨⟨⟨%f, -, HQ⟩, ⟨%f', -, HO⟩⟩, Hg⟩
  isplitl [HQ HO]
  · isplitl [HQ]
    · iexists f; rw [(Memref.isWhole_whole cc0_scratch0).set_eq_univ]; iexact HQ
    iexists f'; rw [(Memref.isWhole_whole cc0_scratch1).set_eq_univ]; iexact HO
  iexact Hg

set_option backward.isDefEq.respectTransparency.types false in
/-- Every run ends with each array of the launch at the contents the proof data give, every other buffer as the region
    found it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Argument `a` is as it was at the start. -/
abbrev Same (r : PUnit × MemSt nD τ sig (Elt F)) (c : Dev nD) (a : Ref sig .tc) : Prop :=
  r.2.mem ((c.tc : Thread nD τ).loc a) = m ((c.tc : Thread nD τ).loc a)

/-- The argument arrays are as they were at the start. -/
abbrev Kept (r : PUnit × MemSt nD τ sig (Elt F)) (c : Dev nD) : Prop :=
  Same m r c main_arg0 ∧ Same m r c main_arg1 ∧ Same m r c main_arg2 ∧ Same m r c main_arg3 ∧ Same m r c main_arg4
    ∧ Same m r c main_arg5 ∧ Same m r c main_arg6

theorem kept (r : PUnit × MemSt nD τ sig (Elt F)) (h : Pipeline.FramePost cfgs (dats m) 0 (V m) r) (c : Dev nD) : Kept m r c :=
  have rest (a : Ref sig .tc) (ha : a ∈ Pipeline.restRefs sig spec0) (hV : V m c a = m ((c.tc : Thread nD τ).loc a)) : Same m r c a :=
    ((h c).2 a ha).trans hV
  ⟨rest main_arg0 (Pipeline.mem_restRefs_of main_arg0 (by decide) (by decide)) (V_main_arg0 m c),
    rest main_arg1 (Pipeline.mem_restRefs_of main_arg1 (by decide) (by decide)) (V_main_arg1 m c),
    ((h c).1 2).trans (((dats m 0 c).arrAt_in 2 rfl _).trans ((A_eq m c 2).trans (V_main_arg2 m c))),
    rest main_arg3 (Pipeline.mem_restRefs_of main_arg3 (by decide) (by decide)) (V_main_arg3 m c),
    rest main_arg4 (Pipeline.mem_restRefs_of main_arg4 (by decide) (by decide)) (V_main_arg4 m c),
    rest main_arg5 (Pipeline.mem_restRefs_of main_arg5 (by decide) (by decide)) (V_main_arg5 m c),
    rest main_arg6 (Pipeline.mem_restRefs_of main_arg6 (by decide) (by decide)) (V_main_arg6 m c)⟩

/-- The frame: the arguments end as they began, every semaphore at zero. -/
theorem frame : θ_run defs (onTc (τ := τ) (main (F := F))) ⟨m, fun _ => 0, ρ⟩
    (fun r => (∀ c : Dev nD, Kept m r c) ∧ r.2.sem = fun _ => 0) :=
  (θ_run defs _ _).mono (fun r h => ⟨kept m r h.1, h.2⟩) (run_main m ρ)

end Cert.Kernel6Ideal.Look
-- ==== Proof.LookArrays.lean ====
/-
  The arrays of the attention's forward call: what its result arrays end holding in terms of the blocks, and what the host's
  lines before the call hand it.
-/
module

public import proofs.«01_k».proof.Proof.LookFrame
public import proofs.«01_k».proof.Proof.Blocks
public import proofs.«01_k».proof.Proof.Gen.Reference6Ideal.Read
public import Idealize.ShloMosaic.Lib.Pipeline.Value
public import Idealize.ShloMosaic.Lib.Pointwise

@[expose] public section

set_option maxRecDepth 16384

noncomputable section

namespace Cert.Kernel6Ideal.Look

open Cert.Kernel6Ideal Cert.Kernel6Ideal.Gen Cert.Gathered Cert.Blocks
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (c : Dev nD)

/-- Grid point `n`. -/
def pt (n : ℕ) (h : n < 4) : Fin cfg0.N := ⟨n, lt_of_lt_of_eq h N_0.symm⟩

/-- Which block each window has at a grid point: its own of the rows, one of the memory to every second point, the whole weight. -/
theorem blocks : ∀ t : Fin cfg0.N, At (win0_0.index t) t.val ∧ At (win0_1.index t) (t.val / 2) ∧ At (win0_2.index t) 0 ∧ At (win0_3.index t) t.val
    ∧ At (win0_4.index t) t.val ∧ At (win0_5.index t) t.val ∧ At (win0_6.index t) t.val :=
  (by decide +kernel : ∀ t : Fin grid0.N, _)

theorem iblk0_apply (t : Fin cfg0.N) (r k : Fin 1024) (R : Fin 4096) (hR : R.val = t.val * 1024 + r.val) :
    iblk m c 0 t (ix2 r k) = V m c main_v26 (ix2 R k) := congrArg (V m c main_v26) (entry (blocks t).1 hR rfl rfl rfl)
theorem iblk1_apply (t : Fin cfg0.N) (j : Fin 256) (l : Fin 2048) (R : Fin 512) (hR : R.val = t.val / 2 * 256 + j.val) :
    iblk m c 1 t (ix2 j l) = V m c main_v27 (ix2 R l) := congrArg (V m c main_v27) (entry (blocks t).2.1 hR rfl rfl rfl)
theorem iblk2_apply (t : Fin cfg0.N) (k : Fin 1024) :
    iblk m c 2 t (ix2 0 k) = (m ((c : Thread nD τ).loc main_arg2) : Vec F S1x1024 .f32) (ix2 0 k) :=
  (congrArg (V m c main_arg2) (same (blocks t).2.2.1 rfl rfl)).trans (congrFun (V_main_arg2 m c) _)

/-! ## What the result arrays end holding -/

/-- The point whose block has row `i 0`. -/
abbrev at_ (i : S4096x1024.Idx) : Fin cfg0.N := pt ((i 0).val / 1024) (by have : (i 0).val < 4096 := (i 0).isLt; omega)

/-- The array whose rows `1024·t …` are block `t`. -/
def tiled {α : Type} (f : Fin cfg0.N → S1024x1024.Idx → α) : S4096x1024.Idx → α := fun i =>
  f (at_ i) (ix2 ⟨(i 0).val % 1024, Nat.mod_lt _ (by decide)⟩ ⟨(i 1).val, (i 1).isLt⟩)

theorem tiled_at {α : Type} (f : Fin cfg0.N → S1024x1024.Idx → α) (t : Fin cfg0.N) (y : S1024x1024.Idx) (i : S4096x1024.Idx)
    (h0 : (i 0).val = t.val * 1024 + (y 0).val) (h1 : (i 1).val = (y 1).val) : tiled f i = f t y := by
  have hy : (y 0).val < 1024 := (y 0).isLt
  have e1 : at_ i = t := Fin.ext (show (i 0).val / 1024 = t.val by omega)
  have e2 : (ix2 ⟨(i 0).val % 1024, Nat.mod_lt _ (by decide)⟩ ⟨(i 1).val, (i 1).isLt⟩ : S1024x1024.Idx) = y := funext fun a => Fin.ext (match a with
    | ⟨0, _⟩ => show (i 0).val % 1024 = (y 0).val by omega
    | ⟨1, _⟩ => h1)
  unfold tiled
  rw [e1, e2]

/-- What a window stores block by block. -/
theorem of_tiles {α : Type} {f : Fin cfg0.N → S1024x1024.Idx → α} {t : Fin cfg0.N} {y : S1024x1024.Idx} {i : S4096x1024.Idx} {n : Fin 2 → ℕ}
    (hn : At n t.val) {x : α} (hx : x = f t y) (e0 : (i 0).val = n 0 * 1024 + 1 * (y 0).val) (e1 : (i 1).val = n 1 * 1024 + 1 * (y 1).val) :
    x = tiled f i :=
  hx.trans (tiled_at f t y i (row hn e0) (column hn e1)).symm

/-- The sum of the input and the projected heads, tile by tile. -/
theorem result0 : (dats m 0 c).arrAt 3 cfg0.N
    = tiled fun t => yOf (iblk m c 0 t) (iblk m c 1 t) (iblk m c 2 t) (wqAt m c) (woAt m c) := by
  refine (dats m 0 c).arrAt_eq_of_cover 3 _ (fun t _ => funext fun y => of_tiles (i := ((cfg0.win 3).blk t).view.emb y) (blocks t).2.2.2.1 rfl rfl rfl)
    (fun i => ⟨at_ i, (by decide +kernel : ∀ t : Fin grid0.N, win0_3.flush t = true) _, ?_⟩)
  show i ∈ ((View.whole main_v28_0).slice (win0_3.rect (at_ i))).set
  rw [View.set_slice_whole, Rect.mem_set_unit]
  exact inside (by decide) (blocks _).2.2.2.1 i rfl

/-- The normalised rows, tile by tile. -/
theorem result1 : (dats m 0 c).arrAt 4 cfg0.N = tiled fun t => hOf (iblk m c 0 t) (iblk m c 2 t) := by
  refine (dats m 0 c).arrAt_eq_of_cover 4 _ (fun t _ => funext fun y => of_tiles (i := ((cfg0.win 4).blk t).view.emb y) (blocks t).2.2.2.2.1 rfl rfl rfl)
    (fun i => ⟨at_ i, (by decide +kernel : ∀ t : Fin grid0.N, win0_4.flush t = true) _, ?_⟩)
  show i ∈ ((View.whole main_v28_1).slice (win0_4.rect (at_ i))).set
  rw [View.set_slice_whole, Rect.mem_set_unit]
  exact inside (by decide) (blocks _).2.2.2.2.1 i rfl

/-- The scaled queries, tile by tile. -/
theorem result2 : (dats m 0 c).arrAt 5 cfg0.N = tiled fun t => qOf (iblk m c 0 t) (iblk m c 2 t) (wqAt m c) := by
  refine (dats m 0 c).arrAt_eq_of_cover 5 _ (fun t _ => funext fun y => of_tiles (i := ((cfg0.win 5).blk t).view.emb y) (blocks t).2.2.2.2.2.1 rfl rfl rfl)
    (fun i => ⟨at_ i, (by decide +kernel : ∀ t : Fin grid0.N, win0_5.flush t = true) _, ?_⟩)
  show i ∈ ((View.whole main_v28_2).slice (win0_5.rect (at_ i))).set
  rw [View.set_slice_whole, Rect.mem_set_unit]
  exact inside (by decide) (blocks _).2.2.2.2.2.1 i rfl

/-- The heads' outputs, tile by tile. -/
theorem result3 : (dats m 0 c).arrAt 6 cfg0.N = tiled fun t => oOf (iblk m c 0 t) (iblk m c 1 t) (iblk m c 2 t) (wqAt m c) := by
  refine (dats m 0 c).arrAt_eq_of_cover 6 _ (fun t _ => funext fun y => of_tiles (i := ((cfg0.win 6).blk t).view.emb y) (blocks t).2.2.2.2.2.2 rfl rfl rfl)
    (fun i => ⟨at_ i, (by decide +kernel : ∀ t : Fin grid0.N, win0_6.flush t = true) _, ?_⟩)
  show i ∈ ((View.whole main_v28_3).slice (win0_6.rect (at_ i))).set
  rw [View.set_slice_whole, Rect.mem_set_unit]
  exact inside (by decide) (blocks _).2.2.2.2.2.2 i rfl

/-! ## The host's lines before the call -/

theorem V_v26 : (V m c main_v26 : Vec F S4096x1024 .f32)
    = shapeCast S4096x1024 (m ((c : Thread nD τ).loc main_arg0) : Vec F S2x2048x1024 .f32) shapeCasts_S2x2048x1024_S4096x1024 := by
  show StableHlo.after hostOps0 (fun b => m (c, b)) main_v26 = _
  after_results <;> rfl

/-- The memory's keys and values: the reference's, rounded. -/
theorem V_v27 : (V m c main_v27 : Vec F S512x2048 .bf16)
    = shapeCast S512x2048 (truncf .bf16 (Cert.Reference6Ideal.Read.val_main_v31 (F := F)
          (m ((c : Thread nD τ).loc main_arg1)) (m ((c : Thread nD τ).loc main_arg3)) (m ((c : Thread nD τ).loc main_arg5)))
        bitsLt_bf16_f32 : Vec F S2x256x2048 .bf16) shapeCasts_S2x256x2048_S512x2048 := by
  show StableHlo.after hostOps0 (fun b => m (c, b)) main_v27 = _
  after_results <;> rfl

/-- The gathered array: the three weights under one another in each device's slice. -/
theorem V_v8 : (V m c main_v8 : Vec F S8x512x1024 .bf16)
    = truncf .bf16 (concatenate S8x512x1024 1
        [⟨S8x128x1024, shapeCast S8x128x1024 (shapeCast S1024x1024 (m ((c : Thread nD τ).loc main_arg4) : Vec F S1x1024x1024 .f32)
            shapeCasts_S1x1024x1024_S1024x1024) shapeCasts_S1024x1024_S8x128x1024⟩,
          ⟨S8x256x1024, shapeCast S8x256x1024 (transpose S2048x1024 [1, 0] (shapeCast S1024x2048
            (m ((c : Thread nD τ).loc main_arg5) : Vec F S1x1024x2048 .f32) shapeCasts_S1x1024x2048_S1024x2048)
            transposes_S1024x2048_S2048x1024_1_0) shapeCasts_S2048x1024_S8x256x1024⟩,
          ⟨S8x128x1024, shapeCast S8x128x1024 (shapeCast S1024x1024 (m ((c : Thread nD τ).loc main_arg6) : Vec F S1x1024x1024 .f32)
            shapeCasts_S1x1024x1024_S1024x1024) shapeCasts_S1024x1024_S8x128x1024⟩]
        concatenates_S8x128x1024_S8x256x1024_S8x128x1024_S8x512x1024_d1) bitsLt_bf16_f32 := by
  show StableHlo.after hostOps0 (fun b => m (c, b)) main_v8 = _
  after_results <;> rfl

end Cert.Kernel6Ideal.Look
-- ==== Proof.LookRows.lean ====
/-
  The attention over the memory, forward, on plain functions: one row of queries looks at the keys and takes its share of the
  values. Scaling the queries or scaling the scores is the same, for any extended reals.
-/
module

public import proofs.«01_k».proof.Proof.HeadRows

@[expose] public section

noncomputable section

namespace Cert.LookRows

open Idealize.ShloMosaic Cert.FiniteReal Cert.AttnRows

/-- A row of an array of rank three, and of rank two. -/
abbrev row3 {n p q : ℕ} (x : (⟨3, ![n, p, q]⟩ : Shape).Idx → EReal) (b : Fin n) (t : Fin p) : Fin q → EReal := fun k => x (ix3 b t k)
abbrev row {n p : ℕ} (x : (⟨2, ![n, p]⟩ : Shape).Idx → EReal) (r : Fin n) : Fin p → EReal := fun k => x (ix2 r k)

/-- A row times a matrix. -/
def through {n p : ℕ} (x : Fin n → EReal) (w : Fin n → Fin p → EReal) (k : Fin p) : EReal := ∑ c, x c * w c k

/-- The heads' outputs of one row, from its scores: each head's probabilities times its values. -/
def looked (s : Fin 4 → Fin 256 → EReal) (kv : Fin 256 → Fin 2048 → EReal) (k : Fin 1024) : EReal :=
  ∑ j, share (s (head k)) j * kv j (val k)

/-- A sum of sixteenths is a sixteenth of the sum. -/
theorem sum_sixteenths {n : ℕ} (f : Fin n → EReal) :
    ∑ d, f d * Ideal.ofBits .f32 0x3D800000#32 = (∑ d, f d) * Ideal.ofBits .f32 0x3D800000#32 := by
  rw [lit_sixteenth]
  have h0 : (0 : EReal) ≤ ((1 / 16 : ℝ) : EReal) := EReal.coe_nonneg.mpr (by norm_num)
  refine Finset.induction_on (Finset.univ : Finset (Fin n)) (by simp) fun a s ha ih => ?_
  rw [Finset.sum_insert ha, Finset.sum_insert ha, ih, EReal.right_distrib_of_nonneg_of_ne_top h0 (EReal.coe_ne_top _)]

/-- Scaling the query row scales its scores. -/
theorem scores_plain (q : Fin 1024 → EReal) (kv : Fin 256 → Fin 2048 → EReal) :
    scores (fun k => q k * Ideal.ofBits .f32 0x3D800000#32) kv = plainScores q kv := funext fun h => funext fun j => by
  unfold scores plainScores
  rw [← sum_sixteenths]
  exact Finset.sum_congr rfl fun d _ => mul_right_comm _ _ _

end Cert.LookRows
-- ==== Proof.LookBlock.lean ====
/-
  What one grid point of the attention's forward call computes, over the extended reals, entry by entry: each of its results
  is a row function of that point's rows.
-/
module

public import proofs.«01_k».proof.Proof.LookBody
public import proofs.«01_k».proof.Proof.LookRows

@[expose] public section

set_option maxRecDepth 16384

noncomputable section

namespace Cert.Kernel6Ideal.Look

open Cert.Kernel6Ideal Cert.Kernel6Ideal.Gen Cert.Gathered Cert.AttnRows Cert.HeadRows Cert.LookRows
open Cert.Kernel2Ideal.Attn (cols)
open Idealize.ShloMosaic Idealize.ShloMosaic.TcCoe Idealize.ShloMosaic.Tactic

variable (x : Vec Ideal S1024x1024 .f32) (kv : Vec Ideal S256x2048 .bf16) (g : Vec Ideal S1x1024 .f32) (wq wo : Vec Ideal S1024x1024 .bf16)
  (r : Fin 1024)

theorem cols_apply (o : ℕ) (h : o + 256 ≤ 2048) (a : S256x2048.Idx → EReal) (j d : Fin 256) :
    cols o h a (ix2 j d) = a (ix2 j ⟨o + d.val, by omega⟩) := rfl

/-- The normalised rows, and the queries. -/
theorem hOf_row : row (hOf (F := Ideal) x g) r = normed (row x r) (row g 0) := funext fun k => by
  pointwise [row, hOf, k0_pay4, k0_pay3]; rfl
theorem qOf_row : row (qOf (F := Ideal) x g wq) r = fun k => through (normed (row x r) (row g 0)) (row wq) k * Ideal.ofBits .f32 0x3D800000#32 :=
  funext fun k => by
  unfold through; rw [← hOf_row]; unfold qOf k0_pay5 hOf; generalize k0_pay4 x g = h; pointwise [row]

/-- The heads' scores of the queries `q`. -/
def sc (q : Vec Ideal S1024x1024 .bf16) (h : Fin 4) : Fin 256 → EReal := scores (row q r) (row kv) h

/-- Each head's probabilities; the fourth's as exponentials and their sum. -/
theorem p0_row : row (p0 (F := Ideal) x kv g wq) r = share (sc kv r (qOf x g wq) 0) := by
  have e : row (k0_pay6 x g wq (cols 0 (by decide) kv)) r = sc kv r (qOf x g wq) 0 := funext fun j => by
    unfold k0_pay6 qOf sc scores; generalize k0_pay5 x g wq = q; pointwise [row, cols_apply]
    exact Finset.sum_congr rfl fun d _ => by congr 2 <;> exact congrArg _ (Fin.ext (by simp [col, key]))
  rw [← e]; unfold p0; generalize k0_pay6 x g wq _ = s; funext j; pointwise [row, k0_pay9]; rfl
theorem p1_row : row (p1 (F := Ideal) x kv g wq) r = share (sc kv r (qOf x g wq) 1) := by
  unfold p1 k0_pay7 qOf; generalize k0_pay5 x g wq = q; funext j; pointwise [row, k0_pay10, k0_pay8, cols_apply]; rfl
theorem p2_row : row (p2 (F := Ideal) x kv g wq) r = share (sc kv r (qOf x g wq) 2) := by
  unfold p2; generalize qOf x g wq = q; funext j; pointwise [row, k0_pay11, cols_apply]; rfl
theorem e3_row : row (e3 (F := Ideal) x kv g wq) r = weight (sc kv r (qOf x g wq) 3) := by
  unfold e3; generalize qOf x g wq = q; funext j; pointwise [row, k0_pay12, cols_apply]; rfl
theorem z3_row : z3 (F := Ideal) x kv g wq (ix2 r 0) = ∑ j, weight (sc kv r (qOf x g wq) 3) j := by
  rw [← e3_row]; unfold z3 k0_pay13 e3; generalize k0_pay12 (qOf x g wq) _ = e; pointwise [row]

/-- The heads' outputs. -/
theorem oOf_row : row (oOf (F := Ideal) x kv g wq) r = looked (sc kv r (qOf x g wq)) (row kv) := funext fun k => by
  have e0 := p0_row x kv g wq r; have e1 := p1_row x kv g wq r; have e2 := p2_row x kv g wq r
  have e3' := e3_row x kv g wq r; have ez := z3_row x kv g wq r
  have e3'' : (fun j => Ideal.div (e3 (F := Ideal) x kv g wq (ix2 r j)) (z3 (F := Ideal) x kv g wq (ix2 r 0))) = share (sc kv r (qOf x g wq) 3) :=
    funext fun j => by rw [ez]; exact congrArg (Ideal.div · _) (congrFun e3' j)
  clear e3' ez
  unfold oOf looked
  generalize sc kv r (qOf x g wq) = s at *
  generalize p0 x kv g wq = q0 at *; generalize p1 x kv g wq = q1 at *
  generalize p2 x kv g wq = q2 at *; generalize e3 x kv g wq = q3 at *; generalize z3 x kv g wq = qz at *
  pointwise [row, k0_pay1, cols_apply]
  have hk := k.isLt
  have at_ : ∀ (h : Fin 4) (p : Fin 256 → EReal) (d : Fin 256), p = share (s h) → k = col h d →
      ∑ j, p j * kv (ix2 j (val (col h d))) = ∑ j, share (s (head k)) j * kv (ix2 j (val k)) := by
    rintro h _ d rfl rfl; rw [head_col]
  by_cases h0 : k.val < 256
  · rw [dif_pos h0]; refine Eq.trans ?_ (at_ 0 _ ⟨k.val, h0⟩ e0 (Fin.ext (show k.val = 0 * 256 + k.val by omega)))
    exact Finset.sum_congr rfl fun j _ => congrArg (_ * ·) (congrArg kv (congrArg (ix2 j) (Fin.ext (show 1024 + k.val = 1024 + (0 * 256 + k.val) by omega))))
  rw [dif_neg h0]
  by_cases h1 : k.val - 256 < 256
  · rw [dif_pos h1]; refine Eq.trans ?_ (at_ 1 _ ⟨k.val - 256, h1⟩ e1 (Fin.ext (show k.val = 1 * 256 + (k.val - 256) by omega)))
    exact Finset.sum_congr rfl fun j _ => congrArg (_ * ·) (congrArg kv (congrArg (ix2 j) (Fin.ext (show 1280 + (k.val - 256) = 1024 + (1 * 256 + (k.val - 256)) by omega))))
  rw [dif_neg h1]
  by_cases h2 : k.val - 256 - 256 < 256
  · rw [dif_pos h2]; refine Eq.trans ?_ (at_ 2 _ ⟨k.val - 256 - 256, h2⟩ e2 (Fin.ext (show k.val = 2 * 256 + (k.val - 256 - 256) by omega)))
    exact Finset.sum_congr rfl fun j _ => congrArg (_ * ·) (congrArg kv (congrArg (ix2 j) (Fin.ext (show 1536 + (k.val - 256 - 256) = 1024 + (2 * 256 + (k.val - 256 - 256)) by omega))))
  rw [dif_neg h2]
  refine Eq.trans ?_ (at_ 3 _ ⟨k.val - 256 - 256 - 256, by omega⟩ e3'' (Fin.ext (show k.val = 3 * 256 + (k.val - 256 - 256 - 256) by omega)))
  exact Finset.sum_congr rfl fun j _ => congrArg (_ * ·) (congrArg kv (congrArg (ix2 j) (Fin.ext (show 1792 + (k.val - 256 - 256 - 256) = 1024 + (3 * 256 + (k.val - 256 - 256 - 256)) by omega))))

/-- The residual sum. -/
theorem yOf_row : row (yOf (F := Ideal) x kv g wq wo) r = fun k => row x r k + through (row (oOf (F := Ideal) x kv g wq) r) (row wo) k := funext fun k => by
  unfold yOf k0_pay2 oOf through
  generalize k0_pay1 (p0 x kv g wq) (p1 x kv g wq) (p2 x kv g wq) (e3 x kv g wq) (z3 x kv g wq) _ _ _ _ = o
  pointwise [row, k0_pay3]

end Cert.Kernel6Ideal.Look
-- ==== Proof.LookRef.lean ====
/-
  The reference of the attention's forward call, read entry by entry: each of its four results is a row function of the rows of
  the input and of the memory.
-/
module

public import proofs.«01_k».proof.Proof.LookRows
public import proofs.«01_k».proof.Proof.HostRead
public import proofs.«01_k».proof.Proof.Gen.Reference6Ideal.Read

@[expose] public section

set_option maxRecDepth 16384

noncomputable section

namespace Cert.Reference6Ideal.Look

open Cert.Reference6Ideal Cert.Reference6Ideal.Gen Cert.Reference6Ideal.Read Cert.AttnRows Cert.HeadRows Cert.LookRows Cert.HostRead
open Idealize.ShloMosaic Idealize.ShloMosaic.TcCoe Idealize.ShloMosaic.Tactic

variable (x0 : Vec Ideal S2x2048x1024 .f32) (x1 : Vec Ideal S2x256x1024 .f32) (x2 x3 : Vec Ideal S1x1024 .f32)
  (x4 : Vec Ideal S1x1024x1024 .f32) (x5 : Vec Ideal S1x1024x2048 .f32) (x6 : Vec Ideal S1x1024x1024 .f32)

/-- The normalised rows, the query rows before scaling, the rows of keys and values, and the heads' outputs. -/
abbrev hs (b : Fin 2) (t : Fin 2048) : Fin 1024 → EReal := normed (row3 x0 b t) (row x2 0)
abbrev qs (b : Fin 2) (t : Fin 2048) : Fin 1024 → EReal := through (hs x0 x2 b t) (row3 x4 0)
abbrev kvs (b : Fin 2) : Fin 256 → Fin 2048 → EReal := row3 (val_main_v31 (F := Ideal) x1 x3 x5) b
abbrev os (b : Fin 2) (t : Fin 2048) : Fin 1024 → EReal := looked (plainScores (qs x0 x2 x4 b t) (kvs x1 x3 x5 b)) (kvs x1 x3 x5 b)

variable (b : Fin 2) (t : Fin 2048) (h : Fin 4) (d j : Fin 256) (k : Fin 1024)

theorem v13_apply : val_main_v13 (F := Ideal) x0 x2 (ix3 b t k) = hs x0 x2 b t k := by
  have e : val_main_v8 (F := Ideal) x0 (ix3 b t 0) = Cert.AttnRows.inv (row3 x0 b t) := by
    unfold Cert.AttnRows.inv row3 val_main_v8 val_main_v7 val_main_v5 val_main_v3 val_main_v2 val_main_v1
    pointwise [val_main_v6, val_main_v4, val_main_cst, val_main_cst_0, val_main_cst_1]
  have e' : val_main_v12 (F := Ideal) x2 (ix3 b t k) = x2 (ix2 0 k) := by
    rw [val_main_v12_apply, val_main_v11_apply, val_main_v0_apply]
    exact congrArg _ (funext fun a => Fin.ext (match a with
      | ⟨0, _⟩ => rfl
      | ⟨1, _⟩ => show k.val % 1024 = k.val by omega))
  rw [val_main_v13_apply, e', val_main_v10_apply, val_main_v9_apply, show idx_main_v9 (ix3 b t k) = ix3 b t 0 from eq_ix3 _, e]; rfl

/-- A projection's matrix, its leading axis dropped. -/
theorem v14_rows : row (val_main_v14 (F := Ideal) x4) = row3 x4 0 := funext fun l => funext fun k => flatten_apply x4 _ 0 l k l (by simp)
theorem v54_rows : row (val_main_v54 (F := Ideal) x6) = row3 x6 0 := funext fun l => funext fun k => flatten_apply x6 _ 0 l k l (by simp)

theorem v15_apply : val_main_v15 (F := Ideal) x0 x2 x4 (ix3 b t k) = qs x0 x2 x4 b t k := by
  unfold qs; rw [← v14_rows]; unfold through; simp only [← v13_apply]; unfold val_main_v15
  generalize val_main_v13 (F := Ideal) x0 x2 = y; generalize val_main_v14 (F := Ideal) x4 = w; pointwise []

theorem v36_apply : val_main_v36 (F := Ideal) x0 x2 x4 (ix4 b t h d) = qs x0 x2 x4 b t (col h d) := by
  rw [val_main_v36_apply, ← v15_apply]
  exact congrArg _ (funext fun a => Fin.ext (match a with
    | ⟨0, _⟩ => show (((b.val * 2048 + t.val) * 4 + h.val) * 256 + d.val) / 2097152 = b.val by omega
    | ⟨1, _⟩ => show (((b.val * 2048 + t.val) * 4 + h.val) * 256 + d.val) / 1024 % 2048 = t.val by omega
    | ⟨2, _⟩ => show (((b.val * 2048 + t.val) * 4 + h.val) * 256 + d.val) % 1024 = h.val * 256 + d.val by omega))

theorem v34_apply : val_main_v34 (F := Ideal) x1 x3 x5 (ix4 b j h d) = kvs x1 x3 x5 b j (key (col h d)) := by
  rw [val_main_v34_apply, val_main_v32_apply]
  exact congrArg _ (funext fun a => Fin.ext (match a with
    | ⟨0, _⟩ => show (((b.val * 256 + j.val) * 4 + h.val) * 256 + d.val) / 262144 = b.val by omega
    | ⟨1, _⟩ => show (((b.val * 256 + j.val) * 4 + h.val) * 256 + d.val) / 1024 % 256 = j.val by omega
    | ⟨2, _⟩ => show (((b.val * 256 + j.val) * 4 + h.val) * 256 + d.val) % 1024 = h.val * 256 + d.val by omega))

theorem v35_apply : val_main_v35 (F := Ideal) x1 x3 x5 (ix4 b j h d) = kvs x1 x3 x5 b j (val (col h d)) := by
  rw [val_main_v35_apply, val_main_v33_apply]
  exact congrArg _ (funext fun a => Fin.ext (match a with
    | ⟨0, _⟩ => show (((b.val * 256 + j.val) * 4 + h.val) * 256 + d.val) / 262144 = b.val by omega
    | ⟨1, _⟩ => show (((b.val * 256 + j.val) * 4 + h.val) * 256 + d.val) / 1024 % 256 = j.val by omega
    | ⟨2, _⟩ => show 1024 + (((b.val * 256 + j.val) * 4 + h.val) * 256 + d.val) % 1024 = 1024 + (h.val * 256 + d.val) by omega))

/-- The scores. -/
theorem v39_apply : val_main_v39 (F := Ideal) x0 x1 x2 x3 x4 x5 (ix4 b h t j) = plainScores (qs x0 x2 x4 b t) (kvs x1 x3 x5 b) h j := by
  unfold plainScores; simp only [← v36_apply, ← v34_apply]; unfold val_main_v39 val_main_v37
  generalize val_main_v36 (F := Ideal) x0 x2 x4 = y; generalize val_main_v34 (F := Ideal) x1 x3 x5 = z
  pointwise [val_main_v38, val_main_cst_5]

/-- Their softmax. -/
theorem v50_apply : val_main_v50 (F := Ideal) x0 x1 x2 x3 x4 x5 (ix4 b h t j) = share (plainScores (qs x0 x2 x4 b t) (kvs x1 x3 x5 b) h) j := by
  rw [show plainScores (qs x0 x2 x4 b t) (kvs x1 x3 x5 b) h = fun j => val_main_v39 (F := Ideal) x0 x1 x2 x3 x4 x5 (ix4 b h t j) from
    funext fun j => (v39_apply x0 x1 x2 x3 x4 x5 b t h j).symm]
  have ep : val_main_v42 (F := Ideal) x0 x1 x2 x3 x4 x5 (ix3 b h t) = peak fun j => val_main_v39 (F := Ideal) x0 x1 x2 x3 x4 x5 (ix4 b h t j) := by
    have e : val_main_v41 (F := Ideal) (ix3 b h t) = Ideal.ofBits .f32 0xFF800000#32 := by pointwise [val_main_v41, val_main_cst_7]
    have e' : val_main_v40 (F := Ideal) x0 x1 x2 x3 x4 x5 (ix3 b h t) = peak fun j => val_main_v39 (F := Ideal) x0 x1 x2 x3 x4 x5 (ix4 b h t j) := by
      unfold peak val_main_v40; generalize val_main_v39 (F := Ideal) x0 x1 x2 x3 x4 x5 = y; pointwise [val_main_cst_6]
    rw [val_main_v42_apply, e, e']
    exact max_eq_right ((Finset.le_fold_max _).mpr (.inl le_rfl))
  have ew : ∀ j, val_main_v46 (F := Ideal) x0 x1 x2 x3 x4 x5 (ix4 b h t j) = weight (fun j => val_main_v39 (F := Ideal) x0 x1 x2 x3 x4 x5 (ix4 b h t j)) j := fun j => by
    unfold weight; rw [← ep]; unfold val_main_v46 val_main_v45 val_main_v44 val_main_v43
    generalize val_main_v39 (F := Ideal) x0 x1 x2 x3 x4 x5 = y; generalize val_main_v42 (F := Ideal) x0 x1 x2 x3 x4 x5 = z; pointwise []
  unfold share; simp only [← ew]; unfold val_main_v50 val_main_v49 val_main_v48 val_main_v47
  generalize val_main_v46 (F := Ideal) x0 x1 x2 x3 x4 x5 = y; pointwise [val_main_cst_8]

/-- The heads' outputs. -/
theorem v53_apply : val_main_v53 (F := Ideal) x0 x1 x2 x3 x4 x5 (ix3 b t k) = os x0 x1 x2 x3 x4 x5 b t k := by
  have e : val_main_v52 (F := Ideal) x0 x1 x2 x3 x4 x5 (ix4 b t (head k) (lane k)) = ∑ j, val_main_v35 (F := Ideal) x1 x3 x5 (ix4 b j (head k) (lane k))
      * val_main_v50 (F := Ideal) x0 x1 x2 x3 x4 x5 (ix4 b (head k) t j) := by
    unfold val_main_v52 val_main_v51
    generalize val_main_v35 (F := Ideal) x1 x3 x5 = y; generalize val_main_v50 (F := Ideal) x0 x1 x2 x3 x4 x5 = z; pointwise []
  simp only [v35_apply, v50_apply, col_head_lane] at e
  refine Eq.trans ?_ (e.trans (Finset.sum_congr rfl fun j _ => mul_comm _ _))
  rw [val_main_v53_apply]
  exact congrArg _ (funext fun a => Fin.ext (match a with
    | ⟨0, _⟩ => show ((b.val * 2048 + t.val) * 1024 + k.val) / 2097152 = b.val by omega
    | ⟨1, _⟩ => show ((b.val * 2048 + t.val) * 1024 + k.val) / 1024 % 2048 = t.val by omega
    | ⟨2, _⟩ => show ((b.val * 2048 + t.val) * 1024 + k.val) / 256 % 4 = k.val / 256 by omega
    | ⟨3, _⟩ => show ((b.val * 2048 + t.val) * 1024 + k.val) % 256 = k.val % 256 by omega))

/-- The residual sum. -/
theorem v56_apply : val_main_v56 (F := Ideal) x0 x1 x2 x3 x4 x5 x6 (ix3 b t k) = row3 x0 b t k + through (os x0 x1 x2 x3 x4 x5 b t) (row3 x6 0) k := by
  rw [← v54_rows]; unfold through; simp only [← v53_apply]; unfold val_main_v56 val_main_v55
  generalize val_main_v53 (F := Ideal) x0 x1 x2 x3 x4 x5 = y; generalize val_main_v54 (F := Ideal) x6 = w; pointwise []

/-- The scaled queries. -/
theorem v61_apply : val_main_v61 (F := Ideal) x0 x2 x4 (ix3 b t k) = qs x0 x2 x4 b t k * Ideal.ofBits .f32 0x3D800000#32 := by
  rw [← v15_apply]; unfold val_main_v61; generalize val_main_v15 (F := Ideal) x0 x2 x4 = y; pointwise [val_main_v60, val_main_cst_9]

end Cert.Reference6Ideal.Look
-- ==== Proof.LookValue.lean ====
/-
  The value of the attention's forward call: its four results are the reference's, whatever the arguments.
-/
module

public import proofs.«01_k».proof.Proof.LookArrays
public import proofs.«01_k».proof.Proof.LookBlock
public import proofs.«01_k».proof.Proof.LookRef

@[expose] public section

set_option maxRecDepth 16384

noncomputable section

namespace Cert.Kernel6Ideal.Look

open Cert.Kernel6Ideal Cert.Kernel6Ideal.Gen Cert.Gathered Cert.HostRead Cert.AttnRows Cert.HeadRows Cert.LookRows
open Cert.Reference6Ideal.Look (hs qs kvs os)
open Cert.Reference6Ideal.Read
open Idealize.ShloMosaic Idealize.ShloMosaic.TcCoe Idealize.ShloMosaic.Tactic
open Idealize.SL.Sem

variable (m : (ℓ : Loc nD τ sig) → Buf (Elt Ideal) ℓ) (c : Dev nD)

/-! ## The arguments -/

abbrev a0 : Vec Ideal S2x2048x1024 .f32 := m ((c : Thread nD τ).loc main_arg0)
abbrev a1 : Vec Ideal S2x256x1024 .f32 := m ((c : Thread nD τ).loc main_arg1)
abbrev a2 : Vec Ideal S1x1024 .f32 := m ((c : Thread nD τ).loc main_arg2)
abbrev a3 : Vec Ideal S1x1024 .f32 := m ((c : Thread nD τ).loc main_arg3)
abbrev a4 : Vec Ideal S1x1024x1024 .f32 := m ((c : Thread nD τ).loc main_arg4)
abbrev a5 : Vec Ideal S1x1024x2048 .f32 := m ((c : Thread nD τ).loc main_arg5)
abbrev a6 : Vec Ideal S1x1024x1024 .f32 := m ((c : Thread nD τ).loc main_arg6)

/-- The weights the kernel loads are the queries' and the output's. -/
theorem wq_rows : row (wqAt m c) = row3 (a4 m c) 0 := by
  have e : wqAt m c = shapeCast S1024x1024 (a4 m c) shapeCasts_S1x1024x1024_S1024x1024 := by
    show stack 1024 128 0 rfl (by decide) (V m c main_v8 : Vec Ideal S8x512x1024 .bf16) = _
    rw [V_v8]
    exact stack_packed (N := 512) _ _ [⟨S8x128x1024, _⟩, ⟨S8x256x1024, _⟩, ⟨S8x128x1024, _⟩] concatenates_S8x128x1024_S8x256x1024_S8x128x1024_S8x512x1024_d1 0 (Nat.zero_lt_succ _) _ shapeCasts_S1024x1024_S8x128x1024 rfl rfl
  rw [e]
  exact funext fun k => funext fun l => flatten_apply _ _ 0 k l k (by simp)
theorem wo_rows : row (woAt m c) = row3 (a6 m c) 0 := by
  have e : woAt m c = shapeCast S1024x1024 (a6 m c) shapeCasts_S1x1024x1024_S1024x1024 := by
    show stack 1024 128 384 rfl (by decide) (V m c main_v8 : Vec Ideal S8x512x1024 .bf16) = _
    rw [V_v8]
    exact stack_packed (N := 512) _ _ [⟨S8x128x1024, _⟩, ⟨S8x256x1024, _⟩, ⟨S8x128x1024, _⟩] concatenates_S8x128x1024_S8x256x1024_S8x128x1024_S8x512x1024_d1 2 (Nat.lt_succ_self _) _ shapeCasts_S1024x1024_S8x128x1024 rfl rfl
  rw [e]
  exact funext fun k => funext fun l => flatten_apply _ _ 0 k l k (by simp)

/-! ## The rows of one point: point `2·b + v` has rows `1024·v …` of sequence `b` -/

abbrev at2 (b v : Fin 2) : Fin cfg0.N := pt (b.val * 2 + v.val) (by omega)
abbrev pos (v : Fin 2) (r : Fin 1024) : Fin 2048 := ⟨v.val * 1024 + r.val, by omega⟩

variable (b v : Fin 2) (r : Fin 1024)

theorem row0 : row (iblk m c 0 (at2 b v) : Vec Ideal S1024x1024 .f32) r = row3 (a0 m c) b (pos v r) := funext fun k =>
  (iblk0_apply m c (at2 b v) r k ⟨(b.val * 2 + v.val) * 1024 + r.val, by omega⟩ rfl).trans (by
    rw [V_v26]; exact flatten_apply _ _ b (pos v r) k _ (by show _ = b.val * 2048 + (v.val * 1024 + r.val); dsimp only; omega))
theorem rows1 : row (iblk m c 1 (at2 b v) : Vec Ideal S256x2048 .bf16) = kvs (a1 m c) (a3 m c) (a5 m c) b := funext fun j => funext fun l =>
  (iblk1_apply m c (at2 b v) j l ⟨b.val * 256 + j.val, by omega⟩ (by show _ = (b.val * 2 + v.val) / 2 * 256 + j.val; dsimp only; omega)).trans (by
    rw [V_v27]; exact flatten_apply _ _ b j l _ rfl)
theorem row2 : row (iblk m c 2 (at2 b v) : Vec Ideal S1x1024 .f32) 0 = row (a2 m c) 0 := funext fun k => iblk2_apply m c (at2 b v) k

theorem h_row : row (hOf (F := Ideal) (iblk m c 0 (at2 b v)) (iblk m c 2 (at2 b v))) r = hs (a0 m c) (a2 m c) b (pos v r) := by
  rw [hOf_row, row0, row2]
theorem q_row : row (qOf (F := Ideal) (iblk m c 0 (at2 b v)) (iblk m c 2 (at2 b v)) (wqAt m c)) r
    = fun k => qs (a0 m c) (a2 m c) (a4 m c) b (pos v r) k * Ideal.ofBits .f32 0x3D800000#32 := by
  rw [qOf_row, row0, row2, wq_rows]
theorem o_row : row (oOf (F := Ideal) (iblk m c 0 (at2 b v)) (iblk m c 1 (at2 b v)) (iblk m c 2 (at2 b v)) (wqAt m c)) r
    = os (a0 m c) (a1 m c) (a2 m c) (a3 m c) (a4 m c) (a5 m c) b (pos v r) := by
  rw [oOf_row]
  have e : sc (iblk m c 1 (at2 b v)) r (qOf (F := Ideal) (iblk m c 0 (at2 b v)) (iblk m c 2 (at2 b v)) (wqAt m c))
      = plainScores (qs (a0 m c) (a2 m c) (a4 m c) b (pos v r)) (kvs (a1 m c) (a3 m c) (a5 m c) b) := by
    unfold sc; rw [← scores_plain, q_row, rows1]
  rw [e, rows1]

/-! ## The results -/

/-- A tiled array that agrees with a flattened one entry by entry. -/
theorem tiled_eq (f : Fin cfg0.N → S1024x1024.Idx → EReal) (g : S2x2048x1024.Idx → EReal)
    (e : ∀ b v r k, f (at2 b v) (ix2 r k) = g (ix3 b (pos v r) k)) : tiled f = shapeCast S4096x1024 g shapeCasts_S2x2048x1024_S4096x1024 := by
  funext i
  obtain ⟨R, k, rfl⟩ : ∃ (R : Fin 4096) (k : Fin 1024), i = ix2 R k := ⟨_, _, eq_ix2 i⟩
  refine (tiled_at f (at2 ⟨R.val / 2048, by omega⟩ ⟨R.val / 1024 % 2, by omega⟩) (ix2 ⟨R.val % 1024, by omega⟩ k) _ ?_ rfl).trans ((e _ _ _ _).trans (flatten_apply _ _ _ _ _ _ ?_).symm)
  · show R.val = (R.val / 2048 * 2 + R.val / 1024 % 2) * 1024 + R.val % 1024
    omega
  · show R.val = R.val / 2048 * 2048 + (R.val / 1024 % 2 * 1024 + R.val % 1024)
    omega

set_option maxHeartbeats 1000000 in
/-- The kernel's run: all four results, the arguments untouched. -/
theorem run_value (ρ : Dev nD → PrngReg) : θ_run defs (onTc (τ := τ) (main (F := Ideal))) ⟨m, fun _ => 0, ρ⟩ (fun r => ∀ c : Dev nD,
    r.2.mem ((c : Thread nD τ).loc main_v28_0) = val_main_v57 (F := Ideal) (a0 m c) (a1 m c) (a2 m c) (a3 m c) (a4 m c) (a5 m c) (a6 m c)
    ∧ r.2.mem ((c : Thread nD τ).loc main_v28_1) = val_main_v59 (F := Ideal) (a0 m c) (a2 m c)
    ∧ r.2.mem ((c : Thread nD τ).loc main_v28_2) = val_main_v63 (F := Ideal) (a0 m c) (a2 m c) (a4 m c)
    ∧ r.2.mem ((c : Thread nD τ).loc main_v28_3) = val_main_v65 (F := Ideal) (a0 m c) (a1 m c) (a2 m c) (a3 m c) (a4 m c) (a5 m c)
    ∧ Kept m r c) := by
  refine (θ_run _ _ _).mono (fun r hr c => ⟨?_, ?_, ?_, ?_, kept m r hr.1 c⟩) (run_main m ρ)
  · refine ((hr.1 c).1 3).trans ((result0 m c).trans (tiled_eq _ (val_main_v56 (F := Ideal) (a0 m c) (a1 m c) (a2 m c) (a3 m c) (a4 m c) (a5 m c) (a6 m c)) fun b v r k => ?_))
    rw [Cert.Reference6Ideal.Look.v56_apply, ← o_row, ← row0, ← wo_rows]; exact congrFun (yOf_row _ _ _ _ _ r) k
  · refine ((hr.1 c).1 4).trans ((result1 m c).trans (tiled_eq _ (val_main_v13 (F := Ideal) (a0 m c) (a2 m c)) fun b v r k => ?_))
    rw [Cert.Reference6Ideal.Look.v13_apply]; exact congrFun (h_row m c b v r) k
  · refine ((hr.1 c).1 5).trans ((result2 m c).trans (tiled_eq _ (val_main_v61 (F := Ideal) (a0 m c) (a2 m c) (a4 m c)) fun b v r k => ?_))
    rw [Cert.Reference6Ideal.Look.v61_apply]; exact congrFun (q_row m c b v r) k
  · refine ((hr.1 c).1 6).trans ((result3 m c).trans (tiled_eq _ (val_main_v53 (F := Ideal) (a0 m c) (a1 m c) (a2 m c) (a3 m c) (a4 m c) (a5 m c)) fun b v r k => ?_))
    rw [Cert.Reference6Ideal.Look.v53_apply]; exact congrFun (o_row m c b v r) k

end Cert.Kernel6Ideal.Look
-- ==== Proof.MemFrame.lean ====
/-
  The call that normalises the memory and projects it to keys and values: its body, run once at the first grid point (where it
  loads its weight) and once at a later one, the launch and the frame.
-/
module

public import proofs.«01_k».proof.Proof.Gathered
public import proofs.«01_k».proof.Proof.Gen.Kernel7Ideal.Frame
public import proofs.«01_k».proof.Proof.Gen.Kernel7Ideal.Skeleton
public import Idealize.ShloMosaic.Lib.Batch
public import Idealize.ShloMosaic.Lib.VecWindow

@[expose] public section

set_option maxRecDepth 16384

noncomputable section

namespace Cert.Kernel7Ideal.Mem

open Cert.Kernel7Ideal Cert.Kernel7Ideal.Gen Cert.Gathered
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's test: the grid coordinate is zero. -/
abbrev first (i : grid0.Coords) : Prop :=
  Scalar.cmpi .ne (Scalar.extui (Scalar.cmpi .eq (BitVec.ofNat 32 (i 0).val) 0#32) : BitVec 32) 0#32 = 1#1

/-- The gathered weights, and the scratch buffer the weight is loaded into. -/
abbrev hbM : Memref sig .tc .hbm S8x512x1024 .bf16 := Memref.whole main_v8
abbrev scM : Memref sig .tc .vmem S2048x1024 .bf16 := Memref.whole cc0_scratch0

/-- The key/value projection, transposed, as the gathered array holds it. -/
def wkv (g : Vec F S8x512x1024 .bf16) : Vec F S2048x1024 .bf16 := stack 2048 256 128 rfl (by decide) g

/-- The scratch buffer with anything in it; the semaphore at zero and the gathered array. -/
abbrev Scratch (c : Dev nD) : sProp 𝕄 := iprop(∃ f : Buf (Elt F) (scM.view.loc (c : Thread nD τ)), (scM.view.loc (c : Thread nD τ) ↦{fullShare} f))
abbrev Source (c : Dev nD) (G : Buf (Elt F) (hbM.view.loc (c : Thread nD τ))) : sProp 𝕄 :=
  iprop(semVal ((c : Thread nD τ), SemLoc.dma 7) 0 ∗ (hbM.view.loc (c : Thread nD τ) ↦{fullShare} G))

section Body

variable (c : Dev nD) (i : grid0.Coords)
  (arg1 : Memref sig .tc .vmem S256x1024 .f32) (harg1 : arg1.IsWhole) (arg2 : Memref sig .tc .vmem S1x1024 .f32) (harg2 : arg2.IsWhole)
  (arg4 : Memref sig .tc .vmem S256x1024 .bf16) (harg4 : arg4.IsWhole) (arg5 : Memref sig .tc .vmem S256x2048 .bf16) (harg5 : arg5.IsWhole)
  (x : Vec F S256x1024 .f32) (g : Vec F S1x1024 .f32)

/-- The four blocks before the body has run, and after: normalised rows, keys and values. -/
abbrev Before : sProp 𝕄 := iprop(owns (c : Thread nD τ) arg1 fullShare x ∗ owns (c : Thread nD τ) arg2 fullShare g
  ∗ (∃ d, owns (c : Thread nD τ) arg4 fullShare d) ∗ (∃ d, owns (c : Thread nD τ) arg5 fullShare d))
abbrev After (w : Vec F S2048x1024 .bf16) : sProp 𝕄 := iprop(owns (c : Thread nD τ) arg1 fullShare x ∗ owns (c : Thread nD τ) arg2 fullShare g
  ∗ owns (c : Thread nD τ) arg4 fullShare (k0_pay1 x g) ∗ owns (c : Thread nD τ) arg5 fullShare (k0_pay2 x g w)
  ∗ owns (c : Thread nD τ) scM fullShare w)

set_option maxHeartbeats 4000000 in
/-- The body at the first grid point: the weight is loaded. -/
theorem run_first (hi : first i) (G : Buf (Elt F) (hbM.view.loc (c : Thread nD τ))) (W : Waits sig Unit) (K : PUnit → sProp 𝕄) :
    iprop(Before c arg1 arg2 arg4 arg5 x g ∗ Scratch c ∗ Source c G ∗ owes (c : Thread nD τ) 0 W
        ∗ (iprop(After c arg1 arg2 arg4 arg5 x g (wkv (hbM.view.read (Elt F) G)) ∗ Source c G ∗ (∃ W', owes (c : Thread nD τ) 0 W')) -∗ K ⟨⟩))
      ⊢ wp frame (wpE (defs₀ (F := F)) Variants.none c none) Set.univ
          (cc0_fwd_kv i arg1 harg1 arg2 harg2 hbM (Memref.isWhole_whole _) arg4 harg4 arg5 harg5 scM (Memref.isWhole_whole _) cc0_scratch1) K := by
  have _plan : Transfers.BatchOf (c : Thread nD τ) (SemLoc.dma (sig := sig) 7) 8 (windows := true) := ⟨⟩
  rw [cc0_fwd_kv_eq_skeleton]; unfold cc0_fwd_kv_skel; rw [k0_part1_eq_skeleton, k0_part2_eq_skeleton]; unfold k0_part1_skel k0_part2_skel
  unfold Before After owns
  iintro ⟨⟨⟨%f1, %hf1, H1⟩, ⟨%f2, %hf2, H2⟩, ⟨%d4, %f4, -, H4⟩, ⟨%d5, %f5, -, H5⟩⟩, ⟨%fs, HS⟩, ⟨Hq, Hh⟩, HW, Hk⟩
  sl_exec (disch := first | sl_exact hi)
  sl_step
  -- what the eight transfers leave in the scratch buffer
  have hL : ∀ f : scM.view.ty.Contents (Elt F), scM.view.read (Elt F) (scM.view.writes (Elt F) f
      [⟨Rect.unit ![1792, 0] S256x1024.size inb_S2048x1024_S256x1024_1792_0, run_first.sl.dma7 c G⟩,
        ⟨Rect.unit ![1536, 0] S256x1024.size inb_S2048x1024_S256x1024_1536_0, run_first.sl.dma6 c G⟩,
        ⟨Rect.unit ![1280, 0] S256x1024.size inb_S2048x1024_S256x1024_1280_0, run_first.sl.dma5 c G⟩,
        ⟨Rect.unit ![1024, 0] S256x1024.size inb_S2048x1024_S256x1024_1024_0, run_first.sl.dma4 c G⟩,
        ⟨Rect.unit ![768, 0] S256x1024.size inb_S2048x1024_S256x1024_768_0, run_first.sl.dma3 c G⟩,
        ⟨Rect.unit ![512, 0] S256x1024.size inb_S2048x1024_S256x1024_512_0, run_first.sl.dma2 c G⟩,
        ⟨Rect.unit ![256, 0] S256x1024.size inb_S2048x1024_S256x1024_256_0, run_first.sl.dma1 c G⟩,
        ⟨Rect.unit ![0, 0] S256x1024.size inb_S2048x1024_S256x1024_0_0, run_first.sl.dma0 c G⟩])
        = wkv (hbM.view.read (Elt F) G) := fun f =>
    loaded (T := 2048) (R := 256) (off := 128) rfl (by decide) (by decide) hbM G _ f _ rfl fun d hd => by interval_cases d <;> exact ⟨_, _, _, _, rfl⟩
  have h1 : ∀ h, View.readAt (Elt F) arg1.view (Rect.unit ![0, 0] S256x1024.size h).toLoadRect f1 = x := fun h => (View.readAt_full ..).trans hf1
  have h2 : ∀ h, View.readAt (Elt F) arg2.view (Rect.unit ![0, 0] S1x1024.size h).toLoadRect f2 = g := fun h => (View.readAt_full ..).trans hf2
  iapply Hk
  isplitl [H1 H2 H4 H5 HS]
  · isplitl [H1]; · iexists _; isplitr; swap; · iexact H1
                    ipureintro; exact hf1
    isplitl [H2]; · iexists _; isplitr; swap; · iexact H2
                    ipureintro; exact hf2
    isplitl [H4]
    · iexists _; isplitr; swap; · iexact H4
      ipureintro; rw [View.read_writes_full, h1, h2]
    isplitl [H5]
    · iexists _; isplitr; swap; · iexact H5
      ipureintro; rw [View.read_writes_full, h1, h2]
      exact congrArg (k0_pay2 x g) ((View.readAt_full ..).trans (hL _))
    iexists _; isplitr; swap; · rw [(Memref.isWhole_whole cc0_scratch0).set_eq_univ]; iexact HS
    ipureintro; exact hL fs
  isplitl [Hq Hh]
  · isplitl [Hq]; · iexact Hq
    iexact Hh
  iexists _; iexact HW

set_option maxHeartbeats 1000000 in
/-- The body at a later grid point: the weight is in the scratch buffer. -/
theorem run_later (hi : ¬first i) (w : Vec F S2048x1024 .bf16) (K : PUnit → sProp 𝕄) :
    iprop(Before c arg1 arg2 arg4 arg5 x g ∗ owns (c : Thread nD τ) scM fullShare w ∗ (After c arg1 arg2 arg4 arg5 x g w -∗ K ⟨⟩))
      ⊢ wp frame (wpE (defs₀ (F := F)) Variants.none c none) Set.univ
          (cc0_fwd_kv i arg1 harg1 arg2 harg2 hbM (Memref.isWhole_whole _) arg4 harg4 arg5 harg5 scM (Memref.isWhole_whole _) cc0_scratch1) K := by
  rw [cc0_fwd_kv_eq_skeleton]; unfold cc0_fwd_kv_skel
  unfold Before After owns
  iintro ⟨⟨⟨%f1, %hf1, H1⟩, ⟨%f2, %hf2, H2⟩, ⟨%d4, %f4, -, H4⟩, ⟨%d5, %f5, -, H5⟩⟩, ⟨%fs, %hfs, HS⟩, Hk⟩
  sl_exec (disch := first | sl_exact hi)
  sl_step
  have h1 : ∀ h, View.readAt (Elt F) arg1.view (Rect.unit ![0, 0] S256x1024.size h).toLoadRect f1 = x := fun h => (View.readAt_full ..).trans hf1
  have h2 : ∀ h, View.readAt (Elt F) arg2.view (Rect.unit ![0, 0] S1x1024.size h).toLoadRect f2 = g := fun h => (View.readAt_full ..).trans hf2
  have hs : ∀ h, View.readAt (Elt F) scM.view (Rect.unit ![0, 0] S2048x1024.size h).toLoadRect fs = w := fun h => (View.readAt_full ..).trans hfs
  iapply Hk
  isplitl [H1]; · iexists _; isplitr; swap; · iexact H1
                  ipureintro; exact hf1
  isplitl [H2]; · iexists _; isplitr; swap; · iexact H2
                  ipureintro; exact hf2
  isplitl [H4]
  · iexists _; isplitr; swap; · iexact H4
    ipureintro; rw [View.read_writes_full, h1, h2]
  isplitl [H5]
  · iexists _; isplitr; swap; · iexact H5
    ipureintro; rw [View.read_writes_full, h1, h2, hs]
  iexists _; isplitr; swap; · iexact HS
  ipureintro; exact hfs

end Body

variable (m : (ℓ : Loc nD τ sig) → Buf (Elt F) ℓ) (ρ : Dev nD → PrngReg)

/-- The body's test is true at the first grid point only. -/
theorem first_iff (t : Fin cfg0.N) : first (grid0.coords t) ↔ t.val = 0 :=
  (by decide +kernel : ∀ t : Fin grid0.N, first (grid0.coords t) ↔ t.val = 0) t

/-! ## Between grid points -/

/-- The weight as the region finds it in the gathered array. -/
def wAt (c : Dev nD) : Vec F S2048x1024 .bf16 := wkv (hbM.view.read (Elt F) (V m c main_v8))

/-- The body's semaphore, and the array its transfers read. -/
abbrev osem0 : Fin 1 → SemLoc sig := ![SemLoc.dma 7]
def H0 : Finset (Ref sig .tc) := {main_v8}

/-- What stays as it is: the generator's register, the semaphore at zero, and the gathered array. -/
abbrev Rest (c : Dev nD) : sProp 𝕄 := iprop((∃ r, prngReg c r) ∗ Source c (V m c main_v8))

/-- What the launch hands the region. -/
theorem Phi_launch (c : Dev nD) : (Pipeline.ΦD osem0 spec0 H0 (V m) c : sProp 𝕄) = iprop(Scratch c ∗ Rest m c) := by
  rw [Pipeline.ΦD_eq, scopedRest0_eq, Pipeline.ownSems0_eq_of_list c osem0 [0] (by decide) (by decide)]
  rw [BI.bigSep_eq_bigSepL_of_eq [main_v8] (by decide) (by decide)]; rfl

/-- Before the first grid point the scratch buffer holds anything, afterwards the weight. -/
def Phi (c : Dev nD) : ℕ → sProp 𝕄
  | 0 => Pipeline.ΦD osem0 spec0 H0 (V m) c
  | _ + 1 => iprop(owns (c : Thread nD τ) scM fullShare (wAt m c) ∗ Rest m c)

theorem Phi_pos (c : Dev nD) (n : ℕ) (h : n ≠ 0) : Phi m c n = iprop(owns (c : Thread nD τ) scM fullShare (wAt m c) ∗ Rest m c) := by
  cases n with | zero => exact absurd rfl h | succ n => rfl

/-- The launch's proof data: the inputs stay as fetched, the results' blocks are those of this block of rows. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (iblk m c 1 t)
    | ⟨3, _⟩ => k0_pay2 (iblk m c 0 t) (iblk m c 1 t) (wAt m c)
  Φ t := Phi m c t.val
  q _ := fullShare
  owed _ := 0

theorem A_eq (c : Dev nD) (w : Fin cfg0.W) : (dats m 0 c).A w = V m c (Pipeline.arrRef spec0 w) := by dsimp only [dats]

/-- The block an input window brings at a grid point is a block of the array the region found. -/
theorem fetched_eq (c : Dev nD) (w : Fin cfg0.W) (t : Fin cfg0.N) : (dats m 0 c).blockOf w t = iblk m c w t := by
  unfold Dat.blockOf iblk; rw [A_eq]; try rfl

theorem before0 (c : Dev nD) (t : Fin cfg0.N) (d) : (dats m 0 c).before 0 t d = iblk m c 0 t :=
  ((dats m 0 c).before_in_eq_fetched 0 rfl (fun _ => rfl) (fun _ _ _ => rfl)
    (fun t => by rw [fetched_eq]; dsimp only [dats]) t d).trans (by unfold Dat.fetched; rw [fetched_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [fetched_eq]; dsimp only [dats]) t d).trans (by unfold Dat.fetched; rw [fetched_eq]; try rfl)

/-! ## The body at a grid point -/

/-- The staging block of a window at a grid point. -/
abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d))
    ∗ (∃ d, owns (c : Thread nD τ) (ms2 t) fullShare ((dats m 0 c).before 2 t d)) ∗ (∃ d, owns (c : Thread nD τ) (ms3 t) fullShare ((dats m 0 c).before 3 t d)))

def blocksAfter (c : Dev nD) (t : Fin cfg0.N) : sProp 𝕄 :=
  iprop(owns (c : Thread nD τ) (ms0 t) fullShare ((dats m 0 c).after 0 t) ∗ owns (c : Thread nD τ) (ms1 t) fullShare ((dats m 0 c).after 1 t)
    ∗ owns (c : Thread nD τ) (ms2 t) fullShare ((dats m 0 c).after 2 t) ∗ owns (c : Thread nD τ) (ms3 t) fullShare ((dats m 0 c).after 3 t))

def bodyPost (c : Dev nD) (t : Fin cfg0.N) : sProp 𝕄 :=
  iprop((dats m 0 c).Φ t.succ ∗ (dats m 0 c).owesAt () t.succ ∗ blocksAfter m c t)

/-- What the body's run leaves is what the proof data say. -/
theorem results (c : Dev nD) (t : Fin cfg0.N) :
    iprop(After c (ms0 t) (ms1 t) (ms2 t) (ms3 t) (iblk m c 0 t) (iblk m c 1 t) (wAt m c) ∗ Rest m c ∗ (dats m 0 c).owesAt () t.succ)
      ⊢ (bodyPost m c t : sProp 𝕄) := by
  unfold bodyPost blocksAfter
  rw [show (dats m 0 c).Φ t.succ = iprop(owns (c : Thread nD τ) scM fullShare (wAt m c) ∗ Rest m c) from rfl]
  iintro ⟨⟨H0, H1, H2, H3, HS⟩, HR, HW⟩
  isplitl [HS HR]
  · isplitl [HS]; · iexact HS
    iexact HR
  isplitl [HW]; · iexact HW
  dsimp only [dats]
  isplitl [H0]; · iexact H0
  isplitl [H1]; · iexact H1
  isplitl [H2]; · iexact H2
  iexact H3

set_option maxHeartbeats 1600000 in
/-- The body at any grid point: the first point loads the weight, the later one finds it. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0, before1]
  rw [show (dats m 0 c).Φ t.castSucc = Phi m c t.val from rfl]
  by_cases hz : t.val = 0
  · rw [hz, show Phi m c 0 = _ from Phi_launch m c]
    unfold Dat.owesAt Pipeline.owesWithin
    rw [show (dats m 0 c).owed t.castSucc = 0 from rfl]
    iintro ⟨⟨HS, Hg, Hh⟩, ⟨%W, -, HW⟩, ⟨%d0, H0⟩, ⟨%d1, H1⟩, ⟨%d2, H2⟩, ⟨%d3, H3⟩⟩
    iapply (run_first c (grid0.coords t) (ms0 t) _ (ms1 t) _ (ms2 t) _ (ms3 t) _ (iblk m c 0 t) (iblk m c 1 t) ((first_iff t).mpr hz) (V m c main_v8) W _)
    isplitl [H0 H1 H2 H3]
    · isplitl [H0]; · iexact H0
      isplitl [H1]; · iexact H1
      isplitl [H2]; · iexists _; iexact H2
      iexists _; iexact H3
    isplitl [HS]; · iexact HS
    isplitl [Hh]; · iexact Hh
    isplitl [HW]; · iexact HW
    iintro ⟨HA, Hh, ⟨%W', HW⟩⟩
    iapply (results m c t)
    isplitl [HA]; · iexact HA
    isplitl [Hg Hh]
    · isplitl [Hg]; · iexact Hg
      iexact Hh
    unfold Dat.owesAt Pipeline.owesWithin
    iexists W'; isplitr; · ipureintro; exact fun _ _ => Or.inl trivial
    iexact HW
  · rw [Phi_pos m c _ hz]
    iintro ⟨⟨HS, HR⟩, HW, ⟨%d0, H0⟩, ⟨%d1, H1⟩, ⟨%d2, H2⟩, ⟨%d3, H3⟩⟩
    iapply (run_later c (grid0.coords t) (ms0 t) _ (ms1 t) _ (ms2 t) _ (ms3 t) _ (iblk m c 0 t) (iblk m c 1 t) (fun h => hz ((first_iff t).mp h)) (wAt m c) _)
    isplitl [H0 H1 H2 H3]
    · isplitl [H0]; · iexact H0
      isplitl [H1]; · iexact H1
      isplitl [H2]; · iexists _; iexact H2
      iexists _; iexact H3
    isplitl [HS]; · iexact HS
    iintro HA
    iapply (results m c t)
    isplitl [HA]; · iexact HA
    isplitl [HR]; · iexact HR
    iexact HW

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

/-! ## The run and the frame -/

theorem hout (c : Dev nD) : (dats m 0 c).Φ (Fin.last cfg0.N) ⊢ Pipeline.ΦD osem0 spec0 H0 (V m) c := by
  rw [show (dats m 0 c).Φ (Fin.last cfg0.N) = Phi m c cfg0.N from rfl, Phi_pos m c cfg0.N (by rw [show cfg0.N = 2 from N_0]; decide), Phi_launch]
  unfold Scratch owns
  iintro ⟨⟨%f, -, HS⟩, HR⟩
  isplitl [HS]; · iexists f; rw [(Memref.isWhole_whole cc0_scratch0).set_eq_univ]; iexact HS
  iexact HR

set_option backward.isDefEq.respectTransparency.types false in
/-- Every run ends with each array of the launch at the contents the proof data give, every other buffer as the region
    found it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none (by decide) H0 (by decide) m ρ main
    (hbody := fun c => (body_obligation m c).loose) (hshare := fun c => (dats m 0 c).share_full fun _ => rfl)
    (howed := fun _ _ => rfl) (V := V m)
    (hmain := Pipeline.hmain_prefix cfgs 0 defs₀ Variants.none m main hostOps0 hostOps0_sub hostOps0_fresh main_chain)
    (hA := A_eq m) (hin := fun _ => .rfl) (hout := hout m)

/-- Argument `a` is as it was at the start. -/
abbrev Same (r : PUnit × MemSt nD τ sig (Elt F)) (c : Dev nD) (a : Ref sig .tc) : Prop :=
  r.2.mem ((c.tc : Thread nD τ).loc a) = m ((c.tc : Thread nD τ).loc a)

/-- The argument arrays are as they were at the start. -/
abbrev Kept (r : PUnit × MemSt nD τ sig (Elt F)) (c : Dev nD) : Prop :=
  Same m r c main_arg0 ∧ Same m r c main_arg1 ∧ Same m r c main_arg2 ∧ Same m r c main_arg3 ∧ Same m r c main_arg4

theorem kept (r : PUnit × MemSt nD τ sig (Elt F)) (h : Pipeline.FramePost cfgs (dats m) 0 (V m) r) (c : Dev nD) : Kept m r c :=
  have rest (a : Ref sig .tc) (ha : a ∈ Pipeline.restRefs sig spec0) (hV : V m c a = m ((c.tc : Thread nD τ).loc a)) : Same m r c a :=
    ((h c).2 a ha).trans hV
  ⟨rest main_arg0 (Pipeline.mem_restRefs_of main_arg0 (by decide) (by decide)) (V_main_arg0 m c),
    ((h c).1 1).trans (((dats m 0 c).arrAt_in 1 rfl _).trans ((A_eq m c 1).trans (V_main_arg1 m c))),
    rest main_arg2 (Pipeline.mem_restRefs_of main_arg2 (by decide) (by decide)) (V_main_arg2 m c),
    rest main_arg3 (Pipeline.mem_restRefs_of main_arg3 (by decide) (by decide)) (V_main_arg3 m c),
    rest main_arg4 (Pipeline.mem_restRefs_of main_arg4 (by decide) (by decide)) (V_main_arg4 m c)⟩

/-- The frame: the arguments end as they began, every semaphore at zero. -/
theorem frame : θ_run defs (onTc (τ := τ) (main (F := F))) ⟨m, fun _ => 0, ρ⟩
    (fun r => (∀ c : Dev nD, Kept m r c) ∧ r.2.sem = fun _ => 0) :=
  (θ_run defs _ _).mono (fun r h => ⟨kept m r h.1, h.2⟩) (run_main m ρ)

end Cert.Kernel7Ideal.Mem
-- ==== Proof.MemValue.lean ====
/-
  The value of the call that normalises the memory and projects it to keys and values: both results are the reference's.
-/
module

public import proofs.«01_k».proof.Proof.MemFrame
public import proofs.«01_k».proof.Proof.LookRows
public import proofs.«01_k».proof.Proof.HostRead
public import proofs.«01_k».proof.Proof.Blocks
public import proofs.«01_k».proof.Proof.Gen.Reference7Ideal.Read
public import Idealize.ShloMosaic.Lib.Pipeline.Value
public import Idealize.ShloMosaic.Lib.Pointwise

@[expose] public section

set_option maxRecDepth 16384

noncomputable section

namespace Cert.Kernel7Ideal.Mem

open Cert.Kernel7Ideal Cert.Kernel7Ideal.Gen Cert.Gathered Cert.HostRead Cert.Blocks Cert.AttnRows Cert.HeadRows Cert.LookRows Cert.Reference7Ideal.Read
open Idealize.ShloMosaic Idealize.ShloMosaic.TcCoe Idealize.ShloMosaic.Tactic
open Idealize.SL.Sem
open Idealize.ShloMosaic.Pipeline (Dat Cfg Window)

/-! ## One block, and the reference, row by row -/

/-- A row of the block of normalised rows. -/
theorem pay1_row (x : Vec Ideal S256x1024 .f32) (g : Vec Ideal S1x1024 .f32) (r : Fin 256) :
    LookRows.row (k0_pay1 (F := Ideal) x g) r = normed (LookRows.row x r) (LookRows.row g 0) := funext fun k => by
  pointwise [LookRows.row, k0_pay1]; rfl

/-- An entry of the block of keys and values. -/
theorem pay2_apply (x : Vec Ideal S256x1024 .f32) (g : Vec Ideal S1x1024 .f32) (w : Vec Ideal S2048x1024 .bf16) (r : Fin 256) (y : Fin 2048) :
    k0_pay2 (F := Ideal) x g w (ix2 r y) = through (normed (LookRows.row x r) (LookRows.row g 0)) (fun k l => w (ix2 l k)) y := by
  rw [← pay1_row]; unfold through k0_pay2; generalize k0_pay1 (F := Ideal) x g = h; pointwise [LookRows.row]

section Reference

variable (x : Vec Ideal S2x256x1024 .f32) (g : Vec Ideal S1x1024 .f32) (w : Vec Ideal S1x1024x2048 .f32) (b : Fin 2) (r : Fin 256)

/-- The reference's normalised rows. -/
theorem v13_apply (k : Fin 1024) : val_main_v13 (F := Ideal) x g (ix3 b r k) = normed (row3 x b r) (LookRows.row g 0) k := by
  have e : val_main_v8 (F := Ideal) x (ix3 b r 0) = Cert.AttnRows.inv (row3 x b r) := by
    unfold Cert.AttnRows.inv row3 val_main_v8 val_main_v7 val_main_v5 val_main_v3 val_main_v2 val_main_v1
    pointwise [val_main_v6, val_main_v4, val_main_cst, val_main_cst_0, val_main_cst_1]
  have e' : val_main_v12 (F := Ideal) g (ix3 b r k) = g (ix2 0 k) := by
    rw [val_main_v12_apply, val_main_v11_apply, val_main_v0_apply]
    exact congrArg _ (funext fun a => Fin.ext (match a with
      | ⟨0, _⟩ => rfl
      | ⟨1, _⟩ => show k.val % 1024 = k.val by omega))
  rw [val_main_v13_apply, e', val_main_v10_apply, val_main_v9_apply, show idx_main_v9 (ix3 b r k) = ix3 b r 0 from eq_ix3 _, e]; rfl

/-- Its keys and values. -/
theorem v17_apply (y : Fin 2048) : val_main_v17 (F := Ideal) x g w (ix3 b r y) = through (normed (row3 x b r) (LookRows.row g 0)) (row3 w 0) y := by
  have e : LookRows.row (val_main_v16 (F := Ideal) w) = row3 w 0 := funext fun l => funext fun k => flatten_apply w _ 0 l k l (by simp)
  rw [← e]; unfold through; simp only [← v13_apply]; unfold val_main_v17
  generalize val_main_v13 (F := Ideal) x g = h; generalize val_main_v16 (F := Ideal) w = u; pointwise []

end Reference

/-! ## The arrays -/

variable (m : (ℓ : Loc nD τ sig) → Buf (Elt Ideal) ℓ) (c : Dev nD)

abbrev a0 : Vec Ideal S2x256x1024 .f32 := m ((c : Thread nD τ).loc main_arg0)
abbrev a1 : Vec Ideal S1x1024 .f32 := m ((c : Thread nD τ).loc main_arg1)
abbrev a3 : Vec Ideal S1x1024x2048 .f32 := m ((c : Thread nD τ).loc main_arg3)

/-- Which block each window has at a grid point: its own of the rows, and the one of the norm's weight. -/
theorem blocks : ∀ t : Fin cfg0.N, At (win0_0.index t) t.val ∧ At (win0_1.index t) 0 ∧ At (win0_2.index t) t.val ∧ At (win0_3.index t) t.val :=
  (by decide +kernel : ∀ t : Fin grid0.N, _)

/-- The grid point of a sequence, and the sequence of a row. -/
abbrev pt (b : Fin 2) : Fin cfg0.N := b.cast N_0.symm
abbrev seq {C : ℕ} (i : (⟨2, ![512, C]⟩ : Shape).Idx) : Fin 2 := ⟨(i (0 : Fin 2)).val / 256, by have : (i (0 : Fin 2)).val < 512 := (i (0 : Fin 2)).isLt; omega⟩

/-- Row `r` of a sequence's block is that row of the memory. -/
theorem row0 (b : Fin 2) (r : Fin 256) : LookRows.row (iblk m c 0 (pt b) : Vec Ideal S256x1024 .f32) r = row3 (a0 m c) b r := funext fun k => by
  have e : (V m c main_v9 : Vec Ideal S512x1024 .f32) = shapeCast S512x1024 (a0 m c) shapeCasts_S2x256x1024_S512x1024 := by
    show StableHlo.after hostOps0 (fun b => m (c, b)) main_v9 = _
    after_results <;> rfl
  exact (congrArg (V m c main_v9) (entry (blocks (pt b)).1 (R' := ⟨b.val * 256 + r.val, by omega⟩) rfl (K := k) rfl rfl rfl)).trans
    ((congrFun e _).trans (flatten_apply _ _ b r k _ rfl))

/-- The norm's weight. -/
theorem row1 (b : Fin 2) : LookRows.row (iblk m c 1 (pt b) : Vec Ideal S1x1024 .f32) 0 = LookRows.row (a1 m c) 0 := funext fun k =>
  (congrArg (V m c main_arg1) (same (blocks (pt b)).2.1 rfl rfl)).trans (congrFun (V_main_arg1 m c) _)

/-- The gathered array: the three weights under one another in each device's slice. -/
theorem V_v8 : (V m c main_v8 : Vec Ideal S8x512x1024 .bf16)
    = truncf (F := Ideal) (φ := .f32) .bf16 (concatenate S8x512x1024 1
        [⟨S8x128x1024, shapeCast S8x128x1024 (shapeCast S1024x1024 (m ((c : Thread nD τ).loc main_arg2) : Vec Ideal S1x1024x1024 .f32)
            shapeCasts_S1x1024x1024_S1024x1024) shapeCasts_S1024x1024_S8x128x1024⟩,
          ⟨S8x256x1024, shapeCast S8x256x1024 (transpose S2048x1024 [1, 0] (shapeCast S1024x2048
            (a3 m c) shapeCasts_S1x1024x2048_S1024x2048) transposes_S1024x2048_S2048x1024_1_0) shapeCasts_S2048x1024_S8x256x1024⟩,
          ⟨S8x128x1024, shapeCast S8x128x1024 (shapeCast S1024x1024 (m ((c : Thread nD τ).loc main_arg4) : Vec Ideal S1x1024x1024 .f32)
            shapeCasts_S1x1024x1024_S1024x1024) shapeCasts_S1024x1024_S8x128x1024⟩]
        concatenates_S8x128x1024_S8x256x1024_S8x128x1024_S8x512x1024_d1) bitsLt_bf16_f32 := by
  show StableHlo.after hostOps0 (fun b => m (c, b)) main_v8 = _
  after_results <;> rfl

/-- The weight the kernel loads is the keys' and values' weight, transposed. -/
theorem w_cols : (fun (k : Fin 1024) (l : Fin 2048) => wAt m c (ix2 l k)) = row3 (a3 m c) 0 := by
  have e : wAt m c = transpose S2048x1024 [1, 0] (shapeCast S1024x2048 (a3 m c) shapeCasts_S1x1024x2048_S1024x2048)
      transposes_S1024x2048_S2048x1024_1_0 := by
    show stack 2048 256 128 rfl (by decide) (V m c main_v8 : Vec Ideal S8x512x1024 .bf16) = _
    rw [V_v8]
    exact stack_packed (N := 512) _ _ [⟨S8x128x1024, _⟩, ⟨S8x256x1024, _⟩, ⟨S8x128x1024, _⟩] concatenates_S8x128x1024_S8x256x1024_S8x128x1024_S8x512x1024_d1 1 (Nat.lt_add_of_pos_right Nat.two_pos) _ shapeCasts_S2048x1024_S8x256x1024 rfl rfl
  rw [e]; exact funext fun k => funext fun l => transposed_apply _ _ _ k l

/-- The first result: the reference's normalised rows. -/
theorem result0 : (dats m 0 c).arrAt 2 cfg0.N = val_main_v15 (F := Ideal) (a0 m c) (a1 m c) := by
  refine (dats m 0 c).arrAt_eq_of_cover 2 _ (fun t _ => funext fun y => ?_) (fun i => ⟨pt (seq i), flush0_2 _, ?_⟩)
  · obtain ⟨b, rfl⟩ : ∃ b, t = pt b := ⟨t.cast N_0, rfl⟩
    obtain ⟨r, k, rfl⟩ : ∃ (r : Fin 256) (k : Fin 1024), y = ix2 r k := ⟨_, _, eq_ix2 y⟩
    show k0_pay1 (F := Ideal) (iblk m c 0 (pt b)) (iblk m c 1 (pt b)) (ix2 r k) = val_main_v15 (F := Ideal) (a0 m c) (a1 m c) (((cfg0.win 2).blk (pt b)).view.emb (ix2 r k))
    refine (congrFun (pay1_row _ _ r) k).trans ?_
    rw [row0, row1, ← v13_apply]
    refine Eq.symm ((congrArg (val_main_v14 (F := Ideal) (a0 m c) (a1 m c)) (entry (blocks (pt b)).2.2.1 (R' := ⟨b.val * 256 + r.val, by omega⟩) rfl (K := k) rfl rfl rfl)).trans ?_)
    exact flatten_apply _ _ b r k _ rfl
  · show i ∈ ((View.whole main_v10_0).slice (win0_2.rect (pt (seq i)))).set
    rw [View.set_slice_whole, Rect.mem_set_unit]
    exact inside (by decide) (blocks _).2.2.1 i rfl

/-- The second result: its keys and values. -/
theorem result1 : (dats m 0 c).arrAt 3 cfg0.N = val_main_v19 (F := Ideal) (a0 m c) (a1 m c) (a3 m c) := by
  refine (dats m 0 c).arrAt_eq_of_cover 3 _ (fun t _ => funext fun y => ?_) (fun i => ⟨pt (seq i), flush0_3 _, ?_⟩)
  · obtain ⟨b, rfl⟩ : ∃ b, t = pt b := ⟨t.cast N_0, rfl⟩
    obtain ⟨r, k, rfl⟩ : ∃ (r : Fin 256) (k : Fin 2048), y = ix2 r k := ⟨_, _, eq_ix2 y⟩
    show k0_pay2 (F := Ideal) (iblk m c 0 (pt b)) (iblk m c 1 (pt b)) (wAt m c) (ix2 r k) = val_main_v19 (F := Ideal) (a0 m c) (a1 m c) (a3 m c) (((cfg0.win 3).blk (pt b)).view.emb (ix2 r k))
    rw [pay2_apply, row0, row1, w_cols, ← v17_apply]
    refine Eq.symm ((congrArg (val_main_v18 (F := Ideal) (a0 m c) (a1 m c) (a3 m c)) (entry (blocks (pt b)).2.2.2 (R' := ⟨b.val * 256 + r.val, by omega⟩) rfl (K := k) rfl rfl rfl)).trans ?_)
    exact flatten_apply _ _ b r k _ rfl
  · show i ∈ ((View.whole main_v10_1).slice (win0_3.rect (pt (seq i)))).set
    rw [View.set_slice_whole, Rect.mem_set_unit]
    exact inside (by decide) (blocks _).2.2.2 i rfl

/-- The kernel's run: both results, the arguments untouched. -/
theorem run_value (ρ : Dev nD → PrngReg) : θ_run defs (onTc (τ := τ) (main (F := Ideal))) ⟨m, fun _ => 0, ρ⟩ (fun r => ∀ c : Dev nD,
    r.2.mem ((c : Thread nD τ).loc main_v10_0) = val_main_v15 (F := Ideal) (a0 m c) (a1 m c)
    ∧ r.2.mem ((c : Thread nD τ).loc main_v10_1) = val_main_v19 (F := Ideal) (a0 m c) (a1 m c) (a3 m c) ∧ Kept m r c) :=
  (θ_run _ _ _).mono (fun r h c => ⟨((h.1 c).1 2).trans (result0 m c), ((h.1 c).1 3).trans (result1 m c), kept m r h.1 c⟩) (run_main m ρ)

end Cert.Kernel7Ideal.Mem
-- ==== Proof.lean ====
/-
  The claims of the statement, put together from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.KvValue
public import proofs.«01_k».proof.Proof.AttnFrame
public import proofs.«01_k».proof.Proof.AttnValue
public import proofs.«01_k».proof.Proof.FfnFrame
public import proofs.«01_k».proof.Proof.FfnValue
public import proofs.«01_k».proof.Proof.HeadFrame
public import proofs.«01_k».proof.Proof.HeadValue
public import proofs.«01_k».proof.Proof.MixFrame
public import proofs.«01_k».proof.Proof.LookValue
public import proofs.«01_k».proof.Proof.MemValue
public import Idealize.ShloMosaic.Adequacy
public import Idealize.ShloMosaic.Init

@[expose] public section

noncomputable section

namespace Cert.Proof

open Idealize.ShloMosaic Idealize.SL.Sem Cert.Kernel

/-- The kernel's frame, for machine floats. -/
theorem frame_kernel : Cert.quiescent_Kernel := fun m ρ _ =>
  cast (by sl_kernel_rfl) (Cert.KernelIdeal.Kv.frame (F := Bits) m ρ)

/-- The kernel's frame, for extended reals. -/
theorem frame_kernelIdeal : Cert.quiescent_KernelIdeal := fun m ρ _ => Cert.KernelIdeal.Kv.frame (F := Ideal) m ρ

/-- The reference's frame; it uses no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Kernel and reference end with equal results. -/
theorem value_kernel : Cert.algebraic_KernelIdeal_ReferenceIdeal := fun m ρ m' ρ' _ h =>
  ⟨_, _, Cert.KernelIdeal.Kv.run_value m ρ, (θ_run _ _ _).mono (fun r hr c => by
    obtain ⟨h0, -, -, h3, -, h5⟩ := h c
    obtain ⟨r0, r1, rest⟩ := hr c
    refine ⟨r0.trans ?_, r1.trans ?_, rest⟩
    · rw [h5]; rfl
    · rw [h0, h3, h5]; rfl) (Cert.ReferenceIdeal.Value.run (F := Ideal) m' ρ')⟩

/-- The attention kernel's frame, for machine floats. -/
theorem frame_kernel2 : Cert.quiescent_Kernel2 := fun m ρ _ =>
  cast (by sl_kernel_rfl) (Cert.Kernel2Ideal.Attn.frame (F := Bits) m ρ)

/-- The attention kernel's frame, for extended reals. -/
theorem frame_kernel2Ideal : Cert.quiescent_Kernel2Ideal := fun m ρ _ => Cert.Kernel2Ideal.Attn.frame (F := Ideal) m ρ

/-- The attention reference's frame; it uses no semaphore. -/
theorem frame_reference2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- Kernel and reference of the attention's backward call end with equal results, at finite arguments. -/
theorem value_kernel2 : Cert.algebraic_Kernel2Ideal_Reference2Ideal_pre_finite2 := fun m ρ m' ρ' hm h =>
  ⟨_, _, _, _, _, Cert.Kernel2Ideal.Attn.run_value m hm ρ, (θ_run _ _ _).mono (fun r hr c => by
    obtain ⟨h0, h1, h2, h3, h4, h5, h6, h7⟩ := h c
    obtain ⟨r0, r1, r2, r3, r4, rest⟩ := hr c
    refine ⟨r0.trans ?_, r1.trans ?_, r2.trans ?_, r3.trans ?_, r4.trans ?_, rest⟩
    · unfold Cert.Reference2Ideal.Value.res_main_v127; rw [h0, h1, h2, h3, h4, h5, h6, h7]; rfl
    · unfold Cert.Reference2Ideal.Value.res_main_v128; rw [h0, h1, h2, h3, h4, h5, h6, h7]; rfl
    · unfold Cert.Reference2Ideal.Value.res_main_v130; rw [h0, h1, h2, h3, h4, h5, h6, h7]; rfl
    · unfold Cert.Reference2Ideal.Value.res_main_v131; rw [h0, h1, h2, h3, h4, h5, h6, h7]; rfl
    · unfold Cert.Reference2Ideal.Value.res_main_v125; rw [h0, h1, h2, h3, h4, h5, h6, h7]; rfl)
    (Cert.Reference2Ideal.Value.run (F := Ideal) m' ρ')⟩

/-- The feed-forward kernel's frame, for machine floats. -/
theorem frame_kernel3 : Cert.quiescent_Kernel3 := fun m ρ _ =>
  cast (by sl_kernel_rfl) (Cert.Kernel3Ideal.Ffn.frame (F := Bits) m ρ)

/-- The feed-forward kernel's frame, for extended reals. -/
theorem frame_kernel3Ideal : Cert.quiescent_Kernel3Ideal := fun m ρ _ => Cert.Kernel3Ideal.Ffn.frame (F := Ideal) m ρ

/-- The feed-forward reference's frame; it uses no semaphore. -/
theorem frame_reference3 : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

/-- A function of seven arguments at equal arguments. -/
theorem seven {A0 A1 A2 A3 A4 A5 A6 B : Type} (f : A0 → A1 → A2 → A3 → A4 → A5 → A6 → B) {x0 y0 : A0} {x1 y1 : A1} {x2 y2 : A2} {x3 y3 : A3}
    {x4 y4 : A4} {x5 y5 : A5} {x6 y6 : A6} (h0 : x0 = y0) (h1 : x1 = y1) (h2 : x2 = y2) (h3 : x3 = y3) (h4 : x4 = y4) (h5 : x5 = y5) (h6 : x6 = y6) :
    f x0 x1 x2 x3 x4 x5 x6 = f y0 y1 y2 y3 y4 y5 y6 := by
  rw [h0, h1, h2, h3, h4, h5, h6]

/-- Kernel and reference of the feed-forward block's backward call end with equal results, at finite arguments. -/
theorem value_kernel3 : Cert.algebraic_Kernel3Ideal_Reference3Ideal_pre_finite3 := fun m ρ m' ρ' hm h =>
  ⟨_, _, _, _, _, _, Cert.Kernel3Ideal.Ffn.run_value m hm ρ, (θ_run _ _ _).mono (fun r hr c => by
    obtain ⟨h0, h1, h2, h3, h4, h5, h6⟩ := h c
    obtain ⟨r0, r1, r2, r3, r4, r5, rest⟩ := hr c
    refine ⟨r0.trans ?_, r1.trans ?_, r2.trans ?_, r3.trans ?_, r4.trans ?_, r5.trans ?_, rest⟩
    · exact (Cert.Reference3Ideal.Read.val_main_v105_eq _).trans (seven Cert.Reference3Ideal.Read.val_main_v105 h0 h1 h2 h3 h4 h5 h6)
    · exact (Cert.Reference3Ideal.Read.val_main_v106_eq _).trans (seven Cert.Reference3Ideal.Read.val_main_v106 h0 h1 h2 h3 h4 h5 h6)
    · exact (Cert.Reference3Ideal.Read.val_main_v108_eq _).trans (seven Cert.Reference3Ideal.Read.val_main_v108 h0 h1 h2 h3 h4 h5 h6)
    · exact (Cert.Reference3Ideal.Read.val_main_v81_eq _).trans (seven Cert.Reference3Ideal.Read.val_main_v81 h0 h1 h2 h3 h4 h5 h6)
    · exact (Cert.Reference3Ideal.Read.val_main_v109_eq _).trans (seven Cert.Reference3Ideal.Read.val_main_v109 h0 h1 h2 h3 h4 h5 h6)
    · exact (Cert.Reference3Ideal.Read.val_main_v103_eq _).trans (seven Cert.Reference3Ideal.Read.val_main_v103 h0 h1 h2 h3 h4 h5 h6))
    (Cert.Reference3Ideal.Value.run (F := Ideal) m' ρ')⟩

/-- The gated convolution block's forward kernel's frame, for machine numbers: the same run, read at another carrier. -/
theorem frame_kernel4 : Cert.quiescent_Kernel4 := fun m ρ _ =>
  cast (by sl_kernel_rfl) (Cert.Kernel4Ideal.Head.frame (F := Bits) m ρ)

/-- That kernel's frame, for extended reals. -/
theorem frame_kernel4Ideal : Cert.quiescent_Kernel4Ideal := fun m ρ _ => Cert.Kernel4Ideal.Head.frame (F := Ideal) m ρ

/-- Its reference's frame; it uses no semaphore. -/
theorem frame_reference4 : Cert.quiescent_Reference4Ideal := fun m ρ _ =>
  (θ_run Cert.Reference4Ideal.defs _ _).mono (fun r h => ⟨fun c => (h c).2.2.2.2.2.2.2.2, sem_eq_zero_of_no_sems (by decide) r.2⟩)
    (Cert.Reference4Ideal.Value.run (F := Ideal) m ρ)

/-- A function of eight arguments at equal arguments. -/
theorem eight {A0 A1 A2 A3 A4 A5 A6 A7 B : Type} (f : A0 → A1 → A2 → A3 → A4 → A5 → A6 → A7 → B) {x0 y0 : A0} {x1 y1 : A1} {x2 y2 : A2} {x3 y3 : A3}
    {x4 y4 : A4} {x5 y5 : A5} {x6 y6 : A6} {x7 y7 : A7} (h0 : x0 = y0) (h1 : x1 = y1) (h2 : x2 = y2) (h3 : x3 = y3) (h4 : x4 = y4) (h5 : x5 = y5) (h6 : x6 = y6)
    (h7 : x7 = y7) : f x0 x1 x2 x3 x4 x5 x6 x7 = f y0 y1 y2 y3 y4 y5 y6 y7 :=
  (congrFun (seven f h0 h1 h2 h3 h4 h5 h6) x7).trans (congrArg _ h7)

/-- Kernel and reference of the gated convolution block's forward call, with the loss and its derivatives at the last norm, end with equal results at
finite arguments. -/
theorem value_kernel4 : Cert.algebraic_Kernel4Ideal_Reference4Ideal_pre_finite4 := fun m ρ m' ρ' hm h =>
  ⟨_, _, _, _, _, _, _, _, Cert.Kernel4Ideal.Head.run_value m hm ρ, (θ_run _ _ _).mono (fun r hr c => by
    obtain ⟨h0, h1, h2, h3, h4, h5, h6, h7⟩ := h c
    obtain ⟨r0, r1, r2, r3, r4, r5, r6, r7, rest⟩ := hr c
    refine ⟨r0.trans ?_, r1.trans ?_, r2.trans ?_, r3.trans ?_, r4.trans ?_, r5.trans ?_, r6.trans ?_, r7.trans ?_, rest⟩
    · exact (Cert.Reference4Ideal.Read.val_main_v96_eq _).trans (eight (fun x0 x1 x2 _ _ _ _ _ => Cert.Reference4Ideal.Read.val_main_v96 x0 x1 x2) h0 h1 h2 h3 h4 h5 h6 h7)
    · exact (Cert.Reference4Ideal.Read.val_main_v98_eq _).trans (eight (fun x0 x1 x2 x3 x4 _ _ _ => Cert.Reference4Ideal.Read.val_main_v98 x0 x1 x2 x3 x4) h0 h1 h2 h3 h4 h5 h6 h7)
    · exact (Cert.Reference4Ideal.Read.val_main_v100_eq _).trans (eight (fun x0 x1 x2 x3 x4 _ _ _ => Cert.Reference4Ideal.Read.val_main_v100 x0 x1 x2 x3 x4) h0 h1 h2 h3 h4 h5 h6 h7)
    · exact (Cert.Reference4Ideal.Read.val_main_v102_eq _).trans (eight (fun x0 x1 _ _ _ _ _ _ => Cert.Reference4Ideal.Read.val_main_v102 x0 x1) h0 h1 h2 h3 h4 h5 h6 h7)
    · exact (Cert.Reference4Ideal.Read.val_main_v94_eq _).trans (eight Cert.Reference4Ideal.Read.val_main_v94 h0 h1 h2 h3 h4 h5 h6 h7)
    · exact (Cert.Reference4Ideal.Read.val_main_v103_eq _).trans (eight Cert.Reference4Ideal.Read.val_main_v103 h0 h1 h2 h3 h4 h5 h6 h7)
    · exact (Cert.Reference4Ideal.Read.val_main_v104_eq _).trans (eight Cert.Reference4Ideal.Read.val_main_v104 h0 h1 h2 h3 h4 h5 h6 h7)
    · exact (Cert.Reference4Ideal.Read.val_main_v105_eq _).trans (eight Cert.Reference4Ideal.Read.val_main_v105 h0 h1 h2 h3 h4 h5 h6 h7))
    (Cert.Reference4Ideal.Value.run (F := Ideal) m' ρ')⟩

/-- The sequence mixer's backward kernel's frame, for machine numbers: the same run, read at another carrier. -/
theorem frame_kernel5 : Cert.quiescent_Kernel5 := fun m ρ _ =>
  cast (by sl_kernel_rfl) (Cert.Kernel5Ideal.Mix.frame (F := Bits) m ρ)

/-- That kernel's frame, for extended reals. -/
theorem frame_kernel5Ideal : Cert.quiescent_Kernel5Ideal := fun m ρ _ => Cert.Kernel5Ideal.Mix.frame (F := Ideal) m ρ

/-- The frame of the attention's forward kernel, for machine numbers: the same run, read at another carrier. -/
theorem frame_kernel6 : Cert.quiescent_Kernel6 := fun m ρ _ =>
  cast (by sl_kernel_rfl) (Cert.Kernel6Ideal.Look.frame (F := Bits) m ρ)

/-- That kernel's frame, for extended reals. -/
theorem frame_kernel6Ideal : Cert.quiescent_Kernel6Ideal := fun m ρ _ => Cert.Kernel6Ideal.Look.frame (F := Ideal) m ρ

/-- Its reference's frame; it uses no semaphore. -/
theorem frame_reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- Kernel and reference of the attention's forward call end with equal results, whatever the arguments. -/
theorem value_kernel6 : Cert.algebraic_Kernel6Ideal_Reference6Ideal := fun m ρ m' ρ' _ h =>
  ⟨_, _, _, _, Cert.Kernel6Ideal.Look.run_value m ρ, (θ_run _ _ _).mono (fun r hr c => by
    obtain ⟨h0, h1, h2, h3, h4, h5, h6⟩ := h c
    obtain ⟨r0, r1, r2, r3, rest⟩ := hr c
    refine ⟨r0.trans ?_, r1.trans ?_, r2.trans ?_, r3.trans ?_, rest⟩
    · exact (Cert.Reference6Ideal.Read.val_main_v57_eq _ _).trans (seven Cert.Reference6Ideal.Read.val_main_v57 h0 h1 h2 h3 h4 h5 h6)
    · exact (Cert.Reference6Ideal.Read.val_main_v59_eq _ _).trans (seven (fun x0 _ x2 _ _ _ _ => Cert.Reference6Ideal.Read.val_main_v59 x0 x2) h0 h1 h2 h3 h4 h5 h6)
    · exact (Cert.Reference6Ideal.Read.val_main_v63_eq _ _ _).trans (seven (fun x0 _ x2 _ x4 _ _ => Cert.Reference6Ideal.Read.val_main_v63 x0 x2 x4) h0 h1 h2 h3 h4 h5 h6)
    · exact (Cert.Reference6Ideal.Read.val_main_v65_eq _ _).trans (seven (fun x0 x1 x2 x3 x4 x5 _ => Cert.Reference6Ideal.Read.val_main_v65 x0 x1 x2 x3 x4 x5) h0 h1 h2 h3 h4 h5 h6))
    (Cert.Reference6Ideal.Value.run (F := Ideal) m' ρ')⟩

/-- The frame of the kernel that normalises the memory and projects it, for floats. -/
theorem frame_kernel7 : Cert.quiescent_Kernel7 := fun m ρ _ =>
  cast (by sl_kernel_rfl) (Cert.Kernel7Ideal.Mem.frame (F := Bits) m ρ)

/-- That kernel's frame, for extended reals. -/
theorem frame_kernel7Ideal : Cert.quiescent_Kernel7Ideal := fun m ρ _ => Cert.Kernel7Ideal.Mem.frame (F := Ideal) m ρ

/-- Its reference's frame; it uses no semaphore. -/
theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- Kernel and reference of the memory's normalisation and projection end with equal results, whatever the arguments. -/
theorem value_kernel7 : Cert.algebraic_Kernel7Ideal_Reference7Ideal := fun m ρ m' ρ' _ h =>
  ⟨_, _, Cert.Kernel7Ideal.Mem.run_value m ρ, (θ_run _ _ _).mono (fun r hr c => by
    obtain ⟨h0, h1, -, h3, -⟩ := h c
    obtain ⟨r0, r1, rest⟩ := hr c
    refine ⟨r0.trans ?_, r1.trans ?_, rest⟩
    · exact (Cert.Reference7Ideal.Read.val_main_v15_eq _ _).trans (congrArg₂ Cert.Reference7Ideal.Read.val_main_v15 h0 h1)
    · exact (Cert.Reference7Ideal.Read.val_main_v19_eq _ _ _).trans
        (congr (congrArg₂ Cert.Reference7Ideal.Read.val_main_v19 h0 h1) h3))
    (Cert.Reference7Ideal.Value.run (F := Ideal) m' ρ')⟩

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite2.Gen.facts, Cert.Pre_finite3.Gen.facts, Cert.Pre_finite4.Gen.facts,
  frame_kernel, frame_kernelIdeal, frame_reference, frame_kernel2, frame_kernel2Ideal, fun m ρ _ => frame_kernel2Ideal m ρ trivial,
  frame_reference2, fun m ρ _ => frame_reference2 m ρ trivial, frame_kernel3, frame_kernel3Ideal, fun m ρ _ => frame_kernel3Ideal m ρ trivial,
  frame_reference3, fun m ρ _ => frame_reference3 m ρ trivial, frame_kernel4, frame_kernel4Ideal, fun m ρ _ => frame_kernel4Ideal m ρ trivial,
  frame_reference4, fun m ρ _ => frame_reference4 m ρ trivial, frame_kernel5, frame_kernel5Ideal, frame_kernel6, frame_kernel6Ideal, frame_reference6,
  frame_kernel7, frame_kernel7Ideal, frame_reference7,
  trivial, value_kernel, trivial, value_kernel2, trivial, value_kernel3, trivial, value_kernel4, trivial, trivial, value_kernel6, trivial, value_kernel7⟩

end Cert.Proof

end
